-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_mla [hPre_finite_mla : Cert.Pre_finite_mla.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_mla.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_mla [hPre_finite_mla : Cert.Pre_finite_mla.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_mla.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_diff [hPre_finite_diff : Cert.Pre_finite_diff.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_diff.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_diff [hPre_finite_diff : Cert.Pre_finite_diff.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_diff.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_diff [hPre_finite_diff : Cert.Pre_finite_diff.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_diff.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_diff [hPre_finite_diff : Cert.Pre_finite_diff.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_diff.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Kernel10Ideal_pre_finite_mla [hKernel10Ideal : Cert.Kernel10Ideal.Facts] [hPre_finite_mla : Cert.Pre_finite_mla.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_mla m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_finite_mla [hReference10Ideal : Cert.Reference10Ideal.Facts] [hPre_finite_mla : Cert.Pre_finite_mla.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_mla m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_finite_diff [hKernel11Ideal : Cert.Kernel11Ideal.Facts] [hPre_finite_diff : Cert.Pre_finite_diff.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_diff m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_finite_diff [hReference11Ideal : Cert.Reference11Ideal.Facts] [hPre_finite_diff : Cert.Pre_finite_diff.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_diff m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Kernel13Ideal_pre_finite_diff [hKernel13Ideal : Cert.Kernel13Ideal.Facts] [hPre_finite_diff : Cert.Pre_finite_diff.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_diff m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Reference13Ideal_pre_finite_diff [hReference13Ideal : Cert.Reference13Ideal.Facts] [hPre_finite_diff : Cert.Pre_finite_diff.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_diff m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal_pre_finite_mla [hKernel10Ideal : Cert.Kernel10Ideal.Facts] [hReference10Ideal : Cert.Reference10Ideal.Facts] [hPre_finite_mla : Cert.Pre_finite_mla.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_mla m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v25) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal_pre_finite_diff [hKernel11Ideal : Cert.Kernel11Ideal.Facts] [hReference11Ideal : Cert.Reference11Ideal.Facts] [hPre_finite_diff : Cert.Pre_finite_diff.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_diff m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v74) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v30) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal_pre_finite_diff [hKernel13Ideal : Cert.Kernel13Ideal.Facts] [hReference13Ideal : Cert.Reference13Ideal.Facts] [hPre_finite_diff : Cert.Pre_finite_diff.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_diff m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v74) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v11) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v11) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v34) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v15) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v9) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite_mla : Cert.Pre_finite_mla.Facts) (hPre_finite_diff : Cert.Pre_finite_diff.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_mla (hKernel10Ideal := hKernel10Ideal) (hPre_finite_mla := hPre_finite_mla)
    ∧ quiescent_Reference10Ideal (hReference10Ideal := hReference10Ideal)
    ∧ quiescent_Reference10Ideal_pre_finite_mla (hReference10Ideal := hReference10Ideal) (hPre_finite_mla := hPre_finite_mla)
    ∧ quiescent_Kernel11 (hKernel11 := hKernel11)
    ∧ quiescent_Kernel11Ideal (hKernel11Ideal := hKernel11Ideal)
    ∧ quiescent_Kernel11Ideal_pre_finite_diff (hKernel11Ideal := hKernel11Ideal) (hPre_finite_diff := hPre_finite_diff)
    ∧ quiescent_Reference11Ideal (hReference11Ideal := hReference11Ideal)
    ∧ quiescent_Reference11Ideal_pre_finite_diff (hReference11Ideal := hReference11Ideal) (hPre_finite_diff := hPre_finite_diff)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite_diff (hKernel13Ideal := hKernel13Ideal) (hPre_finite_diff := hPre_finite_diff)
    ∧ quiescent_Reference13Ideal (hReference13Ideal := hReference13Ideal)
    ∧ quiescent_Reference13Ideal_pre_finite_diff (hReference13Ideal := hReference13Ideal) (hPre_finite_diff := hPre_finite_diff)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_mla (hKernel10Ideal := hKernel10Ideal) (hReference10Ideal := hReference10Ideal) (hPre_finite_mla := hPre_finite_mla)
    ∧ preserves_Kernel11_Kernel11Ideal
    ∧ algebraic_Kernel11Ideal_Reference11Ideal_pre_finite_diff (hKernel11Ideal := hKernel11Ideal) (hReference11Ideal := hReference11Ideal) (hPre_finite_diff := hPre_finite_diff)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite_diff (hKernel13Ideal := hKernel13Ideal) (hReference13Ideal := hReference13Ideal) (hPre_finite_diff := hPre_finite_diff)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite_diff.lean ====
abbrev S8192x4352 : Shape := ⟨2, ![8192, 4352]⟩
abbrev S8192x2048 : Shape := ⟨2, ![8192, 2048]⟩
abbrev S4x64 : Shape := ⟨2, ![4, 64]⟩
abbrev S128 : Shape := ⟨1, ![128]⟩
abbrev S_ : Shape := ⟨0, ![]⟩
abbrev S8192x1024 : Shape := ⟨2, ![8192, 1024]⟩

class Facts : Prop where
  slices_S8192x4352_S8192x2048_0_1024 : S8192x4352.Slices ![0, 1024] S8192x2048
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  slices_S8192x2048_S8192x1024_0_512 : S8192x2048.Slices ![0, 512] S8192x1024
  bcast_S_S8192x1024 : S_.BroadcastsInDim S8192x1024 (![] : Fin 0 → Fin S8192x1024.rank)
  reducesTo_S8192x1024_S_d0_1 : S8192x1024.ReducesTo [0, 1] S_
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S8192x4352 .bf16) (main_arg1 : FVec F S8192x2048 .bf16) (main_arg2 : FVec F S4x64 .f32) (main_arg3 : FVec F S128 .f32) : IVec S_ 1 :=
  let main_v0 : FVec F S8192x2048 .bf16 := (extractStridedSlice S8192x2048 ![0, 1024] · slices_S8192x4352_S8192x2048_0_1024) main_arg0
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_c : IVec S_ 1 := constantI S_ 1 1#1
  let main_v5 : IVec S_ 1 := (fun x v => Host.reduce IntOp.andi x v reducesTo_S8192x2048_S_d0_1 h_S_) main_v4 main_c
  let main_v6 : FVec F S8192x1024 .bf16 := (extractStridedSlice S8192x1024 ![0, 512] · slices_S8192x2048_S8192x1024_0_512) main_arg1
  let main_v7 : FVec F S8192x1024 .f32 := (extf .f32 · bitsLt_bf16_f32) main_v6
  let main_v8 : FVec F S8192x1024 .f32 := Host.absf main_v7
  let main_cst_0 : FVec F S_ .f32 := constant S_ .f32 0x7F800000#32
  let main_v9 : FVec F S8192x1024 .f32 := broadcastInDim S8192x1024 ![] bcast_S_S8192x1024 main_cst_0
  let main_v10 : IVec S8192x1024 1 := cmpf .olt main_v8 main_v9
  let main_c_1 : IVec S_ 1 := constantI S_ 1 1#1
  let main_v11 : IVec S_ 1 := (fun x v => Host.reduce IntOp.andi x v reducesTo_S8192x1024_S_d0_1 h_S_) main_v10 main_c_1
  let main_v12 : IVec S_ 1 := andi main_v5 main_v11
  let main_v13 : FVec F S4x64 .f32 := Host.absf main_arg2
  let main_cst_2 : FVec F S_ .f32 := constant S_ .f32 0x7F800000#32
  let main_v14 : FVec F S4x64 .f32 := broadcastInDim S4x64 ![] bcast_S_S4x64 main_cst_2
  let main_v15 : IVec S4x64 1 := cmpf .olt main_v13 main_v14
  let main_c_3 : IVec S_ 1 := constantI S_ 1 1#1
  let main_v16 : IVec S_ 1 := (fun x v => Host.reduce IntOp.andi x v reducesTo_S4x64_S_d0_1 h_S_) main_v15 main_c_3
  let main_v17 : IVec S_ 1 := andi main_v12 main_v16
  main_v17
-- ==== Pre_finite_mla.lean ====
abbrev S8192x2048 : Shape := ⟨2, ![8192, 2048]⟩
abbrev S8192x1024 : Shape := ⟨2, ![8192, 1024]⟩
abbrev S8192x128 : Shape := ⟨2, ![8192, 128]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8192x128 : S_.BroadcastsInDim S8192x128 (![] : Fin 0 → Fin S8192x128.rank)
  reducesTo_S8192x128_S_d0_1 : S8192x128.ReducesTo [0, 1] S_

variable [Facts]

def fn {F : FTy → Type} [FloatOps F] (main_arg0 : FVec F S8192x2048 .bf16) (main_arg1 : FVec F S8192x1024 .bf16) (main_arg2 : FVec F S8192x128 .bf16) (main_arg3 : FVec F S8192x1024 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x1024 .f32 := (extf .f32 · bitsLt_bf16_f32) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v4 main_v9
  let main_v11 : FVec F S8192x128 .f32 := (extf .f32 · bitsLt_bf16_f32) main_arg2
  let main_v12 : FVec F S8192x128 .f32 := Host.absf main_v11
  let main_cst_2 : FVec F S_ .f32 := constant S_ .f32 0x7F800000#32
  let main_v13 : FVec F S8192x128 .f32 := broadcastInDim S8192x128 ![] bcast_S_S8192x128 main_cst_2
  let main_v14 : IVec S8192x128 1 := cmpf .olt main_v12 main_v13
  let main_c_3 : IVec S_ 1 := constantI S_ 1 1#1
  let main_v15 : IVec S_ 1 := (fun x v => Host.reduce IntOp.andi x v reducesTo_S8192x128_S_d0_1 h_S_) main_v14 main_c_3
  let main_v16 : IVec S_ 1 := andi main_v10 main_v15
  main_v16
-- ==== Kernel.lean ====
abbrev S8192x4096 : Shape := ⟨2, ![8192, 4096]⟩
abbrev S2x4096x26688 : Shape := ⟨3, ![2, 4096, 26688]⟩
abbrev S32 : Shape := ⟨1, ![32]⟩
abbrev S2x26688x4096 : Shape := ⟨3, ![2, 26688, 4096]⟩
abbrev S8192x16384 : Shape := ⟨2, ![8192, 16384]⟩
abbrev S1024x4096 : Shape := ⟨2, ![1024, 4096]⟩
abbrev S1x512x4096 : Shape := ⟨3, ![1, 512, 4096]⟩
abbrev S1 : Shape := ⟨1, ![1]⟩
abbrev S1024x512 : Shape := ⟨2, ![1024, 512]⟩
abbrev S512x4096 : Shape := ⟨2, ![512, 4096]⟩

abbrev nBuf : Space → Nat
  | .hbm => 4
  | .vmem => 7
  | .smem => 1
  | _ => 0

abbrev bufTy : (tb : Table) → Fin (tcTables nBuf tb) → BufTy
  | .hbm, ⟨0, _⟩ => ⟨S8192x4096, .bf16⟩
  | .hbm, ⟨1, _⟩ => ⟨S2x4096x26688, .f32⟩
  | .hbm, ⟨2, _⟩ => ⟨S2x26688x4096, .f32⟩
  | .hbm, ⟨3, _⟩ => ⟨S8192x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | .local _ .smem, ⟨0, _⟩ => ⟨S32, .i32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  v1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8192x4096 : Shape := ⟨2, ![8192, 4096]⟩
abbrev S2x4096x26688 : Shape := ⟨3, ![2, 4096, 26688]⟩
abbrev S1x4096x26688 : Shape := ⟨3, ![1, 4096, 26688]⟩
abbrev S4096x26688 : Shape := ⟨2, ![4096, 26688]⟩
abbrev S8192x26688 : Shape := ⟨2, ![8192, 26688]⟩
abbrev S8192x16384 : Shape := ⟨2, ![8192, 16384]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x26688, .f32⟩
  | .hbm, ⟨2, _⟩ => ⟨S8192x4096, .f32⟩
  | .hbm, ⟨3, _⟩ => ⟨S1x4096x26688, .f32⟩
  | .hbm, ⟨4, _⟩ => ⟨S4096x26688, .f32⟩
  | .hbm, ⟨5, _⟩ => ⟨S8192x26688, .f32⟩
  | .hbm, ⟨6, _⟩ => ⟨S8192x16384, .f32⟩
  | .hbm, ⟨7, _⟩ => ⟨S8192x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel2.lean ====
abbrev S8192x4096 : Shape := ⟨2, ![8192, 4096]⟩
abbrev S2x4096x26688 : Shape := ⟨3, ![2, 4096, 26688]⟩
abbrev S8 : Shape := ⟨1, ![8]⟩
abbrev S2x26688x4096 : Shape := ⟨3, ![2, 26688, 4096]⟩
abbrev S1024x4096 : Shape := ⟨2, ![1024, 4096]⟩
abbrev S1x512x4096 : Shape := ⟨3, ![1, 512, 4096]⟩
abbrev S1 : Shape := ⟨1, ![1]⟩
abbrev S1024x512 : Shape := ⟨2, ![1024, 512]⟩
abbrev S512x4096 : Shape := ⟨2, ![512, 4096]⟩

abbrev nBuf : Space → Nat
  | .hbm => 4
  | .vmem => 7
  | .smem => 1
  | _ => 0

abbrev bufTy : (tb : Table) → Fin (tcTables nBuf tb) → BufTy
  | .hbm, ⟨0, _⟩ => ⟨S8192x4096, .bf16⟩
  | .hbm, ⟨1, _⟩ => ⟨S2x4096x26688, .f32⟩
  | .hbm, ⟨2, _⟩ => ⟨S2x26688x4096, .f32⟩
  | .hbm, ⟨3, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | .local _ .smem, ⟨0, _⟩ => ⟨S8, .i32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  v1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x4096 : Shape := ⟨2, ![8192, 4096]⟩
abbrev S2x4096x26688 : Shape := ⟨3, ![2, 4096, 26688]⟩
abbrev S1x4096x26688 : Shape := ⟨3, ![1, 4096, 26688]⟩
abbrev S4096x26688 : Shape := ⟨2, ![4096, 26688]⟩
abbrev S8192x26688 : Shape := ⟨2, ![8192, 26688]⟩
abbrev S8192x3072 : Shape := ⟨2, ![8192, 3072]⟩
abbrev S8192x1536 : Shape := ⟨2, ![8192, 1536]⟩
abbrev S8192x4608 : Shape := ⟨2, ![8192, 4608]⟩
abbrev S8192x1024 : Shape := ⟨2, ![8192, 1024]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x26688, .f32⟩
  | .hbm, ⟨2, _⟩ => ⟨S8192x4096, .f32⟩
  | .hbm, ⟨3, _⟩ => ⟨S1x4096x26688, .f32⟩
  | .hbm, ⟨4, _⟩ => ⟨S4096x26688, .f32⟩
  | .hbm, ⟨5, _⟩ => ⟨S8192x26688, .f32⟩
  | .hbm, ⟨6, _⟩ => ⟨S8192x26688, .bf16⟩
  | .hbm, ⟨7, _⟩ => ⟨S8192x3072, .bf16⟩
  | .hbm, ⟨8, _⟩ => ⟨S8192x1536, .bf16⟩
  | .hbm, ⟨9, _⟩ => ⟨S8192x4608, .bf16⟩
  | .hbm, ⟨10, _⟩ => ⟨S8192x1024, .bf16⟩
  | .hbm, ⟨11, _⟩ => ⟨S8192x2048, .bf16⟩
  | .hbm, ⟨12, _⟩ => ⟨S8192x1024, .bf16⟩
  | .hbm, ⟨13, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kernel3.lean ====
abbrev S8192x4096 : Shape := ⟨2, ![8192, 4096]⟩
abbrev S2x4096x26688 : Shape := ⟨3, ![2, 4096, 26688]⟩
abbrev S6 : Shape := ⟨1, ![6]⟩
abbrev S2x26688x4096 : Shape := ⟨3, ![2, 26688, 4096]⟩
abbrev S8192x3072 : Shape := ⟨2, ![8192, 3072]⟩
abbrev S1024x4096 : Shape := ⟨2, ![1024, 4096]⟩
abbrev S1x512x4096 : Shape := ⟨3, ![1, 512, 4096]⟩
abbrev S1 : Shape := ⟨1, ![1]⟩
abbrev S1024x512 : Shape := ⟨2, ![1024, 512]⟩
abbrev S512x4096 : Shape := ⟨2, ![512, 4096]⟩

abbrev nBuf : Space → Nat
  | .hbm => 4
  | .vmem => 7
  | .smem => 1
  | _ => 0

abbrev bufTy : (tb : Table) → Fin (tcTables nBuf tb) → BufTy
  | .hbm, ⟨0, _⟩ => ⟨S8192x4096, .bf16⟩
  | .hbm, ⟨1, _⟩ => ⟨S2x4096x26688, .f32⟩
  | .hbm, ⟨2, _⟩ => ⟨S2x26688x4096, .f32⟩
  | .hbm, ⟨3, _⟩ => ⟨S8192x3072, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | .local _ .smem, ⟨0, _⟩ => ⟨S6, .i32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  v1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S6) ![v0.toNat] S1.size (k0_off1_inb i)) numel1_S1
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x4096 : Shape := ⟨2, ![8192, 4096]⟩
abbrev S2x4096x26688 : Shape := ⟨3, ![2, 4096, 26688]⟩
abbrev S1x4096x26688 : Shape := ⟨3, ![1, 4096, 26688]⟩
abbrev S4096x26688 : Shape := ⟨2, ![4096, 26688]⟩
abbrev S8192x26688 : Shape := ⟨2, ![8192, 26688]⟩
abbrev S8192x3072 : Shape := ⟨2, ![8192, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x26688, .f32⟩
  | .hbm, ⟨2, _⟩ => ⟨S8192x4096, .f32⟩
  | .hbm, ⟨3, _⟩ => ⟨S1x4096x26688, .f32⟩
  | .hbm, ⟨4, _⟩ => ⟨S4096x26688, .f32⟩
  | .hbm, ⟨5, _⟩ => ⟨S8192x26688, .f32⟩
  | .hbm, ⟨6, _⟩ => ⟨S8192x3072, .f32⟩
  | .hbm, ⟨7, _⟩ => ⟨S8192x3072, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel4.lean ====
abbrev S8192x4096 : Shape := ⟨2, ![8192, 4096]⟩
abbrev S2x4096x26688 : Shape := ⟨3, ![2, 4096, 26688]⟩
abbrev S4 : Shape := ⟨1, ![4]⟩
abbrev S2x26688x4096 : Shape := ⟨3, ![2, 26688, 4096]⟩
abbrev S8192x2048 : Shape := ⟨2, ![8192, 2048]⟩
abbrev S1024x4096 : Shape := ⟨2, ![1024, 4096]⟩
abbrev S1x512x4096 : Shape := ⟨3, ![1, 512, 4096]⟩
abbrev S1 : Shape := ⟨1, ![1]⟩
abbrev S1024x512 : Shape := ⟨2, ![1024, 512]⟩
abbrev S512x4096 : Shape := ⟨2, ![512, 4096]⟩

abbrev nBuf : Space → Nat
  | .hbm => 4
  | .vmem => 7
  | .smem => 1
  | _ => 0

abbrev bufTy : (tb : Table) → Fin (tcTables nBuf tb) → BufTy
  | .hbm, ⟨0, _⟩ => ⟨S8192x4096, .bf16⟩
  | .hbm, ⟨1, _⟩ => ⟨S2x4096x26688, .f32⟩
  | .hbm, ⟨2, _⟩ => ⟨S2x26688x4096, .f32⟩
  | .hbm, ⟨3, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | .local _ .smem, ⟨0, _⟩ => ⟨S4, .i32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  v1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x4096 : Shape := ⟨2, ![8192, 4096]⟩
abbrev S2x4096x26688 : Shape := ⟨3, ![2, 4096, 26688]⟩
abbrev S1x4096x26688 : Shape := ⟨3, ![1, 4096, 26688]⟩
abbrev S4096x26688 : Shape := ⟨2, ![4096, 26688]⟩
abbrev S8192x26688 : Shape := ⟨2, ![8192, 26688]⟩
abbrev S8192x3072 : Shape := ⟨2, ![8192, 3072]⟩
abbrev S8192x1536 : Shape := ⟨2, ![8192, 1536]⟩
abbrev S8192x4608 : Shape := ⟨2, ![8192, 4608]⟩
abbrev S8192x512 : Shape := ⟨2, ![8192, 512]⟩
abbrev S8192x1024 : Shape := ⟨2, ![8192, 1024]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x26688, .f32⟩
  | .hbm, ⟨2, _⟩ => ⟨S8192x4096, .f32⟩
  | .hbm, ⟨3, _⟩ => ⟨S1x4096x26688, .f32⟩
  | .hbm, ⟨4, _⟩ => ⟨S4096x26688, .f32⟩
  | .hbm, ⟨5, _⟩ => ⟨S8192x26688, .f32⟩
  | .hbm, ⟨6, _⟩ => ⟨S8192x26688, .bf16⟩
  | .hbm, ⟨7, _⟩ => ⟨S8192x3072, .bf16⟩
  | .hbm, ⟨8, _⟩ => ⟨S8192x1536, .bf16⟩
  | .hbm, ⟨9, _⟩ => ⟨S8192x4608, .bf16⟩
  | .hbm, ⟨10, _⟩ => ⟨S8192x512, .bf16⟩
  | .hbm, ⟨11, _⟩ => ⟨S8192x1024, .bf16⟩
  | .hbm, ⟨12, _⟩ => ⟨S8192x512, .bf16⟩
  | .hbm, ⟨13, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kernel5.lean ====
abbrev S8192x4096 : Shape := ⟨2, ![8192, 4096]⟩
abbrev S2x4096x26688 : Shape := ⟨3, ![2, 4096, 26688]⟩
abbrev S3 : Shape := ⟨1, ![3]⟩
abbrev S2x26688x4096 : Shape := ⟨3, ![2, 26688, 4096]⟩
abbrev S8192x1152 : Shape := ⟨2, ![8192, 1152]⟩
abbrev S1024x4096 : Shape := ⟨2, ![1024, 4096]⟩
abbrev S1x384x4096 : Shape := ⟨3, ![1, 384, 4096]⟩
abbrev S1 : Shape := ⟨1, ![1]⟩
abbrev S1024x384 : Shape := ⟨2, ![1024, 384]⟩
abbrev S384x4096 : Shape := ⟨2, ![384, 4096]⟩

abbrev nBuf : Space → Nat
  | .hbm => 4
  | .vmem => 7
  | .smem => 1
  | _ => 0

abbrev bufTy : (tb : Table) → Fin (tcTables nBuf tb) → BufTy
  | .hbm, ⟨0, _⟩ => ⟨S8192x4096, .bf16⟩
  | .hbm, ⟨1, _⟩ => ⟨S2x4096x26688, .f32⟩
  | .hbm, ⟨2, _⟩ => ⟨S2x26688x4096, .f32⟩
  | .hbm, ⟨3, _⟩ => ⟨S8192x1152, .bf16⟩
  | .local _ .vmem, ⟨0, _⟩ => ⟨S1024x4096, .bf16⟩
  | .local _ .vmem, ⟨1, _⟩ => ⟨S1024x4096, .bf16⟩
  | .local _ .vmem, ⟨2, _⟩ => ⟨S1x384x4096, .f32⟩
  | .local _ .vmem, ⟨3, _⟩ => ⟨S1x384x4096, .f32⟩
  | .local _ .vmem, ⟨4, _⟩ => ⟨S1024x384, .bf16⟩
  | .local _ .vmem, ⟨5, _⟩ => ⟨S1024x384, .bf16⟩
  | .local _ .vmem, ⟨6, _⟩ => ⟨S384x4096, .bf16⟩
  | .local _ .smem, ⟨0, _⟩ => ⟨S3, .i32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  v1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S3) ![v0.toNat] S1.size (k0_off1_inb i)) numel1_S1
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x384x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x4096 : Shape := ⟨2, ![8192, 4096]⟩
abbrev S2x4096x26688 : Shape := ⟨3, ![2, 4096, 26688]⟩
abbrev S1x4096x26688 : Shape := ⟨3, ![1, 4096, 26688]⟩
abbrev S4096x26688 : Shape := ⟨2, ![4096, 26688]⟩
abbrev S8192x26688 : Shape := ⟨2, ![8192, 26688]⟩
abbrev S8192x1152 : Shape := ⟨2, ![8192, 1152]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x26688, .f32⟩
  | .hbm, ⟨2, _⟩ => ⟨S8192x4096, .f32⟩
  | .hbm, ⟨3, _⟩ => ⟨S1x4096x26688, .f32⟩
  | .hbm, ⟨4, _⟩ => ⟨S4096x26688, .f32⟩
  | .hbm, ⟨5, _⟩ => ⟨S8192x26688, .f32⟩
  | .hbm, ⟨6, _⟩ => ⟨S8192x1152, .f32⟩
  | .hbm, ⟨7, _⟩ => ⟨S8192x1152, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel6.lean ====
abbrev S8192x1024 : Shape := ⟨2, ![8192, 1024]⟩
abbrev S8192x512 : Shape := ⟨2, ![8192, 512]⟩
abbrev S2x3584x4096 : Shape := ⟨3, ![2, 3584, 4096]⟩
abbrev S8192x16384 : Shape := ⟨2, ![8192, 16384]⟩
abbrev S8192x4096 : Shape := ⟨2, ![8192, 4096]⟩
abbrev S1024x1024 : Shape := ⟨2, ![1024, 1024]⟩
abbrev S1024x512 : Shape := ⟨2, ![1024, 512]⟩
abbrev S1x1024x512 : Shape := ⟨3, ![1, 1024, 512]⟩
abbrev S1x512x512 : Shape := ⟨3, ![1, 512, 512]⟩
abbrev S512x512 : Shape := ⟨2, ![512, 512]⟩

abbrev nBuf : Space → Nat
  | .hbm => 7
  | .vmem => 30
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x512, .bf16⟩
  | .hbm, ⟨4, _⟩ => ⟨S2x3584x4096, .f32⟩
  | .hbm, ⟨5, _⟩ => ⟨S8192x16384, .bf16⟩
  | .hbm, ⟨6, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1x512x512, .f32⟩
  | .local _ .vmem, ⟨15, _⟩ => ⟨S1x512x512, .f32⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | .local _ .vmem, ⟨26, _⟩ => ⟨S1024x512, .bf16⟩
  | .local _ .vmem, ⟨27, _⟩ => ⟨S1024x512, .bf16⟩
  | .local _ .vmem, ⟨28, _⟩ => ⟨S1024x512, .bf16⟩
  | .local _ .vmem, ⟨29, _⟩ => ⟨S512x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![c0_i32.toNat, c6_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference6Ideal.lean ====
abbrev S8192x1024 : Shape := ⟨2, ![8192, 1024]⟩
abbrev S8192x512 : Shape := ⟨2, ![8192, 512]⟩
abbrev S2x3584x4096 : Shape := ⟨3, ![2, 3584, 4096]⟩
abbrev S8192x16384 : Shape := ⟨2, ![8192, 16384]⟩
abbrev S_ : Shape := ⟨0, ![]⟩
abbrev S1x3584x4096 : Shape := ⟨3, ![1, 3584, 4096]⟩
abbrev S3584x4096 : Shape := ⟨2, ![3584, 4096]⟩
abbrev S1024x4096 : Shape := ⟨2, ![1024, 4096]⟩
abbrev S512x4096 : Shape := ⟨2, ![512, 4096]⟩
abbrev S8192x4096 : Shape := ⟨2, ![8192, 4096]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x512, .bf16⟩
  | .hbm, ⟨4, _⟩ => ⟨S2x3584x4096, .f32⟩
  | .hbm, ⟨5, _⟩ => ⟨S8192x16384, .bf16⟩
  | .hbm, ⟨6, _⟩ => ⟨S8192x16384, .f32⟩
  | .hbm, ⟨7, _⟩ => ⟨S8192x16384, .f32⟩
  | .hbm, ⟨8, _⟩ => ⟨S8192x16384, .f32⟩
  | .hbm, ⟨9, _⟩ => ⟨S_, .f32⟩
  | .hbm, ⟨10, _⟩ => ⟨S8192x16384, .f32⟩
  | .hbm, ⟨11, _⟩ => ⟨S8192x16384, .f32⟩
  | .hbm, ⟨12, _⟩ => ⟨S_, .f32⟩
  | .hbm, ⟨13, _⟩ => ⟨S8192x16384, .f32⟩
  | .hbm, ⟨14, _⟩ => ⟨S8192x16384, .f32⟩
  | .hbm, ⟨15, _⟩ => ⟨S1x3584x4096, .f32⟩
  | .hbm, ⟨16, _⟩ => ⟨S3584x4096, .f32⟩
  | .hbm, ⟨17, _⟩ => ⟨S1024x4096, .f32⟩
  | .hbm, ⟨18, _⟩ => ⟨S1024x4096, .f32⟩
  | .hbm, ⟨19, _⟩ => ⟨S1024x4096, .f32⟩
  | .hbm, ⟨20, _⟩ => ⟨S512x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x1024, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x1024, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x1024, .f32⟩
  | .hbm, ⟨35, _⟩ => ⟨S8192x4096, .f32⟩
  | .hbm, ⟨36, _⟩ => ⟨S8192x4096, .f32⟩
  | .hbm, ⟨37, _⟩ => ⟨S8192x4096, .f32⟩
  | .hbm, ⟨38, _⟩ => ⟨S8192x4096, .f32⟩
  | .hbm, ⟨39, _⟩ => ⟨S8192x512, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Kernel7.lean ====
abbrev S8192x4096 : Shape := ⟨2, ![8192, 4096]⟩
abbrev S2x4096x4096 : Shape := ⟨3, ![2, 4096, 4096]⟩
abbrev S2x24576 : Shape := ⟨2, ![2, 24576]⟩
abbrev S2x6x4096 : Shape := ⟨3, ![2, 6, 4096]⟩
abbrev S1024x4096 : Shape := ⟨2, ![1024, 4096]⟩
abbrev S1x4096x512 : Shape := ⟨3, ![1, 4096, 512]⟩
abbrev S1024x512 : Shape := ⟨2, ![1024, 512]⟩
abbrev S1x6x512 : Shape := ⟨3, ![1, 6, 512]⟩
abbrev S4096x512 : Shape := ⟨2, ![4096, 512]⟩
abbrev S1x1x512 : Shape := ⟨3, ![1, 1, 512]⟩
abbrev S1x512 : Shape := ⟨2, ![1, 512]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S2x4096x4096, .f32⟩
  | .hbm, ⟨3, _⟩ => ⟨S2x24576, .f32⟩
  | .hbm, ⟨4, _⟩ => ⟨S8192x4096, .f32⟩
  | .hbm, ⟨5, _⟩ => ⟨S2x6x4096, .f32⟩
  | .hbm, ⟨6, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1x6x512, .f32⟩
  | .local _ .vmem, ⟨7, _⟩ => ⟨S1x6x512, .f32⟩
  | .local _ .vmem, ⟨8, _⟩ => ⟨S1024x512, .f32⟩
  | .local _ .vmem, ⟨9, _⟩ => ⟨S1024x512, .f32⟩
  | .local _ .vmem, ⟨10, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S8192x4096 : Shape := ⟨2, ![8192, 4096]⟩
abbrev S2x4096x4096 : Shape := ⟨3, ![2, 4096, 4096]⟩
abbrev S2x24576 : Shape := ⟨2, ![2, 24576]⟩
abbrev S2x4096 : Shape := ⟨2, ![2, 4096]⟩
abbrev S2x1x4096 : Shape := ⟨3, ![2, 1, 4096]⟩
abbrev S1x4096x4096 : Shape := ⟨3, ![1, 4096, 4096]⟩
abbrev S4096x4096 : Shape := ⟨2, ![4096, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S2x4096x4096, .f32⟩
  | .hbm, ⟨3, _⟩ => ⟨S2x24576, .f32⟩
  | .hbm, ⟨4, _⟩ => ⟨S2x4096, .f32⟩
  | .hbm, ⟨5, _⟩ => ⟨S2x4096, .f32⟩
  | .hbm, ⟨6, _⟩ => ⟨S2x4096, .f32⟩
  | .hbm, ⟨7, _⟩ => ⟨S2x4096, .f32⟩
  | .hbm, ⟨8, _⟩ => ⟨S2x4096, .f32⟩
  | .hbm, ⟨9, _⟩ => ⟨S2x4096, .f32⟩
  | .hbm, ⟨10, _⟩ => ⟨S2x1x4096, .f32⟩
  | .hbm, ⟨11, _⟩ => ⟨S8192x4096, .f32⟩
  | .hbm, ⟨12, _⟩ => ⟨S1x4096x4096, .f32⟩
  | .hbm, ⟨13, _⟩ => ⟨S4096x4096, .f32⟩
  | .hbm, ⟨14, _⟩ => ⟨S8192x4096, .f32⟩
  | .hbm, ⟨15, _⟩ => ⟨S2x4096x4096, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel8.lean ====
abbrev S8192x4096 : Shape := ⟨2, ![8192, 4096]⟩
abbrev S2x4096x1024 : Shape := ⟨3, ![2, 4096, 1024]⟩
abbrev S8192x1024 : Shape := ⟨2, ![8192, 1024]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 4
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S2x4096x1024, .f32⟩
  | .hbm, ⟨2, _⟩ => ⟨S2x4096x1024, .f32⟩
  | .hbm, ⟨3, _⟩ => ⟨S8192x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1024x256, .bf16⟩
  | .local _ .vmem, ⟨7, _⟩ => ⟨S1024x256, .bf16⟩
  | .local _ .vmem, ⟨8, _⟩ => ⟨S4096x256, .bf16⟩
  | .local _ .vmem, ⟨9, _⟩ => ⟨S4096x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8192x4096 : Shape := ⟨2, ![8192, 4096]⟩
abbrev S2x4096x1024 : Shape := ⟨3, ![2, 4096, 1024]⟩
abbrev S1x4096x1024 : Shape := ⟨3, ![1, 4096, 1024]⟩
abbrev S4096x1024 : Shape := ⟨2, ![4096, 1024]⟩
abbrev S8192x1024 : Shape := ⟨2, ![8192, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x1024, .f32⟩
  | .hbm, ⟨2, _⟩ => ⟨S2x4096x1024, .f32⟩
  | .hbm, ⟨3, _⟩ => ⟨S8192x4096, .f32⟩
  | .hbm, ⟨4, _⟩ => ⟨S1x4096x1024, .f32⟩
  | .hbm, ⟨5, _⟩ => ⟨S4096x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S1x4096x1024, .f32⟩
  | .hbm, ⟨17, _⟩ => ⟨S4096x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel9.lean ====
abbrev S8192x1024 : Shape := ⟨2, ![8192, 1024]⟩
abbrev S2x1024x4096 : Shape := ⟨3, ![2, 1024, 4096]⟩
abbrev S8192x4096 : Shape := ⟨2, ![8192, 4096]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x1024x4096, .f32⟩
  | .hbm, ⟨2, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8192x1024 : Shape := ⟨2, ![8192, 1024]⟩
abbrev S2x1024x4096 : Shape := ⟨3, ![2, 1024, 4096]⟩
abbrev S1x1024x4096 : Shape := ⟨3, ![1, 1024, 4096]⟩
abbrev S1024x4096 : Shape := ⟨2, ![1024, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x4096, .f32⟩
  | .hbm, ⟨2, _⟩ => ⟨S8192x1024, .f32⟩
  | .hbm, ⟨3, _⟩ => ⟨S1x1024x4096, .f32⟩
  | .hbm, ⟨4, _⟩ => ⟨S1024x4096, .f32⟩
  | .hbm, ⟨5, _⟩ => ⟨S8192x4096, .f32⟩
  | .hbm, ⟨6, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S8192x2048 : Shape := ⟨2, ![8192, 2048]⟩
abbrev S8192x1024 : Shape := ⟨2, ![8192, 1024]⟩
abbrev S8192x128 : Shape := ⟨2, ![8192, 128]⟩
abbrev S1024x256 : Shape := ⟨2, ![1024, 256]⟩
abbrev S4096x128 : Shape := ⟨2, ![4096, 128]⟩
abbrev S1024x128 : Shape := ⟨2, ![1024, 128]⟩
abbrev S4096x256 : Shape := ⟨2, ![4096, 256]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x128, .bf16⟩
  | .hbm, ⟨3, _⟩ => ⟨S8192x1024, .bf16⟩
  | .hbm, ⟨4, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S1024x128, .bf16⟩
  | .local _ .vmem, ⟨9, _⟩ => ⟨S1024x128, .bf16⟩
  | .local _ .vmem, ⟨10, _⟩ => ⟨S4096x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference10Ideal.lean ====
abbrev S8192x2048 : Shape := ⟨2, ![8192, 2048]⟩
abbrev S8192x1024 : Shape := ⟨2, ![8192, 1024]⟩
abbrev S8192x128 : Shape := ⟨2, ![8192, 128]⟩
abbrev S2x4096x8x256 : Shape := ⟨4, ![2, 4096, 8, 256]⟩
abbrev S2x4096x1x128 : Shape := ⟨4, ![2, 4096, 1, 128]⟩
abbrev S2x4096x8x128 : Shape := ⟨4, ![2, 4096, 8, 128]⟩
abbrev S2x8x4096x4096 : Shape := ⟨4, ![2, 8, 4096, 4096]⟩
abbrev S_ : Shape := ⟨0, ![]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x128, .bf16⟩
  | .hbm, ⟨3, _⟩ => ⟨S8192x1024, .bf16⟩
  | .hbm, ⟨4, _⟩ => ⟨S8192x2048, .f32⟩
  | .hbm, ⟨5, _⟩ => ⟨S2x4096x8x256, .f32⟩
  | .hbm, ⟨6, _⟩ => ⟨S8192x128, .f32⟩
  | .hbm, ⟨7, _⟩ => ⟨S2x4096x1x128, .f32⟩
  | .hbm, ⟨8, _⟩ => ⟨S2x4096x8x128, .f32⟩
  | .hbm, ⟨9, _⟩ => ⟨S8192x1024, .f32⟩
  | .hbm, ⟨10, _⟩ => ⟨S2x4096x8x128, .f32⟩
  | .hbm, ⟨11, _⟩ => ⟨S2x4096x8x256, .f32⟩
  | .hbm, ⟨12, _⟩ => ⟨S8192x1024, .f32⟩
  | .hbm, ⟨13, _⟩ => ⟨S2x4096x8x128, .f32⟩
  | .hbm, ⟨14, _⟩ => ⟨S2x8x4096x4096, .f32⟩
  | .hbm, ⟨15, _⟩ => ⟨S_, .f32⟩
  | .hbm, ⟨16, _⟩ => ⟨S2x8x4096, .f32⟩
  | .hbm, ⟨17, _⟩ => ⟨S_, .f32⟩
  | .hbm, ⟨18, _⟩ => ⟨S2x8x4096, .f32⟩
  | .hbm, ⟨19, _⟩ => ⟨S2x8x4096, .f32⟩
  | .hbm, ⟨20, _⟩ => ⟨S2x8x4096x1, .f32⟩
  | .hbm, ⟨21, _⟩ => ⟨S2x8x4096x4096, .f32⟩
  | .hbm, ⟨22, _⟩ => ⟨S2x8x4096x4096, .f32⟩
  | .hbm, ⟨23, _⟩ => ⟨S2x8x4096x4096, .f32⟩
  | .hbm, ⟨24, _⟩ => ⟨S_, .f32⟩
  | .hbm, ⟨25, _⟩ => ⟨S2x8x4096, .f32⟩
  | .hbm, ⟨26, _⟩ => ⟨S2x8x4096x1, .f32⟩
  | .hbm, ⟨27, _⟩ => ⟨S2x8x4096x4096, .f32⟩
  | .hbm, ⟨28, _⟩ => ⟨S2x8x4096x4096, .f32⟩
  | .hbm, ⟨29, _⟩ => ⟨S2x8x128x4096, .f32⟩
  | .hbm, ⟨30, _⟩ => ⟨S2x4096x8x128, .f32⟩
  | .hbm, ⟨31, _⟩ => ⟨S8192x1024, .f32⟩
  | .hbm, ⟨32, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel11.lean ====
abbrev S8192x4352 : Shape := ⟨2, ![8192, 4352]⟩
abbrev S8192x2048 : Shape := ⟨2, ![8192, 2048]⟩
abbrev S4x64 : Shape := ⟨2, ![4, 64]⟩
abbrev S128 : Shape := ⟨1, ![128]⟩
abbrev S1x128 : Shape := ⟨2, ![1, 128]⟩
abbrev S8192x1024 : Shape := ⟨2, ![8192, 1024]⟩
abbrev S1024x128 : Shape := ⟨2, ![1024, 128]⟩
abbrev S4096x128 : Shape := ⟨2, ![4096, 128]⟩
abbrev S1024x1 : Shape := ⟨2, ![1024, 1]⟩
abbrev S1024x1024 : Shape := ⟨2, ![1024, 1024]⟩
abbrev S1024 : Shape := ⟨1, ![1024]⟩
abbrev S1x64 : Shape := ⟨2, ![1, 64]⟩
abbrev S1 : Shape := ⟨1, ![1]⟩
abbrev S1x1 : Shape := ⟨2, ![1, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x4352, .bf16⟩
  | .hbm, ⟨1, _⟩ => ⟨S8192x2048, .bf16⟩
  | .hbm, ⟨2, _⟩ => ⟨S4x64, .f32⟩
  | .hbm, ⟨3, _⟩ => ⟨S128, .f32⟩
  | .hbm, ⟨4, _⟩ => ⟨S1x128, .f32⟩
  | .hbm, ⟨5, _⟩ => ⟨S8192x1024, .bf16⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4x64, .f32⟩
  | .local _ .vmem, ⟨7, _⟩ => ⟨S1x128, .f32⟩
  | .local _ .vmem, ⟨8, _⟩ => ⟨S1024x128, .bf16⟩
  | .local _ .vmem, ⟨9, _⟩ => ⟨S1024x128, .bf16⟩
  | _, _ => ⟨S8192x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference11Ideal.lean ====
abbrev S8192x4352 : Shape := ⟨2, ![8192, 4352]⟩
abbrev S8192x2048 : Shape := ⟨2, ![8192, 2048]⟩
abbrev S4x64 : Shape := ⟨2, ![4, 64]⟩
abbrev S128 : Shape := ⟨1, ![128]⟩
abbrev S8192x1024 : Shape := ⟨2, ![8192, 1024]⟩
abbrev S2x4096x8x128 : Shape := ⟨4, ![2, 4096, 8, 128]⟩
abbrev S2x4096x8x64 : Shape := ⟨4, ![2, 4096, 8, 64]⟩
abbrev S2x8x4096x4096 : Shape := ⟨4, ![2, 8, 4096, 4096]⟩
abbrev S1x64 : Shape := ⟨2, ![1, 64]⟩
abbrev S64 : Shape := ⟨1, ![64]⟩
abbrev S_ : Shape := ⟨0, ![]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩

abbrev nBuf : Space → Nat
  | .hbm => 92
  | .vmem => 0
  | .smem => 0
  | _ => 0

abbrev bufTy : (tb : Table) → Fin (tcTables nBuf tb) → BufTy
  | .hbm, ⟨0, _⟩ => ⟨S8192x4352, .bf16⟩
  | .hbm, ⟨1, _⟩ => ⟨S8192x2048, .bf16⟩
  | .hbm, ⟨2, _⟩ => ⟨S4x64, .f32⟩
  | .hbm, ⟨3, _⟩ => ⟨S128, .f32⟩
  | .hbm, ⟨4, _⟩ => ⟨S8192x1024, .bf16⟩
  | .hbm, ⟨5, _⟩ => ⟨S8192x1024, .f32⟩
  | .hbm, ⟨6, _⟩ => ⟨S2x4096x8x128, .f32⟩
  | .hbm, ⟨7, _⟩ => ⟨S8192x1024, .bf16⟩
  | .hbm, ⟨8, _⟩ => ⟨S8192x1024, .f32⟩
  | .hbm, ⟨9, _⟩ => ⟨S2x4096x8x128, .f32⟩
  | .hbm, ⟨10, _⟩ => ⟨S8192x1024, .bf16⟩
  | .hbm, ⟨11, _⟩ => ⟨S8192x1024, .f32⟩
  | .hbm, ⟨12, _⟩ => ⟨S2x4096x8x128, .f32⟩
  | .hbm, ⟨13, _⟩ => ⟨S2x4096x8x64, .f32⟩
  | .hbm, ⟨14, _⟩ => ⟨S2x4096x8x64, .f32⟩
  | .hbm, ⟨15, _⟩ => ⟨S2x8x4096x4096, .f32⟩
  | .hbm, ⟨16, _⟩ => ⟨S2x4096x8x64, .f32⟩
  | .hbm, ⟨17, _⟩ => ⟨S2x4096x8x64, .f32⟩
  | .hbm, ⟨18, _⟩ => ⟨S2x8x4096x4096, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1x64, .f32⟩
  | .hbm, ⟨28, _⟩ => ⟨S64, .f32⟩
  | .hbm, ⟨29, _⟩ => ⟨S1x64, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2x8x4096, .f32⟩
  | .hbm, ⟨40, _⟩ => ⟨S_, .f32⟩
  | .hbm, ⟨41, _⟩ => ⟨S2x8x4096, .f32⟩
  | .hbm, ⟨42, _⟩ => ⟨S2x8x4096, .f32⟩
  | .hbm, ⟨43, _⟩ => ⟨S2x8x4096x1, .f32⟩
  | .hbm, ⟨44, _⟩ => ⟨S2x8x4096x4096, .f32⟩
  | .hbm, ⟨45, _⟩ => ⟨S2x8x4096x4096, .f32⟩
  | .hbm, ⟨46, _⟩ => ⟨S2x8x4096x4096, .f32⟩
  | .hbm, ⟨47, _⟩ => ⟨S_, .f32⟩
  | .hbm, ⟨48, _⟩ => ⟨S2x8x4096, .f32⟩
  | .hbm, ⟨49, _⟩ => ⟨S2x8x4096x1, .f32⟩
  | .hbm, ⟨50, _⟩ => ⟨S2x8x4096x4096, .f32⟩
  | .hbm, ⟨51, _⟩ => ⟨S2x8x4096x4096, .f32⟩
  | .hbm, ⟨52, _⟩ => ⟨S_, .f32⟩
  | .hbm, ⟨53, _⟩ => ⟨S2x8x4096, .f32⟩
  | .hbm, ⟨54, _⟩ => ⟨S_, .f32⟩
  | .hbm, ⟨55, _⟩ => ⟨S2x8x4096, .f32⟩
  | .hbm, ⟨56, _⟩ => ⟨S2x8x4096, .f32⟩
  | .hbm, ⟨57, _⟩ => ⟨S2x8x4096x1, .f32⟩
  | .hbm, ⟨58, _⟩ => ⟨S2x8x4096x4096, .f32⟩
  | .hbm, ⟨59, _⟩ => ⟨S2x8x4096x4096, .f32⟩
  | .hbm, ⟨60, _⟩ => ⟨S2x8x4096x4096, .f32⟩
  | .hbm, ⟨61, _⟩ => ⟨S_, .f32⟩
  | .hbm, ⟨62, _⟩ => ⟨S2x8x4096, .f32⟩
  | .hbm, ⟨63, _⟩ => ⟨S2x8x4096x1, .f32⟩
  | .hbm, ⟨64, _⟩ => ⟨S2x8x4096x4096, .f32⟩
  | .hbm, ⟨65, _⟩ => ⟨S2x8x4096x4096, .f32⟩
  | .hbm, ⟨66, _⟩ => ⟨S2x8x4096x4096, .f32⟩
  | .hbm, ⟨67, _⟩ => ⟨S2x8x4096x4096, .f32⟩
  | .hbm, ⟨68, _⟩ => ⟨S2x8x4096x4096, .f32⟩
  | .hbm, ⟨69, _⟩ => ⟨S2x8x128x4096, .f32⟩
  | .hbm, ⟨70, _⟩ => ⟨S2x4096x8x128, .f32⟩
  | .hbm, ⟨71, _⟩ => ⟨S2x4096x8x128, .f32⟩
  | .hbm, ⟨72, _⟩ => ⟨S_, .f32⟩
  | .hbm, ⟨73, _⟩ => ⟨S2x4096x8, .f32⟩
  | .hbm, ⟨74, _⟩ => ⟨S2x4096x8x1, .f32⟩
  | .hbm, ⟨75, _⟩ => ⟨S_, .f32⟩
  | .hbm, ⟨76, _⟩ => ⟨S2x4096x8x1, .f32⟩
  | .hbm, ⟨77, _⟩ => ⟨S2x4096x8x1, .f32⟩
  | .hbm, ⟨78, _⟩ => ⟨S_, .f32⟩
  | .hbm, ⟨79, _⟩ => ⟨S2x4096x8x1, .f32⟩
  | .hbm, ⟨80, _⟩ => ⟨S2x4096x8x1, .f32⟩
  | .hbm, ⟨81, _⟩ => ⟨S2x4096x8x1, .f32⟩
  | .hbm, ⟨82, _⟩ => ⟨S2x4096x8x128, .f32⟩
  | .hbm, ⟨83, _⟩ => ⟨S2x4096x8x128, .f32⟩
  | .hbm, ⟨84, _⟩ => ⟨S1x1x1x128, .f32⟩
  | .hbm, ⟨85, _⟩ => ⟨S2x4096x8x128, .f32⟩
  | .hbm, ⟨86, _⟩ => ⟨S2x4096x8x128, .f32⟩
  | .hbm, ⟨87, _⟩ => ⟨S_, .f32⟩
  | .hbm, ⟨88, _⟩ => ⟨S2x4096x8x128, .f32⟩
  | .hbm, ⟨89, _⟩ => ⟨S2x4096x8x128, .f32⟩
  | .hbm, ⟨90, _⟩ => ⟨S8192x1024, .f32⟩
  | .hbm, ⟨91, _⟩ => ⟨S8192x1024, .bf16⟩
  | _, _ => ⟨S8192x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_8 : Ref sig .tc := ⟨.hbm, 72, rfl⟩
abbrev main_v59 : Ref sig .tc := ⟨.hbm, 73, rfl⟩
abbrev main_v60 : Ref sig .tc := ⟨.hbm, 74, rfl⟩
abbrev main_cst_9 : Ref sig .tc := ⟨.hbm, 75, rfl⟩
abbrev main_v61 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_11 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩

abbrev nD : Nat := 1
abbrev τ : Topo := Topo.v7x

variable {F : FTy → Type} [FloatOps F]
-- ==== Kernel12.lean ====
abbrev S2x4096x4096 : Shape := ⟨3, ![2, 4096, 4096]⟩
abbrev S2x4096 : Shape := ⟨2, ![2, 4096]⟩
abbrev S2x24576 : Shape := ⟨2, ![2, 24576]⟩
abbrev S8192x4096 : Shape := ⟨2, ![8192, 4096]⟩
abbrev S1x4096 : Shape := ⟨2, ![1, 4096]⟩
abbrev S4096 : Shape := ⟨1, ![4096]⟩
abbrev S2x6x4096 : Shape := ⟨3, ![2, 6, 4096]⟩
abbrev S256x4096 : Shape := ⟨2, ![256, 4096]⟩
abbrev S1x6x4096 : Shape := ⟨3, ![1, 6, 4096]⟩
abbrev S256 : Shape := ⟨1, ![256]⟩
abbrev S256x1 : Shape := ⟨2, ![256, 1]⟩
abbrev S1x1x4096 : Shape := ⟨3, ![1, 1, 4096]⟩

abbrev nBuf : Space → Nat
  | .hbm => 9
  | .vmem => 7
  | .smem => 0
  | _ => 0

abbrev bufTy : (tb : Table) → Fin (tcTables nBuf tb) → BufTy
  | .hbm, ⟨0, _⟩ => ⟨S2x4096x4096, .f32⟩
  | .hbm, ⟨1, _⟩ => ⟨S2x4096, .f32⟩
  | .hbm, ⟨2, _⟩ => ⟨S2x24576, .f32⟩
  | .hbm, ⟨3, _⟩ => ⟨S8192x4096, .f32⟩
  | .hbm, ⟨4, _⟩ => ⟨S1x4096, .f32⟩
  | .hbm, ⟨5, _⟩ => ⟨S4096, .f32⟩
  | .hbm, ⟨6, _⟩ => ⟨S2x6x4096, .f32⟩
  | .hbm, ⟨7, _⟩ => ⟨S1x4096, .f32⟩
  | .hbm, ⟨8, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x6x4096, .f32⟩
  | .local _ .vmem, ⟨4, _⟩ => ⟨S1x6x4096, .f32⟩
  | .local _ .vmem, ⟨5, _⟩ => ⟨S256x4096, .bf16⟩
  | .local _ .vmem, ⟨6, _⟩ => ⟨S256x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S2x4096x4096 : Shape := ⟨3, ![2, 4096, 4096]⟩
abbrev S2x4096 : Shape := ⟨2, ![2, 4096]⟩
abbrev S2x24576 : Shape := ⟨2, ![2, 24576]⟩
abbrev S2x1x4096 : Shape := ⟨3, ![2, 1, 4096]⟩
abbrev S_ : Shape := ⟨0, ![]⟩
abbrev S2x4096x1 : Shape := ⟨3, ![2, 4096, 1]⟩
abbrev S1x4096 : Shape := ⟨2, ![1, 4096]⟩
abbrev S4096 : Shape := ⟨1, ![4096]⟩
abbrev S1x1x4096 : Shape := ⟨3, ![1, 1, 4096]⟩
abbrev S8192x4096 : Shape := ⟨2, ![8192, 4096]⟩

abbrev nBuf : Space → Nat
  | .hbm => 38
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096, .f32⟩
  | .hbm, ⟨2, _⟩ => ⟨S2x24576, .f32⟩
  | .hbm, ⟨3, _⟩ => ⟨S2x4096, .f32⟩
  | .hbm, ⟨4, _⟩ => ⟨S2x4096, .f32⟩
  | .hbm, ⟨5, _⟩ => ⟨S2x4096, .f32⟩
  | .hbm, ⟨6, _⟩ => ⟨S2x4096, .f32⟩
  | .hbm, ⟨7, _⟩ => ⟨S2x4096, .f32⟩
  | .hbm, ⟨8, _⟩ => ⟨S2x4096, .f32⟩
  | .hbm, ⟨9, _⟩ => ⟨S2x1x4096, .f32⟩
  | .hbm, ⟨10, _⟩ => ⟨S2x1x4096, .f32⟩
  | .hbm, ⟨11, _⟩ => ⟨S2x4096x4096, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1, .f32⟩
  | .hbm, ⟨22, _⟩ => ⟨S2x4096x4096, .f32⟩
  | .hbm, ⟨23, _⟩ => ⟨S2x4096x4096, .f32⟩
  | .hbm, ⟨24, _⟩ => ⟨S1x4096, .f32⟩
  | .hbm, ⟨25, _⟩ => ⟨S4096, .f32⟩
  | .hbm, ⟨26, _⟩ => ⟨S1x1x4096, .f32⟩
  | .hbm, ⟨27, _⟩ => ⟨S2x4096x4096, .f32⟩
  | .hbm, ⟨28, _⟩ => ⟨S2x4096x4096, .f32⟩
  | .hbm, ⟨29, _⟩ => ⟨S_, .f32⟩
  | .hbm, ⟨30, _⟩ => ⟨S2x1x4096, .f32⟩
  | .hbm, ⟨31, _⟩ => ⟨S2x1x4096, .f32⟩
  | .hbm, ⟨32, _⟩ => ⟨S2x4096x4096, .f32⟩
  | .hbm, ⟨33, _⟩ => ⟨S2x4096x4096, .f32⟩
  | .hbm, ⟨34, _⟩ => ⟨S2x4096x4096, .f32⟩
  | .hbm, ⟨35, _⟩ => ⟨S2x4096x4096, .f32⟩
  | .hbm, ⟨36, _⟩ => ⟨S8192x4096, .f32⟩
  | .hbm, ⟨37, _⟩ => ⟨S8192x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== Kernel13.lean ====
abbrev S8192x4352 : Shape := ⟨2, ![8192, 4352]⟩
abbrev S8192x2048 : Shape := ⟨2, ![8192, 2048]⟩
abbrev S4x64 : Shape := ⟨2, ![4, 64]⟩
abbrev S128 : Shape := ⟨1, ![128]⟩
abbrev S1x128 : Shape := ⟨2, ![1, 128]⟩
abbrev S8192x1024 : Shape := ⟨2, ![8192, 1024]⟩
abbrev S1024x128 : Shape := ⟨2, ![1024, 128]⟩
abbrev S4096x128 : Shape := ⟨2, ![4096, 128]⟩
abbrev S1024x1 : Shape := ⟨2, ![1024, 1]⟩
abbrev S1024x1024 : Shape := ⟨2, ![1024, 1024]⟩
abbrev S1024 : Shape := ⟨1, ![1024]⟩
abbrev S1x64 : Shape := ⟨2, ![1, 64]⟩
abbrev S1 : Shape := ⟨1, ![1]⟩
abbrev S1x1 : Shape := ⟨2, ![1, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x4352, .bf16⟩
  | .hbm, ⟨1, _⟩ => ⟨S8192x2048, .bf16⟩
  | .hbm, ⟨2, _⟩ => ⟨S4x64, .f32⟩
  | .hbm, ⟨3, _⟩ => ⟨S128, .f32⟩
  | .hbm, ⟨4, _⟩ => ⟨S1x128, .f32⟩
  | .hbm, ⟨5, _⟩ => ⟨S8192x1024, .bf16⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4x64, .f32⟩
  | .local _ .vmem, ⟨7, _⟩ => ⟨S1x128, .f32⟩
  | .local _ .vmem, ⟨8, _⟩ => ⟨S1024x128, .bf16⟩
  | .local _ .vmem, ⟨9, _⟩ => ⟨S1024x128, .bf16⟩
  | _, _ => ⟨S8192x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference13Ideal.lean ====
abbrev S8192x4352 : Shape := ⟨2, ![8192, 4352]⟩
abbrev S8192x2048 : Shape := ⟨2, ![8192, 2048]⟩
abbrev S4x64 : Shape := ⟨2, ![4, 64]⟩
abbrev S128 : Shape := ⟨1, ![128]⟩
abbrev S8192x1024 : Shape := ⟨2, ![8192, 1024]⟩
abbrev S2x4096x8x128 : Shape := ⟨4, ![2, 4096, 8, 128]⟩
abbrev S2x4096x8x64 : Shape := ⟨4, ![2, 4096, 8, 64]⟩
abbrev S2x8x4096x4096 : Shape := ⟨4, ![2, 8, 4096, 4096]⟩
abbrev S1x64 : Shape := ⟨2, ![1, 64]⟩
abbrev S64 : Shape := ⟨1, ![64]⟩
abbrev S_ : Shape := ⟨0, ![]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩

abbrev nBuf : Space → Nat
  | .hbm => 92
  | .vmem => 0
  | .smem => 0
  | _ => 0

abbrev bufTy : (tb : Table) → Fin (tcTables nBuf tb) → BufTy
  | .hbm, ⟨0, _⟩ => ⟨S8192x4352, .bf16⟩
  | .hbm, ⟨1, _⟩ => ⟨S8192x2048, .bf16⟩
  | .hbm, ⟨2, _⟩ => ⟨S4x64, .f32⟩
  | .hbm, ⟨3, _⟩ => ⟨S128, .f32⟩
  | .hbm, ⟨4, _⟩ => ⟨S8192x1024, .bf16⟩
  | .hbm, ⟨5, _⟩ => ⟨S8192x1024, .f32⟩
  | .hbm, ⟨6, _⟩ => ⟨S2x4096x8x128, .f32⟩
  | .hbm, ⟨7, _⟩ => ⟨S8192x1024, .bf16⟩
  | .hbm, ⟨8, _⟩ => ⟨S8192x1024, .f32⟩
  | .hbm, ⟨9, _⟩ => ⟨S2x4096x8x128, .f32⟩
  | .hbm, ⟨10, _⟩ => ⟨S8192x1024, .bf16⟩
  | .hbm, ⟨11, _⟩ => ⟨S8192x1024, .f32⟩
  | .hbm, ⟨12, _⟩ => ⟨S2x4096x8x128, .f32⟩
  | .hbm, ⟨13, _⟩ => ⟨S2x4096x8x64, .f32⟩
  | .hbm, ⟨14, _⟩ => ⟨S2x4096x8x64, .f32⟩
  | .hbm, ⟨15, _⟩ => ⟨S2x8x4096x4096, .f32⟩
  | .hbm, ⟨16, _⟩ => ⟨S2x4096x8x64, .f32⟩
  | .hbm, ⟨17, _⟩ => ⟨S2x4096x8x64, .f32⟩
  | .hbm, ⟨18, _⟩ => ⟨S2x8x4096x4096, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1x64, .f32⟩
  | .hbm, ⟨28, _⟩ => ⟨S64, .f32⟩
  | .hbm, ⟨29, _⟩ => ⟨S1x64, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2x8x4096, .f32⟩
  | .hbm, ⟨40, _⟩ => ⟨S_, .f32⟩
  | .hbm, ⟨41, _⟩ => ⟨S2x8x4096, .f32⟩
  | .hbm, ⟨42, _⟩ => ⟨S2x8x4096, .f32⟩
  | .hbm, ⟨43, _⟩ => ⟨S2x8x4096x1, .f32⟩
  | .hbm, ⟨44, _⟩ => ⟨S2x8x4096x4096, .f32⟩
  | .hbm, ⟨45, _⟩ => ⟨S2x8x4096x4096, .f32⟩
  | .hbm, ⟨46, _⟩ => ⟨S2x8x4096x4096, .f32⟩
  | .hbm, ⟨47, _⟩ => ⟨S_, .f32⟩
  | .hbm, ⟨48, _⟩ => ⟨S2x8x4096, .f32⟩
  | .hbm, ⟨49, _⟩ => ⟨S2x8x4096x1, .f32⟩
  | .hbm, ⟨50, _⟩ => ⟨S2x8x4096x4096, .f32⟩
  | .hbm, ⟨51, _⟩ => ⟨S2x8x4096x4096, .f32⟩
  | .hbm, ⟨52, _⟩ => ⟨S_, .f32⟩
  | .hbm, ⟨53, _⟩ => ⟨S2x8x4096, .f32⟩
  | .hbm, ⟨54, _⟩ => ⟨S_, .f32⟩
  | .hbm, ⟨55, _⟩ => ⟨S2x8x4096, .f32⟩
  | .hbm, ⟨56, _⟩ => ⟨S2x8x4096, .f32⟩
  | .hbm, ⟨57, _⟩ => ⟨S2x8x4096x1, .f32⟩
  | .hbm, ⟨58, _⟩ => ⟨S2x8x4096x4096, .f32⟩
  | .hbm, ⟨59, _⟩ => ⟨S2x8x4096x4096, .f32⟩
  | .hbm, ⟨60, _⟩ => ⟨S2x8x4096x4096, .f32⟩
  | .hbm, ⟨61, _⟩ => ⟨S_, .f32⟩
  | .hbm, ⟨62, _⟩ => ⟨S2x8x4096, .f32⟩
  | .hbm, ⟨63, _⟩ => ⟨S2x8x4096x1, .f32⟩
  | .hbm, ⟨64, _⟩ => ⟨S2x8x4096x4096, .f32⟩
  | .hbm, ⟨65, _⟩ => ⟨S2x8x4096x4096, .f32⟩
  | .hbm, ⟨66, _⟩ => ⟨S2x8x4096x4096, .f32⟩
  | .hbm, ⟨67, _⟩ => ⟨S2x8x4096x4096, .f32⟩
  | .hbm, ⟨68, _⟩ => ⟨S2x8x4096x4096, .f32⟩
  | .hbm, ⟨69, _⟩ => ⟨S2x8x128x4096, .f32⟩
  | .hbm, ⟨70, _⟩ => ⟨S2x4096x8x128, .f32⟩
  | .hbm, ⟨71, _⟩ => ⟨S2x4096x8x128, .f32⟩
  | .hbm, ⟨72, _⟩ => ⟨S_, .f32⟩
  | .hbm, ⟨73, _⟩ => ⟨S2x4096x8, .f32⟩
  | .hbm, ⟨74, _⟩ => ⟨S2x4096x8x1, .f32⟩
  | .hbm, ⟨75, _⟩ => ⟨S_, .f32⟩
  | .hbm, ⟨76, _⟩ => ⟨S2x4096x8x1, .f32⟩
  | .hbm, ⟨77, _⟩ => ⟨S2x4096x8x1, .f32⟩
  | .hbm, ⟨78, _⟩ => ⟨S_, .f32⟩
  | .hbm, ⟨79, _⟩ => ⟨S2x4096x8x1, .f32⟩
  | .hbm, ⟨80, _⟩ => ⟨S2x4096x8x1, .f32⟩
  | .hbm, ⟨81, _⟩ => ⟨S2x4096x8x1, .f32⟩
  | .hbm, ⟨82, _⟩ => ⟨S2x4096x8x128, .f32⟩
  | .hbm, ⟨83, _⟩ => ⟨S2x4096x8x128, .f32⟩
  | .hbm, ⟨84, _⟩ => ⟨S1x1x1x128, .f32⟩
  | .hbm, ⟨85, _⟩ => ⟨S2x4096x8x128, .f32⟩
  | .hbm, ⟨86, _⟩ => ⟨S2x4096x8x128, .f32⟩
  | .hbm, ⟨87, _⟩ => ⟨S_, .f32⟩
  | .hbm, ⟨88, _⟩ => ⟨S2x4096x8x128, .f32⟩
  | .hbm, ⟨89, _⟩ => ⟨S2x4096x8x128, .f32⟩
  | .hbm, ⟨90, _⟩ => ⟨S8192x1024, .f32⟩
  | .hbm, ⟨91, _⟩ => ⟨S8192x1024, .bf16⟩
  | _, _ => ⟨S8192x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_8 : Ref sig .tc := ⟨.hbm, 72, rfl⟩
abbrev main_v59 : Ref sig .tc := ⟨.hbm, 73, rfl⟩
abbrev main_v60 : Ref sig .tc := ⟨.hbm, 74, rfl⟩
abbrev main_cst_9 : Ref sig .tc := ⟨.hbm, 75, rfl⟩
abbrev main_v61 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_11 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩

abbrev nD : Nat := 1
abbrev τ : Topo := Topo.v7x

variable {F : FTy → Type} [FloatOps F]
-- ==== Kernel14.lean ====
abbrev S8192x4096 : Shape := ⟨2, ![8192, 4096]⟩
abbrev S2x4096x26688 : Shape := ⟨3, ![2, 4096, 26688]⟩
abbrev S32 : Shape := ⟨1, ![32]⟩
abbrev S2x26688x4096 : Shape := ⟨3, ![2, 26688, 4096]⟩
abbrev S8192x16384 : Shape := ⟨2, ![8192, 16384]⟩
abbrev S1024x4096 : Shape := ⟨2, ![1024, 4096]⟩
abbrev S1x512x4096 : Shape := ⟨3, ![1, 512, 4096]⟩
abbrev S1 : Shape := ⟨1, ![1]⟩
abbrev S1024x512 : Shape := ⟨2, ![1024, 512]⟩
abbrev S512x4096 : Shape := ⟨2, ![512, 4096]⟩

abbrev nBuf : Space → Nat
  | .hbm => 4
  | .vmem => 7
  | .smem => 1
  | _ => 0

abbrev bufTy : (tb : Table) → Fin (tcTables nBuf tb) → BufTy
  | .hbm, ⟨0, _⟩ => ⟨S8192x4096, .bf16⟩
  | .hbm, ⟨1, _⟩ => ⟨S2x4096x26688, .f32⟩
  | .hbm, ⟨2, _⟩ => ⟨S2x26688x4096, .f32⟩
  | .hbm, ⟨3, _⟩ => ⟨S8192x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | .local _ .smem, ⟨0, _⟩ => ⟨S32, .i32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  v1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let v2 : BitVec 32 := v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8192x4096 : Shape := ⟨2, ![8192, 4096]⟩
abbrev S2x4096x26688 : Shape := ⟨3, ![2, 4096, 26688]⟩
abbrev S1x4096x26688 : Shape := ⟨3, ![1, 4096, 26688]⟩
abbrev S4096x26688 : Shape := ⟨2, ![4096, 26688]⟩
abbrev S8192x26688 : Shape := ⟨2, ![8192, 26688]⟩
abbrev S8192x16384 : Shape := ⟨2, ![8192, 16384]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x26688, .f32⟩
  | .hbm, ⟨2, _⟩ => ⟨S8192x4096, .f32⟩
  | .hbm, ⟨3, _⟩ => ⟨S1x4096x26688, .f32⟩
  | .hbm, ⟨4, _⟩ => ⟨S4096x26688, .f32⟩
  | .hbm, ⟨5, _⟩ => ⟨S8192x26688, .f32⟩
  | .hbm, ⟨6, _⟩ => ⟨S8192x16384, .f32⟩
  | .hbm, ⟨7, _⟩ => ⟨S8192x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel15.lean ====
abbrev S8192x4096 : Shape := ⟨2, ![8192, 4096]⟩
abbrev S2x4096x26688 : Shape := ⟨3, ![2, 4096, 26688]⟩
abbrev S8 : Shape := ⟨1, ![8]⟩
abbrev S2x26688x4096 : Shape := ⟨3, ![2, 26688, 4096]⟩
abbrev S1024x4096 : Shape := ⟨2, ![1024, 4096]⟩
abbrev S1x512x4096 : Shape := ⟨3, ![1, 512, 4096]⟩
abbrev S1 : Shape := ⟨1, ![1]⟩
abbrev S1024x512 : Shape := ⟨2, ![1024, 512]⟩
abbrev S512x4096 : Shape := ⟨2, ![512, 4096]⟩

abbrev nBuf : Space → Nat
  | .hbm => 4
  | .vmem => 7
  | .smem => 1
  | _ => 0

abbrev bufTy : (tb : Table) → Fin (tcTables nBuf tb) → BufTy
  | .hbm, ⟨0, _⟩ => ⟨S8192x4096, .bf16⟩
  | .hbm, ⟨1, _⟩ => ⟨S2x4096x26688, .f32⟩
  | .hbm, ⟨2, _⟩ => ⟨S2x26688x4096, .f32⟩
  | .hbm, ⟨3, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | .local _ .smem, ⟨0, _⟩ => ⟨S8, .i32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  v1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let v2 : BitVec 32 := v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S8192x4096 : Shape := ⟨2, ![8192, 4096]⟩
abbrev S2x4096x26688 : Shape := ⟨3, ![2, 4096, 26688]⟩
abbrev S1x4096x26688 : Shape := ⟨3, ![1, 4096, 26688]⟩
abbrev S4096x26688 : Shape := ⟨2, ![4096, 26688]⟩
abbrev S8192x26688 : Shape := ⟨2, ![8192, 26688]⟩
abbrev S8192x3072 : Shape := ⟨2, ![8192, 3072]⟩
abbrev S8192x1536 : Shape := ⟨2, ![8192, 1536]⟩
abbrev S8192x4608 : Shape := ⟨2, ![8192, 4608]⟩
abbrev S8192x1024 : Shape := ⟨2, ![8192, 1024]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x26688, .f32⟩
  | .hbm, ⟨2, _⟩ => ⟨S8192x4096, .f32⟩
  | .hbm, ⟨3, _⟩ => ⟨S1x4096x26688, .f32⟩
  | .hbm, ⟨4, _⟩ => ⟨S4096x26688, .f32⟩
  | .hbm, ⟨5, _⟩ => ⟨S8192x26688, .f32⟩
  | .hbm, ⟨6, _⟩ => ⟨S8192x26688, .bf16⟩
  | .hbm, ⟨7, _⟩ => ⟨S8192x3072, .bf16⟩
  | .hbm, ⟨8, _⟩ => ⟨S8192x1536, .bf16⟩
  | .hbm, ⟨9, _⟩ => ⟨S8192x4608, .bf16⟩
  | .hbm, ⟨10, _⟩ => ⟨S8192x1024, .bf16⟩
  | .hbm, ⟨11, _⟩ => ⟨S8192x2048, .bf16⟩
  | .hbm, ⟨12, _⟩ => ⟨S8192x1024, .bf16⟩
  | .hbm, ⟨13, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kernel16.lean ====
abbrev S8192x4096 : Shape := ⟨2, ![8192, 4096]⟩
abbrev S2x4096x26688 : Shape := ⟨3, ![2, 4096, 26688]⟩
abbrev S6 : Shape := ⟨1, ![6]⟩
abbrev S2x26688x4096 : Shape := ⟨3, ![2, 26688, 4096]⟩
abbrev S8192x3072 : Shape := ⟨2, ![8192, 3072]⟩
abbrev S1024x4096 : Shape := ⟨2, ![1024, 4096]⟩
abbrev S1x512x4096 : Shape := ⟨3, ![1, 512, 4096]⟩
abbrev S1 : Shape := ⟨1, ![1]⟩
abbrev S1024x512 : Shape := ⟨2, ![1024, 512]⟩
abbrev S512x4096 : Shape := ⟨2, ![512, 4096]⟩

abbrev nBuf : Space → Nat
  | .hbm => 4
  | .vmem => 7
  | .smem => 1
  | _ => 0

abbrev bufTy : (tb : Table) → Fin (tcTables nBuf tb) → BufTy
  | .hbm, ⟨0, _⟩ => ⟨S8192x4096, .bf16⟩
  | .hbm, ⟨1, _⟩ => ⟨S2x4096x26688, .f32⟩
  | .hbm, ⟨2, _⟩ => ⟨S2x26688x4096, .f32⟩
  | .hbm, ⟨3, _⟩ => ⟨S8192x3072, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | .local _ .smem, ⟨0, _⟩ => ⟨S6, .i32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  v1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S6) ![v0.toNat] S1.size (k0_off1_inb i)) numel1_S1
  let v2 : BitVec 32 := v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S8192x4096 : Shape := ⟨2, ![8192, 4096]⟩
abbrev S2x4096x26688 : Shape := ⟨3, ![2, 4096, 26688]⟩
abbrev S1x4096x26688 : Shape := ⟨3, ![1, 4096, 26688]⟩
abbrev S4096x26688 : Shape := ⟨2, ![4096, 26688]⟩
abbrev S8192x26688 : Shape := ⟨2, ![8192, 26688]⟩
abbrev S8192x3072 : Shape := ⟨2, ![8192, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x26688, .f32⟩
  | .hbm, ⟨2, _⟩ => ⟨S8192x4096, .f32⟩
  | .hbm, ⟨3, _⟩ => ⟨S1x4096x26688, .f32⟩
  | .hbm, ⟨4, _⟩ => ⟨S4096x26688, .f32⟩
  | .hbm, ⟨5, _⟩ => ⟨S8192x26688, .f32⟩
  | .hbm, ⟨6, _⟩ => ⟨S8192x3072, .f32⟩
  | .hbm, ⟨7, _⟩ => ⟨S8192x3072, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel17.lean ====
abbrev S8192x4096 : Shape := ⟨2, ![8192, 4096]⟩
abbrev S2x4096x26688 : Shape := ⟨3, ![2, 4096, 26688]⟩
abbrev S4 : Shape := ⟨1, ![4]⟩
abbrev S2x26688x4096 : Shape := ⟨3, ![2, 26688, 4096]⟩
abbrev S8192x2048 : Shape := ⟨2, ![8192, 2048]⟩
abbrev S1024x4096 : Shape := ⟨2, ![1024, 4096]⟩
abbrev S1x512x4096 : Shape := ⟨3, ![1, 512, 4096]⟩
abbrev S1 : Shape := ⟨1, ![1]⟩
abbrev S1024x512 : Shape := ⟨2, ![1024, 512]⟩
abbrev S512x4096 : Shape := ⟨2, ![512, 4096]⟩

abbrev nBuf : Space → Nat
  | .hbm => 4
  | .vmem => 7
  | .smem => 1
  | _ => 0

abbrev bufTy : (tb : Table) → Fin (tcTables nBuf tb) → BufTy
  | .hbm, ⟨0, _⟩ => ⟨S8192x4096, .bf16⟩
  | .hbm, ⟨1, _⟩ => ⟨S2x4096x26688, .f32⟩
  | .hbm, ⟨2, _⟩ => ⟨S2x26688x4096, .f32⟩
  | .hbm, ⟨3, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | .local _ .smem, ⟨0, _⟩ => ⟨S4, .i32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  v1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let v2 : BitVec 32 := v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S8192x4096 : Shape := ⟨2, ![8192, 4096]⟩
abbrev S2x4096x26688 : Shape := ⟨3, ![2, 4096, 26688]⟩
abbrev S1x4096x26688 : Shape := ⟨3, ![1, 4096, 26688]⟩
abbrev S4096x26688 : Shape := ⟨2, ![4096, 26688]⟩
abbrev S8192x26688 : Shape := ⟨2, ![8192, 26688]⟩
abbrev S8192x3072 : Shape := ⟨2, ![8192, 3072]⟩
abbrev S8192x1536 : Shape := ⟨2, ![8192, 1536]⟩
abbrev S8192x4608 : Shape := ⟨2, ![8192, 4608]⟩
abbrev S8192x512 : Shape := ⟨2, ![8192, 512]⟩
abbrev S8192x1024 : Shape := ⟨2, ![8192, 1024]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x26688, .f32⟩
  | .hbm, ⟨2, _⟩ => ⟨S8192x4096, .f32⟩
  | .hbm, ⟨3, _⟩ => ⟨S1x4096x26688, .f32⟩
  | .hbm, ⟨4, _⟩ => ⟨S4096x26688, .f32⟩
  | .hbm, ⟨5, _⟩ => ⟨S8192x26688, .f32⟩
  | .hbm, ⟨6, _⟩ => ⟨S8192x26688, .bf16⟩
  | .hbm, ⟨7, _⟩ => ⟨S8192x3072, .bf16⟩
  | .hbm, ⟨8, _⟩ => ⟨S8192x1536, .bf16⟩
  | .hbm, ⟨9, _⟩ => ⟨S8192x4608, .bf16⟩
  | .hbm, ⟨10, _⟩ => ⟨S8192x512, .bf16⟩
  | .hbm, ⟨11, _⟩ => ⟨S8192x1024, .bf16⟩
  | .hbm, ⟨12, _⟩ => ⟨S8192x512, .bf16⟩
  | .hbm, ⟨13, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kernel18.lean ====
abbrev S8192x4096 : Shape := ⟨2, ![8192, 4096]⟩
abbrev S2x4096x26688 : Shape := ⟨3, ![2, 4096, 26688]⟩
abbrev S3 : Shape := ⟨1, ![3]⟩
abbrev S2x26688x4096 : Shape := ⟨3, ![2, 26688, 4096]⟩
abbrev S8192x1152 : Shape := ⟨2, ![8192, 1152]⟩
abbrev S1024x4096 : Shape := ⟨2, ![1024, 4096]⟩
abbrev S1x384x4096 : Shape := ⟨3, ![1, 384, 4096]⟩
abbrev S1 : Shape := ⟨1, ![1]⟩
abbrev S1024x384 : Shape := ⟨2, ![1024, 384]⟩
abbrev S384x4096 : Shape := ⟨2, ![384, 4096]⟩

abbrev nBuf : Space → Nat
  | .hbm => 4
  | .vmem => 7
  | .smem => 1
  | _ => 0

abbrev bufTy : (tb : Table) → Fin (tcTables nBuf tb) → BufTy
  | .hbm, ⟨0, _⟩ => ⟨S8192x4096, .bf16⟩
  | .hbm, ⟨1, _⟩ => ⟨S2x4096x26688, .f32⟩
  | .hbm, ⟨2, _⟩ => ⟨S2x26688x4096, .f32⟩
  | .hbm, ⟨3, _⟩ => ⟨S8192x1152, .bf16⟩
  | .local _ .vmem, ⟨0, _⟩ => ⟨S1024x4096, .bf16⟩
  | .local _ .vmem, ⟨1, _⟩ => ⟨S1024x4096, .bf16⟩
  | .local _ .vmem, ⟨2, _⟩ => ⟨S1x384x4096, .f32⟩
  | .local _ .vmem, ⟨3, _⟩ => ⟨S1x384x4096, .f32⟩
  | .local _ .vmem, ⟨4, _⟩ => ⟨S1024x384, .bf16⟩
  | .local _ .vmem, ⟨5, _⟩ => ⟨S1024x384, .bf16⟩
  | .local _ .vmem, ⟨6, _⟩ => ⟨S384x4096, .bf16⟩
  | .local _ .smem, ⟨0, _⟩ => ⟨S3, .i32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  v1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S3) ![v0.toNat] S1.size (k0_off1_inb i)) numel1_S1
  let v2 : BitVec 32 := v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x384x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S8192x4096 : Shape := ⟨2, ![8192, 4096]⟩
abbrev S2x4096x26688 : Shape := ⟨3, ![2, 4096, 26688]⟩
abbrev S1x4096x26688 : Shape := ⟨3, ![1, 4096, 26688]⟩
abbrev S4096x26688 : Shape := ⟨2, ![4096, 26688]⟩
abbrev S8192x26688 : Shape := ⟨2, ![8192, 26688]⟩
abbrev S8192x1152 : Shape := ⟨2, ![8192, 1152]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x26688, .f32⟩
  | .hbm, ⟨2, _⟩ => ⟨S8192x4096, .f32⟩
  | .hbm, ⟨3, _⟩ => ⟨S1x4096x26688, .f32⟩
  | .hbm, ⟨4, _⟩ => ⟨S4096x26688, .f32⟩
  | .hbm, ⟨5, _⟩ => ⟨S8192x26688, .f32⟩
  | .hbm, ⟨6, _⟩ => ⟨S8192x1152, .f32⟩
  | .hbm, ⟨7, _⟩ => ⟨S8192x1152, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel19.lean ====
abbrev S8192x1024 : Shape := ⟨2, ![8192, 1024]⟩
abbrev S8192x512 : Shape := ⟨2, ![8192, 512]⟩
abbrev S2x3584x4096 : Shape := ⟨3, ![2, 3584, 4096]⟩
abbrev S8192x16384 : Shape := ⟨2, ![8192, 16384]⟩
abbrev S8192x4096 : Shape := ⟨2, ![8192, 4096]⟩
abbrev S1024x1024 : Shape := ⟨2, ![1024, 1024]⟩
abbrev S1024x512 : Shape := ⟨2, ![1024, 512]⟩
abbrev S1x1024x512 : Shape := ⟨3, ![1, 1024, 512]⟩
abbrev S1x512x512 : Shape := ⟨3, ![1, 512, 512]⟩
abbrev S512x512 : Shape := ⟨2, ![512, 512]⟩

abbrev nBuf : Space → Nat
  | .hbm => 7
  | .vmem => 30
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x512, .bf16⟩
  | .hbm, ⟨4, _⟩ => ⟨S2x3584x4096, .f32⟩
  | .hbm, ⟨5, _⟩ => ⟨S8192x16384, .bf16⟩
  | .hbm, ⟨6, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1x512x512, .f32⟩
  | .local _ .vmem, ⟨15, _⟩ => ⟨S1x512x512, .f32⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | .local _ .vmem, ⟨26, _⟩ => ⟨S1024x512, .bf16⟩
  | .local _ .vmem, ⟨27, _⟩ => ⟨S1024x512, .bf16⟩
  | .local _ .vmem, ⟨28, _⟩ => ⟨S1024x512, .bf16⟩
  | .local _ .vmem, ⟨29, _⟩ => ⟨S512x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  ![c1_i32.toNat, c1_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c2_i32 : BitVec 32 := 2#32
  let c0_i32 : BitVec 32 := 0#32
  ![c1_i32.toNat, c2_i32.toNat, arg0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c6_i32 : BitVec 32 := 6#32
  let c0_i32 : BitVec 32 := 0#32
  ![c1_i32.toNat, c6_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference19Ideal.lean ====
abbrev S8192x1024 : Shape := ⟨2, ![8192, 1024]⟩
abbrev S8192x512 : Shape := ⟨2, ![8192, 512]⟩
abbrev S2x3584x4096 : Shape := ⟨3, ![2, 3584, 4096]⟩
abbrev S8192x16384 : Shape := ⟨2, ![8192, 16384]⟩
abbrev S_ : Shape := ⟨0, ![]⟩
abbrev S1x3584x4096 : Shape := ⟨3, ![1, 3584, 4096]⟩
abbrev S3584x4096 : Shape := ⟨2, ![3584, 4096]⟩
abbrev S1024x4096 : Shape := ⟨2, ![1024, 4096]⟩
abbrev S512x4096 : Shape := ⟨2, ![512, 4096]⟩
abbrev S8192x4096 : Shape := ⟨2, ![8192, 4096]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x512, .bf16⟩
  | .hbm, ⟨4, _⟩ => ⟨S2x3584x4096, .f32⟩
  | .hbm, ⟨5, _⟩ => ⟨S8192x16384, .bf16⟩
  | .hbm, ⟨6, _⟩ => ⟨S8192x16384, .f32⟩
  | .hbm, ⟨7, _⟩ => ⟨S8192x16384, .f32⟩
  | .hbm, ⟨8, _⟩ => ⟨S8192x16384, .f32⟩
  | .hbm, ⟨9, _⟩ => ⟨S_, .f32⟩
  | .hbm, ⟨10, _⟩ => ⟨S8192x16384, .f32⟩
  | .hbm, ⟨11, _⟩ => ⟨S8192x16384, .f32⟩
  | .hbm, ⟨12, _⟩ => ⟨S_, .f32⟩
  | .hbm, ⟨13, _⟩ => ⟨S8192x16384, .f32⟩
  | .hbm, ⟨14, _⟩ => ⟨S8192x16384, .f32⟩
  | .hbm, ⟨15, _⟩ => ⟨S1x3584x4096, .f32⟩
  | .hbm, ⟨16, _⟩ => ⟨S3584x4096, .f32⟩
  | .hbm, ⟨17, _⟩ => ⟨S1024x4096, .f32⟩
  | .hbm, ⟨18, _⟩ => ⟨S1024x4096, .f32⟩
  | .hbm, ⟨19, _⟩ => ⟨S1024x4096, .f32⟩
  | .hbm, ⟨20, _⟩ => ⟨S512x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x1024, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x1024, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x1024, .f32⟩
  | .hbm, ⟨35, _⟩ => ⟨S8192x4096, .f32⟩
  | .hbm, ⟨36, _⟩ => ⟨S8192x4096, .f32⟩
  | .hbm, ⟨37, _⟩ => ⟨S8192x4096, .f32⟩
  | .hbm, ⟨38, _⟩ => ⟨S8192x4096, .f32⟩
  | .hbm, ⟨39, _⟩ => ⟨S8192x512, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Kernel20.lean ====
abbrev S8192x4096 : Shape := ⟨2, ![8192, 4096]⟩
abbrev S2x4096x4096 : Shape := ⟨3, ![2, 4096, 4096]⟩
abbrev S2x24576 : Shape := ⟨2, ![2, 24576]⟩
abbrev S2x6x4096 : Shape := ⟨3, ![2, 6, 4096]⟩
abbrev S1024x4096 : Shape := ⟨2, ![1024, 4096]⟩
abbrev S1x4096x512 : Shape := ⟨3, ![1, 4096, 512]⟩
abbrev S1024x512 : Shape := ⟨2, ![1024, 512]⟩
abbrev S1x6x512 : Shape := ⟨3, ![1, 6, 512]⟩
abbrev S4096x512 : Shape := ⟨2, ![4096, 512]⟩
abbrev S1x1x512 : Shape := ⟨3, ![1, 1, 512]⟩
abbrev S1x512 : Shape := ⟨2, ![1, 512]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S2x4096x4096, .f32⟩
  | .hbm, ⟨3, _⟩ => ⟨S2x24576, .f32⟩
  | .hbm, ⟨4, _⟩ => ⟨S8192x4096, .f32⟩
  | .hbm, ⟨5, _⟩ => ⟨S2x6x4096, .f32⟩
  | .hbm, ⟨6, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1x6x512, .f32⟩
  | .local _ .vmem, ⟨7, _⟩ => ⟨S1x6x512, .f32⟩
  | .local _ .vmem, ⟨8, _⟩ => ⟨S1024x512, .f32⟩
  | .local _ .vmem, ⟨9, _⟩ => ⟨S1024x512, .f32⟩
  | .local _ .vmem, ⟨10, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference20Ideal.lean ====
abbrev S8192x4096 : Shape := ⟨2, ![8192, 4096]⟩
abbrev S2x4096x4096 : Shape := ⟨3, ![2, 4096, 4096]⟩
abbrev S2x24576 : Shape := ⟨2, ![2, 24576]⟩
abbrev S2x4096 : Shape := ⟨2, ![2, 4096]⟩
abbrev S2x1x4096 : Shape := ⟨3, ![2, 1, 4096]⟩
abbrev S1x4096x4096 : Shape := ⟨3, ![1, 4096, 4096]⟩
abbrev S4096x4096 : Shape := ⟨2, ![4096, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S2x4096x4096, .f32⟩
  | .hbm, ⟨3, _⟩ => ⟨S2x24576, .f32⟩
  | .hbm, ⟨4, _⟩ => ⟨S2x4096, .f32⟩
  | .hbm, ⟨5, _⟩ => ⟨S2x4096, .f32⟩
  | .hbm, ⟨6, _⟩ => ⟨S2x4096, .f32⟩
  | .hbm, ⟨7, _⟩ => ⟨S2x4096, .f32⟩
  | .hbm, ⟨8, _⟩ => ⟨S2x4096, .f32⟩
  | .hbm, ⟨9, _⟩ => ⟨S2x4096, .f32⟩
  | .hbm, ⟨10, _⟩ => ⟨S2x1x4096, .f32⟩
  | .hbm, ⟨11, _⟩ => ⟨S8192x4096, .f32⟩
  | .hbm, ⟨12, _⟩ => ⟨S1x4096x4096, .f32⟩
  | .hbm, ⟨13, _⟩ => ⟨S4096x4096, .f32⟩
  | .hbm, ⟨14, _⟩ => ⟨S8192x4096, .f32⟩
  | .hbm, ⟨15, _⟩ => ⟨S2x4096x4096, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel21.lean ====
abbrev S8192x4096 : Shape := ⟨2, ![8192, 4096]⟩
abbrev S2x4096x1024 : Shape := ⟨3, ![2, 4096, 1024]⟩
abbrev S8192x1024 : Shape := ⟨2, ![8192, 1024]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 4
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S2x4096x1024, .f32⟩
  | .hbm, ⟨2, _⟩ => ⟨S2x4096x1024, .f32⟩
  | .hbm, ⟨3, _⟩ => ⟨S8192x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1024x256, .bf16⟩
  | .local _ .vmem, ⟨7, _⟩ => ⟨S1024x256, .bf16⟩
  | .local _ .vmem, ⟨8, _⟩ => ⟨S4096x256, .bf16⟩
  | .local _ .vmem, ⟨9, _⟩ => ⟨S4096x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference21Ideal.lean ====
abbrev S8192x4096 : Shape := ⟨2, ![8192, 4096]⟩
abbrev S2x4096x1024 : Shape := ⟨3, ![2, 4096, 1024]⟩
abbrev S1x4096x1024 : Shape := ⟨3, ![1, 4096, 1024]⟩
abbrev S4096x1024 : Shape := ⟨2, ![4096, 1024]⟩
abbrev S8192x1024 : Shape := ⟨2, ![8192, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x1024, .f32⟩
  | .hbm, ⟨2, _⟩ => ⟨S2x4096x1024, .f32⟩
  | .hbm, ⟨3, _⟩ => ⟨S8192x4096, .f32⟩
  | .hbm, ⟨4, _⟩ => ⟨S1x4096x1024, .f32⟩
  | .hbm, ⟨5, _⟩ => ⟨S4096x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S1x4096x1024, .f32⟩
  | .hbm, ⟨17, _⟩ => ⟨S4096x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel22.lean ====
abbrev S8192x1024 : Shape := ⟨2, ![8192, 1024]⟩
abbrev S2x1024x4096 : Shape := ⟨3, ![2, 1024, 4096]⟩
abbrev S8192x4096 : Shape := ⟨2, ![8192, 4096]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x1024x4096, .f32⟩
  | .hbm, ⟨2, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference22Ideal.lean ====
abbrev S8192x1024 : Shape := ⟨2, ![8192, 1024]⟩
abbrev S2x1024x4096 : Shape := ⟨3, ![2, 1024, 4096]⟩
abbrev S1x1024x4096 : Shape := ⟨3, ![1, 1024, 4096]⟩
abbrev S1024x4096 : Shape := ⟨2, ![1024, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x4096, .f32⟩
  | .hbm, ⟨2, _⟩ => ⟨S8192x1024, .f32⟩
  | .hbm, ⟨3, _⟩ => ⟨S1x1024x4096, .f32⟩
  | .hbm, ⟨4, _⟩ => ⟨S1024x4096, .f32⟩
  | .hbm, ⟨5, _⟩ => ⟨S8192x4096, .f32⟩
  | .hbm, ⟨6, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Dense.lean ====
/-
  Products at an entry: the kernel's products of a block of rows with a tile of weights, the host's products with one layer of
  stacked weights, and the leading unit axis of a block of weights dropped. Shared by the calls that multiply.
-/
module

public import Idealize.ShloMosaic.Lib.StackMember
public import Idealize.ShloMosaic.Lib.MatmulPlain
public import Idealize.ShloMosaic.Lib.Pipeline.Value
public import Idealize.ShloMosaic.PureOps.Ideal

@[expose] public section

noncomputable section

namespace Cert.Proof.Dense

open Idealize.ShloMosaic Idealize.ShloMosaic.ValueIdx

/-- A matrix of `r` rows and `c` columns. -/
abbrev Mat (r c : ℕ) : Shape := ⟨2, ![r, c]⟩

/-- `n` matrices stacked. -/
abbrev Stack (n r c : ℕ) : Shape := ⟨3, ![n, r, c]⟩

/-- The product of a block of rows with a tile of weights, at an entry. -/
theorem product (m k n : ℕ) (a : FVec Ideal (Mat m k) .bf16) (b : FVec Ideal (Mat k n) .bf16) (y : (Mat m n).Idx) :
    FloatOps.matmul (F := Ideal) (φ₁ := .bf16) (φ₂ := .bf16) (DotDims.plain m k n) none a b
      (constant (Mat m n) .f32 0x00000000#32) y = ∑ e : Fin k, (a (ix2 (y 0) e) * b (ix2 e (y 1)) : EReal) := by
  obtain ⟨p, q, rfl⟩ : ∃ (p : Fin m) (q : Fin n), y = ix2 p q := ⟨y 0, y 1, eq_ix2 y⟩
  refine (Ideal.matmul_plain_apply none a b _ p q).trans ?_
  show Ideal.ofBits .f32 0x00000000#32 + _ = _
  rw [Ideal.ofBits_zero_f32, zero_add]
  rfl

/-- The product of a block of rows with a tile of weights held row by row, at an entry. -/
theorem product_transposed (m k n : ℕ) (a : FVec Ideal (Mat m k) .bf16) (b : FVec Ideal (Mat n k) .bf16) (y : (Mat m n).Idx) :
    FloatOps.matmul (F := Ideal) (φ₁ := .bf16) (φ₂ := .bf16) (DotDims.transposedRhs m k n) none a b
      (constant (Mat m n) .f32 0x00000000#32) y = ∑ e : Fin k, (a (ix2 (y 0) e) * b (ix2 (y 1) e) : EReal) := by
  obtain ⟨p, q, rfl⟩ : ∃ (p : Fin m) (q : Fin n), y = ix2 p q := ⟨y 0, y 1, eq_ix2 y⟩
  refine (Ideal.matmul_transposedRhs_apply none a b _ p q).trans ?_
  show Ideal.ofBits .f32 0x00000000#32 + _ = _
  rw [Ideal.ofBits_zero_f32, zero_add]
  rfl

/-- A block with its leading unit axis dropped. -/
theorem drop_unit {φ : FTy} (r c : ℕ) (v : FVec Ideal (Stack 1 r c) φ) (hc) (y : (Mat r c).Idx) :
    shapeCast (Mat r c) v hc y = v (ix3 0 (y 0) (y 1)) := by
  refine (shapeCast_dropUnit_apply ![r, c] v _ y).trans (congrArg v ?_)
  funext a
  match a with
  | ⟨0, _⟩ => rfl
  | ⟨1, _⟩ => rfl
  | ⟨2, _⟩ => rfl

/-- The first matrix of a stack, at an entry. -/
theorem first_layer {φ : FTy} (l r c : ℕ) (w : FVec Ideal (Stack (l + 1) r c) φ) (hs) (hc) (p : Fin r) (q : Fin c) :
    shapeCast (Mat r c) (extractStridedSlice (Stack 1 r c) ![0, 0, 0] w hs) hc (ix2 p q) = w (ix3 0 p q) := by
  refine (drop_unit r c _ hc (ix2 p q)).trans (congrArg w ?_)
  funext a
  match a with
  | ⟨0, _⟩ => rfl
  | ⟨1, _⟩ => exact Fin.ext (Nat.zero_add _)
  | ⟨2, _⟩ => exact Fin.ext (Nat.zero_add _)

/-- The host's product of widened rows with a matrix, at an entry. -/
theorem host_product (m k n : ℕ) (a : FVec Ideal (Mat m k) .bf16) (b : FVec Ideal (Mat k n) .f32) (hb) (p : Fin m) (q : Fin n) :
    (Host.dotGeneral (F := Ideal) (DotDims.plain m k n) none (extf .f32 a hb) b : FVec Ideal (Mat m n) .f32) (ix2 p q)
      = ∑ e : Fin k, (a (ix2 p e) * b (ix2 e q) : EReal) :=
  Idealize.ShloMosaic.StackMember.dotGeneral_plain_apply (φ₁ := .f32) (φ₂ := .f32) (m := m) (n := n) none _ _ p q

/-- The host's product of widened rows with the first layer of stacked weights, at an entry. -/
theorem host_layer (l m k n : ℕ) (a : FVec Ideal (Mat m k) .bf16) (w : FVec Ideal (Stack (l + 1) k n) .f32) (hb) (hs) (hc)
    (p : Fin m) (q : Fin n) :
    (Host.dotGeneral (F := Ideal) (DotDims.plain m k n) none (extf .f32 a hb)
      (shapeCast (Mat k n) (extractStridedSlice (Stack 1 k n) ![0, 0, 0] w hs) hc) : FVec Ideal (Mat m n) .f32) (ix2 p q)
      = ∑ e : Fin k, (a (ix2 p e) * w (ix3 0 e q) : EReal) :=
  (host_product m k n a _ hb p q).trans
    (Finset.sum_congr rfl fun e _ => congrArg (fun b : EReal => a (ix2 p e) * b) (first_layer l k n w hs hc e q))

end Cert.Proof.Dense

end
-- ==== Proof.InProj.lean ====
/-
  The combined input projection at an entry: the product of the normalised activations with the first layer's weights, as the
  sum over the 4096 features, and the host's product read as that sum. Shared by the five calls of the projection kernel.
-/
module

public import proofs.«01_k».proof.Proof.Dense

@[expose] public section

noncomputable section

namespace Cert.Proof.InProj

open Idealize.ShloMosaic Idealize.ShloMosaic.ValueIdx Cert.Proof.Dense

/-- The activations' shape, the stacked weights', and the whole projection's. -/
abbrev Acts : Shape := Mat 8192 4096
abbrev Weights : Shape := Stack 2 4096 26688
abbrev Whole : Shape := Mat 8192 26688

/-- Entry `(p, q)` of the projection: row `p` of the activations against column `q` of the first layer's weights. -/
def entry (h : FVec Ideal Acts .bf16) (w : FVec Ideal Weights .f32) (p : Fin 8192) (q : Fin 26688) : EReal :=
  ∑ k : Fin 4096, (h (ix2 p k) * w (ix3 0 k q) : EReal)

/-- The host's product of the widened activations with the first layer's weights, at an entry. -/
theorem host_entry (h : FVec Ideal Acts .bf16) (w : FVec Ideal Weights .f32) (hb) (hs) (hc) (p : Fin 8192) (q : Fin 26688) :
    (Host.dotGeneral (F := Ideal) (DotDims.plain 8192 4096 26688) none (extf .f32 h hb)
      (shapeCast (Mat 4096 26688) (extractStridedSlice (Stack 1 4096 26688) ![0, 0, 0] w hs) hc) : FVec Ideal Whole .f32) (ix2 p q)
      = entry h w p q :=
  host_layer 1 8192 4096 26688 h w hb hs hc p q

/-- A range of a range of the rounded projection's columns, at an entry. -/
theorem range_entry (o₁ o₂ n₁ n₂ : ℕ) (h : FVec Ideal Acts .bf16) (w : FVec Ideal Weights .f32) (hb) (hs) (hc) (ht) (h₁) (h₂)
    (p : Fin 8192) (r : Fin n₂) (q : Fin 26688) (hq : o₁ + (o₂ + r.val) = q.val) :
    extractStridedSlice (Mat 8192 n₂) ![0, o₂] (extractStridedSlice (Mat 8192 n₁) ![0, o₁]
      (truncf .bf16 (Host.dotGeneral (F := Ideal) (DotDims.plain 8192 4096 26688) none (extf .f32 h hb)
        (shapeCast (Mat 4096 26688) (extractStridedSlice (Stack 1 4096 26688) ![0, 0, 0] w hs) hc) : FVec Ideal Whole .f32) ht) h₁) h₂
        (ix2 p r)
      = entry h w p q := by
  refine Eq.trans ?_ (host_entry h w hb hs hc p q)
  refine congrArg (Host.dotGeneral (F := Ideal) (DotDims.plain 8192 4096 26688) none _ _ : FVec Ideal Whole .f32) ?_
  funext a
  match a with
  | ⟨0, _⟩ => exact Fin.ext (by show 0 + (0 + p.val) = p.val; omega)
  | ⟨1, _⟩ => exact Fin.ext hq

end Cert.Proof.InProj

end
-- ==== Proof.Gates.lean ====
/-
  The call of the projection kernel that makes the gates: where its tiles of weights begin, what each grid point writes,
  and the result array after the run.
-/
module

public import proofs.«01_k».proof.Proof.Gen.KernelIdeal.Frame
public import proofs.«01_k».proof.Proof.InProj
public import Idealize.ShloMosaic.Lib.Pipeline.Value
public import Idealize.ShloMosaic.Lib.Pipeline.ValueKit.Geometry
public import Idealize.ShloMosaic.Lib.Pipeline.ValueKit.Acc

@[expose] public section

noncomputable section

namespace Cert.Proof.Gates

open Idealize.ShloMosaic Idealize.ShloMosaic.TcCoe Idealize.SL.Sem
open Cert.KernelIdeal Cert.KernelIdeal.Gen Idealize.ShloMosaic.ValueIdx

variable {F : FTy → Type} [FloatOps F]
variable (m : (ℓ : Loc nD τ sig) → Buf (Elt F) ℓ)

/-! ## The table -/

/-- The word the table holds at entry `x`. -/
theorem table_apply (x : S32.Idx) : tbl m 0 x = lit0 (S32.rowMajor x) := by
  show StableHlo.after hostOps0 (fun b => m ((0 : Dev nD), b)) (Proc.devRef .tc main_c) x = _
  unfold hostOps0
  after_results

/-- The first column of tile `n`. -/
def start (n : ℕ) : ℕ := 10304 + 512 * n

/-- Every word is a multiple of 64. -/
theorem words_aligned : ∀ j : Fin 32, (64 : Int) ∣ (lit0 j).toInt := by decide

/-- The words are the first columns of the tiles. -/
theorem words_eq : ∀ j : Fin 32, (lit0 j).toNat = start j.val := by decide

/-- A tile lies inside the weights. -/
theorem start_le (n : ℕ) (h : n < 32) : start n + 512 ≤ 26688 :=
  (by decide : ∀ j : Fin 32, start j.val + 512 ≤ 26688) ⟨n, h⟩

theorem table_toNat (x : S32.Idx) : (tbl m 0 x : BitVec 32).toNat = start (x 0).val := by
  have e := (congrArg BitVec.toNat (table_apply m x)).trans (words_eq (S32.rowMajor x))
  exact e.trans (congrArg start (Shape.rowMajor_val_one x))

theorem table_aligned (x : S32.Idx) : (64 : Int) ∣ (tbl m 0 x : BitVec 32).toInt := by
  have e := congrArg BitVec.toInt (table_apply m x)
  exact e ▸ words_aligned _

/-- Where the weights' window begins at the grid point `i`. -/
theorem offset_eq (i : grid0.Coords) :
    cc0_transform_1 k0_off1_inb numel1_S1 (tbl m) i = ![0, start (i 0).val, 0] := by
  unfold cc0_transform_1
  funext a
  match a with
  | ⟨0, _⟩ => rfl
  | ⟨1, _⟩ =>
    refine (table_toNat m _).trans (congrArg start ?_)
    have h : (i 0).val < 32 := (i 0).isLt
    show (BitVec.ofNat 32 (i 0).val).toNat + 1 * 0 = (i 0).val
    rw [BitVec.toNat_ofNat, Nat.mod_eq_of_lt (by omega)]
    omega
  | ⟨2, _⟩ => rfl

/-- The table the host writes is admissible: every window is aligned and inside the weights. -/
theorem ok : Ok m := by
  refine ⟨fun i => ?_, fun i => ⟨fun a => ?_, Or.inl rfl⟩⟩
  · unfold k0_mult1
    dsimp only [Pipeline.Prefetch.Contents.atD]
    split
    · exact table_aligned m _
    · exact ⟨0, rfl⟩
  · rw [offset_eq]
    have h := start_le (i 0).val (i 0).isLt
    match a with
    | ⟨0, _⟩ => show 0 + 1 ≤ 2; omega
    | ⟨1, _⟩ => exact h
    | ⟨2, _⟩ => show 0 + 4096 ≤ 4096; omega

/-! ## One grid point -/

section Cases
variable (c : Dev nD) (i : grid0.Coords) (a3 : Memref sig .tc .vmem S1024x4096 .bf16) (h3 : a3.IsWhole)
  (a4 : Memref sig .tc .vmem S1x512x4096 .f32) (h4 : a4.IsWhole) (a5 : Memref sig .tc .vmem S1024x512 .bf16) (h5 : a5.IsWhole)
  (a6 : Memref sig .tc .vmem S512x4096 .bf16) (h6 : a6.IsWhole)
  (x0 : Vec F S1024x4096 .bf16) (x1 : Vec F S1x512x4096 .f32) (xt : TbBuf0 (F := F) c tbM0_0) (xs : Vec F S512x4096 .bf16)

theorem first_out (hc : cond0_0 i) : out0_A_2 c i a3 h3 a4 h4 a5 h5 a6 h6 hc x0 x1 xt = k0_pay2 x0 (k0_pay1 x1) := by
  frame_out

theorem first_kept (hc : cond0_0 i) : sout0_A_0 c i a3 h3 a4 h4 a5 h5 a6 h6 hc x0 x1 xt = k0_pay1 x1 := by
  frame_out

theorem later_out (hc : ¬cond0_0 i) : out0_B_2 c i a3 h3 a4 h4 a5 h5 a6 h6 hc x0 x1 xt xs = k0_pay2 x0 xs := by
  frame_out

end Cases

/-- The point `t` is at column tile `t / 8` and row tile `t % 8`. -/
theorem point0 (t : Fin grid0.N) : (grid0.coords t 0).val = t.val / 8 := by
  have ht : t.val < 256 := Nat.lt_of_lt_of_eq t.isLt N_0
  rw [show (grid0.coords t 0).val = t.val / 8 % 32 from Pipeline.Grid.coords_val t 0 (by decide) rfl]
  omega

theorem point1 (t : Fin grid0.N) : (grid0.coords t 1).val = t.val % 8 := by
  rw [show (grid0.coords t 1).val = t.val / 1 % 8 from Pipeline.Grid.coords_val t 1 (by decide) rfl]
  omega

/-- The weights the call reads are the argument with its last two axes exchanged. -/
theorem V_weights (c : Dev nD) :
    V m c main_v0 = transpose S2x26688x4096 [0, 2, 1] (m ((c : Thread nD τ).loc main_arg1)) transposes_S2x4096x26688_S2x26688x4096_0_2_1 := by
  show StableHlo.after hostOps0 (fun b => m (c, b)) (Proc.devRef .tc main_v0) = _
  unfold hostOps0
  after_results

/-- The block of activations at an entry. -/
theorem rows_apply (hO : Ok m) (c : Dev nD) (t : Fin (cfgM m hO).N) (y : S1024x4096.Idx) (z : S8192x4096.Idx)
    (hz0 : (z 0).val = t.val % 8 * 1024 + (y 0).val) (hz1 : (z 1).val = (y 1).val) :
    iblk m hO c 0 t y = m ((c : Thread nD τ).loc main_arg0) z := by
  show V m c main_arg0 ((((cfgM m hO).win 0).blk t).view.emb y) = _
  rw [V_main_arg0]
  refine congrArg _ (funext fun a => Fin.ext ?_)
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show 0 * 4096 + 1 * (y 1).val = (z 1).val
    omega

/-- The block of weights at an entry, in the argument's own order. -/
theorem cols_apply (hO : Ok m) (c : Dev nD) (t : Fin (cfgM m hO).N) (y : S1x512x4096.Idx) (z : S2x4096x26688.Idx)
    (hz0 : (z 0).val = 0) (hz1 : (z 1).val = (y 2).val) (hz2 : (z 2).val = start (t.val / 8) + (y 1).val) :
    iblk m hO c 1 t y = m ((c : Thread nD τ).loc main_arg1) z := by
  show V m c main_v0 ((((cfgM m hO).win 1).blk t).view.emb y) = _
  rw [V_weights]
  unfold transpose
  refine congrArg (m ((c : Thread nD τ).loc main_arg1)) (funext fun a => Fin.ext ?_)
  have h0 := point0 t
  have ho := offset_eq m (grid0.coords t)
  match a with
  | ⟨0, _⟩ =>
    show 0 + 1 * (y 0).val = (z 0).val
    have : (y 0).val < 1 := (y 0).isLt
    omega
  | ⟨1, _⟩ =>
    show cc0_transform_1 k0_off1_inb numel1_S1 (tbl m) (grid0.coords t) 2 + 1 * (y 2).val = (z 1).val
    rw [ho]
    show 0 + 1 * (y 2).val = (z 1).val
    omega
  | ⟨2, _⟩ =>
    show cc0_transform_1 k0_off1_inb numel1_S1 (tbl m) (grid0.coords t) 1 + 1 * (y 1).val = (z 2).val
    rw [ho]
    show start (grid0.coords t 0).val + 1 * (y 1).val = (z 2).val
    rw [h0]
    omega

/-- At the first point of a column tile: the tile is cast and kept, and the product is taken with it. -/
theorem at_first (hO : Ok m) (c : Dev nD) (t : Fin (cfgM m hO).N) (h0 : t.val % 8 = 0) :
    outsAt0 m hO c t.val t.isLt = (k0_pay2 (iblk m hO c 0 t) (k0_pay1 (iblk m hO c 1 t)), k0_pay1 (iblk m hO c 1 t)) :=
  (outsAt0_A m hO c t h0).trans (congrArg₂ Prod.mk
    (first_out c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) ((hcond0_0 t).mpr h0))
    (first_kept c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) ((hcond0_0 t).mpr h0)))

/-- What was kept before point `t`. -/
abbrev before (hO : Ok m) (c : Dev nD) (t : Fin (cfgM m hO).N) : Vec F S512x4096 .bf16 :=
  (outsAt0 m hO c (t.val - 1) (Nat.lt_of_le_of_lt (Nat.sub_le _ _) t.isLt)).2

/-- At a later point of the tile: the kept tile stays, and the product is taken with it. -/
theorem at_later (hO : Ok m) (c : Dev nD) (t : Fin (cfgM m hO).N) (h0 : ¬t.val % 8 = 0) :
    outsAt0 m hO c t.val t.isLt = (k0_pay2 (iblk m hO c 0 t) (before m hO c t), before m hO c t) :=
  (outsAt0_B m hO c t h0).trans (congrArg₂ Prod.mk
    (later_out c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) (before m hO c t) (fun h => h0 ((hcond0_0 t).mp h)))
    rfl)

/-- What a point writes is the product of its rows with the kept tile. -/
theorem out_eq (hO : Ok m) (c : Dev nD) (t : Fin (cfgM m hO).N) :
    (outsAt0 m hO c t.val t.isLt).1 = k0_pay2 (iblk m hO c 0 t) (outsAt0 m hO c t.val t.isLt).2 := by
  by_cases h0 : t.val % 8 = 0
  · rw [at_first m hO c t h0]
  · rw [at_later m hO c t h0]

/-! ## Over the reals -/

section Values
variable (μ : (ℓ : Loc nD τ sig) → Buf (Elt Ideal) ℓ)

theorem kept_payload (v : Vec Ideal S1x512x4096 .f32) (y : S512x4096.Idx) :
    k0_pay1 v y = v (ix3 0 (y 0) (y 1)) := by
  unfold k0_pay1
  rw [shapeCast_self]
  exact Dense.drop_unit 512 4096 v _ y

theorem out_payload (a : Vec Ideal S1024x4096 .bf16) (b : Vec Ideal S512x4096 .bf16) (y : S1024x512.Idx) :
    k0_pay2 a b y = ∑ k : Fin 4096, (a (ix2 (y 0) k) * b (ix2 (y 1) k) : EReal) := by
  unfold k0_pay2
  exact Dense.product_transposed 1024 4096 512 a b y

/-- The kept tile after point `n`: the weights of the tile's columns, row by row. -/
theorem kept_apply (hO : Ok μ) (c : Dev nD) : ∀ (n : ℕ) (hn : n < (cfgM μ hO).N) (y : S512x4096.Idx) (z : S2x4096x26688.Idx),
    (z 0).val = 0 → (z 1).val = (y 1).val → (z 2).val = start (n / 8) + (y 0).val →
    (outsAt0 μ hO c n hn).2 y = μ ((c : Thread nD τ).loc main_arg1) z := by
  intro n
  induction n with
  | zero =>
    intro hn y z z0 z1 z2
    refine (congrFun (congrArg Prod.snd (at_first μ hO c ⟨0, hn⟩ rfl)) y).trans ((kept_payload (iblk μ hO c 1 ⟨0, hn⟩) y).trans ?_)
    exact cols_apply μ hO c ⟨0, hn⟩ _ z z0 z1 z2
  | succ n ih =>
    intro hn y z z0 z1 z2
    by_cases h0 : (n + 1) % 8 = 0
    · refine (congrFun (congrArg Prod.snd (at_first μ hO c ⟨n + 1, hn⟩ h0)) y).trans ((kept_payload (iblk μ hO c 1 ⟨n + 1, hn⟩) y).trans ?_)
      exact cols_apply μ hO c ⟨n + 1, hn⟩ _ z z0 z1 z2
    · refine (congrFun (congrArg Prod.snd (at_later μ hO c ⟨n + 1, hn⟩ h0)) y).trans ?_
      refine ih (Nat.lt_of_succ_lt hn) y z z0 z1 (z2.trans ?_)
      rw [show (n + 1) / 8 = n / 8 by omega]

end Values

/-- The column of the weights that column `q` of the result is made with. -/
def column (q : Fin 16384) : Fin 26688 :=
  ⟨start (q.val / 512) + q.val % 512, by have := q.isLt; have := start_le (q.val / 512) (by omega); omega⟩

/-- The product of the activations with the chosen columns of the first layer's weights. -/
def G (h : FVec Ideal S8192x4096 .bf16) (w : FVec Ideal S2x4096x26688 .f32) : FVec Ideal S8192x16384 .bf16 :=
  fun y => InProj.entry h w (y 0) (column (y 1))

theorem written (μ : (ℓ : Loc nD τ sig) → Buf (Elt Ideal) ℓ) (hO : Ok μ) (c : Dev nD) (t : Fin (cfgM μ hO).N) (y : S1024x512.Idx)
    (z : S8192x16384.Idx) (h0 : (z 0).val = t.val % 8 * 1024 + (y 0).val) (h1 : (z 1).val = t.val / 8 * 512 + (y 1).val) :
    (outsAt0 μ hO c t.val t.isLt).1 y = G (μ ((c : Thread nD τ).loc main_arg0)) (μ ((c : Thread nD τ).loc main_arg1)) z := by
  unfold G InProj.entry
  rw [out_eq]
  refine (out_payload _ _ _).trans (Finset.sum_congr rfl fun k _ => ?_)
  have hy1 : (y 1).val < 512 := (y 1).isLt
  refine congrArg₂ (fun a b : EReal => a * b) (rows_apply μ hO c t _ _ h0 rfl) (kept_apply μ hO c t.val t.isLt _ _ rfl rfl ?_)
  show start ((z 1).val / 512) + (z 1).val % 512 = start (t.val / 8) + (y 1).val
  rw [h1, show (t.val / 8 * 512 + (y 1).val) / 512 = t.val / 8 by omega, show (t.val / 8 * 512 + (y 1).val) % 512 = (y 1).val by omega]

/-- The result array after the run. -/
theorem final (μ : (ℓ : Loc nD τ sig) → Buf (Elt Ideal) ℓ) (hO : Ok μ) (c : Dev nD) :
    (dats μ hO 0 c).arrAt 2 (cfgM μ hO).N = G (μ ((c : Thread nD τ).loc main_arg0)) (μ ((c : Thread nD τ).loc main_arg1)) := by
  refine (dats μ hO 0 c).arrAt_eq_of_covers 2 _ ?_ fun t hf (y : S1024x512.Idx) => ?_
  · exact of_decide_eq_true (by sl_kernel_rfl)
  · refine (congrFun (after0_2 μ hO c t) y).trans (written μ hO c t y _ ?_ ?_)
    · show (BitVec.ofNat 32 (grid0.coords t 1).val).toNat * 1024 + 1 * (y 0).val = _
      rw [BitVec.toNat_ofNat, point1, Nat.mod_eq_of_lt (by omega)]
      omega
    · have ht : t.val < 256 := Nat.lt_of_lt_of_eq t.isLt N_0
      show (BitVec.ofNat 32 (grid0.coords t 0).val).toNat * 512 + 1 * (y 1).val = _
      rw [BitVec.toNat_ofNat, point0, Nat.mod_eq_of_lt (by omega)]
      omega

/-- The run: the result array holds the product, the arguments end unchanged. -/
theorem run (μ : (ℓ : Loc nD τ sig) → Buf (Elt Ideal) ℓ) (ρ : Dev nD → PrngReg) :
    θ_run (defs (F := Ideal)) (onTc (τ := τ) (main (F := Ideal))) ⟨μ, fun _ => 0, ρ⟩ (fun r => ∀ c : Dev nD,
      r.2.mem ((c.tc : Thread nD τ).loc main_v1) = G (μ ((c.tc : Thread nD τ).loc main_arg0)) (μ ((c.tc : Thread nD τ).loc main_arg1))
      ∧ r.2.mem ((c.tc : Thread nD τ).loc main_arg0) = μ ((c.tc : Thread nD τ).loc main_arg0)
      ∧ r.2.mem ((c.tc : Thread nD τ).loc main_arg1) = μ ((c.tc : Thread nD τ).loc main_arg1)) := by
  refine (θ_run defs _ _).mono (fun r h c => ?_) (run_main μ ρ (ok μ))
  exact ⟨((h c).1 2).trans (final μ (ok μ) c),
    ((h c).1 0).trans (((dats μ (ok μ) 0 c).arrAt_in 0 rfl _).trans ((A_eq μ (ok μ) c 0).trans (V_main_arg0 μ c))),
    ((h c).2 main_arg1 (by decide : main_arg1 ∈ Pipeline.restRefs sig spec0)).trans (V_main_arg1 μ c)⟩

end Cert.Proof.Gates

end
-- ==== Proof.GatesReference.lean ====
/-
  The gates of the reference: the last 16384 columns of the projection, entry by entry what the kernel's call leaves.
-/
module

public import proofs.«01_k».proof.Proof.Gates
public import proofs.«01_k».proof.Proof.Gen.ReferenceIdeal.Run

@[expose] public section

noncomputable section

namespace Cert.Proof.Gates

open Idealize.ShloMosaic Idealize.ShloMosaic.TcCoe Idealize.SL.Sem
open Cert.ReferenceIdeal Cert.ReferenceIdeal.Gen Idealize.ShloMosaic.ValueIdx

/-- The reference's run, at the value the kernel's run ends with. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨(h c).1.trans ?_, (h c).2⟩) (Cert.ReferenceIdeal.Value.run (F := Ideal) m ρ)
  funext y
  obtain ⟨p, q, rfl⟩ : ∃ (p : Fin 8192) (q : Fin 16384), y = ix2 p q := ⟨y 0, y 1, eq_ix2 y⟩
  refine Eq.trans ?_ ((InProj.host_entry (m ((c.tc : Thread nD τ).loc main_arg0)) (m ((c.tc : Thread nD τ).loc main_arg1)) bitsLt_bf16_f32
    slices_S2x4096x26688_S1x4096x26688_0_0_0 shapeCasts_S1x4096x26688_S4096x26688 p (column q)))
  refine congrArg (Host.dotGeneral (F := Ideal) (DotDims.plain 8192 4096 26688) none _ _ : FVec Ideal InProj.Whole .f32) ?_
  funext a
  match a with
  | ⟨0, _⟩ => exact Fin.ext (Nat.zero_add _)
  | ⟨1, _⟩ => exact Fin.ext (by show 10304 + q.val = 10304 + 512 * (q.val / 512) + q.val % 512; omega)

end Cert.Proof.Gates

end
-- ==== Proof.GatesClaims.lean ====
/-
  The claims about the call that makes the gates: both programs' frames from one run, and the value.
-/
module

public import proofs.«01_k».proof.Defs
public import proofs.«01_k».proof.Proof.GatesReference
public import proofs.«01_k».proof.Proof.Gen.Kernel

@[expose] public section

noncomputable section

namespace Cert.Proof.Gates

open Idealize.ShloMosaic Idealize.SL.Sem

section Same
variable {F : FTy → Type} [FloatOps F]

/-- The program as printed and the program read over the reals have one text: one set of bodies. -/
theorem bodies_eq : Cert.Kernel.defs₀ (F := F) = Cert.KernelIdeal.defs₀ (F := F) := by
  unfold Cert.Kernel.defs₀ Cert.KernelIdeal.defs₀
  refine congrArg Defs.onTc (funext fun l => ?_)
  match l with
  | 0 => rfl

theorem defs_eq : Cert.Kernel.defs (F := F) = Cert.KernelIdeal.defs (F := F) := by
  unfold Cert.Kernel.defs Cert.KernelIdeal.defs
  exact congrArg _ bodies_eq

end Same

theorem frame : Cert.quiescent_Kernel := fun m ρ _ => by
  rw [defs_eq]
  exact Cert.KernelIdeal.Gen.frame (F := Bits) m ρ (ok m)

theorem frame_ideal : Cert.quiescent_KernelIdeal := fun m ρ _ =>
  Cert.KernelIdeal.Gen.frame (F := Ideal) m ρ (ok m)

theorem frame_reference : Cert.quiescent_ReferenceIdeal := fun m ρ _ =>
  (θ_run _ _ _).mono (fun r h => ⟨fun c => (h c).2, Idealize.ShloMosaic.sem_eq_zero_of_no_sems (by decide) r.2⟩) (reference_run m ρ)

theorem algebraic : Cert.algebraic_KernelIdeal_ReferenceIdeal := by
  intro m ρ m' ρ' _ hargs
  refine ⟨fun c => G (m ((c.tc : Thread _ _).loc Cert.KernelIdeal.main_arg0)) (m ((c.tc : Thread _ _).loc Cert.KernelIdeal.main_arg1)), ?_, ?_⟩
  · exact run m ρ
  · refine (θ_run _ _ _).mono (fun r h c => ⟨(h c).1.trans ?_, (h c).2⟩) (reference_run m' ρ')
    exact congrArg₂ G (hargs c).1 (hargs c).2

end Cert.Proof.Gates

end
-- ==== Proof.Rotary.lean ====
/-
  The call of the projection kernel that makes the parts that are rotated: where its tiles of weights begin, what each grid point writes,
  and the result array after the run.
-/
module

public import proofs.«01_k».proof.Proof.Gen.Kernel2Ideal.Frame
public import proofs.«01_k».proof.Proof.InProj
public import Idealize.ShloMosaic.Lib.Pipeline.Value
public import Idealize.ShloMosaic.Lib.Pipeline.ValueKit.Geometry
public import Idealize.ShloMosaic.Lib.Pipeline.ValueKit.Acc

@[expose] public section

noncomputable section

namespace Cert.Proof.Rotary

open Idealize.ShloMosaic Idealize.ShloMosaic.TcCoe Idealize.SL.Sem
open Cert.Kernel2Ideal Cert.Kernel2Ideal.Gen Idealize.ShloMosaic.ValueIdx

variable {F : FTy → Type} [FloatOps F]
variable (m : (ℓ : Loc nD τ sig) → Buf (Elt F) ℓ)

/-! ## The table -/

/-- The word the table holds at entry `x`. -/
theorem table_apply (x : S8.Idx) : tbl m 0 x = lit0 (S8.rowMajor x) := by
  show StableHlo.after hostOps0 (fun b => m ((0 : Dev nD), b)) (Proc.devRef .tc main_c) x = _
  unfold hostOps0
  after_results

/-- The first column of tile `n`. -/
def start (n : ℕ) : ℕ :=
  if n < 2 then 5696 + 512 * n else if n < 6 then 1088 + 512 * (n - 2) else 4160 + 512 * (n - 6)

/-- Every word is a multiple of 64. -/
theorem words_aligned : ∀ j : Fin 8, (64 : Int) ∣ (lit0 j).toInt := by decide

/-- The words are the first columns of the tiles. -/
theorem words_eq : ∀ j : Fin 8, (lit0 j).toNat = start j.val := by decide

/-- A tile lies inside the weights. -/
theorem start_le (n : ℕ) (h : n < 8) : start n + 512 ≤ 26688 :=
  (by decide : ∀ j : Fin 8, start j.val + 512 ≤ 26688) ⟨n, h⟩

theorem table_toNat (x : S8.Idx) : (tbl m 0 x : BitVec 32).toNat = start (x 0).val := by
  have e := (congrArg BitVec.toNat (table_apply m x)).trans (words_eq (S8.rowMajor x))
  exact e.trans (congrArg start (Shape.rowMajor_val_one x))

theorem table_aligned (x : S8.Idx) : (64 : Int) ∣ (tbl m 0 x : BitVec 32).toInt := by
  have e := congrArg BitVec.toInt (table_apply m x)
  exact e ▸ words_aligned _

/-- Where the weights' window begins at the grid point `i`. -/
theorem offset_eq (i : grid0.Coords) :
    cc0_transform_1 k0_off1_inb numel1_S1 (tbl m) i = ![0, start (i 0).val, 0] := by
  unfold cc0_transform_1
  funext a
  match a with
  | ⟨0, _⟩ => rfl
  | ⟨1, _⟩ =>
    refine (table_toNat m _).trans (congrArg start ?_)
    have h : (i 0).val < 8 := (i 0).isLt
    show (BitVec.ofNat 32 (i 0).val).toNat + 1 * 0 = (i 0).val
    rw [BitVec.toNat_ofNat, Nat.mod_eq_of_lt (by omega)]
    omega
  | ⟨2, _⟩ => rfl

/-- The table the host writes is admissible: every window is aligned and inside the weights. -/
theorem ok : Ok m := by
  refine ⟨fun i => ?_, fun i => ⟨fun a => ?_, Or.inl rfl⟩⟩
  · unfold k0_mult1
    dsimp only [Pipeline.Prefetch.Contents.atD]
    split
    · exact table_aligned m _
    · exact ⟨0, rfl⟩
  · rw [offset_eq]
    have h := start_le (i 0).val (i 0).isLt
    match a with
    | ⟨0, _⟩ => show 0 + 1 ≤ 2; omega
    | ⟨1, _⟩ => exact h
    | ⟨2, _⟩ => show 0 + 4096 ≤ 4096; omega

/-! ## One grid point -/

section Cases
variable (c : Dev nD) (i : grid0.Coords) (a3 : Memref sig .tc .vmem S1024x4096 .bf16) (h3 : a3.IsWhole)
  (a4 : Memref sig .tc .vmem S1x512x4096 .f32) (h4 : a4.IsWhole) (a5 : Memref sig .tc .vmem S1024x512 .bf16) (h5 : a5.IsWhole)
  (a6 : Memref sig .tc .vmem S512x4096 .bf16) (h6 : a6.IsWhole)
  (x0 : Vec F S1024x4096 .bf16) (x1 : Vec F S1x512x4096 .f32) (xt : TbBuf0 (F := F) c tbM0_0) (xs : Vec F S512x4096 .bf16)

theorem first_out (hc : cond0_0 i) : out0_A_2 c i a3 h3 a4 h4 a5 h5 a6 h6 hc x0 x1 xt = k0_pay2 x0 (k0_pay1 x1) := by
  frame_out

theorem first_kept (hc : cond0_0 i) : sout0_A_0 c i a3 h3 a4 h4 a5 h5 a6 h6 hc x0 x1 xt = k0_pay1 x1 := by
  frame_out

theorem later_out (hc : ¬cond0_0 i) : out0_B_2 c i a3 h3 a4 h4 a5 h5 a6 h6 hc x0 x1 xt xs = k0_pay2 x0 xs := by
  frame_out

end Cases

/-- The point `t` is at column tile `t / 8` and row tile `t % 8`. -/
theorem point0 (t : Fin grid0.N) : (grid0.coords t 0).val = t.val / 8 := by
  have ht : t.val < 64 := Nat.lt_of_lt_of_eq t.isLt N_0
  rw [show (grid0.coords t 0).val = t.val / 8 % 8 from Pipeline.Grid.coords_val t 0 (by decide) rfl]
  omega

theorem point1 (t : Fin grid0.N) : (grid0.coords t 1).val = t.val % 8 := by
  rw [show (grid0.coords t 1).val = t.val / 1 % 8 from Pipeline.Grid.coords_val t 1 (by decide) rfl]
  omega

/-- The weights the call reads are the argument with its last two axes exchanged. -/
theorem V_weights (c : Dev nD) :
    V m c main_v0 = transpose S2x26688x4096 [0, 2, 1] (m ((c : Thread nD τ).loc main_arg1)) transposes_S2x4096x26688_S2x26688x4096_0_2_1 := by
  show StableHlo.after hostOps0 (fun b => m (c, b)) (Proc.devRef .tc main_v0) = _
  unfold hostOps0
  after_results

/-- The block of activations at an entry. -/
theorem rows_apply (hO : Ok m) (c : Dev nD) (t : Fin (cfgM m hO).N) (y : S1024x4096.Idx) (z : S8192x4096.Idx)
    (hz0 : (z 0).val = t.val % 8 * 1024 + (y 0).val) (hz1 : (z 1).val = (y 1).val) :
    iblk m hO c 0 t y = m ((c : Thread nD τ).loc main_arg0) z := by
  show V m c main_arg0 ((((cfgM m hO).win 0).blk t).view.emb y) = _
  rw [V_main_arg0]
  refine congrArg _ (funext fun a => Fin.ext ?_)
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show 0 * 4096 + 1 * (y 1).val = (z 1).val
    omega

/-- The block of weights at an entry, in the argument's own order. -/
theorem cols_apply (hO : Ok m) (c : Dev nD) (t : Fin (cfgM m hO).N) (y : S1x512x4096.Idx) (z : S2x4096x26688.Idx)
    (hz0 : (z 0).val = 0) (hz1 : (z 1).val = (y 2).val) (hz2 : (z 2).val = start (t.val / 8) + (y 1).val) :
    iblk m hO c 1 t y = m ((c : Thread nD τ).loc main_arg1) z := by
  show V m c main_v0 ((((cfgM m hO).win 1).blk t).view.emb y) = _
  rw [V_weights]
  unfold transpose
  refine congrArg (m ((c : Thread nD τ).loc main_arg1)) (funext fun a => Fin.ext ?_)
  have h0 := point0 t
  have ho := offset_eq m (grid0.coords t)
  match a with
  | ⟨0, _⟩ =>
    show 0 + 1 * (y 0).val = (z 0).val
    have : (y 0).val < 1 := (y 0).isLt
    omega
  | ⟨1, _⟩ =>
    show cc0_transform_1 k0_off1_inb numel1_S1 (tbl m) (grid0.coords t) 2 + 1 * (y 2).val = (z 1).val
    rw [ho]
    show 0 + 1 * (y 2).val = (z 1).val
    omega
  | ⟨2, _⟩ =>
    show cc0_transform_1 k0_off1_inb numel1_S1 (tbl m) (grid0.coords t) 1 + 1 * (y 1).val = (z 2).val
    rw [ho]
    show start (grid0.coords t 0).val + 1 * (y 1).val = (z 2).val
    rw [h0]
    omega

/-- At the first point of a column tile: the tile is cast and kept, and the product is taken with it. -/
theorem at_first (hO : Ok m) (c : Dev nD) (t : Fin (cfgM m hO).N) (h0 : t.val % 8 = 0) :
    outsAt0 m hO c t.val t.isLt = (k0_pay2 (iblk m hO c 0 t) (k0_pay1 (iblk m hO c 1 t)), k0_pay1 (iblk m hO c 1 t)) :=
  (outsAt0_A m hO c t h0).trans (congrArg₂ Prod.mk
    (first_out c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) ((hcond0_0 t).mpr h0))
    (first_kept c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) ((hcond0_0 t).mpr h0)))

/-- What was kept before point `t`. -/
abbrev before (hO : Ok m) (c : Dev nD) (t : Fin (cfgM m hO).N) : Vec F S512x4096 .bf16 :=
  (outsAt0 m hO c (t.val - 1) (Nat.lt_of_le_of_lt (Nat.sub_le _ _) t.isLt)).2

/-- At a later point of the tile: the kept tile stays, and the product is taken with it. -/
theorem at_later (hO : Ok m) (c : Dev nD) (t : Fin (cfgM m hO).N) (h0 : ¬t.val % 8 = 0) :
    outsAt0 m hO c t.val t.isLt = (k0_pay2 (iblk m hO c 0 t) (before m hO c t), before m hO c t) :=
  (outsAt0_B m hO c t h0).trans (congrArg₂ Prod.mk
    (later_out c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) (before m hO c t) (fun h => h0 ((hcond0_0 t).mp h)))
    rfl)

/-- What a point writes is the product of its rows with the kept tile. -/
theorem out_eq (hO : Ok m) (c : Dev nD) (t : Fin (cfgM m hO).N) :
    (outsAt0 m hO c t.val t.isLt).1 = k0_pay2 (iblk m hO c 0 t) (outsAt0 m hO c t.val t.isLt).2 := by
  by_cases h0 : t.val % 8 = 0
  · rw [at_first m hO c t h0]
  · rw [at_later m hO c t h0]

/-! ## Over the reals -/

section Values
variable (μ : (ℓ : Loc nD τ sig) → Buf (Elt Ideal) ℓ)

theorem kept_payload (v : Vec Ideal S1x512x4096 .f32) (y : S512x4096.Idx) :
    k0_pay1 v y = v (ix3 0 (y 0) (y 1)) := by
  unfold k0_pay1
  rw [shapeCast_self]
  exact Dense.drop_unit 512 4096 v _ y

theorem out_payload (a : Vec Ideal S1024x4096 .bf16) (b : Vec Ideal S512x4096 .bf16) (y : S1024x512.Idx) :
    k0_pay2 a b y = ∑ k : Fin 4096, (a (ix2 (y 0) k) * b (ix2 (y 1) k) : EReal) := by
  unfold k0_pay2
  exact Dense.product_transposed 1024 4096 512 a b y

/-- The kept tile after point `n`: the weights of the tile's columns, row by row. -/
theorem kept_apply (hO : Ok μ) (c : Dev nD) : ∀ (n : ℕ) (hn : n < (cfgM μ hO).N) (y : S512x4096.Idx) (z : S2x4096x26688.Idx),
    (z 0).val = 0 → (z 1).val = (y 1).val → (z 2).val = start (n / 8) + (y 0).val →
    (outsAt0 μ hO c n hn).2 y = μ ((c : Thread nD τ).loc main_arg1) z := by
  intro n
  induction n with
  | zero =>
    intro hn y z z0 z1 z2
    refine (congrFun (congrArg Prod.snd (at_first μ hO c ⟨0, hn⟩ rfl)) y).trans ((kept_payload (iblk μ hO c 1 ⟨0, hn⟩) y).trans ?_)
    exact cols_apply μ hO c ⟨0, hn⟩ _ z z0 z1 z2
  | succ n ih =>
    intro hn y z z0 z1 z2
    by_cases h0 : (n + 1) % 8 = 0
    · refine (congrFun (congrArg Prod.snd (at_first μ hO c ⟨n + 1, hn⟩ h0)) y).trans ((kept_payload (iblk μ hO c 1 ⟨n + 1, hn⟩) y).trans ?_)
      exact cols_apply μ hO c ⟨n + 1, hn⟩ _ z z0 z1 z2
    · refine (congrFun (congrArg Prod.snd (at_later μ hO c ⟨n + 1, hn⟩ h0)) y).trans ?_
      refine ih (Nat.lt_of_succ_lt hn) y z z0 z1 (z2.trans ?_)
      rw [show (n + 1) / 8 = n / 8 by omega]

end Values

/-- The column of the weights that column `q` of the result is made with. -/
def column (q : Fin 4096) : Fin 26688 :=
  ⟨start (q.val / 512) + q.val % 512, by have := q.isLt; have := start_le (q.val / 512) (by omega); omega⟩

/-- The product of the activations with the chosen columns of the first layer's weights. -/
def G (h : FVec Ideal S8192x4096 .bf16) (w : FVec Ideal S2x4096x26688 .f32) : FVec Ideal S8192x4096 .bf16 :=
  fun y => InProj.entry h w (y 0) (column (y 1))

theorem written (μ : (ℓ : Loc nD τ sig) → Buf (Elt Ideal) ℓ) (hO : Ok μ) (c : Dev nD) (t : Fin (cfgM μ hO).N) (y : S1024x512.Idx)
    (z : S8192x4096.Idx) (h0 : (z 0).val = t.val % 8 * 1024 + (y 0).val) (h1 : (z 1).val = t.val / 8 * 512 + (y 1).val) :
    (outsAt0 μ hO c t.val t.isLt).1 y = G (μ ((c : Thread nD τ).loc main_arg0)) (μ ((c : Thread nD τ).loc main_arg1)) z := by
  unfold G InProj.entry
  rw [out_eq]
  refine (out_payload _ _ _).trans (Finset.sum_congr rfl fun k _ => ?_)
  have hy1 : (y 1).val < 512 := (y 1).isLt
  refine congrArg₂ (fun a b : EReal => a * b) (rows_apply μ hO c t _ _ h0 rfl) (kept_apply μ hO c t.val t.isLt _ _ rfl rfl ?_)
  show start ((z 1).val / 512) + (z 1).val % 512 = start (t.val / 8) + (y 1).val
  rw [h1, show (t.val / 8 * 512 + (y 1).val) / 512 = t.val / 8 by omega, show (t.val / 8 * 512 + (y 1).val) % 512 = (y 1).val by omega]

/-- The result array after the run. -/
theorem final (μ : (ℓ : Loc nD τ sig) → Buf (Elt Ideal) ℓ) (hO : Ok μ) (c : Dev nD) :
    (dats μ hO 0 c).arrAt 2 (cfgM μ hO).N = G (μ ((c : Thread nD τ).loc main_arg0)) (μ ((c : Thread nD τ).loc main_arg1)) := by
  refine (dats μ hO 0 c).arrAt_eq_of_covers 2 _ ?_ fun t hf (y : S1024x512.Idx) => ?_
  · exact of_decide_eq_true (by sl_kernel_rfl)
  · refine (congrFun (after0_2 μ hO c t) y).trans (written μ hO c t y _ ?_ ?_)
    · show (BitVec.ofNat 32 (grid0.coords t 1).val).toNat * 1024 + 1 * (y 0).val = _
      rw [BitVec.toNat_ofNat, point1, Nat.mod_eq_of_lt (by omega)]
      omega
    · have ht : t.val < 64 := Nat.lt_of_lt_of_eq t.isLt N_0
      show (BitVec.ofNat 32 (grid0.coords t 0).val).toNat * 512 + 1 * (y 1).val = _
      rw [BitVec.toNat_ofNat, point0, Nat.mod_eq_of_lt (by omega)]
      omega

/-- The run: the result array holds the product, the arguments end unchanged. -/
theorem run (μ : (ℓ : Loc nD τ sig) → Buf (Elt Ideal) ℓ) (ρ : Dev nD → PrngReg) :
    θ_run (defs (F := Ideal)) (onTc (τ := τ) (main (F := Ideal))) ⟨μ, fun _ => 0, ρ⟩ (fun r => ∀ c : Dev nD,
      r.2.mem ((c.tc : Thread nD τ).loc main_v1) = G (μ ((c.tc : Thread nD τ).loc main_arg0)) (μ ((c.tc : Thread nD τ).loc main_arg1))
      ∧ r.2.mem ((c.tc : Thread nD τ).loc main_arg0) = μ ((c.tc : Thread nD τ).loc main_arg0)
      ∧ r.2.mem ((c.tc : Thread nD τ).loc main_arg1) = μ ((c.tc : Thread nD τ).loc main_arg1)) := by
  refine (θ_run defs _ _).mono (fun r h c => ?_) (run_main μ ρ (ok μ))
  exact ⟨((h c).1 2).trans (final μ (ok μ) c),
    ((h c).1 0).trans (((dats μ (ok μ) 0 c).arrAt_in 0 rfl _).trans ((A_eq μ (ok μ) c 0).trans (V_main_arg0 μ c))),
    ((h c).2 main_arg1 (by decide : main_arg1 ∈ Pipeline.restRefs sig spec0)).trans (V_main_arg1 μ c)⟩

end Cert.Proof.Rotary

end
-- ==== Proof.RotaryReference.lean ====
/-
  The reference of the call that makes the parts that are rotated: three ranges of the projection's columns side by side, entry by entry
  what the call leaves.
-/
module

public import proofs.«01_k».proof.Proof.Rotary
public import proofs.«01_k».proof.Proof.Gen.Reference2Ideal.Run

@[expose] public section

noncomputable section

namespace Cert.Proof.Rotary

open Idealize.ShloMosaic Idealize.ShloMosaic.TcCoe Idealize.SL.Sem
open Cert.Reference2Ideal Cert.Reference2Ideal.Gen Idealize.ShloMosaic.ValueIdx

/-- The reference's run, at the value the kernel's run ends with. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨(h c).1.trans ?_, (h c).2⟩) (Cert.Reference2Ideal.Value.run (F := Ideal) m ρ)
  funext y
  obtain ⟨p, q, rfl⟩ : ∃ (p : Fin 8192) (q : Fin 4096), y = ix2 p q := ⟨y 0, y 1, eq_ix2 y⟩
  by_cases h0 : q.val < 1024
  · refine (concatenate_apply_piece (1 : Fin 2) _ _ (ix2 p q) 0 (by show 0 < 3; omega) S8192x1024 _ rfl rfl 0 rfl
        (ix2 p ⟨q.val - 0, by omega⟩) (fun b hb => ?_) (by show 0 + (q.val - 0) = q.val; omega)).trans ?_
    · match b, hb with
      | ⟨0, _⟩, _ => rfl
      | ⟨1, _⟩, hb => exact absurd rfl hb
    · refine InProj.range_entry 5696 0 4608 1024 _ _ _ _ _ _ _ _ p _ (column q) ?_
      show 5696 + (0 + (q.val - 0)) = start (q.val / 512) + q.val % 512
      unfold start
      split_ifs <;> omega
  by_cases h1 : q.val < 3072
  · refine (concatenate_apply_piece (1 : Fin 2) _ _ (ix2 p q) 1 (by show 1 < 3; omega) S8192x2048 _ rfl rfl 1024 rfl
        (ix2 p ⟨q.val - 1024, by omega⟩) (fun b hb => ?_) (by show 1024 + (q.val - 1024) = q.val; omega)).trans ?_
    · match b, hb with
      | ⟨0, _⟩, _ => rfl
      | ⟨1, _⟩, hb => exact absurd rfl hb
    · refine InProj.range_entry 1088 0 3072 2048 _ _ _ _ _ _ _ _ p _ (column q) ?_
      show 1088 + (0 + (q.val - 1024)) = start (q.val / 512) + q.val % 512
      unfold start
      split_ifs <;> omega
  · have hq := q.isLt
    refine (concatenate_apply_piece (1 : Fin 2) _ _ (ix2 p q) 2 (by show 2 < 3; omega) S8192x1024 _ rfl rfl 3072 rfl
        (ix2 p ⟨q.val - 3072, by omega⟩) (fun b hb => ?_) (by show 3072 + (q.val - 3072) = q.val; omega)).trans ?_
    · match b, hb with
      | ⟨0, _⟩, _ => rfl
      | ⟨1, _⟩, hb => exact absurd rfl hb
    · refine InProj.range_entry 4160 0 1536 1024 _ _ _ _ _ _ _ _ p _ (column q) ?_
      show 4160 + (0 + (q.val - 3072)) = start (q.val / 512) + q.val % 512
      unfold start
      split_ifs <;> omega

end Cert.Proof.Rotary

end
-- ==== Proof.RotaryClaims.lean ====
/-
  The claims about the call that makes the parts that are rotated: both programs' frames from one run, and the value.
-/
module

public import proofs.«01_k».proof.Defs
public import proofs.«01_k».proof.Proof.RotaryReference
public import proofs.«01_k».proof.Proof.Gen.Kernel2

@[expose] public section

noncomputable section

namespace Cert.Proof.Rotary

open Idealize.ShloMosaic Idealize.SL.Sem

section Same
variable {F : FTy → Type} [FloatOps F]

/-- The program as printed and the program read over the reals have one text: one set of bodies. -/
theorem bodies_eq : Cert.Kernel2.defs₀ (F := F) = Cert.Kernel2Ideal.defs₀ (F := F) := by
  unfold Cert.Kernel2.defs₀ Cert.Kernel2Ideal.defs₀
  refine congrArg Defs.onTc (funext fun l => ?_)
  match l with
  | 0 => rfl

theorem defs_eq : Cert.Kernel2.defs (F := F) = Cert.Kernel2Ideal.defs (F := F) := by
  unfold Cert.Kernel2.defs Cert.Kernel2Ideal.defs
  exact congrArg _ bodies_eq

end Same

theorem frame : Cert.quiescent_Kernel2 := fun m ρ _ => by
  rw [defs_eq]
  exact Cert.Kernel2Ideal.Gen.frame (F := Bits) m ρ (ok m)

theorem frame_ideal : Cert.quiescent_Kernel2Ideal := fun m ρ _ =>
  Cert.Kernel2Ideal.Gen.frame (F := Ideal) m ρ (ok m)

theorem frame_reference : Cert.quiescent_Reference2Ideal := fun m ρ _ =>
  (θ_run _ _ _).mono (fun r h => ⟨fun c => (h c).2, Idealize.ShloMosaic.sem_eq_zero_of_no_sems (by decide) r.2⟩) (reference_run m ρ)

theorem algebraic : Cert.algebraic_Kernel2Ideal_Reference2Ideal := by
  intro m ρ m' ρ' _ hargs
  refine ⟨fun c => G (m ((c.tc : Thread _ _).loc Cert.Kernel2Ideal.main_arg0)) (m ((c.tc : Thread _ _).loc Cert.Kernel2Ideal.main_arg1)), ?_, ?_⟩
  · exact run m ρ
  · refine (θ_run _ _ _).mono (fun r h c => ⟨(h c).1.trans ?_, (h c).2⟩) (reference_run m' ρ')
    exact congrArg₂ G (hargs c).1 (hargs c).2

end Cert.Proof.Rotary

end
-- ==== Proof.Dilated.lean ====
/-
  The call of the projection kernel that makes the dilated groups: where its tiles of weights begin, what each grid point writes,
  and the result array after the run.
-/
module

public import proofs.«01_k».proof.Proof.Gen.Kernel3Ideal.Frame
public import proofs.«01_k».proof.Proof.InProj
public import Idealize.ShloMosaic.Lib.Pipeline.Value
public import Idealize.ShloMosaic.Lib.Pipeline.ValueKit.Geometry
public import Idealize.ShloMosaic.Lib.Pipeline.ValueKit.Acc

@[expose] public section

noncomputable section

namespace Cert.Proof.Dilated

open Idealize.ShloMosaic Idealize.ShloMosaic.TcCoe Idealize.SL.Sem
open Cert.Kernel3Ideal Cert.Kernel3Ideal.Gen Idealize.ShloMosaic.ValueIdx

variable {F : FTy → Type} [FloatOps F]
variable (m : (ℓ : Loc nD τ sig) → Buf (Elt F) ℓ)

/-! ## The table -/

/-- The word the table holds at entry `x`. -/
theorem table_apply (x : S6.Idx) : tbl m 0 x = lit0 (S6.rowMajor x) := by
  show StableHlo.after hostOps0 (fun b => m ((0 : Dev nD), b)) (Proc.devRef .tc main_c) x = _
  unfold hostOps0
  after_results

/-- The first column of tile `n`. -/
def start (n : ℕ) : ℕ := 7232 + 512 * n

/-- Every word is a multiple of 64. -/
theorem words_aligned : ∀ j : Fin 6, (64 : Int) ∣ (lit0 j).toInt := by decide

/-- The words are the first columns of the tiles. -/
theorem words_eq : ∀ j : Fin 6, (lit0 j).toNat = start j.val := by decide

/-- A tile lies inside the weights. -/
theorem start_le (n : ℕ) (h : n < 6) : start n + 512 ≤ 26688 :=
  (by decide : ∀ j : Fin 6, start j.val + 512 ≤ 26688) ⟨n, h⟩

theorem table_toNat (x : S6.Idx) : (tbl m 0 x : BitVec 32).toNat = start (x 0).val := by
  have e := (congrArg BitVec.toNat (table_apply m x)).trans (words_eq (S6.rowMajor x))
  exact e.trans (congrArg start (Shape.rowMajor_val_one x))

theorem table_aligned (x : S6.Idx) : (64 : Int) ∣ (tbl m 0 x : BitVec 32).toInt := by
  have e := congrArg BitVec.toInt (table_apply m x)
  exact e ▸ words_aligned _

/-- Where the weights' window begins at the grid point `i`. -/
theorem offset_eq (i : grid0.Coords) :
    cc0_transform_1 k0_off1_inb numel1_S1 (tbl m) i = ![0, start (i 0).val, 0] := by
  unfold cc0_transform_1
  funext a
  match a with
  | ⟨0, _⟩ => rfl
  | ⟨1, _⟩ =>
    refine (table_toNat m _).trans (congrArg start ?_)
    have h : (i 0).val < 6 := (i 0).isLt
    show (BitVec.ofNat 32 (i 0).val).toNat + 1 * 0 = (i 0).val
    rw [BitVec.toNat_ofNat, Nat.mod_eq_of_lt (by omega)]
    omega
  | ⟨2, _⟩ => rfl

/-- The table the host writes is admissible: every window is aligned and inside the weights. -/
theorem ok : Ok m := by
  refine ⟨fun i => ?_, fun i => ⟨fun a => ?_, Or.inl rfl⟩⟩
  · unfold k0_mult1
    dsimp only [Pipeline.Prefetch.Contents.atD]
    split
    · exact table_aligned m _
    · exact ⟨0, rfl⟩
  · rw [offset_eq]
    have h := start_le (i 0).val (i 0).isLt
    match a with
    | ⟨0, _⟩ => show 0 + 1 ≤ 2; omega
    | ⟨1, _⟩ => exact h
    | ⟨2, _⟩ => show 0 + 4096 ≤ 4096; omega

/-! ## One grid point -/

section Cases
variable (c : Dev nD) (i : grid0.Coords) (a3 : Memref sig .tc .vmem S1024x4096 .bf16) (h3 : a3.IsWhole)
  (a4 : Memref sig .tc .vmem S1x512x4096 .f32) (h4 : a4.IsWhole) (a5 : Memref sig .tc .vmem S1024x512 .bf16) (h5 : a5.IsWhole)
  (a6 : Memref sig .tc .vmem S512x4096 .bf16) (h6 : a6.IsWhole)
  (x0 : Vec F S1024x4096 .bf16) (x1 : Vec F S1x512x4096 .f32) (xt : TbBuf0 (F := F) c tbM0_0) (xs : Vec F S512x4096 .bf16)

theorem first_out (hc : cond0_0 i) : out0_A_2 c i a3 h3 a4 h4 a5 h5 a6 h6 hc x0 x1 xt = k0_pay2 x0 (k0_pay1 x1) := by
  frame_out

theorem first_kept (hc : cond0_0 i) : sout0_A_0 c i a3 h3 a4 h4 a5 h5 a6 h6 hc x0 x1 xt = k0_pay1 x1 := by
  frame_out

theorem later_out (hc : ¬cond0_0 i) : out0_B_2 c i a3 h3 a4 h4 a5 h5 a6 h6 hc x0 x1 xt xs = k0_pay2 x0 xs := by
  frame_out

end Cases

/-- The point `t` is at column tile `t / 8` and row tile `t % 8`. -/
theorem point0 (t : Fin grid0.N) : (grid0.coords t 0).val = t.val / 8 := by
  have ht : t.val < 48 := Nat.lt_of_lt_of_eq t.isLt N_0
  rw [show (grid0.coords t 0).val = t.val / 8 % 6 from Pipeline.Grid.coords_val t 0 (by decide) rfl]
  omega

theorem point1 (t : Fin grid0.N) : (grid0.coords t 1).val = t.val % 8 := by
  rw [show (grid0.coords t 1).val = t.val / 1 % 8 from Pipeline.Grid.coords_val t 1 (by decide) rfl]
  omega

/-- The weights the call reads are the argument with its last two axes exchanged. -/
theorem V_weights (c : Dev nD) :
    V m c main_v0 = transpose S2x26688x4096 [0, 2, 1] (m ((c : Thread nD τ).loc main_arg1)) transposes_S2x4096x26688_S2x26688x4096_0_2_1 := by
  show StableHlo.after hostOps0 (fun b => m (c, b)) (Proc.devRef .tc main_v0) = _
  unfold hostOps0
  after_results

/-- The block of activations at an entry. -/
theorem rows_apply (hO : Ok m) (c : Dev nD) (t : Fin (cfgM m hO).N) (y : S1024x4096.Idx) (z : S8192x4096.Idx)
    (hz0 : (z 0).val = t.val % 8 * 1024 + (y 0).val) (hz1 : (z 1).val = (y 1).val) :
    iblk m hO c 0 t y = m ((c : Thread nD τ).loc main_arg0) z := by
  show V m c main_arg0 ((((cfgM m hO).win 0).blk t).view.emb y) = _
  rw [V_main_arg0]
  refine congrArg _ (funext fun a => Fin.ext ?_)
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show 0 * 4096 + 1 * (y 1).val = (z 1).val
    omega

/-- The block of weights at an entry, in the argument's own order. -/
theorem cols_apply (hO : Ok m) (c : Dev nD) (t : Fin (cfgM m hO).N) (y : S1x512x4096.Idx) (z : S2x4096x26688.Idx)
    (hz0 : (z 0).val = 0) (hz1 : (z 1).val = (y 2).val) (hz2 : (z 2).val = start (t.val / 8) + (y 1).val) :
    iblk m hO c 1 t y = m ((c : Thread nD τ).loc main_arg1) z := by
  show V m c main_v0 ((((cfgM m hO).win 1).blk t).view.emb y) = _
  rw [V_weights]
  unfold transpose
  refine congrArg (m ((c : Thread nD τ).loc main_arg1)) (funext fun a => Fin.ext ?_)
  have h0 := point0 t
  have ho := offset_eq m (grid0.coords t)
  match a with
  | ⟨0, _⟩ =>
    show 0 + 1 * (y 0).val = (z 0).val
    have : (y 0).val < 1 := (y 0).isLt
    omega
  | ⟨1, _⟩ =>
    show cc0_transform_1 k0_off1_inb numel1_S1 (tbl m) (grid0.coords t) 2 + 1 * (y 2).val = (z 1).val
    rw [ho]
    show 0 + 1 * (y 2).val = (z 1).val
    omega
  | ⟨2, _⟩ =>
    show cc0_transform_1 k0_off1_inb numel1_S1 (tbl m) (grid0.coords t) 1 + 1 * (y 1).val = (z 2).val
    rw [ho]
    show start (grid0.coords t 0).val + 1 * (y 1).val = (z 2).val
    rw [h0]
    omega

/-- At the first point of a column tile: the tile is cast and kept, and the product is taken with it. -/
theorem at_first (hO : Ok m) (c : Dev nD) (t : Fin (cfgM m hO).N) (h0 : t.val % 8 = 0) :
    outsAt0 m hO c t.val t.isLt = (k0_pay2 (iblk m hO c 0 t) (k0_pay1 (iblk m hO c 1 t)), k0_pay1 (iblk m hO c 1 t)) :=
  (outsAt0_A m hO c t h0).trans (congrArg₂ Prod.mk
    (first_out c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) ((hcond0_0 t).mpr h0))
    (first_kept c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) ((hcond0_0 t).mpr h0)))

/-- What was kept before point `t`. -/
abbrev before (hO : Ok m) (c : Dev nD) (t : Fin (cfgM m hO).N) : Vec F S512x4096 .bf16 :=
  (outsAt0 m hO c (t.val - 1) (Nat.lt_of_le_of_lt (Nat.sub_le _ _) t.isLt)).2

/-- At a later point of the tile: the kept tile stays, and the product is taken with it. -/
theorem at_later (hO : Ok m) (c : Dev nD) (t : Fin (cfgM m hO).N) (h0 : ¬t.val % 8 = 0) :
    outsAt0 m hO c t.val t.isLt = (k0_pay2 (iblk m hO c 0 t) (before m hO c t), before m hO c t) :=
  (outsAt0_B m hO c t h0).trans (congrArg₂ Prod.mk
    (later_out c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) (before m hO c t) (fun h => h0 ((hcond0_0 t).mp h)))
    rfl)

/-- What a point writes is the product of its rows with the kept tile. -/
theorem out_eq (hO : Ok m) (c : Dev nD) (t : Fin (cfgM m hO).N) :
    (outsAt0 m hO c t.val t.isLt).1 = k0_pay2 (iblk m hO c 0 t) (outsAt0 m hO c t.val t.isLt).2 := by
  by_cases h0 : t.val % 8 = 0
  · rw [at_first m hO c t h0]
  · rw [at_later m hO c t h0]

/-! ## Over the reals -/

section Values
variable (μ : (ℓ : Loc nD τ sig) → Buf (Elt Ideal) ℓ)

theorem kept_payload (v : Vec Ideal S1x512x4096 .f32) (y : S512x4096.Idx) :
    k0_pay1 v y = v (ix3 0 (y 0) (y 1)) := by
  unfold k0_pay1
  rw [shapeCast_self]
  exact Dense.drop_unit 512 4096 v _ y

theorem out_payload (a : Vec Ideal S1024x4096 .bf16) (b : Vec Ideal S512x4096 .bf16) (y : S1024x512.Idx) :
    k0_pay2 a b y = ∑ k : Fin 4096, (a (ix2 (y 0) k) * b (ix2 (y 1) k) : EReal) := by
  unfold k0_pay2
  exact Dense.product_transposed 1024 4096 512 a b y

/-- The kept tile after point `n`: the weights of the tile's columns, row by row. -/
theorem kept_apply (hO : Ok μ) (c : Dev nD) : ∀ (n : ℕ) (hn : n < (cfgM μ hO).N) (y : S512x4096.Idx) (z : S2x4096x26688.Idx),
    (z 0).val = 0 → (z 1).val = (y 1).val → (z 2).val = start (n / 8) + (y 0).val →
    (outsAt0 μ hO c n hn).2 y = μ ((c : Thread nD τ).loc main_arg1) z := by
  intro n
  induction n with
  | zero =>
    intro hn y z z0 z1 z2
    refine (congrFun (congrArg Prod.snd (at_first μ hO c ⟨0, hn⟩ rfl)) y).trans ((kept_payload (iblk μ hO c 1 ⟨0, hn⟩) y).trans ?_)
    exact cols_apply μ hO c ⟨0, hn⟩ _ z z0 z1 z2
  | succ n ih =>
    intro hn y z z0 z1 z2
    by_cases h0 : (n + 1) % 8 = 0
    · refine (congrFun (congrArg Prod.snd (at_first μ hO c ⟨n + 1, hn⟩ h0)) y).trans ((kept_payload (iblk μ hO c 1 ⟨n + 1, hn⟩) y).trans ?_)
      exact cols_apply μ hO c ⟨n + 1, hn⟩ _ z z0 z1 z2
    · refine (congrFun (congrArg Prod.snd (at_later μ hO c ⟨n + 1, hn⟩ h0)) y).trans ?_
      refine ih (Nat.lt_of_succ_lt hn) y z z0 z1 (z2.trans ?_)
      rw [show (n + 1) / 8 = n / 8 by omega]

end Values

/-- The column of the weights that column `q` of the result is made with. -/
def column (q : Fin 3072) : Fin 26688 :=
  ⟨start (q.val / 512) + q.val % 512, by have := q.isLt; have := start_le (q.val / 512) (by omega); omega⟩

/-- The product of the activations with the chosen columns of the first layer's weights. -/
def G (h : FVec Ideal S8192x4096 .bf16) (w : FVec Ideal S2x4096x26688 .f32) : FVec Ideal S8192x3072 .bf16 :=
  fun y => InProj.entry h w (y 0) (column (y 1))

theorem written (μ : (ℓ : Loc nD τ sig) → Buf (Elt Ideal) ℓ) (hO : Ok μ) (c : Dev nD) (t : Fin (cfgM μ hO).N) (y : S1024x512.Idx)
    (z : S8192x3072.Idx) (h0 : (z 0).val = t.val % 8 * 1024 + (y 0).val) (h1 : (z 1).val = t.val / 8 * 512 + (y 1).val) :
    (outsAt0 μ hO c t.val t.isLt).1 y = G (μ ((c : Thread nD τ).loc main_arg0)) (μ ((c : Thread nD τ).loc main_arg1)) z := by
  unfold G InProj.entry
  rw [out_eq]
  refine (out_payload _ _ _).trans (Finset.sum_congr rfl fun k _ => ?_)
  have hy1 : (y 1).val < 512 := (y 1).isLt
  refine congrArg₂ (fun a b : EReal => a * b) (rows_apply μ hO c t _ _ h0 rfl) (kept_apply μ hO c t.val t.isLt _ _ rfl rfl ?_)
  show start ((z 1).val / 512) + (z 1).val % 512 = start (t.val / 8) + (y 1).val
  rw [h1, show (t.val / 8 * 512 + (y 1).val) / 512 = t.val / 8 by omega, show (t.val / 8 * 512 + (y 1).val) % 512 = (y 1).val by omega]

/-- The result array after the run. -/
theorem final (μ : (ℓ : Loc nD τ sig) → Buf (Elt Ideal) ℓ) (hO : Ok μ) (c : Dev nD) :
    (dats μ hO 0 c).arrAt 2 (cfgM μ hO).N = G (μ ((c : Thread nD τ).loc main_arg0)) (μ ((c : Thread nD τ).loc main_arg1)) := by
  refine (dats μ hO 0 c).arrAt_eq_of_covers 2 _ ?_ fun t hf (y : S1024x512.Idx) => ?_
  · exact of_decide_eq_true (by sl_kernel_rfl)
  · refine (congrFun (after0_2 μ hO c t) y).trans (written μ hO c t y _ ?_ ?_)
    · show (BitVec.ofNat 32 (grid0.coords t 1).val).toNat * 1024 + 1 * (y 0).val = _
      rw [BitVec.toNat_ofNat, point1, Nat.mod_eq_of_lt (by omega)]
      omega
    · have ht : t.val < 48 := Nat.lt_of_lt_of_eq t.isLt N_0
      show (BitVec.ofNat 32 (grid0.coords t 0).val).toNat * 512 + 1 * (y 1).val = _
      rw [BitVec.toNat_ofNat, point0, Nat.mod_eq_of_lt (by omega)]
      omega

/-- The run: the result array holds the product, the arguments end unchanged. -/
theorem run (μ : (ℓ : Loc nD τ sig) → Buf (Elt Ideal) ℓ) (ρ : Dev nD → PrngReg) :
    θ_run (defs (F := Ideal)) (onTc (τ := τ) (main (F := Ideal))) ⟨μ, fun _ => 0, ρ⟩ (fun r => ∀ c : Dev nD,
      r.2.mem ((c.tc : Thread nD τ).loc main_v1) = G (μ ((c.tc : Thread nD τ).loc main_arg0)) (μ ((c.tc : Thread nD τ).loc main_arg1))
      ∧ r.2.mem ((c.tc : Thread nD τ).loc main_arg0) = μ ((c.tc : Thread nD τ).loc main_arg0)
      ∧ r.2.mem ((c.tc : Thread nD τ).loc main_arg1) = μ ((c.tc : Thread nD τ).loc main_arg1)) := by
  refine (θ_run defs _ _).mono (fun r h c => ?_) (run_main μ ρ (ok μ))
  exact ⟨((h c).1 2).trans (final μ (ok μ) c),
    ((h c).1 0).trans (((dats μ (ok μ) 0 c).arrAt_in 0 rfl _).trans ((A_eq μ (ok μ) c 0).trans (V_main_arg0 μ c))),
    ((h c).2 main_arg1 (by decide : main_arg1 ∈ Pipeline.restRefs sig spec0)).trans (V_main_arg1 μ c)⟩

end Cert.Proof.Dilated

end
-- ==== Proof.DilatedReference.lean ====
/-
  The reference of the call that makes the dilated groups: its columns of the projection, entry by entry what the call leaves.
-/
module

public import proofs.«01_k».proof.Proof.Dilated
public import proofs.«01_k».proof.Proof.Gen.Reference3Ideal.Run

@[expose] public section

noncomputable section

namespace Cert.Proof.Dilated

open Idealize.ShloMosaic Idealize.ShloMosaic.TcCoe Idealize.SL.Sem
open Cert.Reference3Ideal Cert.Reference3Ideal.Gen Idealize.ShloMosaic.ValueIdx

/-- The reference's run, at the value the kernel's run ends with. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨(h c).1.trans ?_, (h c).2⟩) (Cert.Reference3Ideal.Value.run (F := Ideal) m ρ)
  funext y
  obtain ⟨p, q, rfl⟩ : ∃ (p : Fin 8192) (q : Fin 3072), y = ix2 p q := ⟨y 0, y 1, eq_ix2 y⟩
  refine Eq.trans ?_ ((InProj.host_entry (m ((c.tc : Thread nD τ).loc main_arg0)) (m ((c.tc : Thread nD τ).loc main_arg1)) bitsLt_bf16_f32
    slices_S2x4096x26688_S1x4096x26688_0_0_0 shapeCasts_S1x4096x26688_S4096x26688 p (column q)))
  refine congrArg (Host.dotGeneral (F := Ideal) (DotDims.plain 8192 4096 26688) none _ _ : FVec Ideal InProj.Whole .f32) ?_
  funext a
  match a with
  | ⟨0, _⟩ => exact Fin.ext (Nat.zero_add _)
  | ⟨1, _⟩ => exact Fin.ext (by show 7232 + q.val = 7232 + 512 * (q.val / 512) + q.val % 512; omega)

end Cert.Proof.Dilated

end
-- ==== Proof.DilatedClaims.lean ====
/-
  The claims about the call that makes the dilated groups: both programs' frames from one run, and the value.
-/
module

public import proofs.«01_k».proof.Defs
public import proofs.«01_k».proof.Proof.DilatedReference
public import proofs.«01_k».proof.Proof.Gen.Kernel3

@[expose] public section

noncomputable section

namespace Cert.Proof.Dilated

open Idealize.ShloMosaic Idealize.SL.Sem

section Same
variable {F : FTy → Type} [FloatOps F]

/-- The program as printed and the program read over the reals have one text: one set of bodies. -/
theorem bodies_eq : Cert.Kernel3.defs₀ (F := F) = Cert.Kernel3Ideal.defs₀ (F := F) := by
  unfold Cert.Kernel3.defs₀ Cert.Kernel3Ideal.defs₀
  refine congrArg Defs.onTc (funext fun l => ?_)
  match l with
  | 0 => rfl

theorem defs_eq : Cert.Kernel3.defs (F := F) = Cert.Kernel3Ideal.defs (F := F) := by
  unfold Cert.Kernel3.defs Cert.Kernel3Ideal.defs
  exact congrArg _ bodies_eq

end Same

theorem frame : Cert.quiescent_Kernel3 := fun m ρ _ => by
  rw [defs_eq]
  exact Cert.Kernel3Ideal.Gen.frame (F := Bits) m ρ (ok m)

theorem frame_ideal : Cert.quiescent_Kernel3Ideal := fun m ρ _ =>
  Cert.Kernel3Ideal.Gen.frame (F := Ideal) m ρ (ok m)

theorem frame_reference : Cert.quiescent_Reference3Ideal := fun m ρ _ =>
  (θ_run _ _ _).mono (fun r h => ⟨fun c => (h c).2, Idealize.ShloMosaic.sem_eq_zero_of_no_sems (by decide) r.2⟩) (reference_run m ρ)

theorem algebraic : Cert.algebraic_Kernel3Ideal_Reference3Ideal := by
  intro m ρ m' ρ' _ hargs
  refine ⟨fun c => G (m ((c.tc : Thread _ _).loc Cert.Kernel3Ideal.main_arg0)) (m ((c.tc : Thread _ _).loc Cert.Kernel3Ideal.main_arg1)), ?_, ?_⟩
  · exact run m ρ
  · refine (θ_run _ _ _).mono (fun r h c => ⟨(h c).1.trans ?_, (h c).2⟩) (reference_run m' ρ')
    exact congrArg₂ G (hargs c).1 (hargs c).2

end Cert.Proof.Dilated

end
-- ==== Proof.Value.lean ====
/-
  The call of the projection kernel that makes the values: where its tiles of weights begin, what each grid point writes,
  and the result array after the run.
-/
module

public import proofs.«01_k».proof.Proof.Gen.Kernel4Ideal.Frame
public import proofs.«01_k».proof.Proof.InProj
public import Idealize.ShloMosaic.Lib.Pipeline.Value
public import Idealize.ShloMosaic.Lib.Pipeline.ValueKit.Geometry
public import Idealize.ShloMosaic.Lib.Pipeline.ValueKit.Acc

@[expose] public section

noncomputable section

namespace Cert.Proof.Value

open Idealize.ShloMosaic Idealize.ShloMosaic.TcCoe Idealize.SL.Sem
open Cert.Kernel4Ideal Cert.Kernel4Ideal.Gen Idealize.ShloMosaic.ValueIdx

variable {F : FTy → Type} [FloatOps F]
variable (m : (ℓ : Loc nD τ sig) → Buf (Elt F) ℓ)

/-! ## The table -/

/-- The word the table holds at entry `x`. -/
theorem table_apply (x : S4.Idx) : tbl m 0 x = lit0 (S4.rowMajor x) := by
  show StableHlo.after hostOps0 (fun b => m ((0 : Dev nD), b)) (Proc.devRef .tc main_c) x = _
  unfold hostOps0
  after_results

/-- The first column of tile `n`. -/
def start (n : ℕ) : ℕ :=
  if n < 1 then 6720 + 512 * n else if n < 3 then 3136 + 512 * (n - 1) else 5184 + 512 * (n - 3)

/-- Every word is a multiple of 64. -/
theorem words_aligned : ∀ j : Fin 4, (64 : Int) ∣ (lit0 j).toInt := by decide

/-- The words are the first columns of the tiles. -/
theorem words_eq : ∀ j : Fin 4, (lit0 j).toNat = start j.val := by decide

/-- A tile lies inside the weights. -/
theorem start_le (n : ℕ) (h : n < 4) : start n + 512 ≤ 26688 :=
  (by decide : ∀ j : Fin 4, start j.val + 512 ≤ 26688) ⟨n, h⟩

theorem table_toNat (x : S4.Idx) : (tbl m 0 x : BitVec 32).toNat = start (x 0).val := by
  have e := (congrArg BitVec.toNat (table_apply m x)).trans (words_eq (S4.rowMajor x))
  exact e.trans (congrArg start (Shape.rowMajor_val_one x))

theorem table_aligned (x : S4.Idx) : (64 : Int) ∣ (tbl m 0 x : BitVec 32).toInt := by
  have e := congrArg BitVec.toInt (table_apply m x)
  exact e ▸ words_aligned _

/-- Where the weights' window begins at the grid point `i`. -/
theorem offset_eq (i : grid0.Coords) :
    cc0_transform_1 k0_off1_inb numel1_S1 (tbl m) i = ![0, start (i 0).val, 0] := by
  unfold cc0_transform_1
  funext a
  match a with
  | ⟨0, _⟩ => rfl
  | ⟨1, _⟩ =>
    refine (table_toNat m _).trans (congrArg start ?_)
    have h : (i 0).val < 4 := (i 0).isLt
    show (BitVec.ofNat 32 (i 0).val).toNat + 1 * 0 = (i 0).val
    rw [BitVec.toNat_ofNat, Nat.mod_eq_of_lt (by omega)]
    omega
  | ⟨2, _⟩ => rfl

/-- The table the host writes is admissible: every window is aligned and inside the weights. -/
theorem ok : Ok m := by
  refine ⟨fun i => ?_, fun i => ⟨fun a => ?_, Or.inl rfl⟩⟩
  · unfold k0_mult1
    dsimp only [Pipeline.Prefetch.Contents.atD]
    split
    · exact table_aligned m _
    · exact ⟨0, rfl⟩
  · rw [offset_eq]
    have h := start_le (i 0).val (i 0).isLt
    match a with
    | ⟨0, _⟩ => show 0 + 1 ≤ 2; omega
    | ⟨1, _⟩ => exact h
    | ⟨2, _⟩ => show 0 + 4096 ≤ 4096; omega

/-! ## One grid point -/

section Cases
variable (c : Dev nD) (i : grid0.Coords) (a3 : Memref sig .tc .vmem S1024x4096 .bf16) (h3 : a3.IsWhole)
  (a4 : Memref sig .tc .vmem S1x512x4096 .f32) (h4 : a4.IsWhole) (a5 : Memref sig .tc .vmem S1024x512 .bf16) (h5 : a5.IsWhole)
  (a6 : Memref sig .tc .vmem S512x4096 .bf16) (h6 : a6.IsWhole)
  (x0 : Vec F S1024x4096 .bf16) (x1 : Vec F S1x512x4096 .f32) (xt : TbBuf0 (F := F) c tbM0_0) (xs : Vec F S512x4096 .bf16)

theorem first_out (hc : cond0_0 i) : out0_A_2 c i a3 h3 a4 h4 a5 h5 a6 h6 hc x0 x1 xt = k0_pay2 x0 (k0_pay1 x1) := by
  frame_out

theorem first_kept (hc : cond0_0 i) : sout0_A_0 c i a3 h3 a4 h4 a5 h5 a6 h6 hc x0 x1 xt = k0_pay1 x1 := by
  frame_out

theorem later_out (hc : ¬cond0_0 i) : out0_B_2 c i a3 h3 a4 h4 a5 h5 a6 h6 hc x0 x1 xt xs = k0_pay2 x0 xs := by
  frame_out

end Cases

/-- The point `t` is at column tile `t / 8` and row tile `t % 8`. -/
theorem point0 (t : Fin grid0.N) : (grid0.coords t 0).val = t.val / 8 := by
  have ht : t.val < 32 := Nat.lt_of_lt_of_eq t.isLt N_0
  rw [show (grid0.coords t 0).val = t.val / 8 % 4 from Pipeline.Grid.coords_val t 0 (by decide) rfl]
  omega

theorem point1 (t : Fin grid0.N) : (grid0.coords t 1).val = t.val % 8 := by
  rw [show (grid0.coords t 1).val = t.val / 1 % 8 from Pipeline.Grid.coords_val t 1 (by decide) rfl]
  omega

/-- The weights the call reads are the argument with its last two axes exchanged. -/
theorem V_weights (c : Dev nD) :
    V m c main_v0 = transpose S2x26688x4096 [0, 2, 1] (m ((c : Thread nD τ).loc main_arg1)) transposes_S2x4096x26688_S2x26688x4096_0_2_1 := by
  show StableHlo.after hostOps0 (fun b => m (c, b)) (Proc.devRef .tc main_v0) = _
  unfold hostOps0
  after_results

/-- The block of activations at an entry. -/
theorem rows_apply (hO : Ok m) (c : Dev nD) (t : Fin (cfgM m hO).N) (y : S1024x4096.Idx) (z : S8192x4096.Idx)
    (hz0 : (z 0).val = t.val % 8 * 1024 + (y 0).val) (hz1 : (z 1).val = (y 1).val) :
    iblk m hO c 0 t y = m ((c : Thread nD τ).loc main_arg0) z := by
  show V m c main_arg0 ((((cfgM m hO).win 0).blk t).view.emb y) = _
  rw [V_main_arg0]
  refine congrArg _ (funext fun a => Fin.ext ?_)
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show 0 * 4096 + 1 * (y 1).val = (z 1).val
    omega

/-- The block of weights at an entry, in the argument's own order. -/
theorem cols_apply (hO : Ok m) (c : Dev nD) (t : Fin (cfgM m hO).N) (y : S1x512x4096.Idx) (z : S2x4096x26688.Idx)
    (hz0 : (z 0).val = 0) (hz1 : (z 1).val = (y 2).val) (hz2 : (z 2).val = start (t.val / 8) + (y 1).val) :
    iblk m hO c 1 t y = m ((c : Thread nD τ).loc main_arg1) z := by
  show V m c main_v0 ((((cfgM m hO).win 1).blk t).view.emb y) = _
  rw [V_weights]
  unfold transpose
  refine congrArg (m ((c : Thread nD τ).loc main_arg1)) (funext fun a => Fin.ext ?_)
  have h0 := point0 t
  have ho := offset_eq m (grid0.coords t)
  match a with
  | ⟨0, _⟩ =>
    show 0 + 1 * (y 0).val = (z 0).val
    have : (y 0).val < 1 := (y 0).isLt
    omega
  | ⟨1, _⟩ =>
    show cc0_transform_1 k0_off1_inb numel1_S1 (tbl m) (grid0.coords t) 2 + 1 * (y 2).val = (z 1).val
    rw [ho]
    show 0 + 1 * (y 2).val = (z 1).val
    omega
  | ⟨2, _⟩ =>
    show cc0_transform_1 k0_off1_inb numel1_S1 (tbl m) (grid0.coords t) 1 + 1 * (y 1).val = (z 2).val
    rw [ho]
    show start (grid0.coords t 0).val + 1 * (y 1).val = (z 2).val
    rw [h0]
    omega

/-- At the first point of a column tile: the tile is cast and kept, and the product is taken with it. -/
theorem at_first (hO : Ok m) (c : Dev nD) (t : Fin (cfgM m hO).N) (h0 : t.val % 8 = 0) :
    outsAt0 m hO c t.val t.isLt = (k0_pay2 (iblk m hO c 0 t) (k0_pay1 (iblk m hO c 1 t)), k0_pay1 (iblk m hO c 1 t)) :=
  (outsAt0_A m hO c t h0).trans (congrArg₂ Prod.mk
    (first_out c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) ((hcond0_0 t).mpr h0))
    (first_kept c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) ((hcond0_0 t).mpr h0)))

/-- What was kept before point `t`. -/
abbrev before (hO : Ok m) (c : Dev nD) (t : Fin (cfgM m hO).N) : Vec F S512x4096 .bf16 :=
  (outsAt0 m hO c (t.val - 1) (Nat.lt_of_le_of_lt (Nat.sub_le _ _) t.isLt)).2

/-- At a later point of the tile: the kept tile stays, and the product is taken with it. -/
theorem at_later (hO : Ok m) (c : Dev nD) (t : Fin (cfgM m hO).N) (h0 : ¬t.val % 8 = 0) :
    outsAt0 m hO c t.val t.isLt = (k0_pay2 (iblk m hO c 0 t) (before m hO c t), before m hO c t) :=
  (outsAt0_B m hO c t h0).trans (congrArg₂ Prod.mk
    (later_out c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) (before m hO c t) (fun h => h0 ((hcond0_0 t).mp h)))
    rfl)

/-- What a point writes is the product of its rows with the kept tile. -/
theorem out_eq (hO : Ok m) (c : Dev nD) (t : Fin (cfgM m hO).N) :
    (outsAt0 m hO c t.val t.isLt).1 = k0_pay2 (iblk m hO c 0 t) (outsAt0 m hO c t.val t.isLt).2 := by
  by_cases h0 : t.val % 8 = 0
  · rw [at_first m hO c t h0]
  · rw [at_later m hO c t h0]

/-! ## Over the reals -/

section Values
variable (μ : (ℓ : Loc nD τ sig) → Buf (Elt Ideal) ℓ)

theorem kept_payload (v : Vec Ideal S1x512x4096 .f32) (y : S512x4096.Idx) :
    k0_pay1 v y = v (ix3 0 (y 0) (y 1)) := by
  unfold k0_pay1
  rw [shapeCast_self]
  exact Dense.drop_unit 512 4096 v _ y

theorem out_payload (a : Vec Ideal S1024x4096 .bf16) (b : Vec Ideal S512x4096 .bf16) (y : S1024x512.Idx) :
    k0_pay2 a b y = ∑ k : Fin 4096, (a (ix2 (y 0) k) * b (ix2 (y 1) k) : EReal) := by
  unfold k0_pay2
  exact Dense.product_transposed 1024 4096 512 a b y

/-- The kept tile after point `n`: the weights of the tile's columns, row by row. -/
theorem kept_apply (hO : Ok μ) (c : Dev nD) : ∀ (n : ℕ) (hn : n < (cfgM μ hO).N) (y : S512x4096.Idx) (z : S2x4096x26688.Idx),
    (z 0).val = 0 → (z 1).val = (y 1).val → (z 2).val = start (n / 8) + (y 0).val →
    (outsAt0 μ hO c n hn).2 y = μ ((c : Thread nD τ).loc main_arg1) z := by
  intro n
  induction n with
  | zero =>
    intro hn y z z0 z1 z2
    refine (congrFun (congrArg Prod.snd (at_first μ hO c ⟨0, hn⟩ rfl)) y).trans ((kept_payload (iblk μ hO c 1 ⟨0, hn⟩) y).trans ?_)
    exact cols_apply μ hO c ⟨0, hn⟩ _ z z0 z1 z2
  | succ n ih =>
    intro hn y z z0 z1 z2
    by_cases h0 : (n + 1) % 8 = 0
    · refine (congrFun (congrArg Prod.snd (at_first μ hO c ⟨n + 1, hn⟩ h0)) y).trans ((kept_payload (iblk μ hO c 1 ⟨n + 1, hn⟩) y).trans ?_)
      exact cols_apply μ hO c ⟨n + 1, hn⟩ _ z z0 z1 z2
    · refine (congrFun (congrArg Prod.snd (at_later μ hO c ⟨n + 1, hn⟩ h0)) y).trans ?_
      refine ih (Nat.lt_of_succ_lt hn) y z z0 z1 (z2.trans ?_)
      rw [show (n + 1) / 8 = n / 8 by omega]

end Values

/-- The column of the weights that column `q` of the result is made with. -/
def column (q : Fin 2048) : Fin 26688 :=
  ⟨start (q.val / 512) + q.val % 512, by have := q.isLt; have := start_le (q.val / 512) (by omega); omega⟩

/-- The product of the activations with the chosen columns of the first layer's weights. -/
def G (h : FVec Ideal S8192x4096 .bf16) (w : FVec Ideal S2x4096x26688 .f32) : FVec Ideal S8192x2048 .bf16 :=
  fun y => InProj.entry h w (y 0) (column (y 1))

theorem written (μ : (ℓ : Loc nD τ sig) → Buf (Elt Ideal) ℓ) (hO : Ok μ) (c : Dev nD) (t : Fin (cfgM μ hO).N) (y : S1024x512.Idx)
    (z : S8192x2048.Idx) (h0 : (z 0).val = t.val % 8 * 1024 + (y 0).val) (h1 : (z 1).val = t.val / 8 * 512 + (y 1).val) :
    (outsAt0 μ hO c t.val t.isLt).1 y = G (μ ((c : Thread nD τ).loc main_arg0)) (μ ((c : Thread nD τ).loc main_arg1)) z := by
  unfold G InProj.entry
  rw [out_eq]
  refine (out_payload _ _ _).trans (Finset.sum_congr rfl fun k _ => ?_)
  have hy1 : (y 1).val < 512 := (y 1).isLt
  refine congrArg₂ (fun a b : EReal => a * b) (rows_apply μ hO c t _ _ h0 rfl) (kept_apply μ hO c t.val t.isLt _ _ rfl rfl ?_)
  show start ((z 1).val / 512) + (z 1).val % 512 = start (t.val / 8) + (y 1).val
  rw [h1, show (t.val / 8 * 512 + (y 1).val) / 512 = t.val / 8 by omega, show (t.val / 8 * 512 + (y 1).val) % 512 = (y 1).val by omega]

/-- The result array after the run. -/
theorem final (μ : (ℓ : Loc nD τ sig) → Buf (Elt Ideal) ℓ) (hO : Ok μ) (c : Dev nD) :
    (dats μ hO 0 c).arrAt 2 (cfgM μ hO).N = G (μ ((c : Thread nD τ).loc main_arg0)) (μ ((c : Thread nD τ).loc main_arg1)) := by
  refine (dats μ hO 0 c).arrAt_eq_of_covers 2 _ ?_ fun t hf (y : S1024x512.Idx) => ?_
  · exact of_decide_eq_true (by sl_kernel_rfl)
  · refine (congrFun (after0_2 μ hO c t) y).trans (written μ hO c t y _ ?_ ?_)
    · show (BitVec.ofNat 32 (grid0.coords t 1).val).toNat * 1024 + 1 * (y 0).val = _
      rw [BitVec.toNat_ofNat, point1, Nat.mod_eq_of_lt (by omega)]
      omega
    · have ht : t.val < 32 := Nat.lt_of_lt_of_eq t.isLt N_0
      show (BitVec.ofNat 32 (grid0.coords t 0).val).toNat * 512 + 1 * (y 1).val = _
      rw [BitVec.toNat_ofNat, point0, Nat.mod_eq_of_lt (by omega)]
      omega

/-- The run: the result array holds the product, the arguments end unchanged. -/
theorem run (μ : (ℓ : Loc nD τ sig) → Buf (Elt Ideal) ℓ) (ρ : Dev nD → PrngReg) :
    θ_run (defs (F := Ideal)) (onTc (τ := τ) (main (F := Ideal))) ⟨μ, fun _ => 0, ρ⟩ (fun r => ∀ c : Dev nD,
      r.2.mem ((c.tc : Thread nD τ).loc main_v1) = G (μ ((c.tc : Thread nD τ).loc main_arg0)) (μ ((c.tc : Thread nD τ).loc main_arg1))
      ∧ r.2.mem ((c.tc : Thread nD τ).loc main_arg0) = μ ((c.tc : Thread nD τ).loc main_arg0)
      ∧ r.2.mem ((c.tc : Thread nD τ).loc main_arg1) = μ ((c.tc : Thread nD τ).loc main_arg1)) := by
  refine (θ_run defs _ _).mono (fun r h c => ?_) (run_main μ ρ (ok μ))
  exact ⟨((h c).1 2).trans (final μ (ok μ) c),
    ((h c).1 0).trans (((dats μ (ok μ) 0 c).arrAt_in 0 rfl _).trans ((A_eq μ (ok μ) c 0).trans (V_main_arg0 μ c))),
    ((h c).2 main_arg1 (by decide : main_arg1 ∈ Pipeline.restRefs sig spec0)).trans (V_main_arg1 μ c)⟩

end Cert.Proof.Value

end
-- ==== Proof.ValueReference.lean ====
/-
  The reference of the call that makes the values: three ranges of the projection's columns side by side, entry by entry
  what the call leaves.
-/
module

public import proofs.«01_k».proof.Proof.Value
public import proofs.«01_k».proof.Proof.Gen.Reference4Ideal.Run

@[expose] public section

noncomputable section

namespace Cert.Proof.Value

open Idealize.ShloMosaic Idealize.ShloMosaic.TcCoe Idealize.SL.Sem
open Cert.Reference4Ideal Cert.Reference4Ideal.Gen Idealize.ShloMosaic.ValueIdx

/-- The reference's run, at the value the kernel's run ends with. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨(h c).1.trans ?_, (h c).2⟩) (Cert.Reference4Ideal.Value.run (F := Ideal) m ρ)
  funext y
  obtain ⟨p, q, rfl⟩ : ∃ (p : Fin 8192) (q : Fin 2048), y = ix2 p q := ⟨y 0, y 1, eq_ix2 y⟩
  by_cases h0 : q.val < 512
  · refine (concatenate_apply_piece (1 : Fin 2) _ _ (ix2 p q) 0 (by show 0 < 3; omega) S8192x512 _ rfl rfl 0 rfl
        (ix2 p ⟨q.val - 0, by omega⟩) (fun b hb => ?_) (by show 0 + (q.val - 0) = q.val; omega)).trans ?_
    · match b, hb with
      | ⟨0, _⟩, _ => rfl
      | ⟨1, _⟩, hb => exact absurd rfl hb
    · refine InProj.range_entry 5696 1024 4608 512 _ _ _ _ _ _ _ _ p _ (column q) ?_
      show 5696 + (1024 + (q.val - 0)) = start (q.val / 512) + q.val % 512
      unfold start
      split_ifs <;> omega
  by_cases h1 : q.val < 1536
  · refine (concatenate_apply_piece (1 : Fin 2) _ _ (ix2 p q) 1 (by show 1 < 3; omega) S8192x1024 _ rfl rfl 512 rfl
        (ix2 p ⟨q.val - 512, by omega⟩) (fun b hb => ?_) (by show 512 + (q.val - 512) = q.val; omega)).trans ?_
    · match b, hb with
      | ⟨0, _⟩, _ => rfl
      | ⟨1, _⟩, hb => exact absurd rfl hb
    · refine InProj.range_entry 1088 2048 3072 1024 _ _ _ _ _ _ _ _ p _ (column q) ?_
      show 1088 + (2048 + (q.val - 512)) = start (q.val / 512) + q.val % 512
      unfold start
      split_ifs <;> omega
  · have hq := q.isLt
    refine (concatenate_apply_piece (1 : Fin 2) _ _ (ix2 p q) 2 (by show 2 < 3; omega) S8192x512 _ rfl rfl 1536 rfl
        (ix2 p ⟨q.val - 1536, by omega⟩) (fun b hb => ?_) (by show 1536 + (q.val - 1536) = q.val; omega)).trans ?_
    · match b, hb with
      | ⟨0, _⟩, _ => rfl
      | ⟨1, _⟩, hb => exact absurd rfl hb
    · refine InProj.range_entry 4160 1024 1536 512 _ _ _ _ _ _ _ _ p _ (column q) ?_
      show 4160 + (1024 + (q.val - 1536)) = start (q.val / 512) + q.val % 512
      unfold start
      split_ifs <;> omega

end Cert.Proof.Value

end
-- ==== Proof.ValueClaims.lean ====
/-
  The claims about the call that makes the values: both programs' frames from one run, and the value.
-/
module

public import proofs.«01_k».proof.Defs
public import proofs.«01_k».proof.Proof.ValueReference
public import proofs.«01_k».proof.Proof.Gen.Kernel4

@[expose] public section

noncomputable section

namespace Cert.Proof.Value

open Idealize.ShloMosaic Idealize.SL.Sem

section Same
variable {F : FTy → Type} [FloatOps F]

/-- The program as printed and the program read over the reals have one text: one set of bodies. -/
theorem bodies_eq : Cert.Kernel4.defs₀ (F := F) = Cert.Kernel4Ideal.defs₀ (F := F) := by
  unfold Cert.Kernel4.defs₀ Cert.Kernel4Ideal.defs₀
  refine congrArg Defs.onTc (funext fun l => ?_)
  match l with
  | 0 => rfl

theorem defs_eq : Cert.Kernel4.defs (F := F) = Cert.Kernel4Ideal.defs (F := F) := by
  unfold Cert.Kernel4.defs Cert.Kernel4Ideal.defs
  exact congrArg _ bodies_eq

end Same

theorem frame : Cert.quiescent_Kernel4 := fun m ρ _ => by
  rw [defs_eq]
  exact Cert.Kernel4Ideal.Gen.frame (F := Bits) m ρ (ok m)

theorem frame_ideal : Cert.quiescent_Kernel4Ideal := fun m ρ _ =>
  Cert.Kernel4Ideal.Gen.frame (F := Ideal) m ρ (ok m)

theorem frame_reference : Cert.quiescent_Reference4Ideal := fun m ρ _ =>
  (θ_run _ _ _).mono (fun r h => ⟨fun c => (h c).2, Idealize.ShloMosaic.sem_eq_zero_of_no_sems (by decide) r.2⟩) (reference_run m ρ)

theorem algebraic : Cert.algebraic_Kernel4Ideal_Reference4Ideal := by
  intro m ρ m' ρ' _ hargs
  refine ⟨fun c => G (m ((c.tc : Thread _ _).loc Cert.Kernel4Ideal.main_arg0)) (m ((c.tc : Thread _ _).loc Cert.Kernel4Ideal.main_arg1)), ?_, ?_⟩
  · exact run m ρ
  · refine (θ_run _ _ _).mono (fun r h c => ⟨(h c).1.trans ?_, (h c).2⟩) (reference_run m' ρ')
    exact congrArg₂ G (hargs c).1 (hargs c).2

end Cert.Proof.Value

end
-- ==== Proof.Latent.lean ====
/-
  The call of the projection kernel that makes the latent part: where its tiles of weights begin, what each grid point writes,
  and the result array after the run.
-/
module

public import proofs.«01_k».proof.Proof.Gen.Kernel5Ideal.Frame
public import proofs.«01_k».proof.Proof.InProj
public import Idealize.ShloMosaic.Lib.Pipeline.Value
public import Idealize.ShloMosaic.Lib.Pipeline.ValueKit.Geometry
public import Idealize.ShloMosaic.Lib.Pipeline.ValueKit.Acc

@[expose] public section

noncomputable section

namespace Cert.Proof.Latent

open Idealize.ShloMosaic Idealize.ShloMosaic.TcCoe Idealize.SL.Sem
open Cert.Kernel5Ideal Cert.Kernel5Ideal.Gen Idealize.ShloMosaic.ValueIdx

variable {F : FTy → Type} [FloatOps F]
variable (m : (ℓ : Loc nD τ sig) → Buf (Elt F) ℓ)

/-! ## The table -/

/-- The word the table holds at entry `x`. -/
theorem table_apply (x : S3.Idx) : tbl m 0 x = lit0 (S3.rowMajor x) := by
  show StableHlo.after hostOps0 (fun b => m ((0 : Dev nD), b)) (Proc.devRef .tc main_c) x = _
  unfold hostOps0
  after_results

/-- The first column of tile `n`. -/
def start (n : ℕ) : ℕ := 0 + 384 * n

/-- Every word is a multiple of 64. -/
theorem words_aligned : ∀ j : Fin 3, (64 : Int) ∣ (lit0 j).toInt := by decide

/-- The words are the first columns of the tiles. -/
theorem words_eq : ∀ j : Fin 3, (lit0 j).toNat = start j.val := by decide

/-- A tile lies inside the weights. -/
theorem start_le (n : ℕ) (h : n < 3) : start n + 384 ≤ 26688 :=
  (by decide : ∀ j : Fin 3, start j.val + 384 ≤ 26688) ⟨n, h⟩

theorem table_toNat (x : S3.Idx) : (tbl m 0 x : BitVec 32).toNat = start (x 0).val := by
  have e := (congrArg BitVec.toNat (table_apply m x)).trans (words_eq (S3.rowMajor x))
  exact e.trans (congrArg start (Shape.rowMajor_val_one x))

theorem table_aligned (x : S3.Idx) : (64 : Int) ∣ (tbl m 0 x : BitVec 32).toInt := by
  have e := congrArg BitVec.toInt (table_apply m x)
  exact e ▸ words_aligned _

/-- Where the weights' window begins at the grid point `i`. -/
theorem offset_eq (i : grid0.Coords) :
    cc0_transform_1 k0_off1_inb numel1_S1 (tbl m) i = ![0, start (i 0).val, 0] := by
  unfold cc0_transform_1
  funext a
  match a with
  | ⟨0, _⟩ => rfl
  | ⟨1, _⟩ =>
    refine (table_toNat m _).trans (congrArg start ?_)
    have h : (i 0).val < 3 := (i 0).isLt
    show (BitVec.ofNat 32 (i 0).val).toNat + 1 * 0 = (i 0).val
    rw [BitVec.toNat_ofNat, Nat.mod_eq_of_lt (by omega)]
    omega
  | ⟨2, _⟩ => rfl

/-- The table the host writes is admissible: every window is aligned and inside the weights. -/
theorem ok : Ok m := by
  refine ⟨fun i => ?_, fun i => ⟨fun a => ?_, Or.inl rfl⟩⟩
  · unfold k0_mult1
    dsimp only [Pipeline.Prefetch.Contents.atD]
    split
    · exact table_aligned m _
    · exact ⟨0, rfl⟩
  · rw [offset_eq]
    have h := start_le (i 0).val (i 0).isLt
    match a with
    | ⟨0, _⟩ => show 0 + 1 ≤ 2; omega
    | ⟨1, _⟩ => exact h
    | ⟨2, _⟩ => show 0 + 4096 ≤ 4096; omega

/-! ## One grid point -/

section Cases
variable (c : Dev nD) (i : grid0.Coords) (a3 : Memref sig .tc .vmem S1024x4096 .bf16) (h3 : a3.IsWhole)
  (a4 : Memref sig .tc .vmem S1x384x4096 .f32) (h4 : a4.IsWhole) (a5 : Memref sig .tc .vmem S1024x384 .bf16) (h5 : a5.IsWhole)
  (a6 : Memref sig .tc .vmem S384x4096 .bf16) (h6 : a6.IsWhole)
  (x0 : Vec F S1024x4096 .bf16) (x1 : Vec F S1x384x4096 .f32) (xt : TbBuf0 (F := F) c tbM0_0) (xs : Vec F S384x4096 .bf16)

theorem first_out (hc : cond0_0 i) : out0_A_2 c i a3 h3 a4 h4 a5 h5 a6 h6 hc x0 x1 xt = k0_pay2 x0 (k0_pay1 x1) := by
  frame_out

theorem first_kept (hc : cond0_0 i) : sout0_A_0 c i a3 h3 a4 h4 a5 h5 a6 h6 hc x0 x1 xt = k0_pay1 x1 := by
  frame_out

theorem later_out (hc : ¬cond0_0 i) : out0_B_2 c i a3 h3 a4 h4 a5 h5 a6 h6 hc x0 x1 xt xs = k0_pay2 x0 xs := by
  frame_out

end Cases

/-- The point `t` is at column tile `t / 8` and row tile `t % 8`. -/
theorem point0 (t : Fin grid0.N) : (grid0.coords t 0).val = t.val / 8 := by
  have ht : t.val < 24 := Nat.lt_of_lt_of_eq t.isLt N_0
  rw [show (grid0.coords t 0).val = t.val / 8 % 3 from Pipeline.Grid.coords_val t 0 (by decide) rfl]
  omega

theorem point1 (t : Fin grid0.N) : (grid0.coords t 1).val = t.val % 8 := by
  rw [show (grid0.coords t 1).val = t.val / 1 % 8 from Pipeline.Grid.coords_val t 1 (by decide) rfl]
  omega

/-- The weights the call reads are the argument with its last two axes exchanged. -/
theorem V_weights (c : Dev nD) :
    V m c main_v0 = transpose S2x26688x4096 [0, 2, 1] (m ((c : Thread nD τ).loc main_arg1)) transposes_S2x4096x26688_S2x26688x4096_0_2_1 := by
  show StableHlo.after hostOps0 (fun b => m (c, b)) (Proc.devRef .tc main_v0) = _
  unfold hostOps0
  after_results

/-- The block of activations at an entry. -/
theorem rows_apply (hO : Ok m) (c : Dev nD) (t : Fin (cfgM m hO).N) (y : S1024x4096.Idx) (z : S8192x4096.Idx)
    (hz0 : (z 0).val = t.val % 8 * 1024 + (y 0).val) (hz1 : (z 1).val = (y 1).val) :
    iblk m hO c 0 t y = m ((c : Thread nD τ).loc main_arg0) z := by
  show V m c main_arg0 ((((cfgM m hO).win 0).blk t).view.emb y) = _
  rw [V_main_arg0]
  refine congrArg _ (funext fun a => Fin.ext ?_)
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show 0 * 4096 + 1 * (y 1).val = (z 1).val
    omega

/-- The block of weights at an entry, in the argument's own order. -/
theorem cols_apply (hO : Ok m) (c : Dev nD) (t : Fin (cfgM m hO).N) (y : S1x384x4096.Idx) (z : S2x4096x26688.Idx)
    (hz0 : (z 0).val = 0) (hz1 : (z 1).val = (y 2).val) (hz2 : (z 2).val = start (t.val / 8) + (y 1).val) :
    iblk m hO c 1 t y = m ((c : Thread nD τ).loc main_arg1) z := by
  show V m c main_v0 ((((cfgM m hO).win 1).blk t).view.emb y) = _
  rw [V_weights]
  unfold transpose
  refine congrArg (m ((c : Thread nD τ).loc main_arg1)) (funext fun a => Fin.ext ?_)
  have h0 := point0 t
  have ho := offset_eq m (grid0.coords t)
  match a with
  | ⟨0, _⟩ =>
    show 0 + 1 * (y 0).val = (z 0).val
    have : (y 0).val < 1 := (y 0).isLt
    omega
  | ⟨1, _⟩ =>
    show cc0_transform_1 k0_off1_inb numel1_S1 (tbl m) (grid0.coords t) 2 + 1 * (y 2).val = (z 1).val
    rw [ho]
    show 0 + 1 * (y 2).val = (z 1).val
    omega
  | ⟨2, _⟩ =>
    show cc0_transform_1 k0_off1_inb numel1_S1 (tbl m) (grid0.coords t) 1 + 1 * (y 1).val = (z 2).val
    rw [ho]
    show start (grid0.coords t 0).val + 1 * (y 1).val = (z 2).val
    rw [h0]
    omega

/-- At the first point of a column tile: the tile is cast and kept, and the product is taken with it. -/
theorem at_first (hO : Ok m) (c : Dev nD) (t : Fin (cfgM m hO).N) (h0 : t.val % 8 = 0) :
    outsAt0 m hO c t.val t.isLt = (k0_pay2 (iblk m hO c 0 t) (k0_pay1 (iblk m hO c 1 t)), k0_pay1 (iblk m hO c 1 t)) :=
  (outsAt0_A m hO c t h0).trans (congrArg₂ Prod.mk
    (first_out c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) ((hcond0_0 t).mpr h0))
    (first_kept c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) ((hcond0_0 t).mpr h0)))

/-- What was kept before point `t`. -/
abbrev before (hO : Ok m) (c : Dev nD) (t : Fin (cfgM m hO).N) : Vec F S384x4096 .bf16 :=
  (outsAt0 m hO c (t.val - 1) (Nat.lt_of_le_of_lt (Nat.sub_le _ _) t.isLt)).2

/-- At a later point of the tile: the kept tile stays, and the product is taken with it. -/
theorem at_later (hO : Ok m) (c : Dev nD) (t : Fin (cfgM m hO).N) (h0 : ¬t.val % 8 = 0) :
    outsAt0 m hO c t.val t.isLt = (k0_pay2 (iblk m hO c 0 t) (before m hO c t), before m hO c t) :=
  (outsAt0_B m hO c t h0).trans (congrArg₂ Prod.mk
    (later_out c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) (before m hO c t) (fun h => h0 ((hcond0_0 t).mp h)))
    rfl)

/-- What a point writes is the product of its rows with the kept tile. -/
theorem out_eq (hO : Ok m) (c : Dev nD) (t : Fin (cfgM m hO).N) :
    (outsAt0 m hO c t.val t.isLt).1 = k0_pay2 (iblk m hO c 0 t) (outsAt0 m hO c t.val t.isLt).2 := by
  by_cases h0 : t.val % 8 = 0
  · rw [at_first m hO c t h0]
  · rw [at_later m hO c t h0]

/-! ## Over the reals -/

section Values
variable (μ : (ℓ : Loc nD τ sig) → Buf (Elt Ideal) ℓ)

theorem kept_payload (v : Vec Ideal S1x384x4096 .f32) (y : S384x4096.Idx) :
    k0_pay1 v y = v (ix3 0 (y 0) (y 1)) := by
  unfold k0_pay1
  rw [shapeCast_self]
  exact Dense.drop_unit 384 4096 v _ y

theorem out_payload (a : Vec Ideal S1024x4096 .bf16) (b : Vec Ideal S384x4096 .bf16) (y : S1024x384.Idx) :
    k0_pay2 a b y = ∑ k : Fin 4096, (a (ix2 (y 0) k) * b (ix2 (y 1) k) : EReal) := by
  unfold k0_pay2
  exact Dense.product_transposed 1024 4096 384 a b y

/-- The kept tile after point `n`: the weights of the tile's columns, row by row. -/
theorem kept_apply (hO : Ok μ) (c : Dev nD) : ∀ (n : ℕ) (hn : n < (cfgM μ hO).N) (y : S384x4096.Idx) (z : S2x4096x26688.Idx),
    (z 0).val = 0 → (z 1).val = (y 1).val → (z 2).val = start (n / 8) + (y 0).val →
    (outsAt0 μ hO c n hn).2 y = μ ((c : Thread nD τ).loc main_arg1) z := by
  intro n
  induction n with
  | zero =>
    intro hn y z z0 z1 z2
    refine (congrFun (congrArg Prod.snd (at_first μ hO c ⟨0, hn⟩ rfl)) y).trans ((kept_payload (iblk μ hO c 1 ⟨0, hn⟩) y).trans ?_)
    exact cols_apply μ hO c ⟨0, hn⟩ _ z z0 z1 z2
  | succ n ih =>
    intro hn y z z0 z1 z2
    by_cases h0 : (n + 1) % 8 = 0
    · refine (congrFun (congrArg Prod.snd (at_first μ hO c ⟨n + 1, hn⟩ h0)) y).trans ((kept_payload (iblk μ hO c 1 ⟨n + 1, hn⟩) y).trans ?_)
      exact cols_apply μ hO c ⟨n + 1, hn⟩ _ z z0 z1 z2
    · refine (congrFun (congrArg Prod.snd (at_later μ hO c ⟨n + 1, hn⟩ h0)) y).trans ?_
      refine ih (Nat.lt_of_succ_lt hn) y z z0 z1 (z2.trans ?_)
      rw [show (n + 1) / 8 = n / 8 by omega]

end Values

/-- The column of the weights that column `q` of the result is made with. -/
def column (q : Fin 1152) : Fin 26688 :=
  ⟨start (q.val / 384) + q.val % 384, by have := q.isLt; have := start_le (q.val / 384) (by omega); omega⟩

/-- The product of the activations with the chosen columns of the first layer's weights. -/
def G (h : FVec Ideal S8192x4096 .bf16) (w : FVec Ideal S2x4096x26688 .f32) : FVec Ideal S8192x1152 .bf16 :=
  fun y => InProj.entry h w (y 0) (column (y 1))

theorem written (μ : (ℓ : Loc nD τ sig) → Buf (Elt Ideal) ℓ) (hO : Ok μ) (c : Dev nD) (t : Fin (cfgM μ hO).N) (y : S1024x384.Idx)
    (z : S8192x1152.Idx) (h0 : (z 0).val = t.val % 8 * 1024 + (y 0).val) (h1 : (z 1).val = t.val / 8 * 384 + (y 1).val) :
    (outsAt0 μ hO c t.val t.isLt).1 y = G (μ ((c : Thread nD τ).loc main_arg0)) (μ ((c : Thread nD τ).loc main_arg1)) z := by
  unfold G InProj.entry
  rw [out_eq]
  refine (out_payload _ _ _).trans (Finset.sum_congr rfl fun k _ => ?_)
  have hy1 : (y 1).val < 384 := (y 1).isLt
  refine congrArg₂ (fun a b : EReal => a * b) (rows_apply μ hO c t _ _ h0 rfl) (kept_apply μ hO c t.val t.isLt _ _ rfl rfl ?_)
  show start ((z 1).val / 384) + (z 1).val % 384 = start (t.val / 8) + (y 1).val
  rw [h1, show (t.val / 8 * 384 + (y 1).val) / 384 = t.val / 8 by omega, show (t.val / 8 * 384 + (y 1).val) % 384 = (y 1).val by omega]

/-- The result array after the run. -/
theorem final (μ : (ℓ : Loc nD τ sig) → Buf (Elt Ideal) ℓ) (hO : Ok μ) (c : Dev nD) :
    (dats μ hO 0 c).arrAt 2 (cfgM μ hO).N = G (μ ((c : Thread nD τ).loc main_arg0)) (μ ((c : Thread nD τ).loc main_arg1)) := by
  refine (dats μ hO 0 c).arrAt_eq_of_covers 2 _ ?_ fun t hf (y : S1024x384.Idx) => ?_
  · exact of_decide_eq_true (by sl_kernel_rfl)
  · refine (congrFun (after0_2 μ hO c t) y).trans (written μ hO c t y _ ?_ ?_)
    · show (BitVec.ofNat 32 (grid0.coords t 1).val).toNat * 1024 + 1 * (y 0).val = _
      rw [BitVec.toNat_ofNat, point1, Nat.mod_eq_of_lt (by omega)]
      omega
    · have ht : t.val < 24 := Nat.lt_of_lt_of_eq t.isLt N_0
      show (BitVec.ofNat 32 (grid0.coords t 0).val).toNat * 384 + 1 * (y 1).val = _
      rw [BitVec.toNat_ofNat, point0, Nat.mod_eq_of_lt (by omega)]
      omega

/-- The run: the result array holds the product, the arguments end unchanged. -/
theorem run (μ : (ℓ : Loc nD τ sig) → Buf (Elt Ideal) ℓ) (ρ : Dev nD → PrngReg) :
    θ_run (defs (F := Ideal)) (onTc (τ := τ) (main (F := Ideal))) ⟨μ, fun _ => 0, ρ⟩ (fun r => ∀ c : Dev nD,
      r.2.mem ((c.tc : Thread nD τ).loc main_v1) = G (μ ((c.tc : Thread nD τ).loc main_arg0)) (μ ((c.tc : Thread nD τ).loc main_arg1))
      ∧ r.2.mem ((c.tc : Thread nD τ).loc main_arg0) = μ ((c.tc : Thread nD τ).loc main_arg0)
      ∧ r.2.mem ((c.tc : Thread nD τ).loc main_arg1) = μ ((c.tc : Thread nD τ).loc main_arg1)) := by
  refine (θ_run defs _ _).mono (fun r h c => ?_) (run_main μ ρ (ok μ))
  exact ⟨((h c).1 2).trans (final μ (ok μ) c),
    ((h c).1 0).trans (((dats μ (ok μ) 0 c).arrAt_in 0 rfl _).trans ((A_eq μ (ok μ) c 0).trans (V_main_arg0 μ c))),
    ((h c).2 main_arg1 (by decide : main_arg1 ∈ Pipeline.restRefs sig spec0)).trans (V_main_arg1 μ c)⟩

end Cert.Proof.Latent

end
-- ==== Proof.LatentReference.lean ====
/-
  The reference of the call that makes the latent part: its columns of the projection, entry by entry what the call leaves.
-/
module

public import proofs.«01_k».proof.Proof.Latent
public import proofs.«01_k».proof.Proof.Gen.Reference5Ideal.Run

@[expose] public section

noncomputable section

namespace Cert.Proof.Latent

open Idealize.ShloMosaic Idealize.ShloMosaic.TcCoe Idealize.SL.Sem
open Cert.Reference5Ideal Cert.Reference5Ideal.Gen Idealize.ShloMosaic.ValueIdx

/-- The reference's run, at the value the kernel's run ends with. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨(h c).1.trans ?_, (h c).2⟩) (Cert.Reference5Ideal.Value.run (F := Ideal) m ρ)
  funext y
  obtain ⟨p, q, rfl⟩ : ∃ (p : Fin 8192) (q : Fin 1152), y = ix2 p q := ⟨y 0, y 1, eq_ix2 y⟩
  refine Eq.trans ?_ ((InProj.host_entry (m ((c.tc : Thread nD τ).loc main_arg0)) (m ((c.tc : Thread nD τ).loc main_arg1)) bitsLt_bf16_f32
    slices_S2x4096x26688_S1x4096x26688_0_0_0 shapeCasts_S1x4096x26688_S4096x26688 p (column q)))
  refine congrArg (Host.dotGeneral (F := Ideal) (DotDims.plain 8192 4096 26688) none _ _ : FVec Ideal InProj.Whole .f32) ?_
  funext a
  match a with
  | ⟨0, _⟩ => exact Fin.ext (Nat.zero_add _)
  | ⟨1, _⟩ => exact Fin.ext (by show 0 + q.val = 0 + 384 * (q.val / 384) + q.val % 384; omega)

end Cert.Proof.Latent

end
-- ==== Proof.LatentClaims.lean ====
/-
  The claims about the call that makes the latent part: both programs' frames from one run, and the value.
-/
module

public import proofs.«01_k».proof.Defs
public import proofs.«01_k».proof.Proof.LatentReference
public import proofs.«01_k».proof.Proof.Gen.Kernel5

@[expose] public section

noncomputable section

namespace Cert.Proof.Latent

open Idealize.ShloMosaic Idealize.SL.Sem

section Same
variable {F : FTy → Type} [FloatOps F]

/-- The program as printed and the program read over the reals have one text: one set of bodies. -/
theorem bodies_eq : Cert.Kernel5.defs₀ (F := F) = Cert.Kernel5Ideal.defs₀ (F := F) := by
  unfold Cert.Kernel5.defs₀ Cert.Kernel5Ideal.defs₀
  refine congrArg Defs.onTc (funext fun l => ?_)
  match l with
  | 0 => rfl

theorem defs_eq : Cert.Kernel5.defs (F := F) = Cert.Kernel5Ideal.defs (F := F) := by
  unfold Cert.Kernel5.defs Cert.Kernel5Ideal.defs
  exact congrArg _ bodies_eq

end Same

theorem frame : Cert.quiescent_Kernel5 := fun m ρ _ => by
  rw [defs_eq]
  exact Cert.Kernel5Ideal.Gen.frame (F := Bits) m ρ (ok m)

theorem frame_ideal : Cert.quiescent_Kernel5Ideal := fun m ρ _ =>
  Cert.Kernel5Ideal.Gen.frame (F := Ideal) m ρ (ok m)

theorem frame_reference : Cert.quiescent_Reference5Ideal := fun m ρ _ =>
  (θ_run _ _ _).mono (fun r h => ⟨fun c => (h c).2, Idealize.ShloMosaic.sem_eq_zero_of_no_sems (by decide) r.2⟩) (reference_run m ρ)

theorem algebraic : Cert.algebraic_Kernel5Ideal_Reference5Ideal := by
  intro m ρ m' ρ' _ hargs
  refine ⟨fun c => G (m ((c.tc : Thread _ _).loc Cert.Kernel5Ideal.main_arg0)) (m ((c.tc : Thread _ _).loc Cert.Kernel5Ideal.main_arg1)), ?_, ?_⟩
  · exact run m ρ
  · refine (θ_run _ _ _).mono (fun r h c => ⟨(h c).1.trans ?_, (h c).2⟩) (reference_run m' ρ')
    exact congrArg₂ G (hargs c).1 (hargs c).2

end Cert.Proof.Latent

end
-- ==== Proof.Sigmoid.lean ====
/-
  The logistic function through the hyperbolic tangent of half the argument.
-/
module

public import Idealize.ShloMosaic.Lib.IdealHost

@[expose] public section

noncomputable section

namespace Cert.Proof.Sigmoid

open Idealize.ShloMosaic

/-- The literal half. -/
theorem half_bits : Ideal.ofBits .f32 0x3F000000#32 = ((1 / 2 : ℝ) : EReal) := by
  have e : ((0x3F000000#32 : BitVec 32).extractLsb' 23 8).toNat = 126 := by decide
  have f : ((0x3F000000#32 : BitVec 32).extractLsb' 0 23).toNat = 0 := by decide
  have s : ((0x3F000000#32 : BitVec 32).extractLsb' 31 1 == 1#1) = false := by decide
  show Ideal.ieee 8 23 (0x3F000000#32 : BitVec 32) = _
  unfold Ideal.ieee
  simp only [e, f, s]
  norm_num

/-- Over the reals: half the hyperbolic tangent of half the argument, plus a half. -/
theorem real_half_tanh (r : ℝ) : 1 / 2 * Real.tanh (1 / 2 * r) + 1 / 2 = (1 + Real.exp (-r))⁻¹ := by
  have h1 : 0 < Real.exp (1 / 2 * r) := Real.exp_pos _
  have h2 : 0 < Real.exp (-(1 / 2 * r)) := Real.exp_pos _
  have h3 : Real.exp (1 / 2 * r) * Real.exp (-(1 / 2 * r)) = 1 := by rw [← Real.exp_add, add_neg_cancel, Real.exp_zero]
  have h4 : Real.exp (-r) = Real.exp (-(1 / 2 * r)) * Real.exp (-(1 / 2 * r)) := by
    rw [← Real.exp_add]; congr 1; ring
  rw [h4, Real.tanh_eq_sinh_div_cosh, Real.sinh_eq, Real.cosh_eq]
  generalize Real.exp (1 / 2 * r) = a at *
  generalize Real.exp (-(1 / 2 * r)) = b at *
  have h5 : a + b ≠ 0 := by positivity
  have h6 : 1 + b * b ≠ 0 := by positivity
  field_simp
  linear_combination (2 * b) * h3

/-- The same over the extended reals, at the infinities too. -/
theorem half_tanh (g : EReal) :
    Ideal.ofBits .f32 0x3F000000#32 * Ideal.tanh (Ideal.ofBits .f32 0x3F000000#32 * g) + Ideal.ofBits .f32 0x3F000000#32
      = Ideal.logistic g := by
  rw [half_bits]
  induction g using EReal.rec with
  | bot =>
    rw [EReal.coe_mul_bot_of_pos (by norm_num), Ideal.tanh_bot, Ideal.logistic_bot]
    exact congrArg (fun r : ℝ => (r : EReal)) (show (1 / 2 : ℝ) * (-1) + 1 / 2 = 0 by norm_num)
  | top =>
    rw [EReal.coe_mul_top_of_pos (by norm_num), Ideal.tanh_top, Ideal.logistic_top]
    exact congrArg (fun r : ℝ => (r : EReal)) (show (1 / 2 : ℝ) * 1 + 1 / 2 = 1 by norm_num)
  | coe r =>
    rw [← EReal.coe_mul, Ideal.tanh_coe, Ideal.logistic_coe, ← EReal.coe_mul, ← EReal.coe_add, real_half_tanh]

end Cert.Proof.Sigmoid

end
-- ==== Proof.Merge.lean ====
/-
  The call that gates and adds the projections of the four branches: what each grid point writes, and the result array after the run.
-/
module

public import proofs.«01_k».proof.Proof.Gen.Kernel6Ideal.Frame
public import proofs.«01_k».proof.Proof.Gen.Kernel6Ideal.Value
public import proofs.«01_k».proof.Proof.Dense
public import proofs.«01_k».proof.Proof.Sigmoid
public import Idealize.ShloMosaic.Lib.Pipeline.Value
public import Idealize.ShloMosaic.Lib.Pipeline.ValueKit.Geometry
public import Idealize.ShloMosaic.Lib.Pipeline.ValueKit.Acc

@[expose] public section

noncomputable section

namespace Cert.Proof.Merge

open Idealize.ShloMosaic Idealize.ShloMosaic.TcCoe Idealize.SL.Sem
open Cert.Kernel6Ideal Cert.Kernel6Ideal.Gen Idealize.ShloMosaic.ValueIdx

variable {F : FTy → Type} [FloatOps F]
variable (m : (ℓ : Loc nD τ sig) → Buf (Elt F) ℓ)

/-! ## One grid point -/

section Cases
variable (c : Dev nD) (i : grid0.Coords) (a2 : Memref sig .tc .vmem S1024x1024 .bf16) (h2 : a2.IsWhole)
  (a3 : Memref sig .tc .vmem S1024x1024 .bf16) (h3 : a3.IsWhole)
  (a4 : Memref sig .tc .vmem S1024x1024 .bf16) (h4 : a4.IsWhole)
  (a5 : Memref sig .tc .vmem S1024x512 .bf16) (h5 : a5.IsWhole)
  (a6 : Memref sig .tc .vmem S1x1024x512 .f32) (h6 : a6.IsWhole)
  (a7 : Memref sig .tc .vmem S1x1024x512 .f32) (h7 : a7.IsWhole)
  (a8 : Memref sig .tc .vmem S1x1024x512 .f32) (h8 : a8.IsWhole)
  (a9 : Memref sig .tc .vmem S1x512x512 .f32) (h9 : a9.IsWhole)
  (a10 : Memref sig .tc .vmem S1024x512 .bf16) (h10 : a10.IsWhole)
  (a11 : Memref sig .tc .vmem S1024x512 .bf16) (h11 : a11.IsWhole)
  (a12 : Memref sig .tc .vmem S1024x512 .bf16) (h12 : a12.IsWhole)
  (a13 : Memref sig .tc .vmem S1024x512 .bf16) (h13 : a13.IsWhole)
  (a14 : Memref sig .tc .vmem S1024x512 .bf16) (h14 : a14.IsWhole)
  (a15 : Memref sig .tc .vmem S1024x512 .bf16) (h15 : a15.IsWhole)
  (a16 : Memref sig .tc .vmem S1024x512 .bf16) (h16 : a16.IsWhole)
  (a17 : Memref sig .tc .vmem S1024x512 .bf16) (h17 : a17.IsWhole)
  (a18 : Memref sig .tc .vmem S512x512 .bf16) (h18 : a18.IsWhole)
  (x0 x1 x2 : Vec F S1024x1024 .bf16) (x3 : Vec F S1024x512 .bf16) (x4 x5 x6 : Vec F S1x1024x512 .f32) (x7 : Vec F S1x512x512 .f32)
  (x8 x9 x10 x11 : Vec F S1024x512 .bf16) (w0 w1 w2 : Vec F S1024x512 .bf16) (w3 : Vec F S512x512 .bf16)

theorem first_out (hc : cond0_0 i) (hd : cond0_1 i) (he : cond0_2 i) (hf : cond0_3 i) :
    out0_A_12 c i a2 h2 a3 h3 a4 h4 a5 h5 a6 h6 a7 h7 a8 h8 a9 h9 a10 h10 a11 h11 a12 h12 a13 h13 a14 h14 a15 h15 a16 h16 a17 h17 a18 h18 hc hd he hf
        x0 x1 x2 x3 x4 x5 x6 x7 x8 x9 x10 x11
      = k0_pay1 (k0_pay7 (k0_pay3 (k0_pay2 x4) x8 x0) (k0_pay5 (k0_pay4 x5) x9 x1) (k0_pay6 x6) x10 x2) (k0_pay9 (k0_pay8 x7) x11 x3) := by
  frame_out

theorem first_kept0 (hc : cond0_0 i) (hd : cond0_1 i) (he : cond0_2 i) (hf : cond0_3 i) :
    sout0_A_0 c i a2 h2 a3 h3 a4 h4 a5 h5 a6 h6 a7 h7 a8 h8 a9 h9 a10 h10 a11 h11 a12 h12 a13 h13 a14 h14 a15 h15 a16 h16 a17 h17 a18 h18 hc hd he hf
        x0 x1 x2 x3 x4 x5 x6 x7 x8 x9 x10 x11 = k0_pay2 x4 := by
  frame_out

theorem first_kept1 (hc : cond0_0 i) (hd : cond0_1 i) (he : cond0_2 i) (hf : cond0_3 i) :
    sout0_A_1 c i a2 h2 a3 h3 a4 h4 a5 h5 a6 h6 a7 h7 a8 h8 a9 h9 a10 h10 a11 h11 a12 h12 a13 h13 a14 h14 a15 h15 a16 h16 a17 h17 a18 h18 hc hd he hf
        x0 x1 x2 x3 x4 x5 x6 x7 x8 x9 x10 x11 = k0_pay4 x5 := by
  frame_out

theorem first_kept2 (hc : cond0_0 i) (hd : cond0_1 i) (he : cond0_2 i) (hf : cond0_3 i) :
    sout0_A_2 c i a2 h2 a3 h3 a4 h4 a5 h5 a6 h6 a7 h7 a8 h8 a9 h9 a10 h10 a11 h11 a12 h12 a13 h13 a14 h14 a15 h15 a16 h16 a17 h17 a18 h18 hc hd he hf
        x0 x1 x2 x3 x4 x5 x6 x7 x8 x9 x10 x11 = k0_pay6 x6 := by
  frame_out

theorem first_kept3 (hc : cond0_0 i) (hd : cond0_1 i) (he : cond0_2 i) (hf : cond0_3 i) :
    sout0_A_3 c i a2 h2 a3 h3 a4 h4 a5 h5 a6 h6 a7 h7 a8 h8 a9 h9 a10 h10 a11 h11 a12 h12 a13 h13 a14 h14 a15 h15 a16 h16 a17 h17 a18 h18 hc hd he hf
        x0 x1 x2 x3 x4 x5 x6 x7 x8 x9 x10 x11 = k0_pay8 x7 := by
  frame_out

theorem later_out (hc : ¬cond0_0 i) (hd : ¬cond0_1 i) (he : ¬cond0_2 i) (hf : ¬cond0_3 i) :
    out0_B_12 c i a2 h2 a3 h3 a4 h4 a5 h5 a6 h6 a7 h7 a8 h8 a9 h9 a10 h10 a11 h11 a12 h12 a13 h13 a14 h14 a15 h15 a16 h16 a17 h17 a18 h18 hc hd he hf
        x0 x1 x2 x3 x4 x5 x6 x7 x8 x9 x10 x11 w0 w1 w2 w3
      = k0_pay1 (k0_pay7 (k0_pay3 w0 x8 x0) (k0_pay5 w1 x9 x1) w2 x10 x2) (k0_pay9 w3 x11 x3) := by
  frame_out

end Cases

/-- The point `t` is at column tile `t / 8` and row tile `t % 8`. -/
theorem point0 (t : Fin grid0.N) : (grid0.coords t 0).val = t.val / 8 := by
  have ht : t.val < 64 := Nat.lt_of_lt_of_eq t.isLt N_0
  rw [show (grid0.coords t 0).val = t.val / 8 % 8 from Pipeline.Grid.coords_val t 0 (by decide) rfl]
  omega

theorem point1 (t : Fin grid0.N) : (grid0.coords t 1).val = t.val % 8 := by
  rw [show (grid0.coords t 1).val = t.val / 1 % 8 from Pipeline.Grid.coords_val t 1 (by decide) rfl]
  omega

/-- The blocks of the four branches at an entry. -/
theorem rows0_apply (c : Dev nD) (t : Fin cfg0.N) (y : S1024x1024.Idx) (z : S8192x1024.Idx)
    (hz0 : (z 0).val = t.val % 8 * 1024 + (y 0).val) (hz1 : (z 1).val = (y 1).val) :
    iblk m c 0 t y = m ((c : Thread nD τ).loc main_arg0) z := by
  show m ((c : Thread nD τ).loc main_arg0) (((cfg0.win 0).blk t).view.emb y) = _
  refine congrArg _ (funext fun a => Fin.ext ?_)
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show 0 * 1024 + 1 * (y 1).val = (z 1).val
    omega

theorem rows1_apply (c : Dev nD) (t : Fin cfg0.N) (y : S1024x1024.Idx) (z : S8192x1024.Idx)
    (hz0 : (z 0).val = t.val % 8 * 1024 + (y 0).val) (hz1 : (z 1).val = (y 1).val) :
    iblk m c 1 t y = m ((c : Thread nD τ).loc main_arg1) z := by
  show m ((c : Thread nD τ).loc main_arg1) (((cfg0.win 1).blk t).view.emb y) = _
  refine congrArg _ (funext fun a => Fin.ext ?_)
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show 0 * 1024 + 1 * (y 1).val = (z 1).val
    omega

theorem rows2_apply (c : Dev nD) (t : Fin cfg0.N) (y : S1024x1024.Idx) (z : S8192x1024.Idx)
    (hz0 : (z 0).val = t.val % 8 * 1024 + (y 0).val) (hz1 : (z 1).val = (y 1).val) :
    iblk m c 2 t y = m ((c : Thread nD τ).loc main_arg2) z := by
  show m ((c : Thread nD τ).loc main_arg2) (((cfg0.win 2).blk t).view.emb y) = _
  refine congrArg _ (funext fun a => Fin.ext ?_)
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show 0 * 1024 + 1 * (y 1).val = (z 1).val
    omega

theorem rows3_apply (c : Dev nD) (t : Fin cfg0.N) (y : S1024x512.Idx) (z : S8192x512.Idx)
    (hz0 : (z 0).val = t.val % 8 * 1024 + (y 0).val) (hz1 : (z 1).val = (y 1).val) :
    iblk m c 3 t y = m ((c : Thread nD τ).loc main_arg3) z := by
  show m ((c : Thread nD τ).loc main_arg3) (((cfg0.win 3).blk t).view.emb y) = _
  refine congrArg _ (funext fun a => Fin.ext ?_)
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show 0 * 512 + 1 * (y 1).val = (z 1).val
    omega

/-- The block of the rows of branch 1 in the first layer's weights, at an entry. -/
theorem weight0_apply (c : Dev nD) (t : Fin cfg0.N) (y : S1x1024x512.Idx) (z : S2x3584x4096.Idx)
    (hz0 : (z 0).val = 0) (hz1 : (z 1).val = 0 + (y 1).val) (hz2 : (z 2).val = t.val / 8 * 512 + (y 2).val) :
    X0_4 m c t y = m ((c : Thread nD τ).loc main_arg4) z := by
  unfold X0_4 Pipeline.Window.fill
  rw [dif_pos (moved0_4 t y)]
  show m ((c : Thread nD τ).loc main_arg4) (((cfg0.win 4).blk t).view.emb fun a => ⟨(y a).val, _⟩) = _
  refine congrArg _ (funext fun a => Fin.ext ?_)
  have h0 := point0 t
  have hlt : (grid0.coords t 0).val < 8 := (grid0.coords t 0).isLt
  match a with
  | ⟨0, _⟩ =>
    show 0 * 1 + 1 * (y 0).val = (z 0).val
    have : (y 0).val < 1 := (y 0).isLt
    omega
  | ⟨1, _⟩ =>
    show 0 * 1024 + 1 * (y 1).val = (z 1).val
    omega
  | ⟨2, _⟩ =>
    show (BitVec.ofNat 32 (grid0.coords t 0).val).toNat * 512 + 1 * (y 2).val = (z 2).val
    rw [BitVec.toNat_ofNat, Nat.mod_eq_of_lt (by omega)]
    omega

/-- The block of the rows of branch 2 in the first layer's weights, at an entry. -/
theorem weight1_apply (c : Dev nD) (t : Fin cfg0.N) (y : S1x1024x512.Idx) (z : S2x3584x4096.Idx)
    (hz0 : (z 0).val = 0) (hz1 : (z 1).val = 1024 + (y 1).val) (hz2 : (z 2).val = t.val / 8 * 512 + (y 2).val) :
    X0_5 m c t y = m ((c : Thread nD τ).loc main_arg4) z := by
  unfold X0_5 Pipeline.Window.fill
  rw [dif_pos (moved0_5 t y)]
  show m ((c : Thread nD τ).loc main_arg4) (((cfg0.win 5).blk t).view.emb fun a => ⟨(y a).val, _⟩) = _
  refine congrArg _ (funext fun a => Fin.ext ?_)
  have h0 := point0 t
  have hlt : (grid0.coords t 0).val < 8 := (grid0.coords t 0).isLt
  match a with
  | ⟨0, _⟩ =>
    show 0 * 1 + 1 * (y 0).val = (z 0).val
    have : (y 0).val < 1 := (y 0).isLt
    omega
  | ⟨1, _⟩ =>
    show 1 * 1024 + 1 * (y 1).val = (z 1).val
    omega
  | ⟨2, _⟩ =>
    show (BitVec.ofNat 32 (grid0.coords t 0).val).toNat * 512 + 1 * (y 2).val = (z 2).val
    rw [BitVec.toNat_ofNat, Nat.mod_eq_of_lt (by omega)]
    omega

/-- The block of the rows of branch 3 in the first layer's weights, at an entry. -/
theorem weight2_apply (c : Dev nD) (t : Fin cfg0.N) (y : S1x1024x512.Idx) (z : S2x3584x4096.Idx)
    (hz0 : (z 0).val = 0) (hz1 : (z 1).val = 2048 + (y 1).val) (hz2 : (z 2).val = t.val / 8 * 512 + (y 2).val) :
    X0_6 m c t y = m ((c : Thread nD τ).loc main_arg4) z := by
  unfold X0_6 Pipeline.Window.fill
  rw [dif_pos (moved0_6 t y)]
  show m ((c : Thread nD τ).loc main_arg4) (((cfg0.win 6).blk t).view.emb fun a => ⟨(y a).val, _⟩) = _
  refine congrArg _ (funext fun a => Fin.ext ?_)
  have h0 := point0 t
  have hlt : (grid0.coords t 0).val < 8 := (grid0.coords t 0).isLt
  match a with
  | ⟨0, _⟩ =>
    show 0 * 1 + 1 * (y 0).val = (z 0).val
    have : (y 0).val < 1 := (y 0).isLt
    omega
  | ⟨1, _⟩ =>
    show 2 * 1024 + 1 * (y 1).val = (z 1).val
    omega
  | ⟨2, _⟩ =>
    show (BitVec.ofNat 32 (grid0.coords t 0).val).toNat * 512 + 1 * (y 2).val = (z 2).val
    rw [BitVec.toNat_ofNat, Nat.mod_eq_of_lt (by omega)]
    omega

/-- The block of the rows of branch 4 in the first layer's weights, at an entry. -/
theorem weight3_apply (c : Dev nD) (t : Fin cfg0.N) (y : S1x512x512.Idx) (z : S2x3584x4096.Idx)
    (hz0 : (z 0).val = 0) (hz1 : (z 1).val = 3072 + (y 1).val) (hz2 : (z 2).val = t.val / 8 * 512 + (y 2).val) :
    iblk m c 7 t y = m ((c : Thread nD τ).loc main_arg4) z := by
  show m ((c : Thread nD τ).loc main_arg4) (((cfg0.win 7).blk t).view.emb y) = _
  refine congrArg _ (funext fun a => Fin.ext ?_)
  have h0 := point0 t
  have hlt : (grid0.coords t 0).val < 8 := (grid0.coords t 0).isLt
  match a with
  | ⟨0, _⟩ =>
    show 0 * 1 + 1 * (y 0).val = (z 0).val
    have : (y 0).val < 1 := (y 0).isLt
    omega
  | ⟨1, _⟩ =>
    show 6 * 512 + 1 * (y 1).val = (z 1).val
    omega
  | ⟨2, _⟩ =>
    show (BitVec.ofNat 32 (grid0.coords t 0).val).toNat * 512 + 1 * (y 2).val = (z 2).val
    rw [BitVec.toNat_ofNat, Nat.mod_eq_of_lt (by omega)]
    omega

/-- The block of the gates of branch 1 at an entry. -/
theorem gate0_apply (c : Dev nD) (t : Fin cfg0.N) (y : S1024x512.Idx) (z : S8192x16384.Idx)
    (hz0 : (z 0).val = t.val % 8 * 1024 + (y 0).val) (hz1 : (z 1).val = 0 + (t.val / 8 * 512 + (y 1).val)) :
    iblk m c 8 t y = m ((c : Thread nD τ).loc main_arg5) z := by
  show m ((c : Thread nD τ).loc main_arg5) (((cfg0.win 8).blk t).view.emb y) = _
  refine congrArg _ (funext fun a => Fin.ext ?_)
  have h0 := point0 t
  have hlt0 : (grid0.coords t 0).val < 8 := (grid0.coords t 0).isLt
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show (0#32 + BitVec.ofNat 32 (grid0.coords t 0).val).toNat * 512 + 1 * (y 1).val = (z 1).val
    rw [BitVec.toNat_add, BitVec.toNat_ofNat, BitVec.toNat_ofNat]
    omega

/-- The block of the gates of branch 2 at an entry. -/
theorem gate1_apply (c : Dev nD) (t : Fin cfg0.N) (y : S1024x512.Idx) (z : S8192x16384.Idx)
    (hz0 : (z 0).val = t.val % 8 * 1024 + (y 0).val) (hz1 : (z 1).val = 4096 + (t.val / 8 * 512 + (y 1).val)) :
    iblk m c 9 t y = m ((c : Thread nD τ).loc main_arg5) z := by
  show m ((c : Thread nD τ).loc main_arg5) (((cfg0.win 9).blk t).view.emb y) = _
  refine congrArg _ (funext fun a => Fin.ext ?_)
  have h0 := point0 t
  have hlt0 : (grid0.coords t 0).val < 8 := (grid0.coords t 0).isLt
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show (8#32 + BitVec.ofNat 32 (grid0.coords t 0).val).toNat * 512 + 1 * (y 1).val = (z 1).val
    rw [BitVec.toNat_add, BitVec.toNat_ofNat, BitVec.toNat_ofNat]
    omega

/-- The block of the gates of branch 3 at an entry. -/
theorem gate2_apply (c : Dev nD) (t : Fin cfg0.N) (y : S1024x512.Idx) (z : S8192x16384.Idx)
    (hz0 : (z 0).val = t.val % 8 * 1024 + (y 0).val) (hz1 : (z 1).val = 8192 + (t.val / 8 * 512 + (y 1).val)) :
    iblk m c 10 t y = m ((c : Thread nD τ).loc main_arg5) z := by
  show m ((c : Thread nD τ).loc main_arg5) (((cfg0.win 10).blk t).view.emb y) = _
  refine congrArg _ (funext fun a => Fin.ext ?_)
  have h0 := point0 t
  have hlt0 : (grid0.coords t 0).val < 8 := (grid0.coords t 0).isLt
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show (16#32 + BitVec.ofNat 32 (grid0.coords t 0).val).toNat * 512 + 1 * (y 1).val = (z 1).val
    rw [BitVec.toNat_add, BitVec.toNat_ofNat, BitVec.toNat_ofNat]
    omega

/-- The block of the gates of branch 4 at an entry. -/
theorem gate3_apply (c : Dev nD) (t : Fin cfg0.N) (y : S1024x512.Idx) (z : S8192x16384.Idx)
    (hz0 : (z 0).val = t.val % 8 * 1024 + (y 0).val) (hz1 : (z 1).val = 12288 + (t.val / 8 * 512 + (y 1).val)) :
    iblk m c 11 t y = m ((c : Thread nD τ).loc main_arg5) z := by
  show m ((c : Thread nD τ).loc main_arg5) (((cfg0.win 11).blk t).view.emb y) = _
  refine congrArg _ (funext fun a => Fin.ext ?_)
  have h0 := point0 t
  have hlt0 : (grid0.coords t 0).val < 8 := (grid0.coords t 0).isLt
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show (24#32 + BitVec.ofNat 32 (grid0.coords t 0).val).toNat * 512 + 1 * (y 1).val = (z 1).val
    rw [BitVec.toNat_add, BitVec.toNat_ofNat, BitVec.toNat_ofNat]
    omega

/-- At the first point of a column tile: the four tiles are cast and kept, and the products are taken with them. -/
theorem at_first (c : Dev nD) (t : Fin cfg0.N) (h0 : t.val % 8 = 0) :
    outsAt0 m c t.val t.isLt
      = (k0_pay1 (k0_pay7 (k0_pay3 (k0_pay2 (X0_4 m c t)) (iblk m c 8 t) (iblk m c 0 t)) (k0_pay5 (k0_pay4 (X0_5 m c t)) (iblk m c 9 t) (iblk m c 1 t)) (k0_pay6 (X0_6 m c t)) (iblk m c 10 t) (iblk m c 2 t)) (k0_pay9 (k0_pay8 (iblk m c 7 t)) (iblk m c 11 t) (iblk m c 3 t)),
          k0_pay2 (X0_4 m c t), k0_pay4 (X0_5 m c t), k0_pay6 (X0_6 m c t), k0_pay8 (iblk m c 7 t)) :=
  (outsAt0_A m c t h0 h0 h0 h0).trans (congrArg₂ Prod.mk
      (first_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (X0_4 m c t) (X0_5 m c t) (X0_6 m c t) (iblk m c 7 t) (iblk m c 8 t) (iblk m c 9 t) (iblk m c 10 t) (iblk m c 11 t) ((hcond0_0 t).mpr h0) ((hcond0_1 t).mpr h0) ((hcond0_2 t).mpr h0) ((hcond0_3 t).mpr h0))
      (congrArg₂ Prod.mk
      (first_kept0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (X0_4 m c t) (X0_5 m c t) (X0_6 m c t) (iblk m c 7 t) (iblk m c 8 t) (iblk m c 9 t) (iblk m c 10 t) (iblk m c 11 t) ((hcond0_0 t).mpr h0) ((hcond0_1 t).mpr h0) ((hcond0_2 t).mpr h0) ((hcond0_3 t).mpr h0))
      (congrArg₂ Prod.mk
      (first_kept1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (X0_4 m c t) (X0_5 m c t) (X0_6 m c t) (iblk m c 7 t) (iblk m c 8 t) (iblk m c 9 t) (iblk m c 10 t) (iblk m c 11 t) ((hcond0_0 t).mpr h0) ((hcond0_1 t).mpr h0) ((hcond0_2 t).mpr h0) ((hcond0_3 t).mpr h0))
      (congrArg₂ Prod.mk
      (first_kept2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (X0_4 m c t) (X0_5 m c t) (X0_6 m c t) (iblk m c 7 t) (iblk m c 8 t) (iblk m c 9 t) (iblk m c 10 t) (iblk m c 11 t) ((hcond0_0 t).mpr h0) ((hcond0_1 t).mpr h0) ((hcond0_2 t).mpr h0) ((hcond0_3 t).mpr h0))
      (first_kept3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (X0_4 m c t) (X0_5 m c t) (X0_6 m c t) (iblk m c 7 t) (iblk m c 8 t) (iblk m c 9 t) (iblk m c 10 t) (iblk m c 11 t) ((hcond0_0 t).mpr h0) ((hcond0_1 t).mpr h0) ((hcond0_2 t).mpr h0) ((hcond0_3 t).mpr h0))))))

/-- What was kept before point `t`. -/
abbrev before (c : Dev nD) (t : Fin cfg0.N) : Vec F S1024x512 .bf16 × Vec F S1024x512 .bf16 × Vec F S1024x512 .bf16 × Vec F S512x512 .bf16 :=
  (outsAt0 m c (t.val - 1) (Nat.lt_of_le_of_lt (Nat.sub_le _ _) t.isLt)).2

/-- At a later point of the tile: the kept tiles stay, and the products are taken with them. -/
theorem at_later (c : Dev nD) (t : Fin cfg0.N) (h0 : ¬t.val % 8 = 0) :
    outsAt0 m c t.val t.isLt
      = (k0_pay1 (k0_pay7 (k0_pay3 (before m c t).1 (iblk m c 8 t) (iblk m c 0 t)) (k0_pay5 (before m c t).2.1 (iblk m c 9 t) (iblk m c 1 t)) (before m c t).2.2.1 (iblk m c 10 t) (iblk m c 2 t)) (k0_pay9 (before m c t).2.2.2 (iblk m c 11 t) (iblk m c 3 t)),
          before m c t) :=
  (outsAt0_B m c t h0 h0 h0 h0).trans (congrArg₂ Prod.mk
    (later_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (X0_4 m c t) (X0_5 m c t) (X0_6 m c t) (iblk m c 7 t) (iblk m c 8 t) (iblk m c 9 t) (iblk m c 10 t) (iblk m c 11 t) (before m c t).1 (before m c t).2.1 (before m c t).2.2.1 (before m c t).2.2.2 (fun h => h0 ((hcond0_0 t).mp h)) (fun h => h0 ((hcond0_1 t).mp h)) (fun h => h0 ((hcond0_2 t).mp h)) (fun h => h0 ((hcond0_3 t).mp h)))
    rfl)

/-- What a point writes is made of its rows, its gates and the kept tiles. -/
theorem out_eq (c : Dev nD) (t : Fin cfg0.N) :
    (outsAt0 m c t.val t.isLt).1
      = k0_pay1 (k0_pay7 (k0_pay3 (outsAt0 m c t.val t.isLt).2.1 (iblk m c 8 t) (iblk m c 0 t)) (k0_pay5 (outsAt0 m c t.val t.isLt).2.2.1 (iblk m c 9 t) (iblk m c 1 t)) (outsAt0 m c t.val t.isLt).2.2.2.1 (iblk m c 10 t) (iblk m c 2 t)) (k0_pay9 (outsAt0 m c t.val t.isLt).2.2.2.2 (iblk m c 11 t) (iblk m c 3 t)) := by
  by_cases h0 : t.val % 8 = 0
  · rw [at_first m c t h0]
  · rw [at_later m c t h0]

/-! ## Over the reals -/

section Values
variable (μ : (ℓ : Loc nD τ sig) → Buf (Elt Ideal) ℓ)

theorem kept_payload (v : Vec Ideal S1x1024x512 .f32) (y : S1024x512.Idx) : k0_pay2 v y = v (ix3 0 (y 0) (y 1)) := by
  unfold k0_pay2
  rw [shapeCast_self]
  exact Dense.drop_unit 1024 512 v _ y

theorem kept_payload_last (v : Vec Ideal S1x512x512 .f32) (y : S512x512.Idx) : k0_pay8 v y = v (ix3 0 (y 0) (y 1)) := by
  unfold k0_pay8
  rw [shapeCast_self]
  exact Dense.drop_unit 512 512 v _ y

/-- A product gated by the logistic function of a number. -/
def gated (g s : EReal) : EReal := Ideal.logistic g * s

/-- The kernel's spelling of one gated product. -/
theorem part_payload (w : Vec Ideal S1024x512 .bf16) (g : Vec Ideal S1024x512 .bf16) (a : Vec Ideal S1024x1024 .bf16) (y : S1024x512.Idx) :
    k0_pay3 w g a y = gated (g y) (∑ k : Fin 1024, (a (ix2 (y 0) k) * w (ix2 k (y 1)) : EReal)) := by
  unfold k0_pay3
  exact congrArg₂ (fun a b : EReal => a * b) (Sigmoid.half_tanh (g y)) (Dense.product 1024 1024 512 a w y)

theorem part_payload_last (w : Vec Ideal S512x512 .bf16) (g : Vec Ideal S1024x512 .bf16) (a : Vec Ideal S1024x512 .bf16) (y : S1024x512.Idx) :
    k0_pay9 w g a y = gated (g y) (∑ k : Fin 512, (a (ix2 (y 0) k) * w (ix2 k (y 1)) : EReal)) := by
  unfold k0_pay9
  exact congrArg₂ (fun a b : EReal => a * b) (Sigmoid.half_tanh (g y)) (Dense.product 1024 512 512 a w y)

/-- The four gated products, added from the left. -/
theorem out_payload (w0 w1 w2 : Vec Ideal S1024x512 .bf16) (w3 : Vec Ideal S512x512 .bf16) (g0 g1 g2 g3 : Vec Ideal S1024x512 .bf16)
    (a0 a1 a2 : Vec Ideal S1024x1024 .bf16) (a3 : Vec Ideal S1024x512 .bf16) (y : S1024x512.Idx) :
    k0_pay1 (k0_pay7 (k0_pay3 w0 g0 a0) (k0_pay5 w1 g1 a1) w2 g2 a2) (k0_pay9 w3 g3 a3) y
      = gated (g0 y) (∑ k : Fin 1024, (a0 (ix2 (y 0) k) * w0 (ix2 k (y 1)) : EReal))
        + gated (g1 y) (∑ k : Fin 1024, (a1 (ix2 (y 0) k) * w1 (ix2 k (y 1)) : EReal))
        + gated (g2 y) (∑ k : Fin 1024, (a2 (ix2 (y 0) k) * w2 (ix2 k (y 1)) : EReal))
        + gated (g3 y) (∑ k : Fin 512, (a3 (ix2 (y 0) k) * w3 (ix2 k (y 1)) : EReal)) :=
  congrArg₂ (fun a b : EReal => a + b)
    (congrArg₂ (fun a b : EReal => a + b)
      (congrArg₂ (fun a b : EReal => a + b) (part_payload w0 g0 a0 y) (part_payload w1 g1 a1 y)) (part_payload w2 g2 a2 y))
    (part_payload_last w3 g3 a3 y)

/-- The kept tile of branch 1 after point `n`: its rows of the first layer's weights, at the tile's columns. -/
theorem kept0_apply (c : Dev nD) : ∀ (n : ℕ) (hn : n < cfg0.N) (y : S1024x512.Idx) (z : S2x3584x4096.Idx),
    (z 0).val = 0 → (z 1).val = 0 + (y 0).val → (z 2).val = n / 8 * 512 + (y 1).val →
    (outsAt0 μ c n hn).2.1 y = μ ((c : Thread nD τ).loc main_arg4) z := by
  have first : ∀ (n : ℕ) (hn : n < cfg0.N) (y : S1024x512.Idx) (z : S2x3584x4096.Idx), n % 8 = 0 →
      (z 0).val = 0 → (z 1).val = 0 + (y 0).val → (z 2).val = n / 8 * 512 + (y 1).val →
      (outsAt0 μ c n hn).2.1 y = μ ((c : Thread nD τ).loc main_arg4) z := fun n hn y z h0 z0 z1 z2 =>
    (congrFun (congrArg (fun o => o.2.1) (at_first μ c ⟨n, hn⟩ h0)) y).trans
      ((kept_payload (X0_4 μ c ⟨n, hn⟩) y).trans (weight0_apply μ c ⟨n, hn⟩ _ z z0 z1 z2))
  intro n
  induction n with
  | zero => exact fun hn y z => first 0 hn y z rfl
  | succ n ih =>
    intro hn y z z0 z1 z2
    by_cases h0 : (n + 1) % 8 = 0
    · exact first (n + 1) hn y z h0 z0 z1 z2
    · have e := ih (Nat.lt_of_succ_lt hn) y z z0 z1 (z2.trans (by rw [show (n + 1) / 8 = n / 8 by omega]))
      exact (congrFun (congrArg (fun o => o.2.1) (at_later μ c ⟨n + 1, hn⟩ h0)) y).trans e

/-- The kept tile of branch 2 after point `n`: its rows of the first layer's weights, at the tile's columns. -/
theorem kept1_apply (c : Dev nD) : ∀ (n : ℕ) (hn : n < cfg0.N) (y : S1024x512.Idx) (z : S2x3584x4096.Idx),
    (z 0).val = 0 → (z 1).val = 1024 + (y 0).val → (z 2).val = n / 8 * 512 + (y 1).val →
    (outsAt0 μ c n hn).2.2.1 y = μ ((c : Thread nD τ).loc main_arg4) z := by
  have first : ∀ (n : ℕ) (hn : n < cfg0.N) (y : S1024x512.Idx) (z : S2x3584x4096.Idx), n % 8 = 0 →
      (z 0).val = 0 → (z 1).val = 1024 + (y 0).val → (z 2).val = n / 8 * 512 + (y 1).val →
      (outsAt0 μ c n hn).2.2.1 y = μ ((c : Thread nD τ).loc main_arg4) z := fun n hn y z h0 z0 z1 z2 =>
    (congrFun (congrArg (fun o => o.2.2.1) (at_first μ c ⟨n, hn⟩ h0)) y).trans
      ((kept_payload (X0_5 μ c ⟨n, hn⟩) y).trans (weight1_apply μ c ⟨n, hn⟩ _ z z0 z1 z2))
  intro n
  induction n with
  | zero => exact fun hn y z => first 0 hn y z rfl
  | succ n ih =>
    intro hn y z z0 z1 z2
    by_cases h0 : (n + 1) % 8 = 0
    · exact first (n + 1) hn y z h0 z0 z1 z2
    · have e := ih (Nat.lt_of_succ_lt hn) y z z0 z1 (z2.trans (by rw [show (n + 1) / 8 = n / 8 by omega]))
      exact (congrFun (congrArg (fun o => o.2.2.1) (at_later μ c ⟨n + 1, hn⟩ h0)) y).trans e

/-- The kept tile of branch 3 after point `n`: its rows of the first layer's weights, at the tile's columns. -/
theorem kept2_apply (c : Dev nD) : ∀ (n : ℕ) (hn : n < cfg0.N) (y : S1024x512.Idx) (z : S2x3584x4096.Idx),
    (z 0).val = 0 → (z 1).val = 2048 + (y 0).val → (z 2).val = n / 8 * 512 + (y 1).val →
    (outsAt0 μ c n hn).2.2.2.1 y = μ ((c : Thread nD τ).loc main_arg4) z := by
  have first : ∀ (n : ℕ) (hn : n < cfg0.N) (y : S1024x512.Idx) (z : S2x3584x4096.Idx), n % 8 = 0 →
      (z 0).val = 0 → (z 1).val = 2048 + (y 0).val → (z 2).val = n / 8 * 512 + (y 1).val →
      (outsAt0 μ c n hn).2.2.2.1 y = μ ((c : Thread nD τ).loc main_arg4) z := fun n hn y z h0 z0 z1 z2 =>
    (congrFun (congrArg (fun o => o.2.2.2.1) (at_first μ c ⟨n, hn⟩ h0)) y).trans
      ((kept_payload (X0_6 μ c ⟨n, hn⟩) y).trans (weight2_apply μ c ⟨n, hn⟩ _ z z0 z1 z2))
  intro n
  induction n with
  | zero => exact fun hn y z => first 0 hn y z rfl
  | succ n ih =>
    intro hn y z z0 z1 z2
    by_cases h0 : (n + 1) % 8 = 0
    · exact first (n + 1) hn y z h0 z0 z1 z2
    · have e := ih (Nat.lt_of_succ_lt hn) y z z0 z1 (z2.trans (by rw [show (n + 1) / 8 = n / 8 by omega]))
      exact (congrFun (congrArg (fun o => o.2.2.2.1) (at_later μ c ⟨n + 1, hn⟩ h0)) y).trans e

/-- The kept tile of branch 4 after point `n`: its rows of the first layer's weights, at the tile's columns. -/
theorem kept3_apply (c : Dev nD) : ∀ (n : ℕ) (hn : n < cfg0.N) (y : S512x512.Idx) (z : S2x3584x4096.Idx),
    (z 0).val = 0 → (z 1).val = 3072 + (y 0).val → (z 2).val = n / 8 * 512 + (y 1).val →
    (outsAt0 μ c n hn).2.2.2.2 y = μ ((c : Thread nD τ).loc main_arg4) z := by
  have first : ∀ (n : ℕ) (hn : n < cfg0.N) (y : S512x512.Idx) (z : S2x3584x4096.Idx), n % 8 = 0 →
      (z 0).val = 0 → (z 1).val = 3072 + (y 0).val → (z 2).val = n / 8 * 512 + (y 1).val →
      (outsAt0 μ c n hn).2.2.2.2 y = μ ((c : Thread nD τ).loc main_arg4) z := fun n hn y z h0 z0 z1 z2 =>
    (congrFun (congrArg (fun o => o.2.2.2.2) (at_first μ c ⟨n, hn⟩ h0)) y).trans
      ((kept_payload_last (iblk μ c 7 ⟨n, hn⟩) y).trans (weight3_apply μ c ⟨n, hn⟩ _ z z0 z1 z2))
  intro n
  induction n with
  | zero => exact fun hn y z => first 0 hn y z rfl
  | succ n ih =>
    intro hn y z z0 z1 z2
    by_cases h0 : (n + 1) % 8 = 0
    · exact first (n + 1) hn y z h0 z0 z1 z2
    · have e := ih (Nat.lt_of_succ_lt hn) y z z0 z1 (z2.trans (by rw [show (n + 1) / 8 = n / 8 by omega]))
      exact (congrFun (congrArg (fun o => o.2.2.2.2) (at_later μ c ⟨n + 1, hn⟩ h0)) y).trans e

end Values

/-- One branch: the logistic function of its gate, times its rows against its part of the first layer's weights. -/
def part (k r s : ℕ) (hr : r + k ≤ 3584) (hs : s + 4096 ≤ 16384) (h : FVec Ideal (Dense.Mat 8192 k) .bf16)
    (w : FVec Ideal S2x3584x4096 .f32) (g : FVec Ideal S8192x16384 .bf16) (p : Fin 8192) (q : Fin 4096) : EReal :=
  gated (g (ix2 p ⟨s + q.val, Nat.lt_of_lt_of_le (Nat.add_lt_add_left q.isLt s) hs⟩))
    (∑ e : Fin k, (h (ix2 p e) * w (ix3 0 ⟨r + e.val, Nat.lt_of_lt_of_le (Nat.add_lt_add_left e.isLt r) hr⟩ q) : EReal))

/-- The four branches, gated and added. -/
def G (h0 h1 h2 : FVec Ideal S8192x1024 .bf16) (h3 : FVec Ideal S8192x512 .bf16) (w : FVec Ideal S2x3584x4096 .f32)
    (g : FVec Ideal S8192x16384 .bf16) : FVec Ideal S8192x4096 .bf16 := fun y =>
  (part 1024 0 0 (by decide) (by decide) h0 w g (y 0) (y 1) + part 1024 1024 4096 (by decide) (by decide) h1 w g (y 0) (y 1)
    + part 1024 2048 8192 (by decide) (by decide) h2 w g (y 0) (y 1) + part 512 3072 12288 (by decide) (by decide) h3 w g (y 0) (y 1) : EReal)

theorem written (μ : (ℓ : Loc nD τ sig) → Buf (Elt Ideal) ℓ) (c : Dev nD) (t : Fin cfg0.N) (y : S1024x512.Idx)
    (z : S8192x4096.Idx) (h0 : (z 0).val = t.val % 8 * 1024 + (y 0).val) (h1 : (z 1).val = t.val / 8 * 512 + (y 1).val) :
    (outsAt0 μ c t.val t.isLt).1 y
      = G (μ ((c : Thread nD τ).loc main_arg0)) (μ ((c : Thread nD τ).loc main_arg1)) (μ ((c : Thread nD τ).loc main_arg2)) (μ ((c : Thread nD τ).loc main_arg3)) (μ ((c : Thread nD τ).loc main_arg4)) (μ ((c : Thread nD τ).loc main_arg5)) z := by
  rw [out_eq]
  refine (out_payload _ _ _ _ _ _ _ _ _ _ _ _ _).trans (congrArg₂ (fun a b : EReal => a + b)
    (congrArg₂ (fun a b : EReal => a + b) (congrArg₂ (fun a b : EReal => a + b) ?_ ?_) ?_) ?_)
  · exact congrArg₂ gated (gate0_apply μ c t y _ h0 (congrArg (fun n => 0 + n) h1)) (Finset.sum_congr rfl fun k _ =>
      congrArg₂ (fun a b : EReal => a * b) (rows0_apply μ c t _ _ h0 rfl) (kept0_apply μ c t.val t.isLt _ _ rfl rfl h1))
  · exact congrArg₂ gated (gate1_apply μ c t y _ h0 (congrArg (fun n => 4096 + n) h1)) (Finset.sum_congr rfl fun k _ =>
      congrArg₂ (fun a b : EReal => a * b) (rows1_apply μ c t _ _ h0 rfl) (kept1_apply μ c t.val t.isLt _ _ rfl rfl h1))
  · exact congrArg₂ gated (gate2_apply μ c t y _ h0 (congrArg (fun n => 8192 + n) h1)) (Finset.sum_congr rfl fun k _ =>
      congrArg₂ (fun a b : EReal => a * b) (rows2_apply μ c t _ _ h0 rfl) (kept2_apply μ c t.val t.isLt _ _ rfl rfl h1))
  · exact congrArg₂ gated (gate3_apply μ c t y _ h0 (congrArg (fun n => 12288 + n) h1)) (Finset.sum_congr rfl fun k _ =>
      congrArg₂ (fun a b : EReal => a * b) (rows3_apply μ c t _ _ h0 rfl) (kept3_apply μ c t.val t.isLt _ _ rfl rfl h1))

/-- The result array after the run. -/
theorem final (μ : (ℓ : Loc nD τ sig) → Buf (Elt Ideal) ℓ) (c : Dev nD) :
    (dats μ 0 c).arrAt 12 cfg0.N
      = G (μ ((c : Thread nD τ).loc main_arg0)) (μ ((c : Thread nD τ).loc main_arg1)) (μ ((c : Thread nD τ).loc main_arg2)) (μ ((c : Thread nD τ).loc main_arg3)) (μ ((c : Thread nD τ).loc main_arg4)) (μ ((c : Thread nD τ).loc main_arg5)) := by
  refine (dats μ 0 c).arrAt_eq_of_covers 12 _ ?_ fun t hf (y : S1024x512.Idx) => ?_
  · exact of_decide_eq_true (by sl_kernel_rfl)
  · refine (congrFun (after0_12 μ c t) y).trans (written μ c t y _ ?_ ?_)
    · show (BitVec.ofNat 32 (grid0.coords t 1).val).toNat * 1024 + 1 * (y 0).val = _
      rw [BitVec.toNat_ofNat, point1, Nat.mod_eq_of_lt (by omega)]
      omega
    · have ht : t.val < 64 := Nat.lt_of_lt_of_eq t.isLt N_0
      show (BitVec.ofNat 32 (grid0.coords t 0).val).toNat * 512 + 1 * (y 1).val = _
      rw [BitVec.toNat_ofNat, point0, Nat.mod_eq_of_lt (by omega)]
      omega

/-- The run: the result array holds the gated sum, the arguments end unchanged. -/
theorem run (μ : (ℓ : Loc nD τ sig) → Buf (Elt Ideal) ℓ) (ρ : Dev nD → PrngReg) :
    θ_run (defs (F := Ideal)) (onTc (τ := τ) (main (F := Ideal))) ⟨μ, fun _ => 0, ρ⟩ (fun r => ∀ c : Dev nD,
      r.2.mem ((c.tc : Thread nD τ).loc main_v0)
        = G (μ ((c.tc : Thread nD τ).loc main_arg0)) (μ ((c.tc : Thread nD τ).loc main_arg1)) (μ ((c.tc : Thread nD τ).loc main_arg2)) (μ ((c.tc : Thread nD τ).loc main_arg3)) (μ ((c.tc : Thread nD τ).loc main_arg4)) (μ ((c.tc : Thread nD τ).loc main_arg5))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)
      ∧ r.2.mem ((c.tc : Thread nD τ).loc main_arg5) = μ ((c.tc : Thread nD τ).loc main_arg5)) :=
  (θ_run defs _ _).mono (fun r h c => ⟨(h c).1.trans (final μ c), (h c).2⟩) (Cert.Kernel6Ideal.Value.run_blocks μ ρ)

end Cert.Proof.Merge

end
-- ==== Proof.MergeReference.lean ====
/-
  The reference of the branch merge, entry by entry what the kernel's call leaves.
-/
module

public import proofs.«01_k».proof.Proof.Merge
public import proofs.«01_k».proof.Proof.Gen.Reference6Ideal.Run
public import Idealize.ShloMosaic.Lib.IdealHost

@[expose] public section

noncomputable section

namespace Cert.Proof.Merge

open Idealize.ShloMosaic Idealize.ShloMosaic.TcCoe Idealize.SL.Sem
open Cert.Reference6Ideal Cert.Reference6Ideal.Gen Idealize.ShloMosaic.ValueIdx

/-- The reference's spelling of the gates, with its two literal ones. -/
abbrev gates (g : FVec Ideal S8192x16384 .bf16) : FVec Ideal S8192x16384 .f32 :=
  Host.divf (broadcastInDim S8192x16384 ![] bcast_S_S8192x16384 (constant S_ .f32 0x3F800000#32))
    (addf (broadcastInDim S8192x16384 ![] bcast_S_S8192x16384 (constant S_ .f32 0x3F800000#32)) (Host.exp (Host.negf (extf .f32 g bitsLt_bf16_f32))))

theorem gates_apply (g : FVec Ideal S8192x16384 .bf16) (z : S8192x16384.Idx) : gates g z = Ideal.logistic (g z) := by
  show Ideal.div (Ideal.ofBits .f32 0x3F800000#32) (Ideal.ofBits .f32 0x3F800000#32 + Ideal.exp (-(g z))) = _
  rw [Ideal.ofBits_one_f32]
  rfl

/-- Rows `r` onwards of a matrix, at an entry. -/
theorem rows_slice (k r : ℕ) (hr : r + k ≤ 3584) (v : FVec Ideal (Dense.Mat 3584 4096) .f32) (hs) (e : Fin k) (q : Fin 4096) :
    extractStridedSlice (Dense.Mat k 4096) ![r, 0] v hs (ix2 e q) = v (ix2 ⟨r + e.val, Nat.lt_of_lt_of_le (Nat.add_lt_add_left e.isLt r) hr⟩ q) := by
  refine congrArg v (funext fun a => ?_)
  match a with
  | ⟨0, _⟩ => rfl
  | ⟨1, _⟩ => exact Fin.ext (Nat.zero_add _)

/-- Columns `s` onwards of the gates, at an entry. -/
theorem gates_slice (s : ℕ) (hs : s + 4096 ≤ 16384) (g : FVec Ideal S8192x16384 .bf16) (hv) (p : Fin 8192) (q : Fin 4096) :
    extractStridedSlice S8192x4096 ![0, s] (gates g) hv (ix2 p q)
      = Ideal.logistic (g (ix2 p ⟨s + q.val, Nat.lt_of_lt_of_le (Nat.add_lt_add_left q.isLt s) hs⟩)) := by
  refine Eq.trans ?_ (gates_apply g _)
  refine congrArg (gates g) (funext fun a => ?_)
  match a with
  | ⟨0, _⟩ => exact Fin.ext (Nat.zero_add _)
  | ⟨1, _⟩ => rfl

/-- One branch of the reference. -/
theorem host_part (k r s : ℕ) (hr : r + k ≤ 3584) (hs : s + 4096 ≤ 16384) (h : FVec Ideal (Dense.Mat 8192 k) .bf16)
    (w : FVec Ideal S2x3584x4096 .f32) (g : FVec Ideal S8192x16384 .bf16) (hb) (hl) (hc) (hv) (hg) (p : Fin 8192) (q : Fin 4096) :
    mulf (extractStridedSlice S8192x4096 ![0, s] (gates g) hg)
      (Host.dotGeneral (F := Ideal) (DotDims.plain 8192 k 4096) none (extf .f32 h hb)
        (extractStridedSlice (Dense.Mat k 4096) ![r, 0]
          (shapeCast (Dense.Mat 3584 4096) (extractStridedSlice (Dense.Stack 1 3584 4096) ![0, 0, 0] w hl) hc) hv) : FVec Ideal S8192x4096 .f32) (ix2 p q)
      = part k r s hr hs h w g p q := by
  refine congrArg₂ (fun a b : EReal => a * b) (gates_slice s hs g hg p q) ((Dense.host_product 8192 k 4096 h _ hb p q).trans ?_)
  refine Finset.sum_congr rfl fun e _ => congrArg (fun b : EReal => h (ix2 p e) * b) ?_
  exact (rows_slice k r hr _ hv e q).trans (Dense.first_layer 1 3584 4096 w hl hc _ q)

/-- Adding four numbers to the literal zero, one after another. -/
theorem from_zero {a b c d a' b' c' d' : EReal} (ha : a = a') (hb : b = b') (hc : c = c') (hd : d = d') :
    Ideal.ofBits .f32 0x00000000#32 + a + b + c + d = a' + b' + c' + d' := by
  rw [Ideal.ofBits_zero_f32, zero_add, ha, hb, hc, hd]

/-- The reference's run, at the value the kernel's run ends with. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v34)
        = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨(h c).1.trans ?_, (h c).2⟩) (Cert.Reference6Ideal.Value.run (F := Ideal) m ρ)
  funext y
  obtain ⟨p, q, rfl⟩ : ∃ (p : Fin 8192) (q : Fin 4096), y = ix2 p q := ⟨y 0, y 1, eq_ix2 y⟩
  refine from_zero ?_ ?_ ?_ ?_
  · exact host_part 1024 0 0 (by decide) (by decide) (m ((c.tc : Thread nD τ).loc main_arg0)) (m ((c.tc : Thread nD τ).loc main_arg4))
      (m ((c.tc : Thread nD τ).loc main_arg5)) bitsLt_bf16_f32 slices_S2x3584x4096_S1x3584x4096_0_0_0 shapeCasts_S1x3584x4096_S3584x4096
      slices_S3584x4096_S1024x4096_0_0 slices_S8192x16384_S8192x4096_0_0 p q
  · exact host_part 1024 1024 4096 (by decide) (by decide) (m ((c.tc : Thread nD τ).loc main_arg1)) (m ((c.tc : Thread nD τ).loc main_arg4))
      (m ((c.tc : Thread nD τ).loc main_arg5)) bitsLt_bf16_f32 slices_S2x3584x4096_S1x3584x4096_0_0_0 shapeCasts_S1x3584x4096_S3584x4096
      slices_S3584x4096_S1024x4096_1024_0 slices_S8192x16384_S8192x4096_0_4096 p q
  · exact host_part 1024 2048 8192 (by decide) (by decide) (m ((c.tc : Thread nD τ).loc main_arg2)) (m ((c.tc : Thread nD τ).loc main_arg4))
      (m ((c.tc : Thread nD τ).loc main_arg5)) bitsLt_bf16_f32 slices_S2x3584x4096_S1x3584x4096_0_0_0 shapeCasts_S1x3584x4096_S3584x4096
      slices_S3584x4096_S1024x4096_2048_0 slices_S8192x16384_S8192x4096_0_8192 p q
  · exact host_part 512 3072 12288 (by decide) (by decide) (m ((c.tc : Thread nD τ).loc main_arg3)) (m ((c.tc : Thread nD τ).loc main_arg4))
      (m ((c.tc : Thread nD τ).loc main_arg5)) bitsLt_bf16_f32 slices_S2x3584x4096_S1x3584x4096_0_0_0 shapeCasts_S1x3584x4096_S3584x4096
      slices_S3584x4096_S512x4096_3072_0 slices_S8192x16384_S8192x4096_0_12288 p q

end Cert.Proof.Merge

end
-- ==== Proof.MergeClaims.lean ====
/-
  The claims about the branch merge: both programs' frames from one run, and the value.
-/
module

public import proofs.«01_k».proof.Defs
public import proofs.«01_k».proof.Proof.MergeReference
public import proofs.«01_k».proof.Proof.Gen.Kernel6

@[expose] public section

noncomputable section

namespace Cert.Proof.Merge

open Idealize.ShloMosaic Idealize.SL.Sem

section Same
variable {F : FTy → Type} [FloatOps F]

/-- The program as printed and the program read over the reals have one text: one set of bodies. -/
theorem bodies_eq : Cert.Kernel6.defs₀ (F := F) = Cert.Kernel6Ideal.defs₀ (F := F) := by
  unfold Cert.Kernel6.defs₀ Cert.Kernel6Ideal.defs₀
  refine congrArg Defs.onTc (funext fun l => ?_)
  match l with
  | 0 => rfl

theorem defs_eq : Cert.Kernel6.defs (F := F) = Cert.Kernel6Ideal.defs (F := F) := by
  unfold Cert.Kernel6.defs Cert.Kernel6Ideal.defs
  exact congrArg _ bodies_eq

end Same

theorem frame : Cert.quiescent_Kernel6 := fun m ρ _ => by
  rw [defs_eq]
  exact Cert.Kernel6Ideal.Gen.frame (F := Bits) m ρ

theorem frame_ideal : Cert.quiescent_Kernel6Ideal := fun m ρ _ =>
  Cert.Kernel6Ideal.Gen.frame (F := Ideal) m ρ

theorem frame_reference : Cert.quiescent_Reference6Ideal := fun m ρ _ =>
  (θ_run _ _ _).mono (fun r h => ⟨fun c => (h c).2, Idealize.ShloMosaic.sem_eq_zero_of_no_sems (by decide) r.2⟩) (reference_run m ρ)

theorem algebraic : Cert.algebraic_Kernel6Ideal_Reference6Ideal := by
  intro m ρ m' ρ' _ hargs
  refine ⟨fun c => G (m ((c.tc : Thread _ _).loc Cert.Kernel6Ideal.main_arg0)) (m ((c.tc : Thread _ _).loc Cert.Kernel6Ideal.main_arg1)) (m ((c.tc : Thread _ _).loc Cert.Kernel6Ideal.main_arg2)) (m ((c.tc : Thread _ _).loc Cert.Kernel6Ideal.main_arg3)) (m ((c.tc : Thread _ _).loc Cert.Kernel6Ideal.main_arg4)) (m ((c.tc : Thread _ _).loc Cert.Kernel6Ideal.main_arg5)), ?_, ?_⟩
  · exact run m ρ
  · refine (θ_run _ _ _).mono (fun r h c => ⟨(h c).1.trans ?_, (h c).2⟩) (reference_run m' ρ')
    obtain ⟨e0, e1, e2, e3, e4, e5⟩ := hargs c
    rw [e0, e1, e2, e3, e4, e5]

end Cert.Proof.Merge

end
-- ==== Proof.Out.lean ====
/-
  The call that multiplies the merged branches by the output matrix, gates the product and adds it to the residual: what each grid
  point writes, and the result array after the run.
-/
module

public import proofs.«01_k».proof.Proof.Gen.Kernel7Ideal.Frame
public import proofs.«01_k».proof.Proof.Gen.Kernel7Ideal.Value
public import proofs.«01_k».proof.Proof.Dense
public import Idealize.ShloMosaic.Lib.Pipeline.Value
public import Idealize.ShloMosaic.Lib.Pipeline.ValueKit.Geometry
public import Idealize.ShloMosaic.Lib.Pipeline.ValueKit.Acc
public import Idealize.ShloMosaic.Lib.Pipeline.ValueKit.Tiles
public import Idealize.ShloMosaic.Lib.IdealHost

@[expose] public section

noncomputable section

namespace Cert.Proof.Out

open Idealize.ShloMosaic Idealize.ShloMosaic.TcCoe Idealize.SL.Sem
open Cert.Kernel7Ideal Cert.Kernel7Ideal.Gen Idealize.ShloMosaic.ValueIdx

variable {F : FTy → Type} [FloatOps F]
variable (m : (ℓ : Loc nD τ sig) → Buf (Elt F) ℓ)

/-! ## One grid point -/

/-- The modulation's third row of a block. -/
abbrev gateRow (x : Vec F S1x6x512 .f32) : Vec F S1x1x512 .f32 :=
  View.ld x (Rect.unit (s := S1x6x512) ![0, 2, 0] S1x1x512.size inb_S1x6x512_S1x1x512_0_2_0)

section Cases
variable (c : Dev nD) (i : grid0.Coords) (a2 : Memref sig .tc .vmem S1024x4096 .bf16) (h2 : a2.IsWhole)
  (a3 : Memref sig .tc .vmem S1x4096x512 .f32) (h3 : a3.IsWhole) (a4 : Memref sig .tc .vmem S1024x512 .f32) (h4 : a4.IsWhole)
  (a5 : Memref sig .tc .vmem S1x6x512 .f32) (h5 : a5.IsWhole) (a6 : Memref sig .tc .vmem S1024x512 .f32) (h6 : a6.IsWhole)
  (a7 : Memref sig .tc .vmem S4096x512 .bf16) (h7 : a7.IsWhole)
  (x0 : Vec F S1024x4096 .bf16) (x1 : Vec F S1x4096x512 .f32) (x2 : Vec F S1024x512 .f32) (x3 : Vec F S1x6x512 .f32)
  (xs : Vec F S4096x512 .bf16)

theorem first_out (hc : cond0_0 i) :
    out0_A_4 c i a2 h2 a3 h3 a4 h4 a5 h5 a6 h6 a7 h7 hc x0 x1 x2 x3 = k0_pay2 (k0_pay1 x1) x0 x2 (gateRow x3) := by
  frame_out

theorem first_kept (hc : cond0_0 i) : sout0_A_0 c i a2 h2 a3 h3 a4 h4 a5 h5 a6 h6 a7 h7 hc x0 x1 x2 x3 = k0_pay1 x1 := by
  frame_out

theorem later_out (hc : ¬cond0_0 i) :
    out0_B_4 c i a2 h2 a3 h3 a4 h4 a5 h5 a6 h6 a7 h7 hc x0 x1 x2 x3 xs = k0_pay2 xs x0 x2 (gateRow x3) := by
  frame_out

end Cases

/-- The point `t` is at column tile `t / 8` and row tile `t % 8`. -/
theorem point0 (t : Fin grid0.N) : (grid0.coords t 0).val = t.val / 8 := by
  have ht : t.val < 64 := Nat.lt_of_lt_of_eq t.isLt N_0
  rw [show (grid0.coords t 0).val = t.val / 8 % 8 from Pipeline.Grid.coords_val t 0 (by decide) rfl]
  omega

theorem point1 (t : Fin grid0.N) : (grid0.coords t 1).val = t.val % 8 := by
  rw [show (grid0.coords t 1).val = t.val / 1 % 8 from Pipeline.Grid.coords_val t 1 (by decide) rfl]
  omega

/-- The word `n` is below 2^32 for a grid coordinate. -/
theorem word (n : ℕ) (h : n < 8) : (BitVec.ofNat 32 n).toNat = n := by
  rw [BitVec.toNat_ofNat, Nat.mod_eq_of_lt (by omega)]

/-- The block of activations at an entry. -/
theorem rows_apply (c : Dev nD) (t : Fin cfg0.N) (y : S1024x4096.Idx) (z : S8192x4096.Idx)
    (hz0 : (z 0).val = t.val % 8 * 1024 + (y 0).val) (hz1 : (z 1).val = (y 1).val) :
    iblk m c 0 t y = m ((c : Thread nD τ).loc main_arg0) z := by
  show V m c main_arg0 (((cfg0.win 0).blk t).view.emb y) = _
  rw [V_main_arg0]
  refine congrArg _ (funext fun a => Fin.ext ?_)
  have h1 := point1 t
  match a with
  | ⟨0, _⟩ =>
    show (BitVec.ofNat 32 (grid0.coords t 1).val).toNat * 1024 + 1 * (y 0).val = (z 0).val
    rw [word _ (grid0.coords t 1).isLt]
    omega
  | ⟨1, _⟩ =>
    show 0 * 4096 + 1 * (y 1).val = (z 1).val
    omega

/-- The block of weights at an entry. -/
theorem cols_apply (c : Dev nD) (t : Fin cfg0.N) (y : S1x4096x512.Idx) (z : S2x4096x4096.Idx)
    (hz0 : (z 0).val = 0) (hz1 : (z 1).val = (y 1).val) (hz2 : (z 2).val = t.val / 8 * 512 + (y 2).val) :
    iblk m c 1 t y = m ((c : Thread nD τ).loc main_arg1) z := by
  show V m c main_arg1 (((cfg0.win 1).blk t).view.emb y) = _
  rw [V_main_arg1]
  refine congrArg _ (funext fun a => Fin.ext ?_)
  have h0 := point0 t
  match a with
  | ⟨0, _⟩ =>
    show 0 * 1 + 1 * (y 0).val = (z 0).val
    have : (y 0).val < 1 := (y 0).isLt
    omega
  | ⟨1, _⟩ =>
    show 0 * 4096 + 1 * (y 1).val = (z 1).val
    omega
  | ⟨2, _⟩ =>
    show (BitVec.ofNat 32 (grid0.coords t 0).val).toNat * 512 + 1 * (y 2).val = (z 2).val
    rw [word _ (grid0.coords t 0).isLt]
    omega

theorem V_residual (c : Dev nD) :
    V m c main_v0 = shapeCast S8192x4096 (m ((c : Thread nD τ).loc main_arg2)) shapeCasts_S2x4096x4096_S8192x4096 := by
  show StableHlo.after hostOps0 (fun b => m (c, b)) (Proc.devRef .tc main_v0) = _
  unfold hostOps0
  after_results
  rfl

theorem V_modulation (c : Dev nD) :
    V m c main_v1 = shapeCast S2x6x4096 (m ((c : Thread nD τ).loc main_arg3)) shapeCasts_S2x24576_S2x6x4096 := by
  show StableHlo.after hostOps0 (fun b => m (c, b)) (Proc.devRef .tc main_v1) = _
  unfold hostOps0
  after_results
  rfl

/-- A row of the result is a row of one batch member's residual. -/
theorem residual_rows {α : Type} (x : S2x4096x4096.Idx → α) (hc) (z : S8192x4096.Idx) (w : S2x4096x4096.Idx)
    (h0 : (w 0).val = (z 0).val / 4096) (h1 : (w 1).val = (z 0).val % 4096) (h2 : (w 2).val = (z 1).val) :
    shapeCast S8192x4096 x hc z = x w := by
  refine shapeCast_apply x hc z w ?_
  have e1 : (S2x4096x4096.rowMajor w).val = ((w 0).val * 4096 + (w 1).val) * 4096 + (w 2).val := Shape.rowMajor_val_three w
  have e2 : (S8192x4096.rowMajor z).val = (z 0).val * 4096 + (z 1).val := Shape.rowMajor_val_two z
  omega

/-- The six rows of the modulation are six ranges of one row. -/
theorem modulation_rows {α : Type} (x : S2x24576.Idx → α) (hc) (z : S2x6x4096.Idx) (w : S2x24576.Idx)
    (h0 : (w 0).val = (z 0).val) (h1 : (w 1).val = (z 1).val * 4096 + (z 2).val) :
    shapeCast S2x6x4096 x hc z = x w := by
  refine shapeCast_apply x hc z w ?_
  have e1 : (S2x24576.rowMajor w).val = (w 0).val * 24576 + (w 1).val := Shape.rowMajor_val_two w
  have e2 : (S2x6x4096.rowMajor z).val = ((z 0).val * 6 + (z 1).val) * 4096 + (z 2).val := Shape.rowMajor_val_three z
  omega

/-- The block of the residual at an entry. -/
theorem residual_apply (c : Dev nD) (t : Fin cfg0.N) (y : S1024x512.Idx) (z : S8192x4096.Idx) (w : S2x4096x4096.Idx)
    (hz0 : (z 0).val = t.val % 8 * 1024 + (y 0).val) (hz1 : (z 1).val = t.val / 8 * 512 + (y 1).val)
    (h0 : (w 0).val = (z 0).val / 4096) (h1 : (w 1).val = (z 0).val % 4096) (h2 : (w 2).val = (z 1).val) :
    iblk m c 2 t y = m ((c : Thread nD τ).loc main_arg2) w := by
  refine Eq.trans ?_ (residual_rows (m ((c : Thread nD τ).loc main_arg2)) shapeCasts_S2x4096x4096_S8192x4096 z w h0 h1 h2)
  show V m c main_v0 (((cfg0.win 2).blk t).view.emb y) = _
  rw [V_residual]
  refine congrArg _ (funext fun a => Fin.ext ?_)
  have p0 := point0 t
  have p1 := point1 t
  match a with
  | ⟨0, _⟩ =>
    show (BitVec.ofNat 32 (grid0.coords t 1).val).toNat * 1024 + 1 * (y 0).val = (z 0).val
    rw [word _ (grid0.coords t 1).isLt]
    omega
  | ⟨1, _⟩ =>
    show (BitVec.ofNat 32 (grid0.coords t 0).val).toNat * 512 + 1 * (y 1).val = (z 1).val
    rw [word _ (grid0.coords t 0).isLt]
    omega

/-- The batch member of a row tile. -/
theorem batch_eq (i : grid0.Coords) : cc0_transform_3 i 0 = (i 1).val / 4 := by
  have h : ∀ r : Fin 8, cc0_transform_3 (fun a => match a with | ⟨0, _⟩ => (0 : Fin 8) | ⟨1, _⟩ => r) 0 = r.val / 4 := by decide
  exact h (i 1)

/-- The block of the modulation, its third row, at an entry. -/
theorem modulation_apply (c : Dev nD) (t : Fin cfg0.N) (y : S1x1x512.Idx) (w : S2x24576.Idx)
    (h0 : (w 0).val = t.val % 8 / 4) (h1 : (w 1).val = 8192 + (t.val / 8 * 512 + (y 2).val)) :
    gateRow (iblk m c 3 t) y = m ((c : Thread nD τ).loc main_arg3) w := by
  have y0 : (y 0).val < 1 := (y 0).isLt
  have y1 : (y 1).val < 1 := (y 1).isLt
  have y2 : (y 2).val < 512 := (y 2).isLt
  have ht : t.val < 64 := Nat.lt_of_lt_of_eq t.isLt N_0
  have p0 := point0 t
  have p1 := point1 t
  refine (View.ld_unit_apply_of (iblk m c 3 t) _ _ _ y (ix3 0 2 (y 2)) (fun a => ?_)).trans ?_
  · match a with
    | ⟨0, _⟩ => show 0 = 0 + (y 0).val; omega
    | ⟨1, _⟩ => show 2 = 2 + (y 1).val; omega
    | ⟨2, _⟩ => show (y 2).val = 0 + (y 2).val; omega
  · refine Eq.trans ?_ (modulation_rows (m ((c : Thread nD τ).loc main_arg3)) shapeCasts_S2x24576_S2x6x4096
      (ix3 ⟨t.val % 8 / 4, by omega⟩ 2 ⟨t.val / 8 * 512 + (y 2).val, by omega⟩) w h0
      (h1.trans (show 8192 + (t.val / 8 * 512 + (y 2).val) = 2 * 4096 + (t.val / 8 * 512 + (y 2).val) by omega)))
    show V m c main_v1 (((cfg0.win 3).blk t).view.emb (ix3 0 2 (y 2))) = _
    rw [V_modulation]
    refine congrArg _ (funext fun a => Fin.ext ?_)
    match a with
    | ⟨0, _⟩ =>
      show cc0_transform_3 (grid0.coords t) 0 * 1 + 1 * 0 = t.val % 8 / 4
      rw [batch_eq]
      omega
    | ⟨1, _⟩ => rfl
    | ⟨2, _⟩ =>
      show (BitVec.ofNat 32 (grid0.coords t 0).val).toNat * 512 + 1 * (y 2).val = t.val / 8 * 512 + (y 2).val
      rw [word _ (grid0.coords t 0).isLt]
      omega

/-- At the first point of a column tile: the tile is cast and kept, and the product is taken with it. -/
theorem at_first (c : Dev nD) (t : Fin cfg0.N) (h0 : t.val % 8 = 0) :
    outsAt0 m c t.val t.isLt
      = (k0_pay2 (k0_pay1 (iblk m c 1 t)) (iblk m c 0 t) (iblk m c 2 t) (gateRow (iblk m c 3 t)), k0_pay1 (iblk m c 1 t)) :=
  (outsAt0_A m c t h0).trans (congrArg₂ Prod.mk
    (first_out c (grid0.coords t) (ms0_0 t) (hs0_0 t) (ms0_1 t) (hs0_1 t) (ms0_2 t) (hs0_2 t) (ms0_3 t) (hs0_3 t) (ms0_4 t) (hs0_4 t) scM0_0
      (Memref.isWhole_whole _) (iblk m c 0 t) (iblk m c 1 t) (iblk m c 2 t) (iblk m c 3 t) ((hcond0_0 t).mpr h0))
    (first_kept c (grid0.coords t) (ms0_0 t) (hs0_0 t) (ms0_1 t) (hs0_1 t) (ms0_2 t) (hs0_2 t) (ms0_3 t) (hs0_3 t) (ms0_4 t) (hs0_4 t) scM0_0
      (Memref.isWhole_whole _) (iblk m c 0 t) (iblk m c 1 t) (iblk m c 2 t) (iblk m c 3 t) ((hcond0_0 t).mpr h0)))

/-- What was kept before point `t`. -/
abbrev before (c : Dev nD) (t : Fin cfg0.N) : Vec F S4096x512 .bf16 :=
  (outsAt0 m c (t.val - 1) (Nat.lt_of_le_of_lt (Nat.sub_le _ _) t.isLt)).2

/-- At a later point of the tile: the kept tile stays, and the product is taken with it. -/
theorem at_later (c : Dev nD) (t : Fin cfg0.N) (h0 : ¬t.val % 8 = 0) :
    outsAt0 m c t.val t.isLt
      = (k0_pay2 (before m c t) (iblk m c 0 t) (iblk m c 2 t) (gateRow (iblk m c 3 t)), before m c t) :=
  (outsAt0_B m c t h0).trans (congrArg₂ Prod.mk
    (later_out c (grid0.coords t) (ms0_0 t) (hs0_0 t) (ms0_1 t) (hs0_1 t) (ms0_2 t) (hs0_2 t) (ms0_3 t) (hs0_3 t) (ms0_4 t) (hs0_4 t) scM0_0
      (Memref.isWhole_whole _) (iblk m c 0 t) (iblk m c 1 t) (iblk m c 2 t) (iblk m c 3 t) (before m c t) (fun h => h0 ((hcond0_0 t).mp h)))
    rfl)

/-- What a point writes is made of its blocks and the kept tile. -/
theorem out_eq (c : Dev nD) (t : Fin cfg0.N) :
    (outsAt0 m c t.val t.isLt).1
      = k0_pay2 (outsAt0 m c t.val t.isLt).2 (iblk m c 0 t) (iblk m c 2 t) (gateRow (iblk m c 3 t)) := by
  by_cases h0 : t.val % 8 = 0
  · rw [at_first m c t h0]
  · rw [at_later m c t h0]

/-! ## Over the reals -/

section Values
variable (μ : (ℓ : Loc nD τ sig) → Buf (Elt Ideal) ℓ)

theorem kept_payload (v : Vec Ideal S1x4096x512 .f32) (y : S4096x512.Idx) :
    k0_pay1 v y = v (ix3 0 (y 0) (y 1)) := by
  unfold k0_pay1
  rw [shapeCast_self]
  exact Dense.drop_unit 4096 512 v _ y

theorem out_payload (b : Vec Ideal S4096x512 .bf16) (a : Vec Ideal S1024x4096 .bf16) (x : Vec Ideal S1024x512 .f32)
    (g : Vec Ideal S1x1x512 .f32) (y : S1024x512.Idx) :
    k0_pay2 b a x g y = (x y + g (ix3 0 0 (y 1)) * ∑ k : Fin 4096, (a (ix2 (y 0) k) * b (ix2 k (y 1)) : EReal) : EReal) := by
  unfold k0_pay2
  rw [shapeCast_self]
  refine congrArg (fun s : EReal => x y + s) (congrArg₂ (fun p q : EReal => p * q) ?_ (Dense.product 1024 4096 512 a b y))
  refine (broadcastTo_apply _ broadcasts_S1x512_S1024x512 y (ix2 0 (y 1)) (fun a => ?_)).trans (Dense.drop_unit 1 512 g _ _)
  match a with
  | ⟨0, _⟩ => rfl
  | ⟨1, _⟩ => rfl

/-- The kept tile after point `n`: the weights of the tile's columns. -/
theorem kept_apply (c : Dev nD) : ∀ (n : ℕ) (hn : n < cfg0.N) (y : S4096x512.Idx) (z : S2x4096x4096.Idx),
    (z 0).val = 0 → (z 1).val = (y 0).val → (z 2).val = n / 8 * 512 + (y 1).val →
    (outsAt0 μ c n hn).2 y = μ ((c : Thread nD τ).loc main_arg1) z := by
  intro n
  induction n with
  | zero =>
    intro hn y z z0 z1 z2
    refine (congrFun (congrArg Prod.snd (at_first μ c ⟨0, hn⟩ rfl)) y).trans ((kept_payload (iblk μ c 1 ⟨0, hn⟩) y).trans ?_)
    exact cols_apply μ c ⟨0, hn⟩ _ z z0 z1 z2
  | succ n ih =>
    intro hn y z z0 z1 z2
    by_cases h0 : (n + 1) % 8 = 0
    · refine (congrFun (congrArg Prod.snd (at_first μ c ⟨n + 1, hn⟩ h0)) y).trans ((kept_payload (iblk μ c 1 ⟨n + 1, hn⟩) y).trans ?_)
      exact cols_apply μ c ⟨n + 1, hn⟩ _ z z0 z1 z2
    · refine (congrFun (congrArg Prod.snd (at_later μ c ⟨n + 1, hn⟩ h0)) y).trans ?_
      refine ih (Nat.lt_of_succ_lt hn) y z z0 z1 (z2.trans ?_)
      rw [show (n + 1) / 8 = n / 8 by omega]

end Values

/-- The residual's entry of row `p` and column `q`. -/
def place (p : Fin 8192) (q : Fin 4096) : S2x4096x4096.Idx :=
  ix3 ⟨p.val / 4096, by omega⟩ ⟨p.val % 4096, by omega⟩ q

/-- The modulation's entry of row `p` and column `q`. -/
def gatePlace (p : Fin 8192) (q : Fin 4096) : S2x24576.Idx :=
  ix2 ⟨p.val / 4096, by omega⟩ ⟨8192 + q.val, by omega⟩

/-- The residual plus the gated product of the merged branches with the first layer's matrix. -/
def G (h : FVec Ideal S8192x4096 .bf16) (w x : FVec Ideal S2x4096x4096 .f32) (g : FVec Ideal S2x24576 .f32) : FVec Ideal S8192x4096 .f32 :=
  fun y => (x (place (y 0) (y 1)) + g (gatePlace (y 0) (y 1)) * ∑ k : Fin 4096, (h (ix2 (y 0) k) * w (ix3 0 k (y 1)) : EReal) : EReal)

theorem written (μ : (ℓ : Loc nD τ sig) → Buf (Elt Ideal) ℓ) (c : Dev nD) (t : Fin cfg0.N) (y : S1024x512.Idx)
    (z : S8192x4096.Idx) (h0 : (z 0).val = t.val % 8 * 1024 + (y 0).val) (h1 : (z 1).val = t.val / 8 * 512 + (y 1).val) :
    (outsAt0 μ c t.val t.isLt).1 y = G (μ ((c : Thread nD τ).loc main_arg0)) (μ ((c : Thread nD τ).loc main_arg1))
      (μ ((c : Thread nD τ).loc main_arg2)) (μ ((c : Thread nD τ).loc main_arg3)) z := by
  unfold G
  rw [out_eq]
  have hy0 : (y 0).val < 1024 := (y 0).isLt
  refine (out_payload _ _ _ _ _).trans (congrArg₂ (fun a b : EReal => a + b) ?_ (congrArg₂ (fun a b : EReal => a * b) ?_
    (Finset.sum_congr rfl fun k _ => ?_)))
  · exact residual_apply μ c t y z _ h0 h1 rfl rfl rfl
  · refine modulation_apply μ c t (ix3 0 0 (y 1)) _ ?_ ?_
    · show (z 0).val / 4096 = t.val % 8 / 4
      omega
    · show 8192 + (z 1).val = 8192 + (t.val / 8 * 512 + (y 1).val)
      omega
  · exact congrArg₂ (fun a b : EReal => a * b) (rows_apply μ c t _ _ h0 rfl) (kept_apply μ c t.val t.isLt _ _ rfl rfl h1)

/-- The result array after the run. -/
theorem final (μ : (ℓ : Loc nD τ sig) → Buf (Elt Ideal) ℓ) (c : Dev nD) :
    (dats μ 0 c).arrAt 4 cfg0.N = G (μ ((c : Thread nD τ).loc main_arg0)) (μ ((c : Thread nD τ).loc main_arg1))
      (μ ((c : Thread nD τ).loc main_arg2)) (μ ((c : Thread nD τ).loc main_arg3)) := by
  refine (dats μ 0 c).arrAt_eq_of_covers 4 _ ?_ fun t hf (y : S1024x512.Idx) => ?_
  · exact of_decide_eq_true (by sl_kernel_rfl)
  · refine (congrFun (after0_4 μ c t) y).trans (written μ c t y _ ?_ ?_)
    · show (BitVec.ofNat 32 (grid0.coords t 1).val).toNat * 1024 + 1 * (y 0).val = _
      rw [word _ (grid0.coords t 1).isLt, point1]
      omega
    · show (BitVec.ofNat 32 (grid0.coords t 0).val).toNat * 512 + 1 * (y 1).val = _
      rw [word _ (grid0.coords t 0).isLt, point0]
      omega

/-- The run: the result array holds the gated sum, the arguments end unchanged. -/
theorem run (μ : (ℓ : Loc nD τ sig) → Buf (Elt Ideal) ℓ) (ρ : Dev nD → PrngReg) :
    θ_run (defs (F := Ideal)) (onTc (τ := τ) (main (F := Ideal))) ⟨μ, fun _ => 0, ρ⟩ (fun r => ∀ c : Dev nD,
      r.2.mem ((c.tc : Thread nD τ).loc main_v2)
        = G (μ ((c.tc : Thread nD τ).loc main_arg0)) (μ ((c.tc : Thread nD τ).loc main_arg1)) (μ ((c.tc : Thread nD τ).loc main_arg2))
            (μ ((c.tc : Thread nD τ).loc main_arg3))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)) :=
  (θ_run defs _ _).mono (fun r h c => ⟨(h c).1.trans (final μ c), (h c).2⟩) (Cert.Kernel7Ideal.Value.run_blocks μ ρ)

end Cert.Proof.Out

end
-- ==== Proof.OutReference.lean ====
/-
  The reference of the output projection with its gate and residual, entry by entry what the kernel's call leaves.
-/
module

public import proofs.«01_k».proof.Proof.Out
public import proofs.«01_k».proof.Proof.Gen.Reference7Ideal.Run

@[expose] public section

noncomputable section

namespace Cert.Proof.Out

open Idealize.ShloMosaic Idealize.ShloMosaic.TcCoe Idealize.SL.Sem
open Cert.Reference7Ideal Cert.Reference7Ideal.Gen Idealize.ShloMosaic.ValueIdx

/-- The product of all rows, its rows split by batch member, at the entry of row `p` and column `q`. -/
theorem split_rows (v : FVec Ideal S8192x4096 .f32) (p : Fin 8192) (q : Fin 4096) :
    shapeCast S2x4096x4096 v shapeCasts_S8192x4096_S2x4096x4096 (place p q) = v (ix2 p q) := by
  refine shapeCast_apply v _ (place p q) (ix2 p q) ?_
  have e1 : (S2x4096x4096.rowMajor (place p q)).val = (p.val / 4096 * 4096 + p.val % 4096) * 4096 + q.val := Shape.rowMajor_val_three _
  have e2 : (S8192x4096.rowMajor (ix2 p q)).val = p.val * 4096 + q.val := Shape.rowMajor_val_two _
  exact (e2.trans (by omega)).trans e1.symm

/-- The modulation's third range, repeated along the rows of its batch member. -/
theorem gate_spread (g : FVec Ideal S2x24576 .f32) (p : Fin 8192) (q : Fin 4096) :
    broadcastInDim S2x4096x4096 ![0, 1, 2] bcast_S2x1x4096_S2x4096x4096_0_1_2 (broadcastInDim S2x1x4096 ![0, 2] bcast_S2x4096_S2x1x4096_0_2
      (extractStridedSlice S2x4096 ![0, 8192] g slices_S2x24576_S2x4096_0_8192)) (place p q) = g (gatePlace p q) := by
  refine congrArg g (funext fun a => Fin.ext ?_)
  match a with
  | ⟨0, _⟩ => exact Nat.zero_add _
  | ⟨1, _⟩ => rfl

/-- The reference's run, at the value the kernel's run ends with. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15)
        = G (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨(h c).1.trans ?_, (h c).2⟩) (Cert.Reference7Ideal.Value.run (F := Ideal) m ρ)
  funext y
  obtain ⟨p, q, rfl⟩ : ∃ (p : Fin 8192) (q : Fin 4096), y = ix2 p q := ⟨y 0, y 1, eq_ix2 y⟩
  refine (residual_rows _ shapeCasts_S2x4096x4096_S8192x4096 (ix2 p q) (place p q) rfl rfl rfl).trans ?_
  refine congrArg₂ (fun a b : EReal => a + b) rfl (congrArg₂ (fun a b : EReal => a * b) ?_ ?_)
  · exact gate_spread (m ((c.tc : Thread nD τ).loc main_arg3)) p q
  · refine (split_rows _ p q).trans ?_
    exact Dense.host_layer 1 8192 4096 4096 (m ((c.tc : Thread nD τ).loc main_arg0)) (m ((c.tc : Thread nD τ).loc main_arg1))
      bitsLt_bf16_f32 slices_S2x4096x4096_S1x4096x4096_0_0_0 shapeCasts_S1x4096x4096_S4096x4096 p q

end Cert.Proof.Out

end
-- ==== Proof.OutClaims.lean ====
/-
  The claims about the output projection with its gate and residual: both programs' frames from one run, and the value.
-/
module

public import proofs.«01_k».proof.Defs
public import proofs.«01_k».proof.Proof.OutReference
public import proofs.«01_k».proof.Proof.Gen.Kernel7

@[expose] public section

noncomputable section

namespace Cert.Proof.Out

open Idealize.ShloMosaic Idealize.SL.Sem

section Same
variable {F : FTy → Type} [FloatOps F]

/-- The program as printed and the program read over the reals have one text: one set of bodies. -/
theorem bodies_eq : Cert.Kernel7.defs₀ (F := F) = Cert.Kernel7Ideal.defs₀ (F := F) := by
  unfold Cert.Kernel7.defs₀ Cert.Kernel7Ideal.defs₀
  refine congrArg Defs.onTc (funext fun l => ?_)
  match l with
  | 0 => rfl

theorem defs_eq : Cert.Kernel7.defs (F := F) = Cert.Kernel7Ideal.defs (F := F) := by
  unfold Cert.Kernel7.defs Cert.Kernel7Ideal.defs
  exact congrArg _ bodies_eq

end Same

theorem frame : Cert.quiescent_Kernel7 := fun m ρ _ => by
  rw [defs_eq]
  exact Cert.Kernel7Ideal.Gen.frame (F := Bits) m ρ

theorem frame_ideal : Cert.quiescent_Kernel7Ideal := fun m ρ _ =>
  Cert.Kernel7Ideal.Gen.frame (F := Ideal) m ρ

theorem frame_reference : Cert.quiescent_Reference7Ideal := fun m ρ _ =>
  (θ_run _ _ _).mono (fun r h => ⟨fun c => (h c).2, Idealize.ShloMosaic.sem_eq_zero_of_no_sems (by decide) r.2⟩) (reference_run m ρ)

theorem algebraic : Cert.algebraic_Kernel7Ideal_Reference7Ideal := by
  intro m ρ m' ρ' _ hargs
  refine ⟨fun c => G (m ((c.tc : Thread _ _).loc Cert.Kernel7Ideal.main_arg0)) (m ((c.tc : Thread _ _).loc Cert.Kernel7Ideal.main_arg1)) (m ((c.tc : Thread _ _).loc Cert.Kernel7Ideal.main_arg2)) (m ((c.tc : Thread _ _).loc Cert.Kernel7Ideal.main_arg3)), ?_, ?_⟩
  · exact run m ρ
  · refine (θ_run _ _ _).mono (fun r h c => ⟨(h c).1.trans ?_, (h c).2⟩) (reference_run m' ρ')
    obtain ⟨e0, e1, e2, e3⟩ := hargs c
    rw [e0, e1, e2, e3]

end Cert.Proof.Out

end
-- ==== Proof.Glu.lean ====
/-
  The call that multiplies the normalised activations by the two first matrices of the shared expert and gates one product by the
  other: what each grid point writes, and the result array after the run.
-/
module

public import proofs.«01_k».proof.Proof.Gen.Kernel8Ideal.Frame
public import proofs.«01_k».proof.Proof.Gen.Kernel8Ideal.Value
public import proofs.«01_k».proof.Proof.Dense
public import Idealize.ShloMosaic.Lib.Pipeline.Value
public import Idealize.ShloMosaic.Lib.Pipeline.ValueKit.Geometry
public import Idealize.ShloMosaic.Lib.Pipeline.ValueKit.Acc

@[expose] public section

noncomputable section

namespace Cert.Proof.Glu

open Idealize.ShloMosaic Idealize.ShloMosaic.TcCoe Idealize.SL.Sem
open Cert.Kernel8Ideal Cert.Kernel8Ideal.Gen Idealize.ShloMosaic.ValueIdx

variable {F : FTy → Type} [FloatOps F]
variable (m : (ℓ : Loc nD τ sig) → Buf (Elt F) ℓ)

/-! ## One grid point -/

section Cases
variable (c : Dev nD) (i : grid0.Coords) (a2 : Memref sig .tc .vmem S1024x4096 .bf16) (h2 : a2.IsWhole)
  (a3 : Memref sig .tc .vmem S1x4096x256 .f32) (h3 : a3.IsWhole) (a4 : Memref sig .tc .vmem S1x4096x256 .f32) (h4 : a4.IsWhole)
  (a5 : Memref sig .tc .vmem S1024x256 .bf16) (h5 : a5.IsWhole) (a6 : Memref sig .tc .vmem S4096x256 .bf16) (h6 : a6.IsWhole)
  (a7 : Memref sig .tc .vmem S4096x256 .bf16) (h7 : a7.IsWhole)
  (x0 : Vec F S1024x4096 .bf16) (x1 x2 : Vec F S1x4096x256 .f32) (xs xu : Vec F S4096x256 .bf16)

theorem first_out (hc : cond0_0 i) (hd : cond0_1 i) :
    out0_A_3 c i a2 h2 a3 h3 a4 h4 a5 h5 a6 h6 a7 h7 hc hd x0 x1 x2 = k0_pay3 (k0_pay1 x1) (k0_pay2 x2) x0 := by
  frame_out

theorem first_gate (hc : cond0_0 i) (hd : cond0_1 i) :
    sout0_A_0 c i a2 h2 a3 h3 a4 h4 a5 h5 a6 h6 a7 h7 hc hd x0 x1 x2 = k0_pay1 x1 := by
  frame_out

theorem first_up (hc : cond0_0 i) (hd : cond0_1 i) :
    sout0_A_1 c i a2 h2 a3 h3 a4 h4 a5 h5 a6 h6 a7 h7 hc hd x0 x1 x2 = k0_pay2 x2 := by
  frame_out

theorem later_out (hc : ¬cond0_0 i) (hd : ¬cond0_1 i) :
    out0_B_3 c i a2 h2 a3 h3 a4 h4 a5 h5 a6 h6 a7 h7 hc hd x0 x1 x2 xs xu = k0_pay3 xs xu x0 := by
  frame_out

end Cases

/-- The point `t` is at column tile `t / 8` and row tile `t % 8`. -/
theorem point0 (t : Fin grid0.N) : (grid0.coords t 0).val = t.val / 8 := by
  have ht : t.val < 32 := Nat.lt_of_lt_of_eq t.isLt N_0
  rw [show (grid0.coords t 0).val = t.val / 8 % 4 from Pipeline.Grid.coords_val t 0 (by decide) rfl]
  omega

theorem point1 (t : Fin grid0.N) : (grid0.coords t 1).val = t.val % 8 := by
  rw [show (grid0.coords t 1).val = t.val / 1 % 8 from Pipeline.Grid.coords_val t 1 (by decide) rfl]
  omega

/-- The block of activations at an entry. -/
theorem rows_apply (c : Dev nD) (t : Fin cfg0.N) (y : S1024x4096.Idx) (z : S8192x4096.Idx)
    (hz0 : (z 0).val = t.val % 8 * 1024 + (y 0).val) (hz1 : (z 1).val = (y 1).val) :
    iblk m c 0 t y = m ((c : Thread nD τ).loc main_arg0) z := by
  show m ((c : Thread nD τ).loc main_arg0) (((cfg0.win 0).blk t).view.emb y) = _
  refine congrArg _ (funext fun a => Fin.ext ?_)
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show 0 * 4096 + 1 * (y 1).val = (z 1).val
    omega

/-- The blocks of the two matrices at an entry. -/
theorem cols1_apply (c : Dev nD) (t : Fin cfg0.N) (y : S1x4096x256.Idx) (z : S2x4096x1024.Idx)
    (hz0 : (z 0).val = 0) (hz1 : (z 1).val = (y 1).val) (hz2 : (z 2).val = t.val / 8 * 256 + (y 2).val) :
    iblk m c 1 t y = m ((c : Thread nD τ).loc main_arg1) z := by
  show m ((c : Thread nD τ).loc main_arg1) (((cfg0.win 1).blk t).view.emb y) = _
  refine congrArg _ (funext fun a => Fin.ext ?_)
  have h0 := point0 t
  have hlt : (grid0.coords t 0).val < 4 := (grid0.coords t 0).isLt
  match a with
  | ⟨0, _⟩ =>
    show 0 * 1 + 1 * (y 0).val = (z 0).val
    have : (y 0).val < 1 := (y 0).isLt
    omega
  | ⟨1, _⟩ =>
    show 0 * 4096 + 1 * (y 1).val = (z 1).val
    omega
  | ⟨2, _⟩ =>
    show (BitVec.ofNat 32 (grid0.coords t 0).val).toNat * 256 + 1 * (y 2).val = (z 2).val
    rw [BitVec.toNat_ofNat, Nat.mod_eq_of_lt (by omega)]
    omega

theorem cols2_apply (c : Dev nD) (t : Fin cfg0.N) (y : S1x4096x256.Idx) (z : S2x4096x1024.Idx)
    (hz0 : (z 0).val = 0) (hz1 : (z 1).val = (y 1).val) (hz2 : (z 2).val = t.val / 8 * 256 + (y 2).val) :
    iblk m c 2 t y = m ((c : Thread nD τ).loc main_arg2) z := by
  show m ((c : Thread nD τ).loc main_arg2) (((cfg0.win 2).blk t).view.emb y) = _
  refine congrArg _ (funext fun a => Fin.ext ?_)
  have h0 := point0 t
  have hlt : (grid0.coords t 0).val < 4 := (grid0.coords t 0).isLt
  match a with
  | ⟨0, _⟩ =>
    show 0 * 1 + 1 * (y 0).val = (z 0).val
    have : (y 0).val < 1 := (y 0).isLt
    omega
  | ⟨1, _⟩ =>
    show 0 * 4096 + 1 * (y 1).val = (z 1).val
    omega
  | ⟨2, _⟩ =>
    show (BitVec.ofNat 32 (grid0.coords t 0).val).toNat * 256 + 1 * (y 2).val = (z 2).val
    rw [BitVec.toNat_ofNat, Nat.mod_eq_of_lt (by omega)]
    omega

/-- At the first point of a column tile: the two tiles are cast and kept, and the products are taken with them. -/
theorem at_first (c : Dev nD) (t : Fin cfg0.N) (h0 : t.val % 8 = 0) :
    outsAt0 m c t.val t.isLt
      = (k0_pay3 (k0_pay1 (iblk m c 1 t)) (k0_pay2 (iblk m c 2 t)) (iblk m c 0 t), k0_pay1 (iblk m c 1 t), k0_pay2 (iblk m c 2 t)) :=
  (outsAt0_A m c t h0 h0).trans (congrArg₂ Prod.mk
    (first_out c (grid0.coords t) (ms0_0 t) (hs0_0 t) (ms0_1 t) (hs0_1 t) (ms0_2 t) (hs0_2 t) (ms0_3 t) (hs0_3 t) scM0_0
      (Memref.isWhole_whole _) scM0_1 (Memref.isWhole_whole _) (iblk m c 0 t) (iblk m c 1 t) (iblk m c 2 t) ((hcond0_0 t).mpr h0) ((hcond0_1 t).mpr h0))
    (congrArg₂ Prod.mk
      (first_gate c (grid0.coords t) (ms0_0 t) (hs0_0 t) (ms0_1 t) (hs0_1 t) (ms0_2 t) (hs0_2 t) (ms0_3 t) (hs0_3 t) scM0_0
      (Memref.isWhole_whole _) scM0_1 (Memref.isWhole_whole _) (iblk m c 0 t) (iblk m c 1 t) (iblk m c 2 t) ((hcond0_0 t).mpr h0) ((hcond0_1 t).mpr h0))
      (first_up c (grid0.coords t) (ms0_0 t) (hs0_0 t) (ms0_1 t) (hs0_1 t) (ms0_2 t) (hs0_2 t) (ms0_3 t) (hs0_3 t) scM0_0
      (Memref.isWhole_whole _) scM0_1 (Memref.isWhole_whole _) (iblk m c 0 t) (iblk m c 1 t) (iblk m c 2 t) ((hcond0_0 t).mpr h0) ((hcond0_1 t).mpr h0))))

/-- What was kept before point `t`. -/
abbrev before (c : Dev nD) (t : Fin cfg0.N) : Vec F S4096x256 .bf16 × Vec F S4096x256 .bf16 :=
  (outsAt0 m c (t.val - 1) (Nat.lt_of_le_of_lt (Nat.sub_le _ _) t.isLt)).2

/-- At a later point of the tile: the kept tiles stay, and the products are taken with them. -/
theorem at_later (c : Dev nD) (t : Fin cfg0.N) (h0 : ¬t.val % 8 = 0) :
    outsAt0 m c t.val t.isLt = (k0_pay3 (before m c t).1 (before m c t).2 (iblk m c 0 t), (before m c t).1, (before m c t).2) :=
  (outsAt0_B m c t h0 h0).trans (congrArg₂ Prod.mk
    (later_out c (grid0.coords t) (ms0_0 t) (hs0_0 t) (ms0_1 t) (hs0_1 t) (ms0_2 t) (hs0_2 t) (ms0_3 t) (hs0_3 t) scM0_0
      (Memref.isWhole_whole _) scM0_1 (Memref.isWhole_whole _) (iblk m c 0 t) (iblk m c 1 t) (iblk m c 2 t)
      (before m c t).1 (before m c t).2 (fun h => h0 ((hcond0_0 t).mp h)) (fun h => h0 ((hcond0_1 t).mp h)))
    rfl)

/-- What a point writes is made of its rows and the kept tiles. -/
theorem out_eq (c : Dev nD) (t : Fin cfg0.N) :
    (outsAt0 m c t.val t.isLt).1 = k0_pay3 (outsAt0 m c t.val t.isLt).2.1 (outsAt0 m c t.val t.isLt).2.2 (iblk m c 0 t) := by
  by_cases h0 : t.val % 8 = 0
  · rw [at_first m c t h0]
  · rw [at_later m c t h0]

/-! ## Over the reals -/

section Values
variable (μ : (ℓ : Loc nD τ sig) → Buf (Elt Ideal) ℓ)

theorem gate_payload (v : Vec Ideal S1x4096x256 .f32) (y : S4096x256.Idx) :
    k0_pay1 v y = v (ix3 0 (y 0) (y 1)) := by
  unfold k0_pay1
  rw [shapeCast_self]
  exact Dense.drop_unit 4096 256 v _ y

theorem up_payload (v : Vec Ideal S1x4096x256 .f32) (y : S4096x256.Idx) :
    k0_pay2 v y = v (ix3 0 (y 0) (y 1)) := gate_payload v y

/-- A number gated by another through `x / (1 + e^(-x))`. -/
def gated (g u : EReal) : EReal := g * Ideal.logistic g * u

theorem out_payload (b d : Vec Ideal S4096x256 .bf16) (a : Vec Ideal S1024x4096 .bf16) (y : S1024x256.Idx) :
    k0_pay3 b d a y = gated (∑ k : Fin 4096, (a (ix2 (y 0) k) * b (ix2 k (y 1)) : EReal))
      (∑ k : Fin 4096, (a (ix2 (y 0) k) * d (ix2 k (y 1)) : EReal)) := by
  unfold k0_pay3
  exact congrArg₂ gated (Dense.product 1024 4096 256 a b y) (Dense.product 1024 4096 256 a d y)

/-- The kept tiles after point `n`: the two matrices' weights of the tile's columns. -/
theorem kept_apply (c : Dev nD) : ∀ (n : ℕ) (hn : n < cfg0.N) (y : S4096x256.Idx) (z : S2x4096x1024.Idx),
    (z 0).val = 0 → (z 1).val = (y 0).val → (z 2).val = n / 8 * 256 + (y 1).val →
    (outsAt0 μ c n hn).2.1 y = μ ((c : Thread nD τ).loc main_arg1) z ∧ (outsAt0 μ c n hn).2.2 y = μ ((c : Thread nD τ).loc main_arg2) z := by
  have first : ∀ (n : ℕ) (hn : n < cfg0.N) (y : S4096x256.Idx) (z : S2x4096x1024.Idx), n % 8 = 0 →
      (z 0).val = 0 → (z 1).val = (y 0).val → (z 2).val = n / 8 * 256 + (y 1).val →
      (outsAt0 μ c n hn).2.1 y = μ ((c : Thread nD τ).loc main_arg1) z
        ∧ (outsAt0 μ c n hn).2.2 y = μ ((c : Thread nD τ).loc main_arg2) z := fun n hn y z h0 z0 z1 z2 =>
    ⟨(congrFun (congrArg (fun o => o.2.1) (at_first μ c ⟨n, hn⟩ h0)) y).trans
        ((gate_payload (iblk μ c 1 ⟨n, hn⟩) y).trans (cols1_apply μ c ⟨n, hn⟩ _ z z0 z1 z2)),
      (congrFun (congrArg (fun o => o.2.2) (at_first μ c ⟨n, hn⟩ h0)) y).trans
        ((up_payload (iblk μ c 2 ⟨n, hn⟩) y).trans (cols2_apply μ c ⟨n, hn⟩ _ z z0 z1 z2))⟩
  intro n
  induction n with
  | zero => exact fun hn y z => first 0 hn y z rfl
  | succ n ih =>
    intro hn y z z0 z1 z2
    by_cases h0 : (n + 1) % 8 = 0
    · exact first (n + 1) hn y z h0 z0 z1 z2
    · have e := ih (Nat.lt_of_succ_lt hn) y z z0 z1 (z2.trans (by rw [show (n + 1) / 8 = n / 8 by omega]))
      exact ⟨(congrFun (congrArg (fun o => o.2.1) (at_later μ c ⟨n + 1, hn⟩ h0)) y).trans e.1,
        (congrFun (congrArg (fun o => o.2.2) (at_later μ c ⟨n + 1, hn⟩ h0)) y).trans e.2⟩

end Values

/-- The product with the first matrix, gated, times the product with the second. -/
def G (h : FVec Ideal S8192x4096 .bf16) (w v : FVec Ideal S2x4096x1024 .f32) : FVec Ideal S8192x1024 .bf16 :=
  fun y => gated (∑ k : Fin 4096, (h (ix2 (y 0) k) * w (ix3 0 k (y 1)) : EReal)) (∑ k : Fin 4096, (h (ix2 (y 0) k) * v (ix3 0 k (y 1)) : EReal))

theorem written (μ : (ℓ : Loc nD τ sig) → Buf (Elt Ideal) ℓ) (c : Dev nD) (t : Fin cfg0.N) (y : S1024x256.Idx)
    (z : S8192x1024.Idx) (h0 : (z 0).val = t.val % 8 * 1024 + (y 0).val) (h1 : (z 1).val = t.val / 8 * 256 + (y 1).val) :
    (outsAt0 μ c t.val t.isLt).1 y
      = G (μ ((c : Thread nD τ).loc main_arg0)) (μ ((c : Thread nD τ).loc main_arg1)) (μ ((c : Thread nD τ).loc main_arg2)) z := by
  unfold G
  rw [out_eq]
  refine (out_payload _ _ _ _).trans (congrArg₂ gated (Finset.sum_congr rfl fun k _ => ?_) (Finset.sum_congr rfl fun k _ => ?_))
  · exact congrArg₂ (fun a b : EReal => a * b) (rows_apply μ c t _ _ h0 rfl) (kept_apply μ c t.val t.isLt _ _ rfl rfl h1).1
  · exact congrArg₂ (fun a b : EReal => a * b) (rows_apply μ c t _ _ h0 rfl) (kept_apply μ c t.val t.isLt _ _ rfl rfl h1).2

/-- The result array after the run. -/
theorem final (μ : (ℓ : Loc nD τ sig) → Buf (Elt Ideal) ℓ) (c : Dev nD) :
    (dats μ 0 c).arrAt 3 cfg0.N
      = G (μ ((c : Thread nD τ).loc main_arg0)) (μ ((c : Thread nD τ).loc main_arg1)) (μ ((c : Thread nD τ).loc main_arg2)) := by
  refine (dats μ 0 c).arrAt_eq_of_covers 3 _ ?_ fun t hf (y : S1024x256.Idx) => ?_
  · exact of_decide_eq_true (by sl_kernel_rfl)
  · refine (congrFun (after0_3 μ c t) y).trans (written μ c t y _ ?_ ?_)
    · show (BitVec.ofNat 32 (grid0.coords t 1).val).toNat * 1024 + 1 * (y 0).val = _
      rw [BitVec.toNat_ofNat, point1, Nat.mod_eq_of_lt (by omega)]
      omega
    · have ht : t.val < 32 := Nat.lt_of_lt_of_eq t.isLt N_0
      show (BitVec.ofNat 32 (grid0.coords t 0).val).toNat * 256 + 1 * (y 1).val = _
      rw [BitVec.toNat_ofNat, point0, Nat.mod_eq_of_lt (by omega)]
      omega

/-- The run: the result array holds the gated product, the arguments end unchanged. -/
theorem run (μ : (ℓ : Loc nD τ sig) → Buf (Elt Ideal) ℓ) (ρ : Dev nD → PrngReg) :
    θ_run (defs (F := Ideal)) (onTc (τ := τ) (main (F := Ideal))) ⟨μ, fun _ => 0, ρ⟩ (fun r => ∀ c : Dev nD,
      r.2.mem ((c.tc : Thread nD τ).loc main_v0)
        = G (μ ((c.tc : Thread nD τ).loc main_arg0)) (μ ((c.tc : Thread nD τ).loc main_arg1)) (μ ((c.tc : Thread nD τ).loc main_arg2))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)) :=
  (θ_run defs _ _).mono (fun r h c => ⟨(h c).1.trans (final μ c), (h c).2⟩) (Cert.Kernel8Ideal.Value.run_blocks μ ρ)

end Cert.Proof.Glu

end
-- ==== Proof.GluReference.lean ====
/-
  The reference of the shared expert's gated product, entry by entry what the kernel's call leaves.
-/
module

public import proofs.«01_k».proof.Proof.Glu
public import proofs.«01_k».proof.Proof.Gen.Reference8Ideal.Run
public import Idealize.ShloMosaic.Lib.IdealHost

@[expose] public section

noncomputable section

namespace Cert.Proof.Glu

open Idealize.ShloMosaic Idealize.ShloMosaic.TcCoe Idealize.SL.Sem
open Cert.Reference8Ideal Cert.Reference8Ideal.Gen Idealize.ShloMosaic.ValueIdx

/-- The reference's spelling of the gate, with its two literal ones. -/
theorem gated_spelled (g u : EReal) :
    g * Ideal.div (Ideal.ofBits .f32 0x3F800000#32) (Ideal.ofBits .f32 0x3F800000#32 + Ideal.exp (-g)) * u = gated g u := by
  rw [Ideal.ofBits_one_f32]
  rfl

/-- The reference's run, at the value the kernel's run ends with. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨(h c).1.trans ?_, (h c).2⟩) (Cert.Reference8Ideal.Value.run (F := Ideal) m ρ)
  funext y
  obtain ⟨p, q, rfl⟩ : ∃ (p : Fin 8192) (q : Fin 1024), y = ix2 p q := ⟨y 0, y 1, eq_ix2 y⟩
  refine (gated_spelled _ _).trans (congrArg₂ gated ?_ ?_)
  · exact Dense.host_layer 1 8192 4096 1024 (m ((c.tc : Thread nD τ).loc main_arg0)) (m ((c.tc : Thread nD τ).loc main_arg1))
      bitsLt_bf16_f32 slices_S2x4096x1024_S1x4096x1024_0_0_0 shapeCasts_S1x4096x1024_S4096x1024 p q
  · exact Dense.host_layer 1 8192 4096 1024 (m ((c.tc : Thread nD τ).loc main_arg0)) (m ((c.tc : Thread nD τ).loc main_arg2))
      bitsLt_bf16_f32 slices_S2x4096x1024_S1x4096x1024_0_0_0 shapeCasts_S1x4096x1024_S4096x1024 p q

end Cert.Proof.Glu

end
-- ==== Proof.GluClaims.lean ====
/-
  The claims about the shared expert's gated product: both programs' frames from one run, and the value.
-/
module

public import proofs.«01_k».proof.Defs
public import proofs.«01_k».proof.Proof.GluReference
public import proofs.«01_k».proof.Proof.Gen.Kernel8

@[expose] public section

noncomputable section

namespace Cert.Proof.Glu

open Idealize.ShloMosaic Idealize.SL.Sem

section Same
variable {F : FTy → Type} [FloatOps F]

/-- The program as printed and the program read over the reals have one text: one set of bodies. -/
theorem bodies_eq : Cert.Kernel8.defs₀ (F := F) = Cert.Kernel8Ideal.defs₀ (F := F) := by
  unfold Cert.Kernel8.defs₀ Cert.Kernel8Ideal.defs₀
  refine congrArg Defs.onTc (funext fun l => ?_)
  match l with
  | 0 => rfl

theorem defs_eq : Cert.Kernel8.defs (F := F) = Cert.Kernel8Ideal.defs (F := F) := by
  unfold Cert.Kernel8.defs Cert.Kernel8Ideal.defs
  exact congrArg _ bodies_eq

end Same

theorem frame : Cert.quiescent_Kernel8 := fun m ρ _ => by
  rw [defs_eq]
  exact Cert.Kernel8Ideal.Gen.frame (F := Bits) m ρ

theorem frame_ideal : Cert.quiescent_Kernel8Ideal := fun m ρ _ =>
  Cert.Kernel8Ideal.Gen.frame (F := Ideal) m ρ

theorem frame_reference : Cert.quiescent_Reference8Ideal := fun m ρ _ =>
  (θ_run _ _ _).mono (fun r h => ⟨fun c => (h c).2, Idealize.ShloMosaic.sem_eq_zero_of_no_sems (by decide) r.2⟩) (reference_run m ρ)

theorem algebraic : Cert.algebraic_Kernel8Ideal_Reference8Ideal := by
  intro m ρ m' ρ' _ hargs
  refine ⟨fun c => G (m ((c.tc : Thread _ _).loc Cert.Kernel8Ideal.main_arg0)) (m ((c.tc : Thread _ _).loc Cert.Kernel8Ideal.main_arg1)) (m ((c.tc : Thread _ _).loc Cert.Kernel8Ideal.main_arg2)), ?_, ?_⟩
  · exact run m ρ
  · refine (θ_run _ _ _).mono (fun r h c => ⟨(h c).1.trans ?_, (h c).2⟩) (reference_run m' ρ')
    obtain ⟨e0, e1, e2⟩ := hargs c
    rw [e0, e1, e2]

end Cert.Proof.Glu

end
-- ==== Proof.Down.lean ====
/-
  The call that multiplies the activations of the shared expert by its second matrix: what each grid point writes, and the result
  array after the run.
-/
module

public import proofs.«01_k».proof.Proof.Gen.Kernel9Ideal.Frame
public import proofs.«01_k».proof.Proof.Gen.Kernel9Ideal.Value
public import proofs.«01_k».proof.Proof.Dense
public import Idealize.ShloMosaic.Lib.Pipeline.Value
public import Idealize.ShloMosaic.Lib.Pipeline.ValueKit.Geometry
public import Idealize.ShloMosaic.Lib.Pipeline.ValueKit.Acc

@[expose] public section

noncomputable section

namespace Cert.Proof.Down

open Idealize.ShloMosaic Idealize.ShloMosaic.TcCoe Idealize.SL.Sem
open Cert.Kernel9Ideal Cert.Kernel9Ideal.Gen Idealize.ShloMosaic.ValueIdx

variable {F : FTy → Type} [FloatOps F]
variable (m : (ℓ : Loc nD τ sig) → Buf (Elt F) ℓ)

/-! ## One grid point -/

section Cases
variable (c : Dev nD) (i : grid0.Coords) (a2 : Memref sig .tc .vmem S1024x1024 .bf16) (h2 : a2.IsWhole)
  (a3 : Memref sig .tc .vmem S1x1024x1024 .f32) (h3 : a3.IsWhole) (a4 : Memref sig .tc .vmem S1024x1024 .bf16) (h4 : a4.IsWhole)
  (a5 : Memref sig .tc .vmem S1024x1024 .bf16) (h5 : a5.IsWhole)
  (x0 : Vec F S1024x1024 .bf16) (x1 : Vec F S1x1024x1024 .f32) (xs : Vec F S1024x1024 .bf16)

theorem first_out (hc : cond0_0 i) : out0_A_2 c i a2 h2 a3 h3 a4 h4 a5 h5 hc x0 x1 = k0_pay2 (k0_pay1 x1) x0 := by
  frame_out

theorem first_kept (hc : cond0_0 i) : sout0_A_0 c i a2 h2 a3 h3 a4 h4 a5 h5 hc x0 x1 = k0_pay1 x1 := by
  frame_out

theorem later_out (hc : ¬cond0_0 i) : out0_B_2 c i a2 h2 a3 h3 a4 h4 a5 h5 hc x0 x1 xs = k0_pay2 xs x0 := by
  frame_out

end Cases

/-- The point `t` is at column tile `t / 8` and row tile `t % 8`. -/
theorem point0 (t : Fin grid0.N) : (grid0.coords t 0).val = t.val / 8 := by
  have ht : t.val < 32 := Nat.lt_of_lt_of_eq t.isLt N_0
  rw [show (grid0.coords t 0).val = t.val / 8 % 4 from Pipeline.Grid.coords_val t 0 (by decide) rfl]
  omega

theorem point1 (t : Fin grid0.N) : (grid0.coords t 1).val = t.val % 8 := by
  rw [show (grid0.coords t 1).val = t.val / 1 % 8 from Pipeline.Grid.coords_val t 1 (by decide) rfl]
  omega

/-- The block of activations at an entry. -/
theorem rows_apply (c : Dev nD) (t : Fin cfg0.N) (y : S1024x1024.Idx) (z : S8192x1024.Idx)
    (hz0 : (z 0).val = t.val % 8 * 1024 + (y 0).val) (hz1 : (z 1).val = (y 1).val) :
    iblk m c 0 t y = m ((c : Thread nD τ).loc main_arg0) z := by
  show m ((c : Thread nD τ).loc main_arg0) (((cfg0.win 0).blk t).view.emb y) = _
  refine congrArg _ (funext fun a => Fin.ext ?_)
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show 0 * 1024 + 1 * (y 1).val = (z 1).val
    omega

/-- The block of weights at an entry. -/
theorem cols_apply (c : Dev nD) (t : Fin cfg0.N) (y : S1x1024x1024.Idx) (z : S2x1024x4096.Idx)
    (hz0 : (z 0).val = 0) (hz1 : (z 1).val = (y 1).val) (hz2 : (z 2).val = t.val / 8 * 1024 + (y 2).val) :
    iblk m c 1 t y = m ((c : Thread nD τ).loc main_arg1) z := by
  show m ((c : Thread nD τ).loc main_arg1) (((cfg0.win 1).blk t).view.emb y) = _
  refine congrArg _ (funext fun a => Fin.ext ?_)
  have h0 := point0 t
  have hlt : (grid0.coords t 0).val < 4 := (grid0.coords t 0).isLt
  match a with
  | ⟨0, _⟩ =>
    show 0 * 1 + 1 * (y 0).val = (z 0).val
    have : (y 0).val < 1 := (y 0).isLt
    omega
  | ⟨1, _⟩ =>
    show 0 * 1024 + 1 * (y 1).val = (z 1).val
    omega
  | ⟨2, _⟩ =>
    show (BitVec.ofNat 32 (grid0.coords t 0).val).toNat * 1024 + 1 * (y 2).val = (z 2).val
    rw [BitVec.toNat_ofNat, Nat.mod_eq_of_lt (by omega)]
    omega

/-- At the first point of a column tile: the tile is cast and kept, and the product is taken with it. -/
theorem at_first (c : Dev nD) (t : Fin cfg0.N) (h0 : t.val % 8 = 0) :
    outsAt0 m c t.val t.isLt = (k0_pay2 (k0_pay1 (iblk m c 1 t)) (iblk m c 0 t), k0_pay1 (iblk m c 1 t)) :=
  (outsAt0_A m c t h0).trans (congrArg₂ Prod.mk
    (first_out c (grid0.coords t) (ms0_0 t) (hs0_0 t) (ms0_1 t) (hs0_1 t) (ms0_2 t) (hs0_2 t) scM0_0
      (Memref.isWhole_whole _) (iblk m c 0 t) (iblk m c 1 t) ((hcond0_0 t).mpr h0))
    (first_kept c (grid0.coords t) (ms0_0 t) (hs0_0 t) (ms0_1 t) (hs0_1 t) (ms0_2 t) (hs0_2 t) scM0_0
      (Memref.isWhole_whole _) (iblk m c 0 t) (iblk m c 1 t) ((hcond0_0 t).mpr h0)))

/-- What was kept before point `t`. -/
abbrev before (c : Dev nD) (t : Fin cfg0.N) : Vec F S1024x1024 .bf16 :=
  (outsAt0 m c (t.val - 1) (Nat.lt_of_le_of_lt (Nat.sub_le _ _) t.isLt)).2

/-- At a later point of the tile: the kept tile stays, and the product is taken with it. -/
theorem at_later (c : Dev nD) (t : Fin cfg0.N) (h0 : ¬t.val % 8 = 0) :
    outsAt0 m c t.val t.isLt = (k0_pay2 (before m c t) (iblk m c 0 t), before m c t) :=
  (outsAt0_B m c t h0).trans (congrArg₂ Prod.mk
    (later_out c (grid0.coords t) (ms0_0 t) (hs0_0 t) (ms0_1 t) (hs0_1 t) (ms0_2 t) (hs0_2 t) scM0_0
      (Memref.isWhole_whole _) (iblk m c 0 t) (iblk m c 1 t) (before m c t) (fun h => h0 ((hcond0_0 t).mp h)))
    rfl)

/-- What a point writes is the product of its rows with the kept tile. -/
theorem out_eq (c : Dev nD) (t : Fin cfg0.N) :
    (outsAt0 m c t.val t.isLt).1 = k0_pay2 (outsAt0 m c t.val t.isLt).2 (iblk m c 0 t) := by
  by_cases h0 : t.val % 8 = 0
  · rw [at_first m c t h0]
  · rw [at_later m c t h0]

/-! ## Over the reals -/

section Values
variable (μ : (ℓ : Loc nD τ sig) → Buf (Elt Ideal) ℓ)

theorem kept_payload (v : Vec Ideal S1x1024x1024 .f32) (y : S1024x1024.Idx) :
    k0_pay1 v y = v (ix3 0 (y 0) (y 1)) := by
  unfold k0_pay1
  rw [shapeCast_self]
  exact Dense.drop_unit 1024 1024 v _ y

theorem out_payload (b : Vec Ideal S1024x1024 .bf16) (a : Vec Ideal S1024x1024 .bf16) (y : S1024x1024.Idx) :
    k0_pay2 b a y = ∑ k : Fin 1024, (a (ix2 (y 0) k) * b (ix2 k (y 1)) : EReal) := by
  unfold k0_pay2
  exact Dense.product 1024 1024 1024 a b y

/-- The kept tile after point `n`: the weights of the tile's columns. -/
theorem kept_apply (c : Dev nD) : ∀ (n : ℕ) (hn : n < cfg0.N) (y : S1024x1024.Idx) (z : S2x1024x4096.Idx),
    (z 0).val = 0 → (z 1).val = (y 0).val → (z 2).val = n / 8 * 1024 + (y 1).val →
    (outsAt0 μ c n hn).2 y = μ ((c : Thread nD τ).loc main_arg1) z := by
  intro n
  induction n with
  | zero =>
    intro hn y z z0 z1 z2
    refine (congrFun (congrArg Prod.snd (at_first μ c ⟨0, hn⟩ rfl)) y).trans ((kept_payload (iblk μ c 1 ⟨0, hn⟩) y).trans ?_)
    exact cols_apply μ c ⟨0, hn⟩ _ z z0 z1 z2
  | succ n ih =>
    intro hn y z z0 z1 z2
    by_cases h0 : (n + 1) % 8 = 0
    · refine (congrFun (congrArg Prod.snd (at_first μ c ⟨n + 1, hn⟩ h0)) y).trans ((kept_payload (iblk μ c 1 ⟨n + 1, hn⟩) y).trans ?_)
      exact cols_apply μ c ⟨n + 1, hn⟩ _ z z0 z1 z2
    · refine (congrFun (congrArg Prod.snd (at_later μ c ⟨n + 1, hn⟩ h0)) y).trans ?_
      refine ih (Nat.lt_of_succ_lt hn) y z z0 z1 (z2.trans ?_)
      rw [show (n + 1) / 8 = n / 8 by omega]

end Values

/-- The product of the activations with the first layer's second matrix. -/
def G (h : FVec Ideal S8192x1024 .bf16) (w : FVec Ideal S2x1024x4096 .f32) : FVec Ideal S8192x4096 .bf16 :=
  fun y => ∑ k : Fin 1024, (h (ix2 (y 0) k) * w (ix3 0 k (y 1)) : EReal)

theorem written (μ : (ℓ : Loc nD τ sig) → Buf (Elt Ideal) ℓ) (c : Dev nD) (t : Fin cfg0.N) (y : S1024x1024.Idx)
    (z : S8192x4096.Idx) (h0 : (z 0).val = t.val % 8 * 1024 + (y 0).val) (h1 : (z 1).val = t.val / 8 * 1024 + (y 1).val) :
    (outsAt0 μ c t.val t.isLt).1 y = G (μ ((c : Thread nD τ).loc main_arg0)) (μ ((c : Thread nD τ).loc main_arg1)) z := by
  unfold G
  rw [out_eq]
  refine (out_payload _ _ _).trans (Finset.sum_congr rfl fun k _ => ?_)
  exact congrArg₂ (fun a b : EReal => a * b) (rows_apply μ c t _ _ h0 rfl) (kept_apply μ c t.val t.isLt _ _ rfl rfl h1)

/-- The result array after the run. -/
theorem final (μ : (ℓ : Loc nD τ sig) → Buf (Elt Ideal) ℓ) (c : Dev nD) :
    (dats μ 0 c).arrAt 2 cfg0.N = G (μ ((c : Thread nD τ).loc main_arg0)) (μ ((c : Thread nD τ).loc main_arg1)) := by
  refine (dats μ 0 c).arrAt_eq_of_covers 2 _ ?_ fun t hf (y : S1024x1024.Idx) => ?_
  · exact of_decide_eq_true (by sl_kernel_rfl)
  · refine (congrFun (after0_2 μ c t) y).trans (written μ c t y _ ?_ ?_)
    · show (BitVec.ofNat 32 (grid0.coords t 1).val).toNat * 1024 + 1 * (y 0).val = _
      rw [BitVec.toNat_ofNat, point1, Nat.mod_eq_of_lt (by omega)]
      omega
    · have ht : t.val < 32 := Nat.lt_of_lt_of_eq t.isLt N_0
      show (BitVec.ofNat 32 (grid0.coords t 0).val).toNat * 1024 + 1 * (y 1).val = _
      rw [BitVec.toNat_ofNat, point0, Nat.mod_eq_of_lt (by omega)]
      omega

/-- The run: the result array holds the product, the arguments end unchanged. -/
theorem run (μ : (ℓ : Loc nD τ sig) → Buf (Elt Ideal) ℓ) (ρ : Dev nD → PrngReg) :
    θ_run (defs (F := Ideal)) (onTc (τ := τ) (main (F := Ideal))) ⟨μ, fun _ => 0, ρ⟩ (fun r => ∀ c : Dev nD,
      r.2.mem ((c.tc : Thread nD τ).loc main_v0) = G (μ ((c.tc : Thread nD τ).loc main_arg0)) (μ ((c.tc : Thread nD τ).loc main_arg1))
      ∧ r.2.mem ((c.tc : Thread nD τ).loc main_arg0) = μ ((c.tc : Thread nD τ).loc main_arg0)
      ∧ r.2.mem ((c.tc : Thread nD τ).loc main_arg1) = μ ((c.tc : Thread nD τ).loc main_arg1)) :=
  (θ_run defs _ _).mono (fun r h c => ⟨(h c).1.trans (final μ c), (h c).2⟩) (Cert.Kernel9Ideal.Value.run_blocks μ ρ)

end Cert.Proof.Down

end
-- ==== Proof.DownReference.lean ====
/-
  The reference of the shared expert's second product, entry by entry what the kernel's call leaves.
-/
module

public import proofs.«01_k».proof.Proof.Down
public import proofs.«01_k».proof.Proof.Gen.Reference9Ideal.Run

@[expose] public section

noncomputable section

namespace Cert.Proof.Down

open Idealize.ShloMosaic Idealize.ShloMosaic.TcCoe Idealize.SL.Sem
open Cert.Reference9Ideal Cert.Reference9Ideal.Gen Idealize.ShloMosaic.ValueIdx

/-- The reference's run, at the value the kernel's run ends with. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨(h c).1.trans ?_, (h c).2⟩) (Cert.Reference9Ideal.Value.run (F := Ideal) m ρ)
  funext y
  obtain ⟨p, q, rfl⟩ : ∃ (p : Fin 8192) (q : Fin 4096), y = ix2 p q := ⟨y 0, y 1, eq_ix2 y⟩
  exact Dense.host_layer 1 8192 1024 4096 (m ((c.tc : Thread nD τ).loc main_arg0)) (m ((c.tc : Thread nD τ).loc main_arg1))
    bitsLt_bf16_f32 slices_S2x1024x4096_S1x1024x4096_0_0_0 shapeCasts_S1x1024x4096_S1024x4096 p q

end Cert.Proof.Down

end
-- ==== Proof.DownClaims.lean ====
/-
  The claims about the shared expert's second product: both programs' frames from one run, and the value.
-/
module

public import proofs.«01_k».proof.Defs
public import proofs.«01_k».proof.Proof.DownReference
public import proofs.«01_k».proof.Proof.Gen.Kernel9

@[expose] public section

noncomputable section

namespace Cert.Proof.Down

open Idealize.ShloMosaic Idealize.SL.Sem

section Same
variable {F : FTy → Type} [FloatOps F]

/-- The program as printed and the program read over the reals have one text: one set of bodies. -/
theorem bodies_eq : Cert.Kernel9.defs₀ (F := F) = Cert.Kernel9Ideal.defs₀ (F := F) := by
  unfold Cert.Kernel9.defs₀ Cert.Kernel9Ideal.defs₀
  refine congrArg Defs.onTc (funext fun l => ?_)
  match l with
  | 0 => rfl

theorem defs_eq : Cert.Kernel9.defs (F := F) = Cert.Kernel9Ideal.defs (F := F) := by
  unfold Cert.Kernel9.defs Cert.Kernel9Ideal.defs
  exact congrArg _ bodies_eq

end Same

theorem frame : Cert.quiescent_Kernel9 := fun m ρ _ => by
  rw [defs_eq]
  exact Cert.Kernel9Ideal.Gen.frame (F := Bits) m ρ

theorem frame_ideal : Cert.quiescent_Kernel9Ideal := fun m ρ _ =>
  Cert.Kernel9Ideal.Gen.frame (F := Ideal) m ρ

theorem frame_reference : Cert.quiescent_Reference9Ideal := fun m ρ _ =>
  (θ_run _ _ _).mono (fun r h => ⟨fun c => (h c).2, Idealize.ShloMosaic.sem_eq_zero_of_no_sems (by decide) r.2⟩) (reference_run m ρ)

theorem algebraic : Cert.algebraic_Kernel9Ideal_Reference9Ideal := by
  intro m ρ m' ρ' _ hargs
  refine ⟨fun c => G (m ((c.tc : Thread _ _).loc Cert.Kernel9Ideal.main_arg0)) (m ((c.tc : Thread _ _).loc Cert.Kernel9Ideal.main_arg1)), ?_, ?_⟩
  · exact run m ρ
  · refine (θ_run _ _ _).mono (fun r h c => ⟨(h c).1.trans ?_, (h c).2⟩) (reference_run m' ρ')
    exact congrArg₂ G (hargs c).1 (hargs c).2

end Cert.Proof.Down

end
-- ==== Proof.OnlineSoftmax.lean ====
/-
  The weighted mean of a row of values, the weights being the exponentials of a row of scores: taken block by block with a
  running maximum, and taken at once.
-/
module

public import Idealize.ShloMosaic.PureOps.Ideal

@[expose] public section

noncomputable section

namespace Cert.Proof.OnlineSoftmax

open Idealize.ShloMosaic

/-- A finite nonnegative factor goes into a sum of extended reals. -/
theorem mul_sum_real {ι : Type} (S : Finset ι) (c : ℝ) (hc : 0 ≤ c) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (EReal.coe_nonneg.mpr hc) (EReal.coe_ne_top c), ih]

/-- A sum of finite numbers is finite. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem exp_coe (x : ℝ) : Ideal.exp (x : EReal) = (Real.exp x : EReal) := rfl

theorem exp_sub (x y : ℝ) : Ideal.exp ((x : EReal) - (y : EReal)) = (Real.exp (x - y) : EReal) := by
  rw [← EReal.coe_sub]
  rfl

/-- The greatest of finitely many finite numbers, `⊥` counted in, is finite. -/
theorem fold_max_real {n : ℕ} (hn : 0 < n) (f : Fin n → ℝ) :
    ∃ r : ℝ, (Finset.univ : Finset (Fin n)).fold max (⊥ : EReal) (fun k => (f k : EReal)) = (r : EReal) := by
  have hne : (Finset.univ : Finset (Fin n)).Nonempty := ⟨⟨0, hn⟩, Finset.mem_univ _⟩
  obtain ⟨i, -, h⟩ := Finset.exists_mem_eq_sup (Finset.univ : Finset (Fin n)) hne (fun k => (f k : EReal))
  exact ⟨f i, h⟩

/-- One block of a row: the running maximum, the running sum of the weights, the running sum of the weighted values. -/
def step {n : ℕ} (st : EReal × EReal × EReal) (s v : Fin n → EReal) : EReal × EReal × EReal :=
  (max st.1 (Finset.univ.fold max ⊥ s),
    Ideal.exp (st.1 - max st.1 (Finset.univ.fold max ⊥ s)) * st.2.1
      + ∑ k : Fin n, Ideal.exp (s k - max st.1 (Finset.univ.fold max ⊥ s)),
    Ideal.exp (st.1 - max st.1 (Finset.univ.fold max ⊥ s)) * st.2.2
      + ∑ k : Fin n, Ideal.exp (s k - max st.1 (Finset.univ.fold max ⊥ s)) * v k)

/-- What the running numbers are after `n` scores: sums of weights taken from some finite number. -/
def Holds (s : ℕ → ℝ) (v : ℕ → EReal) (n : ℕ) (st : EReal × EReal × EReal) : Prop :=
  ∃ r : ℝ, st.1 = (r : EReal) ∧ st.2.1 = ((∑ i ∈ Finset.range n, Real.exp (s i - r) : ℝ) : EReal)
    ∧ st.2.2 = ∑ i ∈ Finset.range n, (Real.exp (s i - r) : EReal) * v i

/-- The first block. -/
theorem holds_first (s : ℕ → ℝ) (v : ℕ → EReal) {n : ℕ} (hn : 0 < n) :
    Holds s v n (step (⊥, 0, 0) (fun k : Fin n => (s k.val : EReal)) (fun k => v k.val)) := by
  obtain ⟨r, hr⟩ := fold_max_real hn fun k : Fin n => s k.val
  have hm : max (⊥ : EReal) ((Finset.univ : Finset (Fin n)).fold max ⊥ fun k => (s k.val : EReal)) = (r : EReal) := by
    rw [hr]; exact max_eq_right bot_le
  refine ⟨r, hm, ?_, ?_⟩
  · show Ideal.exp (⊥ - _) * 0 + ∑ k : Fin n, Ideal.exp ((s k.val : EReal) - _) = _
    rw [hm, mul_zero, zero_add, coe_sum, Finset.sum_range]
    exact Finset.sum_congr rfl fun k _ => exp_sub _ _
  · show Ideal.exp (⊥ - _) * 0 + ∑ k : Fin n, Ideal.exp ((s k.val : EReal) - _) * v k.val = _
    rw [hm, mul_zero, zero_add, Finset.sum_range]
    exact Finset.sum_congr rfl fun k _ => congrArg (fun w : EReal => w * v k.val) (exp_sub _ _)

/-- A further block. -/
theorem holds_next (s : ℕ → ℝ) (v : ℕ → EReal) (a : ℕ) {n : ℕ} (hn : 0 < n) (st : EReal × EReal × EReal)
    (h : Holds s v a st) :
    Holds s v (a + n) (step st (fun k : Fin n => (s (a + k.val) : EReal)) (fun k => v (a + k.val))) := by
  obtain ⟨q, h1, h2, h3⟩ := h
  obtain ⟨r', hr⟩ := fold_max_real hn fun k : Fin n => s (a + k.val)
  have hm : max st.1 ((Finset.univ : Finset (Fin n)).fold max ⊥ fun k => (s (a + k.val) : EReal))
      = ((max q r' : ℝ) : EReal) := by
    rw [hr, h1]; exact (EReal.coe_strictMono.monotone.map_max).symm
  have hw : ∀ x : ℝ, Real.exp (q - max q r') * Real.exp (x - q) = Real.exp (x - max q r') := fun x => by
    rw [← Real.exp_add]; congr 1; ring
  refine ⟨max q r', hm, ?_, ?_⟩
  · show Ideal.exp (st.1 - _) * st.2.1 + ∑ k : Fin n, Ideal.exp ((s (a + k.val) : EReal) - _) = _
    rw [hm, h1, h2, exp_sub, ← EReal.coe_mul, Finset.mul_sum, Finset.sum_range_add, EReal.coe_add]
    refine congrArg₂ (fun x y : EReal => x + y) ?_ ?_
    · exact congrArg _ (Finset.sum_congr rfl fun i _ => hw _)
    · rw [coe_sum, Finset.sum_range]
      exact Finset.sum_congr rfl fun k _ => exp_sub _ _
  · show Ideal.exp (st.1 - _) * st.2.2 + ∑ k : Fin n, Ideal.exp ((s (a + k.val) : EReal) - _) * v (a + k.val) = _
    rw [hm, h1, h3, exp_sub, mul_sum_real _ _ (Real.exp_nonneg _), Finset.sum_range_add]
    refine congrArg₂ (fun x y : EReal => x + y) ?_ ?_
    · refine Finset.sum_congr rfl fun i _ => ?_
      rw [← mul_assoc, ← EReal.coe_mul, hw]
    · rw [Finset.sum_range]
      exact Finset.sum_congr rfl fun k _ => congrArg (fun w : EReal => w * v (a + k.val)) (exp_sub _ _)

/-- Dividing by a finite number that is not zero. -/
theorem div_coe (x : EReal) (y : ℝ) (hy : y ≠ 0) : Ideal.div x (y : EReal) = ((y⁻¹ : ℝ) : EReal) * x := by
  unfold Ideal.div
  rw [if_neg (by exact_mod_cast hy), mul_comm, EReal.coe_inv]

/-- The weights at once: the exponentials over their sum, the greatest score taken off first. -/
def weight {n : ℕ} (s : Fin n → EReal) (k : Fin n) : EReal :=
  Ideal.div (Ideal.exp (s k - max ⊥ (Finset.univ.fold max ⊥ s)))
    (∑ j : Fin n, Ideal.exp (s j - max ⊥ (Finset.univ.fold max ⊥ s)))

/-- The weights of finite scores are finite. -/
theorem weight_real (s : ℕ → ℝ) {n : ℕ} (hn : 0 < n) :
    ∃ w : Fin n → ℝ, ∀ k, weight (fun j : Fin n => (s j.val : EReal)) k = (w k : EReal) := by
  obtain ⟨r, hr⟩ := fold_max_real hn fun k : Fin n => s k.val
  have hm : max (⊥ : EReal) ((Finset.univ : Finset (Fin n)).fold max ⊥ fun k => (s k.val : EReal)) = (r : EReal) := by
    rw [hr]; exact max_eq_right bot_le
  have hpos : 0 < ∑ j : Fin n, Real.exp (s j.val - r) :=
    Finset.sum_pos (fun j _ => Real.exp_pos _) ⟨⟨0, hn⟩, Finset.mem_univ _⟩
  refine ⟨fun k => (∑ j : Fin n, Real.exp (s j.val - r))⁻¹ * Real.exp (s k.val - r), fun k => ?_⟩
  unfold weight
  rw [hm, exp_sub, show (∑ j : Fin n, Ideal.exp ((s j.val : EReal) - (r : EReal)))
      = ((∑ j : Fin n, Real.exp (s j.val - r) : ℝ) : EReal) from by
        rw [coe_sum]; exact Finset.sum_congr rfl fun j _ => exp_sub _ _,
    div_coe _ _ hpos.ne', EReal.coe_mul]

/-- The difference of two weighted sums of finite values, the second times a finite number, is the sum weighted by the difference. -/
theorem sum_sub_mul {n : ℕ} (v u w : Fin n → EReal) (c : EReal) (hv : ∀ k, ∃ x : ℝ, v k = (x : EReal))
    (hu : ∀ k, ∃ x : ℝ, u k = (x : EReal)) (hw : ∀ k, ∃ x : ℝ, w k = (x : EReal)) (hc : ∃ x : ℝ, c = (x : EReal)) :
    (∑ k, v k * u k) - c * (∑ k, v k * w k) = ∑ k, v k * (u k - c * w k) := by
  choose v' hv using hv
  choose u' hu using hu
  choose w' hw using hw
  obtain ⟨c', rfl⟩ := hc
  simp only [hv, hu, hw, ← EReal.coe_mul, ← EReal.coe_sub, ← coe_sum]
  rw [Finset.mul_sum, ← Finset.sum_sub_distrib]
  exact congrArg _ (Finset.sum_congr rfl fun k _ => by ring)

/-- The running sums divided are the mean with the weights taken at once. -/
theorem quotient (s : ℕ → ℝ) (v : ℕ → EReal) {n : ℕ} (hn : 0 < n) (st : EReal × EReal × EReal) (h : Holds s v n st) :
    Ideal.div st.2.2 st.2.1 = ∑ k : Fin n, v k.val * weight (fun j : Fin n => (s j.val : EReal)) k := by
  obtain ⟨q, -, h2, h3⟩ := h
  obtain ⟨r, hr⟩ := fold_max_real hn fun k : Fin n => s k.val
  have hm : max (⊥ : EReal) ((Finset.univ : Finset (Fin n)).fold max ⊥ fun k => (s k.val : EReal)) = (r : EReal) := by
    rw [hr]; exact max_eq_right bot_le
  have hne : (Finset.range n).Nonempty := Finset.nonempty_range_iff.mpr hn.ne'
  have hpos : ∀ u : ℝ, 0 < ∑ i ∈ Finset.range n, Real.exp (s i - u) := fun u =>
    Finset.sum_pos (fun i _ => Real.exp_pos _) hne
  have hw : ∀ k : Fin n, weight (fun j : Fin n => (s j.val : EReal)) k
      = (((∑ i ∈ Finset.range n, Real.exp (s i - r))⁻¹ * Real.exp (s k.val - r) : ℝ) : EReal) := fun k => by
    unfold weight
    rw [hm, exp_sub, show (∑ j : Fin n, Ideal.exp ((s j.val : EReal) - (r : EReal)))
        = ((∑ i ∈ Finset.range n, Real.exp (s i - r) : ℝ) : EReal) from by
          rw [coe_sum, Finset.sum_range]; exact Finset.sum_congr rfl fun j _ => exp_sub _ _,
      div_coe _ _ (hpos r).ne', EReal.coe_mul]
  have hscale : ∀ x : ℝ, Real.exp (x - q) = Real.exp (r - q) * Real.exp (x - r) := fun x => by
    rw [← Real.exp_add]; congr 1; ring
  have hsame : ∀ x : ℝ, (∑ i ∈ Finset.range n, Real.exp (s i - q))⁻¹ * Real.exp (x - q)
      = (∑ i ∈ Finset.range n, Real.exp (s i - r))⁻¹ * Real.exp (x - r) := fun x => by
    have hq : ∑ i ∈ Finset.range n, Real.exp (s i - q) = Real.exp (r - q) * ∑ i ∈ Finset.range n, Real.exp (s i - r) := by
      rw [Finset.mul_sum]; exact Finset.sum_congr rfl fun i _ => hscale _
    have h1 := (hpos r).ne'
    have h2 := (Real.exp_pos (r - q)).ne'
    rw [hq, hscale x]
    field_simp
  rw [h2, h3, div_coe _ _ (hpos q).ne', mul_sum_real _ _ (inv_nonneg.mpr (hpos q).le), Finset.sum_range]
  refine Finset.sum_congr rfl fun k _ => ?_
  rw [hw k, ← mul_assoc, ← EReal.coe_mul, hsame, mul_comm]

end Cert.Proof.OnlineSoftmax

end
-- ==== Proof.Rows.lean ====
/-
  The rows of a matrix of extended reals: the greatest entry and the sum of a row, a number per row as a column, and a column spread
  over the rows.
-/
module

public import proofs.«01_k».proof.Proof.Dense
public import Idealize.ShloMosaic.Lib.Pipeline.Value
public import Idealize.ShloMosaic.Lib.ValueLayout

@[expose] public section

noncomputable section

namespace Cert.Proof.Rows

open Idealize.ShloMosaic Idealize.ShloMosaic.ValueIdx Cert.Proof.Dense

/-- One number per row. -/
abbrev Col (m : ℕ) : Shape := ⟨1, ![m]⟩

/-- The literal the maxima start from. -/
theorem lowest : Ideal.ofBits .f32 0xFF800000#32 = ⊥ := by simp [Ideal.ofBits, Ideal.ieee]

/-- A number per row laid out as a column. -/
theorem column {α : Type} (m : ℕ) (v : (Col m).Idx → α) (h) (p : Fin m) (q : Fin 1) :
    shapeCast (Mat m 1) v h (ix2 p q) = v (ix1 p) := by
  refine shapeCast_apply v h _ _ ?_
  rw [Shape.rowMajor_val_one, Shape.rowMajor_val_two]
  show p.val = p.val * 1 + q.val
  have := q.isLt
  omega

/-- A column spread over `n` columns. -/
theorem spread {α : Type} (m n : ℕ) (v : (Mat m 1).Idx → α) (h) (p : Fin m) (q : Fin n) :
    broadcastTo (Mat m n) v h (ix2 p q) = v (ix2 p 0) := by
  refine broadcastTo_apply v h (ix2 p q) (ix2 p 0) fun a => ?_
  match a with
  | ⟨0, _⟩ =>
    show p.val = if m = 1 then 0 else p.val
    split
    · have := p.isLt; omega
    · rfl
  | ⟨1, _⟩ => rfl

/-- A row repeated in all rows. -/
theorem repeated {α : Type} (m n : ℕ) (hn : n ≠ 1) (v : (Mat 1 n).Idx → α) (h) (p : Fin m) (q : Fin n) :
    broadcastTo (Mat m n) v h (ix2 p q) = v (ix2 0 q) := by
  refine broadcastTo_apply v h (ix2 p q) (ix2 0 q) fun a => ?_
  match a with
  | ⟨0, _⟩ => exact (if_pos rfl).symm
  | ⟨1, _⟩ => exact (if_neg hn).symm

/-- A number repeated in all places. -/
theorem everywhere {α : Type} (m n : ℕ) (v : (Mat 1 1).Idx → α) (h) (p : Fin m) (q : Fin n) :
    broadcastTo (Mat m n) v h (ix2 p q) = v (ix2 0 0) := by
  refine broadcastTo_apply v h (ix2 p q) (ix2 0 0) fun a => ?_
  match a with
  | ⟨0, _⟩ => exact (if_pos rfl).symm
  | ⟨1, _⟩ => exact (if_pos rfl).symm

/-- The greatest entry of a row. -/
theorem greatest (m n : ℕ) (s : FVec Ideal (Mat m n) .f32) (h : (Mat m n).Reduces [1] (Col m)) (hφ) (ha) (p : Fin m) :
    multiReduction .maximumf [1] (Col m) s 0xFF800000#32 h hφ ha (ix1 p)
      = (Finset.univ : Finset (Fin n)).fold max (⊥ : EReal) fun k => s (ix2 p k) := by
  refine (Ideal.multiReduction_maximumf_single s _ h hφ ha (ix1 p)).trans ?_
  show (Finset.univ : Finset (Fin n)).fold max (Ideal.ofBits .f32 0xFF800000#32) _ = _
  rw [lowest]
  refine congrArg (fun g : Fin n → EReal => (Finset.univ : Finset (Fin n)).fold max ⊥ g) (funext fun k => congrArg s (funext fun a => ?_))
  match a with
  | ⟨0, _⟩ => rfl
  | ⟨1, _⟩ => rfl

/-- The sum of a row. -/
theorem summed (m n : ℕ) (s : FVec Ideal (Mat m n) .f32) (h : (Mat m n).Reduces [1] (Col m)) (hφ) (ha) (p : Fin m) :
    multiReduction .add [1] (Col m) s 0x00000000#32 h hφ ha (ix1 p) = ∑ k : Fin n, (s (ix2 p k) : EReal) := by
  refine (Ideal.multiReduction_add_single s _ h hφ ha (ix1 p)).trans (Finset.sum_congr rfl fun k _ => congrArg s (funext fun a => ?_))
  match a with
  | ⟨0, _⟩ => rfl
  | ⟨1, _⟩ => rfl

/-- The greatest entry along the last of four axes, on the host. -/
theorem host_greatest (a b c n : ℕ) {u : Shape} (S : FVec Ideal ⟨4, ![a, b, c, n]⟩ .f32) (init : FVec Ideal u .f32)
    (h' : (⟨4, ![a, b, c, n]⟩ : Shape).ReducesTo [3] ⟨3, ![a, b, c]⟩) (h : (⟨4, ![a, b, c, n]⟩ : Shape).Reduces [3] ⟨3, ![a, b, c]⟩)
    (hu : 0 < u.numel) (hi : init (Shape.Idx.first hu) = (⊥ : EReal)) (i : Fin a) (j : Fin b) (k : Fin c) :
    Host.reduce FloatOps.maximumf S init h' hu (ix3 i j k)
      = (Finset.univ : Finset (Fin n)).fold max (⊥ : EReal) fun l => S (ix4 i j k l) := by
  refine (Host.reduce_eq_fold_single (FloatOps.maximumf (F := Ideal) (φ := .f32)) S init h' h hu (ix3 i j k)).trans ?_
  rw [hi]
  refine congrArg (fun g : Fin n → EReal => (Finset.univ : Finset (Fin n)).fold max ⊥ g) (funext fun l => congrArg S (funext fun x => ?_))
  match x with
  | ⟨0, _⟩ => rfl
  | ⟨1, _⟩ => rfl
  | ⟨2, _⟩ => rfl
  | ⟨3, _⟩ => rfl

/-- The sum along the last of four axes, on the host. -/
theorem host_summed (a b c n : ℕ) (S : FVec Ideal ⟨4, ![a, b, c, n]⟩ .f32) (init : EReal)
    (h' : (⟨4, ![a, b, c, n]⟩ : Shape).ReducesTo [3] ⟨3, ![a, b, c]⟩) (h : (⟨4, ![a, b, c, n]⟩ : Shape).Reduces [3] ⟨3, ![a, b, c]⟩)
    (hi : init = 0) (i : Fin a) (j : Fin b) (k : Fin c) :
    Ideal.hostReduceAdd h' S init (ix3 i j k) = ∑ l : Fin n, (S (ix4 i j k l) : EReal) := by
  rw [Ideal.hostReduceAdd_single h' h S init (ix3 i j k), hi, zero_add]
  refine Finset.sum_congr rfl fun l _ => congrArg S (funext fun x => ?_)
  match x with
  | ⟨0, _⟩ => rfl
  | ⟨1, _⟩ => rfl
  | ⟨2, _⟩ => rfl
  | ⟨3, _⟩ => rfl

end Cert.Proof.Rows

end
-- ==== Proof.Mla.lean ====
/-
  The call that does the latent attention: what each grid point writes, and the result array after the run.
-/
module

public import proofs.«01_k».proof.Proof.Gen.Kernel10Ideal.Frame
public import proofs.«01_k».proof.Proof.Gen.Kernel10Ideal.Value
public import proofs.«01_k».proof.Proof.Dense
public import proofs.«01_k».proof.Proof.OnlineSoftmax
public import proofs.«01_k».proof.Proof.Rows
public import Idealize.ShloMosaic.Lib.Pipeline.Value
public import Idealize.ShloMosaic.Lib.Pipeline.ValueKit.Geometry
public import Idealize.ShloMosaic.Lib.Pipeline.ValueKit.Acc

@[expose] public section

noncomputable section

namespace Cert.Proof.Mla

open Idealize.ShloMosaic Idealize.ShloMosaic.TcCoe Idealize.SL.Sem
open Cert.Kernel10Ideal Cert.Kernel10Ideal.Gen Idealize.ShloMosaic.ValueIdx

variable {F : FTy → Type} [FloatOps F]
variable (m : (ℓ : Loc nD τ sig) → Buf (Elt F) ℓ)

/-! ## One block of keys, as the kernel takes it -/

/-- The scores of a block of keys. -/
def scores (q k : Vec F S1024x256 .bf16) : FVec F S1024x1024 .f32 :=
  matmul dot_S1024x256_S1024x256_S1024x1024_1_1_0_0_n_n none q k (constant S1024x1024 .f32 0x00000000#32)

/-- The running maximum of each row. -/
def top (M : FVec F S1024x1 .f32) (s : FVec F S1024x1024 .f32) : FVec F S1024x1 .f32 :=
  maximumf M (shapeCast S1024x1 (multiReduction .maximumf [1] S1024 s 0xFF800000#32 reduces_S1024x1024_S1024 (.inl rfl) rfl)
    shapeCasts_S1024_S1024x1)

/-- What the numbers so far shrink by. -/
def decay (M : FVec F S1024x1 .f32) (s : FVec F S1024x1024 .f32) : FVec F S1024x1 .f32 := exp (subf M (top M s))

/-- The weights of the block. -/
def weights (M : FVec F S1024x1 .f32) (s : FVec F S1024x1024 .f32) : FVec F S1024x1024 .f32 :=
  exp (subf s (broadcastTo S1024x1024 (top M s) broadcasts_S1024x1_S1024x1024))

/-- The running sum of the weights. -/
def total (M L : FVec F S1024x1 .f32) (s : FVec F S1024x1024 .f32) : FVec F S1024x1 .f32 :=
  addf (mulf (decay M s) L) (shapeCast S1024x1
    (multiReduction .add [1] S1024 (weights M s) 0x00000000#32 reduces_S1024x1024_S1024 (.inl rfl) rfl) shapeCasts_S1024_S1024x1)

/-- The running sum of the weighted values. -/
def mixed (M : FVec F S1024x1 .f32) (A : FVec F S1024x128 .f32) (s : FVec F S1024x1024 .f32) (v : Vec F S1024x128 .bf16) :
    FVec F S1024x128 .f32 :=
  addf (mulf (broadcastTo S1024x128 (decay M s) broadcasts_S1024x1_S1024x128) A)
    (matmul dot_S1024x1024_S1024x128_S1024x128_1_0_0_1_n_n none (truncf .bf16 (weights M s) bitsLt_bf16_f32) v
      (constant S1024x128 .f32 0x00000000#32))

/-- What runs along the blocks. -/
abbrev State (F : FTy → Type) : Type := FVec F S1024x1 .f32 × FVec F S1024x1 .f32 × FVec F S1024x128 .f32

def start : State F :=
  (broadcast S1024x1 (Scalar.ofBits .f32 0xFF800000#32), broadcast S1024x1 (Scalar.ofBits .f32 0x00000000#32),
    broadcast S1024x128 (Scalar.ofBits .f32 0x00000000#32))

def advance (st : State F) (s : FVec F S1024x1024 .f32) (v : Vec F S1024x128 .bf16) : State F :=
  (top st.1 s, total st.1 st.2.1 s, mixed st.1 st.2.2 s v)

def next (st : State F) (q k : Vec F S1024x256 .bf16) (v : Vec F S1024x128 .bf16) : State F := advance st (scores q k) v

/-- The `c`-th block of 1024 rows of the keys, and of the values. -/
def keyRows (K : Vec F S4096x256 .bf16) : Fin 4 → Vec F S1024x256 .bf16
  | 0 => View.ld K (Rect.unit (s := S4096x256) ![0, 0] S1024x256.size inb_S4096x256_S1024x256_0_0)
  | 1 => View.ld K (Rect.unit (s := S4096x256) ![1024, 0] S1024x256.size inb_S4096x256_S1024x256_1024_0)
  | 2 => View.ld K (Rect.unit (s := S4096x256) ![2048, 0] S1024x256.size inb_S4096x256_S1024x256_2048_0)
  | 3 => View.ld K (Rect.unit (s := S4096x256) ![3072, 0] S1024x256.size inb_S4096x256_S1024x256_3072_0)

def valueRows (X : Vec F S4096x128 .bf16) : Fin 4 → Vec F S1024x128 .bf16
  | 0 => View.ld X (Rect.unit (s := S4096x128) ![0, 0] S1024x128.size inb_S4096x128_S1024x128_0_0)
  | 1 => View.ld X (Rect.unit (s := S4096x128) ![1024, 0] S1024x128.size inb_S4096x128_S1024x128_1024_0)
  | 2 => View.ld X (Rect.unit (s := S4096x128) ![2048, 0] S1024x128.size inb_S4096x128_S1024x128_2048_0)
  | 3 => View.ld X (Rect.unit (s := S4096x128) ![3072, 0] S1024x128.size inb_S4096x128_S1024x128_3072_0)

/-- The state after the four blocks. -/
def four (q : Vec F S1024x256 .bf16) (K : Vec F S4096x256 .bf16) (X : Vec F S4096x128 .bf16) : State F :=
  next (next (next (next start q (keyRows K 0) (valueRows X 0)) q (keyRows K 1) (valueRows X 1)) q (keyRows K 2) (valueRows X 2))
    q (keyRows K 3) (valueRows X 3)

/-- The block of the result: the weighted sum over the sum of the weights. -/
def attended (q : Vec F S1024x256 .bf16) (K : Vec F S4096x256 .bf16) (X : Vec F S4096x128 .bf16) : FVec F S1024x128 .bf16 :=
  truncf .bf16 (divf (four q K X).2.2 (broadcastTo S1024x128 (four q K X).2.1 broadcasts_S1024x1_S1024x128)) bitsLt_bf16_f32

/-- The two stores that lay the keys of a head side by side: its own part, then the part shared by the heads. -/
abbrev halves (x1 x2 : Vec F S4096x128 .bf16) : List (View.Piece (Elt F) S4096x256 .bf16) :=
  [⟨Rect.unit (s := S4096x256) ![0, 128] S4096x128.size inb_S4096x256_S4096x128_0_128, k0_pay3 x2⟩,
    ⟨Rect.unit (s := S4096x256) ![0, 0] S4096x128.size inb_S4096x256_S4096x128_0_0, k0_pay2 x1⟩]

/-- The keys of a head. -/
def keys (x1 x2 : Vec F S4096x128 .bf16) : Vec F S4096x256 .bf16 := View.canon (halves x1 x2)

/-! ## One grid point -/

/-- A load of what was stored reads the stored pieces at the load's rectangle. -/
theorem covered {S : Shape} {e : EltTy} (w : View sig .tc .vmem S e) (L : List (View.Piece (Elt F) S e)) (r : Rect S) :
    w.readCov L r.toLoadRect = View.ld (View.canon L) r :=
  View.readCov_eq_canon' w L r.toLoadRect

section Cases
variable (c : Dev nD) (i : grid0.Coords) (a3 : Memref sig .tc .vmem S1024x256 .bf16) (h3 : a3.IsWhole)
  (a4 : Memref sig .tc .vmem S4096x128 .bf16) (h4 : a4.IsWhole) (a5 : Memref sig .tc .vmem S4096x128 .bf16) (h5 : a5.IsWhole)
  (a6 : Memref sig .tc .vmem S4096x128 .bf16) (h6 : a6.IsWhole) (a7 : Memref sig .tc .vmem S1024x128 .bf16) (h7 : a7.IsWhole)
  (a8 : Memref sig .tc .vmem S4096x256 .bf16) (h8 : a8.IsWhole)
  (x0 : Vec F S1024x256 .bf16) (x1 x2 x3 : Vec F S4096x128 .bf16) (xs : Vec F S4096x256 .bf16)

theorem later_out (hc : ¬cond0_0 i) :
    out0_B_4 c i a3 h3 a4 h4 a5 h5 a6 h6 a7 h7 a8 h8 hc x0 x1 x2 x3 xs = attended x0 xs x3 := by
  frame_out
  rfl

theorem first_out (hc : cond0_0 i) :
    out0_A_4 c i a3 h3 a4 h4 a5 h5 a6 h6 a7 h7 a8 h8 hc x0 x1 x2 x3 = attended x0 (keys x1 x2) x3 := by
  frame_out [covered]
  change _ = attended x0 (keys x1 x2) x3
  unfold keys
  generalize View.canon (halves x1 x2) = K
  rfl

theorem first_keys (hc : cond0_0 i) :
    sout0_A_0 c i a3 h3 a4 h4 a5 h5 a6 h6 a7 h7 a8 h8 hc x0 x1 x2 x3 = keys x1 x2 := by
  frame_out

end Cases

/-! ## One row, over the reals -/

theorem scores_apply (q k : Vec Ideal S1024x256 .bf16) (p j : Fin 1024) :
    scores q k (ix2 p j) = ∑ e : Fin 256, (q (ix2 p e) * k (ix2 j e) : EReal) :=
  Dense.product_transposed 1024 256 1024 q k (ix2 p j)

theorem top_apply (M : FVec Ideal S1024x1 .f32) (s : FVec Ideal S1024x1024 .f32) (p : Fin 1024) :
    top M s (ix2 p 0) = max (M (ix2 p 0)) ((Finset.univ : Finset (Fin 1024)).fold max (⊥ : EReal) fun k => s (ix2 p k)) := by
  refine congrArg (fun x : EReal => max (M (ix2 p 0)) x) ?_
  exact (Rows.column 1024 _ _ p 0).trans (Rows.greatest 1024 1024 s _ _ _ p)

theorem decay_apply (M : FVec Ideal S1024x1 .f32) (s : FVec Ideal S1024x1024 .f32) (p : Fin 1024) :
    decay M s (ix2 p 0) = Ideal.exp (M (ix2 p 0)
      - max (M (ix2 p 0)) ((Finset.univ : Finset (Fin 1024)).fold max (⊥ : EReal) fun k => s (ix2 p k))) :=
  congrArg (fun x : EReal => Ideal.exp (M (ix2 p 0) - x)) (top_apply M s p)

theorem weights_apply (M : FVec Ideal S1024x1 .f32) (s : FVec Ideal S1024x1024 .f32) (p j : Fin 1024) :
    weights M s (ix2 p j) = Ideal.exp (s (ix2 p j)
      - max (M (ix2 p 0)) ((Finset.univ : Finset (Fin 1024)).fold max (⊥ : EReal) fun k => s (ix2 p k))) :=
  congrArg (fun x : EReal => Ideal.exp (s (ix2 p j) - x)) ((Rows.spread 1024 1024 _ _ p j).trans (top_apply M s p))

/-- A row of the state, with the entry of one column. -/
def row (st : State Ideal) (p : Fin 1024) (d : Fin 128) : EReal × EReal × EReal :=
  (st.1 (ix2 p 0), st.2.1 (ix2 p 0), st.2.2 (ix2 p d))

theorem row_start (p : Fin 1024) (d : Fin 128) : row start p d = (⊥, 0, 0) := by
  show (Ideal.ofBits .f32 0xFF800000#32, Ideal.ofBits .f32 0x00000000#32, Ideal.ofBits .f32 0x00000000#32) = _
  rw [Rows.lowest, Ideal.ofBits_zero_f32]

theorem row_advance (st : State Ideal) (s : FVec Ideal S1024x1024 .f32) (v : Vec Ideal S1024x128 .bf16) (p : Fin 1024) (d : Fin 128) :
    row (advance st s v) p d
      = OnlineSoftmax.step (row st p d) (fun j : Fin 1024 => s (ix2 p j)) (fun j : Fin 1024 => v (ix2 j d)) := by
  refine congrArg₂ Prod.mk (top_apply _ _ p) (congrArg₂ Prod.mk ?_ ?_)
  · refine congrArg₂ (fun a b : EReal => a + b) ?_ ?_
    · exact congrArg (fun a : EReal => a * st.2.1 (ix2 p 0)) (decay_apply _ _ p)
    · refine (Rows.column 1024 _ _ p 0).trans ((Rows.summed 1024 1024 _ _ _ _ p).trans (Finset.sum_congr rfl fun j _ => ?_))
      exact weights_apply _ _ p j
  · refine congrArg₂ (fun a b : EReal => a + b) ?_ ?_
    · exact congrArg (fun a : EReal => a * st.2.2 (ix2 p d)) ((Rows.spread 1024 128 _ _ p d).trans (decay_apply _ _ p))
    · refine (Dense.product 1024 1024 128 _ v (ix2 p d)).trans (Finset.sum_congr rfl fun j _ => ?_)
      exact congrArg (fun a : EReal => a * v (ix2 j d)) (weights_apply _ _ p j)

theorem row_next (st : State Ideal) (q k : Vec Ideal S1024x256 .bf16) (v : Vec Ideal S1024x128 .bf16) (p : Fin 1024) (d : Fin 128) :
    row (next st q k v) p d
      = OnlineSoftmax.step (row st p d) (fun j : Fin 1024 => scores q k (ix2 p j)) (fun j : Fin 1024 => v (ix2 j d)) :=
  row_advance st (scores q k) v p d

theorem attended_apply (q : Vec Ideal S1024x256 .bf16) (K : Vec Ideal S4096x256 .bf16) (X : Vec Ideal S4096x128 .bf16)
    (p : Fin 1024) (d : Fin 128) :
    attended q K X (ix2 p d) = Ideal.div (row (four q K X) p d).2.2 (row (four q K X) p d).2.1 := by
  unfold attended
  generalize four q K X = st
  exact congrArg (fun x : EReal => Ideal.div (st.2.2 (ix2 p d)) x) (Rows.spread 1024 128 _ _ p d)

theorem ld_keyRows (K : Vec Ideal S4096x256 .bf16) (o : ℕ) (h) (j : Fin 1024) (e : Fin 256) (z : S4096x256.Idx)
    (h0 : (z 0).val = o + j.val) (h1 : (z 1).val = e.val) :
    View.ld K (Rect.unit (s := S4096x256) ![o, 0] S1024x256.size h) (ix2 j e) = K z := by
  refine congrArg K (funext fun a => Fin.ext ?_)
  match a with
  | ⟨0, _⟩ => show o + 1 * j.val = (z 0).val; omega
  | ⟨1, _⟩ => show 0 + 1 * e.val = (z 1).val; omega

theorem keyRows_apply (K : Vec Ideal S4096x256 .bf16) (c : Fin 4) (j : Fin 1024) (e : Fin 256) (z : S4096x256.Idx)
    (h0 : (z 0).val = c.val * 1024 + j.val) (h1 : (z 1).val = e.val) : keyRows K c (ix2 j e) = K z := by
  obtain ⟨c, hc⟩ := c
  have h0 : (z 0).val = c * 1024 + j.val := h0
  obtain rfl | rfl | rfl | rfl : c = 0 ∨ c = 1 ∨ c = 2 ∨ c = 3 := by omega
  · exact ld_keyRows K 0 inb_S4096x256_S1024x256_0_0 j e z (by omega) h1
  · exact ld_keyRows K 1024 inb_S4096x256_S1024x256_1024_0 j e z (by omega) h1
  · exact ld_keyRows K 2048 inb_S4096x256_S1024x256_2048_0 j e z (by omega) h1
  · exact ld_keyRows K 3072 inb_S4096x256_S1024x256_3072_0 j e z (by omega) h1

theorem ld_valueRows (X : Vec Ideal S4096x128 .bf16) (o : ℕ) (h) (j : Fin 1024) (e : Fin 128) (z : S4096x128.Idx)
    (h0 : (z 0).val = o + j.val) (h1 : (z 1).val = e.val) :
    View.ld X (Rect.unit (s := S4096x128) ![o, 0] S1024x128.size h) (ix2 j e) = X z := by
  refine congrArg X (funext fun a => Fin.ext ?_)
  match a with
  | ⟨0, _⟩ => show o + 1 * j.val = (z 0).val; omega
  | ⟨1, _⟩ => show 0 + 1 * e.val = (z 1).val; omega

theorem valueRows_apply (X : Vec Ideal S4096x128 .bf16) (c : Fin 4) (j : Fin 1024) (e : Fin 128) (z : S4096x128.Idx)
    (h0 : (z 0).val = c.val * 1024 + j.val) (h1 : (z 1).val = e.val) : valueRows X c (ix2 j e) = X z := by
  obtain ⟨c, hc⟩ := c
  have h0 : (z 0).val = c * 1024 + j.val := h0
  obtain rfl | rfl | rfl | rfl : c = 0 ∨ c = 1 ∨ c = 2 ∨ c = 3 := by omega
  · exact ld_valueRows X 0 inb_S4096x128_S1024x128_0_0 j e z (by omega) h1
  · exact ld_valueRows X 1024 inb_S4096x128_S1024x128_1024_0 j e z (by omega) h1
  · exact ld_valueRows X 2048 inb_S4096x128_S1024x128_2048_0 j e z (by omega) h1
  · exact ld_valueRows X 3072 inb_S4096x128_S1024x128_3072_0 j e z (by omega) h1

/-- A row of the result, the scores of the row being finite: the mean of the values with the weights taken at once. -/
theorem attended_row (q : Vec Ideal S1024x256 .bf16) (K : Vec Ideal S4096x256 .bf16) (X : Vec Ideal S4096x128 .bf16)
    (p : Fin 1024) (d : Fin 128) (s : ℕ → ℝ) (v : ℕ → EReal)
    (hs : ∀ j : Fin 4096, ∑ e : Fin 256, (q (ix2 p e) * K (ix2 j e) : EReal) = (s j.val : EReal))
    (hv : ∀ j : Fin 4096, X (ix2 j d) = v j.val) :
    attended q K X (ix2 p d) = ∑ j : Fin 4096, v j.val * OnlineSoftmax.weight (fun i : Fin 4096 => (s i.val : EReal)) j := by
  have es : ∀ c : Fin 4, (fun j : Fin 1024 => scores q (keyRows K c) (ix2 p j)) = fun j => (s (c.val * 1024 + j.val) : EReal) := fun c => by
    funext j
    have hlt : c.val * 1024 + j.val < 4096 := by have := c.isLt; have := j.isLt; omega
    refine (scores_apply _ _ p j).trans (Eq.trans (Finset.sum_congr rfl fun e _ => ?_) (hs ⟨_, hlt⟩))
    exact congrArg (fun x : EReal => q (ix2 p e) * x) (keyRows_apply K c j e (ix2 ⟨_, hlt⟩ e) rfl rfl)
  have ev : ∀ c : Fin 4, (fun j : Fin 1024 => valueRows X c (ix2 j d)) = fun j => v (c.val * 1024 + j.val) := fun c => by
    funext j
    have hlt : c.val * 1024 + j.val < 4096 := by have := c.isLt; have := j.isLt; omega
    exact (valueRows_apply X c j d (ix2 ⟨_, hlt⟩ d) rfl rfl).trans (hv ⟨_, hlt⟩)
  have h4 : OnlineSoftmax.Holds s v 4096 (row (four q K X) p d) := by
    unfold four
    rw [row_next, row_next, row_next, row_next, row_start, es 0, es 1, es 2, es 3, ev 0, ev 1, ev 2, ev 3]
    have h := OnlineSoftmax.holds_first s v (n := 1024) (by decide)
    have h := OnlineSoftmax.holds_next s v 1024 (n := 1024) (by decide) _ h
    have h := OnlineSoftmax.holds_next s v 2048 (n := 1024) (by decide) _ h
    have h := OnlineSoftmax.holds_next s v 3072 (n := 1024) (by decide) _ h
    have e0 : ∀ k : ℕ, ((0 : Fin 4).val * 1024 + k) = k := fun k => by show 0 * 1024 + k = k; omega
    simp only [e0]
    exact h
  rw [attended_apply]
  exact OnlineSoftmax.quotient s v (by decide) _ h4

end Cert.Proof.Mla
end
-- ==== Proof.MlaRun.lean ====
/-
  The latent attention's call over the whole arrays: what each grid point finds and writes, and the result array after the run,
  where the queries and the keys are finite.
-/
module

public import proofs.«01_k».proof.Proof.Mla

@[expose] public section

noncomputable section

namespace Cert.Proof.Mla

open Idealize.ShloMosaic Idealize.ShloMosaic.TcCoe Idealize.SL.Sem
open Cert.Kernel10Ideal Cert.Kernel10Ideal.Gen Idealize.ShloMosaic.ValueIdx

section Points
variable {F : FTy → Type} [FloatOps F]
variable (m : (ℓ : Loc nD τ sig) → Buf (Elt F) ℓ)

/-- The point `t` is at batch `t / 32`, head `t / 4 % 8` and block of rows `t % 4`. -/
theorem point0 (t : Fin grid0.N) : (grid0.coords t 0).val = t.val / 32 := by
  have ht : t.val < 64 := Nat.lt_of_lt_of_eq t.isLt N_0
  rw [show (grid0.coords t 0).val = t.val / 32 % 2 from Pipeline.Grid.coords_val t 0 (by decide) rfl]
  omega

theorem point1 (t : Fin grid0.N) : (grid0.coords t 1).val = t.val / 4 % 8 :=
  Pipeline.Grid.coords_val t 1 (by decide) rfl

theorem point2 (t : Fin grid0.N) : (grid0.coords t 2).val = t.val % 4 := by
  rw [show (grid0.coords t 2).val = t.val / 1 % 4 from Pipeline.Grid.coords_val t 2 (by decide) rfl]
  omega

/-- The row block's number, computed in 32 bits. -/
theorem rowBlock (t : Fin grid0.N) :
    (IntOp.addi (IntOp.muli (BitVec.ofNat 32 (grid0.coords t 0).val) 4#32) (BitVec.ofNat 32 (grid0.coords t 2).val)).toNat
      = t.val / 32 * 4 + t.val % 4 := by
  have ht : t.val < 64 := Nat.lt_of_lt_of_eq t.isLt N_0
  rw [point0, point2]
  show (BitVec.ofNat 32 (t.val / 32) * 4#32 + BitVec.ofNat 32 (t.val % 4)).toNat = _
  rw [BitVec.toNat_add, BitVec.toNat_mul, BitVec.toNat_ofNat, BitVec.toNat_ofNat, BitVec.toNat_ofNat]
  omega

theorem headBlock (t : Fin grid0.N) : (BitVec.ofNat 32 (grid0.coords t 1).val).toNat = t.val / 4 % 8 := by
  rw [point1, BitVec.toNat_ofNat]
  omega

theorem batchBlock (t : Fin grid0.N) : (BitVec.ofNat 32 (grid0.coords t 0).val).toNat = t.val / 32 := by
  have ht : t.val < 64 := Nat.lt_of_lt_of_eq t.isLt N_0
  rw [point0, BitVec.toNat_ofNat]
  omega

/-- The queries' block at an entry. -/
theorem queries_apply (c : Dev nD) (t : Fin cfg0.N) (y : S1024x256.Idx) (z : S8192x2048.Idx)
    (hz0 : (z 0).val = (t.val / 32 * 4 + t.val % 4) * 1024 + (y 0).val) (hz1 : (z 1).val = t.val / 4 % 8 * 256 + (y 1).val) :
    iblk m c 0 t y = m ((c : Thread nD τ).loc main_arg0) z := by
  show m ((c : Thread nD τ).loc main_arg0) (((cfg0.win 0).blk t).view.emb y) = _
  refine congrArg _ (funext fun a => Fin.ext ?_)
  have h0 := rowBlock t
  have h1 := headBlock t
  match a with
  | ⟨0, _⟩ =>
    show (IntOp.addi (IntOp.muli (BitVec.ofNat 32 (grid0.coords t 0).val) 4#32) (BitVec.ofNat 32 (grid0.coords t 2).val)).toNat
      * 1024 + 1 * (y 0).val = (z 0).val
    omega
  | ⟨1, _⟩ =>
    show (BitVec.ofNat 32 (grid0.coords t 1).val).toNat * 256 + 1 * (y 1).val = (z 1).val
    omega

/-- The block of the keys' own part. -/
theorem own_apply (c : Dev nD) (t : Fin cfg0.N) (y : S4096x128.Idx) (z : S8192x1024.Idx)
    (hz0 : (z 0).val = t.val / 32 * 4096 + (y 0).val) (hz1 : (z 1).val = t.val / 4 % 8 * 128 + (y 1).val) :
    iblk m c 1 t y = m ((c : Thread nD τ).loc main_arg1) z := by
  show m ((c : Thread nD τ).loc main_arg1) (((cfg0.win 1).blk t).view.emb y) = _
  refine congrArg _ (funext fun a => Fin.ext ?_)
  have h0 := batchBlock t
  have h1 := headBlock t
  match a with
  | ⟨0, _⟩ =>
    show (BitVec.ofNat 32 (grid0.coords t 0).val).toNat * 4096 + 1 * (y 0).val = (z 0).val
    omega
  | ⟨1, _⟩ =>
    show (BitVec.ofNat 32 (grid0.coords t 1).val).toNat * 128 + 1 * (y 1).val = (z 1).val
    omega

/-- The block of the keys' part that the heads share. -/
theorem shared_apply (c : Dev nD) (t : Fin cfg0.N) (y : S4096x128.Idx) (z : S8192x128.Idx)
    (hz0 : (z 0).val = t.val / 32 * 4096 + (y 0).val) (hz1 : (z 1).val = (y 1).val) :
    iblk m c 2 t y = m ((c : Thread nD τ).loc main_arg2) z := by
  show m ((c : Thread nD τ).loc main_arg2) (((cfg0.win 2).blk t).view.emb y) = _
  refine congrArg _ (funext fun a => Fin.ext ?_)
  have h0 := batchBlock t
  match a with
  | ⟨0, _⟩ =>
    show (BitVec.ofNat 32 (grid0.coords t 0).val).toNat * 4096 + 1 * (y 0).val = (z 0).val
    omega
  | ⟨1, _⟩ =>
    show 0 * 128 + 1 * (y 1).val = (z 1).val
    omega

/-- The values' block. -/
theorem values_apply (c : Dev nD) (t : Fin cfg0.N) (y : S4096x128.Idx) (z : S8192x1024.Idx)
    (hz0 : (z 0).val = t.val / 32 * 4096 + (y 0).val) (hz1 : (z 1).val = t.val / 4 % 8 * 128 + (y 1).val) :
    iblk m c 3 t y = m ((c : Thread nD τ).loc main_arg3) z := by
  show m ((c : Thread nD τ).loc main_arg3) (((cfg0.win 3).blk t).view.emb y) = _
  refine congrArg _ (funext fun a => Fin.ext ?_)
  have h0 := batchBlock t
  have h1 := headBlock t
  match a with
  | ⟨0, _⟩ =>
    show (BitVec.ofNat 32 (grid0.coords t 0).val).toNat * 4096 + 1 * (y 0).val = (z 0).val
    omega
  | ⟨1, _⟩ =>
    show (BitVec.ofNat 32 (grid0.coords t 1).val).toNat * 128 + 1 * (y 1).val = (z 1).val
    omega

/-- At the first block of rows of a head: its keys are laid out and kept, and attended. -/
theorem at_first (c : Dev nD) (t : Fin cfg0.N) (h0 : t.val % 4 = 0) :
    outsAt0 m c t.val t.isLt
      = (attended (iblk m c 0 t) (keys (iblk m c 1 t) (iblk m c 2 t)) (iblk m c 3 t), keys (iblk m c 1 t) (iblk m c 2 t)) :=
  (outsAt0_A m c t h0).trans (congrArg₂ Prod.mk
    (first_out c (grid0.coords t) (ms0_0 t) (hs0_0 t) (ms0_1 t) (hs0_1 t) (ms0_2 t) (hs0_2 t) (ms0_3 t) (hs0_3 t) (ms0_4 t) (hs0_4 t)
      scM0_0 (Memref.isWhole_whole _) (iblk m c 0 t) (iblk m c 1 t) (iblk m c 2 t) (iblk m c 3 t) ((hcond0_0 t).mpr h0))
    (first_keys c (grid0.coords t) (ms0_0 t) (hs0_0 t) (ms0_1 t) (hs0_1 t) (ms0_2 t) (hs0_2 t) (ms0_3 t) (hs0_3 t) (ms0_4 t) (hs0_4 t)
      scM0_0 (Memref.isWhole_whole _) (iblk m c 0 t) (iblk m c 1 t) (iblk m c 2 t) (iblk m c 3 t) ((hcond0_0 t).mpr h0)))

/-- The keys kept before point `t`. -/
abbrev before (c : Dev nD) (t : Fin cfg0.N) : Vec F S4096x256 .bf16 :=
  (outsAt0 m c (t.val - 1) (Nat.lt_of_le_of_lt (Nat.sub_le _ _) t.isLt)).2

/-- At a later block of rows the kept keys stay and are attended. -/
theorem at_later (c : Dev nD) (t : Fin cfg0.N) (h0 : ¬t.val % 4 = 0) :
    outsAt0 m c t.val t.isLt = (attended (iblk m c 0 t) (before m c t) (iblk m c 3 t), before m c t) :=
  (outsAt0_B m c t h0).trans (congrArg₂ Prod.mk
    (later_out c (grid0.coords t) (ms0_0 t) (hs0_0 t) (ms0_1 t) (hs0_1 t) (ms0_2 t) (hs0_2 t) (ms0_3 t) (hs0_3 t) (ms0_4 t) (hs0_4 t)
      scM0_0 (Memref.isWhole_whole _) (iblk m c 0 t) (iblk m c 1 t) (iblk m c 2 t) (iblk m c 3 t) (before m c t)
      (fun h => h0 ((hcond0_0 t).mp h)))
    rfl)

theorem out_eq (c : Dev nD) (t : Fin cfg0.N) :
    (outsAt0 m c t.val t.isLt).1 = attended (iblk m c 0 t) (outsAt0 m c t.val t.isLt).2 (iblk m c 3 t) := by
  by_cases h0 : t.val % 4 = 0
  · rw [at_first m c t h0]
  · rw [at_later m c t h0]

end Points

/-! ## Over the reals -/

/-- An array's entry by its two numbers, 0 outside it. -/
def entry {a b : ℕ} (v : (⟨2, ![a, b]⟩ : Shape).Idx → EReal) (i j : ℕ) : EReal :=
  if h : i < a ∧ j < b then v (ix2 ⟨i, h.1⟩ ⟨j, h.2⟩) else 0

theorem entry_of {a b : ℕ} (v : (⟨2, ![a, b]⟩ : Shape).Idx → EReal) (i j : ℕ) (hi : i < a) (hj : j < b) :
    entry v i j = v (ix2 ⟨i, hi⟩ ⟨j, hj⟩) := dif_pos ⟨hi, hj⟩

/-- The key `i` of head `h` at `e`: the head's own 128 numbers, then the 128 of all heads. -/
def key (kn : FVec Ideal S8192x1024 .bf16) (kr : FVec Ideal S8192x128 .bf16) (i h e : ℕ) : EReal :=
  if e < 128 then entry kn i (h * 128 + e) else entry kr i (e - 128)

theorem key_low (kn : FVec Ideal S8192x1024 .bf16) (kr : FVec Ideal S8192x128 .bf16) (i h e : ℕ) (he : e < 128) (hi : i < 8192)
    (hh : h * 128 + e < 1024) : ∃ z : S8192x1024.Idx, (z 0).val = i ∧ (z 1).val = h * 128 + e ∧ kn z = key kn kr i h e := by
  refine ⟨ix2 ⟨i, hi⟩ ⟨h * 128 + e, hh⟩, rfl, rfl, ?_⟩
  unfold key
  rw [if_pos he]
  exact (entry_of kn i _ hi hh).symm

theorem key_high (kn : FVec Ideal S8192x1024 .bf16) (kr : FVec Ideal S8192x128 .bf16) (i h e : ℕ) (he : e < 128) (hi : i < 8192) :
    ∃ z : S8192x128.Idx, (z 0).val = i ∧ (z 1).val = e ∧ kr z = key kn kr i h (128 + e) := by
  refine ⟨ix2 ⟨i, hi⟩ ⟨e, he⟩, rfl, rfl, ?_⟩
  unfold key
  rw [if_neg (by omega), show 128 + e - 128 = e by omega]
  exact (entry_of kr i e hi he).symm

/-- The score of row `r` and key `j` of the row's batch, in head `h`. -/
def score (q : FVec Ideal S8192x2048 .bf16) (kn : FVec Ideal S8192x1024 .bf16) (kr : FVec Ideal S8192x128 .bf16) (r h j : ℕ) : EReal :=
  ∑ e : Fin 256, entry q r (h * 256 + e.val) * key kn kr (r / 4096 * 4096 + j) h e.val

/-- The attention: for row `r` and column `d`, the values of the row's batch weighted by the softmax of the scores. -/
def G (q : FVec Ideal S8192x2048 .bf16) (kn : FVec Ideal S8192x1024 .bf16) (kr : FVec Ideal S8192x128 .bf16)
    (v : FVec Ideal S8192x1024 .bf16) : FVec Ideal S8192x1024 .bf16 := fun z =>
  ∑ j : Fin 4096, entry v ((z 0).val / 4096 * 4096 + j.val) (z 1).val
    * OnlineSoftmax.weight (fun i : Fin 4096 => score q kn kr (z 0).val ((z 1).val / 128) i.val) j

/-- All entries are finite. -/
def Real {s : Shape} (v : s.Idx → EReal) : Prop := ∀ z, ∃ x : ℝ, v z = (x : EReal)

theorem entry_real {a b : ℕ} (v : (⟨2, ![a, b]⟩ : Shape).Idx → EReal) (h : Real v) (i j : ℕ) : ∃ x : ℝ, entry v i j = (x : EReal) := by
  unfold entry
  split
  · exact h _
  · exact ⟨0, rfl⟩

theorem key_real (kn : FVec Ideal S8192x1024 .bf16) (kr : FVec Ideal S8192x128 .bf16) (hn : Real (s := S8192x1024) kn)
    (hr : Real (s := S8192x128) kr) (i h e : ℕ) : ∃ x : ℝ, key kn kr i h e = (x : EReal) := by
  unfold key
  split
  · exact entry_real kn hn _ _
  · exact entry_real kr hr _ _

theorem score_real (q : FVec Ideal S8192x2048 .bf16) (kn : FVec Ideal S8192x1024 .bf16) (kr : FVec Ideal S8192x128 .bf16)
    (hq : Real (s := S8192x2048) q) (hn : Real (s := S8192x1024) kn) (hr : Real (s := S8192x128) kr) (r h : ℕ) :
    ∃ s : ℕ → ℝ, ∀ j, score q kn kr r h j = (s j : EReal) := by
  have hx := fun e : ℕ => entry_real q hq r (h * 256 + e)
  choose x hx using hx
  have hk := fun i e : ℕ => key_real kn kr hn hr i h e
  choose k hk using hk
  refine ⟨fun j => ∑ e : Fin 256, x e.val * k (r / 4096 * 4096 + j) e.val, fun j => ?_⟩
  unfold score
  rw [OnlineSoftmax.coe_sum]
  refine Finset.sum_congr rfl fun e _ => ?_
  rw [hx, hk, EReal.coe_mul]

/-- The kept keys at an entry, by what they are made of. -/
theorem keys_apply (x1 x2 : Vec Ideal S4096x128 .bf16) (y : S4096x256.Idx) (g : S4096x256.Idx → EReal)
    (h1 : ∀ x : S4096x128.Idx, x1 x = g (ix2 (x 0) ⟨(x 1).val, by have : (x 1).val < 128 := (x 1).isLt; omega⟩))
    (h2 : ∀ x : S4096x128.Idx, x2 x = g (ix2 (x 0) ⟨128 + (x 1).val, by have : (x 1).val < 128 := (x 1).isLt; omega⟩)) :
    keys x1 x2 y = g y := by
  unfold keys
  refine View.canon_apply_of_pieces g (halves x1 x2) ?_ y ?_
  · intro p hp x
    rcases List.mem_cons.mp hp with rfl | hp
    · show k0_pay3 x2 x = _
      unfold k0_pay3
      rw [shapeCast_self]
      refine (h2 x).trans (congrArg g (funext fun a => Fin.ext ?_))
      match a with
      | ⟨0, _⟩ => show (x 0).val = 0 + 1 * (x 0).val; omega
      | ⟨1, _⟩ => show 128 + (x 1).val = 128 + 1 * (x 1).val; omega
    · rcases List.mem_cons.mp hp with rfl | hp
      · show k0_pay2 x1 x = _
        unfold k0_pay2
        rw [shapeCast_self]
        refine (h1 x).trans (congrArg g (funext fun a => Fin.ext ?_))
        match a with
        | ⟨0, _⟩ => show (x 0).val = 0 + 1 * (x 0).val; omega
        | ⟨1, _⟩ => show (x 1).val = 0 + 1 * (x 1).val; omega
      · exact absurd hp List.not_mem_nil
  · have hy0 : (y 0).val < 4096 := (y 0).isLt
    have hy1 : (y 1).val < 256 := (y 1).isLt
    by_cases hlt : (y 1).val < 128
    · refine ⟨_, List.mem_cons_of_mem _ List.mem_cons_self, ?_⟩
      refine (Rect.mem_set_unit (inb := inb_S4096x256_S4096x128_0_0)).mpr fun a => ?_
      match a with
      | ⟨0, _⟩ => exact ⟨Nat.zero_le _, by show (y 0).val < 0 + 4096; omega⟩
      | ⟨1, _⟩ => exact ⟨Nat.zero_le _, by show (y 1).val < 0 + 128; omega⟩
    · refine ⟨_, List.mem_cons_self, ?_⟩
      refine (Rect.mem_set_unit (inb := inb_S4096x256_S4096x128_0_128)).mpr fun a => ?_
      match a with
      | ⟨0, _⟩ => exact ⟨Nat.zero_le _, by show (y 0).val < 0 + 4096; omega⟩
      | ⟨1, _⟩ => exact ⟨by show 128 ≤ (y 1).val; omega, by show (y 1).val < 128 + 128; omega⟩

section Values
variable (μ : (ℓ : Loc nD τ sig) → Buf (Elt Ideal) ℓ)

theorem row_lt (t : Fin cfg0.N) (i : ℕ) (hi : i < 4096) : t.val / 32 * 4096 + i < 8192 := by
  have ht : t.val < 64 := Nat.lt_of_lt_of_eq t.isLt N_0
  omega

theorem col_lt (t : Fin cfg0.N) (i : ℕ) (hi : i < 128) : t.val / 4 % 8 * 128 + i < 1024 := by
  omega

theorem own_key (c : Dev nD) (t : Fin cfg0.N) (x : S4096x128.Idx) : iblk μ c 1 t x = key (μ ((c : Thread nD τ).loc main_arg1)) (μ ((c : Thread nD τ).loc main_arg2))
      (t.val / 32 * 4096 + (x 0).val) (t.val / 4 % 8) (x 1).val := by
  have b0 := row_lt t (x 0).val (x 0).isLt
  have b1 := col_lt t (x 1).val (x 1).isLt
  obtain ⟨z, z0, z1, ez⟩ := key_low (μ ((c : Thread nD τ).loc main_arg1)) (μ ((c : Thread nD τ).loc main_arg2))
      (t.val / 32 * 4096 + (x 0).val) (t.val / 4 % 8) (x 1).val (x 1).isLt b0 b1
  exact (own_apply μ c t x z z0 z1).trans ez

theorem shared_key (c : Dev nD) (t : Fin cfg0.N) (x : S4096x128.Idx) : iblk μ c 2 t x = key (μ ((c : Thread nD τ).loc main_arg1)) (μ ((c : Thread nD τ).loc main_arg2))
      (t.val / 32 * 4096 + (x 0).val) (t.val / 4 % 8) (128 + (x 1).val) := by
  have b0 := row_lt t (x 0).val (x 0).isLt
  have b1 : (x 1).val < 128 := (x 1).isLt
  obtain ⟨z, z0, z1, ez⟩ := key_high (μ ((c : Thread nD τ).loc main_arg1)) (μ ((c : Thread nD τ).loc main_arg2))
      (t.val / 32 * 4096 + (x 0).val) (t.val / 4 % 8) (x 1).val b1 b0
  exact (shared_apply μ c t x z z0 z1).trans ez

theorem laid (c : Dev nD) (t : Fin cfg0.N) (y : S4096x256.Idx) :
    keys (F := Ideal) (iblk μ c 1 t) (iblk μ c 2 t) y = key (μ ((c : Thread nD τ).loc main_arg1)) (μ ((c : Thread nD τ).loc main_arg2))
      (t.val / 32 * 4096 + (y 0).val) (t.val / 4 % 8) (y 1).val :=
  keys_apply (iblk μ c 1 t) (iblk μ c 2 t) y (fun y => key (μ ((c : Thread nD τ).loc main_arg1))
    (μ ((c : Thread nD τ).loc main_arg2)) (t.val / 32 * 4096 + (y 0).val) (t.val / 4 % 8) (y 1).val)
    (fun x => own_key μ c t x) (fun x => shared_key μ c t x)

theorem second {α β : Type} {p : α × β} {a : α} {b : β} (h : p = (a, b)) : p.2 = b := by
  rw [h]

theorem kept_first (c : Dev nD) (t : Fin cfg0.N) (h0 : t.val % 4 = 0) :
    (outsAt0 μ c t.val t.isLt).2 = keys (F := Ideal) (iblk μ c 1 t) (iblk μ c 2 t) :=
  second (at_first μ c t h0)

theorem kept_later (c : Dev nD) (t : Fin cfg0.N) (h0 : ¬t.val % 4 = 0) :
    (outsAt0 μ c t.val t.isLt).2 = before μ c t :=
  second (at_later μ c t h0)

/-- The kept keys after point `n`: those of the point's batch and head. -/
theorem kept_apply (c : Dev nD) (y : S4096x256.Idx) : ∀ (n : ℕ) (hn : n < cfg0.N),
    (outsAt0 μ c n hn).2 y = key (μ ((c : Thread nD τ).loc main_arg1)) (μ ((c : Thread nD τ).loc main_arg2))
      (n / 32 * 4096 + (y 0).val) (n / 4 % 8) (y 1).val := by
  intro n
  induction n with
  | zero =>
    intro hn
    rw [kept_first μ c ⟨0, hn⟩ rfl]
    exact laid μ c ⟨0, hn⟩ y
  | succ n ih =>
    intro hn
    by_cases h0 : (n + 1) % 4 = 0
    · rw [kept_first μ c ⟨n + 1, hn⟩ h0]
      exact laid μ c ⟨n + 1, hn⟩ y
    · rw [kept_later μ c ⟨n + 1, hn⟩ h0, show (n + 1) / 32 = n / 32 by omega, show (n + 1) / 4 = n / 4 by omega]
      exact ih (Nat.lt_of_succ_lt hn)

variable (c : Dev nD) (hq : Real (s := S8192x2048) (μ ((c : Thread nD τ).loc main_arg0)))
  (hn : Real (s := S8192x1024) (μ ((c : Thread nD τ).loc main_arg1))) (hr : Real (s := S8192x128) (μ ((c : Thread nD τ).loc main_arg2)))
include hq hn hr

theorem written (t : Fin cfg0.N) (y : S1024x128.Idx) (z : S8192x1024.Idx)
    (h0 : (z 0).val = (t.val / 32 * 4 + t.val % 4) * 1024 + (y 0).val) (h1 : (z 1).val = t.val / 4 % 8 * 128 + (y 1).val) :
    (outsAt0 μ c t.val t.isLt).1 y = G (μ ((c : Thread nD τ).loc main_arg0)) (μ ((c : Thread nD τ).loc main_arg1))
      (μ ((c : Thread nD τ).loc main_arg2)) (μ ((c : Thread nD τ).loc main_arg3)) z := by
  have ht : t.val < 64 := Nat.lt_of_lt_of_eq t.isLt N_0
  obtain ⟨p, d, rfl⟩ : ∃ (p : Fin 1024) (d : Fin 128), y = ix2 p d := ⟨y 0, y 1, eq_ix2 y⟩
  have h0 : (z 0).val = (t.val / 32 * 4 + t.val % 4) * 1024 + p.val := h0
  have h1 : (z 1).val = t.val / 4 % 8 * 128 + d.val := h1
  have hp := p.isLt
  have hd := d.isLt
  have hb : (z 0).val / 4096 = t.val / 32 := by omega
  have hh : (z 1).val / 128 = t.val / 4 % 8 := by omega
  obtain ⟨s, hs⟩ := score_real _ _ _ hq hn hr (z 0).val ((z 1).val / 128)
  rw [out_eq]
  refine (attended_row _ _ _ p d s (fun j => entry (μ ((c : Thread nD τ).loc main_arg3)) ((z 0).val / 4096 * 4096 + j) (z 1).val)
    (fun j => ?_) (fun j => ?_)).trans ?_
  · refine Eq.trans (Finset.sum_congr rfl fun e _ => ?_) (hs j.val)
    have he := e.isLt
    refine congrArg₂ (fun a b : EReal => a * b) ?_ ?_
    · rw [entry_of _ _ _ (by omega) (by omega)]
      exact queries_apply μ c t (ix2 p e) _ h0 (by show (z 1).val / 128 * 256 + e.val = _; rw [hh])
    · rw [hb, hh]
      exact kept_apply μ c (ix2 j e) t.val t.isLt
  · have hj := j.isLt
    rw [entry_of _ _ _ (by omega) (by omega)]
    exact values_apply μ c t (ix2 j d) _ (by show (z 0).val / 4096 * 4096 + j.val = _; rw [hb]) h1
  · unfold G
    simp only [hs]

/-- The result array after the run. -/
theorem final :
    (dats μ 0 c).arrAt 4 cfg0.N = G (μ ((c : Thread nD τ).loc main_arg0)) (μ ((c : Thread nD τ).loc main_arg1))
      (μ ((c : Thread nD τ).loc main_arg2)) (μ ((c : Thread nD τ).loc main_arg3)) := by
  refine (dats μ 0 c).arrAt_eq_of_covers 4 _ ?_ fun t hf (y : S1024x128.Idx) => ?_
  · exact of_decide_eq_true (by sl_kernel_rfl)
  · refine (congrFun (after0_4 μ c t) y).trans (written μ c hq hn hr t y _ ?_ ?_)
    · show (IntOp.addi (IntOp.muli (BitVec.ofNat 32 (grid0.coords t 0).val) 4#32) (BitVec.ofNat 32 (grid0.coords t 2).val)).toNat
        * 1024 + 1 * (y 0).val = _
      rw [rowBlock]
      omega
    · show (BitVec.ofNat 32 (grid0.coords t 1).val).toNat * 128 + 1 * (y 1).val = _
      rw [headBlock]
      omega

end Values

/-- The run, the queries and keys being finite: the result array holds the attention, the arguments end unchanged. -/
theorem run (μ : (ℓ : Loc nD τ sig) → Buf (Elt Ideal) ℓ) (ρ : Dev nD → PrngReg)
    (hq : ∀ c : Dev nD, Real (s := S8192x2048) (μ ((c.tc : Thread nD τ).loc main_arg0)))
    (hn : ∀ c : Dev nD, Real (s := S8192x1024) (μ ((c.tc : Thread nD τ).loc main_arg1)))
    (hr : ∀ c : Dev nD, Real (s := S8192x128) (μ ((c.tc : Thread nD τ).loc main_arg2))) :
    θ_run (defs (F := Ideal)) (onTc (τ := τ) (main (F := Ideal))) ⟨μ, fun _ => 0, ρ⟩ (fun r => ∀ c : Dev nD,
      r.2.mem ((c.tc : Thread nD τ).loc main_v0)
        = G (μ ((c.tc : Thread nD τ).loc main_arg0)) (μ ((c.tc : Thread nD τ).loc main_arg1)) (μ ((c.tc : Thread nD τ).loc main_arg2))
          (μ ((c.tc : Thread nD τ).loc main_arg3))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)) :=
  (θ_run defs _ _).mono (fun r h c => ⟨(h c).1.trans (final μ c (hq c) (hn c) (hr c)), (h c).2⟩) (Cert.Kernel10Ideal.Value.run_blocks μ ρ)

end Cert.Proof.Mla

end
-- ==== Proof.MlaReference.lean ====
/-
  The reference of the latent attention, entry by entry what the kernel's call leaves.
-/
module

public import proofs.«01_k».proof.Proof.MlaRun
public import proofs.«01_k».proof.Proof.Gen.Reference10Ideal.Run
public import Idealize.ShloMosaic.Lib.IdealHost

@[expose] public section

noncomputable section

namespace Cert.Proof.Mla

open Idealize.ShloMosaic Idealize.ShloMosaic.TcCoe Idealize.SL.Sem
open Cert.Reference10Ideal Cert.Reference10Ideal.Gen Idealize.ShloMosaic.ValueIdx

/-! ## The two products -/

theorem scored (A B : FVec Ideal S2x4096x8x256 .f32) (b : Fin 2) (h : Fin 8) (i j : Fin 4096) :
    Host.dotGeneral dot_S2x4096x8x256_S2x4096x8x256_S2x8x4096x4096_3_3_1_1_02_02 none A B (ix4 b h i j)
      = ∑ e : Fin 256, (A (ix4 b i h e) * B (ix4 b j h e) : EReal) := by
  let D := dot_S2x4096x8x256_S2x4096x8x256_S2x8x4096x4096_3_3_1_1_02_02
  show FloatOps.dotGeneral D none _ A B (ix4 b h i j) = _
  rw [Ideal.dotGeneral_apply, ← Equiv.sum_comp (contrEquiv1 D 256 rfl rfl).symm]
  refine Finset.sum_congr rfl fun e _ => ?_
  have he := contrEquiv1_symm_val D 256 rfl rfl e
  have el : D.lhsIdx (ix4 b h i j) ((contrEquiv1 D 256 rfl rfl).symm e) = ix4 b i h e := by
    funext a; apply Fin.ext
    match a with
    | ⟨0, _⟩ => rfl
    | ⟨1, _⟩ => rfl
    | ⟨2, _⟩ => rfl
    | ⟨3, _⟩ => exact he
  have er : D.rhsIdx (ix4 b h i j) ((contrEquiv1 D 256 rfl rfl).symm e) = ix4 b j h e := by
    funext a; apply Fin.ext
    match a with
    | ⟨0, _⟩ => rfl
    | ⟨1, _⟩ => rfl
    | ⟨2, _⟩ => rfl
    | ⟨3, _⟩ => exact he
  rw [el, er]

theorem gathered (A : FVec Ideal S2x4096x8x128 .f32) (B : FVec Ideal S2x8x4096x4096 .f32) (b : Fin 2) (h : Fin 8) (d : Fin 128)
    (i : Fin 4096) :
    Host.dotGeneral dot_S2x4096x8x128_S2x8x4096x4096_S2x8x128x4096_1_3_3_2_02_01 none A B (ix4 b h d i)
      = ∑ j : Fin 4096, (A (ix4 b j h d) * B (ix4 b h i j) : EReal) := by
  let D := dot_S2x4096x8x128_S2x8x4096x4096_S2x8x128x4096_1_3_3_2_02_01
  show FloatOps.dotGeneral D none _ A B (ix4 b h d i) = _
  rw [Ideal.dotGeneral_apply, ← Equiv.sum_comp (contrEquiv1 D 4096 rfl rfl).symm]
  refine Finset.sum_congr rfl fun e _ => ?_
  have he := contrEquiv1_symm_val D 4096 rfl rfl e
  have el : D.lhsIdx (ix4 b h d i) ((contrEquiv1 D 4096 rfl rfl).symm e) = ix4 b e h d := by
    funext a; apply Fin.ext
    match a with
    | ⟨0, _⟩ => rfl
    | ⟨1, _⟩ => exact he
    | ⟨2, _⟩ => rfl
    | ⟨3, _⟩ => rfl
  have er : D.rhsIdx (ix4 b h d i) ((contrEquiv1 D 4096 rfl rfl).symm e) = ix4 b h i e := by
    funext a; apply Fin.ext
    match a with
    | ⟨0, _⟩ => rfl
    | ⟨1, _⟩ => rfl
    | ⟨2, _⟩ => rfl
    | ⟨3, _⟩ => exact he
  rw [el, er]

/-! ## The softmax of the scores -/

/-- A number per row of scores, laid over the row. -/
def over (v : FVec Ideal S2x8x4096 .f32) : FVec Ideal S2x8x4096x4096 .f32 :=
  broadcastInDim S2x8x4096x4096 ![0, 1, 2, 3] bcast_S2x8x4096x1_S2x8x4096x4096_0_1_2_3
    (broadcastInDim S2x8x4096x1 ![0, 1, 2] bcast_S2x8x4096_S2x8x4096x1_0_1_2 v)

theorem over_apply (v : FVec Ideal S2x8x4096 .f32) (b : Fin 2) (h : Fin 8) (i j : Fin 4096) :
    over v (ix4 b h i j) = v (ix3 b h i) := by
  refine (broadcastInDim_apply _ _ _ (ix4 b h i j) (ix4 b h i (0 : Fin 1)) fun a => ?_).trans
    (broadcastInDim_apply _ _ v (ix4 b h i (0 : Fin 1)) (ix3 b h i) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- The greatest score of each row. -/
def peaks (S : FVec Ideal S2x8x4096x4096 .f32) : FVec Ideal S2x8x4096 .f32 :=
  maximumf (broadcastInDim S2x8x4096 ![] bcast_S_S2x8x4096 (constant S_ .f32 0xFF800000#32))
    (Host.reduce FloatOps.maximumf S (constant S_ .f32 0xFF800000#32) reducesTo_S2x8x4096x4096_S2x8x4096_d3 h_S_)

/-- The powers of the scores less the greatest. -/
def powers (S : FVec Ideal S2x8x4096x4096 .f32) : FVec Ideal S2x8x4096x4096 .f32 := Host.exp (subf S (over (peaks S)))

/-- The shares of each row. -/
def shares (S : FVec Ideal S2x8x4096x4096 .f32) : FVec Ideal S2x8x4096x4096 .f32 :=
  Host.divf (powers S) (over (Host.reduceAdd (powers S) (constant S_ .f32 0x00000000#32) reducesTo_S2x8x4096x4096_S2x8x4096_d3 h_S_))

theorem reduces_last : S2x8x4096x4096.Reduces [3] S2x8x4096 := by decide

theorem greater {s : Shape} (u v : FVec Ideal s .f32) (z : s.Idx) : maximumf u v z = max (u z : EReal) (v z) := rfl

theorem lowest_at (z : S2x8x4096.Idx) :
    broadcastInDim S2x8x4096 ![] bcast_S_S2x8x4096 (constant (F := Ideal) S_ .f32 0xFF800000#32) z = (⊥ : EReal) := Rows.lowest

theorem lowest_first : constant (F := Ideal) S_ .f32 0xFF800000#32 (Shape.Idx.first h_S_) = (⊥ : EReal) := Rows.lowest

theorem peaks_apply (S : FVec Ideal S2x8x4096x4096 .f32) (b : Fin 2) (h : Fin 8) (i : Fin 4096) :
    peaks S (ix3 b h i) = max ⊥ ((Finset.univ : Finset (Fin 4096)).fold max (⊥ : EReal) fun j => S (ix4 b h i j)) := by
  unfold peaks
  rw [greater, lowest_at, Rows.host_greatest 2 8 4096 4096 S _ reducesTo_S2x8x4096x4096_S2x8x4096_d3 reduces_last h_S_ lowest_first b h i]

theorem powers_apply (S : FVec Ideal S2x8x4096x4096 .f32) (b : Fin 2) (h : Fin 8) (i j : Fin 4096) :
    powers S (ix4 b h i j) = Ideal.exp (S (ix4 b h i j)
      - max ⊥ ((Finset.univ : Finset (Fin 4096)).fold max (⊥ : EReal) fun j => S (ix4 b h i j))) :=
  congrArg (fun x : EReal => Ideal.exp (S (ix4 b h i j) - x)) ((over_apply _ b h i j).trans (peaks_apply S b h i))

theorem shares_apply (S : FVec Ideal S2x8x4096x4096 .f32) (b : Fin 2) (h : Fin 8) (i j : Fin 4096) :
    shares S (ix4 b h i j) = OnlineSoftmax.weight (fun j : Fin 4096 => (S (ix4 b h i j) : EReal)) j := by
  refine congrArg₂ Ideal.div (powers_apply S b h i j) ((over_apply _ b h i j).trans ?_)
  refine (Rows.host_summed 2 8 4096 4096 (powers S) _ reducesTo_S2x8x4096x4096_S2x8x4096_d3 reduces_last
    Ideal.ofBits_zero_f32 b h i).trans (Finset.sum_congr rfl fun k _ => ?_)
  exact powers_apply S b h i k

/-! ## The arguments by batch, row, head and column -/

theorem row_of (b : Fin 2) (i : Fin 4096) : b.val * 4096 + i.val < 8192 := by
  have := b.isLt; have := i.isLt; omega

theorem parted (v : FVec Ideal S8192x1024 .f32) (b : Fin 2) (i : Fin 4096) (h : Fin 8) (d : Fin 128) :
    shapeCast S2x4096x8x128 v shapeCasts_S8192x1024_S2x4096x8x128 (ix4 b i h d)
      = entry (a := 8192) (b := 1024) v (b.val * 4096 + i.val) (h.val * 128 + d.val) := by
  have hb := row_of b i
  have hh : h.val * 128 + d.val < 1024 := by have := h.isLt; have := d.isLt; omega
  rw [entry_of _ _ _ hb hh]
  refine shapeCast_apply v _ _ _ ?_
  rw [Shape.rowMajor_val_two, Shape.rowMajor_val_four]
  show (b.val * 4096 + i.val) * 1024 + (h.val * 128 + d.val) = ((b.val * 4096 + i.val) * 8 + h.val) * 128 + d.val
  omega

theorem parted_queries (v : FVec Ideal S8192x2048 .f32) (b : Fin 2) (i : Fin 4096) (h : Fin 8) (e : Fin 256) :
    shapeCast S2x4096x8x256 v shapeCasts_S8192x2048_S2x4096x8x256 (ix4 b i h e)
      = entry (a := 8192) (b := 2048) v (b.val * 4096 + i.val) (h.val * 256 + e.val) := by
  have hb := row_of b i
  have hh : h.val * 256 + e.val < 2048 := by have := h.isLt; have := e.isLt; omega
  rw [entry_of _ _ _ hb hh]
  refine shapeCast_apply v _ _ _ ?_
  rw [Shape.rowMajor_val_two, Shape.rowMajor_val_four]
  show (b.val * 4096 + i.val) * 2048 + (h.val * 256 + e.val) = ((b.val * 4096 + i.val) * 8 + h.val) * 256 + e.val
  omega

theorem parted_shared (v : FVec Ideal S8192x128 .f32) (b : Fin 2) (i : Fin 4096) (h : Fin 8) (e : Fin 128) :
    broadcastInDim S2x4096x8x128 ![0, 1, 2, 3] bcast_S2x4096x1x128_S2x4096x8x128_0_1_2_3
        (shapeCast S2x4096x1x128 v shapeCasts_S8192x128_S2x4096x1x128) (ix4 b i h e)
      = entry (a := 8192) (b := 128) v (b.val * 4096 + i.val) e.val := by
  have hb := row_of b i
  rw [entry_of _ _ _ hb e.isLt]
  refine (broadcastInDim_apply _ _ _ (ix4 b i h e) (ix4 b i (0 : Fin 1) e) fun a => ?_).trans (shapeCast_apply v _ _ _ ?_)
  · match a with
    | ⟨0, _⟩ => rfl
    | ⟨1, _⟩ => rfl
    | ⟨2, _⟩ => rfl
    | ⟨3, _⟩ => rfl
  · rw [Shape.rowMajor_val_two, Shape.rowMajor_val_four]
    show (b.val * 4096 + i.val) * 128 + e.val = ((b.val * 4096 + i.val) * 1 + 0) * 128 + e.val
    omega

/-- The keys of all heads. -/
def joined (kn : FVec Ideal S8192x1024 .f32) (kr : FVec Ideal S8192x128 .f32) : FVec Ideal S2x4096x8x256 .f32 :=
  concatenate S2x4096x8x256 3 [⟨S2x4096x8x128, shapeCast S2x4096x8x128 kn shapeCasts_S8192x1024_S2x4096x8x128⟩,
    ⟨S2x4096x8x128, broadcastInDim S2x4096x8x128 ![0, 1, 2, 3] bcast_S2x4096x1x128_S2x4096x8x128_0_1_2_3
      (shapeCast S2x4096x1x128 kr shapeCasts_S8192x128_S2x4096x1x128)⟩] concatenates_S2x4096x8x128_S2x4096x8x128_S2x4096x8x256_d3

theorem joined_apply (kn : FVec Ideal S8192x1024 .f32) (kr : FVec Ideal S8192x128 .f32) (b : Fin 2) (i : Fin 4096) (h : Fin 8)
    (e : Fin 256) : joined kn kr (ix4 b i h e) = key kn kr (b.val * 4096 + i.val) h.val e.val := by
  unfold key
  by_cases he : e.val < 128
  · rw [if_pos he]
    refine (concatenate_pair_apply_left (s₁ := S2x4096x8x128) (3 : Fin 4) _ _ _ (ix4 b i h e) rfl (ix4 b i h (⟨e.val, he⟩ : Fin 128)) fun a => ?_).trans
      (parted kn b i h ⟨e.val, he⟩)
    match a with
    | ⟨0, _⟩ => rfl
    | ⟨1, _⟩ => rfl
    | ⟨2, _⟩ => rfl
    | ⟨3, _⟩ => rfl
  · rw [if_neg he]
    have he' : e.val - 128 < 128 := by have := e.isLt; omega
    refine (concatenate_pair_apply_right (s₁ := S2x4096x8x128) (s₂ := S2x4096x8x128) (3 : Fin 4) _ _ _ (ix4 b i h e) rfl rfl (ix4 b i h (⟨e.val - 128, he'⟩ : Fin 128))
      (fun a ha => ?_) ?_).trans (parted_shared kr b i h ⟨e.val - 128, he'⟩)
    · match a, ha with
      | ⟨0, _⟩, _ => rfl
      | ⟨1, _⟩, _ => rfl
      | ⟨2, _⟩, _ => rfl
      | ⟨3, _⟩, ha => exact absurd rfl ha
    · show e.val - 128 + 128 = e.val
      omega

/-! ## The result -/

/-- The scores. -/
def scores4 (q : FVec Ideal S8192x2048 .f32) (kn : FVec Ideal S8192x1024 .f32) (kr : FVec Ideal S8192x128 .f32) :
    FVec Ideal S2x8x4096x4096 .f32 :=
  Host.dotGeneral dot_S2x4096x8x256_S2x4096x8x256_S2x8x4096x4096_3_3_1_1_02_02 none
    (shapeCast S2x4096x8x256 q shapeCasts_S8192x2048_S2x4096x8x256) (joined kn kr)

theorem scores4_apply (q : FVec Ideal S8192x2048 .f32) (kn : FVec Ideal S8192x1024 .f32) (kr : FVec Ideal S8192x128 .f32)
    (b : Fin 2) (h : Fin 8) (i j : Fin 4096) :
    scores4 q kn kr (ix4 b h i j) = score q kn kr (b.val * 4096 + i.val) h.val j.val := by
  refine (scored _ _ b h i j).trans (Finset.sum_congr rfl fun e _ => ?_)
  have hb : (b.val * 4096 + i.val) / 4096 = b.val := by have := i.isLt; omega
  rw [hb]
  exact congrArg₂ (fun x y : EReal => x * y) (parted_queries q b i h e) (joined_apply kn kr b j h e)

/-- The result by batch, row, head and column. -/
def headed (q : FVec Ideal S8192x2048 .f32) (kn : FVec Ideal S8192x1024 .f32) (kr : FVec Ideal S8192x128 .f32)
    (v : FVec Ideal S8192x1024 .f32) : FVec Ideal S2x4096x8x128 .f32 :=
  transpose S2x4096x8x128 [0, 3, 1, 2]
    (Host.dotGeneral dot_S2x4096x8x128_S2x8x4096x4096_S2x8x128x4096_1_3_3_2_02_01 none
      (shapeCast S2x4096x8x128 v shapeCasts_S8192x1024_S2x4096x8x128) (shares (scores4 q kn kr)))
    transposes_S2x8x128x4096_S2x4096x8x128_0_3_1_2

/-- The reference's result, of its arguments. -/
def attention (q : FVec Ideal S8192x2048 .f32) (kn : FVec Ideal S8192x1024 .f32) (kr : FVec Ideal S8192x128 .f32)
    (v : FVec Ideal S8192x1024 .f32) : FVec Ideal S8192x1024 .bf16 :=
  truncf .bf16 (shapeCast S8192x1024 (headed q kn kr v) shapeCasts_S2x4096x8x128_S8192x1024) bitsLt_bf16_f32

theorem attention_apply (q : FVec Ideal S8192x2048 .f32) (kn : FVec Ideal S8192x1024 .f32) (kr : FVec Ideal S8192x128 .f32)
    (v : FVec Ideal S8192x1024 .f32) (b : Fin 2) (i : Fin 4096) (h : Fin 8) (d : Fin 128) (z : S8192x1024.Idx)
    (z0 : (z 0).val = b.val * 4096 + i.val) (z1 : (z 1).val = h.val * 128 + d.val) :
    attention q kn kr v z = G q kn kr v z := by
  have hb : (b.val * 4096 + i.val) / 4096 = b.val := by have := i.isLt; omega
  have hh : (h.val * 128 + d.val) / 128 = h.val := by have := d.isLt; omega
  refine Eq.trans (b := shapeCast S8192x1024 (headed q kn kr v) shapeCasts_S2x4096x8x128_S8192x1024 z) rfl ?_
  refine (shapeCast_apply _ shapeCasts_S2x4096x8x128_S8192x1024 z (ix4 b i h d) ?_).trans ?_
  · rw [Shape.rowMajor_val_two, Shape.rowMajor_val_four, z0, z1]
    show ((b.val * 4096 + i.val) * 8 + h.val) * 128 + d.val = (b.val * 4096 + i.val) * 1024 + (h.val * 128 + d.val)
    omega
  refine (transpose_apply _ _ _ (ix4 b i h d) (ix4 b h d i) fun a => ?_).trans ?_
  · match a with
    | ⟨0, _⟩ => rfl
    | ⟨1, _⟩ => rfl
    | ⟨2, _⟩ => rfl
    | ⟨3, _⟩ => rfl
  refine (gathered _ _ b h d i).trans ?_
  unfold G
  rw [z0, z1, hb, hh]
  refine Finset.sum_congr rfl fun j _ => congrArg₂ (fun x y : EReal => x * y) (parted v b j h d) ?_
  refine (shares_apply _ b h i j).trans (congrArg (fun s : Fin 4096 → EReal => OnlineSoftmax.weight s j) (funext fun k => ?_))
  exact scores4_apply q kn kr b h i k

theorem attention_eq (q : FVec Ideal S8192x2048 .f32) (kn : FVec Ideal S8192x1024 .f32) (kr : FVec Ideal S8192x128 .f32)
    (v : FVec Ideal S8192x1024 .f32) : attention q kn kr v = G q kn kr v := by
  funext z
  have h0 : (z 0).val < 8192 := (z 0).isLt
  have h1 : (z 1).val < 1024 := (z 1).isLt
  exact attention_apply q kn kr v ⟨(z 0).val / 4096, by omega⟩ ⟨(z 0).val % 4096, by omega⟩ ⟨(z 1).val / 128, by omega⟩
    ⟨(z 1).val % 128, by omega⟩ z (by show _ = (z 0).val / 4096 * 4096 + (z 0).val % 4096; omega)
    (by show _ = (z 1).val / 128 * 128 + (z 1).val % 128; omega)

/-- The reference's run, at the value the kernel's run ends with. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v25)
        = G (m ((c.tc : Thread nD τ).loc main_arg0)) (m ((c.tc : Thread nD τ).loc main_arg1)) (m ((c.tc : Thread nD τ).loc main_arg2))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨(h c).1.trans ?_, (h c).2⟩) (Cert.Reference10Ideal.Value.run (F := Ideal) m ρ)
  refine Eq.trans ?_ (attention_eq (m ((c.tc : Thread nD τ).loc main_arg0)) (m ((c.tc : Thread nD τ).loc main_arg1))
    (m ((c.tc : Thread nD τ).loc main_arg2)) (m ((c.tc : Thread nD τ).loc main_arg3)))
  unfold Cert.Reference10Ideal.Value.res_main_v25 attention headed shares powers peaks over scores4 joined
  rfl

end Cert.Proof.Mla

end
-- ==== Proof.MlaClaims.lean ====
/-
  The claims about the latent attention: both programs' frames from one run, and the value where the queries and the keys are finite.
-/
module

public import proofs.«01_k».proof.Defs
public import proofs.«01_k».proof.Proof.MlaReference
public import proofs.«01_k».proof.Proof.Gen.Kernel10
public import Idealize.ShloMosaic.Lib.ReduceAll

@[expose] public section

noncomputable section

namespace Cert.Proof.Mla

open Idealize.ShloMosaic Idealize.SL.Sem

section Same
variable {F : FTy → Type} [FloatOps F]

/-- The program as printed and the program read over the reals have one text: one set of bodies. -/
theorem bodies_eq : Cert.Kernel10.defs₀ (F := F) = Cert.Kernel10Ideal.defs₀ (F := F) := by
  unfold Cert.Kernel10.defs₀ Cert.Kernel10Ideal.defs₀
  refine congrArg Defs.onTc (funext fun l => ?_)
  match l with
  | 0 => rfl

theorem defs_eq : Cert.Kernel10.defs (F := F) = Cert.Kernel10Ideal.defs (F := F) := by
  unfold Cert.Kernel10.defs Cert.Kernel10Ideal.defs
  exact congrArg _ bodies_eq

end Same

/-! ## The precondition -/

/-- The precondition's own side conditions. -/
theorem facts_finite : Cert.Pre_finite_mla.Facts where
  bitsLt_bf16_f32 := by decide
  bcast_S_S8192x2048 := by decide
  reducesTo_S8192x2048_S_d0_1 := by decide
  h_S_ := by decide
  bcast_S_S8192x1024 := by decide
  reducesTo_S8192x1024_S_d0_1 := by decide
  bcast_S_S8192x128 := by decide
  reducesTo_S8192x128_S_d0_1 := by decide

/-- A number whose absolute value is below infinity is real. -/
theorem real_of_below (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- Where the test of all entries says 1, all entries are real. -/
theorem real_of_test {s t u : Shape} {axes : List (Fin s.rank)} [Subsingleton t.Idx] (v : FVec Ideal s .bf16) (hb : FTy.bits .bf16 < FTy.bits .f32)
    (top : FVec Ideal s .f32) (htop : ∀ z, top z = Ideal.ofBits .f32 0x7F800000#32) (one : u.Idx → BitVec 1) (h : s.ReducesTo axes t)
    (hu : 0 < u.numel) (j : t.Idx)
    (e : Host.reduce IntOp.andi (cmpf .olt (Host.absf (extf .f32 v hb)) top) one h hu j = 1#1) : Real (s := s) v := fun z => by
  have e1 := Host.reduce_andi_all _ one h hu j e z
  refine real_of_below (v z) ?_
  rw [← htop z]
  exact e1

instance : Subsingleton Cert.Pre_finite_mla.S_.Idx := ⟨fun a b => funext fun x => x.elim0⟩

/-- The precondition makes the queries and both parts of the keys real. -/
theorem real_of_pre [hf : Cert.Pre_finite_mla.Facts] (q : FVec Ideal Cert.Pre_finite_mla.S8192x2048 .bf16) (kn : FVec Ideal Cert.Pre_finite_mla.S8192x1024 .bf16)
    (kr : FVec Ideal Cert.Pre_finite_mla.S8192x128 .bf16) (v : FVec Ideal Cert.Pre_finite_mla.S8192x1024 .bf16)
    (h : Cert.Pre_finite_mla.fn (F := Ideal) q kn kr v = fun _ => 1#1) :
    Real (s := Cert.Pre_finite_mla.S8192x2048) q ∧ Real (s := Cert.Pre_finite_mla.S8192x1024) kn ∧ Real (s := Cert.Pre_finite_mla.S8192x128) kr := by
  have h0 := congrFun h (Shape.Idx.first hf.h_S_)
  unfold Cert.Pre_finite_mla.fn at h0
  obtain ⟨h01, h2⟩ := IntOp.andi_eq_one.1 h0
  obtain ⟨h0, h1⟩ := IntOp.andi_eq_one.1 h01
  exact ⟨real_of_test q _ _ (fun _ => rfl) _ _ _ _ h0, real_of_test kn _ _ (fun _ => rfl) _ _ _ _ h1,
    real_of_test kr _ _ (fun _ => rfl) _ _ _ _ h2⟩

/-! ## The claims -/

theorem frame : Cert.quiescent_Kernel10 := fun m ρ _ => by
  rw [defs_eq]
  exact Cert.Kernel10Ideal.Gen.frame (F := Bits) m ρ

theorem frame_ideal : Cert.quiescent_Kernel10Ideal := fun m ρ _ =>
  Cert.Kernel10Ideal.Gen.frame (F := Ideal) m ρ

theorem frame_ideal_finite : Cert.quiescent_Kernel10Ideal_pre_finite_mla (hPre_finite_mla := facts_finite) := fun m ρ _ =>
  Cert.Kernel10Ideal.Gen.frame (F := Ideal) m ρ

theorem frame_reference : Cert.quiescent_Reference10Ideal := fun m ρ _ =>
  (θ_run _ _ _).mono (fun r h => ⟨fun c => (h c).2, Idealize.ShloMosaic.sem_eq_zero_of_no_sems (by decide) r.2⟩) (reference_run m ρ)

theorem frame_reference_finite : Cert.quiescent_Reference10Ideal_pre_finite_mla (hPre_finite_mla := facts_finite) := fun m ρ _ =>
  (θ_run _ _ _).mono (fun r h => ⟨fun c => (h c).2, Idealize.ShloMosaic.sem_eq_zero_of_no_sems (by decide) r.2⟩) (reference_run m ρ)

theorem algebraic : Cert.algebraic_Kernel10Ideal_Reference10Ideal_pre_finite_mla (hPre_finite_mla := facts_finite) := by
  intro m ρ m' ρ' hpre hargs
  have hr := fun c => real_of_pre (hf := facts_finite) _ _ _ _ (hpre c)
  refine ⟨fun c => G (m ((c.tc : Thread _ _).loc Cert.Kernel10Ideal.main_arg0)) (m ((c.tc : Thread _ _).loc Cert.Kernel10Ideal.main_arg1))
    (m ((c.tc : Thread _ _).loc Cert.Kernel10Ideal.main_arg2)) (m ((c.tc : Thread _ _).loc Cert.Kernel10Ideal.main_arg3)), ?_, ?_⟩
  · exact run m ρ (fun c => (hr c).1) (fun c => (hr c).2.1) (fun c => (hr c).2.2)
  · refine (θ_run _ _ _).mono (fun r h c => ⟨(h c).1.trans ?_, (h c).2⟩) (reference_run m' ρ')
    obtain ⟨e0, e1, e2, e3⟩ := hargs c
    rw [e0, e1, e2, e3]

end Cert.Proof.Mla

end
-- ==== Proof.Diff.lean ====
/-
  The call that does the differential attention: what each grid point writes, of its blocks.
-/
module

public import proofs.«01_k».proof.Proof.Mla
public import proofs.«01_k».proof.Proof.Gen.Kernel11Ideal.Frame
public import proofs.«01_k».proof.Proof.Gen.Kernel11Ideal.Value

@[expose] public section

noncomputable section

namespace Cert.Proof.Diff

open Idealize.ShloMosaic Idealize.ShloMosaic.TcCoe Idealize.SL.Sem
open Cert.Kernel11Ideal Cert.Kernel11Ideal.Gen Idealize.ShloMosaic.ValueIdx

variable {F : FTy → Type} [FloatOps F]

/-! ## The block of the result, as the kernel takes it -/

/-- The queries with the second 64 columns put to zero. -/
def low (q : Vec F S1024x128 .bf16) : Vec F S1024x128 .bf16 :=
  select (cmpi .slt (iota .tc S1024x128 32 [1] iota_S1024x128_d1_w32) (broadcast S1024x128 64#32)) q
    (broadcast S1024x128 (Scalar.ofBits .bf16 0x0000#16))

/-- The queries with the first 64 columns put to zero. -/
def high (q : Vec F S1024x128 .bf16) : Vec F S1024x128 .bf16 :=
  select (cmpi .sge (iota .tc S1024x128 32 [1] iota_S1024x128_d1_w32) (broadcast S1024x128 64#32)) q
    (broadcast S1024x128 (Scalar.ofBits .bf16 0x0000#16))

/-- The scores of a block of keys. -/
def scores (q k : Vec F S1024x128 .bf16) : FVec F S1024x1024 .f32 :=
  matmul dot_S1024x128_S1024x128_S1024x1024_1_1_0_0_n_n none q k (constant S1024x1024 .f32 0x00000000#32)

/-- The running numbers after the four blocks of keys. -/
def four (q : Vec F S1024x128 .bf16) (K X : Vec F S4096x128 .bf16) : Mla.State F :=
  Mla.advance (Mla.advance (Mla.advance (Mla.advance Mla.start (scores q (Mla.valueRows K 0)) (Mla.valueRows X 0))
    (scores q (Mla.valueRows K 1)) (Mla.valueRows X 1)) (scores q (Mla.valueRows K 2)) (Mla.valueRows X 2))
    (scores q (Mla.valueRows K 3)) (Mla.valueRows X 3)

/-- One attention: the weighted sum over the sum of the weights. -/
def attended (q : Vec F S1024x128 .bf16) (K X : Vec F S4096x128 .bf16) : FVec F S1024x128 .f32 :=
  divf (four q K X).2.2 (broadcastTo S1024x128 (four q K X).2.1 broadcasts_S1024x1_S1024x128)

/-- The exponential of the product of two rows of the parameters. -/
def power01 (x : Vec F S4x64 .f32) : FVec F S1x1 .f32 :=
  exp (shapeCast S1x1 (multiReduction .add [1] S1 (mulf (extractStridedSlice S1x64 ![0, 0] x slices_S4x64_o0_0_S1x64)
    (extractStridedSlice S1x64 ![1, 0] x slices_S4x64_o1_0_S1x64)) 0x00000000#32 reduces_S1x64_S1 (.inl rfl) rfl) shapeCasts_S1_S1x1)

def power23 (x : Vec F S4x64 .f32) : FVec F S1x1 .f32 :=
  exp (shapeCast S1x1 (multiReduction .add [1] S1 (mulf (extractStridedSlice S1x64 ![2, 0] x slices_S4x64_o2_0_S1x64)
    (extractStridedSlice S1x64 ![3, 0] x slices_S4x64_o3_0_S1x64)) 0x00000000#32 reduces_S1x64_S1 (.inl rfl) rfl) shapeCasts_S1_S1x1)

/-- The second attention's factor. -/
def factor (x : Vec F S4x64 .f32) : FVec F S1x1 .f32 :=
  addf (subf (power01 x) (power23 x)) (broadcast S1x1 (Scalar.ofBits .f32 0x3E4CCCCD#32))

/-- The first attention less the factor times the second. -/
def less (a b : FVec F S1024x128 .f32) (x : Vec F S4x64 .f32) : FVec F S1024x128 .f32 :=
  subf a (mulf (broadcastTo S1024x128 (factor x) broadcasts_S1x1_S1024x128) b)

/-- The rows over the root of their mean square. -/
def scaled (o : FVec F S1024x128 .f32) : FVec F S1024x1 .f32 :=
  rsqrt (addf (divf (shapeCast S1024x1 (multiReduction .add [1] S1024 (mulf o o) 0x00000000#32 reduces_S1024x128_S1024 (.inl rfl) rfl)
    shapeCasts_S1024_S1024x1) (broadcast S1024x1 (Scalar.ofBits .f32 0x43000000#32)))
    (broadcast S1024x1 (Scalar.ofBits .f32 0x3727C5AC#32)))

def normed (o : FVec F S1024x128 .f32) (g : Vec F S1x128 .f32) : FVec F S1024x128 .bf16 :=
  truncf .bf16 (mulf (mulf (mulf o (broadcastTo S1024x128 (scaled o) broadcasts_S1024x1_S1024x128))
    (broadcastTo S1024x128 (shapeCast S1x128 g shapeCasts_S1x128_S1x128) broadcasts_S1x128_S1024x128))
    (broadcast S1024x128 (Scalar.ofBits .f32 0x3F4CCCCD#32))) bitsLt_bf16_f32

def block (x0 : Vec F S1024x128 .bf16) (x1 x2 : Vec F S4096x128 .bf16) (x3 : Vec F S4x64 .f32) (x4 : Vec F S1x128 .f32) :
    FVec F S1024x128 .bf16 :=
  normed (less (attended (low x0) x1 x2) (attended (high x0) x1 x2) x3) x4

set_option maxRecDepth 16384 in
theorem out_eq (x0 : Vec F S1024x128 .bf16) (x1 x2 : Vec F S4096x128 .bf16) (x3 : Vec F S4x64 .f32) (x4 : Vec F S1x128 .f32) :
    out0_5 x0 x1 x2 x3 x4 = block x0 x1 x2 x3 x4 := by
  have e : out0_5 x0 x1 x2 x3 x4 = block (View.ld x0 r0_0) x1 x2 (View.ld x3 r0_5) (View.ld x4 r0_6) := by
    unfold out0_5
    exact View.canon_cons_unit_lit' _ _ _ (by decide)
  rw [e, View.ld_unit_lit' _ x0 (by decide), View.ld_unit_lit' _ x3 (by decide), View.ld_unit_lit' _ x4 (by decide)]

/-! ## Entries, over the reals -/

theorem low_apply (q : Vec Ideal S1024x128 .bf16) (p : Fin 1024) (e : Fin 128) :
    low q (ix2 p e) = if e.val < 64 then q (ix2 p e) else (0 : EReal) := by
  have h : low q (ix2 p e) = Scalar.select (IntOp.cmpi .slt (BitVec.ofNat 32 e.val) 64#32) (q (ix2 p e)) (Ideal.ofBits .bf16 0x0000#16) := by
    unfold low
    rw [select_apply]
    show Scalar.select (IntOp.cmpi .slt (iota .tc S1024x128 32 [1] iota_S1024x128_d1_w32 (ix2 p e)) 64#32) _ _ = _
    rw [iota_single_apply]
    rfl
  have hz : Ideal.ofBits .bf16 0x0000#16 = 0 := by simp [Ideal.ofBits, Ideal.ieee]
  rw [h, hz]
  have hc : ∀ e : Fin 128, IntOp.cmpi .slt (BitVec.ofNat 32 e.val) 64#32 = if e.val < 64 then 1#1 else 0#1 := by decide
  rw [hc e]
  split <;> rfl

theorem high_apply (q : Vec Ideal S1024x128 .bf16) (p : Fin 1024) (e : Fin 128) :
    high q (ix2 p e) = if e.val < 64 then (0 : EReal) else q (ix2 p e) := by
  have h : high q (ix2 p e) = Scalar.select (IntOp.cmpi .sge (BitVec.ofNat 32 e.val) 64#32) (q (ix2 p e)) (Ideal.ofBits .bf16 0x0000#16) := by
    unfold high
    rw [select_apply]
    show Scalar.select (IntOp.cmpi .sge (iota .tc S1024x128 32 [1] iota_S1024x128_d1_w32 (ix2 p e)) 64#32) _ _ = _
    rw [iota_single_apply]
    rfl
  have hz : Ideal.ofBits .bf16 0x0000#16 = 0 := by simp [Ideal.ofBits, Ideal.ieee]
  rw [h, hz]
  have hc : ∀ e : Fin 128, IntOp.cmpi .sge (BitVec.ofNat 32 e.val) 64#32 = if e.val < 64 then 0#1 else 1#1 := by decide
  rw [hc e]
  split <;> rfl

/-- A sum over the 128 columns, the second half zero. -/
theorem sum_low (f g : ℕ → EReal) : (∑ e : Fin 128, (if e.val < 64 then f e.val else 0) * g e.val) = ∑ e : Fin 64, f e.val * g e.val := by
  refine (Fin.sum_univ_add (a := 64) (b := 64) fun e : Fin 128 => (if e.val < 64 then f e.val else 0) * g e.val).trans ?_
  have hl : ∀ e : Fin 64, (Fin.castAdd 64 e).val = e.val := fun e => rfl
  have hr : ∀ e : Fin 64, (Fin.natAdd 64 e).val = 64 + e.val := fun e => rfl
  simp only [hl, hr]
  have h0 : ∀ e : Fin 64, e.val < 64 := fun e => e.isLt
  have h1 : ∀ e : Fin 64, ¬64 + e.val < 64 := fun e => by omega
  simp only [h0, h1, if_true, if_false, zero_mul, Finset.sum_const_zero, add_zero]

/-- A sum over the 128 columns, the first half zero. -/
theorem sum_high (f g : ℕ → EReal) :
    (∑ e : Fin 128, (if e.val < 64 then 0 else f e.val) * g e.val) = ∑ e : Fin 64, f (64 + e.val) * g (64 + e.val) := by
  refine (Fin.sum_univ_add (a := 64) (b := 64) fun e : Fin 128 => (if e.val < 64 then 0 else f e.val) * g e.val).trans ?_
  have hl : ∀ e : Fin 64, (Fin.castAdd 64 e).val = e.val := fun e => rfl
  have hr : ∀ e : Fin 64, (Fin.natAdd 64 e).val = 64 + e.val := fun e => rfl
  simp only [hl, hr]
  have h0 : ∀ e : Fin 64, e.val < 64 := fun e => e.isLt
  have h1 : ∀ e : Fin 64, ¬64 + e.val < 64 := fun e => by omega
  simp only [h0, h1, if_true, if_false, zero_mul, Finset.sum_const_zero, zero_add]

theorem scores_apply (q k : Vec Ideal S1024x128 .bf16) (p j : Fin 1024) :
    scores q k (ix2 p j) = ∑ e : Fin 128, (q (ix2 p e) * k (ix2 j e) : EReal) :=
  Dense.product_transposed 1024 128 1024 q k (ix2 p j)

theorem attended_apply (q : Vec Ideal S1024x128 .bf16) (K X : Vec Ideal S4096x128 .bf16) (p : Fin 1024) (d : Fin 128) :
    attended q K X (ix2 p d) = Ideal.div (Mla.row (four q K X) p d).2.2 (Mla.row (four q K X) p d).2.1 := by
  unfold attended
  generalize four q K X = st
  exact congrArg (fun x : EReal => Ideal.div (st.2.2 (ix2 p d)) x) (Rows.spread 1024 128 _ _ p d)

/-- A row of one attention, the scores of the row being finite: the mean of the values with the weights taken at once. -/
theorem attended_row (q : Vec Ideal S1024x128 .bf16) (K X : Vec Ideal S4096x128 .bf16)
    (p : Fin 1024) (d : Fin 128) (s : ℕ → ℝ) (v : ℕ → EReal)
    (hs : ∀ j : Fin 4096, ∑ e : Fin 128, (q (ix2 p e) * K (ix2 j e) : EReal) = (s j.val : EReal))
    (hv : ∀ j : Fin 4096, X (ix2 j d) = v j.val) :
    attended q K X (ix2 p d) = ∑ j : Fin 4096, v j.val * OnlineSoftmax.weight (fun i : Fin 4096 => (s i.val : EReal)) j := by
  have es : ∀ c : Fin 4, (fun j : Fin 1024 => scores q (Mla.valueRows K c) (ix2 p j)) = fun j => (s (c.val * 1024 + j.val) : EReal) :=
    fun c => by
    funext j
    have hlt : c.val * 1024 + j.val < 4096 := by have := c.isLt; have := j.isLt; omega
    refine (scores_apply _ _ p j).trans (Eq.trans (Finset.sum_congr rfl fun e _ => ?_) (hs ⟨_, hlt⟩))
    exact congrArg (fun x : EReal => q (ix2 p e) * x) (Mla.valueRows_apply K c j e (ix2 ⟨_, hlt⟩ e) rfl rfl)
  have ev : ∀ c : Fin 4, (fun j : Fin 1024 => Mla.valueRows X c (ix2 j d)) = fun j => v (c.val * 1024 + j.val) := fun c => by
    funext j
    have hlt : c.val * 1024 + j.val < 4096 := by have := c.isLt; have := j.isLt; omega
    exact (Mla.valueRows_apply X c j d (ix2 ⟨_, hlt⟩ d) rfl rfl).trans (hv ⟨_, hlt⟩)
  have h4 : OnlineSoftmax.Holds s v 4096 (Mla.row (four q K X) p d) := by
    unfold four
    rw [Mla.row_advance, Mla.row_advance, Mla.row_advance, Mla.row_advance, Mla.row_start,
      es 0, es 1, es 2, es 3, ev 0, ev 1, ev 2, ev 3]
    have h := OnlineSoftmax.holds_first s v (n := 1024) (by decide)
    have h := OnlineSoftmax.holds_next s v 1024 (n := 1024) (by decide) _ h
    have h := OnlineSoftmax.holds_next s v 2048 (n := 1024) (by decide) _ h
    have h := OnlineSoftmax.holds_next s v 3072 (n := 1024) (by decide) _ h
    have e0 : ∀ k : ℕ, ((0 : Fin 4).val * 1024 + k) = k := fun k => by show 0 * 1024 + k = k; omega
    simp only [e0]
    exact h
  rw [attended_apply]
  exact OnlineSoftmax.quotient s v (by decide) _ h4

/-- The exponential of the product of two rows of the parameters, by entries. -/
def power (x : Fin 4 → Fin 64 → EReal) (a b : Fin 4) : EReal := Ideal.exp (∑ e : Fin 64, x a e * x b e)

/-- The second attention's factor, by entries. -/
def lam (x : Fin 4 → Fin 64 → EReal) : EReal := power x 0 1 - power x 2 3 + Ideal.ofBits .f32 0x3E4CCCCD#32

theorem power01_apply (x : Vec Ideal S4x64 .f32) : power01 x (ix2 0 0) = power (fun a e => x (ix2 a e)) 0 1 := by
  refine congrArg Ideal.exp ((Rows.column 1 _ _ 0 0).trans ((Rows.summed 1 64 _ _ _ _ 0).trans (Finset.sum_congr rfl fun e _ => ?_)))
  refine congrArg₂ (fun a b : EReal => a * b) (congrArg x (funext fun a => Fin.ext ?_)) (congrArg x (funext fun a => Fin.ext ?_))
  · match a with
    | ⟨0, _⟩ => rfl
    | ⟨1, _⟩ => exact Nat.zero_add _
  · match a with
    | ⟨0, _⟩ => rfl
    | ⟨1, _⟩ => exact Nat.zero_add _

theorem power23_apply (x : Vec Ideal S4x64 .f32) : power23 x (ix2 0 0) = power (fun a e => x (ix2 a e)) 2 3 := by
  refine congrArg Ideal.exp ((Rows.column 1 _ _ 0 0).trans ((Rows.summed 1 64 _ _ _ _ 0).trans (Finset.sum_congr rfl fun e _ => ?_)))
  refine congrArg₂ (fun a b : EReal => a * b) (congrArg x (funext fun a => Fin.ext ?_)) (congrArg x (funext fun a => Fin.ext ?_))
  · match a with
    | ⟨0, _⟩ => rfl
    | ⟨1, _⟩ => exact Nat.zero_add _
  · match a with
    | ⟨0, _⟩ => rfl
    | ⟨1, _⟩ => exact Nat.zero_add _

theorem factor_apply (x : Vec Ideal S4x64 .f32) : factor x (ix2 0 0) = lam (fun a e => x (ix2 a e)) := by
  unfold lam
  rw [← power01_apply, ← power23_apply]
  rfl

theorem less_apply (a b : FVec Ideal S1024x128 .f32) (x : Vec Ideal S4x64 .f32) (p : Fin 1024) (d : Fin 128) :
    less a b x (ix2 p d) = (a (ix2 p d) - lam (fun a e => x (ix2 a e)) * b (ix2 p d) : EReal) := by
  refine congrArg (fun l : EReal => (a (ix2 p d) : EReal) - l * b (ix2 p d)) ?_
  exact (Rows.everywhere 1024 128 _ _ p d).trans (factor_apply x)

/-- A row over the root of its mean square, times the gain, times what the layer keeps of it. -/
def unit (o : Fin 128 → EReal) (g : EReal) (d : Fin 128) : EReal :=
  o d * Ideal.rsqrt (Ideal.div (∑ e : Fin 128, o e * o e) (Ideal.ofBits .f32 0x43000000#32) + Ideal.ofBits .f32 0x3727C5AC#32)
    * g * Ideal.ofBits .f32 0x3F4CCCCD#32

theorem scaled_apply (o : FVec Ideal S1024x128 .f32) (p : Fin 1024) :
    scaled o (ix2 p 0) = Ideal.rsqrt (Ideal.div (∑ e : Fin 128, (o (ix2 p e) * o (ix2 p e) : EReal)) (Ideal.ofBits .f32 0x43000000#32)
      + Ideal.ofBits .f32 0x3727C5AC#32) :=
  congrArg (fun x : EReal => Ideal.rsqrt (Ideal.div x (Ideal.ofBits .f32 0x43000000#32) + Ideal.ofBits .f32 0x3727C5AC#32))
    ((Rows.column 1024 _ _ p 0).trans (Rows.summed 1024 128 _ _ _ _ p))

theorem normed_apply (o : FVec Ideal S1024x128 .f32) (g : Vec Ideal S1x128 .f32) (p : Fin 1024) (d : Fin 128) :
    normed o g (ix2 p d) = unit (fun e => o (ix2 p e)) (g (ix2 0 d)) d := by
  refine congrArg₂ (fun a b : EReal => o (ix2 p d) * a * b * Ideal.ofBits .f32 0x3F4CCCCD#32) ?_ ?_
  · exact (Rows.spread 1024 128 _ _ p d).trans (scaled_apply o p)
  · exact (Rows.repeated 1024 128 (by decide) _ _ p d).trans (congrFun (shapeCast_self g _) _)

end Cert.Proof.Diff

end
-- ==== Proof.DiffRun.lean ====
/-
  The differential attention's call over the whole arrays: what each grid point finds and writes, and the result array after the
  run, where the numbers it attends with are finite.
-/
module

public import proofs.«01_k».proof.Proof.MlaRun
public import proofs.«01_k».proof.Proof.Diff

@[expose] public section

noncomputable section

namespace Cert.Proof.Diff

open Idealize.ShloMosaic Idealize.ShloMosaic.TcCoe Idealize.SL.Sem
open Cert.Kernel11Ideal Cert.Kernel11Ideal.Gen Idealize.ShloMosaic.ValueIdx
open Cert.Proof.Mla (entry entry_of entry_real Real)

section Points
variable {F : FTy → Type} [FloatOps F]
variable (m : (ℓ : Loc nD τ sig) → Buf (Elt F) ℓ)

/-- The point `t` is at batch `t / 32`, head `t / 4 % 8` and block of rows `t % 4`. -/
theorem point0 (t : Fin grid0.N) : (grid0.coords t 0).val = t.val / 32 := by
  have ht : t.val < 64 := Nat.lt_of_lt_of_eq t.isLt N_0
  rw [show (grid0.coords t 0).val = t.val / 32 % 2 from Pipeline.Grid.coords_val t 0 (by decide) rfl]
  omega

theorem point1 (t : Fin grid0.N) : (grid0.coords t 1).val = t.val / 4 % 8 :=
  Pipeline.Grid.coords_val t 1 (by decide) rfl

theorem point2 (t : Fin grid0.N) : (grid0.coords t 2).val = t.val % 4 := by
  rw [show (grid0.coords t 2).val = t.val / 1 % 4 from Pipeline.Grid.coords_val t 2 (by decide) rfl]
  omega

/-- The block's numbers, computed in 32 bits. -/
theorem rowBlock (t : Fin grid0.N) :
    (IntOp.addi (IntOp.muli (BitVec.ofNat 32 (grid0.coords t 0).val) 4#32) (BitVec.ofNat 32 (grid0.coords t 2).val)).toNat
      = t.val / 32 * 4 + t.val % 4 := by
  have ht : t.val < 64 := Nat.lt_of_lt_of_eq t.isLt N_0
  rw [point0, point2]
  show (BitVec.ofNat 32 (t.val / 32) * 4#32 + BitVec.ofNat 32 (t.val % 4)).toNat = _
  rw [BitVec.toNat_add, BitVec.toNat_mul, BitVec.toNat_ofNat, BitVec.toNat_ofNat, BitVec.toNat_ofNat]
  omega

theorem headBlock (t : Fin grid0.N) : (BitVec.ofNat 32 (grid0.coords t 1).val).toNat = t.val / 4 % 8 := by
  rw [point1, BitVec.toNat_ofNat]
  omega

theorem shifted (n : ℕ) (hn : n < 32) (t : Fin grid0.N) :
    (IntOp.addi (BitVec.ofNat 32 n) (BitVec.ofNat 32 (grid0.coords t 1).val)).toNat = n + t.val / 4 % 8 := by
  rw [point1]
  show (BitVec.ofNat 32 n + BitVec.ofNat 32 (t.val / 4 % 8)).toNat = _
  rw [BitVec.toNat_add, BitVec.toNat_ofNat, BitVec.toNat_ofNat]
  omega

theorem batchBlock (t : Fin grid0.N) : (BitVec.ofNat 32 (grid0.coords t 0).val).toNat = t.val / 32 := by
  have ht : t.val < 64 := Nat.lt_of_lt_of_eq t.isLt N_0
  rw [point0, BitVec.toNat_ofNat]
  omega

/-- The queries' block at an entry. -/
theorem queries_apply (c : Dev nD) (t : Fin cfg0.N) (y : S1024x128.Idx) (z : S8192x4352.Idx)
    (hz0 : (z 0).val = (t.val / 32 * 4 + t.val % 4) * 1024 + (y 0).val) (hz1 : (z 1).val = (8 + t.val / 4 % 8) * 128 + (y 1).val) :
    iblk m c 0 t y = m ((c : Thread nD τ).loc main_arg0) z := by
  rw [← V_main_arg0 m c]
  show V m c main_arg0 (((cfg0.win 0).blk t).view.emb y) = _
  refine congrArg _ (funext fun a => Fin.ext ?_)
  have h0 := rowBlock t
  have h1 := shifted 8 (by decide) t
  match a with
  | ⟨0, _⟩ =>
    show (IntOp.addi (IntOp.muli (BitVec.ofNat 32 (grid0.coords t 0).val) 4#32) (BitVec.ofNat 32 (grid0.coords t 2).val)).toNat
      * 1024 + 1 * (y 0).val = (z 0).val
    omega
  | ⟨1, _⟩ =>
    show (IntOp.addi (BitVec.ofNat 32 8) (BitVec.ofNat 32 (grid0.coords t 1).val)).toNat * 128 + 1 * (y 1).val = (z 1).val
    omega

/-- The keys' block. -/
theorem keys_apply (c : Dev nD) (t : Fin cfg0.N) (y : S4096x128.Idx) (z : S8192x4352.Idx)
    (hz0 : (z 0).val = t.val / 32 * 4096 + (y 0).val) (hz1 : (z 1).val = (16 + t.val / 4 % 8) * 128 + (y 1).val) :
    iblk m c 1 t y = m ((c : Thread nD τ).loc main_arg0) z := by
  rw [← V_main_arg0 m c]
  show V m c main_arg0 (((cfg0.win 1).blk t).view.emb y) = _
  refine congrArg _ (funext fun a => Fin.ext ?_)
  have h0 := batchBlock t
  have h1 := shifted 16 (by decide) t
  match a with
  | ⟨0, _⟩ =>
    show (BitVec.ofNat 32 (grid0.coords t 0).val).toNat * 4096 + 1 * (y 0).val = (z 0).val
    omega
  | ⟨1, _⟩ =>
    show (IntOp.addi (BitVec.ofNat 32 16) (BitVec.ofNat 32 (grid0.coords t 1).val)).toNat * 128 + 1 * (y 1).val = (z 1).val
    omega

/-- The values' block. -/
theorem values_apply (c : Dev nD) (t : Fin cfg0.N) (y : S4096x128.Idx) (z : S8192x2048.Idx)
    (hz0 : (z 0).val = t.val / 32 * 4096 + (y 0).val) (hz1 : (z 1).val = (4 + t.val / 4 % 8) * 128 + (y 1).val) :
    iblk m c 2 t y = m ((c : Thread nD τ).loc main_arg1) z := by
  rw [← V_main_arg1 m c]
  show V m c main_arg1 (((cfg0.win 2).blk t).view.emb y) = _
  refine congrArg _ (funext fun a => Fin.ext ?_)
  have h0 := batchBlock t
  have h1 := shifted 4 (by decide) t
  match a with
  | ⟨0, _⟩ =>
    show (BitVec.ofNat 32 (grid0.coords t 0).val).toNat * 4096 + 1 * (y 0).val = (z 0).val
    omega
  | ⟨1, _⟩ =>
    show (IntOp.addi (BitVec.ofNat 32 4) (BitVec.ofNat 32 (grid0.coords t 1).val)).toNat * 128 + 1 * (y 1).val = (z 1).val
    omega

/-- The parameters' block is the whole array. -/
theorem parameters_apply (c : Dev nD) (t : Fin cfg0.N) (y : S4x64.Idx) :
    iblk m c 3 t y = m ((c : Thread nD τ).loc main_arg2) y := by
  rw [← V_main_arg2 m c]
  show V m c main_arg2 (((cfg0.win 3).blk t).view.emb y) = _
  refine congrArg _ (funext fun a => Fin.ext ?_)
  match a with
  | ⟨0, _⟩ =>
    show 0 * 4 + 1 * (y 0).val = (y 0).val
    omega
  | ⟨1, _⟩ =>
    show 0 * 64 + 1 * (y 1).val = (y 1).val
    omega

theorem V_gain (c : Dev nD) :
    V m c main_v0 = shapeCast S1x128 (m ((c : Thread nD τ).loc main_arg3)) shapeCasts_S128_S1x128 := by
  show StableHlo.after hostOps0 (fun b => m (c, b)) (Proc.devRef .tc main_v0) = _
  unfold hostOps0
  after_results
  rfl

theorem gain_row {α : Type} (v : S128.Idx → α) (h : S128.ShapeCasts S1x128) (z : S1x128.Idx) (d : Fin 128) (hz : (z 1).val = d.val) :
    shapeCast S1x128 v h z = v (ix1 d) := by
  refine shapeCast_apply v h _ _ ?_
  rw [Shape.rowMajor_val_one, Shape.rowMajor_val_two]
  have h0 : (z 0).val < 1 := (z 0).isLt
  show d.val = (z 0).val * 128 + (z 1).val
  omega

/-- The gains' block. -/
theorem gain_apply (c : Dev nD) (t : Fin cfg0.N) (d : Fin 128) :
    iblk m c 4 t (ix2 0 d) = m ((c : Thread nD τ).loc main_arg3) (ix1 d) := by
  show V m c main_v0 (((cfg0.win 4).blk t).view.emb (ix2 0 d)) = _
  rw [V_gain]
  refine gain_row (m ((c : Thread nD τ).loc main_arg3)) shapeCasts_S128_S1x128 _ d ?_
  show 0 * 128 + 1 * d.val = d.val
  omega

end Points

/-! ## Over the reals -/

/-- The score of row `r` and key `j` of the row's batch, in head `h`, over the 64 columns from `o` on. -/
def score (A : FVec Ideal S8192x4352 .bf16) (o r h j : ℕ) : EReal :=
  ∑ e : Fin 64, entry A r (1024 + h * 128 + (o + e.val)) * entry A (r / 4096 * 4096 + j) (2048 + h * 128 + (o + e.val))

/-- The values of row `r`'s batch weighted by the first softmax less the factor times the second. -/
def mix (A : FVec Ideal S8192x4352 .bf16) (V : FVec Ideal S8192x2048 .bf16) (l : EReal) (r h d : ℕ) : EReal :=
  ∑ j : Fin 4096, entry V (r / 4096 * 4096 + j.val) (512 + h * 128 + d)
    * (OnlineSoftmax.weight (fun i : Fin 4096 => score A 0 r h i.val) j - l * OnlineSoftmax.weight (fun i : Fin 4096 => score A 64 r h i.val) j)

/-- The differential attention, normed. -/
def G (A : FVec Ideal S8192x4352 .bf16) (V : FVec Ideal S8192x2048 .bf16) (P : FVec Ideal S4x64 .f32) (g : FVec Ideal S128 .f32) :
    FVec Ideal S8192x1024 .bf16 := fun z =>
  unit (fun d => mix A V (lam fun a e => P (ix2 a e)) (z 0).val ((z 1).val / 128) d.val)
    (g (ix1 ⟨(z 1).val % 128, Nat.mod_lt _ (by decide)⟩)) ⟨(z 1).val % 128, Nat.mod_lt _ (by decide)⟩

/-- The columns from `o` on for `n` of them are finite. -/
def Between {a b : ℕ} (v : (⟨2, ![a, b]⟩ : Shape).Idx → EReal) (o n : ℕ) : Prop :=
  ∀ i j, j < n → ∃ x : ℝ, entry v i (o + j) = (x : EReal)

theorem score_real (A : FVec Ideal S8192x4352 .bf16) (hA : Between (a := 8192) (b := 4352) A 1024 2048) (o r h : ℕ) (ho : o ≤ 64) (hh : h < 8) :
    ∃ s : ℕ → ℝ, ∀ j, score A o r h j = (s j : EReal) := by
  have hq : ∀ e : Fin 64, ∃ x : ℝ, entry (a := 8192) (b := 4352) A r (1024 + h * 128 + (o + e.val)) = (x : EReal) := fun e => by
    have := e.isLt
    rw [show 1024 + h * 128 + (o + e.val) = 1024 + (h * 128 + (o + e.val)) by omega]
    exact hA r _ (by omega)
  have hk : ∀ (i : ℕ) (e : Fin 64), ∃ x : ℝ, entry (a := 8192) (b := 4352) A i (2048 + h * 128 + (o + e.val)) = (x : EReal) := fun i e => by
    have := e.isLt
    rw [show 2048 + h * 128 + (o + e.val) = 1024 + (1024 + h * 128 + (o + e.val)) by omega]
    exact hA i _ (by omega)
  choose x hx using hq
  choose k hk using hk
  refine ⟨fun j => ∑ e : Fin 64, x e * k (r / 4096 * 4096 + j) e, fun j => ?_⟩
  unfold score
  rw [OnlineSoftmax.coe_sum]
  refine Finset.sum_congr rfl fun e _ => ?_
  rw [hx, hk, EReal.coe_mul]

theorem power_real (x : Fin 4 → Fin 64 → EReal) (hx : ∀ a e, ∃ r : ℝ, x a e = (r : EReal)) (a b : Fin 4) :
    ∃ r : ℝ, power x a b = (r : EReal) := by
  choose y hy using hx
  refine ⟨Real.exp (∑ e : Fin 64, y a e * y b e), ?_⟩
  rw [← OnlineSoftmax.exp_coe, OnlineSoftmax.coe_sum]
  unfold power
  refine congrArg Ideal.exp (Finset.sum_congr rfl fun e _ => ?_)
  rw [hy, hy, EReal.coe_mul]

theorem lam_real (x : Fin 4 → Fin 64 → EReal) (hx : ∀ a e, ∃ r : ℝ, x a e = (r : EReal)) : ∃ r : ℝ, lam x = (r : EReal) := by
  obtain ⟨a, ha⟩ := power_real x hx 0 1
  obtain ⟨b, hb⟩ := power_real x hx 2 3
  have hw : ∃ w : ℝ, Ideal.ofBits .f32 0x3E4CCCCD#32 = (w : EReal) := ⟨_, by simp [Ideal.ofBits, Ideal.ieee]; rfl⟩
  obtain ⟨w, hw⟩ := hw
  refine ⟨a - b + w, ?_⟩
  unfold lam
  rw [ha, hb, hw, EReal.coe_add, EReal.coe_sub]

/-- A row of the block before the norm. -/
theorem less_row (x0 : Vec Ideal S1024x128 .bf16) (x1 x2 : Vec Ideal S4096x128 .bf16) (x3 : Vec Ideal S4x64 .f32)
    (p : Fin 1024) (d : Fin 128) (q : ℕ → EReal) (k : ℕ → ℕ → EReal) (v : ℕ → EReal) (a b : ℕ → ℝ)
    (hq : ∀ e : Fin 128, x0 (ix2 p e) = q e.val) (hk : ∀ (j : Fin 4096) (e : Fin 128), x1 (ix2 j e) = k j.val e.val)
    (hv : ∀ j : Fin 4096, x2 (ix2 j d) = v j.val) (hr : ∀ j : Fin 4096, ∃ x : ℝ, v j.val = (x : EReal))
    (hl : ∃ x : ℝ, lam (fun a e => x3 (ix2 a e)) = (x : EReal))
    (ha : ∀ j : Fin 4096, ∑ e : Fin 64, q (0 + e.val) * k j.val (0 + e.val) = (a j.val : EReal))
    (hb : ∀ j : Fin 4096, ∑ e : Fin 64, q (64 + e.val) * k j.val (64 + e.val) = (b j.val : EReal)) :
    less (attended (low x0) x1 x2) (attended (high x0) x1 x2) x3 (ix2 p d)
      = ∑ j : Fin 4096, v j.val * (OnlineSoftmax.weight (fun i : Fin 4096 => (a i.val : EReal)) j
        - lam (fun a e => x3 (ix2 a e)) * OnlineSoftmax.weight (fun i : Fin 4096 => (b i.val : EReal)) j) := by
  have h0 := attended_row (low x0) x1 x2 p d a v (fun j => by
    refine Eq.trans (Finset.sum_congr rfl fun e _ => ?_) ((sum_low q (k j.val)).trans (Eq.trans (Finset.sum_congr rfl fun e _ => ?_) (ha j)))
    · rw [low_apply, hq, hk]
    · rw [Nat.zero_add]) hv
  have h1 := attended_row (high x0) x1 x2 p d b v (fun j => by
    refine Eq.trans (Finset.sum_congr rfl fun e _ => ?_) ((sum_high q (k j.val)).trans (hb j))
    rw [high_apply, hq, hk]) hv
  obtain ⟨u, hu⟩ := OnlineSoftmax.weight_real a (n := 4096) (by decide)
  obtain ⟨w, hw⟩ := OnlineSoftmax.weight_real b (n := 4096) (by decide)
  rw [less_apply, h0, h1]
  exact OnlineSoftmax.sum_sub_mul (fun j : Fin 4096 => v j.val) _ _ _ hr (fun j => ⟨u j, hu j⟩) (fun j => ⟨w j, hw j⟩) hl

section Values
variable (μ : (ℓ : Loc nD τ sig) → Buf (Elt Ideal) ℓ)
variable (c : Dev nD) (hA : Between (a := 8192) (b := 4352) (μ ((c : Thread nD τ).loc main_arg0)) 1024 2048)
  (hV : Between (a := 8192) (b := 2048) (μ ((c : Thread nD τ).loc main_arg1)) 512 1024)
  (hP : Real (s := S4x64) (μ ((c : Thread nD τ).loc main_arg2)))
include hA hV hP

theorem written (t : Fin cfg0.N) (y : S1024x128.Idx) (z : S8192x1024.Idx)
    (h0 : (z 0).val = (t.val / 32 * 4 + t.val % 4) * 1024 + (y 0).val) (h1 : (z 1).val = t.val / 4 % 8 * 128 + (y 1).val) :
    out0_5 (F := Ideal) (iblk μ c 0 t) (iblk μ c 1 t) (iblk μ c 2 t) (iblk μ c 3 t) (iblk μ c 4 t) y
      = G (μ ((c : Thread nD τ).loc main_arg0)) (μ ((c : Thread nD τ).loc main_arg1))
      (μ ((c : Thread nD τ).loc main_arg2)) (μ ((c : Thread nD τ).loc main_arg3)) z := by
  have ht : t.val < 64 := Nat.lt_of_lt_of_eq t.isLt N_0
  obtain ⟨p, d, rfl⟩ : ∃ (p : Fin 1024) (d : Fin 128), y = ix2 p d := ⟨y 0, y 1, eq_ix2 y⟩
  have h0 : (z 0).val = (t.val / 32 * 4 + t.val % 4) * 1024 + p.val := h0
  have h1 : (z 1).val = t.val / 4 % 8 * 128 + d.val := h1
  have hp := p.isLt
  have hd := d.isLt
  have hb : (z 0).val / 4096 = t.val / 32 := by omega
  have hh : (z 1).val / 128 = t.val / 4 % 8 := by omega
  have hm : (⟨(z 1).val % 128, Nat.mod_lt _ (by decide)⟩ : Fin 128) = d := Fin.ext (by show (z 1).val % 128 = d.val; omega)
  have hl : (fun (a : Fin 4) (e : Fin 64) => iblk μ c 3 t (ix2 a e)) = fun a e => μ ((c : Thread nD τ).loc main_arg2) (ix2 a e) := by
    funext a e
    exact parameters_apply μ c t (ix2 a e)
  obtain ⟨s, hs⟩ := score_real _ hA 0 (z 0).val ((z 1).val / 128) (by decide) (by omega)
  obtain ⟨u, hu⟩ := score_real _ hA 64 (z 0).val ((z 1).val / 128) (by decide) (by omega)
  have hr := lam_real (fun a e => μ ((c : Thread nD τ).loc main_arg2) (ix2 a e)) (fun a e => hP (ix2 a e))
  rw [out_eq]
  refine (normed_apply _ _ p d).trans ?_
  rw [gain_apply μ c t d]
  unfold G
  rw [hm]
  refine congrArg (fun f : Fin 128 → EReal => unit f _ d) (funext fun e => ?_)
  have he := e.isLt
  refine (less_row (iblk μ c 0 t) (iblk μ c 1 t) (iblk μ c 2 t) (iblk μ c 3 t) p e
    (fun n => entry (a := 8192) (b := 4352) (μ ((c : Thread nD τ).loc main_arg0)) (z 0).val (1024 + (z 1).val / 128 * 128 + n))
    (fun j n => entry (a := 8192) (b := 4352) (μ ((c : Thread nD τ).loc main_arg0)) ((z 0).val / 4096 * 4096 + j) (2048 + (z 1).val / 128 * 128 + n))
    (fun j => entry (a := 8192) (b := 2048) (μ ((c : Thread nD τ).loc main_arg1)) ((z 0).val / 4096 * 4096 + j) (512 + (z 1).val / 128 * 128 + e.val))
    s u (fun f => ?_) (fun j f => ?_) (fun j => ?_) (fun j => ?_) ?_ (fun j => hs j.val) (fun j => hu j.val)).trans ?_
  · have hf := f.isLt
    rw [entry_of _ _ _ (by omega) (by omega)]
    exact queries_apply μ c t (ix2 p f) _ h0 (by show 1024 + (z 1).val / 128 * 128 + f.val = (8 + t.val / 4 % 8) * 128 + f.val; omega)
  · have hf := f.isLt
    have hj := j.isLt
    rw [entry_of _ _ _ (by omega) (by omega)]
    exact keys_apply μ c t (ix2 j f) _ (by show (z 0).val / 4096 * 4096 + j.val = _; rw [hb])
      (by show 2048 + (z 1).val / 128 * 128 + f.val = (16 + t.val / 4 % 8) * 128 + f.val; omega)
  · have hj := j.isLt
    rw [entry_of _ _ _ (by omega) (by omega)]
    exact values_apply μ c t (ix2 j e) _ (by show (z 0).val / 4096 * 4096 + j.val = _; rw [hb])
      (by show 512 + (z 1).val / 128 * 128 + e.val = (4 + t.val / 4 % 8) * 128 + e.val; omega)
  · show ∃ x : ℝ, entry _ _ (512 + (z 1).val / 128 * 128 + e.val) = _
    rw [show 512 + (z 1).val / 128 * 128 + e.val = 512 + ((z 1).val / 128 * 128 + e.val) by omega]
    exact hV _ _ (by omega)
  · rw [hl]
    exact hr
  · rw [hl]
    unfold mix
    simp only [hs, hu]

/-- The result array after the run. -/
theorem final :
    (dats μ 0 c).arrAt 5 cfg0.N = G (μ ((c : Thread nD τ).loc main_arg0)) (μ ((c : Thread nD τ).loc main_arg1))
      (μ ((c : Thread nD τ).loc main_arg2)) (μ ((c : Thread nD τ).loc main_arg3)) := by
  refine (dats μ 0 c).arrAt_eq_of_covers 5 _ ?_ fun t hf (y : S1024x128.Idx) => ?_
  · exact of_decide_eq_true (by sl_kernel_rfl)
  · refine (congrFun (after0_5 μ c t) y).trans (written μ c hA hV hP t y _ ?_ ?_)
    · show (IntOp.addi (IntOp.muli (BitVec.ofNat 32 (grid0.coords t 0).val) 4#32) (BitVec.ofNat 32 (grid0.coords t 2).val)).toNat
        * 1024 + 1 * (y 0).val = _
      rw [rowBlock]
      omega
    · show (BitVec.ofNat 32 (grid0.coords t 1).val).toNat * 128 + 1 * (y 1).val = _
      rw [headBlock]
      omega

end Values

/-- The run, the numbers attended with being finite: the result array holds the differential attention, the arguments end unchanged. -/
theorem run (μ : (ℓ : Loc nD τ sig) → Buf (Elt Ideal) ℓ) (ρ : Dev nD → PrngReg)
    (hA : ∀ c : Dev nD, Between (a := 8192) (b := 4352) (μ ((c.tc : Thread nD τ).loc main_arg0)) 1024 2048)
    (hV : ∀ c : Dev nD, Between (a := 8192) (b := 2048) (μ ((c.tc : Thread nD τ).loc main_arg1)) 512 1024)
    (hP : ∀ c : Dev nD, Real (s := S4x64) (μ ((c.tc : Thread nD τ).loc main_arg2))) :
    θ_run (defs (F := Ideal)) (onTc (τ := τ) (main (F := Ideal))) ⟨μ, fun _ => 0, ρ⟩ (fun r => ∀ c : Dev nD,
      r.2.mem ((c.tc : Thread nD τ).loc main_v1)
        = G (μ ((c.tc : Thread nD τ).loc main_arg0)) (μ ((c.tc : Thread nD τ).loc main_arg1)) (μ ((c.tc : Thread nD τ).loc main_arg2))
          (μ ((c.tc : Thread nD τ).loc main_arg3))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)) :=
  (θ_run defs _ _).mono (fun r h c => ⟨(h c).1.trans (final μ c (hA c) (hV c) (hP c)), (h c).2⟩) (Cert.Kernel11Ideal.Value.run_blocks μ ρ)

end Cert.Proof.Diff

end
-- ==== Proof.DiffReference.lean ====
/-
  The reference of the differential attention, entry by entry what the kernel's call leaves.
-/
module

public import proofs.«01_k».proof.Proof.DiffRun
public import proofs.«01_k».proof.Proof.MlaReference
public import proofs.«01_k».proof.Proof.Gen.Reference11Ideal.Run
public import Idealize.ShloMosaic.Lib.IdealHost
public import Idealize.ShloMosaic.Lib.Pointwise.Reduce

@[expose] public section

noncomputable section

namespace Cert.Proof.Diff

open Idealize.ShloMosaic hiding ix1 ix2 ix3 ix4
open Idealize.ShloMosaic.TcCoe Idealize.SL.Sem
open Cert.Reference11Ideal Cert.Reference11Ideal.Gen Idealize.ShloMosaic.ValueIdx
open Cert.Proof.Mla (entry entry_of row_of parted shares shares_apply gathered)

/-! ## The arguments by batch, row, head and column -/

theorem sliced (n o : ℕ) (a : FVec Ideal ⟨2, ![8192, n]⟩ .bf16) (hs : (⟨2, ![8192, n]⟩ : Shape).Slices ![0, o] S8192x1024) (hn : o + 1024 ≤ n)
    (i j : ℕ) (hi : i < 8192) (hj : j < 1024) :
    entry (a := 8192) (b := 1024) (extractStridedSlice S8192x1024 ![0, o] a hs) i j = entry (a := 8192) (b := n) a i (o + j) := by
  rw [entry_of _ _ _ hi hj, entry_of _ _ _ hi (by omega)]
  refine extractStridedSlice_apply _ a hs _ _ fun x => ?_
  match x with
  | ⟨0, _⟩ => exact (Nat.zero_add _).symm
  | ⟨1, _⟩ => rfl

/-- 1024 columns laid out by batch, row, head and column. -/
def columns (n o : ℕ) (a : FVec Ideal ⟨2, ![8192, n]⟩ .bf16) (hs : (⟨2, ![8192, n]⟩ : Shape).Slices ![0, o] S8192x1024) :
    FVec Ideal S2x4096x8x128 .f32 :=
  shapeCast S2x4096x8x128 (extf .f32 (extractStridedSlice S8192x1024 ![0, o] a hs) bitsLt_bf16_f32) shapeCasts_S8192x1024_S2x4096x8x128

theorem columns_apply (n o : ℕ) (a : FVec Ideal ⟨2, ![8192, n]⟩ .bf16) (hs) (hn : o + 1024 ≤ n)
    (b : Fin 2) (i : Fin 4096) (h : Fin 8) (d : Fin 128) :
    columns n o a hs (ix4 b i h d) = entry (a := 8192) (b := n) a (b.val * 4096 + i.val) (o + h.val * 128 + d.val) := by
  have hb := row_of b i
  have hh : h.val * 128 + d.val < 1024 := by have := h.isLt; have := d.isLt; omega
  refine (parted _ b i h d).trans ((sliced n o a hs hn _ _ hb hh).trans ?_)
  rw [Nat.add_assoc]

/-- A half of a head's columns. -/
theorem half_apply (o : ℕ) (x : FVec Ideal S2x4096x8x128 .f32) (hs : S2x4096x8x128.Slices ![0, 0, 0, o] S2x4096x8x64)
    (b : Fin 2) (i : Fin 4096) (h : Fin 8) (e : Fin 64) (ho : o + e.val < 128) :
    extractStridedSlice S2x4096x8x64 ![0, 0, 0, o] x hs (ix4 b i h e) = x (ix4 b i h ⟨o + e.val, ho⟩) := by
  refine extractStridedSlice_apply _ x hs _ _ fun a => ?_
  match a with
  | ⟨0, _⟩ => exact (Nat.zero_add _).symm
  | ⟨1, _⟩ => exact (Nat.zero_add _).symm
  | ⟨2, _⟩ => exact (Nat.zero_add _).symm
  | ⟨3, _⟩ => rfl

theorem scored (A B : FVec Ideal S2x4096x8x64 .f32) (b : Fin 2) (h : Fin 8) (i j : Fin 4096) :
    Host.dotGeneral dot_S2x4096x8x64_S2x4096x8x64_S2x8x4096x4096_3_3_1_1_02_02 none A B (ix4 b h i j)
      = ∑ e : Fin 64, (A (ix4 b i h e) * B (ix4 b j h e) : EReal) := by
  let D := dot_S2x4096x8x64_S2x4096x8x64_S2x8x4096x4096_3_3_1_1_02_02
  show FloatOps.dotGeneral D none _ A B (ix4 b h i j) = _
  rw [Ideal.dotGeneral_apply, ← Equiv.sum_comp (contrEquiv1 D 64 rfl rfl).symm]
  refine Finset.sum_congr rfl fun e _ => ?_
  have he := contrEquiv1_symm_val D 64 rfl rfl e
  have el : D.lhsIdx (ix4 b h i j) ((contrEquiv1 D 64 rfl rfl).symm e) = ix4 b i h e := by
    funext a; apply Fin.ext
    match a with
    | ⟨0, _⟩ => rfl
    | ⟨1, _⟩ => rfl
    | ⟨2, _⟩ => rfl
    | ⟨3, _⟩ => exact he
  have er : D.rhsIdx (ix4 b h i j) ((contrEquiv1 D 64 rfl rfl).symm e) = ix4 b j h e := by
    funext a; apply Fin.ext
    match a with
    | ⟨0, _⟩ => rfl
    | ⟨1, _⟩ => rfl
    | ⟨2, _⟩ => rfl
    | ⟨3, _⟩ => exact he
  rw [el, er]

/-- The scores over a half of the columns. -/
def scores4 (o : ℕ) (A : FVec Ideal S8192x4352 .bf16) (hs : S2x4096x8x128.Slices ![0, 0, 0, o] S2x4096x8x64) : FVec Ideal S2x8x4096x4096 .f32 :=
  Host.dotGeneral dot_S2x4096x8x64_S2x4096x8x64_S2x8x4096x4096_3_3_1_1_02_02 none
    (extractStridedSlice S2x4096x8x64 ![0, 0, 0, o] (columns 4352 1024 A slices_S8192x4352_S8192x1024_0_1024) hs)
    (extractStridedSlice S2x4096x8x64 ![0, 0, 0, o] (columns 4352 2048 A slices_S8192x4352_S8192x1024_0_2048) hs)

theorem scores4_apply (o : ℕ) (ho : o ≤ 64) (A : FVec Ideal S8192x4352 .bf16) (hs) (b : Fin 2) (h : Fin 8) (i j : Fin 4096) :
    scores4 o A hs (ix4 b h i j) = score A o (b.val * 4096 + i.val) h.val j.val := by
  refine (scored _ _ b h i j).trans (Finset.sum_congr rfl fun e _ => ?_)
  have hb : (b.val * 4096 + i.val) / 4096 = b.val := by have := i.isLt; omega
  have he : o + e.val < 128 := by have := e.isLt; omega
  rw [hb]
  exact congrArg₂ (fun x y : EReal => x * y)
    ((half_apply o _ hs b i h e he).trans (columns_apply 4352 1024 A _ (by decide) b i h ⟨o + e.val, he⟩))
    ((half_apply o _ hs b j h e he).trans (columns_apply 4352 2048 A _ (by decide) b j h ⟨o + e.val, he⟩))

/-! ## The factor -/

theorem parameter_row (r : ℕ) (P : FVec Ideal S4x64 .f32) (hs : S4x64.Slices ![r, 0] S1x64) (hr : r < 4) (e : Fin 64) :
    shapeCast S64 (extractStridedSlice S1x64 ![r, 0] P hs) shapeCasts_S1x64_S64 (ix1 e) = P (ix2 ⟨r, hr⟩ e) := by
  refine (shapeCast_apply _ _ (ix1 e) (ix2 (0 : Fin 1) e) ?_).trans (extractStridedSlice_apply _ P hs _ _ fun a => ?_)
  · rw [Shape.rowMajor_val_one, Shape.rowMajor_val_two]
    show 0 * 64 + e.val = e.val
    omega
  · match a with
    | ⟨0, _⟩ => rfl
    | ⟨1, _⟩ => exact (Nat.zero_add _).symm

/-- The exponential of the product of two rows of the parameters. -/
def power0 (r s : ℕ) (P : FVec Ideal S4x64 .f32) (hr : S4x64.Slices ![r, 0] S1x64) (hs : S4x64.Slices ![s, 0] S1x64) : FVec Ideal S_ .f32 :=
  Host.exp (Host.reduceAdd (mulf (shapeCast S64 (extractStridedSlice S1x64 ![r, 0] P hr) shapeCasts_S1x64_S64)
    (shapeCast S64 (extractStridedSlice S1x64 ![s, 0] P hs) shapeCasts_S1x64_S64)) (constant S_ .f32 0x00000000#32) reducesTo_S64_S_d0 h_S_)

theorem power0_apply (r s : ℕ) (P : FVec Ideal S4x64 .f32) (hr) (hs) (lr : r < 4) (ls : s < 4) (z : S_.Idx) :
    power0 r s P hr hs z = power (fun a e => P (ix2 a e)) ⟨r, lr⟩ ⟨s, ls⟩ := by
  refine congrArg Ideal.exp ?_
  refine (Ideal.hostReduceAdd_r1_a0 reducesTo_S64_S_d0 _ _ z).trans ?_
  rw [show constant (F := Ideal) S_ .f32 0x00000000#32 (Shape.Idx.first h_S_) = (0 : EReal) from Ideal.ofBits_zero_f32, zero_add]
  exact Finset.sum_congr rfl fun e _ => congrArg₂ (fun a b : EReal => a * b) (parameter_row r P hr lr e) (parameter_row s P hs ls e)

def factor0 (P : FVec Ideal S4x64 .f32) : FVec Ideal S_ .f32 :=
  addf (subf (power0 0 1 P slices_S4x64_S1x64_0_0 slices_S4x64_S1x64_1_0) (power0 2 3 P slices_S4x64_S1x64_2_0 slices_S4x64_S1x64_3_0))
    (constant S_ .f32 0x3E4CCCCD#32)

theorem factor0_apply (P : FVec Ideal S4x64 .f32) (z : S_.Idx) : factor0 P z = lam (fun a e => P (ix2 a e)) :=
  congrArg₂ (fun a b : EReal => a - b + Ideal.ofBits .f32 0x3E4CCCCD#32) (power0_apply 0 1 P _ _ (by decide) (by decide) z)
    (power0_apply 2 3 P _ _ (by decide) (by decide) z)

/-! ## The weights' difference and the weighted values -/

/-- The first shares less the factor times the second. -/
def differed (A : FVec Ideal S8192x4352 .bf16) (P : FVec Ideal S4x64 .f32) : FVec Ideal S2x8x4096x4096 .f32 :=
  subf (shares (scores4 0 A slices_S2x4096x8x128_S2x4096x8x64_0_0_0_0))
    (mulf (broadcastInDim S2x8x4096x4096 ![] bcast_S_S2x8x4096x4096 (factor0 P))
      (shares (scores4 64 A slices_S2x4096x8x128_S2x4096x8x64_0_0_0_64)))

theorem differed_of (s t : FVec Ideal S2x8x4096x4096 .f32) (l : FVec Ideal S_ .f32) (c : EReal) (hl : ∀ z, l z = c) (z : S2x8x4096x4096.Idx) :
    subf s (mulf (broadcastInDim S2x8x4096x4096 ![] bcast_S_S2x8x4096x4096 l) t) z = (s z - c * t z : EReal) :=
  congrArg (fun x : EReal => (s z : EReal) - x * t z) ((broadcastInDim_scalar_apply _ l z).trans (hl _))

theorem shares_of (o : ℕ) (ho : o ≤ 64) (A : FVec Ideal S8192x4352 .bf16) (hs) (b : Fin 2) (h : Fin 8) (i j : Fin 4096) :
    shares (scores4 o A hs) (ix4 b h i j) = OnlineSoftmax.weight (fun k : Fin 4096 => score A o (b.val * 4096 + i.val) h.val k.val) j := by
  refine (shares_apply _ b h i j).trans (congrArg (fun s : Fin 4096 → EReal => OnlineSoftmax.weight s j) (funext fun k => ?_))
  exact scores4_apply o ho A hs b h i k

theorem differed_apply (A : FVec Ideal S8192x4352 .bf16) (P : FVec Ideal S4x64 .f32) (b : Fin 2) (h : Fin 8) (i j : Fin 4096) :
    differed A P (ix4 b h i j) = OnlineSoftmax.weight (fun k : Fin 4096 => score A 0 (b.val * 4096 + i.val) h.val k.val) j
      - lam (fun a e => P (ix2 a e)) * OnlineSoftmax.weight (fun k : Fin 4096 => score A 64 (b.val * 4096 + i.val) h.val k.val) j := by
  unfold differed
  rw [differed_of _ _ _ _ (factor0_apply P), shares_of 0 (by decide), shares_of 64 (by decide)]

def headed (A : FVec Ideal S8192x4352 .bf16) (V : FVec Ideal S8192x2048 .bf16) (P : FVec Ideal S4x64 .f32) : FVec Ideal S2x4096x8x128 .f32 :=
  transpose S2x4096x8x128 [0, 3, 1, 2]
    (Host.dotGeneral dot_S2x4096x8x128_S2x8x4096x4096_S2x8x128x4096_1_3_3_2_02_01 none
      (columns 2048 512 V slices_S8192x2048_S8192x1024_0_512) (differed A P))
    transposes_S2x8x128x4096_S2x4096x8x128_0_3_1_2

theorem headed_apply (A : FVec Ideal S8192x4352 .bf16) (V : FVec Ideal S8192x2048 .bf16) (P : FVec Ideal S4x64 .f32)
    (b : Fin 2) (i : Fin 4096) (h : Fin 8) (d : Fin 128) :
    headed A V P (ix4 b i h d) = mix A V (lam fun a e => P (ix2 a e)) (b.val * 4096 + i.val) h.val d.val := by
  have hb : (b.val * 4096 + i.val) / 4096 = b.val := by have := i.isLt; omega
  refine (transpose_apply _ _ _ (ix4 b i h d) (ix4 b h d i) fun a => ?_).trans ?_
  · match a with
    | ⟨0, _⟩ => rfl
    | ⟨1, _⟩ => rfl
    | ⟨2, _⟩ => rfl
    | ⟨3, _⟩ => rfl
  refine (gathered _ _ b h d i).trans ?_
  unfold mix
  rw [hb]
  exact Finset.sum_congr rfl fun j _ => congrArg₂ (fun x y : EReal => x * y)
    (columns_apply 2048 512 V _ (by decide) b j h d) (differed_apply A P b h i j)

/-! ## The norm -/

theorem reduces_columns : S2x4096x8x128.Reduces [3] S2x4096x8 := by decide

/-- One over the root of the mean square, with the small number in it. -/
def scaled4 (o : FVec Ideal S2x4096x8x128 .f32) : FVec Ideal S2x4096x8x1 .f32 :=
  Host.rsqrt (addf (Host.divf (broadcastInDim S2x4096x8x1 ![0, 1, 2] bcast_S2x4096x8_S2x4096x8x1_0_1_2
    (Host.reduceAdd (mulf o o) (constant S_ .f32 0x00000000#32) reducesTo_S2x4096x8x128_S2x4096x8_d3 h_S_))
    (broadcastInDim S2x4096x8x1 ![] bcast_S_S2x4096x8x1 (constant S_ .f32 0x43000000#32)))
    (broadcastInDim S2x4096x8x1 ![] bcast_S_S2x4096x8x1 (constant S_ .f32 0x3727C5AC#32)))

theorem scaled4_apply (o : FVec Ideal S2x4096x8x128 .f32) (b : Fin 2) (i : Fin 4096) (h : Fin 8) :
    scaled4 o (ix4 b i h (0 : Fin 1)) = Ideal.rsqrt (Ideal.div (∑ e : Fin 128, (o (ix4 b i h e) * o (ix4 b i h e) : EReal))
      (Ideal.ofBits .f32 0x43000000#32) + Ideal.ofBits .f32 0x3727C5AC#32) := by
  refine congrArg (fun x : EReal => Ideal.rsqrt (Ideal.div x (Ideal.ofBits .f32 0x43000000#32) + Ideal.ofBits .f32 0x3727C5AC#32)) ?_
  refine (broadcastInDim_apply _ _ _ (ix4 b i h (0 : Fin 1)) (ix3 b i h) fun a => ?_).trans ?_
  · match a with
    | ⟨0, _⟩ => rfl
    | ⟨1, _⟩ => rfl
    | ⟨2, _⟩ => rfl
  · exact Rows.host_summed 2 4096 8 128 (mulf o o) _ reducesTo_S2x4096x8x128_S2x4096x8_d3 reduces_columns Ideal.ofBits_zero_f32 b i h

def normed4 (o : FVec Ideal S2x4096x8x128 .f32) (g : FVec Ideal S128 .f32) : FVec Ideal S2x4096x8x128 .f32 :=
  mulf (mulf (mulf o (broadcastInDim S2x4096x8x128 ![0, 1, 2, 3] bcast_S2x4096x8x1_S2x4096x8x128_0_1_2_3 (scaled4 o)))
    (broadcastInDim S2x4096x8x128 ![0, 1, 2, 3] bcast_S1x1x1x128_S2x4096x8x128_0_1_2_3
      (broadcastInDim S1x1x1x128 ![3] bcast_S128_S1x1x1x128_3 g)))
    (broadcastInDim S2x4096x8x128 ![] bcast_S_S2x4096x8x128 (constant S_ .f32 0x3F4CCCCD#32))

theorem normed4_apply (o : FVec Ideal S2x4096x8x128 .f32) (g : FVec Ideal S128 .f32) (b : Fin 2) (i : Fin 4096) (h : Fin 8) (d : Fin 128) :
    normed4 o g (ix4 b i h d) = unit (fun e => o (ix4 b i h e)) (g (ix1 d)) d := by
  refine congrArg₂ (fun x y : EReal => o (ix4 b i h d) * x * y * Ideal.ofBits .f32 0x3F4CCCCD#32) ?_ ?_
  · refine (broadcastInDim_apply _ _ _ (ix4 b i h d) (ix4 b i h (0 : Fin 1)) fun a => ?_).trans (scaled4_apply o b i h)
    match a with
    | ⟨0, _⟩ => rfl
    | ⟨1, _⟩ => rfl
    | ⟨2, _⟩ => rfl
    | ⟨3, _⟩ => rfl
  · refine (broadcastInDim_apply _ _ _ (ix4 b i h d) (ix4 (0 : Fin 1) (0 : Fin 1) (0 : Fin 1) d) fun a => ?_).trans
      (broadcastInDim_apply _ _ g _ (ix1 d) fun a => ?_)
    · match a with
      | ⟨0, _⟩ => rfl
      | ⟨1, _⟩ => rfl
      | ⟨2, _⟩ => rfl
      | ⟨3, _⟩ => rfl
    · match a with
      | ⟨0, _⟩ => rfl

/-! ## The result -/

/-- The reference's result, of its arguments. -/
def attention (A : FVec Ideal S8192x4352 .bf16) (V : FVec Ideal S8192x2048 .bf16) (P : FVec Ideal S4x64 .f32) (g : FVec Ideal S128 .f32) :
    FVec Ideal S8192x1024 .bf16 :=
  truncf .bf16 (shapeCast S8192x1024 (normed4 (headed A V P) g) shapeCasts_S2x4096x8x128_S8192x1024) bitsLt_bf16_f32

theorem attention_apply (A : FVec Ideal S8192x4352 .bf16) (V : FVec Ideal S8192x2048 .bf16) (P : FVec Ideal S4x64 .f32)
    (g : FVec Ideal S128 .f32) (b : Fin 2) (i : Fin 4096) (h : Fin 8) (d : Fin 128) (z : S8192x1024.Idx)
    (z0 : (z 0).val = b.val * 4096 + i.val) (z1 : (z 1).val = h.val * 128 + d.val) :
    attention A V P g z = G A V P g z := by
  have hh : (z 1).val / 128 = h.val := by have := d.isLt; omega
  have hm : (⟨(z 1).val % 128, Nat.mod_lt _ (by decide)⟩ : Fin 128) = d :=
    Fin.ext (by show (z 1).val % 128 = d.val; have := d.isLt; omega)
  refine Eq.trans (b := shapeCast S8192x1024 (normed4 (headed A V P) g) shapeCasts_S2x4096x8x128_S8192x1024 z) rfl ?_
  refine (shapeCast_apply _ shapeCasts_S2x4096x8x128_S8192x1024 z (ix4 b i h d) ?_).trans ?_
  · rw [Shape.rowMajor_val_two, Shape.rowMajor_val_four, z0, z1]
    show ((b.val * 4096 + i.val) * 8 + h.val) * 128 + d.val = (b.val * 4096 + i.val) * 1024 + (h.val * 128 + d.val)
    omega
  refine (normed4_apply _ g b i h d).trans ?_
  unfold G
  rw [hm, z0, hh]
  exact congrArg (fun f : Fin 128 → EReal => unit f (g (ix1 d)) d) (funext fun e => headed_apply A V P b i h e)

theorem attention_eq (A : FVec Ideal S8192x4352 .bf16) (V : FVec Ideal S8192x2048 .bf16) (P : FVec Ideal S4x64 .f32)
    (g : FVec Ideal S128 .f32) : attention A V P g = G A V P g := by
  funext z
  have h0 : (z 0).val < 8192 := (z 0).isLt
  have h1 : (z 1).val < 1024 := (z 1).isLt
  exact attention_apply A V P g ⟨(z 0).val / 4096, by omega⟩ ⟨(z 0).val % 4096, by omega⟩ ⟨(z 1).val / 128, by omega⟩
    ⟨(z 1).val % 128, by omega⟩ z (by show _ = (z 0).val / 4096 * 4096 + (z 0).val % 4096; omega)
    (by show _ = (z 1).val / 128 * 128 + (z 1).val % 128; omega)

/-- The reference's run, at the value the kernel's run ends with. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v74)
        = G (m ((c.tc : Thread nD τ).loc main_arg0)) (m ((c.tc : Thread nD τ).loc main_arg1)) (m ((c.tc : Thread nD τ).loc main_arg2))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨(h c).1.trans ?_, (h c).2⟩) (Cert.Reference11Ideal.Value.run (F := Ideal) m ρ)
  refine Eq.trans ?_ (attention_eq (m ((c.tc : Thread nD τ).loc main_arg0)) (m ((c.tc : Thread nD τ).loc main_arg1))
    (m ((c.tc : Thread nD τ).loc main_arg2)) (m ((c.tc : Thread nD τ).loc main_arg3)))
  unfold Cert.Reference11Ideal.Value.res_main_v74 attention normed4 scaled4 headed differed factor0 power0 Mla.shares Mla.powers Mla.peaks
    Mla.over scores4 columns
  rfl

end Cert.Proof.Diff

end
-- ==== Proof.DiffClaims.lean ====
/-
  The claims about the differential attention: both programs' frames from one run, and the value where what it attends with is finite.
-/
module

public import proofs.«01_k».proof.Defs
public import proofs.«01_k».proof.Proof.DiffReference
public import proofs.«01_k».proof.Proof.MlaClaims
public import proofs.«01_k».proof.Proof.Gen.Kernel11
public import Idealize.ShloMosaic.Lib.ReduceAll

@[expose] public section

noncomputable section

namespace Cert.Proof.Diff

open Idealize.ShloMosaic hiding ix1 ix2 ix3 ix4
open Idealize.SL.Sem Idealize.ShloMosaic.ValueIdx
open Cert.Proof.Mla (Real entry entry_of real_of_test real_of_below)

section Same
variable {F : FTy → Type} [FloatOps F]

/-- The program as printed and the program read over the reals have one text: one set of bodies. -/
theorem bodies_eq : Cert.Kernel11.defs₀ (F := F) = Cert.Kernel11Ideal.defs₀ (F := F) := by
  unfold Cert.Kernel11.defs₀ Cert.Kernel11Ideal.defs₀
  refine congrArg Defs.onTc (funext fun l => ?_)
  match l with
  | 0 => rfl

theorem defs_eq : Cert.Kernel11.defs (F := F) = Cert.Kernel11Ideal.defs (F := F) := by
  unfold Cert.Kernel11.defs Cert.Kernel11Ideal.defs
  exact congrArg _ bodies_eq

end Same

/-! ## The precondition -/

/-- The precondition's own side conditions. -/
theorem facts_finite : Cert.Pre_finite_diff.Facts where
  slices_S8192x4352_S8192x2048_0_1024 := by decide
  bitsLt_bf16_f32 := by decide
  bcast_S_S8192x2048 := by decide
  reducesTo_S8192x2048_S_d0_1 := by decide
  h_S_ := by decide
  slices_S8192x2048_S8192x1024_0_512 := by decide
  bcast_S_S8192x1024 := by decide
  reducesTo_S8192x1024_S_d0_1 := by decide
  bcast_S_S4x64 := by decide
  reducesTo_S4x64_S_d0_1 := by decide

/-- Where the test of all entries says 1, all entries are real: without the widening. -/
theorem real_of_plain_test {s t u : Shape} {axes : List (Fin s.rank)} [Subsingleton t.Idx] (v : FVec Ideal s .f32)
    (top : FVec Ideal s .f32) (htop : ∀ z, top z = Ideal.ofBits .f32 0x7F800000#32) (one : u.Idx → BitVec 1) (h : s.ReducesTo axes t)
    (hu : 0 < u.numel) (j : t.Idx)
    (e : Host.reduce IntOp.andi (cmpf .olt (Host.absf v) top) one h hu j = 1#1) : Real (s := s) v := fun z => by
  have e1 := Host.reduce_andi_all _ one h hu j e z
  refine real_of_below (v z) ?_
  rw [← htop z]
  exact e1

/-- If the columns that are cut out are real, they are real where they stand. -/
theorem between_of_slice (n o k : ℕ) (a : FVec Ideal ⟨2, ![8192, n]⟩ .bf16) (hs : (⟨2, ![8192, n]⟩ : Shape).Slices ![0, o] ⟨2, ![8192, k]⟩)
    (hn : o + k ≤ n) (h : Real (s := ⟨2, ![8192, k]⟩) (extractStridedSlice ⟨2, ![8192, k]⟩ ![0, o] a hs)) :
    Between (a := 8192) (b := n) a o k := fun i j hj => by
  by_cases hi : i < 8192
  · obtain ⟨x, hx⟩ := h (ix2 ⟨i, hi⟩ ⟨j, hj⟩)
    refine ⟨x, ?_⟩
    rw [entry_of _ _ _ hi (by omega), ← hx]
    refine (extractStridedSlice_apply _ a hs _ _ fun x => ?_).symm
    match x with
    | ⟨0, _⟩ => exact (Nat.zero_add _).symm
    | ⟨1, _⟩ => rfl
  · refine ⟨0, ?_⟩
    unfold entry
    rw [dif_neg (fun e => hi e.1)]
    rfl

instance : Subsingleton Cert.Pre_finite_diff.S_.Idx := ⟨fun a b => funext fun x => x.elim0⟩

/-- The precondition makes the queries, the keys, the values and the parameters real. -/
theorem real_of_pre [hf : Cert.Pre_finite_diff.Facts] (a : FVec Ideal Cert.Pre_finite_diff.S8192x4352 .bf16)
    (v : FVec Ideal Cert.Pre_finite_diff.S8192x2048 .bf16) (p : FVec Ideal Cert.Pre_finite_diff.S4x64 .f32)
    (g : FVec Ideal Cert.Pre_finite_diff.S128 .f32) (h : Cert.Pre_finite_diff.fn (F := Ideal) a v p g = fun _ => 1#1) :
    Between (a := 8192) (b := 4352) a 1024 2048 ∧ Between (a := 8192) (b := 2048) v 512 1024 ∧ Real (s := Cert.Pre_finite_diff.S4x64) p := by
  have h0 := congrFun h (Shape.Idx.first hf.h_S_)
  unfold Cert.Pre_finite_diff.fn at h0
  obtain ⟨h01, h2⟩ := IntOp.andi_eq_one.1 h0
  obtain ⟨h0, h1⟩ := IntOp.andi_eq_one.1 h01
  exact ⟨between_of_slice 4352 1024 2048 a hf.slices_S8192x4352_S8192x2048_0_1024 (by omega) (real_of_test _ _ _ (fun _ => rfl) _ _ _ _ h0),
    between_of_slice 2048 512 1024 v hf.slices_S8192x2048_S8192x1024_0_512 (by omega) (real_of_test _ _ _ (fun _ => rfl) _ _ _ _ h1),
    real_of_plain_test p _ (fun _ => rfl) _ _ _ _ h2⟩

/-! ## The claims -/

theorem frame : Cert.quiescent_Kernel11 := fun m ρ _ => by
  rw [defs_eq]
  exact Cert.Kernel11Ideal.Gen.frame (F := Bits) m ρ

theorem frame_ideal : Cert.quiescent_Kernel11Ideal := fun m ρ _ =>
  Cert.Kernel11Ideal.Gen.frame (F := Ideal) m ρ

theorem frame_ideal_finite : Cert.quiescent_Kernel11Ideal_pre_finite_diff (hPre_finite_diff := facts_finite) := fun m ρ _ =>
  Cert.Kernel11Ideal.Gen.frame (F := Ideal) m ρ

theorem frame_reference : Cert.quiescent_Reference11Ideal := fun m ρ _ =>
  (θ_run _ _ _).mono (fun r h => ⟨fun c => (h c).2, Idealize.ShloMosaic.sem_eq_zero_of_no_sems (by decide) r.2⟩) (reference_run m ρ)

theorem frame_reference_finite : Cert.quiescent_Reference11Ideal_pre_finite_diff (hPre_finite_diff := facts_finite) := fun m ρ _ =>
  (θ_run _ _ _).mono (fun r h => ⟨fun c => (h c).2, Idealize.ShloMosaic.sem_eq_zero_of_no_sems (by decide) r.2⟩) (reference_run m ρ)

theorem algebraic : Cert.algebraic_Kernel11Ideal_Reference11Ideal_pre_finite_diff (hPre_finite_diff := facts_finite) := by
  intro m ρ m' ρ' hpre hargs
  have hr := fun c => real_of_pre (hf := facts_finite) _ _ _ _ (hpre c)
  refine ⟨fun c => G (m ((c.tc : Thread _ _).loc Cert.Kernel11Ideal.main_arg0)) (m ((c.tc : Thread _ _).loc Cert.Kernel11Ideal.main_arg1))
    (m ((c.tc : Thread _ _).loc Cert.Kernel11Ideal.main_arg2)) (m ((c.tc : Thread _ _).loc Cert.Kernel11Ideal.main_arg3)), ?_, ?_⟩
  · exact run m ρ (fun c => (hr c).1) (fun c => (hr c).2.1) (fun c => (hr c).2.2)
  · refine (θ_run _ _ _).mono (fun r h c => ⟨(h c).1.trans ?_, (h c).2⟩) (reference_run m' ρ')
    obtain ⟨e0, e1, e2, e3⟩ := hargs c
    rw [e0, e1, e2, e3]

end Cert.Proof.Diff

end
-- ==== Proof.Norm.lean ====
/-
  The call that takes the rows over the root of their mean square and modulates them: what each grid point writes, and the result
  array after the run.
-/
module

public import proofs.«01_k».proof.Proof.Rows
public import proofs.«01_k».proof.Proof.Out
public import proofs.«01_k».proof.Proof.Gen.Kernel12Ideal.Frame
public import proofs.«01_k».proof.Proof.Gen.Kernel12Ideal.Value

@[expose] public section

noncomputable section

namespace Cert.Proof.Norm

open Idealize.ShloMosaic Idealize.ShloMosaic.TcCoe Idealize.SL.Sem
open Cert.Kernel12Ideal Cert.Kernel12Ideal.Gen Idealize.ShloMosaic.ValueIdx
open Cert.Proof.Out (place residual_rows modulation_rows)

/-! ## One grid point -/

section Points
variable {F : FTy → Type} [FloatOps F]
variable (m : (ℓ : Loc nD τ sig) → Buf (Elt F) ℓ)

theorem out_eq (x0 : Vec F S256x4096 .f32) (x1 : Vec F S1x4096 .f32) (x2 : Vec F S1x6x4096 .f32) :
    out0_3 x0 x1 x2 = k0_pay1 x0 x1 (View.ld x2 r0_2) (View.ld x2 r0_3) := by
  have e : out0_3 x0 x1 x2 = k0_pay1 (View.ld x0 r0_0) (View.ld x1 r0_1) (View.ld x2 r0_2) (View.ld x2 r0_3) := by
    unfold out0_3
    exact View.canon_cons_unit_lit' _ _ _ (by decide)
  rw [e, View.ld_unit_lit' _ x0 (by decide), View.ld_unit_lit' _ x1 (by decide)]

/-- The point `t` is at row block `t`. -/
theorem point (t : Fin grid0.N) : (grid0.coords t 0).val = t.val := by
  have ht : t.val < 32 := Nat.lt_of_lt_of_eq t.isLt N_0
  rw [show (grid0.coords t 0).val = t.val / 1 % 32 from Pipeline.Grid.coords_val t 0 (by decide) rfl]
  omega

theorem word (n : ℕ) (h : n < 32) : (BitVec.ofNat 32 n).toNat = n := by
  rw [BitVec.toNat_ofNat, Nat.mod_eq_of_lt (by omega)]

theorem V_rows (c : Dev nD) :
    V m c main_v0 = shapeCast S8192x4096 (m ((c : Thread nD τ).loc main_arg0)) shapeCasts_S2x4096x4096_S8192x4096 := by
  show StableHlo.after hostOps0 (fun b => m (c, b)) (Proc.devRef .tc main_v0) = _
  unfold hostOps0
  after_results
  rfl

theorem V_gain (c : Dev nD) :
    V m c main_v4 = shapeCast S1x4096 (shapeCast S4096 (extractStridedSlice S1x4096 ![0, 0] (m ((c : Thread nD τ).loc main_arg1))
      slices_S2x4096_S1x4096_0_0) shapeCasts_S1x4096_S4096) shapeCasts_S4096_S1x4096 := by
  show StableHlo.after hostOps0 (fun b => m (c, b)) (Proc.devRef .tc main_v4) = _
  unfold hostOps0
  after_results
  rfl

theorem V_modulation (c : Dev nD) :
    V m c main_v3 = shapeCast S2x6x4096 (m ((c : Thread nD τ).loc main_arg2)) shapeCasts_S2x24576_S2x6x4096 := by
  show StableHlo.after hostOps0 (fun b => m (c, b)) (Proc.devRef .tc main_v3) = _
  unfold hostOps0
  after_results
  rfl

/-- The block of rows at an entry. -/
theorem rows_apply (c : Dev nD) (t : Fin cfg0.N) (y : S256x4096.Idx) (z : S8192x4096.Idx) (w : S2x4096x4096.Idx)
    (hz0 : (z 0).val = t.val * 256 + (y 0).val) (hz1 : (z 1).val = (y 1).val)
    (h0 : (w 0).val = (z 0).val / 4096) (h1 : (w 1).val = (z 0).val % 4096) (h2 : (w 2).val = (z 1).val) :
    iblk m c 0 t y = m ((c : Thread nD τ).loc main_arg0) w := by
  refine Eq.trans ?_ (residual_rows (m ((c : Thread nD τ).loc main_arg0)) shapeCasts_S2x4096x4096_S8192x4096 z w h0 h1 h2)
  show V m c main_v0 (((cfg0.win 0).blk t).view.emb y) = _
  rw [V_rows]
  refine congrArg _ (funext fun a => Fin.ext ?_)
  have p0 := point t
  match a with
  | ⟨0, _⟩ =>
    show (BitVec.ofNat 32 (grid0.coords t 0).val).toNat * 256 + 1 * (y 0).val = (z 0).val
    rw [word _ (grid0.coords t 0).isLt]
    omega
  | ⟨1, _⟩ =>
    show 0 * 4096 + 1 * (y 1).val = (z 1).val
    omega

/-- The first of two rows, laid out as numbers and as a row again. -/
theorem first_row {α : Type} (v : S2x4096.Idx → α) (hs : S2x4096.Slices ![0, 0] S1x4096) (h1 : S1x4096.ShapeCasts S4096)
    (h2 : S4096.ShapeCasts S1x4096) (z : S1x4096.Idx) (q : Fin 4096) (hz : (z 1).val = q.val) :
    shapeCast S1x4096 (shapeCast S4096 (extractStridedSlice S1x4096 ![0, 0] v hs) h1) h2 z = v (ix2 0 q) := by
  have z0 : (z 0).val < 1 := (z 0).isLt
  refine (shapeCast_apply _ h2 z (ix1 q) ?_).trans ((shapeCast_apply _ h1 (ix1 q) (ix2 0 q) ?_).trans
    (extractStridedSlice_apply _ v hs _ (ix2 0 q) fun a => ?_))
  · rw [Shape.rowMajor_val_one, Shape.rowMajor_val_two]
    show q.val = (z 0).val * 4096 + (z 1).val
    omega
  · rw [Shape.rowMajor_val_one, Shape.rowMajor_val_two]
    show 0 * 4096 + q.val = q.val
    omega
  · match a with
    | ⟨0, _⟩ => rfl
    | ⟨1, _⟩ => exact (Nat.zero_add _).symm

/-- The gains' block at an entry. -/
theorem gain_apply (c : Dev nD) (t : Fin cfg0.N) (q : Fin 4096) :
    iblk m c 1 t (ix2 0 q) = m ((c : Thread nD τ).loc main_arg1) (ix2 0 q) := by
  show V m c main_v4 (((cfg0.win 1).blk t).view.emb (ix2 0 q)) = _
  rw [V_gain]
  refine first_row (m ((c : Thread nD τ).loc main_arg1)) slices_S2x4096_S1x4096_0_0 shapeCasts_S1x4096_S4096 shapeCasts_S4096_S1x4096 _ q ?_
  show 0 * 4096 + 1 * q.val = q.val
  omega

/-- The batch member of a row block. -/
theorem batch_eq (i : grid0.Coords) : cc0_transform_2 i 0 = (i 0).val / 16 := by
  have h : ∀ r : Fin 32, cc0_transform_2 (fun a => match a with | ⟨0, _⟩ => r) 0 = r.val / 16 := by decide
  exact h (i 0)

/-- A row of the modulation's block. -/
theorem modulation_apply (c : Dev nD) (t : Fin cfg0.N) (r : Fin 6) (q : Fin 4096) (w : S2x24576.Idx)
    (h0 : (w 0).val = t.val / 16) (h1 : (w 1).val = r.val * 4096 + q.val) :
    iblk m c 2 t (ix3 0 r q) = m ((c : Thread nD τ).loc main_arg2) w := by
  have ht : t.val < 32 := Nat.lt_of_lt_of_eq t.isLt N_0
  have p0 := point t
  refine Eq.trans ?_ (modulation_rows (m ((c : Thread nD τ).loc main_arg2)) shapeCasts_S2x24576_S2x6x4096
    (ix3 ⟨t.val / 16, by omega⟩ r q) w h0 h1)
  show V m c main_v3 (((cfg0.win 2).blk t).view.emb (ix3 0 r q)) = _
  rw [V_modulation]
  refine congrArg _ (funext fun a => Fin.ext ?_)
  match a with
  | ⟨0, _⟩ =>
    show cc0_transform_2 (grid0.coords t) 0 * 1 + 1 * 0 = t.val / 16
    rw [batch_eq]
    omega
  | ⟨1, _⟩ =>
    show 0 * 6 + 1 * r.val = r.val
    omega
  | ⟨2, _⟩ =>
    show 0 * 4096 + 1 * q.val = q.val
    omega

theorem scale_row (x : Vec F S1x6x4096 .f32) (q : Fin 4096) : View.ld x r0_2 (ix3 0 0 q) = x (ix3 0 1 q) := by
  refine View.ld_unit_apply_of x _ _ _ (ix3 0 0 q) (ix3 0 1 q) fun a => ?_
  match a with
  | ⟨0, _⟩ => rfl
  | ⟨1, _⟩ => rfl
  | ⟨2, _⟩ => exact (Nat.zero_add _).symm

theorem shift_row (x : Vec F S1x6x4096 .f32) (q : Fin 4096) : View.ld x r0_3 (ix3 0 0 q) = x (ix3 0 0 q) := by
  refine View.ld_unit_apply_of x _ _ _ (ix3 0 0 q) (ix3 0 0 q) fun a => ?_
  match a with
  | ⟨0, _⟩ => rfl
  | ⟨1, _⟩ => rfl
  | ⟨2, _⟩ => exact (Nat.zero_add _).symm

end Points

/-! ## Over the reals -/

/-- One over the root of a row's mean square, with the small number in it. -/
def root (x : Fin 4096 → EReal) : EReal :=
  Ideal.rsqrt (Ideal.div (∑ e : Fin 4096, x e * x e) (Ideal.ofBits .f32 0x45800000#32) + Ideal.ofBits .f32 0x358637BD#32)

/-- A row's entry over the root, times the gain, times one plus the scale, plus the shift. -/
def modulated (x : Fin 4096 → EReal) (g s b : EReal) (q : Fin 4096) : EReal :=
  x q * root x * g * (Ideal.ofBits .f32 0x3F800000#32 + s) + b

theorem payload_apply (x : Vec Ideal S256x4096 .f32) (g : Vec Ideal S1x4096 .f32) (s b : Vec Ideal S1x1x4096 .f32)
    (p : Fin 256) (q : Fin 4096) :
    k0_pay1 x g s b (ix2 p q) = modulated (fun e => x (ix2 p e)) (g (ix2 0 q)) (s (ix3 0 0 q)) (b (ix3 0 0 q)) q := by
  unfold k0_pay1
  rw [shapeCast_self]
  refine congrArg₂ (fun u v : EReal => u + v) (congrArg₂ (fun u v : EReal => u * v)
    (congrArg₂ (fun u v : EReal => x (ix2 p q) * u * v) ?_ ?_) ?_) ?_
  · refine (Rows.spread 256 4096 _ _ p q).trans ?_
    exact congrArg (fun u : EReal => Ideal.rsqrt (Ideal.div u (Ideal.ofBits .f32 0x45800000#32) + Ideal.ofBits .f32 0x358637BD#32))
      ((Rows.column 256 _ _ p 0).trans (Rows.summed 256 4096 _ _ _ _ p))
  · exact (Rows.repeated 256 4096 (by decide) _ _ p q).trans (congrFun (shapeCast_self g _) _)
  · exact (Rows.repeated 256 4096 (by decide) _ _ p q).trans
      (congrArg (fun u : EReal => Ideal.ofBits .f32 0x3F800000#32 + u) (Dense.drop_unit 1 4096 s _ (ix2 0 q)))
  · exact (Rows.repeated 256 4096 (by decide) _ _ p q).trans (Dense.drop_unit 1 4096 b _ (ix2 0 q))

/-- The modulation's entry of row `p` and column `q`: the shift's range first, the scale's range second. -/
def shiftPlace (p : Fin 8192) (q : Fin 4096) : S2x24576.Idx := ix2 ⟨p.val / 4096, by omega⟩ ⟨q.val, by omega⟩

def scalePlace (p : Fin 8192) (q : Fin 4096) : S2x24576.Idx := ix2 ⟨p.val / 4096, by omega⟩ ⟨4096 + q.val, by omega⟩

/-- The rows over the roots of their mean squares, with the first layer's gain, modulated. -/
def G (x : FVec Ideal S2x4096x4096 .f32) (g : FVec Ideal S2x4096 .f32) (v : FVec Ideal S2x24576 .f32) : FVec Ideal S8192x4096 .bf16 :=
  fun z => modulated (fun e => x (place (z 0) e)) (g (ix2 0 (z 1))) (v (scalePlace (z 0) (z 1))) (v (shiftPlace (z 0) (z 1))) (z 1)

section Values
variable (μ : (ℓ : Loc nD τ sig) → Buf (Elt Ideal) ℓ)

theorem written (c : Dev nD) (t : Fin cfg0.N) (y : S256x4096.Idx) (z : S8192x4096.Idx)
    (h0 : (z 0).val = t.val * 256 + (y 0).val) (h1 : (z 1).val = (y 1).val) :
    out0_3 (F := Ideal) (iblk μ c 0 t) (iblk μ c 1 t) (iblk μ c 2 t) y
      = G (μ ((c : Thread nD τ).loc main_arg0)) (μ ((c : Thread nD τ).loc main_arg1)) (μ ((c : Thread nD τ).loc main_arg2)) z := by
  obtain ⟨p, q, rfl⟩ : ∃ (p : Fin 256) (q : Fin 4096), y = ix2 p q := ⟨y 0, y 1, eq_ix2 y⟩
  obtain ⟨r, s, rfl⟩ : ∃ (r : Fin 8192) (s : Fin 4096), z = ix2 r s := ⟨z 0, z 1, eq_ix2 z⟩
  have h0 : r.val = t.val * 256 + p.val := h0
  obtain rfl : s = q := Fin.ext h1
  have hp := p.isLt
  rw [out_eq]
  refine (payload_apply _ _ _ _ p s).trans ?_
  rw [gain_apply μ c t s, scale_row, shift_row,
    modulation_apply μ c t 1 s (scalePlace r s) (by show r.val / 4096 = t.val / 16; omega) (by show 4096 + s.val = 1 * 4096 + s.val; omega),
    modulation_apply μ c t 0 s (shiftPlace r s) (by show r.val / 4096 = t.val / 16; omega) (by show s.val = 0 * 4096 + s.val; omega)]
  refine congrArg (fun f : Fin 4096 → EReal => modulated f (μ ((c : Thread nD τ).loc main_arg1) (ix2 0 s))
    (μ ((c : Thread nD τ).loc main_arg2) (scalePlace r s)) (μ ((c : Thread nD τ).loc main_arg2) (shiftPlace r s)) s) (funext fun e => ?_)
  exact rows_apply μ c t (ix2 p e) (ix2 r e) (place r e) h0 rfl rfl rfl rfl

/-- The result array after the run. -/
theorem final (c : Dev nD) :
    (dats μ 0 c).arrAt 3 cfg0.N
      = G (μ ((c : Thread nD τ).loc main_arg0)) (μ ((c : Thread nD τ).loc main_arg1)) (μ ((c : Thread nD τ).loc main_arg2)) := by
  refine (dats μ 0 c).arrAt_eq_of_covers 3 _ ?_ fun t hf (y : S256x4096.Idx) => ?_
  · exact of_decide_eq_true (by sl_kernel_rfl)
  · refine (congrFun (after0_3 μ c t) y).trans (written μ c t y _ ?_ ?_)
    · show (BitVec.ofNat 32 (grid0.coords t 0).val).toNat * 256 + 1 * (y 0).val = _
      rw [word _ (grid0.coords t 0).isLt, point]
      omega
    · show 0 * 4096 + 1 * (y 1).val = _
      omega

end Values

/-- The run: the result array holds the modulated rows, the arguments end unchanged. -/
theorem run (μ : (ℓ : Loc nD τ sig) → Buf (Elt Ideal) ℓ) (ρ : Dev nD → PrngReg) :
    θ_run (defs (F := Ideal)) (onTc (τ := τ) (main (F := Ideal))) ⟨μ, fun _ => 0, ρ⟩ (fun r => ∀ c : Dev nD,
      r.2.mem ((c.tc : Thread nD τ).loc main_v5)
        = G (μ ((c.tc : Thread nD τ).loc main_arg0)) (μ ((c.tc : Thread nD τ).loc main_arg1)) (μ ((c.tc : Thread nD τ).loc main_arg2))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)) :=
  (θ_run defs _ _).mono (fun r h c => ⟨(h c).1.trans (final μ c), (h c).2⟩) (Cert.Kernel12Ideal.Value.run_blocks μ ρ)

end Cert.Proof.Norm

end
-- ==== Proof.NormReference.lean ====
/-
  The reference of the first norm with its modulation, entry by entry what the kernel's call leaves.
-/
module

public import proofs.«01_k».proof.Proof.Norm
public import proofs.«01_k».proof.Proof.Gen.Reference12Ideal.Run

@[expose] public section

noncomputable section

namespace Cert.Proof.Norm

open Idealize.ShloMosaic Idealize.ShloMosaic.TcCoe Idealize.SL.Sem
open Cert.Reference12Ideal Cert.Reference12Ideal.Gen Idealize.ShloMosaic.ValueIdx
open Cert.Proof.Out (place residual_rows)

/-- The sum along the last of three axes, on the host. -/
theorem host_summed (a b n : ℕ) (S : FVec Ideal ⟨3, ![a, b, n]⟩ .f32) (init : EReal)
    (h' : (⟨3, ![a, b, n]⟩ : Shape).ReducesTo [2] ⟨2, ![a, b]⟩) (h : (⟨3, ![a, b, n]⟩ : Shape).Reduces [2] ⟨2, ![a, b]⟩)
    (hi : init = 0) (i : Fin a) (j : Fin b) :
    Ideal.hostReduceAdd h' S init (ix2 i j) = ∑ l : Fin n, (S (ix3 i j l) : EReal) := by
  rw [Ideal.hostReduceAdd_single h' h S init (ix2 i j), hi, zero_add]
  refine Finset.sum_congr rfl fun l _ => congrArg S (funext fun x => ?_)
  match x with
  | ⟨0, _⟩ => rfl
  | ⟨1, _⟩ => rfl
  | ⟨2, _⟩ => rfl

theorem reduces_rows : S2x4096x4096.Reduces [2] S2x4096 := by decide

/-- One over the roots of the rows' mean squares. -/
def roots (x : FVec Ideal S2x4096x4096 .f32) : FVec Ideal S2x4096x1 .f32 :=
  Host.rsqrt (addf (Host.divf (broadcastInDim S2x4096x1 ![0, 1] bcast_S2x4096_S2x4096x1_0_1
    (Host.reduceAdd (mulf x x) (constant S_ .f32 0x00000000#32) reducesTo_S2x4096x4096_S2x4096_d2 h_S_))
    (broadcastInDim S2x4096x1 ![] bcast_S_S2x4096x1 (constant S_ .f32 0x45800000#32)))
    (broadcastInDim S2x4096x1 ![] bcast_S_S2x4096x1 (constant S_ .f32 0x358637BD#32)))

theorem roots_apply (x : FVec Ideal S2x4096x4096 .f32) (b : Fin 2) (i : Fin 4096) :
    roots x (ix3 b i (0 : Fin 1)) = root (fun e => x (ix3 b i e)) := by
  refine congrArg (fun u : EReal => Ideal.rsqrt (Ideal.div u (Ideal.ofBits .f32 0x45800000#32) + Ideal.ofBits .f32 0x358637BD#32)) ?_
  refine (broadcastInDim_apply _ _ _ (ix3 b i (0 : Fin 1)) (ix2 b i) fun a => ?_).trans ?_
  · match a with
    | ⟨0, _⟩ => rfl
    | ⟨1, _⟩ => rfl
  · exact host_summed 2 4096 4096 (mulf x x) _ reducesTo_S2x4096x4096_S2x4096_d2 reduces_rows Ideal.ofBits_zero_f32 b i

/-- A number for each row, repeated along the row. -/
theorem roots_spread (v : FVec Ideal S2x4096x1 .f32) (b : Fin 2) (i q : Fin 4096) :
    broadcastInDim S2x4096x4096 ![0, 1, 2] bcast_S2x4096x1_S2x4096x4096_0_1_2 v (ix3 b i q) = v (ix3 b i (0 : Fin 1)) := by
  refine broadcastInDim_apply _ _ v (ix3 b i q) (ix3 b i (0 : Fin 1)) fun a => ?_
  match a with
  | ⟨0, _⟩ => rfl
  | ⟨1, _⟩ => rfl
  | ⟨2, _⟩ => rfl

/-- The first layer's gain, repeated along all rows. -/
theorem gain_spread (g : FVec Ideal S2x4096 .f32) (b : Fin 2) (i q : Fin 4096) :
    broadcastInDim S2x4096x4096 ![0, 1, 2] bcast_S1x1x4096_S2x4096x4096_0_1_2 (broadcastInDim S1x1x4096 ![2] bcast_S4096_S1x1x4096_2
      (shapeCast S4096 (extractStridedSlice S1x4096 ![0, 0] g slices_S2x4096_S1x4096_0_0) shapeCasts_S1x4096_S4096)) (ix3 b i q)
      = g (ix2 0 q) := by
  refine (broadcastInDim_apply _ _ _ (ix3 b i q) (ix3 (0 : Fin 1) (0 : Fin 1) q) fun a => ?_).trans
    ((broadcastInDim_apply _ _ _ _ (ix1 q) fun a => ?_).trans
      ((shapeCast_apply _ shapeCasts_S1x4096_S4096 (ix1 q) (ix2 0 q) ?_).trans
        (extractStridedSlice_apply _ g slices_S2x4096_S1x4096_0_0 _ (ix2 0 q) fun a => ?_)))
  · match a with
    | ⟨0, _⟩ => rfl
    | ⟨1, _⟩ => rfl
    | ⟨2, _⟩ => rfl
  · match a with
    | ⟨0, _⟩ => rfl
  · rw [Shape.rowMajor_val_one, Shape.rowMajor_val_two]
    show 0 * 4096 + q.val = q.val
    omega
  · match a with
    | ⟨0, _⟩ => rfl
    | ⟨1, _⟩ => exact (Nat.zero_add _).symm

/-- A row for each batch member, repeated along the member's rows. -/
theorem member_spread (v : FVec Ideal S2x1x4096 .f32) (b : Fin 2) (i q : Fin 4096) :
    broadcastInDim S2x4096x4096 ![0, 1, 2] bcast_S2x1x4096_S2x4096x4096_0_1_2 v (ix3 b i q) = v (ix3 b (0 : Fin 1) q) := by
  refine broadcastInDim_apply _ _ v (ix3 b i q) (ix3 b (0 : Fin 1) q) fun a => ?_
  match a with
  | ⟨0, _⟩ => rfl
  | ⟨1, _⟩ => rfl
  | ⟨2, _⟩ => rfl

theorem member_row (v : FVec Ideal S2x4096 .f32) (b : Fin 2) (q : Fin 4096) :
    broadcastInDim S2x1x4096 ![0, 2] bcast_S2x4096_S2x1x4096_0_2 v (ix3 b (0 : Fin 1) q) = v (ix2 b q) := by
  refine broadcastInDim_apply _ _ v (ix3 b (0 : Fin 1) q) (ix2 b q) fun a => ?_
  match a with
  | ⟨0, _⟩ => rfl
  | ⟨1, _⟩ => rfl

theorem scale_entry (v : FVec Ideal S2x24576 .f32) (p : Fin 8192) (q : Fin 4096) :
    extractStridedSlice S2x4096 ![0, 4096] v slices_S2x24576_S2x4096_0_4096 (ix2 (place p q 0) q) = v (scalePlace p q) := by
  refine extractStridedSlice_apply _ v slices_S2x24576_S2x4096_0_4096 _ (scalePlace p q) fun a => ?_
  match a with
  | ⟨0, _⟩ => exact (Nat.zero_add _).symm
  | ⟨1, _⟩ => rfl

theorem shift_entry (v : FVec Ideal S2x24576 .f32) (p : Fin 8192) (q : Fin 4096) :
    extractStridedSlice S2x4096 ![0, 0] v slices_S2x24576_S2x4096_0_0 (ix2 (place p q 0) q) = v (shiftPlace p q) := by
  refine extractStridedSlice_apply _ v slices_S2x24576_S2x4096_0_0 _ (shiftPlace p q) fun a => ?_
  match a with
  | ⟨0, _⟩ => exact (Nat.zero_add _).symm
  | ⟨1, _⟩ => exact (Nat.zero_add _).symm

/-- Over the reals a narrowing changes nothing. -/
theorem narrowed (v : FVec Ideal S8192x4096 .f32) (z : S8192x4096.Idx) : truncf .bf16 v bitsLt_bf16_f32 z = v z := rfl

/-- The reference's result, of its arguments. -/
def result (x : FVec Ideal S2x4096x4096 .f32) (g : FVec Ideal S2x4096 .f32) (v : FVec Ideal S2x24576 .f32) : FVec Ideal S8192x4096 .bf16 :=
  truncf .bf16 (shapeCast S8192x4096 (addf (mulf (mulf (mulf x
    (broadcastInDim S2x4096x4096 ![0, 1, 2] bcast_S2x4096x1_S2x4096x4096_0_1_2 (roots x)))
    (broadcastInDim S2x4096x4096 ![0, 1, 2] bcast_S1x1x4096_S2x4096x4096_0_1_2 (broadcastInDim S1x1x4096 ![2] bcast_S4096_S1x1x4096_2
      (shapeCast S4096 (extractStridedSlice S1x4096 ![0, 0] g slices_S2x4096_S1x4096_0_0) shapeCasts_S1x4096_S4096))))
    (broadcastInDim S2x4096x4096 ![0, 1, 2] bcast_S2x1x4096_S2x4096x4096_0_1_2
      (addf (broadcastInDim S2x1x4096 ![] bcast_S_S2x1x4096 (constant S_ .f32 0x3F800000#32))
        (broadcastInDim S2x1x4096 ![0, 2] bcast_S2x4096_S2x1x4096_0_2
          (extractStridedSlice S2x4096 ![0, 4096] v slices_S2x24576_S2x4096_0_4096)))))
    (broadcastInDim S2x4096x4096 ![0, 1, 2] bcast_S2x1x4096_S2x4096x4096_0_1_2
      (broadcastInDim S2x1x4096 ![0, 2] bcast_S2x4096_S2x1x4096_0_2
        (extractStridedSlice S2x4096 ![0, 0] v slices_S2x24576_S2x4096_0_0))))
    shapeCasts_S2x4096x4096_S8192x4096) bitsLt_bf16_f32

theorem result_apply (x : FVec Ideal S2x4096x4096 .f32) (g : FVec Ideal S2x4096 .f32) (v : FVec Ideal S2x24576 .f32)
    (p : Fin 8192) (q : Fin 4096) : result x g v (ix2 p q) = G x g v (ix2 p q) := by
  refine (narrowed _ (ix2 p q)).trans ((residual_rows _ shapeCasts_S2x4096x4096_S8192x4096 (ix2 p q) (place p q) rfl rfl rfl).trans ?_)
  refine congrArg₂ (fun a b : EReal => a + b) (congrArg₂ (fun a b : EReal => a * b)
    (congrArg₂ (fun a b : EReal => x (place p q) * a * b) ?_ ?_) ?_) ?_
  · exact (roots_spread (roots x) (place p q 0) (place p q 1) q).trans (roots_apply x (place p q 0) (place p q 1))
  · exact gain_spread g (place p q 0) (place p q 1) q
  · refine (member_spread _ (place p q 0) (place p q 1) q).trans ?_
    exact congrArg (fun u : EReal => Ideal.ofBits .f32 0x3F800000#32 + u) ((member_row _ (place p q 0) q).trans (scale_entry v p q))
  · exact (member_spread _ (place p q 0) (place p q 1) q).trans ((member_row _ (place p q 0) q).trans (shift_entry v p q))

/-- The reference's run, at the value the kernel's run ends with. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v30)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨(h c).1.trans ?_, (h c).2⟩) (Cert.Reference12Ideal.Value.run (F := Ideal) m ρ)
  funext y
  obtain ⟨p, q, rfl⟩ : ∃ (p : Fin 8192) (q : Fin 4096), y = ix2 p q := ⟨y 0, y 1, eq_ix2 y⟩
  exact result_apply (m ((c.tc : Thread nD τ).loc main_arg0)) (m ((c.tc : Thread nD τ).loc main_arg1))
    (m ((c.tc : Thread nD τ).loc main_arg2)) p q

end Cert.Proof.Norm

end
-- ==== Proof.NormClaims.lean ====
/-
  The claims about the first norm with its modulation: both programs' frames from one run, and the value.
-/
module

public import proofs.«01_k».proof.Defs
public import proofs.«01_k».proof.Proof.NormReference
public import proofs.«01_k».proof.Proof.Gen.Kernel12

@[expose] public section

noncomputable section

namespace Cert.Proof.Norm

open Idealize.ShloMosaic Idealize.SL.Sem

section Same
variable {F : FTy → Type} [FloatOps F]

/-- The program as printed and the program read over the reals have one text: one set of bodies. -/
theorem bodies_eq : Cert.Kernel12.defs₀ (F := F) = Cert.Kernel12Ideal.defs₀ (F := F) := by
  unfold Cert.Kernel12.defs₀ Cert.Kernel12Ideal.defs₀
  refine congrArg Defs.onTc (funext fun l => ?_)
  match l with
  | 0 => rfl

theorem defs_eq : Cert.Kernel12.defs (F := F) = Cert.Kernel12Ideal.defs (F := F) := by
  unfold Cert.Kernel12.defs Cert.Kernel12Ideal.defs
  exact congrArg _ bodies_eq

end Same

theorem frame : Cert.quiescent_Kernel12 := fun m ρ _ => by
  rw [defs_eq]
  exact Cert.Kernel12Ideal.Gen.frame (F := Bits) m ρ

theorem frame_ideal : Cert.quiescent_Kernel12Ideal := fun m ρ _ =>
  Cert.Kernel12Ideal.Gen.frame (F := Ideal) m ρ

theorem frame_reference : Cert.quiescent_Reference12Ideal := fun m ρ _ =>
  (θ_run _ _ _).mono (fun r h => ⟨fun c => (h c).2, Idealize.ShloMosaic.sem_eq_zero_of_no_sems (by decide) r.2⟩) (reference_run m ρ)

theorem algebraic : Cert.algebraic_Kernel12Ideal_Reference12Ideal := by
  intro m ρ m' ρ' _ hargs
  refine ⟨fun c => G (m ((c.tc : Thread _ _).loc Cert.Kernel12Ideal.main_arg0)) (m ((c.tc : Thread _ _).loc Cert.Kernel12Ideal.main_arg1)) (m ((c.tc : Thread _ _).loc Cert.Kernel12Ideal.main_arg2)), ?_, ?_⟩
  · exact run m ρ
  · refine (θ_run _ _ _).mono (fun r h c => ⟨(h c).1.trans ?_, (h c).2⟩) (reference_run m' ρ')
    obtain ⟨e0, e1, e2⟩ := hargs c
    rw [e0, e1, e2]

end Cert.Proof.Norm

end
-- ==== Proof.DiffSecond.lean ====
/-
  The call that does the differential attention of the second layer: what each grid point writes, of its blocks.
-/
module

public import proofs.«01_k».proof.Proof.Mla
public import proofs.«01_k».proof.Proof.Gen.Kernel13Ideal.Frame
public import proofs.«01_k».proof.Proof.Gen.Kernel13Ideal.Value

@[expose] public section

noncomputable section

namespace Cert.Proof.DiffSecond

open Idealize.ShloMosaic Idealize.ShloMosaic.TcCoe Idealize.SL.Sem
open Cert.Kernel13Ideal Cert.Kernel13Ideal.Gen Idealize.ShloMosaic.ValueIdx

variable {F : FTy → Type} [FloatOps F]

/-! ## The block of the result, as the kernel takes it -/

/-- The queries with the second 64 columns put to zero. -/
def low (q : Vec F S1024x128 .bf16) : Vec F S1024x128 .bf16 :=
  select (cmpi .slt (iota .tc S1024x128 32 [1] iota_S1024x128_d1_w32) (broadcast S1024x128 64#32)) q
    (broadcast S1024x128 (Scalar.ofBits .bf16 0x0000#16))

/-- The queries with the first 64 columns put to zero. -/
def high (q : Vec F S1024x128 .bf16) : Vec F S1024x128 .bf16 :=
  select (cmpi .sge (iota .tc S1024x128 32 [1] iota_S1024x128_d1_w32) (broadcast S1024x128 64#32)) q
    (broadcast S1024x128 (Scalar.ofBits .bf16 0x0000#16))

/-- The scores of a block of keys. -/
def scores (q k : Vec F S1024x128 .bf16) : FVec F S1024x1024 .f32 :=
  matmul dot_S1024x128_S1024x128_S1024x1024_1_1_0_0_n_n none q k (constant S1024x1024 .f32 0x00000000#32)

/-- The running numbers after the four blocks of keys. -/
def four (q : Vec F S1024x128 .bf16) (K X : Vec F S4096x128 .bf16) : Mla.State F :=
  Mla.advance (Mla.advance (Mla.advance (Mla.advance Mla.start (scores q (Mla.valueRows K 0)) (Mla.valueRows X 0))
    (scores q (Mla.valueRows K 1)) (Mla.valueRows X 1)) (scores q (Mla.valueRows K 2)) (Mla.valueRows X 2))
    (scores q (Mla.valueRows K 3)) (Mla.valueRows X 3)

/-- One attention: the weighted sum over the sum of the weights. -/
def attended (q : Vec F S1024x128 .bf16) (K X : Vec F S4096x128 .bf16) : FVec F S1024x128 .f32 :=
  divf (four q K X).2.2 (broadcastTo S1024x128 (four q K X).2.1 broadcasts_S1024x1_S1024x128)

/-- The exponential of the product of two rows of the parameters. -/
def power01 (x : Vec F S4x64 .f32) : FVec F S1x1 .f32 :=
  exp (shapeCast S1x1 (multiReduction .add [1] S1 (mulf (extractStridedSlice S1x64 ![0, 0] x slices_S4x64_o0_0_S1x64)
    (extractStridedSlice S1x64 ![1, 0] x slices_S4x64_o1_0_S1x64)) 0x00000000#32 reduces_S1x64_S1 (.inl rfl) rfl) shapeCasts_S1_S1x1)

def power23 (x : Vec F S4x64 .f32) : FVec F S1x1 .f32 :=
  exp (shapeCast S1x1 (multiReduction .add [1] S1 (mulf (extractStridedSlice S1x64 ![2, 0] x slices_S4x64_o2_0_S1x64)
    (extractStridedSlice S1x64 ![3, 0] x slices_S4x64_o3_0_S1x64)) 0x00000000#32 reduces_S1x64_S1 (.inl rfl) rfl) shapeCasts_S1_S1x1)

/-- The second attention's factor. -/
def factor (x : Vec F S4x64 .f32) : FVec F S1x1 .f32 :=
  addf (subf (power01 x) (power23 x)) (broadcast S1x1 (Scalar.ofBits .f32 0x3EB60549#32))

/-- The first attention less the factor times the second. -/
def less (a b : FVec F S1024x128 .f32) (x : Vec F S4x64 .f32) : FVec F S1024x128 .f32 :=
  subf a (mulf (broadcastTo S1024x128 (factor x) broadcasts_S1x1_S1024x128) b)

/-- The rows over the root of their mean square. -/
def scaled (o : FVec F S1024x128 .f32) : FVec F S1024x1 .f32 :=
  rsqrt (addf (divf (shapeCast S1024x1 (multiReduction .add [1] S1024 (mulf o o) 0x00000000#32 reduces_S1024x128_S1024 (.inl rfl) rfl)
    shapeCasts_S1024_S1024x1) (broadcast S1024x1 (Scalar.ofBits .f32 0x43000000#32)))
    (broadcast S1024x1 (Scalar.ofBits .f32 0x3727C5AC#32)))

def normed (o : FVec F S1024x128 .f32) (g : Vec F S1x128 .f32) : FVec F S1024x128 .bf16 :=
  truncf .bf16 (mulf (mulf (mulf o (broadcastTo S1024x128 (scaled o) broadcasts_S1024x1_S1024x128))
    (broadcastTo S1024x128 (shapeCast S1x128 g shapeCasts_S1x128_S1x128) broadcasts_S1x128_S1024x128))
    (broadcast S1024x128 (Scalar.ofBits .f32 0x3F24FD5C#32))) bitsLt_bf16_f32

def block (x0 : Vec F S1024x128 .bf16) (x1 x2 : Vec F S4096x128 .bf16) (x3 : Vec F S4x64 .f32) (x4 : Vec F S1x128 .f32) :
    FVec F S1024x128 .bf16 :=
  normed (less (attended (low x0) x1 x2) (attended (high x0) x1 x2) x3) x4

set_option maxRecDepth 16384 in
theorem out_eq (x0 : Vec F S1024x128 .bf16) (x1 x2 : Vec F S4096x128 .bf16) (x3 : Vec F S4x64 .f32) (x4 : Vec F S1x128 .f32) :
    out0_5 x0 x1 x2 x3 x4 = block x0 x1 x2 x3 x4 := by
  have e : out0_5 x0 x1 x2 x3 x4 = block (View.ld x0 r0_0) x1 x2 (View.ld x3 r0_5) (View.ld x4 r0_6) := by
    unfold out0_5
    exact View.canon_cons_unit_lit' _ _ _ (by decide)
  rw [e, View.ld_unit_lit' _ x0 (by decide), View.ld_unit_lit' _ x3 (by decide), View.ld_unit_lit' _ x4 (by decide)]

/-! ## Entries, over the reals -/

theorem low_apply (q : Vec Ideal S1024x128 .bf16) (p : Fin 1024) (e : Fin 128) :
    low q (ix2 p e) = if e.val < 64 then q (ix2 p e) else (0 : EReal) := by
  have h : low q (ix2 p e) = Scalar.select (IntOp.cmpi .slt (BitVec.ofNat 32 e.val) 64#32) (q (ix2 p e)) (Ideal.ofBits .bf16 0x0000#16) := by
    unfold low
    rw [select_apply]
    show Scalar.select (IntOp.cmpi .slt (iota .tc S1024x128 32 [1] iota_S1024x128_d1_w32 (ix2 p e)) 64#32) _ _ = _
    rw [iota_single_apply]
    rfl
  have hz : Ideal.ofBits .bf16 0x0000#16 = 0 := by simp [Ideal.ofBits, Ideal.ieee]
  rw [h, hz]
  have hc : ∀ e : Fin 128, IntOp.cmpi .slt (BitVec.ofNat 32 e.val) 64#32 = if e.val < 64 then 1#1 else 0#1 := by decide
  rw [hc e]
  split <;> rfl

theorem high_apply (q : Vec Ideal S1024x128 .bf16) (p : Fin 1024) (e : Fin 128) :
    high q (ix2 p e) = if e.val < 64 then (0 : EReal) else q (ix2 p e) := by
  have h : high q (ix2 p e) = Scalar.select (IntOp.cmpi .sge (BitVec.ofNat 32 e.val) 64#32) (q (ix2 p e)) (Ideal.ofBits .bf16 0x0000#16) := by
    unfold high
    rw [select_apply]
    show Scalar.select (IntOp.cmpi .sge (iota .tc S1024x128 32 [1] iota_S1024x128_d1_w32 (ix2 p e)) 64#32) _ _ = _
    rw [iota_single_apply]
    rfl
  have hz : Ideal.ofBits .bf16 0x0000#16 = 0 := by simp [Ideal.ofBits, Ideal.ieee]
  rw [h, hz]
  have hc : ∀ e : Fin 128, IntOp.cmpi .sge (BitVec.ofNat 32 e.val) 64#32 = if e.val < 64 then 0#1 else 1#1 := by decide
  rw [hc e]
  split <;> rfl

/-- A sum over the 128 columns, the second half zero. -/
theorem sum_low (f g : ℕ → EReal) : (∑ e : Fin 128, (if e.val < 64 then f e.val else 0) * g e.val) = ∑ e : Fin 64, f e.val * g e.val := by
  refine (Fin.sum_univ_add (a := 64) (b := 64) fun e : Fin 128 => (if e.val < 64 then f e.val else 0) * g e.val).trans ?_
  have hl : ∀ e : Fin 64, (Fin.castAdd 64 e).val = e.val := fun e => rfl
  have hr : ∀ e : Fin 64, (Fin.natAdd 64 e).val = 64 + e.val := fun e => rfl
  simp only [hl, hr]
  have h0 : ∀ e : Fin 64, e.val < 64 := fun e => e.isLt
  have h1 : ∀ e : Fin 64, ¬64 + e.val < 64 := fun e => by omega
  simp only [h0, h1, if_true, if_false, zero_mul, Finset.sum_const_zero, add_zero]

/-- A sum over the 128 columns, the first half zero. -/
theorem sum_high (f g : ℕ → EReal) :
    (∑ e : Fin 128, (if e.val < 64 then 0 else f e.val) * g e.val) = ∑ e : Fin 64, f (64 + e.val) * g (64 + e.val) := by
  refine (Fin.sum_univ_add (a := 64) (b := 64) fun e : Fin 128 => (if e.val < 64 then 0 else f e.val) * g e.val).trans ?_
  have hl : ∀ e : Fin 64, (Fin.castAdd 64 e).val = e.val := fun e => rfl
  have hr : ∀ e : Fin 64, (Fin.natAdd 64 e).val = 64 + e.val := fun e => rfl
  simp only [hl, hr]
  have h0 : ∀ e : Fin 64, e.val < 64 := fun e => e.isLt
  have h1 : ∀ e : Fin 64, ¬64 + e.val < 64 := fun e => by omega
  simp only [h0, h1, if_true, if_false, zero_mul, Finset.sum_const_zero, zero_add]

theorem scores_apply (q k : Vec Ideal S1024x128 .bf16) (p j : Fin 1024) :
    scores q k (ix2 p j) = ∑ e : Fin 128, (q (ix2 p e) * k (ix2 j e) : EReal) :=
  Dense.product_transposed 1024 128 1024 q k (ix2 p j)

theorem attended_apply (q : Vec Ideal S1024x128 .bf16) (K X : Vec Ideal S4096x128 .bf16) (p : Fin 1024) (d : Fin 128) :
    attended q K X (ix2 p d) = Ideal.div (Mla.row (four q K X) p d).2.2 (Mla.row (four q K X) p d).2.1 := by
  unfold attended
  generalize four q K X = st
  exact congrArg (fun x : EReal => Ideal.div (st.2.2 (ix2 p d)) x) (Rows.spread 1024 128 _ _ p d)

/-- A row of one attention, the scores of the row being finite: the mean of the values with the weights taken at once. -/
theorem attended_row (q : Vec Ideal S1024x128 .bf16) (K X : Vec Ideal S4096x128 .bf16)
    (p : Fin 1024) (d : Fin 128) (s : ℕ → ℝ) (v : ℕ → EReal)
    (hs : ∀ j : Fin 4096, ∑ e : Fin 128, (q (ix2 p e) * K (ix2 j e) : EReal) = (s j.val : EReal))
    (hv : ∀ j : Fin 4096, X (ix2 j d) = v j.val) :
    attended q K X (ix2 p d) = ∑ j : Fin 4096, v j.val * OnlineSoftmax.weight (fun i : Fin 4096 => (s i.val : EReal)) j := by
  have es : ∀ c : Fin 4, (fun j : Fin 1024 => scores q (Mla.valueRows K c) (ix2 p j)) = fun j => (s (c.val * 1024 + j.val) : EReal) :=
    fun c => by
    funext j
    have hlt : c.val * 1024 + j.val < 4096 := by have := c.isLt; have := j.isLt; omega
    refine (scores_apply _ _ p j).trans (Eq.trans (Finset.sum_congr rfl fun e _ => ?_) (hs ⟨_, hlt⟩))
    exact congrArg (fun x : EReal => q (ix2 p e) * x) (Mla.valueRows_apply K c j e (ix2 ⟨_, hlt⟩ e) rfl rfl)
  have ev : ∀ c : Fin 4, (fun j : Fin 1024 => Mla.valueRows X c (ix2 j d)) = fun j => v (c.val * 1024 + j.val) := fun c => by
    funext j
    have hlt : c.val * 1024 + j.val < 4096 := by have := c.isLt; have := j.isLt; omega
    exact (Mla.valueRows_apply X c j d (ix2 ⟨_, hlt⟩ d) rfl rfl).trans (hv ⟨_, hlt⟩)
  have h4 : OnlineSoftmax.Holds s v 4096 (Mla.row (four q K X) p d) := by
    unfold four
    rw [Mla.row_advance, Mla.row_advance, Mla.row_advance, Mla.row_advance, Mla.row_start,
      es 0, es 1, es 2, es 3, ev 0, ev 1, ev 2, ev 3]
    have h := OnlineSoftmax.holds_first s v (n := 1024) (by decide)
    have h := OnlineSoftmax.holds_next s v 1024 (n := 1024) (by decide) _ h
    have h := OnlineSoftmax.holds_next s v 2048 (n := 1024) (by decide) _ h
    have h := OnlineSoftmax.holds_next s v 3072 (n := 1024) (by decide) _ h
    have e0 : ∀ k : ℕ, ((0 : Fin 4).val * 1024 + k) = k := fun k => by show 0 * 1024 + k = k; omega
    simp only [e0]
    exact h
  rw [attended_apply]
  exact OnlineSoftmax.quotient s v (by decide) _ h4

/-- The exponential of the product of two rows of the parameters, by entries. -/
def power (x : Fin 4 → Fin 64 → EReal) (a b : Fin 4) : EReal := Ideal.exp (∑ e : Fin 64, x a e * x b e)

/-- The second attention's factor, by entries. -/
def lam (x : Fin 4 → Fin 64 → EReal) : EReal := power x 0 1 - power x 2 3 + Ideal.ofBits .f32 0x3EB60549#32

theorem power01_apply (x : Vec Ideal S4x64 .f32) : power01 x (ix2 0 0) = power (fun a e => x (ix2 a e)) 0 1 := by
  refine congrArg Ideal.exp ((Rows.column 1 _ _ 0 0).trans ((Rows.summed 1 64 _ _ _ _ 0).trans (Finset.sum_congr rfl fun e _ => ?_)))
  refine congrArg₂ (fun a b : EReal => a * b) (congrArg x (funext fun a => Fin.ext ?_)) (congrArg x (funext fun a => Fin.ext ?_))
  · match a with
    | ⟨0, _⟩ => rfl
    | ⟨1, _⟩ => exact Nat.zero_add _
  · match a with
    | ⟨0, _⟩ => rfl
    | ⟨1, _⟩ => exact Nat.zero_add _

theorem power23_apply (x : Vec Ideal S4x64 .f32) : power23 x (ix2 0 0) = power (fun a e => x (ix2 a e)) 2 3 := by
  refine congrArg Ideal.exp ((Rows.column 1 _ _ 0 0).trans ((Rows.summed 1 64 _ _ _ _ 0).trans (Finset.sum_congr rfl fun e _ => ?_)))
  refine congrArg₂ (fun a b : EReal => a * b) (congrArg x (funext fun a => Fin.ext ?_)) (congrArg x (funext fun a => Fin.ext ?_))
  · match a with
    | ⟨0, _⟩ => rfl
    | ⟨1, _⟩ => exact Nat.zero_add _
  · match a with
    | ⟨0, _⟩ => rfl
    | ⟨1, _⟩ => exact Nat.zero_add _

theorem factor_apply (x : Vec Ideal S4x64 .f32) : factor x (ix2 0 0) = lam (fun a e => x (ix2 a e)) := by
  unfold lam
  rw [← power01_apply, ← power23_apply]
  rfl

theorem less_apply (a b : FVec Ideal S1024x128 .f32) (x : Vec Ideal S4x64 .f32) (p : Fin 1024) (d : Fin 128) :
    less a b x (ix2 p d) = (a (ix2 p d) - lam (fun a e => x (ix2 a e)) * b (ix2 p d) : EReal) := by
  refine congrArg (fun l : EReal => (a (ix2 p d) : EReal) - l * b (ix2 p d)) ?_
  exact (Rows.everywhere 1024 128 _ _ p d).trans (factor_apply x)

/-- A row over the root of its mean square, times the gain, times what the layer keeps of it. -/
def unit (o : Fin 128 → EReal) (g : EReal) (d : Fin 128) : EReal :=
  o d * Ideal.rsqrt (Ideal.div (∑ e : Fin 128, o e * o e) (Ideal.ofBits .f32 0x43000000#32) + Ideal.ofBits .f32 0x3727C5AC#32)
    * g * Ideal.ofBits .f32 0x3F24FD5C#32

theorem scaled_apply (o : FVec Ideal S1024x128 .f32) (p : Fin 1024) :
    scaled o (ix2 p 0) = Ideal.rsqrt (Ideal.div (∑ e : Fin 128, (o (ix2 p e) * o (ix2 p e) : EReal)) (Ideal.ofBits .f32 0x43000000#32)
      + Ideal.ofBits .f32 0x3727C5AC#32) :=
  congrArg (fun x : EReal => Ideal.rsqrt (Ideal.div x (Ideal.ofBits .f32 0x43000000#32) + Ideal.ofBits .f32 0x3727C5AC#32))
    ((Rows.column 1024 _ _ p 0).trans (Rows.summed 1024 128 _ _ _ _ p))

theorem normed_apply (o : FVec Ideal S1024x128 .f32) (g : Vec Ideal S1x128 .f32) (p : Fin 1024) (d : Fin 128) :
    normed o g (ix2 p d) = unit (fun e => o (ix2 p e)) (g (ix2 0 d)) d := by
  refine congrArg₂ (fun a b : EReal => o (ix2 p d) * a * b * Ideal.ofBits .f32 0x3F24FD5C#32) ?_ ?_
  · exact (Rows.spread 1024 128 _ _ p d).trans (scaled_apply o p)
  · exact (Rows.repeated 1024 128 (by decide) _ _ p d).trans (congrFun (shapeCast_self g _) _)

end Cert.Proof.DiffSecond

end
-- ==== Proof.DiffSecondRun.lean ====
/-
  The differential attention of the second layer's call over the whole arrays: what each grid point finds and writes, and the result array after the
  run, where the numbers it attends with are finite.
-/
module

public import proofs.«01_k».proof.Proof.MlaRun
public import proofs.«01_k».proof.Proof.DiffSecond

@[expose] public section

noncomputable section

namespace Cert.Proof.DiffSecond

open Idealize.ShloMosaic Idealize.ShloMosaic.TcCoe Idealize.SL.Sem
open Cert.Kernel13Ideal Cert.Kernel13Ideal.Gen Idealize.ShloMosaic.ValueIdx
open Cert.Proof.Mla (entry entry_of entry_real Real)

section Points
variable {F : FTy → Type} [FloatOps F]
variable (m : (ℓ : Loc nD τ sig) → Buf (Elt F) ℓ)

/-- The point `t` is at batch `t / 32`, head `t / 4 % 8` and block of rows `t % 4`. -/
theorem point0 (t : Fin grid0.N) : (grid0.coords t 0).val = t.val / 32 := by
  have ht : t.val < 64 := Nat.lt_of_lt_of_eq t.isLt N_0
  rw [show (grid0.coords t 0).val = t.val / 32 % 2 from Pipeline.Grid.coords_val t 0 (by decide) rfl]
  omega

theorem point1 (t : Fin grid0.N) : (grid0.coords t 1).val = t.val / 4 % 8 :=
  Pipeline.Grid.coords_val t 1 (by decide) rfl

theorem point2 (t : Fin grid0.N) : (grid0.coords t 2).val = t.val % 4 := by
  rw [show (grid0.coords t 2).val = t.val / 1 % 4 from Pipeline.Grid.coords_val t 2 (by decide) rfl]
  omega

/-- The block's numbers, computed in 32 bits. -/
theorem rowBlock (t : Fin grid0.N) :
    (IntOp.addi (IntOp.muli (BitVec.ofNat 32 (grid0.coords t 0).val) 4#32) (BitVec.ofNat 32 (grid0.coords t 2).val)).toNat
      = t.val / 32 * 4 + t.val % 4 := by
  have ht : t.val < 64 := Nat.lt_of_lt_of_eq t.isLt N_0
  rw [point0, point2]
  show (BitVec.ofNat 32 (t.val / 32) * 4#32 + BitVec.ofNat 32 (t.val % 4)).toNat = _
  rw [BitVec.toNat_add, BitVec.toNat_mul, BitVec.toNat_ofNat, BitVec.toNat_ofNat, BitVec.toNat_ofNat]
  omega

theorem headBlock (t : Fin grid0.N) : (BitVec.ofNat 32 (grid0.coords t 1).val).toNat = t.val / 4 % 8 := by
  rw [point1, BitVec.toNat_ofNat]
  omega

theorem shifted (n : ℕ) (hn : n < 32) (t : Fin grid0.N) :
    (IntOp.addi (BitVec.ofNat 32 n) (BitVec.ofNat 32 (grid0.coords t 1).val)).toNat = n + t.val / 4 % 8 := by
  rw [point1]
  show (BitVec.ofNat 32 n + BitVec.ofNat 32 (t.val / 4 % 8)).toNat = _
  rw [BitVec.toNat_add, BitVec.toNat_ofNat, BitVec.toNat_ofNat]
  omega

theorem batchBlock (t : Fin grid0.N) : (BitVec.ofNat 32 (grid0.coords t 0).val).toNat = t.val / 32 := by
  have ht : t.val < 64 := Nat.lt_of_lt_of_eq t.isLt N_0
  rw [point0, BitVec.toNat_ofNat]
  omega

/-- The queries' block at an entry. -/
theorem queries_apply (c : Dev nD) (t : Fin cfg0.N) (y : S1024x128.Idx) (z : S8192x4352.Idx)
    (hz0 : (z 0).val = (t.val / 32 * 4 + t.val % 4) * 1024 + (y 0).val) (hz1 : (z 1).val = (8 + t.val / 4 % 8) * 128 + (y 1).val) :
    iblk m c 0 t y = m ((c : Thread nD τ).loc main_arg0) z := by
  rw [← V_main_arg0 m c]
  show V m c main_arg0 (((cfg0.win 0).blk t).view.emb y) = _
  refine congrArg _ (funext fun a => Fin.ext ?_)
  have h0 := rowBlock t
  have h1 := shifted 8 (by decide) t
  match a with
  | ⟨0, _⟩ =>
    show (IntOp.addi (IntOp.muli (BitVec.ofNat 32 (grid0.coords t 0).val) 4#32) (BitVec.ofNat 32 (grid0.coords t 2).val)).toNat
      * 1024 + 1 * (y 0).val = (z 0).val
    omega
  | ⟨1, _⟩ =>
    show (IntOp.addi (BitVec.ofNat 32 8) (BitVec.ofNat 32 (grid0.coords t 1).val)).toNat * 128 + 1 * (y 1).val = (z 1).val
    omega

/-- The keys' block. -/
theorem keys_apply (c : Dev nD) (t : Fin cfg0.N) (y : S4096x128.Idx) (z : S8192x4352.Idx)
    (hz0 : (z 0).val = t.val / 32 * 4096 + (y 0).val) (hz1 : (z 1).val = (16 + t.val / 4 % 8) * 128 + (y 1).val) :
    iblk m c 1 t y = m ((c : Thread nD τ).loc main_arg0) z := by
  rw [← V_main_arg0 m c]
  show V m c main_arg0 (((cfg0.win 1).blk t).view.emb y) = _
  refine congrArg _ (funext fun a => Fin.ext ?_)
  have h0 := batchBlock t
  have h1 := shifted 16 (by decide) t
  match a with
  | ⟨0, _⟩ =>
    show (BitVec.ofNat 32 (grid0.coords t 0).val).toNat * 4096 + 1 * (y 0).val = (z 0).val
    omega
  | ⟨1, _⟩ =>
    show (IntOp.addi (BitVec.ofNat 32 16) (BitVec.ofNat 32 (grid0.coords t 1).val)).toNat * 128 + 1 * (y 1).val = (z 1).val
    omega

/-- The values' block. -/
theorem values_apply (c : Dev nD) (t : Fin cfg0.N) (y : S4096x128.Idx) (z : S8192x2048.Idx)
    (hz0 : (z 0).val = t.val / 32 * 4096 + (y 0).val) (hz1 : (z 1).val = (4 + t.val / 4 % 8) * 128 + (y 1).val) :
    iblk m c 2 t y = m ((c : Thread nD τ).loc main_arg1) z := by
  rw [← V_main_arg1 m c]
  show V m c main_arg1 (((cfg0.win 2).blk t).view.emb y) = _
  refine congrArg _ (funext fun a => Fin.ext ?_)
  have h0 := batchBlock t
  have h1 := shifted 4 (by decide) t
  match a with
  | ⟨0, _⟩ =>
    show (BitVec.ofNat 32 (grid0.coords t 0).val).toNat * 4096 + 1 * (y 0).val = (z 0).val
    omega
  | ⟨1, _⟩ =>
    show (IntOp.addi (BitVec.ofNat 32 4) (BitVec.ofNat 32 (grid0.coords t 1).val)).toNat * 128 + 1 * (y 1).val = (z 1).val
    omega

/-- The parameters' block is the whole array. -/
theorem parameters_apply (c : Dev nD) (t : Fin cfg0.N) (y : S4x64.Idx) :
    iblk m c 3 t y = m ((c : Thread nD τ).loc main_arg2) y := by
  rw [← V_main_arg2 m c]
  show V m c main_arg2 (((cfg0.win 3).blk t).view.emb y) = _
  refine congrArg _ (funext fun a => Fin.ext ?_)
  match a with
  | ⟨0, _⟩ =>
    show 0 * 4 + 1 * (y 0).val = (y 0).val
    omega
  | ⟨1, _⟩ =>
    show 0 * 64 + 1 * (y 1).val = (y 1).val
    omega

theorem V_gain (c : Dev nD) :
    V m c main_v0 = shapeCast S1x128 (m ((c : Thread nD τ).loc main_arg3)) shapeCasts_S128_S1x128 := by
  show StableHlo.after hostOps0 (fun b => m (c, b)) (Proc.devRef .tc main_v0) = _
  unfold hostOps0
  after_results
  rfl

theorem gain_row {α : Type} (v : S128.Idx → α) (h : S128.ShapeCasts S1x128) (z : S1x128.Idx) (d : Fin 128) (hz : (z 1).val = d.val) :
    shapeCast S1x128 v h z = v (ix1 d) := by
  refine shapeCast_apply v h _ _ ?_
  rw [Shape.rowMajor_val_one, Shape.rowMajor_val_two]
  have h0 : (z 0).val < 1 := (z 0).isLt
  show d.val = (z 0).val * 128 + (z 1).val
  omega

/-- The gains' block. -/
theorem gain_apply (c : Dev nD) (t : Fin cfg0.N) (d : Fin 128) :
    iblk m c 4 t (ix2 0 d) = m ((c : Thread nD τ).loc main_arg3) (ix1 d) := by
  show V m c main_v0 (((cfg0.win 4).blk t).view.emb (ix2 0 d)) = _
  rw [V_gain]
  refine gain_row (m ((c : Thread nD τ).loc main_arg3)) shapeCasts_S128_S1x128 _ d ?_
  show 0 * 128 + 1 * d.val = d.val
  omega

end Points

/-! ## Over the reals -/

/-- The score of row `r` and key `j` of the row's batch, in head `h`, over the 64 columns from `o` on. -/
def score (A : FVec Ideal S8192x4352 .bf16) (o r h j : ℕ) : EReal :=
  ∑ e : Fin 64, entry A r (1024 + h * 128 + (o + e.val)) * entry A (r / 4096 * 4096 + j) (2048 + h * 128 + (o + e.val))

/-- The values of row `r`'s batch weighted by the first softmax less the factor times the second. -/
def mix (A : FVec Ideal S8192x4352 .bf16) (V : FVec Ideal S8192x2048 .bf16) (l : EReal) (r h d : ℕ) : EReal :=
  ∑ j : Fin 4096, entry V (r / 4096 * 4096 + j.val) (512 + h * 128 + d)
    * (OnlineSoftmax.weight (fun i : Fin 4096 => score A 0 r h i.val) j - l * OnlineSoftmax.weight (fun i : Fin 4096 => score A 64 r h i.val) j)

/-- The differential attention of the second layer, normed. -/
def G (A : FVec Ideal S8192x4352 .bf16) (V : FVec Ideal S8192x2048 .bf16) (P : FVec Ideal S4x64 .f32) (g : FVec Ideal S128 .f32) :
    FVec Ideal S8192x1024 .bf16 := fun z =>
  unit (fun d => mix A V (lam fun a e => P (ix2 a e)) (z 0).val ((z 1).val / 128) d.val)
    (g (ix1 ⟨(z 1).val % 128, Nat.mod_lt _ (by decide)⟩)) ⟨(z 1).val % 128, Nat.mod_lt _ (by decide)⟩

/-- The columns from `o` on for `n` of them are finite. -/
def Between {a b : ℕ} (v : (⟨2, ![a, b]⟩ : Shape).Idx → EReal) (o n : ℕ) : Prop :=
  ∀ i j, j < n → ∃ x : ℝ, entry v i (o + j) = (x : EReal)

theorem score_real (A : FVec Ideal S8192x4352 .bf16) (hA : Between (a := 8192) (b := 4352) A 1024 2048) (o r h : ℕ) (ho : o ≤ 64) (hh : h < 8) :
    ∃ s : ℕ → ℝ, ∀ j, score A o r h j = (s j : EReal) := by
  have hq : ∀ e : Fin 64, ∃ x : ℝ, entry (a := 8192) (b := 4352) A r (1024 + h * 128 + (o + e.val)) = (x : EReal) := fun e => by
    have := e.isLt
    rw [show 1024 + h * 128 + (o + e.val) = 1024 + (h * 128 + (o + e.val)) by omega]
    exact hA r _ (by omega)
  have hk : ∀ (i : ℕ) (e : Fin 64), ∃ x : ℝ, entry (a := 8192) (b := 4352) A i (2048 + h * 128 + (o + e.val)) = (x : EReal) := fun i e => by
    have := e.isLt
    rw [show 2048 + h * 128 + (o + e.val) = 1024 + (1024 + h * 128 + (o + e.val)) by omega]
    exact hA i _ (by omega)
  choose x hx using hq
  choose k hk using hk
  refine ⟨fun j => ∑ e : Fin 64, x e * k (r / 4096 * 4096 + j) e, fun j => ?_⟩
  unfold score
  rw [OnlineSoftmax.coe_sum]
  refine Finset.sum_congr rfl fun e _ => ?_
  rw [hx, hk, EReal.coe_mul]

theorem power_real (x : Fin 4 → Fin 64 → EReal) (hx : ∀ a e, ∃ r : ℝ, x a e = (r : EReal)) (a b : Fin 4) :
    ∃ r : ℝ, power x a b = (r : EReal) := by
  choose y hy using hx
  refine ⟨Real.exp (∑ e : Fin 64, y a e * y b e), ?_⟩
  rw [← OnlineSoftmax.exp_coe, OnlineSoftmax.coe_sum]
  unfold power
  refine congrArg Ideal.exp (Finset.sum_congr rfl fun e _ => ?_)
  rw [hy, hy, EReal.coe_mul]

theorem lam_real (x : Fin 4 → Fin 64 → EReal) (hx : ∀ a e, ∃ r : ℝ, x a e = (r : EReal)) : ∃ r : ℝ, lam x = (r : EReal) := by
  obtain ⟨a, ha⟩ := power_real x hx 0 1
  obtain ⟨b, hb⟩ := power_real x hx 2 3
  have hw : ∃ w : ℝ, Ideal.ofBits .f32 0x3EB60549#32 = (w : EReal) := ⟨_, by simp [Ideal.ofBits, Ideal.ieee]; rfl⟩
  obtain ⟨w, hw⟩ := hw
  refine ⟨a - b + w, ?_⟩
  unfold lam
  rw [ha, hb, hw, EReal.coe_add, EReal.coe_sub]

/-- A row of the block before the norm. -/
theorem less_row (x0 : Vec Ideal S1024x128 .bf16) (x1 x2 : Vec Ideal S4096x128 .bf16) (x3 : Vec Ideal S4x64 .f32)
    (p : Fin 1024) (d : Fin 128) (q : ℕ → EReal) (k : ℕ → ℕ → EReal) (v : ℕ → EReal) (a b : ℕ → ℝ)
    (hq : ∀ e : Fin 128, x0 (ix2 p e) = q e.val) (hk : ∀ (j : Fin 4096) (e : Fin 128), x1 (ix2 j e) = k j.val e.val)
    (hv : ∀ j : Fin 4096, x2 (ix2 j d) = v j.val) (hr : ∀ j : Fin 4096, ∃ x : ℝ, v j.val = (x : EReal))
    (hl : ∃ x : ℝ, lam (fun a e => x3 (ix2 a e)) = (x : EReal))
    (ha : ∀ j : Fin 4096, ∑ e : Fin 64, q (0 + e.val) * k j.val (0 + e.val) = (a j.val : EReal))
    (hb : ∀ j : Fin 4096, ∑ e : Fin 64, q (64 + e.val) * k j.val (64 + e.val) = (b j.val : EReal)) :
    less (attended (low x0) x1 x2) (attended (high x0) x1 x2) x3 (ix2 p d)
      = ∑ j : Fin 4096, v j.val * (OnlineSoftmax.weight (fun i : Fin 4096 => (a i.val : EReal)) j
        - lam (fun a e => x3 (ix2 a e)) * OnlineSoftmax.weight (fun i : Fin 4096 => (b i.val : EReal)) j) := by
  have h0 := attended_row (low x0) x1 x2 p d a v (fun j => by
    refine Eq.trans (Finset.sum_congr rfl fun e _ => ?_) ((sum_low q (k j.val)).trans (Eq.trans (Finset.sum_congr rfl fun e _ => ?_) (ha j)))
    · rw [low_apply, hq, hk]
    · rw [Nat.zero_add]) hv
  have h1 := attended_row (high x0) x1 x2 p d b v (fun j => by
    refine Eq.trans (Finset.sum_congr rfl fun e _ => ?_) ((sum_high q (k j.val)).trans (hb j))
    rw [high_apply, hq, hk]) hv
  obtain ⟨u, hu⟩ := OnlineSoftmax.weight_real a (n := 4096) (by decide)
  obtain ⟨w, hw⟩ := OnlineSoftmax.weight_real b (n := 4096) (by decide)
  rw [less_apply, h0, h1]
  exact OnlineSoftmax.sum_sub_mul (fun j : Fin 4096 => v j.val) _ _ _ hr (fun j => ⟨u j, hu j⟩) (fun j => ⟨w j, hw j⟩) hl

section Values
variable (μ : (ℓ : Loc nD τ sig) → Buf (Elt Ideal) ℓ)
variable (c : Dev nD) (hA : Between (a := 8192) (b := 4352) (μ ((c : Thread nD τ).loc main_arg0)) 1024 2048)
  (hV : Between (a := 8192) (b := 2048) (μ ((c : Thread nD τ).loc main_arg1)) 512 1024)
  (hP : Real (s := S4x64) (μ ((c : Thread nD τ).loc main_arg2)))
include hA hV hP

theorem written (t : Fin cfg0.N) (y : S1024x128.Idx) (z : S8192x1024.Idx)
    (h0 : (z 0).val = (t.val / 32 * 4 + t.val % 4) * 1024 + (y 0).val) (h1 : (z 1).val = t.val / 4 % 8 * 128 + (y 1).val) :
    out0_5 (F := Ideal) (iblk μ c 0 t) (iblk μ c 1 t) (iblk μ c 2 t) (iblk μ c 3 t) (iblk μ c 4 t) y
      = G (μ ((c : Thread nD τ).loc main_arg0)) (μ ((c : Thread nD τ).loc main_arg1))
      (μ ((c : Thread nD τ).loc main_arg2)) (μ ((c : Thread nD τ).loc main_arg3)) z := by
  have ht : t.val < 64 := Nat.lt_of_lt_of_eq t.isLt N_0
  obtain ⟨p, d, rfl⟩ : ∃ (p : Fin 1024) (d : Fin 128), y = ix2 p d := ⟨y 0, y 1, eq_ix2 y⟩
  have h0 : (z 0).val = (t.val / 32 * 4 + t.val % 4) * 1024 + p.val := h0
  have h1 : (z 1).val = t.val / 4 % 8 * 128 + d.val := h1
  have hp := p.isLt
  have hd := d.isLt
  have hb : (z 0).val / 4096 = t.val / 32 := by omega
  have hh : (z 1).val / 128 = t.val / 4 % 8 := by omega
  have hm : (⟨(z 1).val % 128, Nat.mod_lt _ (by decide)⟩ : Fin 128) = d := Fin.ext (by show (z 1).val % 128 = d.val; omega)
  have hl : (fun (a : Fin 4) (e : Fin 64) => iblk μ c 3 t (ix2 a e)) = fun a e => μ ((c : Thread nD τ).loc main_arg2) (ix2 a e) := by
    funext a e
    exact parameters_apply μ c t (ix2 a e)
  obtain ⟨s, hs⟩ := score_real _ hA 0 (z 0).val ((z 1).val / 128) (by decide) (by omega)
  obtain ⟨u, hu⟩ := score_real _ hA 64 (z 0).val ((z 1).val / 128) (by decide) (by omega)
  have hr := lam_real (fun a e => μ ((c : Thread nD τ).loc main_arg2) (ix2 a e)) (fun a e => hP (ix2 a e))
  rw [out_eq]
  refine (normed_apply _ _ p d).trans ?_
  rw [gain_apply μ c t d]
  unfold G
  rw [hm]
  refine congrArg (fun f : Fin 128 → EReal => unit f _ d) (funext fun e => ?_)
  have he := e.isLt
  refine (less_row (iblk μ c 0 t) (iblk μ c 1 t) (iblk μ c 2 t) (iblk μ c 3 t) p e
    (fun n => entry (a := 8192) (b := 4352) (μ ((c : Thread nD τ).loc main_arg0)) (z 0).val (1024 + (z 1).val / 128 * 128 + n))
    (fun j n => entry (a := 8192) (b := 4352) (μ ((c : Thread nD τ).loc main_arg0)) ((z 0).val / 4096 * 4096 + j) (2048 + (z 1).val / 128 * 128 + n))
    (fun j => entry (a := 8192) (b := 2048) (μ ((c : Thread nD τ).loc main_arg1)) ((z 0).val / 4096 * 4096 + j) (512 + (z 1).val / 128 * 128 + e.val))
    s u (fun f => ?_) (fun j f => ?_) (fun j => ?_) (fun j => ?_) ?_ (fun j => hs j.val) (fun j => hu j.val)).trans ?_
  · have hf := f.isLt
    rw [entry_of _ _ _ (by omega) (by omega)]
    exact queries_apply μ c t (ix2 p f) _ h0 (by show 1024 + (z 1).val / 128 * 128 + f.val = (8 + t.val / 4 % 8) * 128 + f.val; omega)
  · have hf := f.isLt
    have hj := j.isLt
    rw [entry_of _ _ _ (by omega) (by omega)]
    exact keys_apply μ c t (ix2 j f) _ (by show (z 0).val / 4096 * 4096 + j.val = _; rw [hb])
      (by show 2048 + (z 1).val / 128 * 128 + f.val = (16 + t.val / 4 % 8) * 128 + f.val; omega)
  · have hj := j.isLt
    rw [entry_of _ _ _ (by omega) (by omega)]
    exact values_apply μ c t (ix2 j e) _ (by show (z 0).val / 4096 * 4096 + j.val = _; rw [hb])
      (by show 512 + (z 1).val / 128 * 128 + e.val = (4 + t.val / 4 % 8) * 128 + e.val; omega)
  · show ∃ x : ℝ, entry _ _ (512 + (z 1).val / 128 * 128 + e.val) = _
    rw [show 512 + (z 1).val / 128 * 128 + e.val = 512 + ((z 1).val / 128 * 128 + e.val) by omega]
    exact hV _ _ (by omega)
  · rw [hl]
    exact hr
  · rw [hl]
    unfold mix
    simp only [hs, hu]

/-- The result array after the run. -/
theorem final :
    (dats μ 0 c).arrAt 5 cfg0.N = G (μ ((c : Thread nD τ).loc main_arg0)) (μ ((c : Thread nD τ).loc main_arg1))
      (μ ((c : Thread nD τ).loc main_arg2)) (μ ((c : Thread nD τ).loc main_arg3)) := by
  refine (dats μ 0 c).arrAt_eq_of_covers 5 _ ?_ fun t hf (y : S1024x128.Idx) => ?_
  · exact of_decide_eq_true (by sl_kernel_rfl)
  · refine (congrFun (after0_5 μ c t) y).trans (written μ c hA hV hP t y _ ?_ ?_)
    · show (IntOp.addi (IntOp.muli (BitVec.ofNat 32 (grid0.coords t 0).val) 4#32) (BitVec.ofNat 32 (grid0.coords t 2).val)).toNat
        * 1024 + 1 * (y 0).val = _
      rw [rowBlock]
      omega
    · show (BitVec.ofNat 32 (grid0.coords t 1).val).toNat * 128 + 1 * (y 1).val = _
      rw [headBlock]
      omega

end Values

/-- The run, the numbers attended with being finite: the result array holds the differential attention of the second layer, the arguments end unchanged. -/
theorem run (μ : (ℓ : Loc nD τ sig) → Buf (Elt Ideal) ℓ) (ρ : Dev nD → PrngReg)
    (hA : ∀ c : Dev nD, Between (a := 8192) (b := 4352) (μ ((c.tc : Thread nD τ).loc main_arg0)) 1024 2048)
    (hV : ∀ c : Dev nD, Between (a := 8192) (b := 2048) (μ ((c.tc : Thread nD τ).loc main_arg1)) 512 1024)
    (hP : ∀ c : Dev nD, Real (s := S4x64) (μ ((c.tc : Thread nD τ).loc main_arg2))) :
    θ_run (defs (F := Ideal)) (onTc (τ := τ) (main (F := Ideal))) ⟨μ, fun _ => 0, ρ⟩ (fun r => ∀ c : Dev nD,
      r.2.mem ((c.tc : Thread nD τ).loc main_v1)
        = G (μ ((c.tc : Thread nD τ).loc main_arg0)) (μ ((c.tc : Thread nD τ).loc main_arg1)) (μ ((c.tc : Thread nD τ).loc main_arg2))
          (μ ((c.tc : Thread nD τ).loc main_arg3))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)) :=
  (θ_run defs _ _).mono (fun r h c => ⟨(h c).1.trans (final μ c (hA c) (hV c) (hP c)), (h c).2⟩) (Cert.Kernel13Ideal.Value.run_blocks μ ρ)

end Cert.Proof.DiffSecond

end
-- ==== Proof.DiffSecondReference.lean ====
/-
  The reference of the differential attention of the second layer, entry by entry what the kernel's call leaves.
-/
module

public import proofs.«01_k».proof.Proof.DiffSecondRun
public import proofs.«01_k».proof.Proof.MlaReference
public import proofs.«01_k».proof.Proof.Gen.Reference13Ideal.Run
public import Idealize.ShloMosaic.Lib.IdealHost
public import Idealize.ShloMosaic.Lib.Pointwise.Reduce

@[expose] public section

noncomputable section

namespace Cert.Proof.DiffSecond

open Idealize.ShloMosaic hiding ix1 ix2 ix3 ix4
open Idealize.ShloMosaic.TcCoe Idealize.SL.Sem
open Cert.Reference13Ideal Cert.Reference13Ideal.Gen Idealize.ShloMosaic.ValueIdx
open Cert.Proof.Mla (entry entry_of row_of parted shares shares_apply gathered)

/-! ## The arguments by batch, row, head and column -/

theorem sliced (n o : ℕ) (a : FVec Ideal ⟨2, ![8192, n]⟩ .bf16) (hs : (⟨2, ![8192, n]⟩ : Shape).Slices ![0, o] S8192x1024) (hn : o + 1024 ≤ n)
    (i j : ℕ) (hi : i < 8192) (hj : j < 1024) :
    entry (a := 8192) (b := 1024) (extractStridedSlice S8192x1024 ![0, o] a hs) i j = entry (a := 8192) (b := n) a i (o + j) := by
  rw [entry_of _ _ _ hi hj, entry_of _ _ _ hi (by omega)]
  refine extractStridedSlice_apply _ a hs _ _ fun x => ?_
  match x with
  | ⟨0, _⟩ => exact (Nat.zero_add _).symm
  | ⟨1, _⟩ => rfl

/-- 1024 columns laid out by batch, row, head and column. -/
def columns (n o : ℕ) (a : FVec Ideal ⟨2, ![8192, n]⟩ .bf16) (hs : (⟨2, ![8192, n]⟩ : Shape).Slices ![0, o] S8192x1024) :
    FVec Ideal S2x4096x8x128 .f32 :=
  shapeCast S2x4096x8x128 (extf .f32 (extractStridedSlice S8192x1024 ![0, o] a hs) bitsLt_bf16_f32) shapeCasts_S8192x1024_S2x4096x8x128

theorem columns_apply (n o : ℕ) (a : FVec Ideal ⟨2, ![8192, n]⟩ .bf16) (hs) (hn : o + 1024 ≤ n)
    (b : Fin 2) (i : Fin 4096) (h : Fin 8) (d : Fin 128) :
    columns n o a hs (ix4 b i h d) = entry (a := 8192) (b := n) a (b.val * 4096 + i.val) (o + h.val * 128 + d.val) := by
  have hb := row_of b i
  have hh : h.val * 128 + d.val < 1024 := by have := h.isLt; have := d.isLt; omega
  refine (parted _ b i h d).trans ((sliced n o a hs hn _ _ hb hh).trans ?_)
  rw [Nat.add_assoc]

/-- A half of a head's columns. -/
theorem half_apply (o : ℕ) (x : FVec Ideal S2x4096x8x128 .f32) (hs : S2x4096x8x128.Slices ![0, 0, 0, o] S2x4096x8x64)
    (b : Fin 2) (i : Fin 4096) (h : Fin 8) (e : Fin 64) (ho : o + e.val < 128) :
    extractStridedSlice S2x4096x8x64 ![0, 0, 0, o] x hs (ix4 b i h e) = x (ix4 b i h ⟨o + e.val, ho⟩) := by
  refine extractStridedSlice_apply _ x hs _ _ fun a => ?_
  match a with
  | ⟨0, _⟩ => exact (Nat.zero_add _).symm
  | ⟨1, _⟩ => exact (Nat.zero_add _).symm
  | ⟨2, _⟩ => exact (Nat.zero_add _).symm
  | ⟨3, _⟩ => rfl

theorem scored (A B : FVec Ideal S2x4096x8x64 .f32) (b : Fin 2) (h : Fin 8) (i j : Fin 4096) :
    Host.dotGeneral dot_S2x4096x8x64_S2x4096x8x64_S2x8x4096x4096_3_3_1_1_02_02 none A B (ix4 b h i j)
      = ∑ e : Fin 64, (A (ix4 b i h e) * B (ix4 b j h e) : EReal) := by
  let D := dot_S2x4096x8x64_S2x4096x8x64_S2x8x4096x4096_3_3_1_1_02_02
  show FloatOps.dotGeneral D none _ A B (ix4 b h i j) = _
  rw [Ideal.dotGeneral_apply, ← Equiv.sum_comp (contrEquiv1 D 64 rfl rfl).symm]
  refine Finset.sum_congr rfl fun e _ => ?_
  have he := contrEquiv1_symm_val D 64 rfl rfl e
  have el : D.lhsIdx (ix4 b h i j) ((contrEquiv1 D 64 rfl rfl).symm e) = ix4 b i h e := by
    funext a; apply Fin.ext
    match a with
    | ⟨0, _⟩ => rfl
    | ⟨1, _⟩ => rfl
    | ⟨2, _⟩ => rfl
    | ⟨3, _⟩ => exact he
  have er : D.rhsIdx (ix4 b h i j) ((contrEquiv1 D 64 rfl rfl).symm e) = ix4 b j h e := by
    funext a; apply Fin.ext
    match a with
    | ⟨0, _⟩ => rfl
    | ⟨1, _⟩ => rfl
    | ⟨2, _⟩ => rfl
    | ⟨3, _⟩ => exact he
  rw [el, er]

/-- The scores over a half of the columns. -/
def scores4 (o : ℕ) (A : FVec Ideal S8192x4352 .bf16) (hs : S2x4096x8x128.Slices ![0, 0, 0, o] S2x4096x8x64) : FVec Ideal S2x8x4096x4096 .f32 :=
  Host.dotGeneral dot_S2x4096x8x64_S2x4096x8x64_S2x8x4096x4096_3_3_1_1_02_02 none
    (extractStridedSlice S2x4096x8x64 ![0, 0, 0, o] (columns 4352 1024 A slices_S8192x4352_S8192x1024_0_1024) hs)
    (extractStridedSlice S2x4096x8x64 ![0, 0, 0, o] (columns 4352 2048 A slices_S8192x4352_S8192x1024_0_2048) hs)

theorem scores4_apply (o : ℕ) (ho : o ≤ 64) (A : FVec Ideal S8192x4352 .bf16) (hs) (b : Fin 2) (h : Fin 8) (i j : Fin 4096) :
    scores4 o A hs (ix4 b h i j) = score A o (b.val * 4096 + i.val) h.val j.val := by
  refine (scored _ _ b h i j).trans (Finset.sum_congr rfl fun e _ => ?_)
  have hb : (b.val * 4096 + i.val) / 4096 = b.val := by have := i.isLt; omega
  have he : o + e.val < 128 := by have := e.isLt; omega
  rw [hb]
  exact congrArg₂ (fun x y : EReal => x * y)
    ((half_apply o _ hs b i h e he).trans (columns_apply 4352 1024 A _ (by decide) b i h ⟨o + e.val, he⟩))
    ((half_apply o _ hs b j h e he).trans (columns_apply 4352 2048 A _ (by decide) b j h ⟨o + e.val, he⟩))

/-! ## The factor -/

theorem parameter_row (r : ℕ) (P : FVec Ideal S4x64 .f32) (hs : S4x64.Slices ![r, 0] S1x64) (hr : r < 4) (e : Fin 64) :
    shapeCast S64 (extractStridedSlice S1x64 ![r, 0] P hs) shapeCasts_S1x64_S64 (ix1 e) = P (ix2 ⟨r, hr⟩ e) := by
  refine (shapeCast_apply _ _ (ix1 e) (ix2 (0 : Fin 1) e) ?_).trans (extractStridedSlice_apply _ P hs _ _ fun a => ?_)
  · rw [Shape.rowMajor_val_one, Shape.rowMajor_val_two]
    show 0 * 64 + e.val = e.val
    omega
  · match a with
    | ⟨0, _⟩ => rfl
    | ⟨1, _⟩ => exact (Nat.zero_add _).symm

/-- The exponential of the product of two rows of the parameters. -/
def power0 (r s : ℕ) (P : FVec Ideal S4x64 .f32) (hr : S4x64.Slices ![r, 0] S1x64) (hs : S4x64.Slices ![s, 0] S1x64) : FVec Ideal S_ .f32 :=
  Host.exp (Host.reduceAdd (mulf (shapeCast S64 (extractStridedSlice S1x64 ![r, 0] P hr) shapeCasts_S1x64_S64)
    (shapeCast S64 (extractStridedSlice S1x64 ![s, 0] P hs) shapeCasts_S1x64_S64)) (constant S_ .f32 0x00000000#32) reducesTo_S64_S_d0 h_S_)

theorem power0_apply (r s : ℕ) (P : FVec Ideal S4x64 .f32) (hr) (hs) (lr : r < 4) (ls : s < 4) (z : S_.Idx) :
    power0 r s P hr hs z = power (fun a e => P (ix2 a e)) ⟨r, lr⟩ ⟨s, ls⟩ := by
  refine congrArg Ideal.exp ?_
  refine (Ideal.hostReduceAdd_r1_a0 reducesTo_S64_S_d0 _ _ z).trans ?_
  rw [show constant (F := Ideal) S_ .f32 0x00000000#32 (Shape.Idx.first h_S_) = (0 : EReal) from Ideal.ofBits_zero_f32, zero_add]
  exact Finset.sum_congr rfl fun e _ => congrArg₂ (fun a b : EReal => a * b) (parameter_row r P hr lr e) (parameter_row s P hs ls e)

def factor0 (P : FVec Ideal S4x64 .f32) : FVec Ideal S_ .f32 :=
  addf (subf (power0 0 1 P slices_S4x64_S1x64_0_0 slices_S4x64_S1x64_1_0) (power0 2 3 P slices_S4x64_S1x64_2_0 slices_S4x64_S1x64_3_0))
    (constant S_ .f32 0x3EB60549#32)

theorem factor0_apply (P : FVec Ideal S4x64 .f32) (z : S_.Idx) : factor0 P z = lam (fun a e => P (ix2 a e)) :=
  congrArg₂ (fun a b : EReal => a - b + Ideal.ofBits .f32 0x3EB60549#32) (power0_apply 0 1 P _ _ (by decide) (by decide) z)
    (power0_apply 2 3 P _ _ (by decide) (by decide) z)

/-! ## The weights' difference and the weighted values -/

/-- The first shares less the factor times the second. -/
def differed (A : FVec Ideal S8192x4352 .bf16) (P : FVec Ideal S4x64 .f32) : FVec Ideal S2x8x4096x4096 .f32 :=
  subf (shares (scores4 0 A slices_S2x4096x8x128_S2x4096x8x64_0_0_0_0))
    (mulf (broadcastInDim S2x8x4096x4096 ![] bcast_S_S2x8x4096x4096 (factor0 P))
      (shares (scores4 64 A slices_S2x4096x8x128_S2x4096x8x64_0_0_0_64)))

theorem differed_of (s t : FVec Ideal S2x8x4096x4096 .f32) (l : FVec Ideal S_ .f32) (c : EReal) (hl : ∀ z, l z = c) (z : S2x8x4096x4096.Idx) :
    subf s (mulf (broadcastInDim S2x8x4096x4096 ![] bcast_S_S2x8x4096x4096 l) t) z = (s z - c * t z : EReal) :=
  congrArg (fun x : EReal => (s z : EReal) - x * t z) ((broadcastInDim_scalar_apply _ l z).trans (hl _))

theorem shares_of (o : ℕ) (ho : o ≤ 64) (A : FVec Ideal S8192x4352 .bf16) (hs) (b : Fin 2) (h : Fin 8) (i j : Fin 4096) :
    shares (scores4 o A hs) (ix4 b h i j) = OnlineSoftmax.weight (fun k : Fin 4096 => score A o (b.val * 4096 + i.val) h.val k.val) j := by
  refine (shares_apply _ b h i j).trans (congrArg (fun s : Fin 4096 → EReal => OnlineSoftmax.weight s j) (funext fun k => ?_))
  exact scores4_apply o ho A hs b h i k

theorem differed_apply (A : FVec Ideal S8192x4352 .bf16) (P : FVec Ideal S4x64 .f32) (b : Fin 2) (h : Fin 8) (i j : Fin 4096) :
    differed A P (ix4 b h i j) = OnlineSoftmax.weight (fun k : Fin 4096 => score A 0 (b.val * 4096 + i.val) h.val k.val) j
      - lam (fun a e => P (ix2 a e)) * OnlineSoftmax.weight (fun k : Fin 4096 => score A 64 (b.val * 4096 + i.val) h.val k.val) j := by
  unfold differed
  rw [differed_of _ _ _ _ (factor0_apply P), shares_of 0 (by decide), shares_of 64 (by decide)]

def headed (A : FVec Ideal S8192x4352 .bf16) (V : FVec Ideal S8192x2048 .bf16) (P : FVec Ideal S4x64 .f32) : FVec Ideal S2x4096x8x128 .f32 :=
  transpose S2x4096x8x128 [0, 3, 1, 2]
    (Host.dotGeneral dot_S2x4096x8x128_S2x8x4096x4096_S2x8x128x4096_1_3_3_2_02_01 none
      (columns 2048 512 V slices_S8192x2048_S8192x1024_0_512) (differed A P))
    transposes_S2x8x128x4096_S2x4096x8x128_0_3_1_2

theorem headed_apply (A : FVec Ideal S8192x4352 .bf16) (V : FVec Ideal S8192x2048 .bf16) (P : FVec Ideal S4x64 .f32)
    (b : Fin 2) (i : Fin 4096) (h : Fin 8) (d : Fin 128) :
    headed A V P (ix4 b i h d) = mix A V (lam fun a e => P (ix2 a e)) (b.val * 4096 + i.val) h.val d.val := by
  have hb : (b.val * 4096 + i.val) / 4096 = b.val := by have := i.isLt; omega
  refine (transpose_apply _ _ _ (ix4 b i h d) (ix4 b h d i) fun a => ?_).trans ?_
  · match a with
    | ⟨0, _⟩ => rfl
    | ⟨1, _⟩ => rfl
    | ⟨2, _⟩ => rfl
    | ⟨3, _⟩ => rfl
  refine (gathered _ _ b h d i).trans ?_
  unfold mix
  rw [hb]
  exact Finset.sum_congr rfl fun j _ => congrArg₂ (fun x y : EReal => x * y)
    (columns_apply 2048 512 V _ (by decide) b j h d) (differed_apply A P b h i j)

/-! ## The norm -/

theorem reduces_columns : S2x4096x8x128.Reduces [3] S2x4096x8 := by decide

/-- One over the root of the mean square, with the small number in it. -/
def scaled4 (o : FVec Ideal S2x4096x8x128 .f32) : FVec Ideal S2x4096x8x1 .f32 :=
  Host.rsqrt (addf (Host.divf (broadcastInDim S2x4096x8x1 ![0, 1, 2] bcast_S2x4096x8_S2x4096x8x1_0_1_2
    (Host.reduceAdd (mulf o o) (constant S_ .f32 0x00000000#32) reducesTo_S2x4096x8x128_S2x4096x8_d3 h_S_))
    (broadcastInDim S2x4096x8x1 ![] bcast_S_S2x4096x8x1 (constant S_ .f32 0x43000000#32)))
    (broadcastInDim S2x4096x8x1 ![] bcast_S_S2x4096x8x1 (constant S_ .f32 0x3727C5AC#32)))

theorem scaled4_apply (o : FVec Ideal S2x4096x8x128 .f32) (b : Fin 2) (i : Fin 4096) (h : Fin 8) :
    scaled4 o (ix4 b i h (0 : Fin 1)) = Ideal.rsqrt (Ideal.div (∑ e : Fin 128, (o (ix4 b i h e) * o (ix4 b i h e) : EReal))
      (Ideal.ofBits .f32 0x43000000#32) + Ideal.ofBits .f32 0x3727C5AC#32) := by
  refine congrArg (fun x : EReal => Ideal.rsqrt (Ideal.div x (Ideal.ofBits .f32 0x43000000#32) + Ideal.ofBits .f32 0x3727C5AC#32)) ?_
  refine (broadcastInDim_apply _ _ _ (ix4 b i h (0 : Fin 1)) (ix3 b i h) fun a => ?_).trans ?_
  · match a with
    | ⟨0, _⟩ => rfl
    | ⟨1, _⟩ => rfl
    | ⟨2, _⟩ => rfl
  · exact Rows.host_summed 2 4096 8 128 (mulf o o) _ reducesTo_S2x4096x8x128_S2x4096x8_d3 reduces_columns Ideal.ofBits_zero_f32 b i h

def normed4 (o : FVec Ideal S2x4096x8x128 .f32) (g : FVec Ideal S128 .f32) : FVec Ideal S2x4096x8x128 .f32 :=
  mulf (mulf (mulf o (broadcastInDim S2x4096x8x128 ![0, 1, 2, 3] bcast_S2x4096x8x1_S2x4096x8x128_0_1_2_3 (scaled4 o)))
    (broadcastInDim S2x4096x8x128 ![0, 1, 2, 3] bcast_S1x1x1x128_S2x4096x8x128_0_1_2_3
      (broadcastInDim S1x1x1x128 ![3] bcast_S128_S1x1x1x128_3 g)))
    (broadcastInDim S2x4096x8x128 ![] bcast_S_S2x4096x8x128 (constant S_ .f32 0x3F24FD5C#32))

theorem normed4_apply (o : FVec Ideal S2x4096x8x128 .f32) (g : FVec Ideal S128 .f32) (b : Fin 2) (i : Fin 4096) (h : Fin 8) (d : Fin 128) :
    normed4 o g (ix4 b i h d) = unit (fun e => o (ix4 b i h e)) (g (ix1 d)) d := by
  refine congrArg₂ (fun x y : EReal => o (ix4 b i h d) * x * y * Ideal.ofBits .f32 0x3F24FD5C#32) ?_ ?_
  · refine (broadcastInDim_apply _ _ _ (ix4 b i h d) (ix4 b i h (0 : Fin 1)) fun a => ?_).trans (scaled4_apply o b i h)
    match a with
    | ⟨0, _⟩ => rfl
    | ⟨1, _⟩ => rfl
    | ⟨2, _⟩ => rfl
    | ⟨3, _⟩ => rfl
  · refine (broadcastInDim_apply _ _ _ (ix4 b i h d) (ix4 (0 : Fin 1) (0 : Fin 1) (0 : Fin 1) d) fun a => ?_).trans
      (broadcastInDim_apply _ _ g _ (ix1 d) fun a => ?_)
    · match a with
      | ⟨0, _⟩ => rfl
      | ⟨1, _⟩ => rfl
      | ⟨2, _⟩ => rfl
      | ⟨3, _⟩ => rfl
    · match a with
      | ⟨0, _⟩ => rfl

/-! ## The result -/

/-- The reference's result, of its arguments. -/
def attention (A : FVec Ideal S8192x4352 .bf16) (V : FVec Ideal S8192x2048 .bf16) (P : FVec Ideal S4x64 .f32) (g : FVec Ideal S128 .f32) :
    FVec Ideal S8192x1024 .bf16 :=
  truncf .bf16 (shapeCast S8192x1024 (normed4 (headed A V P) g) shapeCasts_S2x4096x8x128_S8192x1024) bitsLt_bf16_f32

theorem attention_apply (A : FVec Ideal S8192x4352 .bf16) (V : FVec Ideal S8192x2048 .bf16) (P : FVec Ideal S4x64 .f32)
    (g : FVec Ideal S128 .f32) (b : Fin 2) (i : Fin 4096) (h : Fin 8) (d : Fin 128) (z : S8192x1024.Idx)
    (z0 : (z 0).val = b.val * 4096 + i.val) (z1 : (z 1).val = h.val * 128 + d.val) :
    attention A V P g z = G A V P g z := by
  have hh : (z 1).val / 128 = h.val := by have := d.isLt; omega
  have hm : (⟨(z 1).val % 128, Nat.mod_lt _ (by decide)⟩ : Fin 128) = d :=
    Fin.ext (by show (z 1).val % 128 = d.val; have := d.isLt; omega)
  refine Eq.trans (b := shapeCast S8192x1024 (normed4 (headed A V P) g) shapeCasts_S2x4096x8x128_S8192x1024 z) rfl ?_
  refine (shapeCast_apply _ shapeCasts_S2x4096x8x128_S8192x1024 z (ix4 b i h d) ?_).trans ?_
  · rw [Shape.rowMajor_val_two, Shape.rowMajor_val_four, z0, z1]
    show ((b.val * 4096 + i.val) * 8 + h.val) * 128 + d.val = (b.val * 4096 + i.val) * 1024 + (h.val * 128 + d.val)
    omega
  refine (normed4_apply _ g b i h d).trans ?_
  unfold G
  rw [hm, z0, hh]
  exact congrArg (fun f : Fin 128 → EReal => unit f (g (ix1 d)) d) (funext fun e => headed_apply A V P b i h e)

theorem attention_eq (A : FVec Ideal S8192x4352 .bf16) (V : FVec Ideal S8192x2048 .bf16) (P : FVec Ideal S4x64 .f32)
    (g : FVec Ideal S128 .f32) : attention A V P g = G A V P g := by
  funext z
  have h0 : (z 0).val < 8192 := (z 0).isLt
  have h1 : (z 1).val < 1024 := (z 1).isLt
  exact attention_apply A V P g ⟨(z 0).val / 4096, by omega⟩ ⟨(z 0).val % 4096, by omega⟩ ⟨(z 1).val / 128, by omega⟩
    ⟨(z 1).val % 128, by omega⟩ z (by show _ = (z 0).val / 4096 * 4096 + (z 0).val % 4096; omega)
    (by show _ = (z 1).val / 128 * 128 + (z 1).val % 128; omega)

/-- The reference's run, at the value the kernel's run ends with. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v74)
        = G (m ((c.tc : Thread nD τ).loc main_arg0)) (m ((c.tc : Thread nD τ).loc main_arg1)) (m ((c.tc : Thread nD τ).loc main_arg2))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨(h c).1.trans ?_, (h c).2⟩) (Cert.Reference13Ideal.Value.run (F := Ideal) m ρ)
  refine Eq.trans ?_ (attention_eq (m ((c.tc : Thread nD τ).loc main_arg0)) (m ((c.tc : Thread nD τ).loc main_arg1))
    (m ((c.tc : Thread nD τ).loc main_arg2)) (m ((c.tc : Thread nD τ).loc main_arg3)))
  unfold Cert.Reference13Ideal.Value.res_main_v74 attention normed4 scaled4 headed differed factor0 power0 Mla.shares Mla.powers Mla.peaks
    Mla.over scores4 columns
  rfl

end Cert.Proof.DiffSecond

end
-- ==== Proof.DiffSecondClaims.lean ====
/-
  The claims about the differential attention of the second layer: both programs' frames from one run, and the value where what it attends with is finite.
-/
module

public import proofs.«01_k».proof.Defs
public import proofs.«01_k».proof.Proof.DiffSecondReference
public import proofs.«01_k».proof.Proof.DiffClaims
public import proofs.«01_k».proof.Proof.Gen.Kernel13

@[expose] public section

noncomputable section

namespace Cert.Proof.DiffSecond

open Idealize.ShloMosaic Idealize.SL.Sem
open Cert.Proof.Diff (facts_finite real_of_pre)

section Same
variable {F : FTy → Type} [FloatOps F]

/-- The program as printed and the program read over the reals have one text: one set of bodies. -/
theorem bodies_eq : Cert.Kernel13.defs₀ (F := F) = Cert.Kernel13Ideal.defs₀ (F := F) := by
  unfold Cert.Kernel13.defs₀ Cert.Kernel13Ideal.defs₀
  refine congrArg Defs.onTc (funext fun l => ?_)
  match l with
  | 0 => rfl

theorem defs_eq : Cert.Kernel13.defs (F := F) = Cert.Kernel13Ideal.defs (F := F) := by
  unfold Cert.Kernel13.defs Cert.Kernel13Ideal.defs
  exact congrArg _ bodies_eq

end Same

/-! ## The claims -/

theorem frame : Cert.quiescent_Kernel13 := fun m ρ _ => by
  rw [defs_eq]
  exact Cert.Kernel13Ideal.Gen.frame (F := Bits) m ρ

theorem frame_ideal : Cert.quiescent_Kernel13Ideal := fun m ρ _ =>
  Cert.Kernel13Ideal.Gen.frame (F := Ideal) m ρ

theorem frame_ideal_finite : Cert.quiescent_Kernel13Ideal_pre_finite_diff (hPre_finite_diff := facts_finite) := fun m ρ _ =>
  Cert.Kernel13Ideal.Gen.frame (F := Ideal) m ρ

theorem frame_reference : Cert.quiescent_Reference13Ideal := fun m ρ _ =>
  (θ_run _ _ _).mono (fun r h => ⟨fun c => (h c).2, Idealize.ShloMosaic.sem_eq_zero_of_no_sems (by decide) r.2⟩) (reference_run m ρ)

theorem frame_reference_finite : Cert.quiescent_Reference13Ideal_pre_finite_diff (hPre_finite_diff := facts_finite) := fun m ρ _ =>
  (θ_run _ _ _).mono (fun r h => ⟨fun c => (h c).2, Idealize.ShloMosaic.sem_eq_zero_of_no_sems (by decide) r.2⟩) (reference_run m ρ)

theorem algebraic : Cert.algebraic_Kernel13Ideal_Reference13Ideal_pre_finite_diff (hPre_finite_diff := facts_finite) := by
  intro m ρ m' ρ' hpre hargs
  have hr := fun c => real_of_pre (hf := facts_finite) _ _ _ _ (hpre c)
  refine ⟨fun c => G (m ((c.tc : Thread _ _).loc Cert.Kernel13Ideal.main_arg0)) (m ((c.tc : Thread _ _).loc Cert.Kernel13Ideal.main_arg1))
    (m ((c.tc : Thread _ _).loc Cert.Kernel13Ideal.main_arg2)) (m ((c.tc : Thread _ _).loc Cert.Kernel13Ideal.main_arg3)), ?_, ?_⟩
  · exact run m ρ (fun c => (hr c).1) (fun c => (hr c).2.1) (fun c => (hr c).2.2)
  · refine (θ_run _ _ _).mono (fun r h c => ⟨(h c).1.trans ?_, (h c).2⟩) (reference_run m' ρ')
    obtain ⟨e0, e1, e2, e3⟩ := hargs c
    rw [e0, e1, e2, e3]

end Cert.Proof.DiffSecond

end
-- ==== Proof.DenseSecond.lean ====
/-
  The second matrix of a stack at an entry, the host's products with it, and the combined input projection with the second layer's
  weights.
-/
module

public import proofs.«01_k».proof.Proof.InProj

@[expose] public section

noncomputable section

namespace Cert.Proof.Dense

open Idealize.ShloMosaic Idealize.ShloMosaic.ValueIdx

/-- The second of two matrices, at an entry. -/
theorem second_layer {φ : FTy} (r c : ℕ) (w : FVec Ideal (Stack 2 r c) φ) (hs) (hc) (p : Fin r) (q : Fin c) :
    shapeCast (Mat r c) (extractStridedSlice (Stack 1 r c) ![1, 0, 0] w hs) hc (ix2 p q) = w (ix3 1 p q) := by
  refine (drop_unit r c _ hc (ix2 p q)).trans (congrArg w ?_)
  funext a
  match a with
  | ⟨0, _⟩ => rfl
  | ⟨1, _⟩ => exact Fin.ext (Nat.zero_add _)
  | ⟨2, _⟩ => exact Fin.ext (Nat.zero_add _)

/-- The host's product of widened rows with the second layer of stacked weights, at an entry. -/
theorem host_second (m k n : ℕ) (a : FVec Ideal (Mat m k) .bf16) (w : FVec Ideal (Stack 2 k n) .f32) (hb) (hs) (hc)
    (p : Fin m) (q : Fin n) :
    (Host.dotGeneral (F := Ideal) (DotDims.plain m k n) none (extf .f32 a hb)
      (shapeCast (Mat k n) (extractStridedSlice (Stack 1 k n) ![1, 0, 0] w hs) hc) : FVec Ideal (Mat m n) .f32) (ix2 p q)
      = ∑ e : Fin k, (a (ix2 p e) * w (ix3 1 e q) : EReal) :=
  (host_product m k n a _ hb p q).trans
    (Finset.sum_congr rfl fun e _ => congrArg (fun b : EReal => a (ix2 p e) * b) (second_layer k n w hs hc e q))

end Cert.Proof.Dense

namespace Cert.Proof.InProjSecond

open Idealize.ShloMosaic Idealize.ShloMosaic.ValueIdx Cert.Proof.Dense

abbrev Acts : Shape := Mat 8192 4096
abbrev Weights : Shape := Stack 2 4096 26688
abbrev Whole : Shape := Mat 8192 26688

/-- Entry `(p, q)` of the projection: row `p` of the activations against column `q` of the second layer's weights. -/
def entry (h : FVec Ideal Acts .bf16) (w : FVec Ideal Weights .f32) (p : Fin 8192) (q : Fin 26688) : EReal :=
  ∑ k : Fin 4096, (h (ix2 p k) * w (ix3 1 k q) : EReal)

/-- The host's product of the widened activations with the second layer's weights, at an entry. -/
theorem host_entry (h : FVec Ideal Acts .bf16) (w : FVec Ideal Weights .f32) (hb) (hs) (hc) (p : Fin 8192) (q : Fin 26688) :
    (Host.dotGeneral (F := Ideal) (DotDims.plain 8192 4096 26688) none (extf .f32 h hb)
      (shapeCast (Mat 4096 26688) (extractStridedSlice (Stack 1 4096 26688) ![1, 0, 0] w hs) hc) : FVec Ideal Whole .f32) (ix2 p q)
      = entry h w p q :=
  host_second 8192 4096 26688 h w hb hs hc p q

/-- A range of a range of the rounded projection's columns, at an entry. -/
theorem range_entry (o₁ o₂ n₁ n₂ : ℕ) (h : FVec Ideal Acts .bf16) (w : FVec Ideal Weights .f32) (hb) (hs) (hc) (ht) (h₁) (h₂)
    (p : Fin 8192) (r : Fin n₂) (q : Fin 26688) (hq : o₁ + (o₂ + r.val) = q.val) :
    extractStridedSlice (Mat 8192 n₂) ![0, o₂] (extractStridedSlice (Mat 8192 n₁) ![0, o₁]
      (truncf .bf16 (Host.dotGeneral (F := Ideal) (DotDims.plain 8192 4096 26688) none (extf .f32 h hb)
        (shapeCast (Mat 4096 26688) (extractStridedSlice (Stack 1 4096 26688) ![1, 0, 0] w hs) hc) : FVec Ideal Whole .f32) ht) h₁) h₂
        (ix2 p r)
      = entry h w p q := by
  refine Eq.trans ?_ (host_entry h w hb hs hc p q)
  refine congrArg (Host.dotGeneral (F := Ideal) (DotDims.plain 8192 4096 26688) none _ _ : FVec Ideal Whole .f32) ?_
  funext a
  match a with
  | ⟨0, _⟩ => exact Fin.ext (by show 0 + (0 + p.val) = p.val; omega)
  | ⟨1, _⟩ => exact Fin.ext hq

end Cert.Proof.InProjSecond

end
-- ==== Proof.GatesSecond.lean ====
/-
  The second layer: the call of the projection kernel that makes the gates: where its tiles of weights begin, what each grid point writes,
  and the result array after the run.
-/
module

public import proofs.«01_k».proof.Proof.Gen.Kernel14Ideal.Frame
public import proofs.«01_k».proof.Proof.DenseSecond
public import Idealize.ShloMosaic.Lib.Pipeline.Value
public import Idealize.ShloMosaic.Lib.Pipeline.ValueKit.Geometry
public import Idealize.ShloMosaic.Lib.Pipeline.ValueKit.Acc

@[expose] public section

noncomputable section

namespace Cert.Proof.GatesSecond

open Idealize.ShloMosaic Idealize.ShloMosaic.TcCoe Idealize.SL.Sem
open Cert.Kernel14Ideal Cert.Kernel14Ideal.Gen Idealize.ShloMosaic.ValueIdx

variable {F : FTy → Type} [FloatOps F]
variable (m : (ℓ : Loc nD τ sig) → Buf (Elt F) ℓ)

/-! ## The table -/

/-- The word the table holds at entry `x`. -/
theorem table_apply (x : S32.Idx) : tbl m 0 x = lit0 (S32.rowMajor x) := by
  show StableHlo.after hostOps0 (fun b => m ((0 : Dev nD), b)) (Proc.devRef .tc main_c) x = _
  unfold hostOps0
  after_results

/-- The first column of tile `n`. -/
def start (n : ℕ) : ℕ := 10304 + 512 * n

/-- Every word is a multiple of 64. -/
theorem words_aligned : ∀ j : Fin 32, (64 : Int) ∣ (lit0 j).toInt := by decide

/-- The words are the first columns of the tiles. -/
theorem words_eq : ∀ j : Fin 32, (lit0 j).toNat = start j.val := by decide

/-- A tile lies inside the weights. -/
theorem start_le (n : ℕ) (h : n < 32) : start n + 512 ≤ 26688 :=
  (by decide : ∀ j : Fin 32, start j.val + 512 ≤ 26688) ⟨n, h⟩

theorem table_toNat (x : S32.Idx) : (tbl m 0 x : BitVec 32).toNat = start (x 0).val := by
  have e := (congrArg BitVec.toNat (table_apply m x)).trans (words_eq (S32.rowMajor x))
  exact e.trans (congrArg start (Shape.rowMajor_val_one x))

theorem table_aligned (x : S32.Idx) : (64 : Int) ∣ (tbl m 0 x : BitVec 32).toInt := by
  have e := congrArg BitVec.toInt (table_apply m x)
  exact e ▸ words_aligned _

/-- Where the weights' window begins at the grid point `i`. -/
theorem offset_eq (i : grid0.Coords) :
    cc0_transform_1 k0_off1_inb numel1_S1 (tbl m) i = ![1, start (i 0).val, 0] := by
  unfold cc0_transform_1
  funext a
  match a with
  | ⟨0, _⟩ => rfl
  | ⟨1, _⟩ =>
    refine (table_toNat m _).trans (congrArg start ?_)
    have h : (i 0).val < 32 := (i 0).isLt
    show (BitVec.ofNat 32 (i 0).val).toNat + 1 * 0 = (i 0).val
    rw [BitVec.toNat_ofNat, Nat.mod_eq_of_lt (by omega)]
    omega
  | ⟨2, _⟩ => rfl

/-- The table the host writes is admissible: every window is aligned and inside the weights. -/
theorem ok : Ok m := by
  refine ⟨fun i => ?_, fun i => ⟨fun a => ?_, Or.inl rfl⟩⟩
  · unfold k0_mult1
    dsimp only [Pipeline.Prefetch.Contents.atD]
    split
    · exact table_aligned m _
    · exact ⟨0, rfl⟩
  · rw [offset_eq]
    have h := start_le (i 0).val (i 0).isLt
    match a with
    | ⟨0, _⟩ => show 1 + 1 ≤ 2; omega
    | ⟨1, _⟩ => exact h
    | ⟨2, _⟩ => show 0 + 4096 ≤ 4096; omega

/-! ## One grid point -/

section Cases
variable (c : Dev nD) (i : grid0.Coords) (a3 : Memref sig .tc .vmem S1024x4096 .bf16) (h3 : a3.IsWhole)
  (a4 : Memref sig .tc .vmem S1x512x4096 .f32) (h4 : a4.IsWhole) (a5 : Memref sig .tc .vmem S1024x512 .bf16) (h5 : a5.IsWhole)
  (a6 : Memref sig .tc .vmem S512x4096 .bf16) (h6 : a6.IsWhole)
  (x0 : Vec F S1024x4096 .bf16) (x1 : Vec F S1x512x4096 .f32) (xt : TbBuf0 (F := F) c tbM0_0) (xs : Vec F S512x4096 .bf16)

theorem first_out (hc : cond0_0 i) : out0_A_2 c i a3 h3 a4 h4 a5 h5 a6 h6 hc x0 x1 xt = k0_pay2 x0 (k0_pay1 x1) := by
  frame_out

theorem first_kept (hc : cond0_0 i) : sout0_A_0 c i a3 h3 a4 h4 a5 h5 a6 h6 hc x0 x1 xt = k0_pay1 x1 := by
  frame_out

theorem later_out (hc : ¬cond0_0 i) : out0_B_2 c i a3 h3 a4 h4 a5 h5 a6 h6 hc x0 x1 xt xs = k0_pay2 x0 xs := by
  frame_out

end Cases

/-- The point `t` is at column tile `t / 8` and row tile `t % 8`. -/
theorem point0 (t : Fin grid0.N) : (grid0.coords t 0).val = t.val / 8 := by
  have ht : t.val < 256 := Nat.lt_of_lt_of_eq t.isLt N_0
  rw [show (grid0.coords t 0).val = t.val / 8 % 32 from Pipeline.Grid.coords_val t 0 (by decide) rfl]
  omega

theorem point1 (t : Fin grid0.N) : (grid0.coords t 1).val = t.val % 8 := by
  rw [show (grid0.coords t 1).val = t.val / 1 % 8 from Pipeline.Grid.coords_val t 1 (by decide) rfl]
  omega

/-- The weights the call reads are the argument with its last two axes exchanged. -/
theorem V_weights (c : Dev nD) :
    V m c main_v0 = transpose S2x26688x4096 [0, 2, 1] (m ((c : Thread nD τ).loc main_arg1)) transposes_S2x4096x26688_S2x26688x4096_0_2_1 := by
  show StableHlo.after hostOps0 (fun b => m (c, b)) (Proc.devRef .tc main_v0) = _
  unfold hostOps0
  after_results

/-- The block of activations at an entry. -/
theorem rows_apply (hO : Ok m) (c : Dev nD) (t : Fin (cfgM m hO).N) (y : S1024x4096.Idx) (z : S8192x4096.Idx)
    (hz0 : (z 0).val = t.val % 8 * 1024 + (y 0).val) (hz1 : (z 1).val = (y 1).val) :
    iblk m hO c 0 t y = m ((c : Thread nD τ).loc main_arg0) z := by
  show V m c main_arg0 ((((cfgM m hO).win 0).blk t).view.emb y) = _
  rw [V_main_arg0]
  refine congrArg _ (funext fun a => Fin.ext ?_)
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show 0 * 4096 + 1 * (y 1).val = (z 1).val
    omega

/-- The block of weights at an entry, in the argument's own order. -/
theorem cols_apply (hO : Ok m) (c : Dev nD) (t : Fin (cfgM m hO).N) (y : S1x512x4096.Idx) (z : S2x4096x26688.Idx)
    (hz0 : (z 0).val = 1) (hz1 : (z 1).val = (y 2).val) (hz2 : (z 2).val = start (t.val / 8) + (y 1).val) :
    iblk m hO c 1 t y = m ((c : Thread nD τ).loc main_arg1) z := by
  show V m c main_v0 ((((cfgM m hO).win 1).blk t).view.emb y) = _
  rw [V_weights]
  unfold transpose
  refine congrArg (m ((c : Thread nD τ).loc main_arg1)) (funext fun a => Fin.ext ?_)
  have h0 := point0 t
  have ho := offset_eq m (grid0.coords t)
  match a with
  | ⟨0, _⟩ =>
    show 1 + 1 * (y 0).val = (z 0).val
    have : (y 0).val < 1 := (y 0).isLt
    omega
  | ⟨1, _⟩ =>
    show cc0_transform_1 k0_off1_inb numel1_S1 (tbl m) (grid0.coords t) 2 + 1 * (y 2).val = (z 1).val
    rw [ho]
    show 0 + 1 * (y 2).val = (z 1).val
    omega
  | ⟨2, _⟩ =>
    show cc0_transform_1 k0_off1_inb numel1_S1 (tbl m) (grid0.coords t) 1 + 1 * (y 1).val = (z 2).val
    rw [ho]
    show start (grid0.coords t 0).val + 1 * (y 1).val = (z 2).val
    rw [h0]
    omega

/-- At the first point of a column tile: the tile is cast and kept, and the product is taken with it. -/
theorem at_first (hO : Ok m) (c : Dev nD) (t : Fin (cfgM m hO).N) (h0 : t.val % 8 = 0) :
    outsAt0 m hO c t.val t.isLt = (k0_pay2 (iblk m hO c 0 t) (k0_pay1 (iblk m hO c 1 t)), k0_pay1 (iblk m hO c 1 t)) :=
  (outsAt0_A m hO c t h0).trans (congrArg₂ Prod.mk
    (first_out c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) ((hcond0_0 t).mpr h0))
    (first_kept c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) ((hcond0_0 t).mpr h0)))

/-- What was kept before point `t`. -/
abbrev before (hO : Ok m) (c : Dev nD) (t : Fin (cfgM m hO).N) : Vec F S512x4096 .bf16 :=
  (outsAt0 m hO c (t.val - 1) (Nat.lt_of_le_of_lt (Nat.sub_le _ _) t.isLt)).2

/-- At a later point of the tile: the kept tile stays, and the product is taken with it. -/
theorem at_later (hO : Ok m) (c : Dev nD) (t : Fin (cfgM m hO).N) (h0 : ¬t.val % 8 = 0) :
    outsAt0 m hO c t.val t.isLt = (k0_pay2 (iblk m hO c 0 t) (before m hO c t), before m hO c t) :=
  (outsAt0_B m hO c t h0).trans (congrArg₂ Prod.mk
    (later_out c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) (before m hO c t) (fun h => h0 ((hcond0_0 t).mp h)))
    rfl)

/-- What a point writes is the product of its rows with the kept tile. -/
theorem out_eq (hO : Ok m) (c : Dev nD) (t : Fin (cfgM m hO).N) :
    (outsAt0 m hO c t.val t.isLt).1 = k0_pay2 (iblk m hO c 0 t) (outsAt0 m hO c t.val t.isLt).2 := by
  by_cases h0 : t.val % 8 = 0
  · rw [at_first m hO c t h0]
  · rw [at_later m hO c t h0]

/-! ## Over the reals -/

section Values
variable (μ : (ℓ : Loc nD τ sig) → Buf (Elt Ideal) ℓ)

theorem kept_payload (v : Vec Ideal S1x512x4096 .f32) (y : S512x4096.Idx) :
    k0_pay1 v y = v (ix3 0 (y 0) (y 1)) := by
  unfold k0_pay1
  rw [shapeCast_self]
  exact Dense.drop_unit 512 4096 v _ y

theorem out_payload (a : Vec Ideal S1024x4096 .bf16) (b : Vec Ideal S512x4096 .bf16) (y : S1024x512.Idx) :
    k0_pay2 a b y = ∑ k : Fin 4096, (a (ix2 (y 0) k) * b (ix2 (y 1) k) : EReal) := by
  unfold k0_pay2
  exact Dense.product_transposed 1024 4096 512 a b y

/-- The kept tile after point `n`: the weights of the tile's columns, row by row. -/
theorem kept_apply (hO : Ok μ) (c : Dev nD) : ∀ (n : ℕ) (hn : n < (cfgM μ hO).N) (y : S512x4096.Idx) (z : S2x4096x26688.Idx),
    (z 0).val = 1 → (z 1).val = (y 1).val → (z 2).val = start (n / 8) + (y 0).val →
    (outsAt0 μ hO c n hn).2 y = μ ((c : Thread nD τ).loc main_arg1) z := by
  intro n
  induction n with
  | zero =>
    intro hn y z z0 z1 z2
    refine (congrFun (congrArg Prod.snd (at_first μ hO c ⟨0, hn⟩ rfl)) y).trans ((kept_payload (iblk μ hO c 1 ⟨0, hn⟩) y).trans ?_)
    exact cols_apply μ hO c ⟨0, hn⟩ _ z z0 z1 z2
  | succ n ih =>
    intro hn y z z0 z1 z2
    by_cases h0 : (n + 1) % 8 = 0
    · refine (congrFun (congrArg Prod.snd (at_first μ hO c ⟨n + 1, hn⟩ h0)) y).trans ((kept_payload (iblk μ hO c 1 ⟨n + 1, hn⟩) y).trans ?_)
      exact cols_apply μ hO c ⟨n + 1, hn⟩ _ z z0 z1 z2
    · refine (congrFun (congrArg Prod.snd (at_later μ hO c ⟨n + 1, hn⟩ h0)) y).trans ?_
      refine ih (Nat.lt_of_succ_lt hn) y z z0 z1 (z2.trans ?_)
      rw [show (n + 1) / 8 = n / 8 by omega]

end Values

/-- The column of the weights that column `q` of the result is made with. -/
def column (q : Fin 16384) : Fin 26688 :=
  ⟨start (q.val / 512) + q.val % 512, by have := q.isLt; have := start_le (q.val / 512) (by omega); omega⟩

/-- The product of the activations with the chosen columns of the second layer's weights. -/
def G (h : FVec Ideal S8192x4096 .bf16) (w : FVec Ideal S2x4096x26688 .f32) : FVec Ideal S8192x16384 .bf16 :=
  fun y => InProjSecond.entry h w (y 0) (column (y 1))

theorem written (μ : (ℓ : Loc nD τ sig) → Buf (Elt Ideal) ℓ) (hO : Ok μ) (c : Dev nD) (t : Fin (cfgM μ hO).N) (y : S1024x512.Idx)
    (z : S8192x16384.Idx) (h0 : (z 0).val = t.val % 8 * 1024 + (y 0).val) (h1 : (z 1).val = t.val / 8 * 512 + (y 1).val) :
    (outsAt0 μ hO c t.val t.isLt).1 y = G (μ ((c : Thread nD τ).loc main_arg0)) (μ ((c : Thread nD τ).loc main_arg1)) z := by
  unfold G InProjSecond.entry
  rw [out_eq]
  refine (out_payload _ _ _).trans (Finset.sum_congr rfl fun k _ => ?_)
  have hy1 : (y 1).val < 512 := (y 1).isLt
  refine congrArg₂ (fun a b : EReal => a * b) (rows_apply μ hO c t _ _ h0 rfl) (kept_apply μ hO c t.val t.isLt _ _ rfl rfl ?_)
  show start ((z 1).val / 512) + (z 1).val % 512 = start (t.val / 8) + (y 1).val
  rw [h1, show (t.val / 8 * 512 + (y 1).val) / 512 = t.val / 8 by omega, show (t.val / 8 * 512 + (y 1).val) % 512 = (y 1).val by omega]

/-- The result array after the run. -/
theorem final (μ : (ℓ : Loc nD τ sig) → Buf (Elt Ideal) ℓ) (hO : Ok μ) (c : Dev nD) :
    (dats μ hO 0 c).arrAt 2 (cfgM μ hO).N = G (μ ((c : Thread nD τ).loc main_arg0)) (μ ((c : Thread nD τ).loc main_arg1)) := by
  refine (dats μ hO 0 c).arrAt_eq_of_covers 2 _ ?_ fun t hf (y : S1024x512.Idx) => ?_
  · exact of_decide_eq_true (by sl_kernel_rfl)
  · refine (congrFun (after0_2 μ hO c t) y).trans (written μ hO c t y _ ?_ ?_)
    · show (BitVec.ofNat 32 (grid0.coords t 1).val).toNat * 1024 + 1 * (y 0).val = _
      rw [BitVec.toNat_ofNat, point1, Nat.mod_eq_of_lt (by omega)]
      omega
    · have ht : t.val < 256 := Nat.lt_of_lt_of_eq t.isLt N_0
      show (BitVec.ofNat 32 (grid0.coords t 0).val).toNat * 512 + 1 * (y 1).val = _
      rw [BitVec.toNat_ofNat, point0, Nat.mod_eq_of_lt (by omega)]
      omega

/-- The run: the result array holds the product, the arguments end unchanged. -/
theorem run (μ : (ℓ : Loc nD τ sig) → Buf (Elt Ideal) ℓ) (ρ : Dev nD → PrngReg) :
    θ_run (defs (F := Ideal)) (onTc (τ := τ) (main (F := Ideal))) ⟨μ, fun _ => 0, ρ⟩ (fun r => ∀ c : Dev nD,
      r.2.mem ((c.tc : Thread nD τ).loc main_v1) = G (μ ((c.tc : Thread nD τ).loc main_arg0)) (μ ((c.tc : Thread nD τ).loc main_arg1))
      ∧ r.2.mem ((c.tc : Thread nD τ).loc main_arg0) = μ ((c.tc : Thread nD τ).loc main_arg0)
      ∧ r.2.mem ((c.tc : Thread nD τ).loc main_arg1) = μ ((c.tc : Thread nD τ).loc main_arg1)) := by
  refine (θ_run defs _ _).mono (fun r h c => ?_) (run_main μ ρ (ok μ))
  exact ⟨((h c).1 2).trans (final μ (ok μ) c),
    ((h c).1 0).trans (((dats μ (ok μ) 0 c).arrAt_in 0 rfl _).trans ((A_eq μ (ok μ) c 0).trans (V_main_arg0 μ c))),
    ((h c).2 main_arg1 (by decide : main_arg1 ∈ Pipeline.restRefs sig spec0)).trans (V_main_arg1 μ c)⟩

end Cert.Proof.GatesSecond

end
-- ==== Proof.GatesSecondReference.lean ====
/-
  The second layer: the gates of the reference: the last 16384 columns of the projection, entry by entry what the kernel's call leaves.
-/
module

public import proofs.«01_k».proof.Proof.GatesSecond
public import proofs.«01_k».proof.Proof.Gen.Reference14Ideal.Run

@[expose] public section

noncomputable section

namespace Cert.Proof.GatesSecond

open Idealize.ShloMosaic Idealize.ShloMosaic.TcCoe Idealize.SL.Sem
open Cert.Reference14Ideal Cert.Reference14Ideal.Gen Idealize.ShloMosaic.ValueIdx

/-- The reference's run, at the value the kernel's run ends with. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨(h c).1.trans ?_, (h c).2⟩) (Cert.Reference14Ideal.Value.run (F := Ideal) m ρ)
  funext y
  obtain ⟨p, q, rfl⟩ : ∃ (p : Fin 8192) (q : Fin 16384), y = ix2 p q := ⟨y 0, y 1, eq_ix2 y⟩
  refine Eq.trans ?_ ((InProjSecond.host_entry (m ((c.tc : Thread nD τ).loc main_arg0)) (m ((c.tc : Thread nD τ).loc main_arg1)) bitsLt_bf16_f32
    slices_S2x4096x26688_S1x4096x26688_1_0_0 shapeCasts_S1x4096x26688_S4096x26688 p (column q)))
  refine congrArg (Host.dotGeneral (F := Ideal) (DotDims.plain 8192 4096 26688) none _ _ : FVec Ideal InProjSecond.Whole .f32) ?_
  funext a
  match a with
  | ⟨0, _⟩ => exact Fin.ext (Nat.zero_add _)
  | ⟨1, _⟩ => exact Fin.ext (by show 10304 + q.val = 10304 + 512 * (q.val / 512) + q.val % 512; omega)

end Cert.Proof.GatesSecond

end
-- ==== Proof.GatesSecondClaims.lean ====
/-
  The second layer: the claims about the call that makes the gates: both programs' frames from one run, and the value.
-/
module

public import proofs.«01_k».proof.Defs
public import proofs.«01_k».proof.Proof.GatesSecondReference
public import proofs.«01_k».proof.Proof.Gen.Kernel14

@[expose] public section

noncomputable section

namespace Cert.Proof.GatesSecond

open Idealize.ShloMosaic Idealize.SL.Sem

section Same
variable {F : FTy → Type} [FloatOps F]

/-- The program as printed and the program read over the reals have one text: one set of bodies. -/
theorem bodies_eq : Cert.Kernel14.defs₀ (F := F) = Cert.Kernel14Ideal.defs₀ (F := F) := by
  unfold Cert.Kernel14.defs₀ Cert.Kernel14Ideal.defs₀
  refine congrArg Defs.onTc (funext fun l => ?_)
  match l with
  | 0 => rfl

theorem defs_eq : Cert.Kernel14.defs (F := F) = Cert.Kernel14Ideal.defs (F := F) := by
  unfold Cert.Kernel14.defs Cert.Kernel14Ideal.defs
  exact congrArg _ bodies_eq

end Same

theorem frame : Cert.quiescent_Kernel14 := fun m ρ _ => by
  rw [defs_eq]
  exact Cert.Kernel14Ideal.Gen.frame (F := Bits) m ρ (ok m)

theorem frame_ideal : Cert.quiescent_Kernel14Ideal := fun m ρ _ =>
  Cert.Kernel14Ideal.Gen.frame (F := Ideal) m ρ (ok m)

theorem frame_reference : Cert.quiescent_Reference14Ideal := fun m ρ _ =>
  (θ_run _ _ _).mono (fun r h => ⟨fun c => (h c).2, Idealize.ShloMosaic.sem_eq_zero_of_no_sems (by decide) r.2⟩) (reference_run m ρ)

theorem algebraic : Cert.algebraic_Kernel14Ideal_Reference14Ideal := by
  intro m ρ m' ρ' _ hargs
  refine ⟨fun c => G (m ((c.tc : Thread _ _).loc Cert.Kernel14Ideal.main_arg0)) (m ((c.tc : Thread _ _).loc Cert.Kernel14Ideal.main_arg1)), ?_, ?_⟩
  · exact run m ρ
  · refine (θ_run _ _ _).mono (fun r h c => ⟨(h c).1.trans ?_, (h c).2⟩) (reference_run m' ρ')
    exact congrArg₂ G (hargs c).1 (hargs c).2

end Cert.Proof.GatesSecond

end
-- ==== Proof.RotarySecond.lean ====
/-
  The second layer: the call of the projection kernel that makes the parts that are rotated: where its tiles of weights begin, what each grid point writes,
  and the result array after the run.
-/
module

public import proofs.«01_k».proof.Proof.Gen.Kernel15Ideal.Frame
public import proofs.«01_k».proof.Proof.DenseSecond
public import Idealize.ShloMosaic.Lib.Pipeline.Value
public import Idealize.ShloMosaic.Lib.Pipeline.ValueKit.Geometry
public import Idealize.ShloMosaic.Lib.Pipeline.ValueKit.Acc

@[expose] public section

noncomputable section

namespace Cert.Proof.RotarySecond

open Idealize.ShloMosaic Idealize.ShloMosaic.TcCoe Idealize.SL.Sem
open Cert.Kernel15Ideal Cert.Kernel15Ideal.Gen Idealize.ShloMosaic.ValueIdx

variable {F : FTy → Type} [FloatOps F]
variable (m : (ℓ : Loc nD τ sig) → Buf (Elt F) ℓ)

/-! ## The table -/

/-- The word the table holds at entry `x`. -/
theorem table_apply (x : S8.Idx) : tbl m 0 x = lit0 (S8.rowMajor x) := by
  show StableHlo.after hostOps0 (fun b => m ((0 : Dev nD), b)) (Proc.devRef .tc main_c) x = _
  unfold hostOps0
  after_results

/-- The first column of tile `n`. -/
def start (n : ℕ) : ℕ :=
  if n < 2 then 5696 + 512 * n else if n < 6 then 1088 + 512 * (n - 2) else 4160 + 512 * (n - 6)

/-- Every word is a multiple of 64. -/
theorem words_aligned : ∀ j : Fin 8, (64 : Int) ∣ (lit0 j).toInt := by decide

/-- The words are the first columns of the tiles. -/
theorem words_eq : ∀ j : Fin 8, (lit0 j).toNat = start j.val := by decide

/-- A tile lies inside the weights. -/
theorem start_le (n : ℕ) (h : n < 8) : start n + 512 ≤ 26688 :=
  (by decide : ∀ j : Fin 8, start j.val + 512 ≤ 26688) ⟨n, h⟩

theorem table_toNat (x : S8.Idx) : (tbl m 0 x : BitVec 32).toNat = start (x 0).val := by
  have e := (congrArg BitVec.toNat (table_apply m x)).trans (words_eq (S8.rowMajor x))
  exact e.trans (congrArg start (Shape.rowMajor_val_one x))

theorem table_aligned (x : S8.Idx) : (64 : Int) ∣ (tbl m 0 x : BitVec 32).toInt := by
  have e := congrArg BitVec.toInt (table_apply m x)
  exact e ▸ words_aligned _

/-- Where the weights' window begins at the grid point `i`. -/
theorem offset_eq (i : grid0.Coords) :
    cc0_transform_1 k0_off1_inb numel1_S1 (tbl m) i = ![1, start (i 0).val, 0] := by
  unfold cc0_transform_1
  funext a
  match a with
  | ⟨0, _⟩ => rfl
  | ⟨1, _⟩ =>
    refine (table_toNat m _).trans (congrArg start ?_)
    have h : (i 0).val < 8 := (i 0).isLt
    show (BitVec.ofNat 32 (i 0).val).toNat + 1 * 0 = (i 0).val
    rw [BitVec.toNat_ofNat, Nat.mod_eq_of_lt (by omega)]
    omega
  | ⟨2, _⟩ => rfl

/-- The table the host writes is admissible: every window is aligned and inside the weights. -/
theorem ok : Ok m := by
  refine ⟨fun i => ?_, fun i => ⟨fun a => ?_, Or.inl rfl⟩⟩
  · unfold k0_mult1
    dsimp only [Pipeline.Prefetch.Contents.atD]
    split
    · exact table_aligned m _
    · exact ⟨0, rfl⟩
  · rw [offset_eq]
    have h := start_le (i 0).val (i 0).isLt
    match a with
    | ⟨0, _⟩ => show 1 + 1 ≤ 2; omega
    | ⟨1, _⟩ => exact h
    | ⟨2, _⟩ => show 0 + 4096 ≤ 4096; omega

/-! ## One grid point -/

section Cases
variable (c : Dev nD) (i : grid0.Coords) (a3 : Memref sig .tc .vmem S1024x4096 .bf16) (h3 : a3.IsWhole)
  (a4 : Memref sig .tc .vmem S1x512x4096 .f32) (h4 : a4.IsWhole) (a5 : Memref sig .tc .vmem S1024x512 .bf16) (h5 : a5.IsWhole)
  (a6 : Memref sig .tc .vmem S512x4096 .bf16) (h6 : a6.IsWhole)
  (x0 : Vec F S1024x4096 .bf16) (x1 : Vec F S1x512x4096 .f32) (xt : TbBuf0 (F := F) c tbM0_0) (xs : Vec F S512x4096 .bf16)

theorem first_out (hc : cond0_0 i) : out0_A_2 c i a3 h3 a4 h4 a5 h5 a6 h6 hc x0 x1 xt = k0_pay2 x0 (k0_pay1 x1) := by
  frame_out

theorem first_kept (hc : cond0_0 i) : sout0_A_0 c i a3 h3 a4 h4 a5 h5 a6 h6 hc x0 x1 xt = k0_pay1 x1 := by
  frame_out

theorem later_out (hc : ¬cond0_0 i) : out0_B_2 c i a3 h3 a4 h4 a5 h5 a6 h6 hc x0 x1 xt xs = k0_pay2 x0 xs := by
  frame_out

end Cases

/-- The point `t` is at column tile `t / 8` and row tile `t % 8`. -/
theorem point0 (t : Fin grid0.N) : (grid0.coords t 0).val = t.val / 8 := by
  have ht : t.val < 64 := Nat.lt_of_lt_of_eq t.isLt N_0
  rw [show (grid0.coords t 0).val = t.val / 8 % 8 from Pipeline.Grid.coords_val t 0 (by decide) rfl]
  omega

theorem point1 (t : Fin grid0.N) : (grid0.coords t 1).val = t.val % 8 := by
  rw [show (grid0.coords t 1).val = t.val / 1 % 8 from Pipeline.Grid.coords_val t 1 (by decide) rfl]
  omega

/-- The weights the call reads are the argument with its last two axes exchanged. -/
theorem V_weights (c : Dev nD) :
    V m c main_v0 = transpose S2x26688x4096 [0, 2, 1] (m ((c : Thread nD τ).loc main_arg1)) transposes_S2x4096x26688_S2x26688x4096_0_2_1 := by
  show StableHlo.after hostOps0 (fun b => m (c, b)) (Proc.devRef .tc main_v0) = _
  unfold hostOps0
  after_results

/-- The block of activations at an entry. -/
theorem rows_apply (hO : Ok m) (c : Dev nD) (t : Fin (cfgM m hO).N) (y : S1024x4096.Idx) (z : S8192x4096.Idx)
    (hz0 : (z 0).val = t.val % 8 * 1024 + (y 0).val) (hz1 : (z 1).val = (y 1).val) :
    iblk m hO c 0 t y = m ((c : Thread nD τ).loc main_arg0) z := by
  show V m c main_arg0 ((((cfgM m hO).win 0).blk t).view.emb y) = _
  rw [V_main_arg0]
  refine congrArg _ (funext fun a => Fin.ext ?_)
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show 0 * 4096 + 1 * (y 1).val = (z 1).val
    omega

/-- The block of weights at an entry, in the argument's own order. -/
theorem cols_apply (hO : Ok m) (c : Dev nD) (t : Fin (cfgM m hO).N) (y : S1x512x4096.Idx) (z : S2x4096x26688.Idx)
    (hz0 : (z 0).val = 1) (hz1 : (z 1).val = (y 2).val) (hz2 : (z 2).val = start (t.val / 8) + (y 1).val) :
    iblk m hO c 1 t y = m ((c : Thread nD τ).loc main_arg1) z := by
  show V m c main_v0 ((((cfgM m hO).win 1).blk t).view.emb y) = _
  rw [V_weights]
  unfold transpose
  refine congrArg (m ((c : Thread nD τ).loc main_arg1)) (funext fun a => Fin.ext ?_)
  have h0 := point0 t
  have ho := offset_eq m (grid0.coords t)
  match a with
  | ⟨0, _⟩ =>
    show 1 + 1 * (y 0).val = (z 0).val
    have : (y 0).val < 1 := (y 0).isLt
    omega
  | ⟨1, _⟩ =>
    show cc0_transform_1 k0_off1_inb numel1_S1 (tbl m) (grid0.coords t) 2 + 1 * (y 2).val = (z 1).val
    rw [ho]
    show 0 + 1 * (y 2).val = (z 1).val
    omega
  | ⟨2, _⟩ =>
    show cc0_transform_1 k0_off1_inb numel1_S1 (tbl m) (grid0.coords t) 1 + 1 * (y 1).val = (z 2).val
    rw [ho]
    show start (grid0.coords t 0).val + 1 * (y 1).val = (z 2).val
    rw [h0]
    omega

/-- At the first point of a column tile: the tile is cast and kept, and the product is taken with it. -/
theorem at_first (hO : Ok m) (c : Dev nD) (t : Fin (cfgM m hO).N) (h0 : t.val % 8 = 0) :
    outsAt0 m hO c t.val t.isLt = (k0_pay2 (iblk m hO c 0 t) (k0_pay1 (iblk m hO c 1 t)), k0_pay1 (iblk m hO c 1 t)) :=
  (outsAt0_A m hO c t h0).trans (congrArg₂ Prod.mk
    (first_out c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) ((hcond0_0 t).mpr h0))
    (first_kept c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) ((hcond0_0 t).mpr h0)))

/-- What was kept before point `t`. -/
abbrev before (hO : Ok m) (c : Dev nD) (t : Fin (cfgM m hO).N) : Vec F S512x4096 .bf16 :=
  (outsAt0 m hO c (t.val - 1) (Nat.lt_of_le_of_lt (Nat.sub_le _ _) t.isLt)).2

/-- At a later point of the tile: the kept tile stays, and the product is taken with it. -/
theorem at_later (hO : Ok m) (c : Dev nD) (t : Fin (cfgM m hO).N) (h0 : ¬t.val % 8 = 0) :
    outsAt0 m hO c t.val t.isLt = (k0_pay2 (iblk m hO c 0 t) (before m hO c t), before m hO c t) :=
  (outsAt0_B m hO c t h0).trans (congrArg₂ Prod.mk
    (later_out c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) (before m hO c t) (fun h => h0 ((hcond0_0 t).mp h)))
    rfl)

/-- What a point writes is the product of its rows with the kept tile. -/
theorem out_eq (hO : Ok m) (c : Dev nD) (t : Fin (cfgM m hO).N) :
    (outsAt0 m hO c t.val t.isLt).1 = k0_pay2 (iblk m hO c 0 t) (outsAt0 m hO c t.val t.isLt).2 := by
  by_cases h0 : t.val % 8 = 0
  · rw [at_first m hO c t h0]
  · rw [at_later m hO c t h0]

/-! ## Over the reals -/

section Values
variable (μ : (ℓ : Loc nD τ sig) → Buf (Elt Ideal) ℓ)

theorem kept_payload (v : Vec Ideal S1x512x4096 .f32) (y : S512x4096.Idx) :
    k0_pay1 v y = v (ix3 0 (y 0) (y 1)) := by
  unfold k0_pay1
  rw [shapeCast_self]
  exact Dense.drop_unit 512 4096 v _ y

theorem out_payload (a : Vec Ideal S1024x4096 .bf16) (b : Vec Ideal S512x4096 .bf16) (y : S1024x512.Idx) :
    k0_pay2 a b y = ∑ k : Fin 4096, (a (ix2 (y 0) k) * b (ix2 (y 1) k) : EReal) := by
  unfold k0_pay2
  exact Dense.product_transposed 1024 4096 512 a b y

/-- The kept tile after point `n`: the weights of the tile's columns, row by row. -/
theorem kept_apply (hO : Ok μ) (c : Dev nD) : ∀ (n : ℕ) (hn : n < (cfgM μ hO).N) (y : S512x4096.Idx) (z : S2x4096x26688.Idx),
    (z 0).val = 1 → (z 1).val = (y 1).val → (z 2).val = start (n / 8) + (y 0).val →
    (outsAt0 μ hO c n hn).2 y = μ ((c : Thread nD τ).loc main_arg1) z := by
  intro n
  induction n with
  | zero =>
    intro hn y z z0 z1 z2
    refine (congrFun (congrArg Prod.snd (at_first μ hO c ⟨0, hn⟩ rfl)) y).trans ((kept_payload (iblk μ hO c 1 ⟨0, hn⟩) y).trans ?_)
    exact cols_apply μ hO c ⟨0, hn⟩ _ z z0 z1 z2
  | succ n ih =>
    intro hn y z z0 z1 z2
    by_cases h0 : (n + 1) % 8 = 0
    · refine (congrFun (congrArg Prod.snd (at_first μ hO c ⟨n + 1, hn⟩ h0)) y).trans ((kept_payload (iblk μ hO c 1 ⟨n + 1, hn⟩) y).trans ?_)
      exact cols_apply μ hO c ⟨n + 1, hn⟩ _ z z0 z1 z2
    · refine (congrFun (congrArg Prod.snd (at_later μ hO c ⟨n + 1, hn⟩ h0)) y).trans ?_
      refine ih (Nat.lt_of_succ_lt hn) y z z0 z1 (z2.trans ?_)
      rw [show (n + 1) / 8 = n / 8 by omega]

end Values

/-- The column of the weights that column `q` of the result is made with. -/
def column (q : Fin 4096) : Fin 26688 :=
  ⟨start (q.val / 512) + q.val % 512, by have := q.isLt; have := start_le (q.val / 512) (by omega); omega⟩

/-- The product of the activations with the chosen columns of the second layer's weights. -/
def G (h : FVec Ideal S8192x4096 .bf16) (w : FVec Ideal S2x4096x26688 .f32) : FVec Ideal S8192x4096 .bf16 :=
  fun y => InProjSecond.entry h w (y 0) (column (y 1))

theorem written (μ : (ℓ : Loc nD τ sig) → Buf (Elt Ideal) ℓ) (hO : Ok μ) (c : Dev nD) (t : Fin (cfgM μ hO).N) (y : S1024x512.Idx)
    (z : S8192x4096.Idx) (h0 : (z 0).val = t.val % 8 * 1024 + (y 0).val) (h1 : (z 1).val = t.val / 8 * 512 + (y 1).val) :
    (outsAt0 μ hO c t.val t.isLt).1 y = G (μ ((c : Thread nD τ).loc main_arg0)) (μ ((c : Thread nD τ).loc main_arg1)) z := by
  unfold G InProjSecond.entry
  rw [out_eq]
  refine (out_payload _ _ _).trans (Finset.sum_congr rfl fun k _ => ?_)
  have hy1 : (y 1).val < 512 := (y 1).isLt
  refine congrArg₂ (fun a b : EReal => a * b) (rows_apply μ hO c t _ _ h0 rfl) (kept_apply μ hO c t.val t.isLt _ _ rfl rfl ?_)
  show start ((z 1).val / 512) + (z 1).val % 512 = start (t.val / 8) + (y 1).val
  rw [h1, show (t.val / 8 * 512 + (y 1).val) / 512 = t.val / 8 by omega, show (t.val / 8 * 512 + (y 1).val) % 512 = (y 1).val by omega]

/-- The result array after the run. -/
theorem final (μ : (ℓ : Loc nD τ sig) → Buf (Elt Ideal) ℓ) (hO : Ok μ) (c : Dev nD) :
    (dats μ hO 0 c).arrAt 2 (cfgM μ hO).N = G (μ ((c : Thread nD τ).loc main_arg0)) (μ ((c : Thread nD τ).loc main_arg1)) := by
  refine (dats μ hO 0 c).arrAt_eq_of_covers 2 _ ?_ fun t hf (y : S1024x512.Idx) => ?_
  · exact of_decide_eq_true (by sl_kernel_rfl)
  · refine (congrFun (after0_2 μ hO c t) y).trans (written μ hO c t y _ ?_ ?_)
    · show (BitVec.ofNat 32 (grid0.coords t 1).val).toNat * 1024 + 1 * (y 0).val = _
      rw [BitVec.toNat_ofNat, point1, Nat.mod_eq_of_lt (by omega)]
      omega
    · have ht : t.val < 64 := Nat.lt_of_lt_of_eq t.isLt N_0
      show (BitVec.ofNat 32 (grid0.coords t 0).val).toNat * 512 + 1 * (y 1).val = _
      rw [BitVec.toNat_ofNat, point0, Nat.mod_eq_of_lt (by omega)]
      omega

/-- The run: the result array holds the product, the arguments end unchanged. -/
theorem run (μ : (ℓ : Loc nD τ sig) → Buf (Elt Ideal) ℓ) (ρ : Dev nD → PrngReg) :
    θ_run (defs (F := Ideal)) (onTc (τ := τ) (main (F := Ideal))) ⟨μ, fun _ => 0, ρ⟩ (fun r => ∀ c : Dev nD,
      r.2.mem ((c.tc : Thread nD τ).loc main_v1) = G (μ ((c.tc : Thread nD τ).loc main_arg0)) (μ ((c.tc : Thread nD τ).loc main_arg1))
      ∧ r.2.mem ((c.tc : Thread nD τ).loc main_arg0) = μ ((c.tc : Thread nD τ).loc main_arg0)
      ∧ r.2.mem ((c.tc : Thread nD τ).loc main_arg1) = μ ((c.tc : Thread nD τ).loc main_arg1)) := by
  refine (θ_run defs _ _).mono (fun r h c => ?_) (run_main μ ρ (ok μ))
  exact ⟨((h c).1 2).trans (final μ (ok μ) c),
    ((h c).1 0).trans (((dats μ (ok μ) 0 c).arrAt_in 0 rfl _).trans ((A_eq μ (ok μ) c 0).trans (V_main_arg0 μ c))),
    ((h c).2 main_arg1 (by decide : main_arg1 ∈ Pipeline.restRefs sig spec0)).trans (V_main_arg1 μ c)⟩

end Cert.Proof.RotarySecond

end
-- ==== Proof.RotarySecondReference.lean ====
/-
  The second layer: the reference of the call that makes the parts that are rotated: three ranges of the projection's columns side by side, entry by entry
  what the call leaves.
-/
module

public import proofs.«01_k».proof.Proof.RotarySecond
public import proofs.«01_k».proof.Proof.Gen.Reference15Ideal.Run

@[expose] public section

noncomputable section

namespace Cert.Proof.RotarySecond

open Idealize.ShloMosaic Idealize.ShloMosaic.TcCoe Idealize.SL.Sem
open Cert.Reference15Ideal Cert.Reference15Ideal.Gen Idealize.ShloMosaic.ValueIdx

/-- The reference's run, at the value the kernel's run ends with. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨(h c).1.trans ?_, (h c).2⟩) (Cert.Reference15Ideal.Value.run (F := Ideal) m ρ)
  funext y
  obtain ⟨p, q, rfl⟩ : ∃ (p : Fin 8192) (q : Fin 4096), y = ix2 p q := ⟨y 0, y 1, eq_ix2 y⟩
  by_cases h0 : q.val < 1024
  · refine (concatenate_apply_piece (1 : Fin 2) _ _ (ix2 p q) 0 (by show 0 < 3; omega) S8192x1024 _ rfl rfl 0 rfl
        (ix2 p ⟨q.val - 0, by omega⟩) (fun b hb => ?_) (by show 0 + (q.val - 0) = q.val; omega)).trans ?_
    · match b, hb with
      | ⟨0, _⟩, _ => rfl
      | ⟨1, _⟩, hb => exact absurd rfl hb
    · refine InProjSecond.range_entry 5696 0 4608 1024 _ _ _ _ _ _ _ _ p _ (column q) ?_
      show 5696 + (0 + (q.val - 0)) = start (q.val / 512) + q.val % 512
      unfold start
      split_ifs <;> omega
  by_cases h1 : q.val < 3072
  · refine (concatenate_apply_piece (1 : Fin 2) _ _ (ix2 p q) 1 (by show 1 < 3; omega) S8192x2048 _ rfl rfl 1024 rfl
        (ix2 p ⟨q.val - 1024, by omega⟩) (fun b hb => ?_) (by show 1024 + (q.val - 1024) = q.val; omega)).trans ?_
    · match b, hb with
      | ⟨0, _⟩, _ => rfl
      | ⟨1, _⟩, hb => exact absurd rfl hb
    · refine InProjSecond.range_entry 1088 0 3072 2048 _ _ _ _ _ _ _ _ p _ (column q) ?_
      show 1088 + (0 + (q.val - 1024)) = start (q.val / 512) + q.val % 512
      unfold start
      split_ifs <;> omega
  · have hq := q.isLt
    refine (concatenate_apply_piece (1 : Fin 2) _ _ (ix2 p q) 2 (by show 2 < 3; omega) S8192x1024 _ rfl rfl 3072 rfl
        (ix2 p ⟨q.val - 3072, by omega⟩) (fun b hb => ?_) (by show 3072 + (q.val - 3072) = q.val; omega)).trans ?_
    · match b, hb with
      | ⟨0, _⟩, _ => rfl
      | ⟨1, _⟩, hb => exact absurd rfl hb
    · refine InProjSecond.range_entry 4160 0 1536 1024 _ _ _ _ _ _ _ _ p _ (column q) ?_
      show 4160 + (0 + (q.val - 3072)) = start (q.val / 512) + q.val % 512
      unfold start
      split_ifs <;> omega

end Cert.Proof.RotarySecond

end
-- ==== Proof.RotarySecondClaims.lean ====
/-
  The second layer: the claims about the call that makes the parts that are rotated: both programs' frames from one run, and the value.
-/
module

public import proofs.«01_k».proof.Defs
public import proofs.«01_k».proof.Proof.RotarySecondReference
public import proofs.«01_k».proof.Proof.Gen.Kernel15

@[expose] public section

noncomputable section

namespace Cert.Proof.RotarySecond

open Idealize.ShloMosaic Idealize.SL.Sem

section Same
variable {F : FTy → Type} [FloatOps F]

/-- The program as printed and the program read over the reals have one text: one set of bodies. -/
theorem bodies_eq : Cert.Kernel15.defs₀ (F := F) = Cert.Kernel15Ideal.defs₀ (F := F) := by
  unfold Cert.Kernel15.defs₀ Cert.Kernel15Ideal.defs₀
  refine congrArg Defs.onTc (funext fun l => ?_)
  match l with
  | 0 => rfl

theorem defs_eq : Cert.Kernel15.defs (F := F) = Cert.Kernel15Ideal.defs (F := F) := by
  unfold Cert.Kernel15.defs Cert.Kernel15Ideal.defs
  exact congrArg _ bodies_eq

end Same

theorem frame : Cert.quiescent_Kernel15 := fun m ρ _ => by
  rw [defs_eq]
  exact Cert.Kernel15Ideal.Gen.frame (F := Bits) m ρ (ok m)

theorem frame_ideal : Cert.quiescent_Kernel15Ideal := fun m ρ _ =>
  Cert.Kernel15Ideal.Gen.frame (F := Ideal) m ρ (ok m)

theorem frame_reference : Cert.quiescent_Reference15Ideal := fun m ρ _ =>
  (θ_run _ _ _).mono (fun r h => ⟨fun c => (h c).2, Idealize.ShloMosaic.sem_eq_zero_of_no_sems (by decide) r.2⟩) (reference_run m ρ)

theorem algebraic : Cert.algebraic_Kernel15Ideal_Reference15Ideal := by
  intro m ρ m' ρ' _ hargs
  refine ⟨fun c => G (m ((c.tc : Thread _ _).loc Cert.Kernel15Ideal.main_arg0)) (m ((c.tc : Thread _ _).loc Cert.Kernel15Ideal.main_arg1)), ?_, ?_⟩
  · exact run m ρ
  · refine (θ_run _ _ _).mono (fun r h c => ⟨(h c).1.trans ?_, (h c).2⟩) (reference_run m' ρ')
    exact congrArg₂ G (hargs c).1 (hargs c).2

end Cert.Proof.RotarySecond

end
-- ==== Proof.DilatedSecond.lean ====
/-
  The second layer: the call of the projection kernel that makes the dilated groups: where its tiles of weights begin, what each grid point writes,
  and the result array after the run.
-/
module

public import proofs.«01_k».proof.Proof.Gen.Kernel16Ideal.Frame
public import proofs.«01_k».proof.Proof.DenseSecond
public import Idealize.ShloMosaic.Lib.Pipeline.Value
public import Idealize.ShloMosaic.Lib.Pipeline.ValueKit.Geometry
public import Idealize.ShloMosaic.Lib.Pipeline.ValueKit.Acc

@[expose] public section

noncomputable section

namespace Cert.Proof.DilatedSecond

open Idealize.ShloMosaic Idealize.ShloMosaic.TcCoe Idealize.SL.Sem
open Cert.Kernel16Ideal Cert.Kernel16Ideal.Gen Idealize.ShloMosaic.ValueIdx

variable {F : FTy → Type} [FloatOps F]
variable (m : (ℓ : Loc nD τ sig) → Buf (Elt F) ℓ)

/-! ## The table -/

/-- The word the table holds at entry `x`. -/
theorem table_apply (x : S6.Idx) : tbl m 0 x = lit0 (S6.rowMajor x) := by
  show StableHlo.after hostOps0 (fun b => m ((0 : Dev nD), b)) (Proc.devRef .tc main_c) x = _
  unfold hostOps0
  after_results

/-- The first column of tile `n`. -/
def start (n : ℕ) : ℕ := 7232 + 512 * n

/-- Every word is a multiple of 64. -/
theorem words_aligned : ∀ j : Fin 6, (64 : Int) ∣ (lit0 j).toInt := by decide

/-- The words are the first columns of the tiles. -/
theorem words_eq : ∀ j : Fin 6, (lit0 j).toNat = start j.val := by decide

/-- A tile lies inside the weights. -/
theorem start_le (n : ℕ) (h : n < 6) : start n + 512 ≤ 26688 :=
  (by decide : ∀ j : Fin 6, start j.val + 512 ≤ 26688) ⟨n, h⟩

theorem table_toNat (x : S6.Idx) : (tbl m 0 x : BitVec 32).toNat = start (x 0).val := by
  have e := (congrArg BitVec.toNat (table_apply m x)).trans (words_eq (S6.rowMajor x))
  exact e.trans (congrArg start (Shape.rowMajor_val_one x))

theorem table_aligned (x : S6.Idx) : (64 : Int) ∣ (tbl m 0 x : BitVec 32).toInt := by
  have e := congrArg BitVec.toInt (table_apply m x)
  exact e ▸ words_aligned _

/-- Where the weights' window begins at the grid point `i`. -/
theorem offset_eq (i : grid0.Coords) :
    cc0_transform_1 k0_off1_inb numel1_S1 (tbl m) i = ![1, start (i 0).val, 0] := by
  unfold cc0_transform_1
  funext a
  match a with
  | ⟨0, _⟩ => rfl
  | ⟨1, _⟩ =>
    refine (table_toNat m _).trans (congrArg start ?_)
    have h : (i 0).val < 6 := (i 0).isLt
    show (BitVec.ofNat 32 (i 0).val).toNat + 1 * 0 = (i 0).val
    rw [BitVec.toNat_ofNat, Nat.mod_eq_of_lt (by omega)]
    omega
  | ⟨2, _⟩ => rfl

/-- The table the host writes is admissible: every window is aligned and inside the weights. -/
theorem ok : Ok m := by
  refine ⟨fun i => ?_, fun i => ⟨fun a => ?_, Or.inl rfl⟩⟩
  · unfold k0_mult1
    dsimp only [Pipeline.Prefetch.Contents.atD]
    split
    · exact table_aligned m _
    · exact ⟨0, rfl⟩
  · rw [offset_eq]
    have h := start_le (i 0).val (i 0).isLt
    match a with
    | ⟨0, _⟩ => show 1 + 1 ≤ 2; omega
    | ⟨1, _⟩ => exact h
    | ⟨2, _⟩ => show 0 + 4096 ≤ 4096; omega

/-! ## One grid point -/

section Cases
variable (c : Dev nD) (i : grid0.Coords) (a3 : Memref sig .tc .vmem S1024x4096 .bf16) (h3 : a3.IsWhole)
  (a4 : Memref sig .tc .vmem S1x512x4096 .f32) (h4 : a4.IsWhole) (a5 : Memref sig .tc .vmem S1024x512 .bf16) (h5 : a5.IsWhole)
  (a6 : Memref sig .tc .vmem S512x4096 .bf16) (h6 : a6.IsWhole)
  (x0 : Vec F S1024x4096 .bf16) (x1 : Vec F S1x512x4096 .f32) (xt : TbBuf0 (F := F) c tbM0_0) (xs : Vec F S512x4096 .bf16)

theorem first_out (hc : cond0_0 i) : out0_A_2 c i a3 h3 a4 h4 a5 h5 a6 h6 hc x0 x1 xt = k0_pay2 x0 (k0_pay1 x1) := by
  frame_out

theorem first_kept (hc : cond0_0 i) : sout0_A_0 c i a3 h3 a4 h4 a5 h5 a6 h6 hc x0 x1 xt = k0_pay1 x1 := by
  frame_out

theorem later_out (hc : ¬cond0_0 i) : out0_B_2 c i a3 h3 a4 h4 a5 h5 a6 h6 hc x0 x1 xt xs = k0_pay2 x0 xs := by
  frame_out

end Cases

/-- The point `t` is at column tile `t / 8` and row tile `t % 8`. -/
theorem point0 (t : Fin grid0.N) : (grid0.coords t 0).val = t.val / 8 := by
  have ht : t.val < 48 := Nat.lt_of_lt_of_eq t.isLt N_0
  rw [show (grid0.coords t 0).val = t.val / 8 % 6 from Pipeline.Grid.coords_val t 0 (by decide) rfl]
  omega

theorem point1 (t : Fin grid0.N) : (grid0.coords t 1).val = t.val % 8 := by
  rw [show (grid0.coords t 1).val = t.val / 1 % 8 from Pipeline.Grid.coords_val t 1 (by decide) rfl]
  omega

/-- The weights the call reads are the argument with its last two axes exchanged. -/
theorem V_weights (c : Dev nD) :
    V m c main_v0 = transpose S2x26688x4096 [0, 2, 1] (m ((c : Thread nD τ).loc main_arg1)) transposes_S2x4096x26688_S2x26688x4096_0_2_1 := by
  show StableHlo.after hostOps0 (fun b => m (c, b)) (Proc.devRef .tc main_v0) = _
  unfold hostOps0
  after_results

/-- The block of activations at an entry. -/
theorem rows_apply (hO : Ok m) (c : Dev nD) (t : Fin (cfgM m hO).N) (y : S1024x4096.Idx) (z : S8192x4096.Idx)
    (hz0 : (z 0).val = t.val % 8 * 1024 + (y 0).val) (hz1 : (z 1).val = (y 1).val) :
    iblk m hO c 0 t y = m ((c : Thread nD τ).loc main_arg0) z := by
  show V m c main_arg0 ((((cfgM m hO).win 0).blk t).view.emb y) = _
  rw [V_main_arg0]
  refine congrArg _ (funext fun a => Fin.ext ?_)
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show 0 * 4096 + 1 * (y 1).val = (z 1).val
    omega

/-- The block of weights at an entry, in the argument's own order. -/
theorem cols_apply (hO : Ok m) (c : Dev nD) (t : Fin (cfgM m hO).N) (y : S1x512x4096.Idx) (z : S2x4096x26688.Idx)
    (hz0 : (z 0).val = 1) (hz1 : (z 1).val = (y 2).val) (hz2 : (z 2).val = start (t.val / 8) + (y 1).val) :
    iblk m hO c 1 t y = m ((c : Thread nD τ).loc main_arg1) z := by
  show V m c main_v0 ((((cfgM m hO).win 1).blk t).view.emb y) = _
  rw [V_weights]
  unfold transpose
  refine congrArg (m ((c : Thread nD τ).loc main_arg1)) (funext fun a => Fin.ext ?_)
  have h0 := point0 t
  have ho := offset_eq m (grid0.coords t)
  match a with
  | ⟨0, _⟩ =>
    show 1 + 1 * (y 0).val = (z 0).val
    have : (y 0).val < 1 := (y 0).isLt
    omega
  | ⟨1, _⟩ =>
    show cc0_transform_1 k0_off1_inb numel1_S1 (tbl m) (grid0.coords t) 2 + 1 * (y 2).val = (z 1).val
    rw [ho]
    show 0 + 1 * (y 2).val = (z 1).val
    omega
  | ⟨2, _⟩ =>
    show cc0_transform_1 k0_off1_inb numel1_S1 (tbl m) (grid0.coords t) 1 + 1 * (y 1).val = (z 2).val
    rw [ho]
    show start (grid0.coords t 0).val + 1 * (y 1).val = (z 2).val
    rw [h0]
    omega

/-- At the first point of a column tile: the tile is cast and kept, and the product is taken with it. -/
theorem at_first (hO : Ok m) (c : Dev nD) (t : Fin (cfgM m hO).N) (h0 : t.val % 8 = 0) :
    outsAt0 m hO c t.val t.isLt = (k0_pay2 (iblk m hO c 0 t) (k0_pay1 (iblk m hO c 1 t)), k0_pay1 (iblk m hO c 1 t)) :=
  (outsAt0_A m hO c t h0).trans (congrArg₂ Prod.mk
    (first_out c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) ((hcond0_0 t).mpr h0))
    (first_kept c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) ((hcond0_0 t).mpr h0)))

/-- What was kept before point `t`. -/
abbrev before (hO : Ok m) (c : Dev nD) (t : Fin (cfgM m hO).N) : Vec F S512x4096 .bf16 :=
  (outsAt0 m hO c (t.val - 1) (Nat.lt_of_le_of_lt (Nat.sub_le _ _) t.isLt)).2

/-- At a later point of the tile: the kept tile stays, and the product is taken with it. -/
theorem at_later (hO : Ok m) (c : Dev nD) (t : Fin (cfgM m hO).N) (h0 : ¬t.val % 8 = 0) :
    outsAt0 m hO c t.val t.isLt = (k0_pay2 (iblk m hO c 0 t) (before m hO c t), before m hO c t) :=
  (outsAt0_B m hO c t h0).trans (congrArg₂ Prod.mk
    (later_out c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) (before m hO c t) (fun h => h0 ((hcond0_0 t).mp h)))
    rfl)

/-- What a point writes is the product of its rows with the kept tile. -/
theorem out_eq (hO : Ok m) (c : Dev nD) (t : Fin (cfgM m hO).N) :
    (outsAt0 m hO c t.val t.isLt).1 = k0_pay2 (iblk m hO c 0 t) (outsAt0 m hO c t.val t.isLt).2 := by
  by_cases h0 : t.val % 8 = 0
  · rw [at_first m hO c t h0]
  · rw [at_later m hO c t h0]

/-! ## Over the reals -/

section Values
variable (μ : (ℓ : Loc nD τ sig) → Buf (Elt Ideal) ℓ)

theorem kept_payload (v : Vec Ideal S1x512x4096 .f32) (y : S512x4096.Idx) :
    k0_pay1 v y = v (ix3 0 (y 0) (y 1)) := by
  unfold k0_pay1
  rw [shapeCast_self]
  exact Dense.drop_unit 512 4096 v _ y

theorem out_payload (a : Vec Ideal S1024x4096 .bf16) (b : Vec Ideal S512x4096 .bf16) (y : S1024x512.Idx) :
    k0_pay2 a b y = ∑ k : Fin 4096, (a (ix2 (y 0) k) * b (ix2 (y 1) k) : EReal) := by
  unfold k0_pay2
  exact Dense.product_transposed 1024 4096 512 a b y

/-- The kept tile after point `n`: the weights of the tile's columns, row by row. -/
theorem kept_apply (hO : Ok μ) (c : Dev nD) : ∀ (n : ℕ) (hn : n < (cfgM μ hO).N) (y : S512x4096.Idx) (z : S2x4096x26688.Idx),
    (z 0).val = 1 → (z 1).val = (y 1).val → (z 2).val = start (n / 8) + (y 0).val →
    (outsAt0 μ hO c n hn).2 y = μ ((c : Thread nD τ).loc main_arg1) z := by
  intro n
  induction n with
  | zero =>
    intro hn y z z0 z1 z2
    refine (congrFun (congrArg Prod.snd (at_first μ hO c ⟨0, hn⟩ rfl)) y).trans ((kept_payload (iblk μ hO c 1 ⟨0, hn⟩) y).trans ?_)
    exact cols_apply μ hO c ⟨0, hn⟩ _ z z0 z1 z2
  | succ n ih =>
    intro hn y z z0 z1 z2
    by_cases h0 : (n + 1) % 8 = 0
    · refine (congrFun (congrArg Prod.snd (at_first μ hO c ⟨n + 1, hn⟩ h0)) y).trans ((kept_payload (iblk μ hO c 1 ⟨n + 1, hn⟩) y).trans ?_)
      exact cols_apply μ hO c ⟨n + 1, hn⟩ _ z z0 z1 z2
    · refine (congrFun (congrArg Prod.snd (at_later μ hO c ⟨n + 1, hn⟩ h0)) y).trans ?_
      refine ih (Nat.lt_of_succ_lt hn) y z z0 z1 (z2.trans ?_)
      rw [show (n + 1) / 8 = n / 8 by omega]

end Values

/-- The column of the weights that column `q` of the result is made with. -/
def column (q : Fin 3072) : Fin 26688 :=
  ⟨start (q.val / 512) + q.val % 512, by have := q.isLt; have := start_le (q.val / 512) (by omega); omega⟩

/-- The product of the activations with the chosen columns of the second layer's weights. -/
def G (h : FVec Ideal S8192x4096 .bf16) (w : FVec Ideal S2x4096x26688 .f32) : FVec Ideal S8192x3072 .bf16 :=
  fun y => InProjSecond.entry h w (y 0) (column (y 1))

theorem written (μ : (ℓ : Loc nD τ sig) → Buf (Elt Ideal) ℓ) (hO : Ok μ) (c : Dev nD) (t : Fin (cfgM μ hO).N) (y : S1024x512.Idx)
    (z : S8192x3072.Idx) (h0 : (z 0).val = t.val % 8 * 1024 + (y 0).val) (h1 : (z 1).val = t.val / 8 * 512 + (y 1).val) :
    (outsAt0 μ hO c t.val t.isLt).1 y = G (μ ((c : Thread nD τ).loc main_arg0)) (μ ((c : Thread nD τ).loc main_arg1)) z := by
  unfold G InProjSecond.entry
  rw [out_eq]
  refine (out_payload _ _ _).trans (Finset.sum_congr rfl fun k _ => ?_)
  have hy1 : (y 1).val < 512 := (y 1).isLt
  refine congrArg₂ (fun a b : EReal => a * b) (rows_apply μ hO c t _ _ h0 rfl) (kept_apply μ hO c t.val t.isLt _ _ rfl rfl ?_)
  show start ((z 1).val / 512) + (z 1).val % 512 = start (t.val / 8) + (y 1).val
  rw [h1, show (t.val / 8 * 512 + (y 1).val) / 512 = t.val / 8 by omega, show (t.val / 8 * 512 + (y 1).val) % 512 = (y 1).val by omega]

/-- The result array after the run. -/
theorem final (μ : (ℓ : Loc nD τ sig) → Buf (Elt Ideal) ℓ) (hO : Ok μ) (c : Dev nD) :
    (dats μ hO 0 c).arrAt 2 (cfgM μ hO).N = G (μ ((c : Thread nD τ).loc main_arg0)) (μ ((c : Thread nD τ).loc main_arg1)) := by
  refine (dats μ hO 0 c).arrAt_eq_of_covers 2 _ ?_ fun t hf (y : S1024x512.Idx) => ?_
  · exact of_decide_eq_true (by sl_kernel_rfl)
  · refine (congrFun (after0_2 μ hO c t) y).trans (written μ hO c t y _ ?_ ?_)
    · show (BitVec.ofNat 32 (grid0.coords t 1).val).toNat * 1024 + 1 * (y 0).val = _
      rw [BitVec.toNat_ofNat, point1, Nat.mod_eq_of_lt (by omega)]
      omega
    · have ht : t.val < 48 := Nat.lt_of_lt_of_eq t.isLt N_0
      show (BitVec.ofNat 32 (grid0.coords t 0).val).toNat * 512 + 1 * (y 1).val = _
      rw [BitVec.toNat_ofNat, point0, Nat.mod_eq_of_lt (by omega)]
      omega

/-- The run: the result array holds the product, the arguments end unchanged. -/
theorem run (μ : (ℓ : Loc nD τ sig) → Buf (Elt Ideal) ℓ) (ρ : Dev nD → PrngReg) :
    θ_run (defs (F := Ideal)) (onTc (τ := τ) (main (F := Ideal))) ⟨μ, fun _ => 0, ρ⟩ (fun r => ∀ c : Dev nD,
      r.2.mem ((c.tc : Thread nD τ).loc main_v1) = G (μ ((c.tc : Thread nD τ).loc main_arg0)) (μ ((c.tc : Thread nD τ).loc main_arg1))
      ∧ r.2.mem ((c.tc : Thread nD τ).loc main_arg0) = μ ((c.tc : Thread nD τ).loc main_arg0)
      ∧ r.2.mem ((c.tc : Thread nD τ).loc main_arg1) = μ ((c.tc : Thread nD τ).loc main_arg1)) := by
  refine (θ_run defs _ _).mono (fun r h c => ?_) (run_main μ ρ (ok μ))
  exact ⟨((h c).1 2).trans (final μ (ok μ) c),
    ((h c).1 0).trans (((dats μ (ok μ) 0 c).arrAt_in 0 rfl _).trans ((A_eq μ (ok μ) c 0).trans (V_main_arg0 μ c))),
    ((h c).2 main_arg1 (by decide : main_arg1 ∈ Pipeline.restRefs sig spec0)).trans (V_main_arg1 μ c)⟩

end Cert.Proof.DilatedSecond

end
-- ==== Proof.DilatedSecondReference.lean ====
/-
  The second layer: the reference of the call that makes the dilated groups: its columns of the projection, entry by entry what the call leaves.
-/
module

public import proofs.«01_k».proof.Proof.DilatedSecond
public import proofs.«01_k».proof.Proof.Gen.Reference16Ideal.Run

@[expose] public section

noncomputable section

namespace Cert.Proof.DilatedSecond

open Idealize.ShloMosaic Idealize.ShloMosaic.TcCoe Idealize.SL.Sem
open Cert.Reference16Ideal Cert.Reference16Ideal.Gen Idealize.ShloMosaic.ValueIdx

/-- The reference's run, at the value the kernel's run ends with. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨(h c).1.trans ?_, (h c).2⟩) (Cert.Reference16Ideal.Value.run (F := Ideal) m ρ)
  funext y
  obtain ⟨p, q, rfl⟩ : ∃ (p : Fin 8192) (q : Fin 3072), y = ix2 p q := ⟨y 0, y 1, eq_ix2 y⟩
  refine Eq.trans ?_ ((InProjSecond.host_entry (m ((c.tc : Thread nD τ).loc main_arg0)) (m ((c.tc : Thread nD τ).loc main_arg1)) bitsLt_bf16_f32
    slices_S2x4096x26688_S1x4096x26688_1_0_0 shapeCasts_S1x4096x26688_S4096x26688 p (column q)))
  refine congrArg (Host.dotGeneral (F := Ideal) (DotDims.plain 8192 4096 26688) none _ _ : FVec Ideal InProjSecond.Whole .f32) ?_
  funext a
  match a with
  | ⟨0, _⟩ => exact Fin.ext (Nat.zero_add _)
  | ⟨1, _⟩ => exact Fin.ext (by show 7232 + q.val = 7232 + 512 * (q.val / 512) + q.val % 512; omega)

end Cert.Proof.DilatedSecond

end
-- ==== Proof.DilatedSecondClaims.lean ====
/-
  The second layer: the claims about the call that makes the dilated groups: both programs' frames from one run, and the value.
-/
module

public import proofs.«01_k».proof.Defs
public import proofs.«01_k».proof.Proof.DilatedSecondReference
public import proofs.«01_k».proof.Proof.Gen.Kernel16

@[expose] public section

noncomputable section

namespace Cert.Proof.DilatedSecond

open Idealize.ShloMosaic Idealize.SL.Sem

section Same
variable {F : FTy → Type} [FloatOps F]

/-- The program as printed and the program read over the reals have one text: one set of bodies. -/
theorem bodies_eq : Cert.Kernel16.defs₀ (F := F) = Cert.Kernel16Ideal.defs₀ (F := F) := by
  unfold Cert.Kernel16.defs₀ Cert.Kernel16Ideal.defs₀
  refine congrArg Defs.onTc (funext fun l => ?_)
  match l with
  | 0 => rfl

theorem defs_eq : Cert.Kernel16.defs (F := F) = Cert.Kernel16Ideal.defs (F := F) := by
  unfold Cert.Kernel16.defs Cert.Kernel16Ideal.defs
  exact congrArg _ bodies_eq

end Same

theorem frame : Cert.quiescent_Kernel16 := fun m ρ _ => by
  rw [defs_eq]
  exact Cert.Kernel16Ideal.Gen.frame (F := Bits) m ρ (ok m)

theorem frame_ideal : Cert.quiescent_Kernel16Ideal := fun m ρ _ =>
  Cert.Kernel16Ideal.Gen.frame (F := Ideal) m ρ (ok m)

theorem frame_reference : Cert.quiescent_Reference16Ideal := fun m ρ _ =>
  (θ_run _ _ _).mono (fun r h => ⟨fun c => (h c).2, Idealize.ShloMosaic.sem_eq_zero_of_no_sems (by decide) r.2⟩) (reference_run m ρ)

theorem algebraic : Cert.algebraic_Kernel16Ideal_Reference16Ideal := by
  intro m ρ m' ρ' _ hargs
  refine ⟨fun c => G (m ((c.tc : Thread _ _).loc Cert.Kernel16Ideal.main_arg0)) (m ((c.tc : Thread _ _).loc Cert.Kernel16Ideal.main_arg1)), ?_, ?_⟩
  · exact run m ρ
  · refine (θ_run _ _ _).mono (fun r h c => ⟨(h c).1.trans ?_, (h c).2⟩) (reference_run m' ρ')
    exact congrArg₂ G (hargs c).1 (hargs c).2

end Cert.Proof.DilatedSecond

end
-- ==== Proof.ValueSecond.lean ====
/-
  The second layer: the call of the projection kernel that makes the values: where its tiles of weights begin, what each grid point writes,
  and the result array after the run.
-/
module

public import proofs.«01_k».proof.Proof.Gen.Kernel17Ideal.Frame
public import proofs.«01_k».proof.Proof.DenseSecond
public import Idealize.ShloMosaic.Lib.Pipeline.Value
public import Idealize.ShloMosaic.Lib.Pipeline.ValueKit.Geometry
public import Idealize.ShloMosaic.Lib.Pipeline.ValueKit.Acc

@[expose] public section

noncomputable section

namespace Cert.Proof.ValueSecond

open Idealize.ShloMosaic Idealize.ShloMosaic.TcCoe Idealize.SL.Sem
open Cert.Kernel17Ideal Cert.Kernel17Ideal.Gen Idealize.ShloMosaic.ValueIdx

variable {F : FTy → Type} [FloatOps F]
variable (m : (ℓ : Loc nD τ sig) → Buf (Elt F) ℓ)

/-! ## The table -/

/-- The word the table holds at entry `x`. -/
theorem table_apply (x : S4.Idx) : tbl m 0 x = lit0 (S4.rowMajor x) := by
  show StableHlo.after hostOps0 (fun b => m ((0 : Dev nD), b)) (Proc.devRef .tc main_c) x = _
  unfold hostOps0
  after_results

/-- The first column of tile `n`. -/
def start (n : ℕ) : ℕ :=
  if n < 1 then 6720 + 512 * n else if n < 3 then 3136 + 512 * (n - 1) else 5184 + 512 * (n - 3)

/-- Every word is a multiple of 64. -/
theorem words_aligned : ∀ j : Fin 4, (64 : Int) ∣ (lit0 j).toInt := by decide

/-- The words are the first columns of the tiles. -/
theorem words_eq : ∀ j : Fin 4, (lit0 j).toNat = start j.val := by decide

/-- A tile lies inside the weights. -/
theorem start_le (n : ℕ) (h : n < 4) : start n + 512 ≤ 26688 :=
  (by decide : ∀ j : Fin 4, start j.val + 512 ≤ 26688) ⟨n, h⟩

theorem table_toNat (x : S4.Idx) : (tbl m 0 x : BitVec 32).toNat = start (x 0).val := by
  have e := (congrArg BitVec.toNat (table_apply m x)).trans (words_eq (S4.rowMajor x))
  exact e.trans (congrArg start (Shape.rowMajor_val_one x))

theorem table_aligned (x : S4.Idx) : (64 : Int) ∣ (tbl m 0 x : BitVec 32).toInt := by
  have e := congrArg BitVec.toInt (table_apply m x)
  exact e ▸ words_aligned _

/-- Where the weights' window begins at the grid point `i`. -/
theorem offset_eq (i : grid0.Coords) :
    cc0_transform_1 k0_off1_inb numel1_S1 (tbl m) i = ![1, start (i 0).val, 0] := by
  unfold cc0_transform_1
  funext a
  match a with
  | ⟨0, _⟩ => rfl
  | ⟨1, _⟩ =>
    refine (table_toNat m _).trans (congrArg start ?_)
    have h : (i 0).val < 4 := (i 0).isLt
    show (BitVec.ofNat 32 (i 0).val).toNat + 1 * 0 = (i 0).val
    rw [BitVec.toNat_ofNat, Nat.mod_eq_of_lt (by omega)]
    omega
  | ⟨2, _⟩ => rfl

/-- The table the host writes is admissible: every window is aligned and inside the weights. -/
theorem ok : Ok m := by
  refine ⟨fun i => ?_, fun i => ⟨fun a => ?_, Or.inl rfl⟩⟩
  · unfold k0_mult1
    dsimp only [Pipeline.Prefetch.Contents.atD]
    split
    · exact table_aligned m _
    · exact ⟨0, rfl⟩
  · rw [offset_eq]
    have h := start_le (i 0).val (i 0).isLt
    match a with
    | ⟨0, _⟩ => show 1 + 1 ≤ 2; omega
    | ⟨1, _⟩ => exact h
    | ⟨2, _⟩ => show 0 + 4096 ≤ 4096; omega

/-! ## One grid point -/

section Cases
variable (c : Dev nD) (i : grid0.Coords) (a3 : Memref sig .tc .vmem S1024x4096 .bf16) (h3 : a3.IsWhole)
  (a4 : Memref sig .tc .vmem S1x512x4096 .f32) (h4 : a4.IsWhole) (a5 : Memref sig .tc .vmem S1024x512 .bf16) (h5 : a5.IsWhole)
  (a6 : Memref sig .tc .vmem S512x4096 .bf16) (h6 : a6.IsWhole)
  (x0 : Vec F S1024x4096 .bf16) (x1 : Vec F S1x512x4096 .f32) (xt : TbBuf0 (F := F) c tbM0_0) (xs : Vec F S512x4096 .bf16)

theorem first_out (hc : cond0_0 i) : out0_A_2 c i a3 h3 a4 h4 a5 h5 a6 h6 hc x0 x1 xt = k0_pay2 x0 (k0_pay1 x1) := by
  frame_out

theorem first_kept (hc : cond0_0 i) : sout0_A_0 c i a3 h3 a4 h4 a5 h5 a6 h6 hc x0 x1 xt = k0_pay1 x1 := by
  frame_out

theorem later_out (hc : ¬cond0_0 i) : out0_B_2 c i a3 h3 a4 h4 a5 h5 a6 h6 hc x0 x1 xt xs = k0_pay2 x0 xs := by
  frame_out

end Cases

/-- The point `t` is at column tile `t / 8` and row tile `t % 8`. -/
theorem point0 (t : Fin grid0.N) : (grid0.coords t 0).val = t.val / 8 := by
  have ht : t.val < 32 := Nat.lt_of_lt_of_eq t.isLt N_0
  rw [show (grid0.coords t 0).val = t.val / 8 % 4 from Pipeline.Grid.coords_val t 0 (by decide) rfl]
  omega

theorem point1 (t : Fin grid0.N) : (grid0.coords t 1).val = t.val % 8 := by
  rw [show (grid0.coords t 1).val = t.val / 1 % 8 from Pipeline.Grid.coords_val t 1 (by decide) rfl]
  omega

/-- The weights the call reads are the argument with its last two axes exchanged. -/
theorem V_weights (c : Dev nD) :
    V m c main_v0 = transpose S2x26688x4096 [0, 2, 1] (m ((c : Thread nD τ).loc main_arg1)) transposes_S2x4096x26688_S2x26688x4096_0_2_1 := by
  show StableHlo.after hostOps0 (fun b => m (c, b)) (Proc.devRef .tc main_v0) = _
  unfold hostOps0
  after_results

/-- The block of activations at an entry. -/
theorem rows_apply (hO : Ok m) (c : Dev nD) (t : Fin (cfgM m hO).N) (y : S1024x4096.Idx) (z : S8192x4096.Idx)
    (hz0 : (z 0).val = t.val % 8 * 1024 + (y 0).val) (hz1 : (z 1).val = (y 1).val) :
    iblk m hO c 0 t y = m ((c : Thread nD τ).loc main_arg0) z := by
  show V m c main_arg0 ((((cfgM m hO).win 0).blk t).view.emb y) = _
  rw [V_main_arg0]
  refine congrArg _ (funext fun a => Fin.ext ?_)
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show 0 * 4096 + 1 * (y 1).val = (z 1).val
    omega

/-- The block of weights at an entry, in the argument's own order. -/
theorem cols_apply (hO : Ok m) (c : Dev nD) (t : Fin (cfgM m hO).N) (y : S1x512x4096.Idx) (z : S2x4096x26688.Idx)
    (hz0 : (z 0).val = 1) (hz1 : (z 1).val = (y 2).val) (hz2 : (z 2).val = start (t.val / 8) + (y 1).val) :
    iblk m hO c 1 t y = m ((c : Thread nD τ).loc main_arg1) z := by
  show V m c main_v0 ((((cfgM m hO).win 1).blk t).view.emb y) = _
  rw [V_weights]
  unfold transpose
  refine congrArg (m ((c : Thread nD τ).loc main_arg1)) (funext fun a => Fin.ext ?_)
  have h0 := point0 t
  have ho := offset_eq m (grid0.coords t)
  match a with
  | ⟨0, _⟩ =>
    show 1 + 1 * (y 0).val = (z 0).val
    have : (y 0).val < 1 := (y 0).isLt
    omega
  | ⟨1, _⟩ =>
    show cc0_transform_1 k0_off1_inb numel1_S1 (tbl m) (grid0.coords t) 2 + 1 * (y 2).val = (z 1).val
    rw [ho]
    show 0 + 1 * (y 2).val = (z 1).val
    omega
  | ⟨2, _⟩ =>
    show cc0_transform_1 k0_off1_inb numel1_S1 (tbl m) (grid0.coords t) 1 + 1 * (y 1).val = (z 2).val
    rw [ho]
    show start (grid0.coords t 0).val + 1 * (y 1).val = (z 2).val
    rw [h0]
    omega

/-- At the first point of a column tile: the tile is cast and kept, and the product is taken with it. -/
theorem at_first (hO : Ok m) (c : Dev nD) (t : Fin (cfgM m hO).N) (h0 : t.val % 8 = 0) :
    outsAt0 m hO c t.val t.isLt = (k0_pay2 (iblk m hO c 0 t) (k0_pay1 (iblk m hO c 1 t)), k0_pay1 (iblk m hO c 1 t)) :=
  (outsAt0_A m hO c t h0).trans (congrArg₂ Prod.mk
    (first_out c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) ((hcond0_0 t).mpr h0))
    (first_kept c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) ((hcond0_0 t).mpr h0)))

/-- What was kept before point `t`. -/
abbrev before (hO : Ok m) (c : Dev nD) (t : Fin (cfgM m hO).N) : Vec F S512x4096 .bf16 :=
  (outsAt0 m hO c (t.val - 1) (Nat.lt_of_le_of_lt (Nat.sub_le _ _) t.isLt)).2

/-- At a later point of the tile: the kept tile stays, and the product is taken with it. -/
theorem at_later (hO : Ok m) (c : Dev nD) (t : Fin (cfgM m hO).N) (h0 : ¬t.val % 8 = 0) :
    outsAt0 m hO c t.val t.isLt = (k0_pay2 (iblk m hO c 0 t) (before m hO c t), before m hO c t) :=
  (outsAt0_B m hO c t h0).trans (congrArg₂ Prod.mk
    (later_out c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) (before m hO c t) (fun h => h0 ((hcond0_0 t).mp h)))
    rfl)

/-- What a point writes is the product of its rows with the kept tile. -/
theorem out_eq (hO : Ok m) (c : Dev nD) (t : Fin (cfgM m hO).N) :
    (outsAt0 m hO c t.val t.isLt).1 = k0_pay2 (iblk m hO c 0 t) (outsAt0 m hO c t.val t.isLt).2 := by
  by_cases h0 : t.val % 8 = 0
  · rw [at_first m hO c t h0]
  · rw [at_later m hO c t h0]

/-! ## Over the reals -/

section Values
variable (μ : (ℓ : Loc nD τ sig) → Buf (Elt Ideal) ℓ)

theorem kept_payload (v : Vec Ideal S1x512x4096 .f32) (y : S512x4096.Idx) :
    k0_pay1 v y = v (ix3 0 (y 0) (y 1)) := by
  unfold k0_pay1
  rw [shapeCast_self]
  exact Dense.drop_unit 512 4096 v _ y

theorem out_payload (a : Vec Ideal S1024x4096 .bf16) (b : Vec Ideal S512x4096 .bf16) (y : S1024x512.Idx) :
    k0_pay2 a b y = ∑ k : Fin 4096, (a (ix2 (y 0) k) * b (ix2 (y 1) k) : EReal) := by
  unfold k0_pay2
  exact Dense.product_transposed 1024 4096 512 a b y

/-- The kept tile after point `n`: the weights of the tile's columns, row by row. -/
theorem kept_apply (hO : Ok μ) (c : Dev nD) : ∀ (n : ℕ) (hn : n < (cfgM μ hO).N) (y : S512x4096.Idx) (z : S2x4096x26688.Idx),
    (z 0).val = 1 → (z 1).val = (y 1).val → (z 2).val = start (n / 8) + (y 0).val →
    (outsAt0 μ hO c n hn).2 y = μ ((c : Thread nD τ).loc main_arg1) z := by
  intro n
  induction n with
  | zero =>
    intro hn y z z0 z1 z2
    refine (congrFun (congrArg Prod.snd (at_first μ hO c ⟨0, hn⟩ rfl)) y).trans ((kept_payload (iblk μ hO c 1 ⟨0, hn⟩) y).trans ?_)
    exact cols_apply μ hO c ⟨0, hn⟩ _ z z0 z1 z2
  | succ n ih =>
    intro hn y z z0 z1 z2
    by_cases h0 : (n + 1) % 8 = 0
    · refine (congrFun (congrArg Prod.snd (at_first μ hO c ⟨n + 1, hn⟩ h0)) y).trans ((kept_payload (iblk μ hO c 1 ⟨n + 1, hn⟩) y).trans ?_)
      exact cols_apply μ hO c ⟨n + 1, hn⟩ _ z z0 z1 z2
    · refine (congrFun (congrArg Prod.snd (at_later μ hO c ⟨n + 1, hn⟩ h0)) y).trans ?_
      refine ih (Nat.lt_of_succ_lt hn) y z z0 z1 (z2.trans ?_)
      rw [show (n + 1) / 8 = n / 8 by omega]

end Values

/-- The column of the weights that column `q` of the result is made with. -/
def column (q : Fin 2048) : Fin 26688 :=
  ⟨start (q.val / 512) + q.val % 512, by have := q.isLt; have := start_le (q.val / 512) (by omega); omega⟩

/-- The product of the activations with the chosen columns of the second layer's weights. -/
def G (h : FVec Ideal S8192x4096 .bf16) (w : FVec Ideal S2x4096x26688 .f32) : FVec Ideal S8192x2048 .bf16 :=
  fun y => InProjSecond.entry h w (y 0) (column (y 1))

theorem written (μ : (ℓ : Loc nD τ sig) → Buf (Elt Ideal) ℓ) (hO : Ok μ) (c : Dev nD) (t : Fin (cfgM μ hO).N) (y : S1024x512.Idx)
    (z : S8192x2048.Idx) (h0 : (z 0).val = t.val % 8 * 1024 + (y 0).val) (h1 : (z 1).val = t.val / 8 * 512 + (y 1).val) :
    (outsAt0 μ hO c t.val t.isLt).1 y = G (μ ((c : Thread nD τ).loc main_arg0)) (μ ((c : Thread nD τ).loc main_arg1)) z := by
  unfold G InProjSecond.entry
  rw [out_eq]
  refine (out_payload _ _ _).trans (Finset.sum_congr rfl fun k _ => ?_)
  have hy1 : (y 1).val < 512 := (y 1).isLt
  refine congrArg₂ (fun a b : EReal => a * b) (rows_apply μ hO c t _ _ h0 rfl) (kept_apply μ hO c t.val t.isLt _ _ rfl rfl ?_)
  show start ((z 1).val / 512) + (z 1).val % 512 = start (t.val / 8) + (y 1).val
  rw [h1, show (t.val / 8 * 512 + (y 1).val) / 512 = t.val / 8 by omega, show (t.val / 8 * 512 + (y 1).val) % 512 = (y 1).val by omega]

/-- The result array after the run. -/
theorem final (μ : (ℓ : Loc nD τ sig) → Buf (Elt Ideal) ℓ) (hO : Ok μ) (c : Dev nD) :
    (dats μ hO 0 c).arrAt 2 (cfgM μ hO).N = G (μ ((c : Thread nD τ).loc main_arg0)) (μ ((c : Thread nD τ).loc main_arg1)) := by
  refine (dats μ hO 0 c).arrAt_eq_of_covers 2 _ ?_ fun t hf (y : S1024x512.Idx) => ?_
  · exact of_decide_eq_true (by sl_kernel_rfl)
  · refine (congrFun (after0_2 μ hO c t) y).trans (written μ hO c t y _ ?_ ?_)
    · show (BitVec.ofNat 32 (grid0.coords t 1).val).toNat * 1024 + 1 * (y 0).val = _
      rw [BitVec.toNat_ofNat, point1, Nat.mod_eq_of_lt (by omega)]
      omega
    · have ht : t.val < 32 := Nat.lt_of_lt_of_eq t.isLt N_0
      show (BitVec.ofNat 32 (grid0.coords t 0).val).toNat * 512 + 1 * (y 1).val = _
      rw [BitVec.toNat_ofNat, point0, Nat.mod_eq_of_lt (by omega)]
      omega

/-- The run: the result array holds the product, the arguments end unchanged. -/
theorem run (μ : (ℓ : Loc nD τ sig) → Buf (Elt Ideal) ℓ) (ρ : Dev nD → PrngReg) :
    θ_run (defs (F := Ideal)) (onTc (τ := τ) (main (F := Ideal))) ⟨μ, fun _ => 0, ρ⟩ (fun r => ∀ c : Dev nD,
      r.2.mem ((c.tc : Thread nD τ).loc main_v1) = G (μ ((c.tc : Thread nD τ).loc main_arg0)) (μ ((c.tc : Thread nD τ).loc main_arg1))
      ∧ r.2.mem ((c.tc : Thread nD τ).loc main_arg0) = μ ((c.tc : Thread nD τ).loc main_arg0)
      ∧ r.2.mem ((c.tc : Thread nD τ).loc main_arg1) = μ ((c.tc : Thread nD τ).loc main_arg1)) := by
  refine (θ_run defs _ _).mono (fun r h c => ?_) (run_main μ ρ (ok μ))
  exact ⟨((h c).1 2).trans (final μ (ok μ) c),
    ((h c).1 0).trans (((dats μ (ok μ) 0 c).arrAt_in 0 rfl _).trans ((A_eq μ (ok μ) c 0).trans (V_main_arg0 μ c))),
    ((h c).2 main_arg1 (by decide : main_arg1 ∈ Pipeline.restRefs sig spec0)).trans (V_main_arg1 μ c)⟩

end Cert.Proof.ValueSecond

end
-- ==== Proof.ValueSecondReference.lean ====
/-
  The second layer: the reference of the call that makes the values: three ranges of the projection's columns side by side, entry by entry
  what the call leaves.
-/
module

public import proofs.«01_k».proof.Proof.ValueSecond
public import proofs.«01_k».proof.Proof.Gen.Reference17Ideal.Run

@[expose] public section

noncomputable section

namespace Cert.Proof.ValueSecond

open Idealize.ShloMosaic Idealize.ShloMosaic.TcCoe Idealize.SL.Sem
open Cert.Reference17Ideal Cert.Reference17Ideal.Gen Idealize.ShloMosaic.ValueIdx

/-- The reference's run, at the value the kernel's run ends with. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨(h c).1.trans ?_, (h c).2⟩) (Cert.Reference17Ideal.Value.run (F := Ideal) m ρ)
  funext y
  obtain ⟨p, q, rfl⟩ : ∃ (p : Fin 8192) (q : Fin 2048), y = ix2 p q := ⟨y 0, y 1, eq_ix2 y⟩
  by_cases h0 : q.val < 512
  · refine (concatenate_apply_piece (1 : Fin 2) _ _ (ix2 p q) 0 (by show 0 < 3; omega) S8192x512 _ rfl rfl 0 rfl
        (ix2 p ⟨q.val - 0, by omega⟩) (fun b hb => ?_) (by show 0 + (q.val - 0) = q.val; omega)).trans ?_
    · match b, hb with
      | ⟨0, _⟩, _ => rfl
      | ⟨1, _⟩, hb => exact absurd rfl hb
    · refine InProjSecond.range_entry 5696 1024 4608 512 _ _ _ _ _ _ _ _ p _ (column q) ?_
      show 5696 + (1024 + (q.val - 0)) = start (q.val / 512) + q.val % 512
      unfold start
      split_ifs <;> omega
  by_cases h1 : q.val < 1536
  · refine (concatenate_apply_piece (1 : Fin 2) _ _ (ix2 p q) 1 (by show 1 < 3; omega) S8192x1024 _ rfl rfl 512 rfl
        (ix2 p ⟨q.val - 512, by omega⟩) (fun b hb => ?_) (by show 512 + (q.val - 512) = q.val; omega)).trans ?_
    · match b, hb with
      | ⟨0, _⟩, _ => rfl
      | ⟨1, _⟩, hb => exact absurd rfl hb
    · refine InProjSecond.range_entry 1088 2048 3072 1024 _ _ _ _ _ _ _ _ p _ (column q) ?_
      show 1088 + (2048 + (q.val - 512)) = start (q.val / 512) + q.val % 512
      unfold start
      split_ifs <;> omega
  · have hq := q.isLt
    refine (concatenate_apply_piece (1 : Fin 2) _ _ (ix2 p q) 2 (by show 2 < 3; omega) S8192x512 _ rfl rfl 1536 rfl
        (ix2 p ⟨q.val - 1536, by omega⟩) (fun b hb => ?_) (by show 1536 + (q.val - 1536) = q.val; omega)).trans ?_
    · match b, hb with
      | ⟨0, _⟩, _ => rfl
      | ⟨1, _⟩, hb => exact absurd rfl hb
    · refine InProjSecond.range_entry 4160 1024 1536 512 _ _ _ _ _ _ _ _ p _ (column q) ?_
      show 4160 + (1024 + (q.val - 1536)) = start (q.val / 512) + q.val % 512
      unfold start
      split_ifs <;> omega

end Cert.Proof.ValueSecond

end
-- ==== Proof.ValueSecondClaims.lean ====
/-
  The second layer: the claims about the call that makes the values: both programs' frames from one run, and the value.
-/
module

public import proofs.«01_k».proof.Defs
public import proofs.«01_k».proof.Proof.ValueSecondReference
public import proofs.«01_k».proof.Proof.Gen.Kernel17

@[expose] public section

noncomputable section

namespace Cert.Proof.ValueSecond

open Idealize.ShloMosaic Idealize.SL.Sem

section Same
variable {F : FTy → Type} [FloatOps F]

/-- The program as printed and the program read over the reals have one text: one set of bodies. -/
theorem bodies_eq : Cert.Kernel17.defs₀ (F := F) = Cert.Kernel17Ideal.defs₀ (F := F) := by
  unfold Cert.Kernel17.defs₀ Cert.Kernel17Ideal.defs₀
  refine congrArg Defs.onTc (funext fun l => ?_)
  match l with
  | 0 => rfl

theorem defs_eq : Cert.Kernel17.defs (F := F) = Cert.Kernel17Ideal.defs (F := F) := by
  unfold Cert.Kernel17.defs Cert.Kernel17Ideal.defs
  exact congrArg _ bodies_eq

end Same

theorem frame : Cert.quiescent_Kernel17 := fun m ρ _ => by
  rw [defs_eq]
  exact Cert.Kernel17Ideal.Gen.frame (F := Bits) m ρ (ok m)

theorem frame_ideal : Cert.quiescent_Kernel17Ideal := fun m ρ _ =>
  Cert.Kernel17Ideal.Gen.frame (F := Ideal) m ρ (ok m)

theorem frame_reference : Cert.quiescent_Reference17Ideal := fun m ρ _ =>
  (θ_run _ _ _).mono (fun r h => ⟨fun c => (h c).2, Idealize.ShloMosaic.sem_eq_zero_of_no_sems (by decide) r.2⟩) (reference_run m ρ)

theorem algebraic : Cert.algebraic_Kernel17Ideal_Reference17Ideal := by
  intro m ρ m' ρ' _ hargs
  refine ⟨fun c => G (m ((c.tc : Thread _ _).loc Cert.Kernel17Ideal.main_arg0)) (m ((c.tc : Thread _ _).loc Cert.Kernel17Ideal.main_arg1)), ?_, ?_⟩
  · exact run m ρ
  · refine (θ_run _ _ _).mono (fun r h c => ⟨(h c).1.trans ?_, (h c).2⟩) (reference_run m' ρ')
    exact congrArg₂ G (hargs c).1 (hargs c).2

end Cert.Proof.ValueSecond

end
-- ==== Proof.LatentSecond.lean ====
/-
  The second layer: the call of the projection kernel that makes the latent part: where its tiles of weights begin, what each grid point writes,
  and the result array after the run.
-/
module

public import proofs.«01_k».proof.Proof.Gen.Kernel18Ideal.Frame
public import proofs.«01_k».proof.Proof.DenseSecond
public import Idealize.ShloMosaic.Lib.Pipeline.Value
public import Idealize.ShloMosaic.Lib.Pipeline.ValueKit.Geometry
public import Idealize.ShloMosaic.Lib.Pipeline.ValueKit.Acc

@[expose] public section

noncomputable section

namespace Cert.Proof.LatentSecond

open Idealize.ShloMosaic Idealize.ShloMosaic.TcCoe Idealize.SL.Sem
open Cert.Kernel18Ideal Cert.Kernel18Ideal.Gen Idealize.ShloMosaic.ValueIdx

variable {F : FTy → Type} [FloatOps F]
variable (m : (ℓ : Loc nD τ sig) → Buf (Elt F) ℓ)

/-! ## The table -/

/-- The word the table holds at entry `x`. -/
theorem table_apply (x : S3.Idx) : tbl m 0 x = lit0 (S3.rowMajor x) := by
  show StableHlo.after hostOps0 (fun b => m ((0 : Dev nD), b)) (Proc.devRef .tc main_c) x = _
  unfold hostOps0
  after_results

/-- The first column of tile `n`. -/
def start (n : ℕ) : ℕ := 0 + 384 * n

/-- Every word is a multiple of 64. -/
theorem words_aligned : ∀ j : Fin 3, (64 : Int) ∣ (lit0 j).toInt := by decide

/-- The words are the first columns of the tiles. -/
theorem words_eq : ∀ j : Fin 3, (lit0 j).toNat = start j.val := by decide

/-- A tile lies inside the weights. -/
theorem start_le (n : ℕ) (h : n < 3) : start n + 384 ≤ 26688 :=
  (by decide : ∀ j : Fin 3, start j.val + 384 ≤ 26688) ⟨n, h⟩

theorem table_toNat (x : S3.Idx) : (tbl m 0 x : BitVec 32).toNat = start (x 0).val := by
  have e := (congrArg BitVec.toNat (table_apply m x)).trans (words_eq (S3.rowMajor x))
  exact e.trans (congrArg start (Shape.rowMajor_val_one x))

theorem table_aligned (x : S3.Idx) : (64 : Int) ∣ (tbl m 0 x : BitVec 32).toInt := by
  have e := congrArg BitVec.toInt (table_apply m x)
  exact e ▸ words_aligned _

/-- Where the weights' window begins at the grid point `i`. -/
theorem offset_eq (i : grid0.Coords) :
    cc0_transform_1 k0_off1_inb numel1_S1 (tbl m) i = ![1, start (i 0).val, 0] := by
  unfold cc0_transform_1
  funext a
  match a with
  | ⟨0, _⟩ => rfl
  | ⟨1, _⟩ =>
    refine (table_toNat m _).trans (congrArg start ?_)
    have h : (i 0).val < 3 := (i 0).isLt
    show (BitVec.ofNat 32 (i 0).val).toNat + 1 * 0 = (i 0).val
    rw [BitVec.toNat_ofNat, Nat.mod_eq_of_lt (by omega)]
    omega
  | ⟨2, _⟩ => rfl

/-- The table the host writes is admissible: every window is aligned and inside the weights. -/
theorem ok : Ok m := by
  refine ⟨fun i => ?_, fun i => ⟨fun a => ?_, Or.inl rfl⟩⟩
  · unfold k0_mult1
    dsimp only [Pipeline.Prefetch.Contents.atD]
    split
    · exact table_aligned m _
    · exact ⟨0, rfl⟩
  · rw [offset_eq]
    have h := start_le (i 0).val (i 0).isLt
    match a with
    | ⟨0, _⟩ => show 1 + 1 ≤ 2; omega
    | ⟨1, _⟩ => exact h
    | ⟨2, _⟩ => show 0 + 4096 ≤ 4096; omega

/-! ## One grid point -/

section Cases
variable (c : Dev nD) (i : grid0.Coords) (a3 : Memref sig .tc .vmem S1024x4096 .bf16) (h3 : a3.IsWhole)
  (a4 : Memref sig .tc .vmem S1x384x4096 .f32) (h4 : a4.IsWhole) (a5 : Memref sig .tc .vmem S1024x384 .bf16) (h5 : a5.IsWhole)
  (a6 : Memref sig .tc .vmem S384x4096 .bf16) (h6 : a6.IsWhole)
  (x0 : Vec F S1024x4096 .bf16) (x1 : Vec F S1x384x4096 .f32) (xt : TbBuf0 (F := F) c tbM0_0) (xs : Vec F S384x4096 .bf16)

theorem first_out (hc : cond0_0 i) : out0_A_2 c i a3 h3 a4 h4 a5 h5 a6 h6 hc x0 x1 xt = k0_pay2 x0 (k0_pay1 x1) := by
  frame_out

theorem first_kept (hc : cond0_0 i) : sout0_A_0 c i a3 h3 a4 h4 a5 h5 a6 h6 hc x0 x1 xt = k0_pay1 x1 := by
  frame_out

theorem later_out (hc : ¬cond0_0 i) : out0_B_2 c i a3 h3 a4 h4 a5 h5 a6 h6 hc x0 x1 xt xs = k0_pay2 x0 xs := by
  frame_out

end Cases

/-- The point `t` is at column tile `t / 8` and row tile `t % 8`. -/
theorem point0 (t : Fin grid0.N) : (grid0.coords t 0).val = t.val / 8 := by
  have ht : t.val < 24 := Nat.lt_of_lt_of_eq t.isLt N_0
  rw [show (grid0.coords t 0).val = t.val / 8 % 3 from Pipeline.Grid.coords_val t 0 (by decide) rfl]
  omega

theorem point1 (t : Fin grid0.N) : (grid0.coords t 1).val = t.val % 8 := by
  rw [show (grid0.coords t 1).val = t.val / 1 % 8 from Pipeline.Grid.coords_val t 1 (by decide) rfl]
  omega

/-- The weights the call reads are the argument with its last two axes exchanged. -/
theorem V_weights (c : Dev nD) :
    V m c main_v0 = transpose S2x26688x4096 [0, 2, 1] (m ((c : Thread nD τ).loc main_arg1)) transposes_S2x4096x26688_S2x26688x4096_0_2_1 := by
  show StableHlo.after hostOps0 (fun b => m (c, b)) (Proc.devRef .tc main_v0) = _
  unfold hostOps0
  after_results

/-- The block of activations at an entry. -/
theorem rows_apply (hO : Ok m) (c : Dev nD) (t : Fin (cfgM m hO).N) (y : S1024x4096.Idx) (z : S8192x4096.Idx)
    (hz0 : (z 0).val = t.val % 8 * 1024 + (y 0).val) (hz1 : (z 1).val = (y 1).val) :
    iblk m hO c 0 t y = m ((c : Thread nD τ).loc main_arg0) z := by
  show V m c main_arg0 ((((cfgM m hO).win 0).blk t).view.emb y) = _
  rw [V_main_arg0]
  refine congrArg _ (funext fun a => Fin.ext ?_)
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show 0 * 4096 + 1 * (y 1).val = (z 1).val
    omega

/-- The block of weights at an entry, in the argument's own order. -/
theorem cols_apply (hO : Ok m) (c : Dev nD) (t : Fin (cfgM m hO).N) (y : S1x384x4096.Idx) (z : S2x4096x26688.Idx)
    (hz0 : (z 0).val = 1) (hz1 : (z 1).val = (y 2).val) (hz2 : (z 2).val = start (t.val / 8) + (y 1).val) :
    iblk m hO c 1 t y = m ((c : Thread nD τ).loc main_arg1) z := by
  show V m c main_v0 ((((cfgM m hO).win 1).blk t).view.emb y) = _
  rw [V_weights]
  unfold transpose
  refine congrArg (m ((c : Thread nD τ).loc main_arg1)) (funext fun a => Fin.ext ?_)
  have h0 := point0 t
  have ho := offset_eq m (grid0.coords t)
  match a with
  | ⟨0, _⟩ =>
    show 1 + 1 * (y 0).val = (z 0).val
    have : (y 0).val < 1 := (y 0).isLt
    omega
  | ⟨1, _⟩ =>
    show cc0_transform_1 k0_off1_inb numel1_S1 (tbl m) (grid0.coords t) 2 + 1 * (y 2).val = (z 1).val
    rw [ho]
    show 0 + 1 * (y 2).val = (z 1).val
    omega
  | ⟨2, _⟩ =>
    show cc0_transform_1 k0_off1_inb numel1_S1 (tbl m) (grid0.coords t) 1 + 1 * (y 1).val = (z 2).val
    rw [ho]
    show start (grid0.coords t 0).val + 1 * (y 1).val = (z 2).val
    rw [h0]
    omega

/-- At the first point of a column tile: the tile is cast and kept, and the product is taken with it. -/
theorem at_first (hO : Ok m) (c : Dev nD) (t : Fin (cfgM m hO).N) (h0 : t.val % 8 = 0) :
    outsAt0 m hO c t.val t.isLt = (k0_pay2 (iblk m hO c 0 t) (k0_pay1 (iblk m hO c 1 t)), k0_pay1 (iblk m hO c 1 t)) :=
  (outsAt0_A m hO c t h0).trans (congrArg₂ Prod.mk
    (first_out c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) ((hcond0_0 t).mpr h0))
    (first_kept c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) ((hcond0_0 t).mpr h0)))

/-- What was kept before point `t`. -/
abbrev before (hO : Ok m) (c : Dev nD) (t : Fin (cfgM m hO).N) : Vec F S384x4096 .bf16 :=
  (outsAt0 m hO c (t.val - 1) (Nat.lt_of_le_of_lt (Nat.sub_le _ _) t.isLt)).2

/-- At a later point of the tile: the kept tile stays, and the product is taken with it. -/
theorem at_later (hO : Ok m) (c : Dev nD) (t : Fin (cfgM m hO).N) (h0 : ¬t.val % 8 = 0) :
    outsAt0 m hO c t.val t.isLt = (k0_pay2 (iblk m hO c 0 t) (before m hO c t), before m hO c t) :=
  (outsAt0_B m hO c t h0).trans (congrArg₂ Prod.mk
    (later_out c (grid0.coords t) (ms0_0 m hO t) (hs0_0 m hO t) (ms0_1 m hO t) (hs0_1 m hO t) (ms0_2 m hO t) (hs0_2 m hO t) scM0_0
      (Memref.isWhole_whole _) (iblk m hO c 0 t) (iblk m hO c 1 t) (tbl m 0) (before m hO c t) (fun h => h0 ((hcond0_0 t).mp h)))
    rfl)

/-- What a point writes is the product of its rows with the kept tile. -/
theorem out_eq (hO : Ok m) (c : Dev nD) (t : Fin (cfgM m hO).N) :
    (outsAt0 m hO c t.val t.isLt).1 = k0_pay2 (iblk m hO c 0 t) (outsAt0 m hO c t.val t.isLt).2 := by
  by_cases h0 : t.val % 8 = 0
  · rw [at_first m hO c t h0]
  · rw [at_later m hO c t h0]

/-! ## Over the reals -/

section Values
variable (μ : (ℓ : Loc nD τ sig) → Buf (Elt Ideal) ℓ)

theorem kept_payload (v : Vec Ideal S1x384x4096 .f32) (y : S384x4096.Idx) :
    k0_pay1 v y = v (ix3 0 (y 0) (y 1)) := by
  unfold k0_pay1
  rw [shapeCast_self]
  exact Dense.drop_unit 384 4096 v _ y

theorem out_payload (a : Vec Ideal S1024x4096 .bf16) (b : Vec Ideal S384x4096 .bf16) (y : S1024x384.Idx) :
    k0_pay2 a b y = ∑ k : Fin 4096, (a (ix2 (y 0) k) * b (ix2 (y 1) k) : EReal) := by
  unfold k0_pay2
  exact Dense.product_transposed 1024 4096 384 a b y

/-- The kept tile after point `n`: the weights of the tile's columns, row by row. -/
theorem kept_apply (hO : Ok μ) (c : Dev nD) : ∀ (n : ℕ) (hn : n < (cfgM μ hO).N) (y : S384x4096.Idx) (z : S2x4096x26688.Idx),
    (z 0).val = 1 → (z 1).val = (y 1).val → (z 2).val = start (n / 8) + (y 0).val →
    (outsAt0 μ hO c n hn).2 y = μ ((c : Thread nD τ).loc main_arg1) z := by
  intro n
  induction n with
  | zero =>
    intro hn y z z0 z1 z2
    refine (congrFun (congrArg Prod.snd (at_first μ hO c ⟨0, hn⟩ rfl)) y).trans ((kept_payload (iblk μ hO c 1 ⟨0, hn⟩) y).trans ?_)
    exact cols_apply μ hO c ⟨0, hn⟩ _ z z0 z1 z2
  | succ n ih =>
    intro hn y z z0 z1 z2
    by_cases h0 : (n + 1) % 8 = 0
    · refine (congrFun (congrArg Prod.snd (at_first μ hO c ⟨n + 1, hn⟩ h0)) y).trans ((kept_payload (iblk μ hO c 1 ⟨n + 1, hn⟩) y).trans ?_)
      exact cols_apply μ hO c ⟨n + 1, hn⟩ _ z z0 z1 z2
    · refine (congrFun (congrArg Prod.snd (at_later μ hO c ⟨n + 1, hn⟩ h0)) y).trans ?_
      refine ih (Nat.lt_of_succ_lt hn) y z z0 z1 (z2.trans ?_)
      rw [show (n + 1) / 8 = n / 8 by omega]

end Values

/-- The column of the weights that column `q` of the result is made with. -/
def column (q : Fin 1152) : Fin 26688 :=
  ⟨start (q.val / 384) + q.val % 384, by have := q.isLt; have := start_le (q.val / 384) (by omega); omega⟩

/-- The product of the activations with the chosen columns of the second layer's weights. -/
def G (h : FVec Ideal S8192x4096 .bf16) (w : FVec Ideal S2x4096x26688 .f32) : FVec Ideal S8192x1152 .bf16 :=
  fun y => InProjSecond.entry h w (y 0) (column (y 1))

theorem written (μ : (ℓ : Loc nD τ sig) → Buf (Elt Ideal) ℓ) (hO : Ok μ) (c : Dev nD) (t : Fin (cfgM μ hO).N) (y : S1024x384.Idx)
    (z : S8192x1152.Idx) (h0 : (z 0).val = t.val % 8 * 1024 + (y 0).val) (h1 : (z 1).val = t.val / 8 * 384 + (y 1).val) :
    (outsAt0 μ hO c t.val t.isLt).1 y = G (μ ((c : Thread nD τ).loc main_arg0)) (μ ((c : Thread nD τ).loc main_arg1)) z := by
  unfold G InProjSecond.entry
  rw [out_eq]
  refine (out_payload _ _ _).trans (Finset.sum_congr rfl fun k _ => ?_)
  have hy1 : (y 1).val < 384 := (y 1).isLt
  refine congrArg₂ (fun a b : EReal => a * b) (rows_apply μ hO c t _ _ h0 rfl) (kept_apply μ hO c t.val t.isLt _ _ rfl rfl ?_)
  show start ((z 1).val / 384) + (z 1).val % 384 = start (t.val / 8) + (y 1).val
  rw [h1, show (t.val / 8 * 384 + (y 1).val) / 384 = t.val / 8 by omega, show (t.val / 8 * 384 + (y 1).val) % 384 = (y 1).val by omega]

/-- The result array after the run. -/
theorem final (μ : (ℓ : Loc nD τ sig) → Buf (Elt Ideal) ℓ) (hO : Ok μ) (c : Dev nD) :
    (dats μ hO 0 c).arrAt 2 (cfgM μ hO).N = G (μ ((c : Thread nD τ).loc main_arg0)) (μ ((c : Thread nD τ).loc main_arg1)) := by
  refine (dats μ hO 0 c).arrAt_eq_of_covers 2 _ ?_ fun t hf (y : S1024x384.Idx) => ?_
  · exact of_decide_eq_true (by sl_kernel_rfl)
  · refine (congrFun (after0_2 μ hO c t) y).trans (written μ hO c t y _ ?_ ?_)
    · show (BitVec.ofNat 32 (grid0.coords t 1).val).toNat * 1024 + 1 * (y 0).val = _
      rw [BitVec.toNat_ofNat, point1, Nat.mod_eq_of_lt (by omega)]
      omega
    · have ht : t.val < 24 := Nat.lt_of_lt_of_eq t.isLt N_0
      show (BitVec.ofNat 32 (grid0.coords t 0).val).toNat * 384 + 1 * (y 1).val = _
      rw [BitVec.toNat_ofNat, point0, Nat.mod_eq_of_lt (by omega)]
      omega

/-- The run: the result array holds the product, the arguments end unchanged. -/
theorem run (μ : (ℓ : Loc nD τ sig) → Buf (Elt Ideal) ℓ) (ρ : Dev nD → PrngReg) :
    θ_run (defs (F := Ideal)) (onTc (τ := τ) (main (F := Ideal))) ⟨μ, fun _ => 0, ρ⟩ (fun r => ∀ c : Dev nD,
      r.2.mem ((c.tc : Thread nD τ).loc main_v1) = G (μ ((c.tc : Thread nD τ).loc main_arg0)) (μ ((c.tc : Thread nD τ).loc main_arg1))
      ∧ r.2.mem ((c.tc : Thread nD τ).loc main_arg0) = μ ((c.tc : Thread nD τ).loc main_arg0)
      ∧ r.2.mem ((c.tc : Thread nD τ).loc main_arg1) = μ ((c.tc : Thread nD τ).loc main_arg1)) := by
  refine (θ_run defs _ _).mono (fun r h c => ?_) (run_main μ ρ (ok μ))
  exact ⟨((h c).1 2).trans (final μ (ok μ) c),
    ((h c).1 0).trans (((dats μ (ok μ) 0 c).arrAt_in 0 rfl _).trans ((A_eq μ (ok μ) c 0).trans (V_main_arg0 μ c))),
    ((h c).2 main_arg1 (by decide : main_arg1 ∈ Pipeline.restRefs sig spec0)).trans (V_main_arg1 μ c)⟩

end Cert.Proof.LatentSecond

end
-- ==== Proof.LatentSecondReference.lean ====
/-
  The second layer: the reference of the call that makes the latent part: its columns of the projection, entry by entry what the call leaves.
-/
module

public import proofs.«01_k».proof.Proof.LatentSecond
public import proofs.«01_k».proof.Proof.Gen.Reference18Ideal.Run

@[expose] public section

noncomputable section

namespace Cert.Proof.LatentSecond

open Idealize.ShloMosaic Idealize.ShloMosaic.TcCoe Idealize.SL.Sem
open Cert.Reference18Ideal Cert.Reference18Ideal.Gen Idealize.ShloMosaic.ValueIdx

/-- The reference's run, at the value the kernel's run ends with. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨(h c).1.trans ?_, (h c).2⟩) (Cert.Reference18Ideal.Value.run (F := Ideal) m ρ)
  funext y
  obtain ⟨p, q, rfl⟩ : ∃ (p : Fin 8192) (q : Fin 1152), y = ix2 p q := ⟨y 0, y 1, eq_ix2 y⟩
  refine Eq.trans ?_ ((InProjSecond.host_entry (m ((c.tc : Thread nD τ).loc main_arg0)) (m ((c.tc : Thread nD τ).loc main_arg1)) bitsLt_bf16_f32
    slices_S2x4096x26688_S1x4096x26688_1_0_0 shapeCasts_S1x4096x26688_S4096x26688 p (column q)))
  refine congrArg (Host.dotGeneral (F := Ideal) (DotDims.plain 8192 4096 26688) none _ _ : FVec Ideal InProjSecond.Whole .f32) ?_
  funext a
  match a with
  | ⟨0, _⟩ => exact Fin.ext (Nat.zero_add _)
  | ⟨1, _⟩ => exact Fin.ext (by show 0 + q.val = 0 + 384 * (q.val / 384) + q.val % 384; omega)

end Cert.Proof.LatentSecond

end
-- ==== Proof.LatentSecondClaims.lean ====
/-
  The second layer: the claims about the call that makes the latent part: both programs' frames from one run, and the value.
-/
module

public import proofs.«01_k».proof.Defs
public import proofs.«01_k».proof.Proof.LatentSecondReference
public import proofs.«01_k».proof.Proof.Gen.Kernel18

@[expose] public section

noncomputable section

namespace Cert.Proof.LatentSecond

open Idealize.ShloMosaic Idealize.SL.Sem

section Same
variable {F : FTy → Type} [FloatOps F]

/-- The program as printed and the program read over the reals have one text: one set of bodies. -/
theorem bodies_eq : Cert.Kernel18.defs₀ (F := F) = Cert.Kernel18Ideal.defs₀ (F := F) := by
  unfold Cert.Kernel18.defs₀ Cert.Kernel18Ideal.defs₀
  refine congrArg Defs.onTc (funext fun l => ?_)
  match l with
  | 0 => rfl

theorem defs_eq : Cert.Kernel18.defs (F := F) = Cert.Kernel18Ideal.defs (F := F) := by
  unfold Cert.Kernel18.defs Cert.Kernel18Ideal.defs
  exact congrArg _ bodies_eq

end Same

theorem frame : Cert.quiescent_Kernel18 := fun m ρ _ => by
  rw [defs_eq]
  exact Cert.Kernel18Ideal.Gen.frame (F := Bits) m ρ (ok m)

theorem frame_ideal : Cert.quiescent_Kernel18Ideal := fun m ρ _ =>
  Cert.Kernel18Ideal.Gen.frame (F := Ideal) m ρ (ok m)

theorem frame_reference : Cert.quiescent_Reference18Ideal := fun m ρ _ =>
  (θ_run _ _ _).mono (fun r h => ⟨fun c => (h c).2, Idealize.ShloMosaic.sem_eq_zero_of_no_sems (by decide) r.2⟩) (reference_run m ρ)

theorem algebraic : Cert.algebraic_Kernel18Ideal_Reference18Ideal := by
  intro m ρ m' ρ' _ hargs
  refine ⟨fun c => G (m ((c.tc : Thread _ _).loc Cert.Kernel18Ideal.main_arg0)) (m ((c.tc : Thread _ _).loc Cert.Kernel18Ideal.main_arg1)), ?_, ?_⟩
  · exact run m ρ
  · refine (θ_run _ _ _).mono (fun r h c => ⟨(h c).1.trans ?_, (h c).2⟩) (reference_run m' ρ')
    exact congrArg₂ G (hargs c).1 (hargs c).2

end Cert.Proof.LatentSecond

end
-- ==== Proof.MergeSecond.lean ====
/-
  The second layer: the call that gates and adds the projections of the four branches: what each grid point writes, and the result array after the run.
-/
module

public import proofs.«01_k».proof.Proof.Gen.Kernel19Ideal.Frame
public import proofs.«01_k».proof.Proof.Gen.Kernel19Ideal.Value
public import proofs.«01_k».proof.Proof.DenseSecond
public import proofs.«01_k».proof.Proof.Sigmoid
public import Idealize.ShloMosaic.Lib.Pipeline.Value
public import Idealize.ShloMosaic.Lib.Pipeline.ValueKit.Geometry
public import Idealize.ShloMosaic.Lib.Pipeline.ValueKit.Acc

@[expose] public section

noncomputable section

namespace Cert.Proof.MergeSecond

open Idealize.ShloMosaic Idealize.ShloMosaic.TcCoe Idealize.SL.Sem
open Cert.Kernel19Ideal Cert.Kernel19Ideal.Gen Idealize.ShloMosaic.ValueIdx

variable {F : FTy → Type} [FloatOps F]
variable (m : (ℓ : Loc nD τ sig) → Buf (Elt F) ℓ)

/-! ## One grid point -/

section Cases
variable (c : Dev nD) (i : grid0.Coords) (a2 : Memref sig .tc .vmem S1024x1024 .bf16) (h2 : a2.IsWhole)
  (a3 : Memref sig .tc .vmem S1024x1024 .bf16) (h3 : a3.IsWhole)
  (a4 : Memref sig .tc .vmem S1024x1024 .bf16) (h4 : a4.IsWhole)
  (a5 : Memref sig .tc .vmem S1024x512 .bf16) (h5 : a5.IsWhole)
  (a6 : Memref sig .tc .vmem S1x1024x512 .f32) (h6 : a6.IsWhole)
  (a7 : Memref sig .tc .vmem S1x1024x512 .f32) (h7 : a7.IsWhole)
  (a8 : Memref sig .tc .vmem S1x1024x512 .f32) (h8 : a8.IsWhole)
  (a9 : Memref sig .tc .vmem S1x512x512 .f32) (h9 : a9.IsWhole)
  (a10 : Memref sig .tc .vmem S1024x512 .bf16) (h10 : a10.IsWhole)
  (a11 : Memref sig .tc .vmem S1024x512 .bf16) (h11 : a11.IsWhole)
  (a12 : Memref sig .tc .vmem S1024x512 .bf16) (h12 : a12.IsWhole)
  (a13 : Memref sig .tc .vmem S1024x512 .bf16) (h13 : a13.IsWhole)
  (a14 : Memref sig .tc .vmem S1024x512 .bf16) (h14 : a14.IsWhole)
  (a15 : Memref sig .tc .vmem S1024x512 .bf16) (h15 : a15.IsWhole)
  (a16 : Memref sig .tc .vmem S1024x512 .bf16) (h16 : a16.IsWhole)
  (a17 : Memref sig .tc .vmem S1024x512 .bf16) (h17 : a17.IsWhole)
  (a18 : Memref sig .tc .vmem S512x512 .bf16) (h18 : a18.IsWhole)
  (x0 x1 x2 : Vec F S1024x1024 .bf16) (x3 : Vec F S1024x512 .bf16) (x4 x5 x6 : Vec F S1x1024x512 .f32) (x7 : Vec F S1x512x512 .f32)
  (x8 x9 x10 x11 : Vec F S1024x512 .bf16) (w0 w1 w2 : Vec F S1024x512 .bf16) (w3 : Vec F S512x512 .bf16)

theorem first_out (hc : cond0_0 i) (hd : cond0_1 i) (he : cond0_2 i) (hf : cond0_3 i) :
    out0_A_12 c i a2 h2 a3 h3 a4 h4 a5 h5 a6 h6 a7 h7 a8 h8 a9 h9 a10 h10 a11 h11 a12 h12 a13 h13 a14 h14 a15 h15 a16 h16 a17 h17 a18 h18 hc hd he hf
        x0 x1 x2 x3 x4 x5 x6 x7 x8 x9 x10 x11
      = k0_pay1 (k0_pay7 (k0_pay3 (k0_pay2 x4) x8 x0) (k0_pay5 (k0_pay4 x5) x9 x1) (k0_pay6 x6) x10 x2) (k0_pay9 (k0_pay8 x7) x11 x3) := by
  frame_out

theorem first_kept0 (hc : cond0_0 i) (hd : cond0_1 i) (he : cond0_2 i) (hf : cond0_3 i) :
    sout0_A_0 c i a2 h2 a3 h3 a4 h4 a5 h5 a6 h6 a7 h7 a8 h8 a9 h9 a10 h10 a11 h11 a12 h12 a13 h13 a14 h14 a15 h15 a16 h16 a17 h17 a18 h18 hc hd he hf
        x0 x1 x2 x3 x4 x5 x6 x7 x8 x9 x10 x11 = k0_pay2 x4 := by
  frame_out

theorem first_kept1 (hc : cond0_0 i) (hd : cond0_1 i) (he : cond0_2 i) (hf : cond0_3 i) :
    sout0_A_1 c i a2 h2 a3 h3 a4 h4 a5 h5 a6 h6 a7 h7 a8 h8 a9 h9 a10 h10 a11 h11 a12 h12 a13 h13 a14 h14 a15 h15 a16 h16 a17 h17 a18 h18 hc hd he hf
        x0 x1 x2 x3 x4 x5 x6 x7 x8 x9 x10 x11 = k0_pay4 x5 := by
  frame_out

theorem first_kept2 (hc : cond0_0 i) (hd : cond0_1 i) (he : cond0_2 i) (hf : cond0_3 i) :
    sout0_A_2 c i a2 h2 a3 h3 a4 h4 a5 h5 a6 h6 a7 h7 a8 h8 a9 h9 a10 h10 a11 h11 a12 h12 a13 h13 a14 h14 a15 h15 a16 h16 a17 h17 a18 h18 hc hd he hf
        x0 x1 x2 x3 x4 x5 x6 x7 x8 x9 x10 x11 = k0_pay6 x6 := by
  frame_out

theorem first_kept3 (hc : cond0_0 i) (hd : cond0_1 i) (he : cond0_2 i) (hf : cond0_3 i) :
    sout0_A_3 c i a2 h2 a3 h3 a4 h4 a5 h5 a6 h6 a7 h7 a8 h8 a9 h9 a10 h10 a11 h11 a12 h12 a13 h13 a14 h14 a15 h15 a16 h16 a17 h17 a18 h18 hc hd he hf
        x0 x1 x2 x3 x4 x5 x6 x7 x8 x9 x10 x11 = k0_pay8 x7 := by
  frame_out

theorem later_out (hc : ¬cond0_0 i) (hd : ¬cond0_1 i) (he : ¬cond0_2 i) (hf : ¬cond0_3 i) :
    out0_B_12 c i a2 h2 a3 h3 a4 h4 a5 h5 a6 h6 a7 h7 a8 h8 a9 h9 a10 h10 a11 h11 a12 h12 a13 h13 a14 h14 a15 h15 a16 h16 a17 h17 a18 h18 hc hd he hf
        x0 x1 x2 x3 x4 x5 x6 x7 x8 x9 x10 x11 w0 w1 w2 w3
      = k0_pay1 (k0_pay7 (k0_pay3 w0 x8 x0) (k0_pay5 w1 x9 x1) w2 x10 x2) (k0_pay9 w3 x11 x3) := by
  frame_out

end Cases

/-- The point `t` is at column tile `t / 8` and row tile `t % 8`. -/
theorem point0 (t : Fin grid0.N) : (grid0.coords t 0).val = t.val / 8 := by
  have ht : t.val < 64 := Nat.lt_of_lt_of_eq t.isLt N_0
  rw [show (grid0.coords t 0).val = t.val / 8 % 8 from Pipeline.Grid.coords_val t 0 (by decide) rfl]
  omega

theorem point1 (t : Fin grid0.N) : (grid0.coords t 1).val = t.val % 8 := by
  rw [show (grid0.coords t 1).val = t.val / 1 % 8 from Pipeline.Grid.coords_val t 1 (by decide) rfl]
  omega

/-- The blocks of the four branches at an entry. -/
theorem rows0_apply (c : Dev nD) (t : Fin cfg0.N) (y : S1024x1024.Idx) (z : S8192x1024.Idx)
    (hz0 : (z 0).val = t.val % 8 * 1024 + (y 0).val) (hz1 : (z 1).val = (y 1).val) :
    iblk m c 0 t y = m ((c : Thread nD τ).loc main_arg0) z := by
  show m ((c : Thread nD τ).loc main_arg0) (((cfg0.win 0).blk t).view.emb y) = _
  refine congrArg _ (funext fun a => Fin.ext ?_)
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show 0 * 1024 + 1 * (y 1).val = (z 1).val
    omega

theorem rows1_apply (c : Dev nD) (t : Fin cfg0.N) (y : S1024x1024.Idx) (z : S8192x1024.Idx)
    (hz0 : (z 0).val = t.val % 8 * 1024 + (y 0).val) (hz1 : (z 1).val = (y 1).val) :
    iblk m c 1 t y = m ((c : Thread nD τ).loc main_arg1) z := by
  show m ((c : Thread nD τ).loc main_arg1) (((cfg0.win 1).blk t).view.emb y) = _
  refine congrArg _ (funext fun a => Fin.ext ?_)
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show 0 * 1024 + 1 * (y 1).val = (z 1).val
    omega

theorem rows2_apply (c : Dev nD) (t : Fin cfg0.N) (y : S1024x1024.Idx) (z : S8192x1024.Idx)
    (hz0 : (z 0).val = t.val % 8 * 1024 + (y 0).val) (hz1 : (z 1).val = (y 1).val) :
    iblk m c 2 t y = m ((c : Thread nD τ).loc main_arg2) z := by
  show m ((c : Thread nD τ).loc main_arg2) (((cfg0.win 2).blk t).view.emb y) = _
  refine congrArg _ (funext fun a => Fin.ext ?_)
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show 0 * 1024 + 1 * (y 1).val = (z 1).val
    omega

theorem rows3_apply (c : Dev nD) (t : Fin cfg0.N) (y : S1024x512.Idx) (z : S8192x512.Idx)
    (hz0 : (z 0).val = t.val % 8 * 1024 + (y 0).val) (hz1 : (z 1).val = (y 1).val) :
    iblk m c 3 t y = m ((c : Thread nD τ).loc main_arg3) z := by
  show m ((c : Thread nD τ).loc main_arg3) (((cfg0.win 3).blk t).view.emb y) = _
  refine congrArg _ (funext fun a => Fin.ext ?_)
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show 0 * 512 + 1 * (y 1).val = (z 1).val
    omega

/-- The block of the rows of branch 1 in the second layer's weights, at an entry. -/
theorem weight0_apply (c : Dev nD) (t : Fin cfg0.N) (y : S1x1024x512.Idx) (z : S2x3584x4096.Idx)
    (hz0 : (z 0).val = 1) (hz1 : (z 1).val = 0 + (y 1).val) (hz2 : (z 2).val = t.val / 8 * 512 + (y 2).val) :
    X0_4 m c t y = m ((c : Thread nD τ).loc main_arg4) z := by
  unfold X0_4 Pipeline.Window.fill
  rw [dif_pos (moved0_4 t y)]
  show m ((c : Thread nD τ).loc main_arg4) (((cfg0.win 4).blk t).view.emb fun a => ⟨(y a).val, _⟩) = _
  refine congrArg _ (funext fun a => Fin.ext ?_)
  have h0 := point0 t
  have hlt : (grid0.coords t 0).val < 8 := (grid0.coords t 0).isLt
  match a with
  | ⟨0, _⟩ =>
    show 1 * 1 + 1 * (y 0).val = (z 0).val
    have : (y 0).val < 1 := (y 0).isLt
    omega
  | ⟨1, _⟩ =>
    show 0 * 1024 + 1 * (y 1).val = (z 1).val
    omega
  | ⟨2, _⟩ =>
    show (BitVec.ofNat 32 (grid0.coords t 0).val).toNat * 512 + 1 * (y 2).val = (z 2).val
    rw [BitVec.toNat_ofNat, Nat.mod_eq_of_lt (by omega)]
    omega

/-- The block of the rows of branch 2 in the second layer's weights, at an entry. -/
theorem weight1_apply (c : Dev nD) (t : Fin cfg0.N) (y : S1x1024x512.Idx) (z : S2x3584x4096.Idx)
    (hz0 : (z 0).val = 1) (hz1 : (z 1).val = 1024 + (y 1).val) (hz2 : (z 2).val = t.val / 8 * 512 + (y 2).val) :
    X0_5 m c t y = m ((c : Thread nD τ).loc main_arg4) z := by
  unfold X0_5 Pipeline.Window.fill
  rw [dif_pos (moved0_5 t y)]
  show m ((c : Thread nD τ).loc main_arg4) (((cfg0.win 5).blk t).view.emb fun a => ⟨(y a).val, _⟩) = _
  refine congrArg _ (funext fun a => Fin.ext ?_)
  have h0 := point0 t
  have hlt : (grid0.coords t 0).val < 8 := (grid0.coords t 0).isLt
  match a with
  | ⟨0, _⟩ =>
    show 1 * 1 + 1 * (y 0).val = (z 0).val
    have : (y 0).val < 1 := (y 0).isLt
    omega
  | ⟨1, _⟩ =>
    show 1 * 1024 + 1 * (y 1).val = (z 1).val
    omega
  | ⟨2, _⟩ =>
    show (BitVec.ofNat 32 (grid0.coords t 0).val).toNat * 512 + 1 * (y 2).val = (z 2).val
    rw [BitVec.toNat_ofNat, Nat.mod_eq_of_lt (by omega)]
    omega

/-- The block of the rows of branch 3 in the second layer's weights, at an entry. -/
theorem weight2_apply (c : Dev nD) (t : Fin cfg0.N) (y : S1x1024x512.Idx) (z : S2x3584x4096.Idx)
    (hz0 : (z 0).val = 1) (hz1 : (z 1).val = 2048 + (y 1).val) (hz2 : (z 2).val = t.val / 8 * 512 + (y 2).val) :
    X0_6 m c t y = m ((c : Thread nD τ).loc main_arg4) z := by
  unfold X0_6 Pipeline.Window.fill
  rw [dif_pos (moved0_6 t y)]
  show m ((c : Thread nD τ).loc main_arg4) (((cfg0.win 6).blk t).view.emb fun a => ⟨(y a).val, _⟩) = _
  refine congrArg _ (funext fun a => Fin.ext ?_)
  have h0 := point0 t
  have hlt : (grid0.coords t 0).val < 8 := (grid0.coords t 0).isLt
  match a with
  | ⟨0, _⟩ =>
    show 1 * 1 + 1 * (y 0).val = (z 0).val
    have : (y 0).val < 1 := (y 0).isLt
    omega
  | ⟨1, _⟩ =>
    show 2 * 1024 + 1 * (y 1).val = (z 1).val
    omega
  | ⟨2, _⟩ =>
    show (BitVec.ofNat 32 (grid0.coords t 0).val).toNat * 512 + 1 * (y 2).val = (z 2).val
    rw [BitVec.toNat_ofNat, Nat.mod_eq_of_lt (by omega)]
    omega

/-- The block of the rows of branch 4 in the second layer's weights, at an entry. -/
theorem weight3_apply (c : Dev nD) (t : Fin cfg0.N) (y : S1x512x512.Idx) (z : S2x3584x4096.Idx)
    (hz0 : (z 0).val = 1) (hz1 : (z 1).val = 3072 + (y 1).val) (hz2 : (z 2).val = t.val / 8 * 512 + (y 2).val) :
    iblk m c 7 t y = m ((c : Thread nD τ).loc main_arg4) z := by
  show m ((c : Thread nD τ).loc main_arg4) (((cfg0.win 7).blk t).view.emb y) = _
  refine congrArg _ (funext fun a => Fin.ext ?_)
  have h0 := point0 t
  have hlt : (grid0.coords t 0).val < 8 := (grid0.coords t 0).isLt
  match a with
  | ⟨0, _⟩ =>
    show 1 * 1 + 1 * (y 0).val = (z 0).val
    have : (y 0).val < 1 := (y 0).isLt
    omega
  | ⟨1, _⟩ =>
    show 6 * 512 + 1 * (y 1).val = (z 1).val
    omega
  | ⟨2, _⟩ =>
    show (BitVec.ofNat 32 (grid0.coords t 0).val).toNat * 512 + 1 * (y 2).val = (z 2).val
    rw [BitVec.toNat_ofNat, Nat.mod_eq_of_lt (by omega)]
    omega

/-- The block of the gates of branch 1 at an entry. -/
theorem gate0_apply (c : Dev nD) (t : Fin cfg0.N) (y : S1024x512.Idx) (z : S8192x16384.Idx)
    (hz0 : (z 0).val = t.val % 8 * 1024 + (y 0).val) (hz1 : (z 1).val = 0 + (t.val / 8 * 512 + (y 1).val)) :
    iblk m c 8 t y = m ((c : Thread nD τ).loc main_arg5) z := by
  show m ((c : Thread nD τ).loc main_arg5) (((cfg0.win 8).blk t).view.emb y) = _
  refine congrArg _ (funext fun a => Fin.ext ?_)
  have h0 := point0 t
  have hlt0 : (grid0.coords t 0).val < 8 := (grid0.coords t 0).isLt
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show (0#32 + BitVec.ofNat 32 (grid0.coords t 0).val).toNat * 512 + 1 * (y 1).val = (z 1).val
    rw [BitVec.toNat_add, BitVec.toNat_ofNat, BitVec.toNat_ofNat]
    omega

/-- The block of the gates of branch 2 at an entry. -/
theorem gate1_apply (c : Dev nD) (t : Fin cfg0.N) (y : S1024x512.Idx) (z : S8192x16384.Idx)
    (hz0 : (z 0).val = t.val % 8 * 1024 + (y 0).val) (hz1 : (z 1).val = 4096 + (t.val / 8 * 512 + (y 1).val)) :
    iblk m c 9 t y = m ((c : Thread nD τ).loc main_arg5) z := by
  show m ((c : Thread nD τ).loc main_arg5) (((cfg0.win 9).blk t).view.emb y) = _
  refine congrArg _ (funext fun a => Fin.ext ?_)
  have h0 := point0 t
  have hlt0 : (grid0.coords t 0).val < 8 := (grid0.coords t 0).isLt
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show (8#32 + BitVec.ofNat 32 (grid0.coords t 0).val).toNat * 512 + 1 * (y 1).val = (z 1).val
    rw [BitVec.toNat_add, BitVec.toNat_ofNat, BitVec.toNat_ofNat]
    omega

/-- The block of the gates of branch 3 at an entry. -/
theorem gate2_apply (c : Dev nD) (t : Fin cfg0.N) (y : S1024x512.Idx) (z : S8192x16384.Idx)
    (hz0 : (z 0).val = t.val % 8 * 1024 + (y 0).val) (hz1 : (z 1).val = 8192 + (t.val / 8 * 512 + (y 1).val)) :
    iblk m c 10 t y = m ((c : Thread nD τ).loc main_arg5) z := by
  show m ((c : Thread nD τ).loc main_arg5) (((cfg0.win 10).blk t).view.emb y) = _
  refine congrArg _ (funext fun a => Fin.ext ?_)
  have h0 := point0 t
  have hlt0 : (grid0.coords t 0).val < 8 := (grid0.coords t 0).isLt
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show (16#32 + BitVec.ofNat 32 (grid0.coords t 0).val).toNat * 512 + 1 * (y 1).val = (z 1).val
    rw [BitVec.toNat_add, BitVec.toNat_ofNat, BitVec.toNat_ofNat]
    omega

/-- The block of the gates of branch 4 at an entry. -/
theorem gate3_apply (c : Dev nD) (t : Fin cfg0.N) (y : S1024x512.Idx) (z : S8192x16384.Idx)
    (hz0 : (z 0).val = t.val % 8 * 1024 + (y 0).val) (hz1 : (z 1).val = 12288 + (t.val / 8 * 512 + (y 1).val)) :
    iblk m c 11 t y = m ((c : Thread nD τ).loc main_arg5) z := by
  show m ((c : Thread nD τ).loc main_arg5) (((cfg0.win 11).blk t).view.emb y) = _
  refine congrArg _ (funext fun a => Fin.ext ?_)
  have h0 := point0 t
  have hlt0 : (grid0.coords t 0).val < 8 := (grid0.coords t 0).isLt
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show (24#32 + BitVec.ofNat 32 (grid0.coords t 0).val).toNat * 512 + 1 * (y 1).val = (z 1).val
    rw [BitVec.toNat_add, BitVec.toNat_ofNat, BitVec.toNat_ofNat]
    omega

/-- At the first point of a column tile: the four tiles are cast and kept, and the products are taken with them. -/
theorem at_first (c : Dev nD) (t : Fin cfg0.N) (h0 : t.val % 8 = 0) :
    outsAt0 m c t.val t.isLt
      = (k0_pay1 (k0_pay7 (k0_pay3 (k0_pay2 (X0_4 m c t)) (iblk m c 8 t) (iblk m c 0 t)) (k0_pay5 (k0_pay4 (X0_5 m c t)) (iblk m c 9 t) (iblk m c 1 t)) (k0_pay6 (X0_6 m c t)) (iblk m c 10 t) (iblk m c 2 t)) (k0_pay9 (k0_pay8 (iblk m c 7 t)) (iblk m c 11 t) (iblk m c 3 t)),
          k0_pay2 (X0_4 m c t), k0_pay4 (X0_5 m c t), k0_pay6 (X0_6 m c t), k0_pay8 (iblk m c 7 t)) :=
  (outsAt0_A m c t h0 h0 h0 h0).trans (congrArg₂ Prod.mk
      (first_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (X0_4 m c t) (X0_5 m c t) (X0_6 m c t) (iblk m c 7 t) (iblk m c 8 t) (iblk m c 9 t) (iblk m c 10 t) (iblk m c 11 t) ((hcond0_0 t).mpr h0) ((hcond0_1 t).mpr h0) ((hcond0_2 t).mpr h0) ((hcond0_3 t).mpr h0))
      (congrArg₂ Prod.mk
      (first_kept0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (X0_4 m c t) (X0_5 m c t) (X0_6 m c t) (iblk m c 7 t) (iblk m c 8 t) (iblk m c 9 t) (iblk m c 10 t) (iblk m c 11 t) ((hcond0_0 t).mpr h0) ((hcond0_1 t).mpr h0) ((hcond0_2 t).mpr h0) ((hcond0_3 t).mpr h0))
      (congrArg₂ Prod.mk
      (first_kept1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (X0_4 m c t) (X0_5 m c t) (X0_6 m c t) (iblk m c 7 t) (iblk m c 8 t) (iblk m c 9 t) (iblk m c 10 t) (iblk m c 11 t) ((hcond0_0 t).mpr h0) ((hcond0_1 t).mpr h0) ((hcond0_2 t).mpr h0) ((hcond0_3 t).mpr h0))
      (congrArg₂ Prod.mk
      (first_kept2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (X0_4 m c t) (X0_5 m c t) (X0_6 m c t) (iblk m c 7 t) (iblk m c 8 t) (iblk m c 9 t) (iblk m c 10 t) (iblk m c 11 t) ((hcond0_0 t).mpr h0) ((hcond0_1 t).mpr h0) ((hcond0_2 t).mpr h0) ((hcond0_3 t).mpr h0))
      (first_kept3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (X0_4 m c t) (X0_5 m c t) (X0_6 m c t) (iblk m c 7 t) (iblk m c 8 t) (iblk m c 9 t) (iblk m c 10 t) (iblk m c 11 t) ((hcond0_0 t).mpr h0) ((hcond0_1 t).mpr h0) ((hcond0_2 t).mpr h0) ((hcond0_3 t).mpr h0))))))

/-- What was kept before point `t`. -/
abbrev before (c : Dev nD) (t : Fin cfg0.N) : Vec F S1024x512 .bf16 × Vec F S1024x512 .bf16 × Vec F S1024x512 .bf16 × Vec F S512x512 .bf16 :=
  (outsAt0 m c (t.val - 1) (Nat.lt_of_le_of_lt (Nat.sub_le _ _) t.isLt)).2

/-- At a later point of the tile: the kept tiles stay, and the products are taken with them. -/
theorem at_later (c : Dev nD) (t : Fin cfg0.N) (h0 : ¬t.val % 8 = 0) :
    outsAt0 m c t.val t.isLt
      = (k0_pay1 (k0_pay7 (k0_pay3 (before m c t).1 (iblk m c 8 t) (iblk m c 0 t)) (k0_pay5 (before m c t).2.1 (iblk m c 9 t) (iblk m c 1 t)) (before m c t).2.2.1 (iblk m c 10 t) (iblk m c 2 t)) (k0_pay9 (before m c t).2.2.2 (iblk m c 11 t) (iblk m c 3 t)),
          before m c t) :=
  (outsAt0_B m c t h0 h0 h0 h0).trans (congrArg₂ Prod.mk
    (later_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (X0_4 m c t) (X0_5 m c t) (X0_6 m c t) (iblk m c 7 t) (iblk m c 8 t) (iblk m c 9 t) (iblk m c 10 t) (iblk m c 11 t) (before m c t).1 (before m c t).2.1 (before m c t).2.2.1 (before m c t).2.2.2 (fun h => h0 ((hcond0_0 t).mp h)) (fun h => h0 ((hcond0_1 t).mp h)) (fun h => h0 ((hcond0_2 t).mp h)) (fun h => h0 ((hcond0_3 t).mp h)))
    rfl)

/-- What a point writes is made of its rows, its gates and the kept tiles. -/
theorem out_eq (c : Dev nD) (t : Fin cfg0.N) :
    (outsAt0 m c t.val t.isLt).1
      = k0_pay1 (k0_pay7 (k0_pay3 (outsAt0 m c t.val t.isLt).2.1 (iblk m c 8 t) (iblk m c 0 t)) (k0_pay5 (outsAt0 m c t.val t.isLt).2.2.1 (iblk m c 9 t) (iblk m c 1 t)) (outsAt0 m c t.val t.isLt).2.2.2.1 (iblk m c 10 t) (iblk m c 2 t)) (k0_pay9 (outsAt0 m c t.val t.isLt).2.2.2.2 (iblk m c 11 t) (iblk m c 3 t)) := by
  by_cases h0 : t.val % 8 = 0
  · rw [at_first m c t h0]
  · rw [at_later m c t h0]

/-! ## Over the reals -/

section Values
variable (μ : (ℓ : Loc nD τ sig) → Buf (Elt Ideal) ℓ)

theorem kept_payload (v : Vec Ideal S1x1024x512 .f32) (y : S1024x512.Idx) : k0_pay2 v y = v (ix3 0 (y 0) (y 1)) := by
  unfold k0_pay2
  rw [shapeCast_self]
  exact Dense.drop_unit 1024 512 v _ y

theorem kept_payload_last (v : Vec Ideal S1x512x512 .f32) (y : S512x512.Idx) : k0_pay8 v y = v (ix3 0 (y 0) (y 1)) := by
  unfold k0_pay8
  rw [shapeCast_self]
  exact Dense.drop_unit 512 512 v _ y

/-- A product gated by the logistic function of a number. -/
def gated (g s : EReal) : EReal := Ideal.logistic g * s

/-- The kernel's spelling of one gated product. -/
theorem part_payload (w : Vec Ideal S1024x512 .bf16) (g : Vec Ideal S1024x512 .bf16) (a : Vec Ideal S1024x1024 .bf16) (y : S1024x512.Idx) :
    k0_pay3 w g a y = gated (g y) (∑ k : Fin 1024, (a (ix2 (y 0) k) * w (ix2 k (y 1)) : EReal)) := by
  unfold k0_pay3
  exact congrArg₂ (fun a b : EReal => a * b) (Sigmoid.half_tanh (g y)) (Dense.product 1024 1024 512 a w y)

theorem part_payload_last (w : Vec Ideal S512x512 .bf16) (g : Vec Ideal S1024x512 .bf16) (a : Vec Ideal S1024x512 .bf16) (y : S1024x512.Idx) :
    k0_pay9 w g a y = gated (g y) (∑ k : Fin 512, (a (ix2 (y 0) k) * w (ix2 k (y 1)) : EReal)) := by
  unfold k0_pay9
  exact congrArg₂ (fun a b : EReal => a * b) (Sigmoid.half_tanh (g y)) (Dense.product 1024 512 512 a w y)

/-- The four gated products, added from the left. -/
theorem out_payload (w0 w1 w2 : Vec Ideal S1024x512 .bf16) (w3 : Vec Ideal S512x512 .bf16) (g0 g1 g2 g3 : Vec Ideal S1024x512 .bf16)
    (a0 a1 a2 : Vec Ideal S1024x1024 .bf16) (a3 : Vec Ideal S1024x512 .bf16) (y : S1024x512.Idx) :
    k0_pay1 (k0_pay7 (k0_pay3 w0 g0 a0) (k0_pay5 w1 g1 a1) w2 g2 a2) (k0_pay9 w3 g3 a3) y
      = gated (g0 y) (∑ k : Fin 1024, (a0 (ix2 (y 0) k) * w0 (ix2 k (y 1)) : EReal))
        + gated (g1 y) (∑ k : Fin 1024, (a1 (ix2 (y 0) k) * w1 (ix2 k (y 1)) : EReal))
        + gated (g2 y) (∑ k : Fin 1024, (a2 (ix2 (y 0) k) * w2 (ix2 k (y 1)) : EReal))
        + gated (g3 y) (∑ k : Fin 512, (a3 (ix2 (y 0) k) * w3 (ix2 k (y 1)) : EReal)) :=
  congrArg₂ (fun a b : EReal => a + b)
    (congrArg₂ (fun a b : EReal => a + b)
      (congrArg₂ (fun a b : EReal => a + b) (part_payload w0 g0 a0 y) (part_payload w1 g1 a1 y)) (part_payload w2 g2 a2 y))
    (part_payload_last w3 g3 a3 y)

/-- The kept tile of branch 1 after point `n`: its rows of the second layer's weights, at the tile's columns. -/
theorem kept0_apply (c : Dev nD) : ∀ (n : ℕ) (hn : n < cfg0.N) (y : S1024x512.Idx) (z : S2x3584x4096.Idx),
    (z 0).val = 1 → (z 1).val = 0 + (y 0).val → (z 2).val = n / 8 * 512 + (y 1).val →
    (outsAt0 μ c n hn).2.1 y = μ ((c : Thread nD τ).loc main_arg4) z := by
  have first : ∀ (n : ℕ) (hn : n < cfg0.N) (y : S1024x512.Idx) (z : S2x3584x4096.Idx), n % 8 = 0 →
      (z 0).val = 1 → (z 1).val = 0 + (y 0).val → (z 2).val = n / 8 * 512 + (y 1).val →
      (outsAt0 μ c n hn).2.1 y = μ ((c : Thread nD τ).loc main_arg4) z := fun n hn y z h0 z0 z1 z2 =>
    (congrFun (congrArg (fun o => o.2.1) (at_first μ c ⟨n, hn⟩ h0)) y).trans
      ((kept_payload (X0_4 μ c ⟨n, hn⟩) y).trans (weight0_apply μ c ⟨n, hn⟩ _ z z0 z1 z2))
  intro n
  induction n with
  | zero => exact fun hn y z => first 0 hn y z rfl
  | succ n ih =>
    intro hn y z z0 z1 z2
    by_cases h0 : (n + 1) % 8 = 0
    · exact first (n + 1) hn y z h0 z0 z1 z2
    · have e := ih (Nat.lt_of_succ_lt hn) y z z0 z1 (z2.trans (by rw [show (n + 1) / 8 = n / 8 by omega]))
      exact (congrFun (congrArg (fun o => o.2.1) (at_later μ c ⟨n + 1, hn⟩ h0)) y).trans e

/-- The kept tile of branch 2 after point `n`: its rows of the second layer's weights, at the tile's columns. -/
theorem kept1_apply (c : Dev nD) : ∀ (n : ℕ) (hn : n < cfg0.N) (y : S1024x512.Idx) (z : S2x3584x4096.Idx),
    (z 0).val = 1 → (z 1).val = 1024 + (y 0).val → (z 2).val = n / 8 * 512 + (y 1).val →
    (outsAt0 μ c n hn).2.2.1 y = μ ((c : Thread nD τ).loc main_arg4) z := by
  have first : ∀ (n : ℕ) (hn : n < cfg0.N) (y : S1024x512.Idx) (z : S2x3584x4096.Idx), n % 8 = 0 →
      (z 0).val = 1 → (z 1).val = 1024 + (y 0).val → (z 2).val = n / 8 * 512 + (y 1).val →
      (outsAt0 μ c n hn).2.2.1 y = μ ((c : Thread nD τ).loc main_arg4) z := fun n hn y z h0 z0 z1 z2 =>
    (congrFun (congrArg (fun o => o.2.2.1) (at_first μ c ⟨n, hn⟩ h0)) y).trans
      ((kept_payload (X0_5 μ c ⟨n, hn⟩) y).trans (weight1_apply μ c ⟨n, hn⟩ _ z z0 z1 z2))
  intro n
  induction n with
  | zero => exact fun hn y z => first 0 hn y z rfl
  | succ n ih =>
    intro hn y z z0 z1 z2
    by_cases h0 : (n + 1) % 8 = 0
    · exact first (n + 1) hn y z h0 z0 z1 z2
    · have e := ih (Nat.lt_of_succ_lt hn) y z z0 z1 (z2.trans (by rw [show (n + 1) / 8 = n / 8 by omega]))
      exact (congrFun (congrArg (fun o => o.2.2.1) (at_later μ c ⟨n + 1, hn⟩ h0)) y).trans e

/-- The kept tile of branch 3 after point `n`: its rows of the second layer's weights, at the tile's columns. -/
theorem kept2_apply (c : Dev nD) : ∀ (n : ℕ) (hn : n < cfg0.N) (y : S1024x512.Idx) (z : S2x3584x4096.Idx),
    (z 0).val = 1 → (z 1).val = 2048 + (y 0).val → (z 2).val = n / 8 * 512 + (y 1).val →
    (outsAt0 μ c n hn).2.2.2.1 y = μ ((c : Thread nD τ).loc main_arg4) z := by
  have first : ∀ (n : ℕ) (hn : n < cfg0.N) (y : S1024x512.Idx) (z : S2x3584x4096.Idx), n % 8 = 0 →
      (z 0).val = 1 → (z 1).val = 2048 + (y 0).val → (z 2).val = n / 8 * 512 + (y 1).val →
      (outsAt0 μ c n hn).2.2.2.1 y = μ ((c : Thread nD τ).loc main_arg4) z := fun n hn y z h0 z0 z1 z2 =>
    (congrFun (congrArg (fun o => o.2.2.2.1) (at_first μ c ⟨n, hn⟩ h0)) y).trans
      ((kept_payload (X0_6 μ c ⟨n, hn⟩) y).trans (weight2_apply μ c ⟨n, hn⟩ _ z z0 z1 z2))
  intro n
  induction n with
  | zero => exact fun hn y z => first 0 hn y z rfl
  | succ n ih =>
    intro hn y z z0 z1 z2
    by_cases h0 : (n + 1) % 8 = 0
    · exact first (n + 1) hn y z h0 z0 z1 z2
    · have e := ih (Nat.lt_of_succ_lt hn) y z z0 z1 (z2.trans (by rw [show (n + 1) / 8 = n / 8 by omega]))
      exact (congrFun (congrArg (fun o => o.2.2.2.1) (at_later μ c ⟨n + 1, hn⟩ h0)) y).trans e

/-- The kept tile of branch 4 after point `n`: its rows of the second layer's weights, at the tile's columns. -/
theorem kept3_apply (c : Dev nD) : ∀ (n : ℕ) (hn : n < cfg0.N) (y : S512x512.Idx) (z : S2x3584x4096.Idx),
    (z 0).val = 1 → (z 1).val = 3072 + (y 0).val → (z 2).val = n / 8 * 512 + (y 1).val →
    (outsAt0 μ c n hn).2.2.2.2 y = μ ((c : Thread nD τ).loc main_arg4) z := by
  have first : ∀ (n : ℕ) (hn : n < cfg0.N) (y : S512x512.Idx) (z : S2x3584x4096.Idx), n % 8 = 0 →
      (z 0).val = 1 → (z 1).val = 3072 + (y 0).val → (z 2).val = n / 8 * 512 + (y 1).val →
      (outsAt0 μ c n hn).2.2.2.2 y = μ ((c : Thread nD τ).loc main_arg4) z := fun n hn y z h0 z0 z1 z2 =>
    (congrFun (congrArg (fun o => o.2.2.2.2) (at_first μ c ⟨n, hn⟩ h0)) y).trans
      ((kept_payload_last (iblk μ c 7 ⟨n, hn⟩) y).trans (weight3_apply μ c ⟨n, hn⟩ _ z z0 z1 z2))
  intro n
  induction n with
  | zero => exact fun hn y z => first 0 hn y z rfl
  | succ n ih =>
    intro hn y z z0 z1 z2
    by_cases h0 : (n + 1) % 8 = 0
    · exact first (n + 1) hn y z h0 z0 z1 z2
    · have e := ih (Nat.lt_of_succ_lt hn) y z z0 z1 (z2.trans (by rw [show (n + 1) / 8 = n / 8 by omega]))
      exact (congrFun (congrArg (fun o => o.2.2.2.2) (at_later μ c ⟨n + 1, hn⟩ h0)) y).trans e

end Values

/-- One branch: the logistic function of its gate, times its rows against its part of the second layer's weights. -/
def part (k r s : ℕ) (hr : r + k ≤ 3584) (hs : s + 4096 ≤ 16384) (h : FVec Ideal (Dense.Mat 8192 k) .bf16)
    (w : FVec Ideal S2x3584x4096 .f32) (g : FVec Ideal S8192x16384 .bf16) (p : Fin 8192) (q : Fin 4096) : EReal :=
  gated (g (ix2 p ⟨s + q.val, Nat.lt_of_lt_of_le (Nat.add_lt_add_left q.isLt s) hs⟩))
    (∑ e : Fin k, (h (ix2 p e) * w (ix3 1 ⟨r + e.val, Nat.lt_of_lt_of_le (Nat.add_lt_add_left e.isLt r) hr⟩ q) : EReal))

/-- The four branches, gated and added. -/
def G (h0 h1 h2 : FVec Ideal S8192x1024 .bf16) (h3 : FVec Ideal S8192x512 .bf16) (w : FVec Ideal S2x3584x4096 .f32)
    (g : FVec Ideal S8192x16384 .bf16) : FVec Ideal S8192x4096 .bf16 := fun y =>
  (part 1024 0 0 (by decide) (by decide) h0 w g (y 0) (y 1) + part 1024 1024 4096 (by decide) (by decide) h1 w g (y 0) (y 1)
    + part 1024 2048 8192 (by decide) (by decide) h2 w g (y 0) (y 1) + part 512 3072 12288 (by decide) (by decide) h3 w g (y 0) (y 1) : EReal)

theorem written (μ : (ℓ : Loc nD τ sig) → Buf (Elt Ideal) ℓ) (c : Dev nD) (t : Fin cfg0.N) (y : S1024x512.Idx)
    (z : S8192x4096.Idx) (h0 : (z 0).val = t.val % 8 * 1024 + (y 0).val) (h1 : (z 1).val = t.val / 8 * 512 + (y 1).val) :
    (outsAt0 μ c t.val t.isLt).1 y
      = G (μ ((c : Thread nD τ).loc main_arg0)) (μ ((c : Thread nD τ).loc main_arg1)) (μ ((c : Thread nD τ).loc main_arg2)) (μ ((c : Thread nD τ).loc main_arg3)) (μ ((c : Thread nD τ).loc main_arg4)) (μ ((c : Thread nD τ).loc main_arg5)) z := by
  rw [out_eq]
  refine (out_payload _ _ _ _ _ _ _ _ _ _ _ _ _).trans (congrArg₂ (fun a b : EReal => a + b)
    (congrArg₂ (fun a b : EReal => a + b) (congrArg₂ (fun a b : EReal => a + b) ?_ ?_) ?_) ?_)
  · exact congrArg₂ gated (gate0_apply μ c t y _ h0 (congrArg (fun n => 0 + n) h1)) (Finset.sum_congr rfl fun k _ =>
      congrArg₂ (fun a b : EReal => a * b) (rows0_apply μ c t _ _ h0 rfl) (kept0_apply μ c t.val t.isLt _ _ rfl rfl h1))
  · exact congrArg₂ gated (gate1_apply μ c t y _ h0 (congrArg (fun n => 4096 + n) h1)) (Finset.sum_congr rfl fun k _ =>
      congrArg₂ (fun a b : EReal => a * b) (rows1_apply μ c t _ _ h0 rfl) (kept1_apply μ c t.val t.isLt _ _ rfl rfl h1))
  · exact congrArg₂ gated (gate2_apply μ c t y _ h0 (congrArg (fun n => 8192 + n) h1)) (Finset.sum_congr rfl fun k _ =>
      congrArg₂ (fun a b : EReal => a * b) (rows2_apply μ c t _ _ h0 rfl) (kept2_apply μ c t.val t.isLt _ _ rfl rfl h1))
  · exact congrArg₂ gated (gate3_apply μ c t y _ h0 (congrArg (fun n => 12288 + n) h1)) (Finset.sum_congr rfl fun k _ =>
      congrArg₂ (fun a b : EReal => a * b) (rows3_apply μ c t _ _ h0 rfl) (kept3_apply μ c t.val t.isLt _ _ rfl rfl h1))

/-- The result array after the run. -/
theorem final (μ : (ℓ : Loc nD τ sig) → Buf (Elt Ideal) ℓ) (c : Dev nD) :
    (dats μ 0 c).arrAt 12 cfg0.N
      = G (μ ((c : Thread nD τ).loc main_arg0)) (μ ((c : Thread nD τ).loc main_arg1)) (μ ((c : Thread nD τ).loc main_arg2)) (μ ((c : Thread nD τ).loc main_arg3)) (μ ((c : Thread nD τ).loc main_arg4)) (μ ((c : Thread nD τ).loc main_arg5)) := by
  refine (dats μ 0 c).arrAt_eq_of_covers 12 _ ?_ fun t hf (y : S1024x512.Idx) => ?_
  · exact of_decide_eq_true (by sl_kernel_rfl)
  · refine (congrFun (after0_12 μ c t) y).trans (written μ c t y _ ?_ ?_)
    · show (BitVec.ofNat 32 (grid0.coords t 1).val).toNat * 1024 + 1 * (y 0).val = _
      rw [BitVec.toNat_ofNat, point1, Nat.mod_eq_of_lt (by omega)]
      omega
    · have ht : t.val < 64 := Nat.lt_of_lt_of_eq t.isLt N_0
      show (BitVec.ofNat 32 (grid0.coords t 0).val).toNat * 512 + 1 * (y 1).val = _
      rw [BitVec.toNat_ofNat, point0, Nat.mod_eq_of_lt (by omega)]
      omega

/-- The run: the result array holds the gated sum, the arguments end unchanged. -/
theorem run (μ : (ℓ : Loc nD τ sig) → Buf (Elt Ideal) ℓ) (ρ : Dev nD → PrngReg) :
    θ_run (defs (F := Ideal)) (onTc (τ := τ) (main (F := Ideal))) ⟨μ, fun _ => 0, ρ⟩ (fun r => ∀ c : Dev nD,
      r.2.mem ((c.tc : Thread nD τ).loc main_v0)
        = G (μ ((c.tc : Thread nD τ).loc main_arg0)) (μ ((c.tc : Thread nD τ).loc main_arg1)) (μ ((c.tc : Thread nD τ).loc main_arg2)) (μ ((c.tc : Thread nD τ).loc main_arg3)) (μ ((c.tc : Thread nD τ).loc main_arg4)) (μ ((c.tc : Thread nD τ).loc main_arg5))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)
      ∧ r.2.mem ((c.tc : Thread nD τ).loc main_arg5) = μ ((c.tc : Thread nD τ).loc main_arg5)) :=
  (θ_run defs _ _).mono (fun r h c => ⟨(h c).1.trans (final μ c), (h c).2⟩) (Cert.Kernel19Ideal.Value.run_blocks μ ρ)

end Cert.Proof.MergeSecond

end
-- ==== Proof.MergeSecondReference.lean ====
/-
  The second layer: the reference of the branch merge, entry by entry what the kernel's call leaves.
-/
module

public import proofs.«01_k».proof.Proof.MergeSecond
public import proofs.«01_k».proof.Proof.Gen.Reference19Ideal.Run
public import Idealize.ShloMosaic.Lib.IdealHost

@[expose] public section

noncomputable section

namespace Cert.Proof.MergeSecond

open Idealize.ShloMosaic Idealize.ShloMosaic.TcCoe Idealize.SL.Sem
open Cert.Reference19Ideal Cert.Reference19Ideal.Gen Idealize.ShloMosaic.ValueIdx

/-- The reference's spelling of the gates, with its two literal ones. -/
abbrev gates (g : FVec Ideal S8192x16384 .bf16) : FVec Ideal S8192x16384 .f32 :=
  Host.divf (broadcastInDim S8192x16384 ![] bcast_S_S8192x16384 (constant S_ .f32 0x3F800000#32))
    (addf (broadcastInDim S8192x16384 ![] bcast_S_S8192x16384 (constant S_ .f32 0x3F800000#32)) (Host.exp (Host.negf (extf .f32 g bitsLt_bf16_f32))))

theorem gates_apply (g : FVec Ideal S8192x16384 .bf16) (z : S8192x16384.Idx) : gates g z = Ideal.logistic (g z) := by
  show Ideal.div (Ideal.ofBits .f32 0x3F800000#32) (Ideal.ofBits .f32 0x3F800000#32 + Ideal.exp (-(g z))) = _
  rw [Ideal.ofBits_one_f32]
  rfl

/-- Rows `r` onwards of a matrix, at an entry. -/
theorem rows_slice (k r : ℕ) (hr : r + k ≤ 3584) (v : FVec Ideal (Dense.Mat 3584 4096) .f32) (hs) (e : Fin k) (q : Fin 4096) :
    extractStridedSlice (Dense.Mat k 4096) ![r, 0] v hs (ix2 e q) = v (ix2 ⟨r + e.val, Nat.lt_of_lt_of_le (Nat.add_lt_add_left e.isLt r) hr⟩ q) := by
  refine congrArg v (funext fun a => ?_)
  match a with
  | ⟨0, _⟩ => rfl
  | ⟨1, _⟩ => exact Fin.ext (Nat.zero_add _)

/-- Columns `s` onwards of the gates, at an entry. -/
theorem gates_slice (s : ℕ) (hs : s + 4096 ≤ 16384) (g : FVec Ideal S8192x16384 .bf16) (hv) (p : Fin 8192) (q : Fin 4096) :
    extractStridedSlice S8192x4096 ![0, s] (gates g) hv (ix2 p q)
      = Ideal.logistic (g (ix2 p ⟨s + q.val, Nat.lt_of_lt_of_le (Nat.add_lt_add_left q.isLt s) hs⟩)) := by
  refine Eq.trans ?_ (gates_apply g _)
  refine congrArg (gates g) (funext fun a => ?_)
  match a with
  | ⟨0, _⟩ => exact Fin.ext (Nat.zero_add _)
  | ⟨1, _⟩ => rfl

/-- One branch of the reference. -/
theorem host_part (k r s : ℕ) (hr : r + k ≤ 3584) (hs : s + 4096 ≤ 16384) (h : FVec Ideal (Dense.Mat 8192 k) .bf16)
    (w : FVec Ideal S2x3584x4096 .f32) (g : FVec Ideal S8192x16384 .bf16) (hb) (hl) (hc) (hv) (hg) (p : Fin 8192) (q : Fin 4096) :
    mulf (extractStridedSlice S8192x4096 ![0, s] (gates g) hg)
      (Host.dotGeneral (F := Ideal) (DotDims.plain 8192 k 4096) none (extf .f32 h hb)
        (extractStridedSlice (Dense.Mat k 4096) ![r, 0]
          (shapeCast (Dense.Mat 3584 4096) (extractStridedSlice (Dense.Stack 1 3584 4096) ![1, 0, 0] w hl) hc) hv) : FVec Ideal S8192x4096 .f32) (ix2 p q)
      = part k r s hr hs h w g p q := by
  refine congrArg₂ (fun a b : EReal => a * b) (gates_slice s hs g hg p q) ((Dense.host_product 8192 k 4096 h _ hb p q).trans ?_)
  refine Finset.sum_congr rfl fun e _ => congrArg (fun b : EReal => h (ix2 p e) * b) ?_
  exact (rows_slice k r hr _ hv e q).trans (Dense.second_layer 3584 4096 w hl hc _ q)

/-- Adding four numbers to the literal zero, one after another. -/
theorem from_zero {a b c d a' b' c' d' : EReal} (ha : a = a') (hb : b = b') (hc : c = c') (hd : d = d') :
    Ideal.ofBits .f32 0x00000000#32 + a + b + c + d = a' + b' + c' + d' := by
  rw [Ideal.ofBits_zero_f32, zero_add, ha, hb, hc, hd]

/-- The reference's run, at the value the kernel's run ends with. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v34)
        = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨(h c).1.trans ?_, (h c).2⟩) (Cert.Reference19Ideal.Value.run (F := Ideal) m ρ)
  funext y
  obtain ⟨p, q, rfl⟩ : ∃ (p : Fin 8192) (q : Fin 4096), y = ix2 p q := ⟨y 0, y 1, eq_ix2 y⟩
  refine from_zero ?_ ?_ ?_ ?_
  · exact host_part 1024 0 0 (by decide) (by decide) (m ((c.tc : Thread nD τ).loc main_arg0)) (m ((c.tc : Thread nD τ).loc main_arg4))
      (m ((c.tc : Thread nD τ).loc main_arg5)) bitsLt_bf16_f32 slices_S2x3584x4096_S1x3584x4096_1_0_0 shapeCasts_S1x3584x4096_S3584x4096
      slices_S3584x4096_S1024x4096_0_0 slices_S8192x16384_S8192x4096_0_0 p q
  · exact host_part 1024 1024 4096 (by decide) (by decide) (m ((c.tc : Thread nD τ).loc main_arg1)) (m ((c.tc : Thread nD τ).loc main_arg4))
      (m ((c.tc : Thread nD τ).loc main_arg5)) bitsLt_bf16_f32 slices_S2x3584x4096_S1x3584x4096_1_0_0 shapeCasts_S1x3584x4096_S3584x4096
      slices_S3584x4096_S1024x4096_1024_0 slices_S8192x16384_S8192x4096_0_4096 p q
  · exact host_part 1024 2048 8192 (by decide) (by decide) (m ((c.tc : Thread nD τ).loc main_arg2)) (m ((c.tc : Thread nD τ).loc main_arg4))
      (m ((c.tc : Thread nD τ).loc main_arg5)) bitsLt_bf16_f32 slices_S2x3584x4096_S1x3584x4096_1_0_0 shapeCasts_S1x3584x4096_S3584x4096
      slices_S3584x4096_S1024x4096_2048_0 slices_S8192x16384_S8192x4096_0_8192 p q
  · exact host_part 512 3072 12288 (by decide) (by decide) (m ((c.tc : Thread nD τ).loc main_arg3)) (m ((c.tc : Thread nD τ).loc main_arg4))
      (m ((c.tc : Thread nD τ).loc main_arg5)) bitsLt_bf16_f32 slices_S2x3584x4096_S1x3584x4096_1_0_0 shapeCasts_S1x3584x4096_S3584x4096
      slices_S3584x4096_S512x4096_3072_0 slices_S8192x16384_S8192x4096_0_12288 p q

end Cert.Proof.MergeSecond

end
-- ==== Proof.MergeSecondClaims.lean ====
/-
  The second layer: the claims about the branch merge: both programs' frames from one run, and the value.
-/
module

public import proofs.«01_k».proof.Defs
public import proofs.«01_k».proof.Proof.MergeSecondReference
public import proofs.«01_k».proof.Proof.Gen.Kernel19

@[expose] public section

noncomputable section

namespace Cert.Proof.MergeSecond

open Idealize.ShloMosaic Idealize.SL.Sem

section Same
variable {F : FTy → Type} [FloatOps F]

/-- The program as printed and the program read over the reals have one text: one set of bodies. -/
theorem bodies_eq : Cert.Kernel19.defs₀ (F := F) = Cert.Kernel19Ideal.defs₀ (F := F) := by
  unfold Cert.Kernel19.defs₀ Cert.Kernel19Ideal.defs₀
  refine congrArg Defs.onTc (funext fun l => ?_)
  match l with
  | 0 => rfl

theorem defs_eq : Cert.Kernel19.defs (F := F) = Cert.Kernel19Ideal.defs (F := F) := by
  unfold Cert.Kernel19.defs Cert.Kernel19Ideal.defs
  exact congrArg _ bodies_eq

end Same

theorem frame : Cert.quiescent_Kernel19 := fun m ρ _ => by
  rw [defs_eq]
  exact Cert.Kernel19Ideal.Gen.frame (F := Bits) m ρ

theorem frame_ideal : Cert.quiescent_Kernel19Ideal := fun m ρ _ =>
  Cert.Kernel19Ideal.Gen.frame (F := Ideal) m ρ

theorem frame_reference : Cert.quiescent_Reference19Ideal := fun m ρ _ =>
  (θ_run _ _ _).mono (fun r h => ⟨fun c => (h c).2, Idealize.ShloMosaic.sem_eq_zero_of_no_sems (by decide) r.2⟩) (reference_run m ρ)

theorem algebraic : Cert.algebraic_Kernel19Ideal_Reference19Ideal := by
  intro m ρ m' ρ' _ hargs
  refine ⟨fun c => G (m ((c.tc : Thread _ _).loc Cert.Kernel19Ideal.main_arg0)) (m ((c.tc : Thread _ _).loc Cert.Kernel19Ideal.main_arg1)) (m ((c.tc : Thread _ _).loc Cert.Kernel19Ideal.main_arg2)) (m ((c.tc : Thread _ _).loc Cert.Kernel19Ideal.main_arg3)) (m ((c.tc : Thread _ _).loc Cert.Kernel19Ideal.main_arg4)) (m ((c.tc : Thread _ _).loc Cert.Kernel19Ideal.main_arg5)), ?_, ?_⟩
  · exact run m ρ
  · refine (θ_run _ _ _).mono (fun r h c => ⟨(h c).1.trans ?_, (h c).2⟩) (reference_run m' ρ')
    obtain ⟨e0, e1, e2, e3, e4, e5⟩ := hargs c
    rw [e0, e1, e2, e3, e4, e5]

end Cert.Proof.MergeSecond

end
-- ==== Proof.OutSecond.lean ====
/-
  The second layer: the call that multiplies the merged branches by the output matrix, gates the product and adds it to the residual: what each grid
  point writes, and the result array after the run.
-/
module

public import proofs.«01_k».proof.Proof.Gen.Kernel20Ideal.Frame
public import proofs.«01_k».proof.Proof.Gen.Kernel20Ideal.Value
public import proofs.«01_k».proof.Proof.DenseSecond
public import Idealize.ShloMosaic.Lib.Pipeline.Value
public import Idealize.ShloMosaic.Lib.Pipeline.ValueKit.Geometry
public import Idealize.ShloMosaic.Lib.Pipeline.ValueKit.Acc
public import Idealize.ShloMosaic.Lib.Pipeline.ValueKit.Tiles
public import Idealize.ShloMosaic.Lib.IdealHost

@[expose] public section

noncomputable section

namespace Cert.Proof.OutSecond

open Idealize.ShloMosaic Idealize.ShloMosaic.TcCoe Idealize.SL.Sem
open Cert.Kernel20Ideal Cert.Kernel20Ideal.Gen Idealize.ShloMosaic.ValueIdx

variable {F : FTy → Type} [FloatOps F]
variable (m : (ℓ : Loc nD τ sig) → Buf (Elt F) ℓ)

/-! ## One grid point -/

/-- The modulation's third row of a block. -/
abbrev gateRow (x : Vec F S1x6x512 .f32) : Vec F S1x1x512 .f32 :=
  View.ld x (Rect.unit (s := S1x6x512) ![0, 2, 0] S1x1x512.size inb_S1x6x512_S1x1x512_0_2_0)

section Cases
variable (c : Dev nD) (i : grid0.Coords) (a2 : Memref sig .tc .vmem S1024x4096 .bf16) (h2 : a2.IsWhole)
  (a3 : Memref sig .tc .vmem S1x4096x512 .f32) (h3 : a3.IsWhole) (a4 : Memref sig .tc .vmem S1024x512 .f32) (h4 : a4.IsWhole)
  (a5 : Memref sig .tc .vmem S1x6x512 .f32) (h5 : a5.IsWhole) (a6 : Memref sig .tc .vmem S1024x512 .f32) (h6 : a6.IsWhole)
  (a7 : Memref sig .tc .vmem S4096x512 .bf16) (h7 : a7.IsWhole)
  (x0 : Vec F S1024x4096 .bf16) (x1 : Vec F S1x4096x512 .f32) (x2 : Vec F S1024x512 .f32) (x3 : Vec F S1x6x512 .f32)
  (xs : Vec F S4096x512 .bf16)

theorem first_out (hc : cond0_0 i) :
    out0_A_4 c i a2 h2 a3 h3 a4 h4 a5 h5 a6 h6 a7 h7 hc x0 x1 x2 x3 = k0_pay2 (k0_pay1 x1) x0 x2 (gateRow x3) := by
  frame_out

theorem first_kept (hc : cond0_0 i) : sout0_A_0 c i a2 h2 a3 h3 a4 h4 a5 h5 a6 h6 a7 h7 hc x0 x1 x2 x3 = k0_pay1 x1 := by
  frame_out

theorem later_out (hc : ¬cond0_0 i) :
    out0_B_4 c i a2 h2 a3 h3 a4 h4 a5 h5 a6 h6 a7 h7 hc x0 x1 x2 x3 xs = k0_pay2 xs x0 x2 (gateRow x3) := by
  frame_out

end Cases

/-- The point `t` is at column tile `t / 8` and row tile `t % 8`. -/
theorem point0 (t : Fin grid0.N) : (grid0.coords t 0).val = t.val / 8 := by
  have ht : t.val < 64 := Nat.lt_of_lt_of_eq t.isLt N_0
  rw [show (grid0.coords t 0).val = t.val / 8 % 8 from Pipeline.Grid.coords_val t 0 (by decide) rfl]
  omega

theorem point1 (t : Fin grid0.N) : (grid0.coords t 1).val = t.val % 8 := by
  rw [show (grid0.coords t 1).val = t.val / 1 % 8 from Pipeline.Grid.coords_val t 1 (by decide) rfl]
  omega

/-- The word `n` is below 2^32 for a grid coordinate. -/
theorem word (n : ℕ) (h : n < 8) : (BitVec.ofNat 32 n).toNat = n := by
  rw [BitVec.toNat_ofNat, Nat.mod_eq_of_lt (by omega)]

/-- The block of activations at an entry. -/
theorem rows_apply (c : Dev nD) (t : Fin cfg0.N) (y : S1024x4096.Idx) (z : S8192x4096.Idx)
    (hz0 : (z 0).val = t.val % 8 * 1024 + (y 0).val) (hz1 : (z 1).val = (y 1).val) :
    iblk m c 0 t y = m ((c : Thread nD τ).loc main_arg0) z := by
  show V m c main_arg0 (((cfg0.win 0).blk t).view.emb y) = _
  rw [V_main_arg0]
  refine congrArg _ (funext fun a => Fin.ext ?_)
  have h1 := point1 t
  match a with
  | ⟨0, _⟩ =>
    show (BitVec.ofNat 32 (grid0.coords t 1).val).toNat * 1024 + 1 * (y 0).val = (z 0).val
    rw [word _ (grid0.coords t 1).isLt]
    omega
  | ⟨1, _⟩ =>
    show 0 * 4096 + 1 * (y 1).val = (z 1).val
    omega

/-- The block of weights at an entry. -/
theorem cols_apply (c : Dev nD) (t : Fin cfg0.N) (y : S1x4096x512.Idx) (z : S2x4096x4096.Idx)
    (hz0 : (z 0).val = 1) (hz1 : (z 1).val = (y 1).val) (hz2 : (z 2).val = t.val / 8 * 512 + (y 2).val) :
    iblk m c 1 t y = m ((c : Thread nD τ).loc main_arg1) z := by
  show V m c main_arg1 (((cfg0.win 1).blk t).view.emb y) = _
  rw [V_main_arg1]
  refine congrArg _ (funext fun a => Fin.ext ?_)
  have h0 := point0 t
  match a with
  | ⟨0, _⟩ =>
    show 1 * 1 + 1 * (y 0).val = (z 0).val
    have : (y 0).val < 1 := (y 0).isLt
    omega
  | ⟨1, _⟩ =>
    show 0 * 4096 + 1 * (y 1).val = (z 1).val
    omega
  | ⟨2, _⟩ =>
    show (BitVec.ofNat 32 (grid0.coords t 0).val).toNat * 512 + 1 * (y 2).val = (z 2).val
    rw [word _ (grid0.coords t 0).isLt]
    omega

theorem V_residual (c : Dev nD) :
    V m c main_v0 = shapeCast S8192x4096 (m ((c : Thread nD τ).loc main_arg2)) shapeCasts_S2x4096x4096_S8192x4096 := by
  show StableHlo.after hostOps0 (fun b => m (c, b)) (Proc.devRef .tc main_v0) = _
  unfold hostOps0
  after_results
  rfl

theorem V_modulation (c : Dev nD) :
    V m c main_v1 = shapeCast S2x6x4096 (m ((c : Thread nD τ).loc main_arg3)) shapeCasts_S2x24576_S2x6x4096 := by
  show StableHlo.after hostOps0 (fun b => m (c, b)) (Proc.devRef .tc main_v1) = _
  unfold hostOps0
  after_results
  rfl

/-- A row of the result is a row of one batch member's residual. -/
theorem residual_rows {α : Type} (x : S2x4096x4096.Idx → α) (hc) (z : S8192x4096.Idx) (w : S2x4096x4096.Idx)
    (h0 : (w 0).val = (z 0).val / 4096) (h1 : (w 1).val = (z 0).val % 4096) (h2 : (w 2).val = (z 1).val) :
    shapeCast S8192x4096 x hc z = x w := by
  refine shapeCast_apply x hc z w ?_
  have e1 : (S2x4096x4096.rowMajor w).val = ((w 0).val * 4096 + (w 1).val) * 4096 + (w 2).val := Shape.rowMajor_val_three w
  have e2 : (S8192x4096.rowMajor z).val = (z 0).val * 4096 + (z 1).val := Shape.rowMajor_val_two z
  omega

/-- The six rows of the modulation are six ranges of one row. -/
theorem modulation_rows {α : Type} (x : S2x24576.Idx → α) (hc) (z : S2x6x4096.Idx) (w : S2x24576.Idx)
    (h0 : (w 0).val = (z 0).val) (h1 : (w 1).val = (z 1).val * 4096 + (z 2).val) :
    shapeCast S2x6x4096 x hc z = x w := by
  refine shapeCast_apply x hc z w ?_
  have e1 : (S2x24576.rowMajor w).val = (w 0).val * 24576 + (w 1).val := Shape.rowMajor_val_two w
  have e2 : (S2x6x4096.rowMajor z).val = ((z 0).val * 6 + (z 1).val) * 4096 + (z 2).val := Shape.rowMajor_val_three z
  omega

/-- The block of the residual at an entry. -/
theorem residual_apply (c : Dev nD) (t : Fin cfg0.N) (y : S1024x512.Idx) (z : S8192x4096.Idx) (w : S2x4096x4096.Idx)
    (hz0 : (z 0).val = t.val % 8 * 1024 + (y 0).val) (hz1 : (z 1).val = t.val / 8 * 512 + (y 1).val)
    (h0 : (w 0).val = (z 0).val / 4096) (h1 : (w 1).val = (z 0).val % 4096) (h2 : (w 2).val = (z 1).val) :
    iblk m c 2 t y = m ((c : Thread nD τ).loc main_arg2) w := by
  refine Eq.trans ?_ (residual_rows (m ((c : Thread nD τ).loc main_arg2)) shapeCasts_S2x4096x4096_S8192x4096 z w h0 h1 h2)
  show V m c main_v0 (((cfg0.win 2).blk t).view.emb y) = _
  rw [V_residual]
  refine congrArg _ (funext fun a => Fin.ext ?_)
  have p0 := point0 t
  have p1 := point1 t
  match a with
  | ⟨0, _⟩ =>
    show (BitVec.ofNat 32 (grid0.coords t 1).val).toNat * 1024 + 1 * (y 0).val = (z 0).val
    rw [word _ (grid0.coords t 1).isLt]
    omega
  | ⟨1, _⟩ =>
    show (BitVec.ofNat 32 (grid0.coords t 0).val).toNat * 512 + 1 * (y 1).val = (z 1).val
    rw [word _ (grid0.coords t 0).isLt]
    omega

/-- The batch member of a row tile. -/
theorem batch_eq (i : grid0.Coords) : cc0_transform_3 i 0 = (i 1).val / 4 := by
  have h : ∀ r : Fin 8, cc0_transform_3 (fun a => match a with | ⟨0, _⟩ => (0 : Fin 8) | ⟨1, _⟩ => r) 0 = r.val / 4 := by decide
  exact h (i 1)

/-- The block of the modulation, its third row, at an entry. -/
theorem modulation_apply (c : Dev nD) (t : Fin cfg0.N) (y : S1x1x512.Idx) (w : S2x24576.Idx)
    (h0 : (w 0).val = t.val % 8 / 4) (h1 : (w 1).val = 8192 + (t.val / 8 * 512 + (y 2).val)) :
    gateRow (iblk m c 3 t) y = m ((c : Thread nD τ).loc main_arg3) w := by
  have y0 : (y 0).val < 1 := (y 0).isLt
  have y1 : (y 1).val < 1 := (y 1).isLt
  have y2 : (y 2).val < 512 := (y 2).isLt
  have ht : t.val < 64 := Nat.lt_of_lt_of_eq t.isLt N_0
  have p0 := point0 t
  have p1 := point1 t
  refine (View.ld_unit_apply_of (iblk m c 3 t) _ _ _ y (ix3 0 2 (y 2)) (fun a => ?_)).trans ?_
  · match a with
    | ⟨0, _⟩ => show 0 = 0 + (y 0).val; omega
    | ⟨1, _⟩ => show 2 = 2 + (y 1).val; omega
    | ⟨2, _⟩ => show (y 2).val = 0 + (y 2).val; omega
  · refine Eq.trans ?_ (modulation_rows (m ((c : Thread nD τ).loc main_arg3)) shapeCasts_S2x24576_S2x6x4096
      (ix3 ⟨t.val % 8 / 4, by omega⟩ 2 ⟨t.val / 8 * 512 + (y 2).val, by omega⟩) w h0
      (h1.trans (show 8192 + (t.val / 8 * 512 + (y 2).val) = 2 * 4096 + (t.val / 8 * 512 + (y 2).val) by omega)))
    show V m c main_v1 (((cfg0.win 3).blk t).view.emb (ix3 0 2 (y 2))) = _
    rw [V_modulation]
    refine congrArg _ (funext fun a => Fin.ext ?_)
    match a with
    | ⟨0, _⟩ =>
      show cc0_transform_3 (grid0.coords t) 0 * 1 + 1 * 0 = t.val % 8 / 4
      rw [batch_eq]
      omega
    | ⟨1, _⟩ => rfl
    | ⟨2, _⟩ =>
      show (BitVec.ofNat 32 (grid0.coords t 0).val).toNat * 512 + 1 * (y 2).val = t.val / 8 * 512 + (y 2).val
      rw [word _ (grid0.coords t 0).isLt]
      omega

/-- At the first point of a column tile: the tile is cast and kept, and the product is taken with it. -/
theorem at_first (c : Dev nD) (t : Fin cfg0.N) (h0 : t.val % 8 = 0) :
    outsAt0 m c t.val t.isLt
      = (k0_pay2 (k0_pay1 (iblk m c 1 t)) (iblk m c 0 t) (iblk m c 2 t) (gateRow (iblk m c 3 t)), k0_pay1 (iblk m c 1 t)) :=
  (outsAt0_A m c t h0).trans (congrArg₂ Prod.mk
    (first_out c (grid0.coords t) (ms0_0 t) (hs0_0 t) (ms0_1 t) (hs0_1 t) (ms0_2 t) (hs0_2 t) (ms0_3 t) (hs0_3 t) (ms0_4 t) (hs0_4 t) scM0_0
      (Memref.isWhole_whole _) (iblk m c 0 t) (iblk m c 1 t) (iblk m c 2 t) (iblk m c 3 t) ((hcond0_0 t).mpr h0))
    (first_kept c (grid0.coords t) (ms0_0 t) (hs0_0 t) (ms0_1 t) (hs0_1 t) (ms0_2 t) (hs0_2 t) (ms0_3 t) (hs0_3 t) (ms0_4 t) (hs0_4 t) scM0_0
      (Memref.isWhole_whole _) (iblk m c 0 t) (iblk m c 1 t) (iblk m c 2 t) (iblk m c 3 t) ((hcond0_0 t).mpr h0)))

/-- What was kept before point `t`. -/
abbrev before (c : Dev nD) (t : Fin cfg0.N) : Vec F S4096x512 .bf16 :=
  (outsAt0 m c (t.val - 1) (Nat.lt_of_le_of_lt (Nat.sub_le _ _) t.isLt)).2

/-- At a later point of the tile: the kept tile stays, and the product is taken with it. -/
theorem at_later (c : Dev nD) (t : Fin cfg0.N) (h0 : ¬t.val % 8 = 0) :
    outsAt0 m c t.val t.isLt
      = (k0_pay2 (before m c t) (iblk m c 0 t) (iblk m c 2 t) (gateRow (iblk m c 3 t)), before m c t) :=
  (outsAt0_B m c t h0).trans (congrArg₂ Prod.mk
    (later_out c (grid0.coords t) (ms0_0 t) (hs0_0 t) (ms0_1 t) (hs0_1 t) (ms0_2 t) (hs0_2 t) (ms0_3 t) (hs0_3 t) (ms0_4 t) (hs0_4 t) scM0_0
      (Memref.isWhole_whole _) (iblk m c 0 t) (iblk m c 1 t) (iblk m c 2 t) (iblk m c 3 t) (before m c t) (fun h => h0 ((hcond0_0 t).mp h)))
    rfl)

/-- What a point writes is made of its blocks and the kept tile. -/
theorem out_eq (c : Dev nD) (t : Fin cfg0.N) :
    (outsAt0 m c t.val t.isLt).1
      = k0_pay2 (outsAt0 m c t.val t.isLt).2 (iblk m c 0 t) (iblk m c 2 t) (gateRow (iblk m c 3 t)) := by
  by_cases h0 : t.val % 8 = 0
  · rw [at_first m c t h0]
  · rw [at_later m c t h0]

/-! ## Over the reals -/

section Values
variable (μ : (ℓ : Loc nD τ sig) → Buf (Elt Ideal) ℓ)

theorem kept_payload (v : Vec Ideal S1x4096x512 .f32) (y : S4096x512.Idx) :
    k0_pay1 v y = v (ix3 0 (y 0) (y 1)) := by
  unfold k0_pay1
  rw [shapeCast_self]
  exact Dense.drop_unit 4096 512 v _ y

theorem out_payload (b : Vec Ideal S4096x512 .bf16) (a : Vec Ideal S1024x4096 .bf16) (x : Vec Ideal S1024x512 .f32)
    (g : Vec Ideal S1x1x512 .f32) (y : S1024x512.Idx) :
    k0_pay2 b a x g y = (x y + g (ix3 0 0 (y 1)) * ∑ k : Fin 4096, (a (ix2 (y 0) k) * b (ix2 k (y 1)) : EReal) : EReal) := by
  unfold k0_pay2
  rw [shapeCast_self]
  refine congrArg (fun s : EReal => x y + s) (congrArg₂ (fun p q : EReal => p * q) ?_ (Dense.product 1024 4096 512 a b y))
  refine (broadcastTo_apply _ broadcasts_S1x512_S1024x512 y (ix2 0 (y 1)) (fun a => ?_)).trans (Dense.drop_unit 1 512 g _ _)
  match a with
  | ⟨0, _⟩ => rfl
  | ⟨1, _⟩ => rfl

/-- The kept tile after point `n`: the weights of the tile's columns. -/
theorem kept_apply (c : Dev nD) : ∀ (n : ℕ) (hn : n < cfg0.N) (y : S4096x512.Idx) (z : S2x4096x4096.Idx),
    (z 0).val = 1 → (z 1).val = (y 0).val → (z 2).val = n / 8 * 512 + (y 1).val →
    (outsAt0 μ c n hn).2 y = μ ((c : Thread nD τ).loc main_arg1) z := by
  intro n
  induction n with
  | zero =>
    intro hn y z z0 z1 z2
    refine (congrFun (congrArg Prod.snd (at_first μ c ⟨0, hn⟩ rfl)) y).trans ((kept_payload (iblk μ c 1 ⟨0, hn⟩) y).trans ?_)
    exact cols_apply μ c ⟨0, hn⟩ _ z z0 z1 z2
  | succ n ih =>
    intro hn y z z0 z1 z2
    by_cases h0 : (n + 1) % 8 = 0
    · refine (congrFun (congrArg Prod.snd (at_first μ c ⟨n + 1, hn⟩ h0)) y).trans ((kept_payload (iblk μ c 1 ⟨n + 1, hn⟩) y).trans ?_)
      exact cols_apply μ c ⟨n + 1, hn⟩ _ z z0 z1 z2
    · refine (congrFun (congrArg Prod.snd (at_later μ c ⟨n + 1, hn⟩ h0)) y).trans ?_
      refine ih (Nat.lt_of_succ_lt hn) y z z0 z1 (z2.trans ?_)
      rw [show (n + 1) / 8 = n / 8 by omega]

end Values

/-- The residual's entry of row `p` and column `q`. -/
def place (p : Fin 8192) (q : Fin 4096) : S2x4096x4096.Idx :=
  ix3 ⟨p.val / 4096, by omega⟩ ⟨p.val % 4096, by omega⟩ q

/-- The modulation's entry of row `p` and column `q`. -/
def gatePlace (p : Fin 8192) (q : Fin 4096) : S2x24576.Idx :=
  ix2 ⟨p.val / 4096, by omega⟩ ⟨8192 + q.val, by omega⟩

/-- The residual plus the gated product of the merged branches with the second layer's matrix. -/
def G (h : FVec Ideal S8192x4096 .bf16) (w x : FVec Ideal S2x4096x4096 .f32) (g : FVec Ideal S2x24576 .f32) : FVec Ideal S8192x4096 .f32 :=
  fun y => (x (place (y 0) (y 1)) + g (gatePlace (y 0) (y 1)) * ∑ k : Fin 4096, (h (ix2 (y 0) k) * w (ix3 1 k (y 1)) : EReal) : EReal)

theorem written (μ : (ℓ : Loc nD τ sig) → Buf (Elt Ideal) ℓ) (c : Dev nD) (t : Fin cfg0.N) (y : S1024x512.Idx)
    (z : S8192x4096.Idx) (h0 : (z 0).val = t.val % 8 * 1024 + (y 0).val) (h1 : (z 1).val = t.val / 8 * 512 + (y 1).val) :
    (outsAt0 μ c t.val t.isLt).1 y = G (μ ((c : Thread nD τ).loc main_arg0)) (μ ((c : Thread nD τ).loc main_arg1))
      (μ ((c : Thread nD τ).loc main_arg2)) (μ ((c : Thread nD τ).loc main_arg3)) z := by
  unfold G
  rw [out_eq]
  have hy0 : (y 0).val < 1024 := (y 0).isLt
  refine (out_payload _ _ _ _ _).trans (congrArg₂ (fun a b : EReal => a + b) ?_ (congrArg₂ (fun a b : EReal => a * b) ?_
    (Finset.sum_congr rfl fun k _ => ?_)))
  · exact residual_apply μ c t y z _ h0 h1 rfl rfl rfl
  · refine modulation_apply μ c t (ix3 0 0 (y 1)) _ ?_ ?_
    · show (z 0).val / 4096 = t.val % 8 / 4
      omega
    · show 8192 + (z 1).val = 8192 + (t.val / 8 * 512 + (y 1).val)
      omega
  · exact congrArg₂ (fun a b : EReal => a * b) (rows_apply μ c t _ _ h0 rfl) (kept_apply μ c t.val t.isLt _ _ rfl rfl h1)

/-- The result array after the run. -/
theorem final (μ : (ℓ : Loc nD τ sig) → Buf (Elt Ideal) ℓ) (c : Dev nD) :
    (dats μ 0 c).arrAt 4 cfg0.N = G (μ ((c : Thread nD τ).loc main_arg0)) (μ ((c : Thread nD τ).loc main_arg1))
      (μ ((c : Thread nD τ).loc main_arg2)) (μ ((c : Thread nD τ).loc main_arg3)) := by
  refine (dats μ 0 c).arrAt_eq_of_covers 4 _ ?_ fun t hf (y : S1024x512.Idx) => ?_
  · exact of_decide_eq_true (by sl_kernel_rfl)
  · refine (congrFun (after0_4 μ c t) y).trans (written μ c t y _ ?_ ?_)
    · show (BitVec.ofNat 32 (grid0.coords t 1).val).toNat * 1024 + 1 * (y 0).val = _
      rw [word _ (grid0.coords t 1).isLt, point1]
      omega
    · show (BitVec.ofNat 32 (grid0.coords t 0).val).toNat * 512 + 1 * (y 1).val = _
      rw [word _ (grid0.coords t 0).isLt, point0]
      omega

/-- The run: the result array holds the gated sum, the arguments end unchanged. -/
theorem run (μ : (ℓ : Loc nD τ sig) → Buf (Elt Ideal) ℓ) (ρ : Dev nD → PrngReg) :
    θ_run (defs (F := Ideal)) (onTc (τ := τ) (main (F := Ideal))) ⟨μ, fun _ => 0, ρ⟩ (fun r => ∀ c : Dev nD,
      r.2.mem ((c.tc : Thread nD τ).loc main_v2)
        = G (μ ((c.tc : Thread nD τ).loc main_arg0)) (μ ((c.tc : Thread nD τ).loc main_arg1)) (μ ((c.tc : Thread nD τ).loc main_arg2))
            (μ ((c.tc : Thread nD τ).loc main_arg3))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)) :=
  (θ_run defs _ _).mono (fun r h c => ⟨(h c).1.trans (final μ c), (h c).2⟩) (Cert.Kernel20Ideal.Value.run_blocks μ ρ)

end Cert.Proof.OutSecond

end
-- ==== Proof.OutSecondReference.lean ====
/-
  The second layer: the reference of the output projection with its gate and residual, entry by entry what the kernel's call leaves.
-/
module

public import proofs.«01_k».proof.Proof.OutSecond
public import proofs.«01_k».proof.Proof.Gen.Reference20Ideal.Run

@[expose] public section

noncomputable section

namespace Cert.Proof.OutSecond

open Idealize.ShloMosaic Idealize.ShloMosaic.TcCoe Idealize.SL.Sem
open Cert.Reference20Ideal Cert.Reference20Ideal.Gen Idealize.ShloMosaic.ValueIdx

/-- The product of all rows, its rows split by batch member, at the entry of row `p` and column `q`. -/
theorem split_rows (v : FVec Ideal S8192x4096 .f32) (p : Fin 8192) (q : Fin 4096) :
    shapeCast S2x4096x4096 v shapeCasts_S8192x4096_S2x4096x4096 (place p q) = v (ix2 p q) := by
  refine shapeCast_apply v _ (place p q) (ix2 p q) ?_
  have e1 : (S2x4096x4096.rowMajor (place p q)).val = (p.val / 4096 * 4096 + p.val % 4096) * 4096 + q.val := Shape.rowMajor_val_three _
  have e2 : (S8192x4096.rowMajor (ix2 p q)).val = p.val * 4096 + q.val := Shape.rowMajor_val_two _
  exact (e2.trans (by omega)).trans e1.symm

/-- The modulation's third range, repeated along the rows of its batch member. -/
theorem gate_spread (g : FVec Ideal S2x24576 .f32) (p : Fin 8192) (q : Fin 4096) :
    broadcastInDim S2x4096x4096 ![0, 1, 2] bcast_S2x1x4096_S2x4096x4096_0_1_2 (broadcastInDim S2x1x4096 ![0, 2] bcast_S2x4096_S2x1x4096_0_2
      (extractStridedSlice S2x4096 ![0, 8192] g slices_S2x24576_S2x4096_0_8192)) (place p q) = g (gatePlace p q) := by
  refine congrArg g (funext fun a => Fin.ext ?_)
  match a with
  | ⟨0, _⟩ => exact Nat.zero_add _
  | ⟨1, _⟩ => rfl

/-- The reference's run, at the value the kernel's run ends with. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15)
        = G (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨(h c).1.trans ?_, (h c).2⟩) (Cert.Reference20Ideal.Value.run (F := Ideal) m ρ)
  funext y
  obtain ⟨p, q, rfl⟩ : ∃ (p : Fin 8192) (q : Fin 4096), y = ix2 p q := ⟨y 0, y 1, eq_ix2 y⟩
  refine (residual_rows _ shapeCasts_S2x4096x4096_S8192x4096 (ix2 p q) (place p q) rfl rfl rfl).trans ?_
  refine congrArg₂ (fun a b : EReal => a + b) rfl (congrArg₂ (fun a b : EReal => a * b) ?_ ?_)
  · exact gate_spread (m ((c.tc : Thread nD τ).loc main_arg3)) p q
  · refine (split_rows _ p q).trans ?_
    exact Dense.host_second 8192 4096 4096 (m ((c.tc : Thread nD τ).loc main_arg0)) (m ((c.tc : Thread nD τ).loc main_arg1))
      bitsLt_bf16_f32 slices_S2x4096x4096_S1x4096x4096_1_0_0 shapeCasts_S1x4096x4096_S4096x4096 p q

end Cert.Proof.OutSecond

end
-- ==== Proof.OutSecondClaims.lean ====
/-
  The second layer: the claims about the output projection with its gate and residual: both programs' frames from one run, and the value.
-/
module

public import proofs.«01_k».proof.Defs
public import proofs.«01_k».proof.Proof.OutSecondReference
public import proofs.«01_k».proof.Proof.Gen.Kernel20

@[expose] public section

noncomputable section

namespace Cert.Proof.OutSecond

open Idealize.ShloMosaic Idealize.SL.Sem

section Same
variable {F : FTy → Type} [FloatOps F]

/-- The program as printed and the program read over the reals have one text: one set of bodies. -/
theorem bodies_eq : Cert.Kernel20.defs₀ (F := F) = Cert.Kernel20Ideal.defs₀ (F := F) := by
  unfold Cert.Kernel20.defs₀ Cert.Kernel20Ideal.defs₀
  refine congrArg Defs.onTc (funext fun l => ?_)
  match l with
  | 0 => rfl

theorem defs_eq : Cert.Kernel20.defs (F := F) = Cert.Kernel20Ideal.defs (F := F) := by
  unfold Cert.Kernel20.defs Cert.Kernel20Ideal.defs
  exact congrArg _ bodies_eq

end Same

theorem frame : Cert.quiescent_Kernel20 := fun m ρ _ => by
  rw [defs_eq]
  exact Cert.Kernel20Ideal.Gen.frame (F := Bits) m ρ

theorem frame_ideal : Cert.quiescent_Kernel20Ideal := fun m ρ _ =>
  Cert.Kernel20Ideal.Gen.frame (F := Ideal) m ρ

theorem frame_reference : Cert.quiescent_Reference20Ideal := fun m ρ _ =>
  (θ_run _ _ _).mono (fun r h => ⟨fun c => (h c).2, Idealize.ShloMosaic.sem_eq_zero_of_no_sems (by decide) r.2⟩) (reference_run m ρ)

theorem algebraic : Cert.algebraic_Kernel20Ideal_Reference20Ideal := by
  intro m ρ m' ρ' _ hargs
  refine ⟨fun c => G (m ((c.tc : Thread _ _).loc Cert.Kernel20Ideal.main_arg0)) (m ((c.tc : Thread _ _).loc Cert.Kernel20Ideal.main_arg1)) (m ((c.tc : Thread _ _).loc Cert.Kernel20Ideal.main_arg2)) (m ((c.tc : Thread _ _).loc Cert.Kernel20Ideal.main_arg3)), ?_, ?_⟩
  · exact run m ρ
  · refine (θ_run _ _ _).mono (fun r h c => ⟨(h c).1.trans ?_, (h c).2⟩) (reference_run m' ρ')
    obtain ⟨e0, e1, e2, e3⟩ := hargs c
    rw [e0, e1, e2, e3]

end Cert.Proof.OutSecond

end
-- ==== Proof.GluSecond.lean ====
/-
  The second layer: the call that multiplies the normalised activations by the two first matrices of the shared expert and gates one product by the
  other: what each grid point writes, and the result array after the run.
-/
module

public import proofs.«01_k».proof.Proof.Gen.Kernel21Ideal.Frame
public import proofs.«01_k».proof.Proof.Gen.Kernel21Ideal.Value
public import proofs.«01_k».proof.Proof.DenseSecond
public import Idealize.ShloMosaic.Lib.Pipeline.Value
public import Idealize.ShloMosaic.Lib.Pipeline.ValueKit.Geometry
public import Idealize.ShloMosaic.Lib.Pipeline.ValueKit.Acc

@[expose] public section

noncomputable section

namespace Cert.Proof.GluSecond

open Idealize.ShloMosaic Idealize.ShloMosaic.TcCoe Idealize.SL.Sem
open Cert.Kernel21Ideal Cert.Kernel21Ideal.Gen Idealize.ShloMosaic.ValueIdx

variable {F : FTy → Type} [FloatOps F]
variable (m : (ℓ : Loc nD τ sig) → Buf (Elt F) ℓ)

/-! ## One grid point -/

section Cases
variable (c : Dev nD) (i : grid0.Coords) (a2 : Memref sig .tc .vmem S1024x4096 .bf16) (h2 : a2.IsWhole)
  (a3 : Memref sig .tc .vmem S1x4096x256 .f32) (h3 : a3.IsWhole) (a4 : Memref sig .tc .vmem S1x4096x256 .f32) (h4 : a4.IsWhole)
  (a5 : Memref sig .tc .vmem S1024x256 .bf16) (h5 : a5.IsWhole) (a6 : Memref sig .tc .vmem S4096x256 .bf16) (h6 : a6.IsWhole)
  (a7 : Memref sig .tc .vmem S4096x256 .bf16) (h7 : a7.IsWhole)
  (x0 : Vec F S1024x4096 .bf16) (x1 x2 : Vec F S1x4096x256 .f32) (xs xu : Vec F S4096x256 .bf16)

theorem first_out (hc : cond0_0 i) (hd : cond0_1 i) :
    out0_A_3 c i a2 h2 a3 h3 a4 h4 a5 h5 a6 h6 a7 h7 hc hd x0 x1 x2 = k0_pay3 (k0_pay1 x1) (k0_pay2 x2) x0 := by
  frame_out

theorem first_gate (hc : cond0_0 i) (hd : cond0_1 i) :
    sout0_A_0 c i a2 h2 a3 h3 a4 h4 a5 h5 a6 h6 a7 h7 hc hd x0 x1 x2 = k0_pay1 x1 := by
  frame_out

theorem first_up (hc : cond0_0 i) (hd : cond0_1 i) :
    sout0_A_1 c i a2 h2 a3 h3 a4 h4 a5 h5 a6 h6 a7 h7 hc hd x0 x1 x2 = k0_pay2 x2 := by
  frame_out

theorem later_out (hc : ¬cond0_0 i) (hd : ¬cond0_1 i) :
    out0_B_3 c i a2 h2 a3 h3 a4 h4 a5 h5 a6 h6 a7 h7 hc hd x0 x1 x2 xs xu = k0_pay3 xs xu x0 := by
  frame_out

end Cases

/-- The point `t` is at column tile `t / 8` and row tile `t % 8`. -/
theorem point0 (t : Fin grid0.N) : (grid0.coords t 0).val = t.val / 8 := by
  have ht : t.val < 32 := Nat.lt_of_lt_of_eq t.isLt N_0
  rw [show (grid0.coords t 0).val = t.val / 8 % 4 from Pipeline.Grid.coords_val t 0 (by decide) rfl]
  omega

theorem point1 (t : Fin grid0.N) : (grid0.coords t 1).val = t.val % 8 := by
  rw [show (grid0.coords t 1).val = t.val / 1 % 8 from Pipeline.Grid.coords_val t 1 (by decide) rfl]
  omega

/-- The block of activations at an entry. -/
theorem rows_apply (c : Dev nD) (t : Fin cfg0.N) (y : S1024x4096.Idx) (z : S8192x4096.Idx)
    (hz0 : (z 0).val = t.val % 8 * 1024 + (y 0).val) (hz1 : (z 1).val = (y 1).val) :
    iblk m c 0 t y = m ((c : Thread nD τ).loc main_arg0) z := by
  show m ((c : Thread nD τ).loc main_arg0) (((cfg0.win 0).blk t).view.emb y) = _
  refine congrArg _ (funext fun a => Fin.ext ?_)
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show 0 * 4096 + 1 * (y 1).val = (z 1).val
    omega

/-- The blocks of the two matrices at an entry. -/
theorem cols1_apply (c : Dev nD) (t : Fin cfg0.N) (y : S1x4096x256.Idx) (z : S2x4096x1024.Idx)
    (hz0 : (z 0).val = 1) (hz1 : (z 1).val = (y 1).val) (hz2 : (z 2).val = t.val / 8 * 256 + (y 2).val) :
    iblk m c 1 t y = m ((c : Thread nD τ).loc main_arg1) z := by
  show m ((c : Thread nD τ).loc main_arg1) (((cfg0.win 1).blk t).view.emb y) = _
  refine congrArg _ (funext fun a => Fin.ext ?_)
  have h0 := point0 t
  have hlt : (grid0.coords t 0).val < 4 := (grid0.coords t 0).isLt
  match a with
  | ⟨0, _⟩ =>
    show 1 * 1 + 1 * (y 0).val = (z 0).val
    have : (y 0).val < 1 := (y 0).isLt
    omega
  | ⟨1, _⟩ =>
    show 0 * 4096 + 1 * (y 1).val = (z 1).val
    omega
  | ⟨2, _⟩ =>
    show (BitVec.ofNat 32 (grid0.coords t 0).val).toNat * 256 + 1 * (y 2).val = (z 2).val
    rw [BitVec.toNat_ofNat, Nat.mod_eq_of_lt (by omega)]
    omega

theorem cols2_apply (c : Dev nD) (t : Fin cfg0.N) (y : S1x4096x256.Idx) (z : S2x4096x1024.Idx)
    (hz0 : (z 0).val = 1) (hz1 : (z 1).val = (y 1).val) (hz2 : (z 2).val = t.val / 8 * 256 + (y 2).val) :
    iblk m c 2 t y = m ((c : Thread nD τ).loc main_arg2) z := by
  show m ((c : Thread nD τ).loc main_arg2) (((cfg0.win 2).blk t).view.emb y) = _
  refine congrArg _ (funext fun a => Fin.ext ?_)
  have h0 := point0 t
  have hlt : (grid0.coords t 0).val < 4 := (grid0.coords t 0).isLt
  match a with
  | ⟨0, _⟩ =>
    show 1 * 1 + 1 * (y 0).val = (z 0).val
    have : (y 0).val < 1 := (y 0).isLt
    omega
  | ⟨1, _⟩ =>
    show 0 * 4096 + 1 * (y 1).val = (z 1).val
    omega
  | ⟨2, _⟩ =>
    show (BitVec.ofNat 32 (grid0.coords t 0).val).toNat * 256 + 1 * (y 2).val = (z 2).val
    rw [BitVec.toNat_ofNat, Nat.mod_eq_of_lt (by omega)]
    omega

/-- At the first point of a column tile: the two tiles are cast and kept, and the products are taken with them. -/
theorem at_first (c : Dev nD) (t : Fin cfg0.N) (h0 : t.val % 8 = 0) :
    outsAt0 m c t.val t.isLt
      = (k0_pay3 (k0_pay1 (iblk m c 1 t)) (k0_pay2 (iblk m c 2 t)) (iblk m c 0 t), k0_pay1 (iblk m c 1 t), k0_pay2 (iblk m c 2 t)) :=
  (outsAt0_A m c t h0 h0).trans (congrArg₂ Prod.mk
    (first_out c (grid0.coords t) (ms0_0 t) (hs0_0 t) (ms0_1 t) (hs0_1 t) (ms0_2 t) (hs0_2 t) (ms0_3 t) (hs0_3 t) scM0_0
      (Memref.isWhole_whole _) scM0_1 (Memref.isWhole_whole _) (iblk m c 0 t) (iblk m c 1 t) (iblk m c 2 t) ((hcond0_0 t).mpr h0) ((hcond0_1 t).mpr h0))
    (congrArg₂ Prod.mk
      (first_gate c (grid0.coords t) (ms0_0 t) (hs0_0 t) (ms0_1 t) (hs0_1 t) (ms0_2 t) (hs0_2 t) (ms0_3 t) (hs0_3 t) scM0_0
      (Memref.isWhole_whole _) scM0_1 (Memref.isWhole_whole _) (iblk m c 0 t) (iblk m c 1 t) (iblk m c 2 t) ((hcond0_0 t).mpr h0) ((hcond0_1 t).mpr h0))
      (first_up c (grid0.coords t) (ms0_0 t) (hs0_0 t) (ms0_1 t) (hs0_1 t) (ms0_2 t) (hs0_2 t) (ms0_3 t) (hs0_3 t) scM0_0
      (Memref.isWhole_whole _) scM0_1 (Memref.isWhole_whole _) (iblk m c 0 t) (iblk m c 1 t) (iblk m c 2 t) ((hcond0_0 t).mpr h0) ((hcond0_1 t).mpr h0))))

/-- What was kept before point `t`. -/
abbrev before (c : Dev nD) (t : Fin cfg0.N) : Vec F S4096x256 .bf16 × Vec F S4096x256 .bf16 :=
  (outsAt0 m c (t.val - 1) (Nat.lt_of_le_of_lt (Nat.sub_le _ _) t.isLt)).2

/-- At a later point of the tile: the kept tiles stay, and the products are taken with them. -/
theorem at_later (c : Dev nD) (t : Fin cfg0.N) (h0 : ¬t.val % 8 = 0) :
    outsAt0 m c t.val t.isLt = (k0_pay3 (before m c t).1 (before m c t).2 (iblk m c 0 t), (before m c t).1, (before m c t).2) :=
  (outsAt0_B m c t h0 h0).trans (congrArg₂ Prod.mk
    (later_out c (grid0.coords t) (ms0_0 t) (hs0_0 t) (ms0_1 t) (hs0_1 t) (ms0_2 t) (hs0_2 t) (ms0_3 t) (hs0_3 t) scM0_0
      (Memref.isWhole_whole _) scM0_1 (Memref.isWhole_whole _) (iblk m c 0 t) (iblk m c 1 t) (iblk m c 2 t)
      (before m c t).1 (before m c t).2 (fun h => h0 ((hcond0_0 t).mp h)) (fun h => h0 ((hcond0_1 t).mp h)))
    rfl)

/-- What a point writes is made of its rows and the kept tiles. -/
theorem out_eq (c : Dev nD) (t : Fin cfg0.N) :
    (outsAt0 m c t.val t.isLt).1 = k0_pay3 (outsAt0 m c t.val t.isLt).2.1 (outsAt0 m c t.val t.isLt).2.2 (iblk m c 0 t) := by
  by_cases h0 : t.val % 8 = 0
  · rw [at_first m c t h0]
  · rw [at_later m c t h0]

/-! ## Over the reals -/

section Values
variable (μ : (ℓ : Loc nD τ sig) → Buf (Elt Ideal) ℓ)

theorem gate_payload (v : Vec Ideal S1x4096x256 .f32) (y : S4096x256.Idx) :
    k0_pay1 v y = v (ix3 0 (y 0) (y 1)) := by
  unfold k0_pay1
  rw [shapeCast_self]
  exact Dense.drop_unit 4096 256 v _ y

theorem up_payload (v : Vec Ideal S1x4096x256 .f32) (y : S4096x256.Idx) :
    k0_pay2 v y = v (ix3 0 (y 0) (y 1)) := gate_payload v y

/-- A number gated by another through `x / (1 + e^(-x))`. -/
def gated (g u : EReal) : EReal := g * Ideal.logistic g * u

theorem out_payload (b d : Vec Ideal S4096x256 .bf16) (a : Vec Ideal S1024x4096 .bf16) (y : S1024x256.Idx) :
    k0_pay3 b d a y = gated (∑ k : Fin 4096, (a (ix2 (y 0) k) * b (ix2 k (y 1)) : EReal))
      (∑ k : Fin 4096, (a (ix2 (y 0) k) * d (ix2 k (y 1)) : EReal)) := by
  unfold k0_pay3
  exact congrArg₂ gated (Dense.product 1024 4096 256 a b y) (Dense.product 1024 4096 256 a d y)

/-- The kept tiles after point `n`: the two matrices' weights of the tile's columns. -/
theorem kept_apply (c : Dev nD) : ∀ (n : ℕ) (hn : n < cfg0.N) (y : S4096x256.Idx) (z : S2x4096x1024.Idx),
    (z 0).val = 1 → (z 1).val = (y 0).val → (z 2).val = n / 8 * 256 + (y 1).val →
    (outsAt0 μ c n hn).2.1 y = μ ((c : Thread nD τ).loc main_arg1) z ∧ (outsAt0 μ c n hn).2.2 y = μ ((c : Thread nD τ).loc main_arg2) z := by
  have first : ∀ (n : ℕ) (hn : n < cfg0.N) (y : S4096x256.Idx) (z : S2x4096x1024.Idx), n % 8 = 0 →
      (z 0).val = 1 → (z 1).val = (y 0).val → (z 2).val = n / 8 * 256 + (y 1).val →
      (outsAt0 μ c n hn).2.1 y = μ ((c : Thread nD τ).loc main_arg1) z
        ∧ (outsAt0 μ c n hn).2.2 y = μ ((c : Thread nD τ).loc main_arg2) z := fun n hn y z h0 z0 z1 z2 =>
    ⟨(congrFun (congrArg (fun o => o.2.1) (at_first μ c ⟨n, hn⟩ h0)) y).trans
        ((gate_payload (iblk μ c 1 ⟨n, hn⟩) y).trans (cols1_apply μ c ⟨n, hn⟩ _ z z0 z1 z2)),
      (congrFun (congrArg (fun o => o.2.2) (at_first μ c ⟨n, hn⟩ h0)) y).trans
        ((up_payload (iblk μ c 2 ⟨n, hn⟩) y).trans (cols2_apply μ c ⟨n, hn⟩ _ z z0 z1 z2))⟩
  intro n
  induction n with
  | zero => exact fun hn y z => first 0 hn y z rfl
  | succ n ih =>
    intro hn y z z0 z1 z2
    by_cases h0 : (n + 1) % 8 = 0
    · exact first (n + 1) hn y z h0 z0 z1 z2
    · have e := ih (Nat.lt_of_succ_lt hn) y z z0 z1 (z2.trans (by rw [show (n + 1) / 8 = n / 8 by omega]))
      exact ⟨(congrFun (congrArg (fun o => o.2.1) (at_later μ c ⟨n + 1, hn⟩ h0)) y).trans e.1,
        (congrFun (congrArg (fun o => o.2.2) (at_later μ c ⟨n + 1, hn⟩ h0)) y).trans e.2⟩

end Values

/-- The product with the first matrix, gated, times the product with the second. -/
def G (h : FVec Ideal S8192x4096 .bf16) (w v : FVec Ideal S2x4096x1024 .f32) : FVec Ideal S8192x1024 .bf16 :=
  fun y => gated (∑ k : Fin 4096, (h (ix2 (y 0) k) * w (ix3 1 k (y 1)) : EReal)) (∑ k : Fin 4096, (h (ix2 (y 0) k) * v (ix3 1 k (y 1)) : EReal))

theorem written (μ : (ℓ : Loc nD τ sig) → Buf (Elt Ideal) ℓ) (c : Dev nD) (t : Fin cfg0.N) (y : S1024x256.Idx)
    (z : S8192x1024.Idx) (h0 : (z 0).val = t.val % 8 * 1024 + (y 0).val) (h1 : (z 1).val = t.val / 8 * 256 + (y 1).val) :
    (outsAt0 μ c t.val t.isLt).1 y
      = G (μ ((c : Thread nD τ).loc main_arg0)) (μ ((c : Thread nD τ).loc main_arg1)) (μ ((c : Thread nD τ).loc main_arg2)) z := by
  unfold G
  rw [out_eq]
  refine (out_payload _ _ _ _).trans (congrArg₂ gated (Finset.sum_congr rfl fun k _ => ?_) (Finset.sum_congr rfl fun k _ => ?_))
  · exact congrArg₂ (fun a b : EReal => a * b) (rows_apply μ c t _ _ h0 rfl) (kept_apply μ c t.val t.isLt _ _ rfl rfl h1).1
  · exact congrArg₂ (fun a b : EReal => a * b) (rows_apply μ c t _ _ h0 rfl) (kept_apply μ c t.val t.isLt _ _ rfl rfl h1).2

/-- The result array after the run. -/
theorem final (μ : (ℓ : Loc nD τ sig) → Buf (Elt Ideal) ℓ) (c : Dev nD) :
    (dats μ 0 c).arrAt 3 cfg0.N
      = G (μ ((c : Thread nD τ).loc main_arg0)) (μ ((c : Thread nD τ).loc main_arg1)) (μ ((c : Thread nD τ).loc main_arg2)) := by
  refine (dats μ 0 c).arrAt_eq_of_covers 3 _ ?_ fun t hf (y : S1024x256.Idx) => ?_
  · exact of_decide_eq_true (by sl_kernel_rfl)
  · refine (congrFun (after0_3 μ c t) y).trans (written μ c t y _ ?_ ?_)
    · show (BitVec.ofNat 32 (grid0.coords t 1).val).toNat * 1024 + 1 * (y 0).val = _
      rw [BitVec.toNat_ofNat, point1, Nat.mod_eq_of_lt (by omega)]
      omega
    · have ht : t.val < 32 := Nat.lt_of_lt_of_eq t.isLt N_0
      show (BitVec.ofNat 32 (grid0.coords t 0).val).toNat * 256 + 1 * (y 1).val = _
      rw [BitVec.toNat_ofNat, point0, Nat.mod_eq_of_lt (by omega)]
      omega

/-- The run: the result array holds the gated product, the arguments end unchanged. -/
theorem run (μ : (ℓ : Loc nD τ sig) → Buf (Elt Ideal) ℓ) (ρ : Dev nD → PrngReg) :
    θ_run (defs (F := Ideal)) (onTc (τ := τ) (main (F := Ideal))) ⟨μ, fun _ => 0, ρ⟩ (fun r => ∀ c : Dev nD,
      r.2.mem ((c.tc : Thread nD τ).loc main_v0)
        = G (μ ((c.tc : Thread nD τ).loc main_arg0)) (μ ((c.tc : Thread nD τ).loc main_arg1)) (μ ((c.tc : Thread nD τ).loc main_arg2))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)) :=
  (θ_run defs _ _).mono (fun r h c => ⟨(h c).1.trans (final μ c), (h c).2⟩) (Cert.Kernel21Ideal.Value.run_blocks μ ρ)

end Cert.Proof.GluSecond

end
-- ==== Proof.GluSecondReference.lean ====
/-
  The second layer: the reference of the shared expert's gated product, entry by entry what the kernel's call leaves.
-/
module

public import proofs.«01_k».proof.Proof.GluSecond
public import proofs.«01_k».proof.Proof.Gen.Reference21Ideal.Run
public import Idealize.ShloMosaic.Lib.IdealHost

@[expose] public section

noncomputable section

namespace Cert.Proof.GluSecond

open Idealize.ShloMosaic Idealize.ShloMosaic.TcCoe Idealize.SL.Sem
open Cert.Reference21Ideal Cert.Reference21Ideal.Gen Idealize.ShloMosaic.ValueIdx

/-- The reference's spelling of the gate, with its two literal ones. -/
theorem gated_spelled (g u : EReal) :
    g * Ideal.div (Ideal.ofBits .f32 0x3F800000#32) (Ideal.ofBits .f32 0x3F800000#32 + Ideal.exp (-g)) * u = gated g u := by
  rw [Ideal.ofBits_one_f32]
  rfl

/-- The reference's run, at the value the kernel's run ends with. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨(h c).1.trans ?_, (h c).2⟩) (Cert.Reference21Ideal.Value.run (F := Ideal) m ρ)
  funext y
  obtain ⟨p, q, rfl⟩ : ∃ (p : Fin 8192) (q : Fin 1024), y = ix2 p q := ⟨y 0, y 1, eq_ix2 y⟩
  refine (gated_spelled _ _).trans (congrArg₂ gated ?_ ?_)
  · exact Dense.host_second 8192 4096 1024 (m ((c.tc : Thread nD τ).loc main_arg0)) (m ((c.tc : Thread nD τ).loc main_arg1))
      bitsLt_bf16_f32 slices_S2x4096x1024_S1x4096x1024_1_0_0 shapeCasts_S1x4096x1024_S4096x1024 p q
  · exact Dense.host_second 8192 4096 1024 (m ((c.tc : Thread nD τ).loc main_arg0)) (m ((c.tc : Thread nD τ).loc main_arg2))
      bitsLt_bf16_f32 slices_S2x4096x1024_S1x4096x1024_1_0_0 shapeCasts_S1x4096x1024_S4096x1024 p q

end Cert.Proof.GluSecond

end
-- ==== Proof.GluSecondClaims.lean ====
/-
  The second layer: the claims about the shared expert's gated product: both programs' frames from one run, and the value.
-/
module

public import proofs.«01_k».proof.Defs
public import proofs.«01_k».proof.Proof.GluSecondReference
public import proofs.«01_k».proof.Proof.Gen.Kernel21

@[expose] public section

noncomputable section

namespace Cert.Proof.GluSecond

open Idealize.ShloMosaic Idealize.SL.Sem

section Same
variable {F : FTy → Type} [FloatOps F]

/-- The program as printed and the program read over the reals have one text: one set of bodies. -/
theorem bodies_eq : Cert.Kernel21.defs₀ (F := F) = Cert.Kernel21Ideal.defs₀ (F := F) := by
  unfold Cert.Kernel21.defs₀ Cert.Kernel21Ideal.defs₀
  refine congrArg Defs.onTc (funext fun l => ?_)
  match l with
  | 0 => rfl

theorem defs_eq : Cert.Kernel21.defs (F := F) = Cert.Kernel21Ideal.defs (F := F) := by
  unfold Cert.Kernel21.defs Cert.Kernel21Ideal.defs
  exact congrArg _ bodies_eq

end Same

theorem frame : Cert.quiescent_Kernel21 := fun m ρ _ => by
  rw [defs_eq]
  exact Cert.Kernel21Ideal.Gen.frame (F := Bits) m ρ

theorem frame_ideal : Cert.quiescent_Kernel21Ideal := fun m ρ _ =>
  Cert.Kernel21Ideal.Gen.frame (F := Ideal) m ρ

theorem frame_reference : Cert.quiescent_Reference21Ideal := fun m ρ _ =>
  (θ_run _ _ _).mono (fun r h => ⟨fun c => (h c).2, Idealize.ShloMosaic.sem_eq_zero_of_no_sems (by decide) r.2⟩) (reference_run m ρ)

theorem algebraic : Cert.algebraic_Kernel21Ideal_Reference21Ideal := by
  intro m ρ m' ρ' _ hargs
  refine ⟨fun c => G (m ((c.tc : Thread _ _).loc Cert.Kernel21Ideal.main_arg0)) (m ((c.tc : Thread _ _).loc Cert.Kernel21Ideal.main_arg1)) (m ((c.tc : Thread _ _).loc Cert.Kernel21Ideal.main_arg2)), ?_, ?_⟩
  · exact run m ρ
  · refine (θ_run _ _ _).mono (fun r h c => ⟨(h c).1.trans ?_, (h c).2⟩) (reference_run m' ρ')
    obtain ⟨e0, e1, e2⟩ := hargs c
    rw [e0, e1, e2]

end Cert.Proof.GluSecond

end
-- ==== Proof.DownSecond.lean ====
/-
  The second layer: the call that multiplies the activations of the shared expert by its second matrix: what each grid point writes, and the result
  array after the run.
-/
module

public import proofs.«01_k».proof.Proof.Gen.Kernel22Ideal.Frame
public import proofs.«01_k».proof.Proof.Gen.Kernel22Ideal.Value
public import proofs.«01_k».proof.Proof.DenseSecond
public import Idealize.ShloMosaic.Lib.Pipeline.Value
public import Idealize.ShloMosaic.Lib.Pipeline.ValueKit.Geometry
public import Idealize.ShloMosaic.Lib.Pipeline.ValueKit.Acc

@[expose] public section

noncomputable section

namespace Cert.Proof.DownSecond

open Idealize.ShloMosaic Idealize.ShloMosaic.TcCoe Idealize.SL.Sem
open Cert.Kernel22Ideal Cert.Kernel22Ideal.Gen Idealize.ShloMosaic.ValueIdx

variable {F : FTy → Type} [FloatOps F]
variable (m : (ℓ : Loc nD τ sig) → Buf (Elt F) ℓ)

/-! ## One grid point -/

section Cases
variable (c : Dev nD) (i : grid0.Coords) (a2 : Memref sig .tc .vmem S1024x1024 .bf16) (h2 : a2.IsWhole)
  (a3 : Memref sig .tc .vmem S1x1024x1024 .f32) (h3 : a3.IsWhole) (a4 : Memref sig .tc .vmem S1024x1024 .bf16) (h4 : a4.IsWhole)
  (a5 : Memref sig .tc .vmem S1024x1024 .bf16) (h5 : a5.IsWhole)
  (x0 : Vec F S1024x1024 .bf16) (x1 : Vec F S1x1024x1024 .f32) (xs : Vec F S1024x1024 .bf16)

theorem first_out (hc : cond0_0 i) : out0_A_2 c i a2 h2 a3 h3 a4 h4 a5 h5 hc x0 x1 = k0_pay2 (k0_pay1 x1) x0 := by
  frame_out

theorem first_kept (hc : cond0_0 i) : sout0_A_0 c i a2 h2 a3 h3 a4 h4 a5 h5 hc x0 x1 = k0_pay1 x1 := by
  frame_out

theorem later_out (hc : ¬cond0_0 i) : out0_B_2 c i a2 h2 a3 h3 a4 h4 a5 h5 hc x0 x1 xs = k0_pay2 xs x0 := by
  frame_out

end Cases

/-- The point `t` is at column tile `t / 8` and row tile `t % 8`. -/
theorem point0 (t : Fin grid0.N) : (grid0.coords t 0).val = t.val / 8 := by
  have ht : t.val < 32 := Nat.lt_of_lt_of_eq t.isLt N_0
  rw [show (grid0.coords t 0).val = t.val / 8 % 4 from Pipeline.Grid.coords_val t 0 (by decide) rfl]
  omega

theorem point1 (t : Fin grid0.N) : (grid0.coords t 1).val = t.val % 8 := by
  rw [show (grid0.coords t 1).val = t.val / 1 % 8 from Pipeline.Grid.coords_val t 1 (by decide) rfl]
  omega

/-- The block of activations at an entry. -/
theorem rows_apply (c : Dev nD) (t : Fin cfg0.N) (y : S1024x1024.Idx) (z : S8192x1024.Idx)
    (hz0 : (z 0).val = t.val % 8 * 1024 + (y 0).val) (hz1 : (z 1).val = (y 1).val) :
    iblk m c 0 t y = m ((c : Thread nD τ).loc main_arg0) z := by
  show m ((c : Thread nD τ).loc main_arg0) (((cfg0.win 0).blk t).view.emb y) = _
  refine congrArg _ (funext fun a => Fin.ext ?_)
  have h1 := point1 t
  have hlt : (grid0.coords t 1).val < 8 := (grid0.coords t 1).isLt
  match a with
  | ⟨0, _⟩ =>
    show (BitVec.ofNat 32 (grid0.coords t 1).val).toNat * 1024 + 1 * (y 0).val = (z 0).val
    rw [BitVec.toNat_ofNat, Nat.mod_eq_of_lt (by omega)]
    omega
  | ⟨1, _⟩ =>
    show 0 * 1024 + 1 * (y 1).val = (z 1).val
    omega

/-- The block of weights at an entry. -/
theorem cols_apply (c : Dev nD) (t : Fin cfg0.N) (y : S1x1024x1024.Idx) (z : S2x1024x4096.Idx)
    (hz0 : (z 0).val = 1) (hz1 : (z 1).val = (y 1).val) (hz2 : (z 2).val = t.val / 8 * 1024 + (y 2).val) :
    iblk m c 1 t y = m ((c : Thread nD τ).loc main_arg1) z := by
  show m ((c : Thread nD τ).loc main_arg1) (((cfg0.win 1).blk t).view.emb y) = _
  refine congrArg _ (funext fun a => Fin.ext ?_)
  have h0 := point0 t
  have hlt : (grid0.coords t 0).val < 4 := (grid0.coords t 0).isLt
  match a with
  | ⟨0, _⟩ =>
    show 1 * 1 + 1 * (y 0).val = (z 0).val
    have : (y 0).val < 1 := (y 0).isLt
    omega
  | ⟨1, _⟩ =>
    show 0 * 1024 + 1 * (y 1).val = (z 1).val
    omega
  | ⟨2, _⟩ =>
    show (BitVec.ofNat 32 (grid0.coords t 0).val).toNat * 1024 + 1 * (y 2).val = (z 2).val
    rw [BitVec.toNat_ofNat, Nat.mod_eq_of_lt (by omega)]
    omega

/-- At the first point of a column tile: the tile is cast and kept, and the product is taken with it. -/
theorem at_first (c : Dev nD) (t : Fin cfg0.N) (h0 : t.val % 8 = 0) :
    outsAt0 m c t.val t.isLt = (k0_pay2 (k0_pay1 (iblk m c 1 t)) (iblk m c 0 t), k0_pay1 (iblk m c 1 t)) :=
  (outsAt0_A m c t h0).trans (congrArg₂ Prod.mk
    (first_out c (grid0.coords t) (ms0_0 t) (hs0_0 t) (ms0_1 t) (hs0_1 t) (ms0_2 t) (hs0_2 t) scM0_0
      (Memref.isWhole_whole _) (iblk m c 0 t) (iblk m c 1 t) ((hcond0_0 t).mpr h0))
    (first_kept c (grid0.coords t) (ms0_0 t) (hs0_0 t) (ms0_1 t) (hs0_1 t) (ms0_2 t) (hs0_2 t) scM0_0
      (Memref.isWhole_whole _) (iblk m c 0 t) (iblk m c 1 t) ((hcond0_0 t).mpr h0)))

/-- What was kept before point `t`. -/
abbrev before (c : Dev nD) (t : Fin cfg0.N) : Vec F S1024x1024 .bf16 :=
  (outsAt0 m c (t.val - 1) (Nat.lt_of_le_of_lt (Nat.sub_le _ _) t.isLt)).2

/-- At a later point of the tile: the kept tile stays, and the product is taken with it. -/
theorem at_later (c : Dev nD) (t : Fin cfg0.N) (h0 : ¬t.val % 8 = 0) :
    outsAt0 m c t.val t.isLt = (k0_pay2 (before m c t) (iblk m c 0 t), before m c t) :=
  (outsAt0_B m c t h0).trans (congrArg₂ Prod.mk
    (later_out c (grid0.coords t) (ms0_0 t) (hs0_0 t) (ms0_1 t) (hs0_1 t) (ms0_2 t) (hs0_2 t) scM0_0
      (Memref.isWhole_whole _) (iblk m c 0 t) (iblk m c 1 t) (before m c t) (fun h => h0 ((hcond0_0 t).mp h)))
    rfl)

/-- What a point writes is the product of its rows with the kept tile. -/
theorem out_eq (c : Dev nD) (t : Fin cfg0.N) :
    (outsAt0 m c t.val t.isLt).1 = k0_pay2 (outsAt0 m c t.val t.isLt).2 (iblk m c 0 t) := by
  by_cases h0 : t.val % 8 = 0
  · rw [at_first m c t h0]
  · rw [at_later m c t h0]

/-! ## Over the reals -/

section Values
variable (μ : (ℓ : Loc nD τ sig) → Buf (Elt Ideal) ℓ)

theorem kept_payload (v : Vec Ideal S1x1024x1024 .f32) (y : S1024x1024.Idx) :
    k0_pay1 v y = v (ix3 0 (y 0) (y 1)) := by
  unfold k0_pay1
  rw [shapeCast_self]
  exact Dense.drop_unit 1024 1024 v _ y

theorem out_payload (b : Vec Ideal S1024x1024 .bf16) (a : Vec Ideal S1024x1024 .bf16) (y : S1024x1024.Idx) :
    k0_pay2 b a y = ∑ k : Fin 1024, (a (ix2 (y 0) k) * b (ix2 k (y 1)) : EReal) := by
  unfold k0_pay2
  exact Dense.product 1024 1024 1024 a b y

/-- The kept tile after point `n`: the weights of the tile's columns. -/
theorem kept_apply (c : Dev nD) : ∀ (n : ℕ) (hn : n < cfg0.N) (y : S1024x1024.Idx) (z : S2x1024x4096.Idx),
    (z 0).val = 1 → (z 1).val = (y 0).val → (z 2).val = n / 8 * 1024 + (y 1).val →
    (outsAt0 μ c n hn).2 y = μ ((c : Thread nD τ).loc main_arg1) z := by
  intro n
  induction n with
  | zero =>
    intro hn y z z0 z1 z2
    refine (congrFun (congrArg Prod.snd (at_first μ c ⟨0, hn⟩ rfl)) y).trans ((kept_payload (iblk μ c 1 ⟨0, hn⟩) y).trans ?_)
    exact cols_apply μ c ⟨0, hn⟩ _ z z0 z1 z2
  | succ n ih =>
    intro hn y z z0 z1 z2
    by_cases h0 : (n + 1) % 8 = 0
    · refine (congrFun (congrArg Prod.snd (at_first μ c ⟨n + 1, hn⟩ h0)) y).trans ((kept_payload (iblk μ c 1 ⟨n + 1, hn⟩) y).trans ?_)
      exact cols_apply μ c ⟨n + 1, hn⟩ _ z z0 z1 z2
    · refine (congrFun (congrArg Prod.snd (at_later μ c ⟨n + 1, hn⟩ h0)) y).trans ?_
      refine ih (Nat.lt_of_succ_lt hn) y z z0 z1 (z2.trans ?_)
      rw [show (n + 1) / 8 = n / 8 by omega]

end Values

/-- The product of the activations with the second layer's second matrix. -/
def G (h : FVec Ideal S8192x1024 .bf16) (w : FVec Ideal S2x1024x4096 .f32) : FVec Ideal S8192x4096 .bf16 :=
  fun y => ∑ k : Fin 1024, (h (ix2 (y 0) k) * w (ix3 1 k (y 1)) : EReal)

theorem written (μ : (ℓ : Loc nD τ sig) → Buf (Elt Ideal) ℓ) (c : Dev nD) (t : Fin cfg0.N) (y : S1024x1024.Idx)
    (z : S8192x4096.Idx) (h0 : (z 0).val = t.val % 8 * 1024 + (y 0).val) (h1 : (z 1).val = t.val / 8 * 1024 + (y 1).val) :
    (outsAt0 μ c t.val t.isLt).1 y = G (μ ((c : Thread nD τ).loc main_arg0)) (μ ((c : Thread nD τ).loc main_arg1)) z := by
  unfold G
  rw [out_eq]
  refine (out_payload _ _ _).trans (Finset.sum_congr rfl fun k _ => ?_)
  exact congrArg₂ (fun a b : EReal => a * b) (rows_apply μ c t _ _ h0 rfl) (kept_apply μ c t.val t.isLt _ _ rfl rfl h1)

/-- The result array after the run. -/
theorem final (μ : (ℓ : Loc nD τ sig) → Buf (Elt Ideal) ℓ) (c : Dev nD) :
    (dats μ 0 c).arrAt 2 cfg0.N = G (μ ((c : Thread nD τ).loc main_arg0)) (μ ((c : Thread nD τ).loc main_arg1)) := by
  refine (dats μ 0 c).arrAt_eq_of_covers 2 _ ?_ fun t hf (y : S1024x1024.Idx) => ?_
  · exact of_decide_eq_true (by sl_kernel_rfl)
  · refine (congrFun (after0_2 μ c t) y).trans (written μ c t y _ ?_ ?_)
    · show (BitVec.ofNat 32 (grid0.coords t 1).val).toNat * 1024 + 1 * (y 0).val = _
      rw [BitVec.toNat_ofNat, point1, Nat.mod_eq_of_lt (by omega)]
      omega
    · have ht : t.val < 32 := Nat.lt_of_lt_of_eq t.isLt N_0
      show (BitVec.ofNat 32 (grid0.coords t 0).val).toNat * 1024 + 1 * (y 1).val = _
      rw [BitVec.toNat_ofNat, point0, Nat.mod_eq_of_lt (by omega)]
      omega

/-- The run: the result array holds the product, the arguments end unchanged. -/
theorem run (μ : (ℓ : Loc nD τ sig) → Buf (Elt Ideal) ℓ) (ρ : Dev nD → PrngReg) :
    θ_run (defs (F := Ideal)) (onTc (τ := τ) (main (F := Ideal))) ⟨μ, fun _ => 0, ρ⟩ (fun r => ∀ c : Dev nD,
      r.2.mem ((c.tc : Thread nD τ).loc main_v0) = G (μ ((c.tc : Thread nD τ).loc main_arg0)) (μ ((c.tc : Thread nD τ).loc main_arg1))
      ∧ r.2.mem ((c.tc : Thread nD τ).loc main_arg0) = μ ((c.tc : Thread nD τ).loc main_arg0)
      ∧ r.2.mem ((c.tc : Thread nD τ).loc main_arg1) = μ ((c.tc : Thread nD τ).loc main_arg1)) :=
  (θ_run defs _ _).mono (fun r h c => ⟨(h c).1.trans (final μ c), (h c).2⟩) (Cert.Kernel22Ideal.Value.run_blocks μ ρ)

end Cert.Proof.DownSecond

end
-- ==== Proof.DownSecondReference.lean ====
/-
  The second layer: the reference of the shared expert's second product, entry by entry what the kernel's call leaves.
-/
module

public import proofs.«01_k».proof.Proof.DownSecond
public import proofs.«01_k».proof.Proof.Gen.Reference22Ideal.Run

@[expose] public section

noncomputable section

namespace Cert.Proof.DownSecond

open Idealize.ShloMosaic Idealize.ShloMosaic.TcCoe Idealize.SL.Sem
open Cert.Reference22Ideal Cert.Reference22Ideal.Gen Idealize.ShloMosaic.ValueIdx

/-- The reference's run, at the value the kernel's run ends with. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨(h c).1.trans ?_, (h c).2⟩) (Cert.Reference22Ideal.Value.run (F := Ideal) m ρ)
  funext y
  obtain ⟨p, q, rfl⟩ : ∃ (p : Fin 8192) (q : Fin 4096), y = ix2 p q := ⟨y 0, y 1, eq_ix2 y⟩
  exact Dense.host_second 8192 1024 4096 (m ((c.tc : Thread nD τ).loc main_arg0)) (m ((c.tc : Thread nD τ).loc main_arg1))
    bitsLt_bf16_f32 slices_S2x1024x4096_S1x1024x4096_1_0_0 shapeCasts_S1x1024x4096_S1024x4096 p q

end Cert.Proof.DownSecond

end
-- ==== Proof.DownSecondClaims.lean ====
/-
  The second layer: the claims about the shared expert's second product: both programs' frames from one run, and the value.
-/
module

public import proofs.«01_k».proof.Defs
public import proofs.«01_k».proof.Proof.DownSecondReference
public import proofs.«01_k».proof.Proof.Gen.Kernel22

@[expose] public section

noncomputable section

namespace Cert.Proof.DownSecond

open Idealize.ShloMosaic Idealize.SL.Sem

section Same
variable {F : FTy → Type} [FloatOps F]

/-- The program as printed and the program read over the reals have one text: one set of bodies. -/
theorem bodies_eq : Cert.Kernel22.defs₀ (F := F) = Cert.Kernel22Ideal.defs₀ (F := F) := by
  unfold Cert.Kernel22.defs₀ Cert.Kernel22Ideal.defs₀
  refine congrArg Defs.onTc (funext fun l => ?_)
  match l with
  | 0 => rfl

theorem defs_eq : Cert.Kernel22.defs (F := F) = Cert.Kernel22Ideal.defs (F := F) := by
  unfold Cert.Kernel22.defs Cert.Kernel22Ideal.defs
  exact congrArg _ bodies_eq

end Same

theorem frame : Cert.quiescent_Kernel22 := fun m ρ _ => by
  rw [defs_eq]
  exact Cert.Kernel22Ideal.Gen.frame (F := Bits) m ρ

theorem frame_ideal : Cert.quiescent_Kernel22Ideal := fun m ρ _ =>
  Cert.Kernel22Ideal.Gen.frame (F := Ideal) m ρ

theorem frame_reference : Cert.quiescent_Reference22Ideal := fun m ρ _ =>
  (θ_run _ _ _).mono (fun r h => ⟨fun c => (h c).2, Idealize.ShloMosaic.sem_eq_zero_of_no_sems (by decide) r.2⟩) (reference_run m ρ)

theorem algebraic : Cert.algebraic_Kernel22Ideal_Reference22Ideal := by
  intro m ρ m' ρ' _ hargs
  refine ⟨fun c => G (m ((c.tc : Thread _ _).loc Cert.Kernel22Ideal.main_arg0)) (m ((c.tc : Thread _ _).loc Cert.Kernel22Ideal.main_arg1)), ?_, ?_⟩
  · exact run m ρ
  · refine (θ_run _ _ _).mono (fun r h c => ⟨(h c).1.trans ?_, (h c).2⟩) (reference_run m' ρ')
    exact congrArg₂ G (hargs c).1 (hargs c).2

end Cert.Proof.DownSecond

end
-- ==== Proof.lean ====
/-
  The claims of this certificate, gathered.
-/
module

public import proofs.«01_k».proof.Defs
public import proofs.«01_k».proof.Proof.GatesClaims
public import proofs.«01_k».proof.Proof.RotaryClaims
public import proofs.«01_k».proof.Proof.DilatedClaims
public import proofs.«01_k».proof.Proof.ValueClaims
public import proofs.«01_k».proof.Proof.LatentClaims
public import proofs.«01_k».proof.Proof.MergeClaims
public import proofs.«01_k».proof.Proof.OutClaims
public import proofs.«01_k».proof.Proof.GluClaims
public import proofs.«01_k».proof.Proof.DownClaims
public import proofs.«01_k».proof.Proof.MlaClaims
public import proofs.«01_k».proof.Proof.DiffClaims
public import proofs.«01_k».proof.Proof.NormClaims
public import proofs.«01_k».proof.Proof.DiffSecondClaims
public import proofs.«01_k».proof.Proof.GatesSecondClaims
public import proofs.«01_k».proof.Proof.RotarySecondClaims
public import proofs.«01_k».proof.Proof.DilatedSecondClaims
public import proofs.«01_k».proof.Proof.ValueSecondClaims
public import proofs.«01_k».proof.Proof.LatentSecondClaims
public import proofs.«01_k».proof.Proof.MergeSecondClaims
public import proofs.«01_k».proof.Proof.OutSecondClaims
public import proofs.«01_k».proof.Proof.GluSecondClaims
public import proofs.«01_k».proof.Proof.DownSecondClaims

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts, Mla.facts_finite, Diff.facts_finite,
    Gates.frame, Gates.frame_ideal, Gates.frame_reference,
    Rotary.frame, Rotary.frame_ideal, Rotary.frame_reference,
    Dilated.frame, Dilated.frame_ideal, Dilated.frame_reference,
    Value.frame, Value.frame_ideal, Value.frame_reference,
    Latent.frame, Latent.frame_ideal, Latent.frame_reference,
    Merge.frame, Merge.frame_ideal, Merge.frame_reference,
    Out.frame, Out.frame_ideal, Out.frame_reference,
    Glu.frame, Glu.frame_ideal, Glu.frame_reference,
    Down.frame, Down.frame_ideal, Down.frame_reference,
    Mla.frame, Mla.frame_ideal, Mla.frame_ideal_finite, Mla.frame_reference, Mla.frame_reference_finite,
    Diff.frame, Diff.frame_ideal, Diff.frame_ideal_finite, Diff.frame_reference, Diff.frame_reference_finite,
    Norm.frame, Norm.frame_ideal, Norm.frame_reference,
    DiffSecond.frame, DiffSecond.frame_ideal, DiffSecond.frame_ideal_finite, DiffSecond.frame_reference, DiffSecond.frame_reference_finite,
    GatesSecond.frame, GatesSecond.frame_ideal, GatesSecond.frame_reference,
    RotarySecond.frame, RotarySecond.frame_ideal, RotarySecond.frame_reference,
    DilatedSecond.frame, DilatedSecond.frame_ideal, DilatedSecond.frame_reference,
    ValueSecond.frame, ValueSecond.frame_ideal, ValueSecond.frame_reference,
    LatentSecond.frame, LatentSecond.frame_ideal, LatentSecond.frame_reference,
    MergeSecond.frame, MergeSecond.frame_ideal, MergeSecond.frame_reference,
    OutSecond.frame, OutSecond.frame_ideal, OutSecond.frame_reference,
    GluSecond.frame, GluSecond.frame_ideal, GluSecond.frame_reference,
    DownSecond.frame, DownSecond.frame_ideal, DownSecond.frame_reference,
    trivial, Gates.algebraic,
    trivial, Rotary.algebraic,
    trivial, Dilated.algebraic,
    trivial, Value.algebraic,
    trivial, Latent.algebraic,
    trivial, Merge.algebraic,
    trivial, Out.algebraic,
    trivial, Glu.algebraic,
    trivial, Down.algebraic,
    trivial, Mla.algebraic,
    trivial, Diff.algebraic,
    trivial, Norm.algebraic,
    trivial, DiffSecond.algebraic,
    trivial, GatesSecond.algebraic,
    trivial, RotarySecond.algebraic,
    trivial, DilatedSecond.algebraic,
    trivial, ValueSecond.algebraic,
    trivial, LatentSecond.algebraic,
    trivial, MergeSecond.algebraic,
    trivial, OutSecond.algebraic,
    trivial, GluSecond.algebraic,
    trivial, DownSecond.algebraic⟩

end Cert.Proof

end
